-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryIdeal_entry_finite [hPre_entry_finite : Cert.Pre_entry_finite.Facts] (m : (ℓ : Loc Cert.EntryIdeal.nD Cert.EntryIdeal.τ Cert.EntryIdeal.sig) → Buf (Elt Ideal) ℓ) : Prop :=
  ∀ c : Dev Cert.EntryIdeal.nD,
    (Cert.Pre_entry_finite.fn (F := Ideal) (m ((c.tc : Thread Cert.EntryIdeal.nD Cert.EntryIdeal.τ).loc Cert.EntryIdeal.main_arg0)) (m ((c.tc : Thread Cert.EntryIdeal.nD Cert.EntryIdeal.τ).loc Cert.EntryIdeal.main_arg1)) (m ((c.tc : Thread Cert.EntryIdeal.nD Cert.EntryIdeal.τ).loc Cert.EntryIdeal.main_arg2)) (m ((c.tc : Thread Cert.EntryIdeal.nD Cert.EntryIdeal.τ).loc Cert.EntryIdeal.main_arg3))) = (fun _ => 1#1)

def Pre_EntryRefIdeal (m : (ℓ : Loc Cert.EntryRefIdeal.nD Cert.EntryRefIdeal.τ Cert.EntryRefIdeal.sig) → Buf (Elt Ideal) ℓ) : Prop :=
  True

def Pre_EntryRefIdeal_entry_finite [hPre_entry_finite : Cert.Pre_entry_finite.Facts] (m : (ℓ : Loc Cert.EntryRefIdeal.nD Cert.EntryRefIdeal.τ Cert.EntryRefIdeal.sig) → Buf (Elt Ideal) ℓ) : Prop :=
  ∀ c : Dev Cert.EntryRefIdeal.nD,
    (Cert.Pre_entry_finite.fn (F := Ideal) (m ((c.tc : Thread Cert.EntryRefIdeal.nD Cert.EntryRefIdeal.τ).loc Cert.EntryRefIdeal.main_arg0)) (m ((c.tc : Thread Cert.EntryRefIdeal.nD Cert.EntryRefIdeal.τ).loc Cert.EntryRefIdeal.main_arg1)) (m ((c.tc : Thread Cert.EntryRefIdeal.nD Cert.EntryRefIdeal.τ).loc Cert.EntryRefIdeal.main_arg2)) (m ((c.tc : Thread Cert.EntryRefIdeal.nD Cert.EntryRefIdeal.τ).loc Cert.EntryRefIdeal.main_arg3))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_sandwich_finite [hPre_sandwich_finite : Cert.Pre_sandwich_finite.Facts] (m : (ℓ : Loc Cert.MidIdeal.nD Cert.MidIdeal.τ Cert.MidIdeal.sig) → Buf (Elt Ideal) ℓ) : Prop :=
  ∀ c : Dev Cert.MidIdeal.nD,
    (Cert.Pre_sandwich_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_sandwich_finite [hPre_sandwich_finite : Cert.Pre_sandwich_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_sandwich_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5))) = (fun _ => 1#1)

def Pre_Below (m : (ℓ : Loc Cert.Below.nD Cert.Below.τ Cert.Below.sig) → Buf (Elt Bits) ℓ) : Prop :=
  True

def Pre_BelowIdeal (m : (ℓ : Loc Cert.BelowIdeal.nD Cert.BelowIdeal.τ Cert.BelowIdeal.sig) → Buf (Elt Ideal) ℓ) : Prop :=
  True

def Pre_BelowIdeal_sandwich_finite [hPre_sandwich_finite : Cert.Pre_sandwich_finite.Facts] (m : (ℓ : Loc Cert.BelowIdeal.nD Cert.BelowIdeal.τ Cert.BelowIdeal.sig) → Buf (Elt Ideal) ℓ) : Prop :=
  ∀ c : Dev Cert.BelowIdeal.nD,
    (Cert.Pre_sandwich_finite.fn (F := Ideal) (m ((c.tc : Thread Cert.BelowIdeal.nD Cert.BelowIdeal.τ).loc Cert.BelowIdeal.main_arg0)) (m ((c.tc : Thread Cert.BelowIdeal.nD Cert.BelowIdeal.τ).loc Cert.BelowIdeal.main_arg1)) (m ((c.tc : Thread Cert.BelowIdeal.nD Cert.BelowIdeal.τ).loc Cert.BelowIdeal.main_arg2)) (m ((c.tc : Thread Cert.BelowIdeal.nD Cert.BelowIdeal.τ).loc Cert.BelowIdeal.main_arg3)) (m ((c.tc : Thread Cert.BelowIdeal.nD Cert.BelowIdeal.τ).loc Cert.BelowIdeal.main_arg4)) (m ((c.tc : Thread Cert.BelowIdeal.nD Cert.BelowIdeal.τ).loc Cert.BelowIdeal.main_arg5))) = (fun _ => 1#1)

def Pre_BelowRefIdeal (m : (ℓ : Loc Cert.BelowRefIdeal.nD Cert.BelowRefIdeal.τ Cert.BelowRefIdeal.sig) → Buf (Elt Ideal) ℓ) : Prop :=
  True

def Pre_BelowRefIdeal_sandwich_finite [hPre_sandwich_finite : Cert.Pre_sandwich_finite.Facts] (m : (ℓ : Loc Cert.BelowRefIdeal.nD Cert.BelowRefIdeal.τ Cert.BelowRefIdeal.sig) → Buf (Elt Ideal) ℓ) : Prop :=
  ∀ c : Dev Cert.BelowRefIdeal.nD,
    (Cert.Pre_sandwich_finite.fn (F := Ideal) (m ((c.tc : Thread Cert.BelowRefIdeal.nD Cert.BelowRefIdeal.τ).loc Cert.BelowRefIdeal.main_arg0)) (m ((c.tc : Thread Cert.BelowRefIdeal.nD Cert.BelowRefIdeal.τ).loc Cert.BelowRefIdeal.main_arg1)) (m ((c.tc : Thread Cert.BelowRefIdeal.nD Cert.BelowRefIdeal.τ).loc Cert.BelowRefIdeal.main_arg2)) (m ((c.tc : Thread Cert.BelowRefIdeal.nD Cert.BelowRefIdeal.τ).loc Cert.BelowRefIdeal.main_arg3)) (m ((c.tc : Thread Cert.BelowRefIdeal.nD Cert.BelowRefIdeal.τ).loc Cert.BelowRefIdeal.main_arg4)) (m ((c.tc : Thread Cert.BelowRefIdeal.nD Cert.BelowRefIdeal.τ).loc Cert.BelowRefIdeal.main_arg5))) = (fun _ => 1#1)

def Pre_Fork (m : (ℓ : Loc Cert.Fork.nD Cert.Fork.τ Cert.Fork.sig) → Buf (Elt Bits) ℓ) : Prop :=
  True

def Pre_ForkIdeal (m : (ℓ : Loc Cert.ForkIdeal.nD Cert.ForkIdeal.τ Cert.ForkIdeal.sig) → Buf (Elt Ideal) ℓ) : Prop :=
  True

def Pre_ForkIdeal_fork_finite [hPre_fork_finite : Cert.Pre_fork_finite.Facts] (m : (ℓ : Loc Cert.ForkIdeal.nD Cert.ForkIdeal.τ Cert.ForkIdeal.sig) → Buf (Elt Ideal) ℓ) : Prop :=
  ∀ c : Dev Cert.ForkIdeal.nD,
    (Cert.Pre_fork_finite.fn (F := Ideal) (m ((c.tc : Thread Cert.ForkIdeal.nD Cert.ForkIdeal.τ).loc Cert.ForkIdeal.main_arg0)) (m ((c.tc : Thread Cert.ForkIdeal.nD Cert.ForkIdeal.τ).loc Cert.ForkIdeal.main_arg1)) (m ((c.tc : Thread Cert.ForkIdeal.nD Cert.ForkIdeal.τ).loc Cert.ForkIdeal.main_arg2)) (m ((c.tc : Thread Cert.ForkIdeal.nD Cert.ForkIdeal.τ).loc Cert.ForkIdeal.main_arg3)) (m ((c.tc : Thread Cert.ForkIdeal.nD Cert.ForkIdeal.τ).loc Cert.ForkIdeal.main_arg4)) (m ((c.tc : Thread Cert.ForkIdeal.nD Cert.ForkIdeal.τ).loc Cert.ForkIdeal.main_arg5)) (m ((c.tc : Thread Cert.ForkIdeal.nD Cert.ForkIdeal.τ).loc Cert.ForkIdeal.main_arg6)) (m ((c.tc : Thread Cert.ForkIdeal.nD Cert.ForkIdeal.τ).loc Cert.ForkIdeal.main_arg7))) = (fun _ => 1#1)

def Pre_ForkRefIdeal (m : (ℓ : Loc Cert.ForkRefIdeal.nD Cert.ForkRefIdeal.τ Cert.ForkRefIdeal.sig) → Buf (Elt Ideal) ℓ) : Prop :=
  True

def Pre_ForkRefIdeal_fork_finite [hPre_fork_finite : Cert.Pre_fork_finite.Facts] (m : (ℓ : Loc Cert.ForkRefIdeal.nD Cert.ForkRefIdeal.τ Cert.ForkRefIdeal.sig) → Buf (Elt Ideal) ℓ) : Prop :=
  ∀ c : Dev Cert.ForkRefIdeal.nD,
    (Cert.Pre_fork_finite.fn (F := Ideal) (m ((c.tc : Thread Cert.ForkRefIdeal.nD Cert.ForkRefIdeal.τ).loc Cert.ForkRefIdeal.main_arg0)) (m ((c.tc : Thread Cert.ForkRefIdeal.nD Cert.ForkRefIdeal.τ).loc Cert.ForkRefIdeal.main_arg1)) (m ((c.tc : Thread Cert.ForkRefIdeal.nD Cert.ForkRefIdeal.τ).loc Cert.ForkRefIdeal.main_arg2)) (m ((c.tc : Thread Cert.ForkRefIdeal.nD Cert.ForkRefIdeal.τ).loc Cert.ForkRefIdeal.main_arg3)) (m ((c.tc : Thread Cert.ForkRefIdeal.nD Cert.ForkRefIdeal.τ).loc Cert.ForkRefIdeal.main_arg4)) (m ((c.tc : Thread Cert.ForkRefIdeal.nD Cert.ForkRefIdeal.τ).loc Cert.ForkRefIdeal.main_arg5)) (m ((c.tc : Thread Cert.ForkRefIdeal.nD Cert.ForkRefIdeal.τ).loc Cert.ForkRefIdeal.main_arg6)) (m ((c.tc : Thread Cert.ForkRefIdeal.nD Cert.ForkRefIdeal.τ).loc Cert.ForkRefIdeal.main_arg7))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1))) = (fun _ => 1#1)

def Pre_Wdn (m : (ℓ : Loc Cert.Wdn.nD Cert.Wdn.τ Cert.Wdn.sig) → Buf (Elt Bits) ℓ) : Prop :=
  True

def Pre_WdnIdeal (m : (ℓ : Loc Cert.WdnIdeal.nD Cert.WdnIdeal.τ Cert.WdnIdeal.sig) → Buf (Elt Ideal) ℓ) : Prop :=
  True

def Pre_WdnRefIdeal (m : (ℓ : Loc Cert.WdnRefIdeal.nD Cert.WdnRefIdeal.τ Cert.WdnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ r.2.sem = fun _ => 0)

def quiescent_EntryIdeal_pre_entry_finite [hEntryIdeal : Cert.EntryIdeal.Facts] [hPre_entry_finite : Cert.Pre_entry_finite.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal_entry_finite m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2)
      ∧ r.2.mem ((c.tc : Thread Cert.EntryRefIdeal.nD Cert.EntryRefIdeal.τ).loc Cert.EntryRefIdeal.main_arg3) = m ((c.tc : Thread Cert.EntryRefIdeal.nD Cert.EntryRefIdeal.τ).loc Cert.EntryRefIdeal.main_arg3))
      ∧ r.2.sem = fun _ => 0)

def quiescent_EntryRefIdeal_pre_entry_finite [hEntryRefIdeal : Cert.EntryRefIdeal.Facts] [hPre_entry_finite : Cert.Pre_entry_finite.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal_entry_finite m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2)
      ∧ r.2.mem ((c.tc : Thread Cert.EntryRefIdeal.nD Cert.EntryRefIdeal.τ).loc Cert.EntryRefIdeal.main_arg3) = m ((c.tc : Thread Cert.EntryRefIdeal.nD Cert.EntryRefIdeal.τ).loc Cert.EntryRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidIdeal_pre_sandwich_finite [hMidIdeal : Cert.MidIdeal.Facts] [hPre_sandwich_finite : Cert.Pre_sandwich_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_sandwich_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_MidRefIdeal_pre_sandwich_finite [hMidRefIdeal : Cert.MidRefIdeal.Facts] [hPre_sandwich_finite : Cert.Pre_sandwich_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_sandwich_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Below [hBelow : Cert.Below.Facts] : Prop :=
  ∀ (m : (ℓ : Loc Cert.Below.nD Cert.Below.τ Cert.Below.sig) → Buf (Elt Bits) ℓ) (g : Dev Cert.Below.nD → PrngReg), Pre_Below m →
    θ_run (Cert.Below.defs (F := Bits)) (onTc (τ := Cert.Below.τ) (Cert.Below.main (F := Bits))) ⟨m, fun _ => 0, g⟩ (fun r => (∀ c : Dev Cert.Below.nD,
      r.2.mem ((c.tc : Thread Cert.Below.nD Cert.Below.τ).loc Cert.Below.main_arg0) = m ((c.tc : Thread Cert.Below.nD Cert.Below.τ).loc Cert.Below.main_arg0)
      ∧ r.2.mem ((c.tc : Thread Cert.Below.nD Cert.Below.τ).loc Cert.Below.main_arg1) = m ((c.tc : Thread Cert.Below.nD Cert.Below.τ).loc Cert.Below.main_arg1)
      ∧ r.2.mem ((c.tc : Thread Cert.Below.nD Cert.Below.τ).loc Cert.Below.main_arg2) = m ((c.tc : Thread Cert.Below.nD Cert.Below.τ).loc Cert.Below.main_arg2)
      ∧ r.2.mem ((c.tc : Thread Cert.Below.nD Cert.Below.τ).loc Cert.Below.main_arg3) = m ((c.tc : Thread Cert.Below.nD Cert.Below.τ).loc Cert.Below.main_arg3)
      ∧ r.2.mem ((c.tc : Thread Cert.Below.nD Cert.Below.τ).loc Cert.Below.main_arg4) = m ((c.tc : Thread Cert.Below.nD Cert.Below.τ).loc Cert.Below.main_arg4)
      ∧ r.2.mem ((c.tc : Thread Cert.Below.nD Cert.Below.τ).loc Cert.Below.main_arg5) = m ((c.tc : Thread Cert.Below.nD Cert.Below.τ).loc Cert.Below.main_arg5))
      ∧ r.2.sem = fun _ => 0)

def quiescent_BelowIdeal [hBelowIdeal : Cert.BelowIdeal.Facts] : Prop :=
  ∀ (m : (ℓ : Loc Cert.BelowIdeal.nD Cert.BelowIdeal.τ Cert.BelowIdeal.sig) → Buf (Elt Ideal) ℓ) (g : Dev Cert.BelowIdeal.nD → PrngReg), Pre_BelowIdeal m →
    θ_run (Cert.BelowIdeal.defs (F := Ideal)) (onTc (τ := Cert.BelowIdeal.τ) (Cert.BelowIdeal.main (F := Ideal))) ⟨m, fun _ => 0, g⟩ (fun r => (∀ c : Dev Cert.BelowIdeal.nD,
      r.2.mem ((c.tc : Thread Cert.BelowIdeal.nD Cert.BelowIdeal.τ).loc Cert.BelowIdeal.main_arg0) = m ((c.tc : Thread Cert.BelowIdeal.nD Cert.BelowIdeal.τ).loc Cert.BelowIdeal.main_arg0)
      ∧ r.2.mem ((c.tc : Thread Cert.BelowIdeal.nD Cert.BelowIdeal.τ).loc Cert.BelowIdeal.main_arg1) = m ((c.tc : Thread Cert.BelowIdeal.nD Cert.BelowIdeal.τ).loc Cert.BelowIdeal.main_arg1)
      ∧ r.2.mem ((c.tc : Thread Cert.BelowIdeal.nD Cert.BelowIdeal.τ).loc Cert.BelowIdeal.main_arg2) = m ((c.tc : Thread Cert.BelowIdeal.nD Cert.BelowIdeal.τ).loc Cert.BelowIdeal.main_arg2)
      ∧ r.2.mem ((c.tc : Thread Cert.BelowIdeal.nD Cert.BelowIdeal.τ).loc Cert.BelowIdeal.main_arg3) = m ((c.tc : Thread Cert.BelowIdeal.nD Cert.BelowIdeal.τ).loc Cert.BelowIdeal.main_arg3)
      ∧ r.2.mem ((c.tc : Thread Cert.BelowIdeal.nD Cert.BelowIdeal.τ).loc Cert.BelowIdeal.main_arg4) = m ((c.tc : Thread Cert.BelowIdeal.nD Cert.BelowIdeal.τ).loc Cert.BelowIdeal.main_arg4)
      ∧ r.2.mem ((c.tc : Thread Cert.BelowIdeal.nD Cert.BelowIdeal.τ).loc Cert.BelowIdeal.main_arg5) = m ((c.tc : Thread Cert.BelowIdeal.nD Cert.BelowIdeal.τ).loc Cert.BelowIdeal.main_arg5))
      ∧ r.2.sem = fun _ => 0)

def quiescent_BelowIdeal_pre_sandwich_finite [hBelowIdeal : Cert.BelowIdeal.Facts] [hPre_sandwich_finite : Cert.Pre_sandwich_finite.Facts] : Prop :=
  ∀ (m : (ℓ : Loc Cert.BelowIdeal.nD Cert.BelowIdeal.τ Cert.BelowIdeal.sig) → Buf (Elt Ideal) ℓ) (g : Dev Cert.BelowIdeal.nD → PrngReg), Pre_BelowIdeal_sandwich_finite m →
    θ_run (Cert.BelowIdeal.defs (F := Ideal)) (onTc (τ := Cert.BelowIdeal.τ) (Cert.BelowIdeal.main (F := Ideal))) ⟨m, fun _ => 0, g⟩ (fun r => (∀ c : Dev Cert.BelowIdeal.nD,
      r.2.mem ((c.tc : Thread Cert.BelowIdeal.nD Cert.BelowIdeal.τ).loc Cert.BelowIdeal.main_arg0) = m ((c.tc : Thread Cert.BelowIdeal.nD Cert.BelowIdeal.τ).loc Cert.BelowIdeal.main_arg0)
      ∧ r.2.mem ((c.tc : Thread Cert.BelowIdeal.nD Cert.BelowIdeal.τ).loc Cert.BelowIdeal.main_arg1) = m ((c.tc : Thread Cert.BelowIdeal.nD Cert.BelowIdeal.τ).loc Cert.BelowIdeal.main_arg1)
      ∧ r.2.mem ((c.tc : Thread Cert.BelowIdeal.nD Cert.BelowIdeal.τ).loc Cert.BelowIdeal.main_arg2) = m ((c.tc : Thread Cert.BelowIdeal.nD Cert.BelowIdeal.τ).loc Cert.BelowIdeal.main_arg2)
      ∧ r.2.mem ((c.tc : Thread Cert.BelowIdeal.nD Cert.BelowIdeal.τ).loc Cert.BelowIdeal.main_arg3) = m ((c.tc : Thread Cert.BelowIdeal.nD Cert.BelowIdeal.τ).loc Cert.BelowIdeal.main_arg3)
      ∧ r.2.mem ((c.tc : Thread Cert.BelowIdeal.nD Cert.BelowIdeal.τ).loc Cert.BelowIdeal.main_arg4) = m ((c.tc : Thread Cert.BelowIdeal.nD Cert.BelowIdeal.τ).loc Cert.BelowIdeal.main_arg4)
      ∧ r.2.mem ((c.tc : Thread Cert.BelowIdeal.nD Cert.BelowIdeal.τ).loc Cert.BelowIdeal.main_arg5) = m ((c.tc : Thread Cert.BelowIdeal.nD Cert.BelowIdeal.τ).loc Cert.BelowIdeal.main_arg5))
      ∧ r.2.sem = fun _ => 0)

def quiescent_BelowRefIdeal [hBelowRefIdeal : Cert.BelowRefIdeal.Facts] : Prop :=
  ∀ (m : (ℓ : Loc Cert.BelowRefIdeal.nD Cert.BelowRefIdeal.τ Cert.BelowRefIdeal.sig) → Buf (Elt Ideal) ℓ) (g : Dev Cert.BelowRefIdeal.nD → PrngReg), Pre_BelowRefIdeal m →
    θ_run (Cert.BelowRefIdeal.defs (F := Ideal)) (onTc (τ := Cert.BelowRefIdeal.τ) (Cert.BelowRefIdeal.main (F := Ideal))) ⟨m, fun _ => 0, g⟩ (fun r => (∀ c : Dev Cert.BelowRefIdeal.nD,
      r.2.mem ((c.tc : Thread Cert.BelowRefIdeal.nD Cert.BelowRefIdeal.τ).loc Cert.BelowRefIdeal.main_arg0) = m ((c.tc : Thread Cert.BelowRefIdeal.nD Cert.BelowRefIdeal.τ).loc Cert.BelowRefIdeal.main_arg0)
      ∧ r.2.mem ((c.tc : Thread Cert.BelowRefIdeal.nD Cert.BelowRefIdeal.τ).loc Cert.BelowRefIdeal.main_arg1) = m ((c.tc : Thread Cert.BelowRefIdeal.nD Cert.BelowRefIdeal.τ).loc Cert.BelowRefIdeal.main_arg1)
      ∧ r.2.mem ((c.tc : Thread Cert.BelowRefIdeal.nD Cert.BelowRefIdeal.τ).loc Cert.BelowRefIdeal.main_arg2) = m ((c.tc : Thread Cert.BelowRefIdeal.nD Cert.BelowRefIdeal.τ).loc Cert.BelowRefIdeal.main_arg2)
      ∧ r.2.mem ((c.tc : Thread Cert.BelowRefIdeal.nD Cert.BelowRefIdeal.τ).loc Cert.BelowRefIdeal.main_arg3) = m ((c.tc : Thread Cert.BelowRefIdeal.nD Cert.BelowRefIdeal.τ).loc Cert.BelowRefIdeal.main_arg3)
      ∧ r.2.mem ((c.tc : Thread Cert.BelowRefIdeal.nD Cert.BelowRefIdeal.τ).loc Cert.BelowRefIdeal.main_arg4) = m ((c.tc : Thread Cert.BelowRefIdeal.nD Cert.BelowRefIdeal.τ).loc Cert.BelowRefIdeal.main_arg4)
      ∧ r.2.mem ((c.tc : Thread Cert.BelowRefIdeal.nD Cert.BelowRefIdeal.τ).loc Cert.BelowRefIdeal.main_arg5) = m ((c.tc : Thread Cert.BelowRefIdeal.nD Cert.BelowRefIdeal.τ).loc Cert.BelowRefIdeal.main_arg5))
      ∧ r.2.sem = fun _ => 0)

def quiescent_BelowRefIdeal_pre_sandwich_finite [hBelowRefIdeal : Cert.BelowRefIdeal.Facts] [hPre_sandwich_finite : Cert.Pre_sandwich_finite.Facts] : Prop :=
  ∀ (m : (ℓ : Loc Cert.BelowRefIdeal.nD Cert.BelowRefIdeal.τ Cert.BelowRefIdeal.sig) → Buf (Elt Ideal) ℓ) (g : Dev Cert.BelowRefIdeal.nD → PrngReg), Pre_BelowRefIdeal_sandwich_finite m →
    θ_run (Cert.BelowRefIdeal.defs (F := Ideal)) (onTc (τ := Cert.BelowRefIdeal.τ) (Cert.BelowRefIdeal.main (F := Ideal))) ⟨m, fun _ => 0, g⟩ (fun r => (∀ c : Dev Cert.BelowRefIdeal.nD,
      r.2.mem ((c.tc : Thread Cert.BelowRefIdeal.nD Cert.BelowRefIdeal.τ).loc Cert.BelowRefIdeal.main_arg0) = m ((c.tc : Thread Cert.BelowRefIdeal.nD Cert.BelowRefIdeal.τ).loc Cert.BelowRefIdeal.main_arg0)
      ∧ r.2.mem ((c.tc : Thread Cert.BelowRefIdeal.nD Cert.BelowRefIdeal.τ).loc Cert.BelowRefIdeal.main_arg1) = m ((c.tc : Thread Cert.BelowRefIdeal.nD Cert.BelowRefIdeal.τ).loc Cert.BelowRefIdeal.main_arg1)
      ∧ r.2.mem ((c.tc : Thread Cert.BelowRefIdeal.nD Cert.BelowRefIdeal.τ).loc Cert.BelowRefIdeal.main_arg2) = m ((c.tc : Thread Cert.BelowRefIdeal.nD Cert.BelowRefIdeal.τ).loc Cert.BelowRefIdeal.main_arg2)
      ∧ r.2.mem ((c.tc : Thread Cert.BelowRefIdeal.nD Cert.BelowRefIdeal.τ).loc Cert.BelowRefIdeal.main_arg3) = m ((c.tc : Thread Cert.BelowRefIdeal.nD Cert.BelowRefIdeal.τ).loc Cert.BelowRefIdeal.main_arg3)
      ∧ r.2.mem ((c.tc : Thread Cert.BelowRefIdeal.nD Cert.BelowRefIdeal.τ).loc Cert.BelowRefIdeal.main_arg4) = m ((c.tc : Thread Cert.BelowRefIdeal.nD Cert.BelowRefIdeal.τ).loc Cert.BelowRefIdeal.main_arg4)
      ∧ r.2.mem ((c.tc : Thread Cert.BelowRefIdeal.nD Cert.BelowRefIdeal.τ).loc Cert.BelowRefIdeal.main_arg5) = m ((c.tc : Thread Cert.BelowRefIdeal.nD Cert.BelowRefIdeal.τ).loc Cert.BelowRefIdeal.main_arg5))
      ∧ r.2.sem = fun _ => 0)

def quiescent_Fork [hFork : Cert.Fork.Facts] : Prop :=
  ∀ (m : (ℓ : Loc Cert.Fork.nD Cert.Fork.τ Cert.Fork.sig) → Buf (Elt Bits) ℓ) (g : Dev Cert.Fork.nD → PrngReg), Pre_Fork m →
    θ_run (Cert.Fork.defs (F := Bits)) (onTc (τ := Cert.Fork.τ) (Cert.Fork.main (F := Bits))) ⟨m, fun _ => 0, g⟩ (fun r => (∀ c : Dev Cert.Fork.nD,
      r.2.mem ((c.tc : Thread Cert.Fork.nD Cert.Fork.τ).loc Cert.Fork.main_arg0) = m ((c.tc : Thread Cert.Fork.nD Cert.Fork.τ).loc Cert.Fork.main_arg0)
      ∧ r.2.mem ((c.tc : Thread Cert.Fork.nD Cert.Fork.τ).loc Cert.Fork.main_arg1) = m ((c.tc : Thread Cert.Fork.nD Cert.Fork.τ).loc Cert.Fork.main_arg1)
      ∧ r.2.mem ((c.tc : Thread Cert.Fork.nD Cert.Fork.τ).loc Cert.Fork.main_arg2) = m ((c.tc : Thread Cert.Fork.nD Cert.Fork.τ).loc Cert.Fork.main_arg2)
      ∧ r.2.mem ((c.tc : Thread Cert.Fork.nD Cert.Fork.τ).loc Cert.Fork.main_arg3) = m ((c.tc : Thread Cert.Fork.nD Cert.Fork.τ).loc Cert.Fork.main_arg3)
      ∧ r.2.mem ((c.tc : Thread Cert.Fork.nD Cert.Fork.τ).loc Cert.Fork.main_arg4) = m ((c.tc : Thread Cert.Fork.nD Cert.Fork.τ).loc Cert.Fork.main_arg4)
      ∧ r.2.mem ((c.tc : Thread Cert.Fork.nD Cert.Fork.τ).loc Cert.Fork.main_arg5) = m ((c.tc : Thread Cert.Fork.nD Cert.Fork.τ).loc Cert.Fork.main_arg5)
      ∧ r.2.mem ((c.tc : Thread Cert.Fork.nD Cert.Fork.τ).loc Cert.Fork.main_arg6) = m ((c.tc : Thread Cert.Fork.nD Cert.Fork.τ).loc Cert.Fork.main_arg6)
      ∧ r.2.mem ((c.tc : Thread Cert.Fork.nD Cert.Fork.τ).loc Cert.Fork.main_arg7) = m ((c.tc : Thread Cert.Fork.nD Cert.Fork.τ).loc Cert.Fork.main_arg7))
      ∧ r.2.sem = fun _ => 0)

def quiescent_ForkIdeal [hForkIdeal : Cert.ForkIdeal.Facts] : Prop :=
  ∀ (m : (ℓ : Loc Cert.ForkIdeal.nD Cert.ForkIdeal.τ Cert.ForkIdeal.sig) → Buf (Elt Ideal) ℓ) (g : Dev Cert.ForkIdeal.nD → PrngReg), Pre_ForkIdeal m →
    θ_run (Cert.ForkIdeal.defs (F := Ideal)) (onTc (τ := Cert.ForkIdeal.τ) (Cert.ForkIdeal.main (F := Ideal))) ⟨m, fun _ => 0, g⟩ (fun r => (∀ c : Dev Cert.ForkIdeal.nD,
      r.2.mem ((c.tc : Thread Cert.ForkIdeal.nD Cert.ForkIdeal.τ).loc Cert.ForkIdeal.main_arg0) = m ((c.tc : Thread Cert.ForkIdeal.nD Cert.ForkIdeal.τ).loc Cert.ForkIdeal.main_arg0)
      ∧ r.2.mem ((c.tc : Thread Cert.ForkIdeal.nD Cert.ForkIdeal.τ).loc Cert.ForkIdeal.main_arg1) = m ((c.tc : Thread Cert.ForkIdeal.nD Cert.ForkIdeal.τ).loc Cert.ForkIdeal.main_arg1)
      ∧ r.2.mem ((c.tc : Thread Cert.ForkIdeal.nD Cert.ForkIdeal.τ).loc Cert.ForkIdeal.main_arg2) = m ((c.tc : Thread Cert.ForkIdeal.nD Cert.ForkIdeal.τ).loc Cert.ForkIdeal.main_arg2)
      ∧ r.2.mem ((c.tc : Thread Cert.ForkIdeal.nD Cert.ForkIdeal.τ).loc Cert.ForkIdeal.main_arg3) = m ((c.tc : Thread Cert.ForkIdeal.nD Cert.ForkIdeal.τ).loc Cert.ForkIdeal.main_arg3)
      ∧ r.2.mem ((c.tc : Thread Cert.ForkIdeal.nD Cert.ForkIdeal.τ).loc Cert.ForkIdeal.main_arg4) = m ((c.tc : Thread Cert.ForkIdeal.nD Cert.ForkIdeal.τ).loc Cert.ForkIdeal.main_arg4)
      ∧ r.2.mem ((c.tc : Thread Cert.ForkIdeal.nD Cert.ForkIdeal.τ).loc Cert.ForkIdeal.main_arg5) = m ((c.tc : Thread Cert.ForkIdeal.nD Cert.ForkIdeal.τ).loc Cert.ForkIdeal.main_arg5)
      ∧ r.2.mem ((c.tc : Thread Cert.ForkIdeal.nD Cert.ForkIdeal.τ).loc Cert.ForkIdeal.main_arg6) = m ((c.tc : Thread Cert.ForkIdeal.nD Cert.ForkIdeal.τ).loc Cert.ForkIdeal.main_arg6)
      ∧ r.2.mem ((c.tc : Thread Cert.ForkIdeal.nD Cert.ForkIdeal.τ).loc Cert.ForkIdeal.main_arg7) = m ((c.tc : Thread Cert.ForkIdeal.nD Cert.ForkIdeal.τ).loc Cert.ForkIdeal.main_arg7))
      ∧ r.2.sem = fun _ => 0)

def quiescent_ForkIdeal_pre_fork_finite [hForkIdeal : Cert.ForkIdeal.Facts] [hPre_fork_finite : Cert.Pre_fork_finite.Facts] : Prop :=
  ∀ (m : (ℓ : Loc Cert.ForkIdeal.nD Cert.ForkIdeal.τ Cert.ForkIdeal.sig) → Buf (Elt Ideal) ℓ) (g : Dev Cert.ForkIdeal.nD → PrngReg), Pre_ForkIdeal_fork_finite m →
    θ_run (Cert.ForkIdeal.defs (F := Ideal)) (onTc (τ := Cert.ForkIdeal.τ) (Cert.ForkIdeal.main (F := Ideal))) ⟨m, fun _ => 0, g⟩ (fun r => (∀ c : Dev Cert.ForkIdeal.nD,
      r.2.mem ((c.tc : Thread Cert.ForkIdeal.nD Cert.ForkIdeal.τ).loc Cert.ForkIdeal.main_arg0) = m ((c.tc : Thread Cert.ForkIdeal.nD Cert.ForkIdeal.τ).loc Cert.ForkIdeal.main_arg0)
      ∧ r.2.mem ((c.tc : Thread Cert.ForkIdeal.nD Cert.ForkIdeal.τ).loc Cert.ForkIdeal.main_arg1) = m ((c.tc : Thread Cert.ForkIdeal.nD Cert.ForkIdeal.τ).loc Cert.ForkIdeal.main_arg1)
      ∧ r.2.mem ((c.tc : Thread Cert.ForkIdeal.nD Cert.ForkIdeal.τ).loc Cert.ForkIdeal.main_arg2) = m ((c.tc : Thread Cert.ForkIdeal.nD Cert.ForkIdeal.τ).loc Cert.ForkIdeal.main_arg2)
      ∧ r.2.mem ((c.tc : Thread Cert.ForkIdeal.nD Cert.ForkIdeal.τ).loc Cert.ForkIdeal.main_arg3) = m ((c.tc : Thread Cert.ForkIdeal.nD Cert.ForkIdeal.τ).loc Cert.ForkIdeal.main_arg3)
      ∧ r.2.mem ((c.tc : Thread Cert.ForkIdeal.nD Cert.ForkIdeal.τ).loc Cert.ForkIdeal.main_arg4) = m ((c.tc : Thread Cert.ForkIdeal.nD Cert.ForkIdeal.τ).loc Cert.ForkIdeal.main_arg4)
      ∧ r.2.mem ((c.tc : Thread Cert.ForkIdeal.nD Cert.ForkIdeal.τ).loc Cert.ForkIdeal.main_arg5) = m ((c.tc : Thread Cert.ForkIdeal.nD Cert.ForkIdeal.τ).loc Cert.ForkIdeal.main_arg5)
      ∧ r.2.mem ((c.tc : Thread Cert.ForkIdeal.nD Cert.ForkIdeal.τ).loc Cert.ForkIdeal.main_arg6) = m ((c.tc : Thread Cert.ForkIdeal.nD Cert.ForkIdeal.τ).loc Cert.ForkIdeal.main_arg6)
      ∧ r.2.mem ((c.tc : Thread Cert.ForkIdeal.nD Cert.ForkIdeal.τ).loc Cert.ForkIdeal.main_arg7) = m ((c.tc : Thread Cert.ForkIdeal.nD Cert.ForkIdeal.τ).loc Cert.ForkIdeal.main_arg7))
      ∧ r.2.sem = fun _ => 0)

def quiescent_ForkRefIdeal [hForkRefIdeal : Cert.ForkRefIdeal.Facts] : Prop :=
  ∀ (m : (ℓ : Loc Cert.ForkRefIdeal.nD Cert.ForkRefIdeal.τ Cert.ForkRefIdeal.sig) → Buf (Elt Ideal) ℓ) (g : Dev Cert.ForkRefIdeal.nD → PrngReg), Pre_ForkRefIdeal m →
    θ_run (Cert.ForkRefIdeal.defs (F := Ideal)) (onTc (τ := Cert.ForkRefIdeal.τ) (Cert.ForkRefIdeal.main (F := Ideal))) ⟨m, fun _ => 0, g⟩ (fun r => (∀ c : Dev Cert.ForkRefIdeal.nD,
      r.2.mem ((c.tc : Thread Cert.ForkRefIdeal.nD Cert.ForkRefIdeal.τ).loc Cert.ForkRefIdeal.main_arg0) = m ((c.tc : Thread Cert.ForkRefIdeal.nD Cert.ForkRefIdeal.τ).loc Cert.ForkRefIdeal.main_arg0)
      ∧ r.2.mem ((c.tc : Thread Cert.ForkRefIdeal.nD Cert.ForkRefIdeal.τ).loc Cert.ForkRefIdeal.main_arg1) = m ((c.tc : Thread Cert.ForkRefIdeal.nD Cert.ForkRefIdeal.τ).loc Cert.ForkRefIdeal.main_arg1)
      ∧ r.2.mem ((c.tc : Thread Cert.ForkRefIdeal.nD Cert.ForkRefIdeal.τ).loc Cert.ForkRefIdeal.main_arg2) = m ((c.tc : Thread Cert.ForkRefIdeal.nD Cert.ForkRefIdeal.τ).loc Cert.ForkRefIdeal.main_arg2)
      ∧ r.2.mem ((c.tc : Thread Cert.ForkRefIdeal.nD Cert.ForkRefIdeal.τ).loc Cert.ForkRefIdeal.main_arg3) = m ((c.tc : Thread Cert.ForkRefIdeal.nD Cert.ForkRefIdeal.τ).loc Cert.ForkRefIdeal.main_arg3)
      ∧ r.2.mem ((c.tc : Thread Cert.ForkRefIdeal.nD Cert.ForkRefIdeal.τ).loc Cert.ForkRefIdeal.main_arg4) = m ((c.tc : Thread Cert.ForkRefIdeal.nD Cert.ForkRefIdeal.τ).loc Cert.ForkRefIdeal.main_arg4)
      ∧ r.2.mem ((c.tc : Thread Cert.ForkRefIdeal.nD Cert.ForkRefIdeal.τ).loc Cert.ForkRefIdeal.main_arg5) = m ((c.tc : Thread Cert.ForkRefIdeal.nD Cert.ForkRefIdeal.τ).loc Cert.ForkRefIdeal.main_arg5)
      ∧ r.2.mem ((c.tc : Thread Cert.ForkRefIdeal.nD Cert.ForkRefIdeal.τ).loc Cert.ForkRefIdeal.main_arg6) = m ((c.tc : Thread Cert.ForkRefIdeal.nD Cert.ForkRefIdeal.τ).loc Cert.ForkRefIdeal.main_arg6)
      ∧ r.2.mem ((c.tc : Thread Cert.ForkRefIdeal.nD Cert.ForkRefIdeal.τ).loc Cert.ForkRefIdeal.main_arg7) = m ((c.tc : Thread Cert.ForkRefIdeal.nD Cert.ForkRefIdeal.τ).loc Cert.ForkRefIdeal.main_arg7))
      ∧ r.2.sem = fun _ => 0)

def quiescent_ForkRefIdeal_pre_fork_finite [hForkRefIdeal : Cert.ForkRefIdeal.Facts] [hPre_fork_finite : Cert.Pre_fork_finite.Facts] : Prop :=
  ∀ (m : (ℓ : Loc Cert.ForkRefIdeal.nD Cert.ForkRefIdeal.τ Cert.ForkRefIdeal.sig) → Buf (Elt Ideal) ℓ) (g : Dev Cert.ForkRefIdeal.nD → PrngReg), Pre_ForkRefIdeal_fork_finite m →
    θ_run (Cert.ForkRefIdeal.defs (F := Ideal)) (onTc (τ := Cert.ForkRefIdeal.τ) (Cert.ForkRefIdeal.main (F := Ideal))) ⟨m, fun _ => 0, g⟩ (fun r => (∀ c : Dev Cert.ForkRefIdeal.nD,
      r.2.mem ((c.tc : Thread Cert.ForkRefIdeal.nD Cert.ForkRefIdeal.τ).loc Cert.ForkRefIdeal.main_arg0) = m ((c.tc : Thread Cert.ForkRefIdeal.nD Cert.ForkRefIdeal.τ).loc Cert.ForkRefIdeal.main_arg0)
      ∧ r.2.mem ((c.tc : Thread Cert.ForkRefIdeal.nD Cert.ForkRefIdeal.τ).loc Cert.ForkRefIdeal.main_arg1) = m ((c.tc : Thread Cert.ForkRefIdeal.nD Cert.ForkRefIdeal.τ).loc Cert.ForkRefIdeal.main_arg1)
      ∧ r.2.mem ((c.tc : Thread Cert.ForkRefIdeal.nD Cert.ForkRefIdeal.τ).loc Cert.ForkRefIdeal.main_arg2) = m ((c.tc : Thread Cert.ForkRefIdeal.nD Cert.ForkRefIdeal.τ).loc Cert.ForkRefIdeal.main_arg2)
      ∧ r.2.mem ((c.tc : Thread Cert.ForkRefIdeal.nD Cert.ForkRefIdeal.τ).loc Cert.ForkRefIdeal.main_arg3) = m ((c.tc : Thread Cert.ForkRefIdeal.nD Cert.ForkRefIdeal.τ).loc Cert.ForkRefIdeal.main_arg3)
      ∧ r.2.mem ((c.tc : Thread Cert.ForkRefIdeal.nD Cert.ForkRefIdeal.τ).loc Cert.ForkRefIdeal.main_arg4) = m ((c.tc : Thread Cert.ForkRefIdeal.nD Cert.ForkRefIdeal.τ).loc Cert.ForkRefIdeal.main_arg4)
      ∧ r.2.mem ((c.tc : Thread Cert.ForkRefIdeal.nD Cert.ForkRefIdeal.τ).loc Cert.ForkRefIdeal.main_arg5) = m ((c.tc : Thread Cert.ForkRefIdeal.nD Cert.ForkRefIdeal.τ).loc Cert.ForkRefIdeal.main_arg5)
      ∧ r.2.mem ((c.tc : Thread Cert.ForkRefIdeal.nD Cert.ForkRefIdeal.τ).loc Cert.ForkRefIdeal.main_arg6) = m ((c.tc : Thread Cert.ForkRefIdeal.nD Cert.ForkRefIdeal.τ).loc Cert.ForkRefIdeal.main_arg6)
      ∧ r.2.mem ((c.tc : Thread Cert.ForkRefIdeal.nD Cert.ForkRefIdeal.τ).loc Cert.ForkRefIdeal.main_arg7) = m ((c.tc : Thread Cert.ForkRefIdeal.nD Cert.ForkRefIdeal.τ).loc Cert.ForkRefIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_Wdn [hWdn : Cert.Wdn.Facts] : Prop :=
  ∀ (m : (ℓ : Loc Cert.Wdn.nD Cert.Wdn.τ Cert.Wdn.sig) → Buf (Elt Bits) ℓ) (g : Dev Cert.Wdn.nD → PrngReg), Pre_Wdn m →
    θ_run (Cert.Wdn.defs (F := Bits)) (onTc (τ := Cert.Wdn.τ) (Cert.Wdn.main (F := Bits))) ⟨m, fun _ => 0, g⟩ (fun r => (∀ c : Dev Cert.Wdn.nD,
      r.2.mem ((c.tc : Thread Cert.Wdn.nD Cert.Wdn.τ).loc Cert.Wdn.main_arg0) = m ((c.tc : Thread Cert.Wdn.nD Cert.Wdn.τ).loc Cert.Wdn.main_arg0)
      ∧ r.2.mem ((c.tc : Thread Cert.Wdn.nD Cert.Wdn.τ).loc Cert.Wdn.main_arg1) = m ((c.tc : Thread Cert.Wdn.nD Cert.Wdn.τ).loc Cert.Wdn.main_arg1))
      ∧ r.2.sem = fun _ => 0)

def quiescent_WdnIdeal [hWdnIdeal : Cert.WdnIdeal.Facts] : Prop :=
  ∀ (m : (ℓ : Loc Cert.WdnIdeal.nD Cert.WdnIdeal.τ Cert.WdnIdeal.sig) → Buf (Elt Ideal) ℓ) (g : Dev Cert.WdnIdeal.nD → PrngReg), Pre_WdnIdeal m →
    θ_run (Cert.WdnIdeal.defs (F := Ideal)) (onTc (τ := Cert.WdnIdeal.τ) (Cert.WdnIdeal.main (F := Ideal))) ⟨m, fun _ => 0, g⟩ (fun r => (∀ c : Dev Cert.WdnIdeal.nD,
      r.2.mem ((c.tc : Thread Cert.WdnIdeal.nD Cert.WdnIdeal.τ).loc Cert.WdnIdeal.main_arg0) = m ((c.tc : Thread Cert.WdnIdeal.nD Cert.WdnIdeal.τ).loc Cert.WdnIdeal.main_arg0)
      ∧ r.2.mem ((c.tc : Thread Cert.WdnIdeal.nD Cert.WdnIdeal.τ).loc Cert.WdnIdeal.main_arg1) = m ((c.tc : Thread Cert.WdnIdeal.nD Cert.WdnIdeal.τ).loc Cert.WdnIdeal.main_arg1))
      ∧ r.2.sem = fun _ => 0)

def quiescent_WdnRefIdeal [hWdnRefIdeal : Cert.WdnRefIdeal.Facts] : Prop :=
  ∀ (m : (ℓ : Loc Cert.WdnRefIdeal.nD Cert.WdnRefIdeal.τ Cert.WdnRefIdeal.sig) → Buf (Elt Ideal) ℓ) (g : Dev Cert.WdnRefIdeal.nD → PrngReg), Pre_WdnRefIdeal m →
    θ_run (Cert.WdnRefIdeal.defs (F := Ideal)) (onTc (τ := Cert.WdnRefIdeal.τ) (Cert.WdnRefIdeal.main (F := Ideal))) ⟨m, fun _ => 0, g⟩ (fun r => (∀ c : Dev Cert.WdnRefIdeal.nD,
      r.2.mem ((c.tc : Thread Cert.WdnRefIdeal.nD Cert.WdnRefIdeal.τ).loc Cert.WdnRefIdeal.main_arg0) = m ((c.tc : Thread Cert.WdnRefIdeal.nD Cert.WdnRefIdeal.τ).loc Cert.WdnRefIdeal.main_arg0)
      ∧ r.2.mem ((c.tc : Thread Cert.WdnRefIdeal.nD Cert.WdnRefIdeal.τ).loc Cert.WdnRefIdeal.main_arg1) = m ((c.tc : Thread Cert.WdnRefIdeal.nD Cert.WdnRefIdeal.τ).loc Cert.WdnRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v73) = v1 c
          ∧ r.2.mem ((c.tc : Thread Cert.LossRefIdeal.nD Cert.LossRefIdeal.τ).loc Cert.LossRefIdeal.main_v74) = v2 c
          ∧ r.2.mem ((c.tc : Thread Cert.LossRefIdeal.nD Cert.LossRefIdeal.τ).loc Cert.LossRefIdeal.main_v75) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v5_0)) (v1 : (c : Dev Cert.AttnIdeal.nD) → Buf (Elt Ideal) ((c.tc : Thread Cert.AttnIdeal.nD Cert.AttnIdeal.τ).loc Cert.AttnIdeal.main_v5_1)) (v2 : (c : Dev Cert.AttnIdeal.nD) → Buf (Elt Ideal) ((c.tc : Thread Cert.AttnIdeal.nD Cert.AttnIdeal.τ).loc Cert.AttnIdeal.main_v5_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5_0) = v0 c
          ∧ r.2.mem ((c.tc : Thread Cert.AttnIdeal.nD Cert.AttnIdeal.τ).loc Cert.AttnIdeal.main_v5_1) = v1 c
          ∧ r.2.mem ((c.tc : Thread Cert.AttnIdeal.nD Cert.AttnIdeal.τ).loc Cert.AttnIdeal.main_v5_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v60) = v0 c
          ∧ r.2.mem ((c.tc : Thread Cert.AttnRefIdeal.nD Cert.AttnRefIdeal.τ).loc Cert.AttnRefIdeal.main_v61) = v1 c
          ∧ r.2.mem ((c.tc : Thread Cert.AttnRefIdeal.nD Cert.AttnRefIdeal.τ).loc Cert.AttnRefIdeal.main_v62) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v2_0)) (v1 : (c : Dev Cert.PoolIdeal.nD) → Buf (Elt Ideal) ((c.tc : Thread Cert.PoolIdeal.nD Cert.PoolIdeal.τ).loc Cert.PoolIdeal.main_v2_1)) (v2 : (c : Dev Cert.PoolIdeal.nD) → Buf (Elt Ideal) ((c.tc : Thread Cert.PoolIdeal.nD Cert.PoolIdeal.τ).loc Cert.PoolIdeal.main_v2_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_v2_1) = v1 c
          ∧ r.2.mem ((c.tc : Thread Cert.PoolIdeal.nD Cert.PoolIdeal.τ).loc Cert.PoolIdeal.main_v2_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v149) = v0 c
          ∧ r.2.mem ((c.tc : Thread Cert.PoolRefIdeal.nD Cert.PoolRefIdeal.τ).loc Cert.PoolRefIdeal.main_v91) = v1 c
          ∧ r.2.mem ((c.tc : Thread Cert.PoolRefIdeal.nD Cert.PoolRefIdeal.τ).loc Cert.PoolRefIdeal.main_v150) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Entry_EntryIdeal : Prop :=
  True

def algebraic_EntryIdeal_EntryRefIdeal_pre_entry_finite [hEntryIdeal : Cert.EntryIdeal.Facts] [hEntryRefIdeal : Cert.EntryRefIdeal.Facts] [hPre_entry_finite : Cert.Pre_entry_finite.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal_entry_finite m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)
      ∧ m' ((c.tc : Thread Cert.EntryRefIdeal.nD Cert.EntryRefIdeal.τ).loc Cert.EntryRefIdeal.main_arg3) = m ((c.tc : Thread Cert.EntryIdeal.nD Cert.EntryIdeal.τ).loc Cert.EntryIdeal.main_arg3)) →
    ∃ (v0 : (c : Dev Cert.EntryIdeal.nD) → Buf (Elt Ideal) ((c.tc : Thread Cert.EntryIdeal.nD Cert.EntryIdeal.τ).loc Cert.EntryIdeal.main_v1)) (v1 : (c : Dev Cert.EntryIdeal.nD) → Buf (Elt Ideal) ((c.tc : Thread Cert.EntryIdeal.nD Cert.EntryIdeal.τ).loc Cert.EntryIdeal.main_v2_0)) (v2 : (c : Dev Cert.EntryIdeal.nD) → Buf (Elt Ideal) ((c.tc : Thread Cert.EntryIdeal.nD Cert.EntryIdeal.τ).loc Cert.EntryIdeal.main_v2_1)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v1) = v0 c
          ∧ r.2.mem ((c.tc : Thread Cert.EntryIdeal.nD Cert.EntryIdeal.τ).loc Cert.EntryIdeal.main_v2_0) = v1 c
          ∧ r.2.mem ((c.tc : Thread Cert.EntryIdeal.nD Cert.EntryIdeal.τ).loc Cert.EntryIdeal.main_v2_1) = v2 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v15) = v0 c
          ∧ r.2.mem ((c.tc : Thread Cert.EntryRefIdeal.nD Cert.EntryRefIdeal.τ).loc Cert.EntryRefIdeal.main_v36) = v1 c
          ∧ r.2.mem ((c.tc : Thread Cert.EntryRefIdeal.nD Cert.EntryRefIdeal.τ).loc Cert.EntryRefIdeal.main_v37) = v2 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2)
          ∧ r.2.mem ((c.tc : Thread Cert.EntryRefIdeal.nD Cert.EntryRefIdeal.τ).loc Cert.EntryRefIdeal.main_arg3) = m' ((c.tc : Thread Cert.EntryRefIdeal.nD Cert.EntryRefIdeal.τ).loc Cert.EntryRefIdeal.main_arg3))

def preserves_Mid_MidIdeal : Prop :=
  True

def algebraic_MidIdeal_MidRefIdeal_pre_sandwich_finite [hMidIdeal : Cert.MidIdeal.Facts] [hMidRefIdeal : Cert.MidRefIdeal.Facts] [hPre_sandwich_finite : Cert.Pre_sandwich_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_sandwich_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)) (v2 : (c : Dev Cert.MidIdeal.nD) → Buf (Elt Ideal) ((c.tc : Thread Cert.MidIdeal.nD Cert.MidIdeal.τ).loc Cert.MidIdeal.main_v3_0)) (v3 : (c : Dev Cert.MidIdeal.nD) → Buf (Elt Ideal) ((c.tc : Thread Cert.MidIdeal.nD Cert.MidIdeal.τ).loc Cert.MidIdeal.main_v3_1)) (v4 : (c : Dev Cert.MidIdeal.nD) → Buf (Elt Ideal) ((c.tc : Thread Cert.MidIdeal.nD Cert.MidIdeal.τ).loc Cert.MidIdeal.main_v3_2)) (v5 : (c : Dev Cert.MidIdeal.nD) → Buf (Elt Ideal) ((c.tc : Thread Cert.MidIdeal.nD Cert.MidIdeal.τ).loc Cert.MidIdeal.main_v3_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_v3_0) = v2 c
          ∧ r.2.mem ((c.tc : Thread Cert.MidIdeal.nD Cert.MidIdeal.τ).loc Cert.MidIdeal.main_v3_1) = v3 c
          ∧ r.2.mem ((c.tc : Thread Cert.MidIdeal.nD Cert.MidIdeal.τ).loc Cert.MidIdeal.main_v3_2) = v4 c
          ∧ r.2.mem ((c.tc : Thread Cert.MidIdeal.nD Cert.MidIdeal.τ).loc Cert.MidIdeal.main_v3_3) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v16) = v0 c
          ∧ r.2.mem ((c.tc : Thread Cert.MidRefIdeal.nD Cert.MidRefIdeal.τ).loc Cert.MidRefIdeal.main_v75) = v1 c
          ∧ r.2.mem ((c.tc : Thread Cert.MidRefIdeal.nD Cert.MidRefIdeal.τ).loc Cert.MidRefIdeal.main_v53) = v2 c
          ∧ r.2.mem ((c.tc : Thread Cert.MidRefIdeal.nD Cert.MidRefIdeal.τ).loc Cert.MidRefIdeal.main_v74) = v3 c
          ∧ r.2.mem ((c.tc : Thread Cert.MidRefIdeal.nD Cert.MidRefIdeal.τ).loc Cert.MidRefIdeal.main_v76) = v4 c
          ∧ r.2.mem ((c.tc : Thread Cert.MidRefIdeal.nD Cert.MidRefIdeal.τ).loc Cert.MidRefIdeal.main_v77) = v5 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Below_BelowIdeal : Prop :=
  True

def algebraic_BelowIdeal_BelowRefIdeal_pre_sandwich_finite [hBelowIdeal : Cert.BelowIdeal.Facts] [hBelowRefIdeal : Cert.BelowRefIdeal.Facts] [hPre_sandwich_finite : Cert.Pre_sandwich_finite.Facts] : Prop :=
  ∀ (m : (ℓ : Loc Cert.BelowIdeal.nD Cert.BelowIdeal.τ Cert.BelowIdeal.sig) → Buf (Elt Ideal) ℓ) (g : Dev Cert.BelowIdeal.nD → PrngReg)
    (m' : (ℓ : Loc Cert.BelowRefIdeal.nD Cert.BelowRefIdeal.τ Cert.BelowRefIdeal.sig) → Buf (Elt Ideal) ℓ) (g' : Dev Cert.BelowRefIdeal.nD → PrngReg), Pre_BelowIdeal_sandwich_finite m →
    (∀ c : Dev Cert.BelowIdeal.nD,
      m' ((c.tc : Thread Cert.BelowRefIdeal.nD Cert.BelowRefIdeal.τ).loc Cert.BelowRefIdeal.main_arg0) = m ((c.tc : Thread Cert.BelowIdeal.nD Cert.BelowIdeal.τ).loc Cert.BelowIdeal.main_arg0)
      ∧ m' ((c.tc : Thread Cert.BelowRefIdeal.nD Cert.BelowRefIdeal.τ).loc Cert.BelowRefIdeal.main_arg1) = m ((c.tc : Thread Cert.BelowIdeal.nD Cert.BelowIdeal.τ).loc Cert.BelowIdeal.main_arg1)
      ∧ m' ((c.tc : Thread Cert.BelowRefIdeal.nD Cert.BelowRefIdeal.τ).loc Cert.BelowRefIdeal.main_arg2) = m ((c.tc : Thread Cert.BelowIdeal.nD Cert.BelowIdeal.τ).loc Cert.BelowIdeal.main_arg2)
      ∧ m' ((c.tc : Thread Cert.BelowRefIdeal.nD Cert.BelowRefIdeal.τ).loc Cert.BelowRefIdeal.main_arg3) = m ((c.tc : Thread Cert.BelowIdeal.nD Cert.BelowIdeal.τ).loc Cert.BelowIdeal.main_arg3)
      ∧ m' ((c.tc : Thread Cert.BelowRefIdeal.nD Cert.BelowRefIdeal.τ).loc Cert.BelowRefIdeal.main_arg4) = m ((c.tc : Thread Cert.BelowIdeal.nD Cert.BelowIdeal.τ).loc Cert.BelowIdeal.main_arg4)
      ∧ m' ((c.tc : Thread Cert.BelowRefIdeal.nD Cert.BelowRefIdeal.τ).loc Cert.BelowRefIdeal.main_arg5) = m ((c.tc : Thread Cert.BelowIdeal.nD Cert.BelowIdeal.τ).loc Cert.BelowIdeal.main_arg5)) →
    ∃ (v0 : (c : Dev Cert.BelowIdeal.nD) → Buf (Elt Ideal) ((c.tc : Thread Cert.BelowIdeal.nD Cert.BelowIdeal.τ).loc Cert.BelowIdeal.main_v2_0)) (v1 : (c : Dev Cert.BelowIdeal.nD) → Buf (Elt Ideal) ((c.tc : Thread Cert.BelowIdeal.nD Cert.BelowIdeal.τ).loc Cert.BelowIdeal.main_v2_1)) (v2 : (c : Dev Cert.BelowIdeal.nD) → Buf (Elt Ideal) ((c.tc : Thread Cert.BelowIdeal.nD Cert.BelowIdeal.τ).loc Cert.BelowIdeal.main_v3_0)) (v3 : (c : Dev Cert.BelowIdeal.nD) → Buf (Elt Ideal) ((c.tc : Thread Cert.BelowIdeal.nD Cert.BelowIdeal.τ).loc Cert.BelowIdeal.main_v3_1)) (v4 : (c : Dev Cert.BelowIdeal.nD) → Buf (Elt Ideal) ((c.tc : Thread Cert.BelowIdeal.nD Cert.BelowIdeal.τ).loc Cert.BelowIdeal.main_v3_2)) (v5 : (c : Dev Cert.BelowIdeal.nD) → Buf (Elt Ideal) ((c.tc : Thread Cert.BelowIdeal.nD Cert.BelowIdeal.τ).loc Cert.BelowIdeal.main_v3_3)),
      θ_run (Cert.BelowIdeal.defs (F := Ideal)) (onTc (τ := Cert.BelowIdeal.τ) (Cert.BelowIdeal.main (F := Ideal))) ⟨m, fun _ => 0, g⟩ (fun r => ∀ c : Dev Cert.BelowIdeal.nD,
          r.2.mem ((c.tc : Thread Cert.BelowIdeal.nD Cert.BelowIdeal.τ).loc Cert.BelowIdeal.main_v2_0) = v0 c
          ∧ r.2.mem ((c.tc : Thread Cert.BelowIdeal.nD Cert.BelowIdeal.τ).loc Cert.BelowIdeal.main_v2_1) = v1 c
          ∧ r.2.mem ((c.tc : Thread Cert.BelowIdeal.nD Cert.BelowIdeal.τ).loc Cert.BelowIdeal.main_v3_0) = v2 c
          ∧ r.2.mem ((c.tc : Thread Cert.BelowIdeal.nD Cert.BelowIdeal.τ).loc Cert.BelowIdeal.main_v3_1) = v3 c
          ∧ r.2.mem ((c.tc : Thread Cert.BelowIdeal.nD Cert.BelowIdeal.τ).loc Cert.BelowIdeal.main_v3_2) = v4 c
          ∧ r.2.mem ((c.tc : Thread Cert.BelowIdeal.nD Cert.BelowIdeal.τ).loc Cert.BelowIdeal.main_v3_3) = v5 c
          ∧ r.2.mem ((c.tc : Thread Cert.BelowIdeal.nD Cert.BelowIdeal.τ).loc Cert.BelowIdeal.main_arg0) = m ((c.tc : Thread Cert.BelowIdeal.nD Cert.BelowIdeal.τ).loc Cert.BelowIdeal.main_arg0)
          ∧ r.2.mem ((c.tc : Thread Cert.BelowIdeal.nD Cert.BelowIdeal.τ).loc Cert.BelowIdeal.main_arg1) = m ((c.tc : Thread Cert.BelowIdeal.nD Cert.BelowIdeal.τ).loc Cert.BelowIdeal.main_arg1)
          ∧ r.2.mem ((c.tc : Thread Cert.BelowIdeal.nD Cert.BelowIdeal.τ).loc Cert.BelowIdeal.main_arg2) = m ((c.tc : Thread Cert.BelowIdeal.nD Cert.BelowIdeal.τ).loc Cert.BelowIdeal.main_arg2)
          ∧ r.2.mem ((c.tc : Thread Cert.BelowIdeal.nD Cert.BelowIdeal.τ).loc Cert.BelowIdeal.main_arg3) = m ((c.tc : Thread Cert.BelowIdeal.nD Cert.BelowIdeal.τ).loc Cert.BelowIdeal.main_arg3)
          ∧ r.2.mem ((c.tc : Thread Cert.BelowIdeal.nD Cert.BelowIdeal.τ).loc Cert.BelowIdeal.main_arg4) = m ((c.tc : Thread Cert.BelowIdeal.nD Cert.BelowIdeal.τ).loc Cert.BelowIdeal.main_arg4)
          ∧ r.2.mem ((c.tc : Thread Cert.BelowIdeal.nD Cert.BelowIdeal.τ).loc Cert.BelowIdeal.main_arg5) = m ((c.tc : Thread Cert.BelowIdeal.nD Cert.BelowIdeal.τ).loc Cert.BelowIdeal.main_arg5))
      ∧ θ_run (Cert.BelowRefIdeal.defs (F := Ideal)) (onTc (τ := Cert.BelowRefIdeal.τ) (Cert.BelowRefIdeal.main (F := Ideal))) ⟨m', fun _ => 0, g'⟩ (fun r => ∀ c : Dev Cert.BelowRefIdeal.nD,
          r.2.mem ((c.tc : Thread Cert.BelowRefIdeal.nD Cert.BelowRefIdeal.τ).loc Cert.BelowRefIdeal.main_v16) = v0 c
          ∧ r.2.mem ((c.tc : Thread Cert.BelowRefIdeal.nD Cert.BelowRefIdeal.τ).loc Cert.BelowRefIdeal.main_v75) = v1 c
          ∧ r.2.mem ((c.tc : Thread Cert.BelowRefIdeal.nD Cert.BelowRefIdeal.τ).loc Cert.BelowRefIdeal.main_v53) = v2 c
          ∧ r.2.mem ((c.tc : Thread Cert.BelowRefIdeal.nD Cert.BelowRefIdeal.τ).loc Cert.BelowRefIdeal.main_v76) = v3 c
          ∧ r.2.mem ((c.tc : Thread Cert.BelowRefIdeal.nD Cert.BelowRefIdeal.τ).loc Cert.BelowRefIdeal.main_v77) = v4 c
          ∧ r.2.mem ((c.tc : Thread Cert.BelowRefIdeal.nD Cert.BelowRefIdeal.τ).loc Cert.BelowRefIdeal.main_v78) = v5 c
          ∧ r.2.mem ((c.tc : Thread Cert.BelowRefIdeal.nD Cert.BelowRefIdeal.τ).loc Cert.BelowRefIdeal.main_arg0) = m' ((c.tc : Thread Cert.BelowRefIdeal.nD Cert.BelowRefIdeal.τ).loc Cert.BelowRefIdeal.main_arg0)
          ∧ r.2.mem ((c.tc : Thread Cert.BelowRefIdeal.nD Cert.BelowRefIdeal.τ).loc Cert.BelowRefIdeal.main_arg1) = m' ((c.tc : Thread Cert.BelowRefIdeal.nD Cert.BelowRefIdeal.τ).loc Cert.BelowRefIdeal.main_arg1)
          ∧ r.2.mem ((c.tc : Thread Cert.BelowRefIdeal.nD Cert.BelowRefIdeal.τ).loc Cert.BelowRefIdeal.main_arg2) = m' ((c.tc : Thread Cert.BelowRefIdeal.nD Cert.BelowRefIdeal.τ).loc Cert.BelowRefIdeal.main_arg2)
          ∧ r.2.mem ((c.tc : Thread Cert.BelowRefIdeal.nD Cert.BelowRefIdeal.τ).loc Cert.BelowRefIdeal.main_arg3) = m' ((c.tc : Thread Cert.BelowRefIdeal.nD Cert.BelowRefIdeal.τ).loc Cert.BelowRefIdeal.main_arg3)
          ∧ r.2.mem ((c.tc : Thread Cert.BelowRefIdeal.nD Cert.BelowRefIdeal.τ).loc Cert.BelowRefIdeal.main_arg4) = m' ((c.tc : Thread Cert.BelowRefIdeal.nD Cert.BelowRefIdeal.τ).loc Cert.BelowRefIdeal.main_arg4)
          ∧ r.2.mem ((c.tc : Thread Cert.BelowRefIdeal.nD Cert.BelowRefIdeal.τ).loc Cert.BelowRefIdeal.main_arg5) = m' ((c.tc : Thread Cert.BelowRefIdeal.nD Cert.BelowRefIdeal.τ).loc Cert.BelowRefIdeal.main_arg5))

def preserves_Fork_ForkIdeal : Prop :=
  True

def algebraic_ForkIdeal_ForkRefIdeal_pre_fork_finite [hForkIdeal : Cert.ForkIdeal.Facts] [hForkRefIdeal : Cert.ForkRefIdeal.Facts] [hPre_fork_finite : Cert.Pre_fork_finite.Facts] : Prop :=
  ∀ (m : (ℓ : Loc Cert.ForkIdeal.nD Cert.ForkIdeal.τ Cert.ForkIdeal.sig) → Buf (Elt Ideal) ℓ) (g : Dev Cert.ForkIdeal.nD → PrngReg)
    (m' : (ℓ : Loc Cert.ForkRefIdeal.nD Cert.ForkRefIdeal.τ Cert.ForkRefIdeal.sig) → Buf (Elt Ideal) ℓ) (g' : Dev Cert.ForkRefIdeal.nD → PrngReg), Pre_ForkIdeal_fork_finite m →
    (∀ c : Dev Cert.ForkIdeal.nD,
      m' ((c.tc : Thread Cert.ForkRefIdeal.nD Cert.ForkRefIdeal.τ).loc Cert.ForkRefIdeal.main_arg0) = m ((c.tc : Thread Cert.ForkIdeal.nD Cert.ForkIdeal.τ).loc Cert.ForkIdeal.main_arg0)
      ∧ m' ((c.tc : Thread Cert.ForkRefIdeal.nD Cert.ForkRefIdeal.τ).loc Cert.ForkRefIdeal.main_arg1) = m ((c.tc : Thread Cert.ForkIdeal.nD Cert.ForkIdeal.τ).loc Cert.ForkIdeal.main_arg1)
      ∧ m' ((c.tc : Thread Cert.ForkRefIdeal.nD Cert.ForkRefIdeal.τ).loc Cert.ForkRefIdeal.main_arg2) = m ((c.tc : Thread Cert.ForkIdeal.nD Cert.ForkIdeal.τ).loc Cert.ForkIdeal.main_arg2)
      ∧ m' ((c.tc : Thread Cert.ForkRefIdeal.nD Cert.ForkRefIdeal.τ).loc Cert.ForkRefIdeal.main_arg3) = m ((c.tc : Thread Cert.ForkIdeal.nD Cert.ForkIdeal.τ).loc Cert.ForkIdeal.main_arg3)
      ∧ m' ((c.tc : Thread Cert.ForkRefIdeal.nD Cert.ForkRefIdeal.τ).loc Cert.ForkRefIdeal.main_arg4) = m ((c.tc : Thread Cert.ForkIdeal.nD Cert.ForkIdeal.τ).loc Cert.ForkIdeal.main_arg4)
      ∧ m' ((c.tc : Thread Cert.ForkRefIdeal.nD Cert.ForkRefIdeal.τ).loc Cert.ForkRefIdeal.main_arg5) = m ((c.tc : Thread Cert.ForkIdeal.nD Cert.ForkIdeal.τ).loc Cert.ForkIdeal.main_arg5)
      ∧ m' ((c.tc : Thread Cert.ForkRefIdeal.nD Cert.ForkRefIdeal.τ).loc Cert.ForkRefIdeal.main_arg6) = m ((c.tc : Thread Cert.ForkIdeal.nD Cert.ForkIdeal.τ).loc Cert.ForkIdeal.main_arg6)
      ∧ m' ((c.tc : Thread Cert.ForkRefIdeal.nD Cert.ForkRefIdeal.τ).loc Cert.ForkRefIdeal.main_arg7) = m ((c.tc : Thread Cert.ForkIdeal.nD Cert.ForkIdeal.τ).loc Cert.ForkIdeal.main_arg7)) →
    ∃ (v0 : (c : Dev Cert.ForkIdeal.nD) → Buf (Elt Ideal) ((c.tc : Thread Cert.ForkIdeal.nD Cert.ForkIdeal.τ).loc Cert.ForkIdeal.main_v3_0)) (v1 : (c : Dev Cert.ForkIdeal.nD) → Buf (Elt Ideal) ((c.tc : Thread Cert.ForkIdeal.nD Cert.ForkIdeal.τ).loc Cert.ForkIdeal.main_v3_1)) (v2 : (c : Dev Cert.ForkIdeal.nD) → Buf (Elt Ideal) ((c.tc : Thread Cert.ForkIdeal.nD Cert.ForkIdeal.τ).loc Cert.ForkIdeal.main_v3_2)) (v3 : (c : Dev Cert.ForkIdeal.nD) → Buf (Elt Ideal) ((c.tc : Thread Cert.ForkIdeal.nD Cert.ForkIdeal.τ).loc Cert.ForkIdeal.main_v4_0)) (v4 : (c : Dev Cert.ForkIdeal.nD) → Buf (Elt Ideal) ((c.tc : Thread Cert.ForkIdeal.nD Cert.ForkIdeal.τ).loc Cert.ForkIdeal.main_v4_1)) (v5 : (c : Dev Cert.ForkIdeal.nD) → Buf (Elt Ideal) ((c.tc : Thread Cert.ForkIdeal.nD Cert.ForkIdeal.τ).loc Cert.ForkIdeal.main_v4_2)) (v6 : (c : Dev Cert.ForkIdeal.nD) → Buf (Elt Ideal) ((c.tc : Thread Cert.ForkIdeal.nD Cert.ForkIdeal.τ).loc Cert.ForkIdeal.main_v4_3)) (v7 : (c : Dev Cert.ForkIdeal.nD) → Buf (Elt Ideal) ((c.tc : Thread Cert.ForkIdeal.nD Cert.ForkIdeal.τ).loc Cert.ForkIdeal.main_v4_4)),
      θ_run (Cert.ForkIdeal.defs (F := Ideal)) (onTc (τ := Cert.ForkIdeal.τ) (Cert.ForkIdeal.main (F := Ideal))) ⟨m, fun _ => 0, g⟩ (fun r => ∀ c : Dev Cert.ForkIdeal.nD,
          r.2.mem ((c.tc : Thread Cert.ForkIdeal.nD Cert.ForkIdeal.τ).loc Cert.ForkIdeal.main_v3_0) = v0 c
          ∧ r.2.mem ((c.tc : Thread Cert.ForkIdeal.nD Cert.ForkIdeal.τ).loc Cert.ForkIdeal.main_v3_1) = v1 c
          ∧ r.2.mem ((c.tc : Thread Cert.ForkIdeal.nD Cert.ForkIdeal.τ).loc Cert.ForkIdeal.main_v3_2) = v2 c
          ∧ r.2.mem ((c.tc : Thread Cert.ForkIdeal.nD Cert.ForkIdeal.τ).loc Cert.ForkIdeal.main_v4_0) = v3 c
          ∧ r.2.mem ((c.tc : Thread Cert.ForkIdeal.nD Cert.ForkIdeal.τ).loc Cert.ForkIdeal.main_v4_1) = v4 c
          ∧ r.2.mem ((c.tc : Thread Cert.ForkIdeal.nD Cert.ForkIdeal.τ).loc Cert.ForkIdeal.main_v4_2) = v5 c
          ∧ r.2.mem ((c.tc : Thread Cert.ForkIdeal.nD Cert.ForkIdeal.τ).loc Cert.ForkIdeal.main_v4_3) = v6 c
          ∧ r.2.mem ((c.tc : Thread Cert.ForkIdeal.nD Cert.ForkIdeal.τ).loc Cert.ForkIdeal.main_v4_4) = v7 c
          ∧ r.2.mem ((c.tc : Thread Cert.ForkIdeal.nD Cert.ForkIdeal.τ).loc Cert.ForkIdeal.main_arg0) = m ((c.tc : Thread Cert.ForkIdeal.nD Cert.ForkIdeal.τ).loc Cert.ForkIdeal.main_arg0)
          ∧ r.2.mem ((c.tc : Thread Cert.ForkIdeal.nD Cert.ForkIdeal.τ).loc Cert.ForkIdeal.main_arg1) = m ((c.tc : Thread Cert.ForkIdeal.nD Cert.ForkIdeal.τ).loc Cert.ForkIdeal.main_arg1)
          ∧ r.2.mem ((c.tc : Thread Cert.ForkIdeal.nD Cert.ForkIdeal.τ).loc Cert.ForkIdeal.main_arg2) = m ((c.tc : Thread Cert.ForkIdeal.nD Cert.ForkIdeal.τ).loc Cert.ForkIdeal.main_arg2)
          ∧ r.2.mem ((c.tc : Thread Cert.ForkIdeal.nD Cert.ForkIdeal.τ).loc Cert.ForkIdeal.main_arg3) = m ((c.tc : Thread Cert.ForkIdeal.nD Cert.ForkIdeal.τ).loc Cert.ForkIdeal.main_arg3)
          ∧ r.2.mem ((c.tc : Thread Cert.ForkIdeal.nD Cert.ForkIdeal.τ).loc Cert.ForkIdeal.main_arg4) = m ((c.tc : Thread Cert.ForkIdeal.nD Cert.ForkIdeal.τ).loc Cert.ForkIdeal.main_arg4)
          ∧ r.2.mem ((c.tc : Thread Cert.ForkIdeal.nD Cert.ForkIdeal.τ).loc Cert.ForkIdeal.main_arg5) = m ((c.tc : Thread Cert.ForkIdeal.nD Cert.ForkIdeal.τ).loc Cert.ForkIdeal.main_arg5)
          ∧ r.2.mem ((c.tc : Thread Cert.ForkIdeal.nD Cert.ForkIdeal.τ).loc Cert.ForkIdeal.main_arg6) = m ((c.tc : Thread Cert.ForkIdeal.nD Cert.ForkIdeal.τ).loc Cert.ForkIdeal.main_arg6)
          ∧ r.2.mem ((c.tc : Thread Cert.ForkIdeal.nD Cert.ForkIdeal.τ).loc Cert.ForkIdeal.main_arg7) = m ((c.tc : Thread Cert.ForkIdeal.nD Cert.ForkIdeal.τ).loc Cert.ForkIdeal.main_arg7))
      ∧ θ_run (Cert.ForkRefIdeal.defs (F := Ideal)) (onTc (τ := Cert.ForkRefIdeal.τ) (Cert.ForkRefIdeal.main (F := Ideal))) ⟨m', fun _ => 0, g'⟩ (fun r => ∀ c : Dev Cert.ForkRefIdeal.nD,
          r.2.mem ((c.tc : Thread Cert.ForkRefIdeal.nD Cert.ForkRefIdeal.τ).loc Cert.ForkRefIdeal.main_v16) = v0 c
          ∧ r.2.mem ((c.tc : Thread Cert.ForkRefIdeal.nD Cert.ForkRefIdeal.τ).loc Cert.ForkRefIdeal.main_v112) = v1 c
          ∧ r.2.mem ((c.tc : Thread Cert.ForkRefIdeal.nD Cert.ForkRefIdeal.τ).loc Cert.ForkRefIdeal.main_v113) = v2 c
          ∧ r.2.mem ((c.tc : Thread Cert.ForkRefIdeal.nD Cert.ForkRefIdeal.τ).loc Cert.ForkRefIdeal.main_v90) = v3 c
          ∧ r.2.mem ((c.tc : Thread Cert.ForkRefIdeal.nD Cert.ForkRefIdeal.τ).loc Cert.ForkRefIdeal.main_v114) = v4 c
          ∧ r.2.mem ((c.tc : Thread Cert.ForkRefIdeal.nD Cert.ForkRefIdeal.τ).loc Cert.ForkRefIdeal.main_v115) = v5 c
          ∧ r.2.mem ((c.tc : Thread Cert.ForkRefIdeal.nD Cert.ForkRefIdeal.τ).loc Cert.ForkRefIdeal.main_v116) = v6 c
          ∧ r.2.mem ((c.tc : Thread Cert.ForkRefIdeal.nD Cert.ForkRefIdeal.τ).loc Cert.ForkRefIdeal.main_v117) = v7 c
          ∧ r.2.mem ((c.tc : Thread Cert.ForkRefIdeal.nD Cert.ForkRefIdeal.τ).loc Cert.ForkRefIdeal.main_arg0) = m' ((c.tc : Thread Cert.ForkRefIdeal.nD Cert.ForkRefIdeal.τ).loc Cert.ForkRefIdeal.main_arg0)
          ∧ r.2.mem ((c.tc : Thread Cert.ForkRefIdeal.nD Cert.ForkRefIdeal.τ).loc Cert.ForkRefIdeal.main_arg1) = m' ((c.tc : Thread Cert.ForkRefIdeal.nD Cert.ForkRefIdeal.τ).loc Cert.ForkRefIdeal.main_arg1)
          ∧ r.2.mem ((c.tc : Thread Cert.ForkRefIdeal.nD Cert.ForkRefIdeal.τ).loc Cert.ForkRefIdeal.main_arg2) = m' ((c.tc : Thread Cert.ForkRefIdeal.nD Cert.ForkRefIdeal.τ).loc Cert.ForkRefIdeal.main_arg2)
          ∧ r.2.mem ((c.tc : Thread Cert.ForkRefIdeal.nD Cert.ForkRefIdeal.τ).loc Cert.ForkRefIdeal.main_arg3) = m' ((c.tc : Thread Cert.ForkRefIdeal.nD Cert.ForkRefIdeal.τ).loc Cert.ForkRefIdeal.main_arg3)
          ∧ r.2.mem ((c.tc : Thread Cert.ForkRefIdeal.nD Cert.ForkRefIdeal.τ).loc Cert.ForkRefIdeal.main_arg4) = m' ((c.tc : Thread Cert.ForkRefIdeal.nD Cert.ForkRefIdeal.τ).loc Cert.ForkRefIdeal.main_arg4)
          ∧ r.2.mem ((c.tc : Thread Cert.ForkRefIdeal.nD Cert.ForkRefIdeal.τ).loc Cert.ForkRefIdeal.main_arg5) = m' ((c.tc : Thread Cert.ForkRefIdeal.nD Cert.ForkRefIdeal.τ).loc Cert.ForkRefIdeal.main_arg5)
          ∧ r.2.mem ((c.tc : Thread Cert.ForkRefIdeal.nD Cert.ForkRefIdeal.τ).loc Cert.ForkRefIdeal.main_arg6) = m' ((c.tc : Thread Cert.ForkRefIdeal.nD Cert.ForkRefIdeal.τ).loc Cert.ForkRefIdeal.main_arg6)
          ∧ r.2.mem ((c.tc : Thread Cert.ForkRefIdeal.nD Cert.ForkRefIdeal.τ).loc Cert.ForkRefIdeal.main_arg7) = m' ((c.tc : Thread Cert.ForkRefIdeal.nD Cert.ForkRefIdeal.τ).loc Cert.ForkRefIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v14) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2))

def preserves_Fwd_FwdIdeal : Prop :=
  True

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v4)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v4) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v31) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1))

def preserves_Wdn_WdnIdeal : Prop :=
  True

def algebraic_WdnIdeal_WdnRefIdeal [hWdnIdeal : Cert.WdnIdeal.Facts] [hWdnRefIdeal : Cert.WdnRefIdeal.Facts] : Prop :=
  ∀ (m : (ℓ : Loc Cert.WdnIdeal.nD Cert.WdnIdeal.τ Cert.WdnIdeal.sig) → Buf (Elt Ideal) ℓ) (g : Dev Cert.WdnIdeal.nD → PrngReg)
    (m' : (ℓ : Loc Cert.WdnRefIdeal.nD Cert.WdnRefIdeal.τ Cert.WdnRefIdeal.sig) → Buf (Elt Ideal) ℓ) (g' : Dev Cert.WdnRefIdeal.nD → PrngReg), Pre_WdnIdeal m →
    (∀ c : Dev Cert.WdnIdeal.nD,
      m' ((c.tc : Thread Cert.WdnRefIdeal.nD Cert.WdnRefIdeal.τ).loc Cert.WdnRefIdeal.main_arg0) = m ((c.tc : Thread Cert.WdnIdeal.nD Cert.WdnIdeal.τ).loc Cert.WdnIdeal.main_arg0)
      ∧ m' ((c.tc : Thread Cert.WdnRefIdeal.nD Cert.WdnRefIdeal.τ).loc Cert.WdnRefIdeal.main_arg1) = m ((c.tc : Thread Cert.WdnIdeal.nD Cert.WdnIdeal.τ).loc Cert.WdnIdeal.main_arg1)) →
    ∃ (v0 : (c : Dev Cert.WdnIdeal.nD) → Buf (Elt Ideal) ((c.tc : Thread Cert.WdnIdeal.nD Cert.WdnIdeal.τ).loc Cert.WdnIdeal.main_v2)),
      θ_run (Cert.WdnIdeal.defs (F := Ideal)) (onTc (τ := Cert.WdnIdeal.τ) (Cert.WdnIdeal.main (F := Ideal))) ⟨m, fun _ => 0, g⟩ (fun r => ∀ c : Dev Cert.WdnIdeal.nD,
          r.2.mem ((c.tc : Thread Cert.WdnIdeal.nD Cert.WdnIdeal.τ).loc Cert.WdnIdeal.main_v2) = v0 c
          ∧ r.2.mem ((c.tc : Thread Cert.WdnIdeal.nD Cert.WdnIdeal.τ).loc Cert.WdnIdeal.main_arg0) = m ((c.tc : Thread Cert.WdnIdeal.nD Cert.WdnIdeal.τ).loc Cert.WdnIdeal.main_arg0)
          ∧ r.2.mem ((c.tc : Thread Cert.WdnIdeal.nD Cert.WdnIdeal.τ).loc Cert.WdnIdeal.main_arg1) = m ((c.tc : Thread Cert.WdnIdeal.nD Cert.WdnIdeal.τ).loc Cert.WdnIdeal.main_arg1))
      ∧ θ_run (Cert.WdnRefIdeal.defs (F := Ideal)) (onTc (τ := Cert.WdnRefIdeal.τ) (Cert.WdnRefIdeal.main (F := Ideal))) ⟨m', fun _ => 0, g'⟩ (fun r => ∀ c : Dev Cert.WdnRefIdeal.nD,
          r.2.mem ((c.tc : Thread Cert.WdnRefIdeal.nD Cert.WdnRefIdeal.τ).loc Cert.WdnRefIdeal.main_v6) = v0 c
          ∧ r.2.mem ((c.tc : Thread Cert.WdnRefIdeal.nD Cert.WdnRefIdeal.τ).loc Cert.WdnRefIdeal.main_arg0) = m' ((c.tc : Thread Cert.WdnRefIdeal.nD Cert.WdnRefIdeal.τ).loc Cert.WdnRefIdeal.main_arg0)
          ∧ r.2.mem ((c.tc : Thread Cert.WdnRefIdeal.nD Cert.WdnRefIdeal.τ).loc Cert.WdnRefIdeal.main_arg1) = m' ((c.tc : Thread Cert.WdnRefIdeal.nD Cert.WdnRefIdeal.τ).loc Cert.WdnRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v74) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hPool : Cert.Pool.Facts) (hPoolIdeal : Cert.PoolIdeal.Facts) (hPoolRefIdeal : Cert.PoolRefIdeal.Facts) (hEntry : Cert.Entry.Facts) (hEntryIdeal : Cert.EntryIdeal.Facts) (hEntryRefIdeal : Cert.EntryRefIdeal.Facts) (hMid : Cert.Mid.Facts) (hMidIdeal : Cert.MidIdeal.Facts) (hMidRefIdeal : Cert.MidRefIdeal.Facts) (hBelow : Cert.Below.Facts) (hBelowIdeal : Cert.BelowIdeal.Facts) (hBelowRefIdeal : Cert.BelowRefIdeal.Facts) (hFork : Cert.Fork.Facts) (hForkIdeal : Cert.ForkIdeal.Facts) (hForkRefIdeal : Cert.ForkRefIdeal.Facts) (hMlp : Cert.Mlp.Facts) (hMlpIdeal : Cert.MlpIdeal.Facts) (hMlpRefIdeal : Cert.MlpRefIdeal.Facts) (hFwd : Cert.Fwd.Facts) (hFwdIdeal : Cert.FwdIdeal.Facts) (hFwdRefIdeal : Cert.FwdRefIdeal.Facts) (hWdn : Cert.Wdn.Facts) (hWdnIdeal : Cert.WdnIdeal.Facts) (hWdnRefIdeal : Cert.WdnRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hPre_loss_finite : Cert.Pre_loss_finite.Facts) (hPre_attn_finite : Cert.Pre_attn_finite.Facts) (hPre_pool_finite : Cert.Pre_pool_finite.Facts) (hPre_entry_finite : Cert.Pre_entry_finite.Facts) (hPre_sandwich_finite : Cert.Pre_sandwich_finite.Facts) (hPre_fork_finite : Cert.Pre_fork_finite.Facts) (hPre_fwd_finite : Cert.Pre_fwd_finite.Facts) (hPre_mix_finite : Cert.Pre_mix_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Entry (hEntry := hEntry)
    ∧ quiescent_EntryIdeal (hEntryIdeal := hEntryIdeal)
    ∧ quiescent_EntryIdeal_pre_entry_finite (hEntryIdeal := hEntryIdeal) (hPre_entry_finite := hPre_entry_finite)
    ∧ quiescent_EntryRefIdeal (hEntryRefIdeal := hEntryRefIdeal)
    ∧ quiescent_EntryRefIdeal_pre_entry_finite (hEntryRefIdeal := hEntryRefIdeal) (hPre_entry_finite := hPre_entry_finite)
    ∧ quiescent_Mid (hMid := hMid)
    ∧ quiescent_MidIdeal (hMidIdeal := hMidIdeal)
    ∧ quiescent_MidIdeal_pre_sandwich_finite (hMidIdeal := hMidIdeal) (hPre_sandwich_finite := hPre_sandwich_finite)
    ∧ quiescent_MidRefIdeal (hMidRefIdeal := hMidRefIdeal)
    ∧ quiescent_MidRefIdeal_pre_sandwich_finite (hMidRefIdeal := hMidRefIdeal) (hPre_sandwich_finite := hPre_sandwich_finite)
    ∧ quiescent_Below (hBelow := hBelow)
    ∧ quiescent_BelowIdeal (hBelowIdeal := hBelowIdeal)
    ∧ quiescent_BelowIdeal_pre_sandwich_finite (hBelowIdeal := hBelowIdeal) (hPre_sandwich_finite := hPre_sandwich_finite)
    ∧ quiescent_BelowRefIdeal (hBelowRefIdeal := hBelowRefIdeal)
    ∧ quiescent_BelowRefIdeal_pre_sandwich_finite (hBelowRefIdeal := hBelowRefIdeal) (hPre_sandwich_finite := hPre_sandwich_finite)
    ∧ quiescent_Fork (hFork := hFork)
    ∧ quiescent_ForkIdeal (hForkIdeal := hForkIdeal)
    ∧ quiescent_ForkIdeal_pre_fork_finite (hForkIdeal := hForkIdeal) (hPre_fork_finite := hPre_fork_finite)
    ∧ quiescent_ForkRefIdeal (hForkRefIdeal := hForkRefIdeal)
    ∧ quiescent_ForkRefIdeal_pre_fork_finite (hForkRefIdeal := hForkRefIdeal) (hPre_fork_finite := hPre_fork_finite)
    ∧ quiescent_Mlp (hMlp := hMlp)
    ∧ quiescent_MlpIdeal (hMlpIdeal := hMlpIdeal)
    ∧ quiescent_MlpRefIdeal (hMlpRefIdeal := hMlpRefIdeal)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Wdn (hWdn := hWdn)
    ∧ quiescent_WdnIdeal (hWdnIdeal := hWdnIdeal)
    ∧ quiescent_WdnRefIdeal (hWdnRefIdeal := hWdnRefIdeal)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Entry_EntryIdeal
    ∧ algebraic_EntryIdeal_EntryRefIdeal_pre_entry_finite (hEntryIdeal := hEntryIdeal) (hEntryRefIdeal := hEntryRefIdeal) (hPre_entry_finite := hPre_entry_finite)
    ∧ preserves_Mid_MidIdeal
    ∧ algebraic_MidIdeal_MidRefIdeal_pre_sandwich_finite (hMidIdeal := hMidIdeal) (hMidRefIdeal := hMidRefIdeal) (hPre_sandwich_finite := hPre_sandwich_finite)
    ∧ preserves_Below_BelowIdeal
    ∧ algebraic_BelowIdeal_BelowRefIdeal_pre_sandwich_finite (hBelowIdeal := hBelowIdeal) (hBelowRefIdeal := hBelowRefIdeal) (hPre_sandwich_finite := hPre_sandwich_finite)
    ∧ preserves_Fork_ForkIdeal
    ∧ algebraic_ForkIdeal_ForkRefIdeal_pre_fork_finite (hForkIdeal := hForkIdeal) (hForkRefIdeal := hForkRefIdeal) (hPre_fork_finite := hPre_fork_finite)
    ∧ preserves_Mlp_MlpIdeal
    ∧ algebraic_MlpIdeal_MlpRefIdeal (hMlpIdeal := hMlpIdeal) (hMlpRefIdeal := hMlpRefIdeal)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Wdn_WdnIdeal
    ∧ algebraic_WdnIdeal_WdnRefIdeal (hWdnIdeal := hWdnIdeal) (hWdnRefIdeal := hWdnRefIdeal)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal_pre_mix_finite (hMixIdeal := hMixIdeal) (hMixRefIdeal := hMixRefIdeal) (hPre_mix_finite := hPre_mix_finite)
-- ==== Pre_attn_finite.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  slices_S4096x2048_S4096x1024_0_0 : S4096x2048.Slices ![0, 0] S4096x1024
  slices_S4096x2048_S4096x1024_0_1024 : S4096x2048.Slices ![0, 1024] S4096x1024

variable [Facts]

def fn {F : FTy → Type} [FloatOps F] (main_arg0 : FVec F S4096x1024 .f32) (main_arg1 : FVec F S4096x2048 .f32) (main_arg2 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := (extractStridedSlice S4096x1024 ![0, 0] · slices_S4096x2048_S4096x1024_0_0) main_arg1
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : IVec S4096x1024 1 := andi main_v6 main_v10
  let main_v12 : FVec F S4096x1024 .f32 := (extractStridedSlice S4096x1024 ![0, 1024] · slices_S4096x2048_S4096x1024_0_1024) main_arg1
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : IVec S4096x1024 1 := andi main_v11 main_v15
  main_v16
-- ==== Pre_entry_finite.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x1024 .f32) (main_arg1 : FVec F S1024 .f32) (main_arg2 : FVec F S4096x1024 .f32) (main_arg3 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := Host.absf main_arg3
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : IVec S4096x1024 1 := andi main_v6 main_v9
  let main_v11 : FVec F S1024 .f32 := Host.absf main_arg1
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : IVec S1x1024 1 := broadcastInDim S1x1024 ![1] bcast_S1024_S1x1024_1 main_v13
  let main_v15 : IVec S4096x1024 1 := broadcastInDim S4096x1024 ![0, 1] bcast_S1x1024_S4096x1024_0_1 main_v14
  let main_v16 : IVec S4096x1024 1 := andi main_v10 main_v15
  main_v16
-- ==== Pre_fork_finite.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)

variable [Facts]

def fn_part1 {F : FTy → Type} [FloatOps F] (main_arg2 : FVec F S1024 .f32) (main_arg3 : FVec F S1024 .f32) (main_arg4 : FVec F S1024 .f32) (main_v18 : IVec S4096x1024 1) : IVec S4096x1024 1 :=
  let main_v19 : FVec F S1024 .f32 := Host.absf main_arg2
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  let main_v22 : IVec S1x1024 1 := broadcastInDim S1x1024 ![1] bcast_S1024_S1x1024_1 main_v21
  let main_v23 : IVec S4096x1024 1 := broadcastInDim S4096x1024 ![0, 1] bcast_S1x1024_S4096x1024_0_1 main_v22
  let main_v24 : IVec S4096x1024 1 := andi main_v18 main_v23
  let main_v25 : FVec F S1024 .f32 := Host.absf main_arg3
  let main_cst_5 : FVec F S_ .f32 := constant S_ .f32 0x7F800000#32
  let main_v26 : FVec F S1024 .f32 := broadcastInDim S1024 ![] bcast_S_S1024 main_cst_5
  let main_v27 : IVec S1024 1 := cmpf .olt main_v25 main_v26
  let main_v28 : IVec S1x1024 1 := broadcastInDim S1x1024 ![1] bcast_S1024_S1x1024_1 main_v27
  let main_v29 : IVec S4096x1024 1 := broadcastInDim S4096x1024 ![0, 1] bcast_S1x1024_S4096x1024_0_1 main_v28
  let main_v30 : IVec S4096x1024 1 := andi main_v24 main_v29
  let main_v31 : FVec F S1024 .f32 := Host.absf main_arg4
  let main_cst_6 : FVec F S_ .f32 := constant S_ .f32 0x7F800000#32
  let main_v32 : FVec F S1024 .f32 := broadcastInDim S1024 ![] bcast_S_S1024 main_cst_6
  let main_v33 : IVec S1024 1 := cmpf .olt main_v31 main_v32
  let main_v34 : IVec S1x1024 1 := broadcastInDim S1x1024 ![1] bcast_S1024_S1x1024_1 main_v33
  let main_v35 : IVec S4096x1024 1 := broadcastInDim S4096x1024 ![0, 1] bcast_S1x1024_S4096x1024_0_1 main_v34
  let main_v36 : IVec S4096x1024 1 := andi main_v30 main_v35
  main_v36

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S4096x1024 .f32) (main_arg6 : FVec F S4096x1024 .f32) (main_arg7 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := Host.absf main_arg5
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : IVec S4096x1024 1 := andi main_v6 main_v9
  let main_v11 : FVec F S4096x1024 .f32 := Host.absf main_arg6
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : IVec S4096x1024 1 := andi main_v10 main_v13
  let main_v15 : FVec F S4096x1024 .f32 := Host.absf main_arg7
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  let main_v18 : IVec S4096x1024 1 := andi main_v14 main_v17
  fn_part1 (F := F) main_arg2 main_arg3 main_arg4 main_v18
-- ==== Pre_fwd_finite.lean ====
abbrev S4096x1024 : Shape := ⟨2, ![4096, 1024]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  slices_S4096x2048_S4096x1024_0_0 : S4096x2048.Slices ![0, 0] S4096x1024
  slices_S4096x2048_S4096x1024_0_1024 : S4096x2048.Slices ![0, 1024] S4096x1024

variable [Facts]

def fn {F : FTy → Type} [FloatOps F] (main_arg0 : FVec F S4096x1024 .f32) (main_arg1 : FVec F S4096x2048 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extractStridedSlice S4096x1024 ![0, 0] · slices_S4096x2048_S4096x1024_0_0) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : IVec S4096x1024 1 := andi main_v2 main_v6
  let main_v8 : FVec F S4096x1024 .f32 := (extractStridedSlice S4096x1024 ![0, 1024] · slices_S4096x2048_S4096x1024_0_1024) main_arg1
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : IVec S4096x1024 1 := andi main_v7 main_v11
  main_v12
-- ==== Pre_loss_finite.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x1024 .f32) (main_arg1 : FVec F S4096x1024 .f32) (main_arg2 : FVec F S1024 .f32) (main_arg3 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := Host.absf main_arg3
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : IVec S4096x1024 1 := andi main_v6 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : IVec S1x1024 1 := broadcastInDim S1x1024 ![1] bcast_S1024_S1x1024_1 main_v13
  let main_v15 : IVec S4096x1024 1 := broadcastInDim S4096x1024 ![0, 1] bcast_S1x1024_S4096x1024_0_1 main_v14
  let main_v16 : IVec S4096x1024 1 := andi main_v10 main_v15
  main_v16
-- ==== Pre_mix_finite.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩
abbrev S256x1024 : Shape := ⟨2, ![256, 1024]⟩
abbrev S1x1024 : Shape := ⟨2, ![1, 1024]⟩
abbrev S8449x1024 : Shape := ⟨2, ![8449, 1024]⟩

class Facts : Prop where
  bcast_S_S4096x1024 : S_.BroadcastsInDim S4096x1024 (![] : Fin 0 → Fin S4096x1024.rank)
  bcast_S_S4x256x256 : S_.BroadcastsInDim S4x256x256 (![] : Fin 0 → Fin S4x256x256.rank)
  shapeCasts_S4x256x256_S256x1024 : S4x256x256.ShapeCasts S256x1024
  bcast_S_S1024 : S_.BroadcastsInDim S1024 (![] : Fin 0 → Fin S1024.rank)
  bcast_S1024_S1x1024_1 : S1024.BroadcastsInDim S1x1024 (![1] : Fin 1 → Fin S1x1024.rank)
  concatenates_S4096x1024_S4096x1024_S256x1024_S1x1024_S8449x1024_d0 : Shape.Concatenates [S4096x1024, S4096x1024, S256x1024, S1x1024] S8449x1024 0

variable [Facts]

def fn {F : FTy → Type} [FloatOps F] (main_arg0 : FVec F S4096x1024 .f32) (main_arg1 : FVec F S4x256x256 .f32) (main_arg2 : FVec F S1024 .f32) : IVec S8449x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg0
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x256x256 .f32 := Host.absf main_arg1
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : IVec S256x1024 1 := shapeCast S256x1024 main_v8 shapeCasts_S4x256x256_S256x1024
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : IVec S1x1024 1 := broadcastInDim S1x1024 ![1] bcast_S1024_S1x1024_1 main_v12
  let main_v14 : IVec S8449x1024 1 := concatenate S8449x1024 0 [⟨S4096x1024, main_v2⟩, ⟨S4096x1024, main_v5⟩, ⟨S256x1024, main_v9⟩, ⟨S1x1024, main_v13⟩] concatenates_S4096x1024_S4096x1024_S256x1024_S1x1024_S8449x1024_d0
  main_v14
-- ==== Pre_pool_finite.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩
abbrev S256x1024 : Shape := ⟨2, ![256, 1024]⟩
abbrev S1x1024 : Shape := ⟨2, ![1, 1024]⟩
abbrev S8449x1024 : Shape := ⟨2, ![8449, 1024]⟩

class Facts : Prop where
  bcast_S_S4096x1024 : S_.BroadcastsInDim S4096x1024 (![] : Fin 0 → Fin S4096x1024.rank)
  bcast_S_S4x256x256 : S_.BroadcastsInDim S4x256x256 (![] : Fin 0 → Fin S4x256x256.rank)
  shapeCasts_S4x256x256_S256x1024 : S4x256x256.ShapeCasts S256x1024
  bcast_S_S1024 : S_.BroadcastsInDim S1024 (![] : Fin 0 → Fin S1024.rank)
  bcast_S1024_S1x1024_1 : S1024.BroadcastsInDim S1x1024 (![1] : Fin 1 → Fin S1x1024.rank)
  concatenates_S4096x1024_S4096x1024_S256x1024_S1x1024_S8449x1024_d0 : Shape.Concatenates [S4096x1024, S4096x1024, S256x1024, S1x1024] S8449x1024 0

variable [Facts]

def fn {F : FTy → Type} [FloatOps F] (main_arg0 : FVec F S4096x1024 .f32) (main_arg1 : FVec F S4x256x256 .f32) (main_arg2 : FVec F S1024 .f32) (main_arg3 : FVec F S4096x1024 .f32) : IVec S8449x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg3
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x256x256 .f32 := Host.absf main_arg1
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : IVec S256x1024 1 := shapeCast S256x1024 main_v8 shapeCasts_S4x256x256_S256x1024
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : IVec S1x1024 1 := broadcastInDim S1x1024 ![1] bcast_S1024_S1x1024_1 main_v12
  let main_v14 : IVec S8449x1024 1 := concatenate S8449x1024 0 [⟨S4096x1024, main_v2⟩, ⟨S4096x1024, main_v5⟩, ⟨S256x1024, main_v9⟩, ⟨S1x1024, main_v13⟩] concatenates_S4096x1024_S4096x1024_S256x1024_S1x1024_S8449x1024_d0
  main_v14
-- ==== Pre_sandwich_finite.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)

variable [Facts]

def fn_part1 {F : FTy → Type} [FloatOps F] (main_arg3 : FVec F S1024 .f32) (main_v14 : IVec S4096x1024 1) (main_v18 : IVec S1x1024 1) : IVec S4096x1024 1 :=
  let main_v19 : IVec S4096x1024 1 := broadcastInDim S4096x1024 ![0, 1] bcast_S1x1024_S4096x1024_0_1 main_v18
  let main_v20 : IVec S4096x1024 1 := andi main_v14 main_v19
  let main_v21 : FVec F S1024 .f32 := Host.absf main_arg3
  let main_cst_4 : FVec F S_ .f32 := constant S_ .f32 0x7F800000#32
  let main_v22 : FVec F S1024 .f32 := broadcastInDim S1024 ![] bcast_S_S1024 main_cst_4
  let main_v23 : IVec S1024 1 := cmpf .olt main_v21 main_v22
  let main_v24 : IVec S1x1024 1 := broadcastInDim S1x1024 ![1] bcast_S1024_S1x1024_1 main_v23
  let main_v25 : IVec S4096x1024 1 := broadcastInDim S4096x1024 ![0, 1] bcast_S1x1024_S4096x1024_0_1 main_v24
  let main_v26 : IVec S4096x1024 1 := andi main_v20 main_v25
  main_v26

def fn {F : FTy → Type} [FloatOps F] (main_arg0 : FVec F S4096x1024 .f32) (main_arg1 : FVec F S4096x1024 .f32) (main_arg2 : FVec F S1024 .f32) (main_arg3 : FVec F S1024 .f32) (main_arg4 : FVec F S4096x1024 .f32) (main_arg5 : FVec F S4096x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S4096x1024 .f32 := Host.absf main_arg4
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : IVec S4096x1024 1 := andi main_v6 main_v9
  let main_v11 : FVec F S4096x1024 .f32 := Host.absf main_arg5
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : IVec S4096x1024 1 := andi main_v10 main_v13
  let main_v15 : FVec F S1024 .f32 := Host.absf main_arg2
  let main_cst_3 : FVec F S_ .f32 := constant S_ .f32 0x7F800000#32
  let main_v16 : FVec F S1024 .f32 := broadcastInDim S1024 ![] bcast_S_S1024 main_cst_3
  let main_v17 : IVec S1024 1 := cmpf .olt main_v15 main_v16
  let main_v18 : IVec S1x1024 1 := broadcastInDim S1x1024 ![1] bcast_S1024_S1x1024_1 main_v17
  fn_part1 (F := F) main_arg3 main_v14 main_v18
-- ==== Loss.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .bf16⟩
  | .hbm, ⟨101, _⟩ => ⟨S1x1024, .f32⟩
  | .hbm, ⟨102, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_cst_14 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_cst_16 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_v66 : Ref sig .tc := ⟨.hbm, 92, rfl⟩
abbrev main_cst_21 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Attn.lean ====
abbrev S4096x1024 : Shape := ⟨2, ![4096, 1024]⟩
abbrev S4096x2048 : Shape := ⟨2, ![4096, 2048]⟩
abbrev S_ : Shape := ⟨0, ![]⟩
abbrev S256x256 : Shape := ⟨2, ![256, 256]⟩
abbrev S4096x256 : Shape := ⟨2, ![4096, 256]⟩
abbrev S4x16x256x256 : Shape := ⟨4, ![4, 16, 256, 256]⟩
abbrev S1x256 : Shape := ⟨2, ![1, 256]⟩
abbrev S1024x256 : Shape := ⟨2, ![1024, 256]⟩
abbrev S256x1 : Shape := ⟨2, ![256, 1]⟩
abbrev S256 : Shape := ⟨1, ![256]⟩
abbrev S1x1x256x256 : Shape := ⟨4, ![1, 1, 256, 256]⟩
abbrev S3072x256 : Shape := ⟨2, ![3072, 256]⟩
abbrev S256x3072 : Shape := ⟨2, ![256, 3072]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x2048, .bf16⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4x16x256x256, .bf16⟩
  | .local _ .vmem, ⟨15, _⟩ => ⟨S4x16x256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v269 : BitVec 32 := Scalar.muli arg1 c256_i32
  v269
def k0_off1 (i : grid0.Coords) : Fin 2 → Nat :=
  let arg1 : BitVec 32 := BitVec.ofNat 32 (i 1).val
  let c256_i32 : BitVec 32 := 256#32
  let v269 : BitVec 32 := Scalar.muli arg1 c256_i32
  let v270 : BitVec 32 := v269
  let v271 : Index := Scalar.indexCast v270
  let c0_76 : Index := 0#32
  ![v271.toNat, 0]
def k0_mult2 (i : grid0.Coords) : BitVec 32 :=
  let arg1 : BitVec 32 := BitVec.ofNat 32 (i 1).val
  let c256_i32_81 : BitVec 32 := 256#32
  let v278 : BitVec 32 := Scalar.muli arg1 c256_i32_81
  v278
def k0_off2 (i : grid0.Coords) : Fin 4 → Nat :=
  let c0_115 : Index := 0#32
  let arg1 : BitVec 32 := BitVec.ofNat 32 (i 1).val
  let v385 : Index := Scalar.indexCast arg1
  let c0_116 : Index := 0#32
  let c0_117 : Index := 0#32
  ![0, v385.toNat, 0, 0]
def k0_off3 (i : grid0.Coords) : Fin 4 → Nat :=
  let c1 : Index := 1#32
  let arg1 : BitVec 32 := BitVec.ofNat 32 (i 1).val
  let v399 : Index := Scalar.indexCast arg1
  let c0_122 : Index := 0#32
  let c0_123 : Index := 0#32
  ![1, v399.toNat, 0, 0]
def k0_off4 (i : grid0.Coords) : Fin 4 → Nat :=
  let c2 : Index := 2#32
  let arg1 : BitVec 32 := BitVec.ofNat 32 (i 1).val
  let v413 : Index := Scalar.indexCast arg1
  let c0_128 : Index := 0#32
  let c0_129 : Index := 0#32
  ![2, v413.toNat, 0, 0]
def k0_off5 (i : grid0.Coords) : Fin 4 → Nat :=
  let c3 : Index := 3#32
  let arg1 : BitVec 32 := BitVec.ofNat 32 (i 1).val
  let v427 : Index := Scalar.indexCast arg1
  let c0_134 : Index := 0#32
  let c0_135 : Index := 0#32
  ![3, v427.toNat, 0, 0]
def k0_mult3 (i : grid0.Coords) : BitVec 32 :=
  let arg1 : BitVec 32 := BitVec.ofNat 32 (i 1).val
  let c256_i32_140 : BitVec 32 := 256#32
  let v439 : BitVec 32 := Scalar.muli arg1 c256_i32_140
  v439
@[reducible] def k0_t1_loop (i : grid0.Coords) : Scf.Loop 32 :=
  let c0_i32_150 : BitVec 32 := 0#32
  let arg1 : BitVec 32 := BitVec.ofNat 32 (i 1).val
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_152 : BitVec 32 := 1#32
  ⟨c0_i32_150, v467, c1_i32_152⟩
def k0_mult4 (i : grid0.Coords) (k0_t1 : Fin (k0_t1_loop i).trips) : BitVec 32 :=
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let c256_i32_210 : BitVec 32 := 256#32
  let v576 : BitVec 32 := Scalar.muli v575 c256_i32_210
  v576
def k0_off6 (i : grid0.Coords) (k0_t1 : Fin (k0_t1_loop i).trips) : Fin 2 → Nat :=
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let c256_i32_210 : BitVec 32 := 256#32
  let v576 : BitVec 32 := Scalar.muli v575 c256_i32_210
  let v577 : BitVec 32 := v576
  let v578 : Index := Scalar.indexCast v577
  let c0_211 : Index := 0#32
  ![v578.toNat, 0]
def k0_mult5 (i : grid0.Coords) (k0_t1 : Fin (k0_t1_loop i).trips) : BitVec 32 :=
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let c256_i32_216 : BitVec 32 := 256#32
  let v585 : BitVec 32 := Scalar.muli v575 c256_i32_216
  v585
def k0_off7 (i : grid0.Coords) (k0_t1 : Fin (k0_t1_loop i).trips) : Fin 4 → Nat :=
  let c0_242 : Index := 0#32
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let v676 : Index := Scalar.indexCast v575
  let c0_243 : Index := 0#32
  let c0_244 : Index := 0#32
  ![0, v676.toNat, 0, 0]
def k0_off8 (i : grid0.Coords) (k0_t1 : Fin (k0_t1_loop i).trips) : Fin 4 → Nat :=
  let c1_248 : Index := 1#32
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let v688 : Index := Scalar.indexCast v575
  let c0_249 : Index := 0#32
  let c0_250 : Index := 0#32
  ![1, v688.toNat, 0, 0]
def k0_off9 (i : grid0.Coords) (k0_t1 : Fin (k0_t1_loop i).trips) : Fin 4 → Nat :=
  let c2_254 : Index := 2#32
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let v700 : Index := Scalar.indexCast v575
  let c0_255 : Index := 0#32
  let c0_256 : Index := 0#32
  ![2, v700.toNat, 0, 0]
def k0_off10 (i : grid0.Coords) (k0_t1 : Fin (k0_t1_loop i).trips) : Fin 4 → Nat :=
  let c3_260 : Index := 3#32
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let v712 : Index := Scalar.indexCast v575
  let c0_261 : Index := 0#32
  let c0_262 : Index := 0#32
  ![3, v712.toNat, 0, 0]
def k0_mult6 (i : grid0.Coords) (k0_t1 : Fin (k0_t1_loop i).trips) : BitVec 32 :=
  let arg1 : BitVec 32 := BitVec.ofNat 32 (i 1).val
  let c1_i32_209 : BitVec 32 := 1#32
  let v574 : BitVec 32 := Scalar.subi arg1 c1_i32_209
  let c0_i32_150 : BitVec 32 := 0#32
  let c1_i32_152 : BitVec 32 := 1#32
  let arg11 : BitVec 32 := Scf.iv c0_i32_150 c1_i32_152 k0_t1
  let v575 : BitVec 32 := Scalar.subi v574 arg11
  let c256_i32_266 : BitVec 32 := 256#32
  let v722 : BitVec 32 := Scalar.muli v575 c256_i32_266
  v722
@[reducible] def k0_t2_loop (i : grid0.Coords) : Scf.Loop 32 :=
  let c0_i32_150 : BitVec 32 := 0#32
  let arg1 : BitVec 32 := BitVec.ofNat 32 (i 1).val
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let v464 : BitVec 32 := Scalar.addi c0_i32_150 v463
  let c1_i32_153 : BitVec 32 := 1#32
  ⟨v467, v464, c1_i32_153⟩
def k0_mult7 (i : grid0.Coords) (k0_t2 : Fin (k0_t2_loop i).trips) : BitVec 32 :=
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let c256_i32_210 : BitVec 32 := 256#32
  let v576 : BitVec 32 := Scalar.muli v575 c256_i32_210
  v576
def k0_off11 (i : grid0.Coords) (k0_t2 : Fin (k0_t2_loop i).trips) : Fin 2 → Nat :=
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let c256_i32_210 : BitVec 32 := 256#32
  let v576 : BitVec 32 := Scalar.muli v575 c256_i32_210
  let v577 : BitVec 32 := v576
  let v578 : Index := Scalar.indexCast v577
  let c0_211 : Index := 0#32
  ![v578.toNat, 0]
def k0_mult8 (i : grid0.Coords) (k0_t2 : Fin (k0_t2_loop i).trips) : BitVec 32 :=
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let c256_i32_216 : BitVec 32 := 256#32
  let v585 : BitVec 32 := Scalar.muli v575 c256_i32_216
  v585
def k0_off12 (i : grid0.Coords) (k0_t2 : Fin (k0_t2_loop i).trips) : Fin 4 → Nat :=
  let c0_242 : Index := 0#32
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let v676 : Index := Scalar.indexCast v575
  let c0_243 : Index := 0#32
  let c0_244 : Index := 0#32
  ![0, v676.toNat, 0, 0]
def k0_off13 (i : grid0.Coords) (k0_t2 : Fin (k0_t2_loop i).trips) : Fin 4 → Nat :=
  let c1_248 : Index := 1#32
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let v688 : Index := Scalar.indexCast v575
  let c0_249 : Index := 0#32
  let c0_250 : Index := 0#32
  ![1, v688.toNat, 0, 0]
def k0_off14 (i : grid0.Coords) (k0_t2 : Fin (k0_t2_loop i).trips) : Fin 4 → Nat :=
  let c2_254 : Index := 2#32
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let v700 : Index := Scalar.indexCast v575
  let c0_255 : Index := 0#32
  let c0_256 : Index := 0#32
  ![2, v700.toNat, 0, 0]
def k0_off15 (i : grid0.Coords) (k0_t2 : Fin (k0_t2_loop i).trips) : Fin 4 → Nat :=
  let c3_260 : Index := 3#32
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let v712 : Index := Scalar.indexCast v575
  let c0_261 : Index := 0#32
  let c0_262 : Index := 0#32
  ![3, v712.toNat, 0, 0]
def k0_mult9 (i : grid0.Coords) (k0_t2 : Fin (k0_t2_loop i).trips) : BitVec 32 :=
  let arg1 : BitVec 32 := BitVec.ofNat 32 (i 1).val
  let c1_i32_209 : BitVec 32 := 1#32
  let v574 : BitVec 32 := Scalar.subi arg1 c1_i32_209
  let c0_i32_150 : BitVec 32 := 0#32
  let c3_i32_144 : BitVec 32 := 3#32
  let c0_i32_145 : BitVec 32 := 0#32
  let v453 : BitVec 1 := Scalar.cmpi .eq c3_i32_144 c0_i32_145
  let c1_i32_146 : BitVec 32 := 1#32
  let v454 : BitVec 32 := Scalar.select v453 c1_i32_146 c3_i32_144
  let v455 : BitVec 32 := Scalar.remsi arg1 v454
  let c0_i32_148 : BitVec 32 := 0#32
  let v457 : BitVec 1 := Scalar.cmpi .slt v455 c0_i32_148
  let c0_i32_149 : BitVec 32 := 0#32
  let v458 : BitVec 1 := Scalar.cmpi .slt v454 c0_i32_149
  let v459 : BitVec 1 := Scalar.xori v457 v458
  let c0_i32_147 : BitVec 32 := 0#32
  let v456 : BitVec 1 := Scalar.cmpi .ne v455 c0_i32_147
  let v460 : BitVec 1 := Scalar.andi v459 v456
  let v461 : BitVec 32 := Scalar.addi v455 v454
  let v462 : BitVec 32 := Scalar.select v460 v461 v455
  let v463 : BitVec 32 := Scalar.subi v462 c0_i32_150
  let c1_i32_151 : BitVec 32 := 1#32
  let v465 : BitVec 32 := Scalar.divsi v463 c1_i32_151
  let v466 : BitVec 32 := Scalar.muli v465 c1_i32_151
  let v467 : BitVec 32 := Scalar.addi c0_i32_150 v466
  let c1_i32_153 : BitVec 32 := 1#32
  let arg11 : BitVec 32 := Scf.iv v467 c1_i32_153 k0_t2
  let v575 : BitVec 32 := Scalar.subi v574 arg11
  let c256_i32_266 : BitVec 32 := 256#32
  let v722 : BitVec 32 := Scalar.muli v575 c256_i32_266
  v722
@[reducible] def k0_t3_loop (i : grid0.Coords) : Scf.Loop 32 :=
  let c0_i32_168 : BitVec 32 := 0#32
  let arg1 : BitVec 32 := BitVec.ofNat 32 (i 1).val
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_170 : BitVec 32 := 1#32
  ⟨c0_i32_168, v503, c1_i32_170⟩
def k0_mult10 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let c0_i32_210 : BitVec 32 := 0#32
  let v576 : BitVec 32 := Scalar.subi v575 c0_i32_210
  let c256_i32_215 : BitVec 32 := 256#32
  let v583 : BitVec 32 := Scalar.muli v576 c256_i32_215
  v583
def k0_off16 (i : grid0.Coords) (k0_t3 : Fin (k0_t3_loop i).trips) (c0_i32_210 : BitVec 32) : Fin 2 → Nat :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let v576 : BitVec 32 := Scalar.subi v575 c0_i32_210
  let c256_i32_215 : BitVec 32 := 256#32
  let v583 : BitVec 32 := Scalar.muli v576 c256_i32_215
  let v584 : BitVec 32 := v583
  let v585 : Index := Scalar.indexCast v584
  let c0_216 : Index := 0#32
  ![v585.toNat, 0]
def k0_mult11 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_211 : BitVec 32 := 3#32
  let c0_i32_168 : BitVec 32 := 0#32
  let c1_i32_170 : BitVec 32 := 1#32
  let arg11 : BitVec 32 := Scf.iv c0_i32_168 c1_i32_170 k0_t3
  let v577 : BitVec 32 := Scalar.muli c3_i32_211 arg11
  let v578 : BitVec 32 := Scalar.subi v481 v577
  let c1_i32_212 : BitVec 32 := 1#32
  let v579 : BitVec 32 := Scalar.subi v578 c1_i32_212
  let c256_i32_221 : BitVec 32 := 256#32
  let v592 : BitVec 32 := Scalar.muli v579 c256_i32_221
  v592
def k0_mult12 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_213 : BitVec 32 := 3#32
  let c0_i32_168 : BitVec 32 := 0#32
  let c1_i32_170 : BitVec 32 := 1#32
  let arg11 : BitVec 32 := Scf.iv c0_i32_168 c1_i32_170 k0_t3
  let v580 : BitVec 32 := Scalar.muli c3_i32_213 arg11
  let v581 : BitVec 32 := Scalar.subi v481 v580
  let c2_i32_214 : BitVec 32 := 2#32
  let v582 : BitVec 32 := Scalar.subi v581 c2_i32_214
  let c256_i32_227 : BitVec 32 := 256#32
  let v601 : BitVec 32 := Scalar.muli v582 c256_i32_227
  v601
def k0_mult13 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let c0_i32_210 : BitVec 32 := 0#32
  let v576 : BitVec 32 := Scalar.subi v575 c0_i32_210
  let c256_i32_233 : BitVec 32 := 256#32
  let v610 : BitVec 32 := Scalar.muli v576 c256_i32_233
  v610
def k0_mult14 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_211 : BitVec 32 := 3#32
  let c0_i32_168 : BitVec 32 := 0#32
  let c1_i32_170 : BitVec 32 := 1#32
  let arg11 : BitVec 32 := Scf.iv c0_i32_168 c1_i32_170 k0_t3
  let v577 : BitVec 32 := Scalar.muli c3_i32_211 arg11
  let v578 : BitVec 32 := Scalar.subi v481 v577
  let c1_i32_212 : BitVec 32 := 1#32
  let v579 : BitVec 32 := Scalar.subi v578 c1_i32_212
  let c256_i32_239 : BitVec 32 := 256#32
  let v619 : BitVec 32 := Scalar.muli v579 c256_i32_239
  v619
def k0_mult15 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_213 : BitVec 32 := 3#32
  let c0_i32_168 : BitVec 32 := 0#32
  let c1_i32_170 : BitVec 32 := 1#32
  let arg11 : BitVec 32 := Scf.iv c0_i32_168 c1_i32_170 k0_t3
  let v580 : BitVec 32 := Scalar.muli c3_i32_213 arg11
  let v581 : BitVec 32 := Scalar.subi v481 v580
  let c2_i32_214 : BitVec 32 := 2#32
  let v582 : BitVec 32 := Scalar.subi v581 c2_i32_214
  let c256_i32_245 : BitVec 32 := 256#32
  let v628 : BitVec 32 := Scalar.muli v582 c256_i32_245
  v628
def k0_off17 (i : grid0.Coords) (k0_t3 : Fin (k0_t3_loop i).trips) (c0_i32_210 : BitVec 32) : Fin 4 → Nat :=
  let c0_311 : Index := 0#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let v576 : BitVec 32 := Scalar.subi v575 c0_i32_210
  let v879 : Index := Scalar.indexCast v576
  let c0_312 : Index := 0#32
  let c0_313 : Index := 0#32
  ![0, v879.toNat, 0, 0]
def k0_off18 (i : grid0.Coords) (k0_t3 : Fin (k0_t3_loop i).trips) (c0_i32_210 : BitVec 32) : Fin 4 → Nat :=
  let c1_317 : Index := 1#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let v576 : BitVec 32 := Scalar.subi v575 c0_i32_210
  let v891 : Index := Scalar.indexCast v576
  let c0_318 : Index := 0#32
  let c0_319 : Index := 0#32
  ![1, v891.toNat, 0, 0]
def k0_off19 (i : grid0.Coords) (k0_t3 : Fin (k0_t3_loop i).trips) (c0_i32_210 : BitVec 32) : Fin 4 → Nat :=
  let c2_323 : Index := 2#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let v576 : BitVec 32 := Scalar.subi v575 c0_i32_210
  let v903 : Index := Scalar.indexCast v576
  let c0_324 : Index := 0#32
  let c0_325 : Index := 0#32
  ![2, v903.toNat, 0, 0]
def k0_off20 (i : grid0.Coords) (k0_t3 : Fin (k0_t3_loop i).trips) (c0_i32_210 : BitVec 32) : Fin 4 → Nat :=
  let c3_329 : Index := 3#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let v576 : BitVec 32 := Scalar.subi v575 c0_i32_210
  let v915 : Index := Scalar.indexCast v576
  let c0_330 : Index := 0#32
  let c0_331 : Index := 0#32
  ![3, v915.toNat, 0, 0]
def k0_mult16 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c1_i32_170 : BitVec 32 := 1#32
  let arg11 : BitVec 32 := Scf.iv c0_i32_168 c1_i32_170 k0_t3
  let v574 : BitVec 32 := Scalar.muli c3_i32_209 arg11
  let v575 : BitVec 32 := Scalar.subi v481 v574
  let c0_i32_210 : BitVec 32 := 0#32
  let v576 : BitVec 32 := Scalar.subi v575 c0_i32_210
  let c256_i32_383 : BitVec 32 := 256#32
  let v1021 : BitVec 32 := Scalar.muli v576 c256_i32_383
  v1021
def k0_mult17 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_211 : BitVec 32 := 3#32
  let c0_i32_168 : BitVec 32 := 0#32
  let c1_i32_170 : BitVec 32 := 1#32
  let arg11 : BitVec 32 := Scf.iv c0_i32_168 c1_i32_170 k0_t3
  let v577 : BitVec 32 := Scalar.muli c3_i32_211 arg11
  let v578 : BitVec 32 := Scalar.subi v481 v577
  let c1_i32_212 : BitVec 32 := 1#32
  let v579 : BitVec 32 := Scalar.subi v578 c1_i32_212
  let c256_i32_387 : BitVec 32 := 256#32
  let v1035 : BitVec 32 := Scalar.muli v579 c256_i32_387
  v1035
def k0_mult18 (i : grid0.Coords) (k0_t3 : Fin (k0_t3_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_213 : BitVec 32 := 3#32
  let c0_i32_168 : BitVec 32 := 0#32
  let c1_i32_170 : BitVec 32 := 1#32
  let arg11 : BitVec 32 := Scf.iv c0_i32_168 c1_i32_170 k0_t3
  let v580 : BitVec 32 := Scalar.muli c3_i32_213 arg11
  let v581 : BitVec 32 := Scalar.subi v481 v580
  let c2_i32_214 : BitVec 32 := 2#32
  let v582 : BitVec 32 := Scalar.subi v581 c2_i32_214
  let c256_i32_391 : BitVec 32 := 256#32
  let v1049 : BitVec 32 := Scalar.muli v582 c256_i32_391
  v1049
@[reducible] def k0_t4_loop (i : grid0.Coords) : Scf.Loop 32 :=
  let c0_i32_168 : BitVec 32 := 0#32
  let arg1 : BitVec 32 := BitVec.ofNat 32 (i 1).val
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let v500 : BitVec 32 := Scalar.addi c0_i32_168 v499
  let c1_i32_171 : BitVec 32 := 1#32
  ⟨v503, v500, c1_i32_171⟩
def k0_mult19 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let c0_i32_210 : BitVec 32 := 0#32
  let v576 : BitVec 32 := Scalar.subi v575 c0_i32_210
  let c256_i32_215 : BitVec 32 := 256#32
  let v583 : BitVec 32 := Scalar.muli v576 c256_i32_215
  v583
def k0_off21 (i : grid0.Coords) (k0_t4 : Fin (k0_t4_loop i).trips) (c0_i32_210 : BitVec 32) : Fin 2 → Nat :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let v576 : BitVec 32 := Scalar.subi v575 c0_i32_210
  let c256_i32_215 : BitVec 32 := 256#32
  let v583 : BitVec 32 := Scalar.muli v576 c256_i32_215
  let v584 : BitVec 32 := v583
  let v585 : Index := Scalar.indexCast v584
  let c0_216 : Index := 0#32
  ![v585.toNat, 0]
def k0_mult20 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_211 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v577 : BitVec 32 := Scalar.muli c3_i32_211 arg11
  let v578 : BitVec 32 := Scalar.subi v481 v577
  let c1_i32_212 : BitVec 32 := 1#32
  let v579 : BitVec 32 := Scalar.subi v578 c1_i32_212
  let c256_i32_221 : BitVec 32 := 256#32
  let v592 : BitVec 32 := Scalar.muli v579 c256_i32_221
  v592
def k0_mult21 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_213 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v580 : BitVec 32 := Scalar.muli c3_i32_213 arg11
  let v581 : BitVec 32 := Scalar.subi v481 v580
  let c2_i32_214 : BitVec 32 := 2#32
  let v582 : BitVec 32 := Scalar.subi v581 c2_i32_214
  let c256_i32_227 : BitVec 32 := 256#32
  let v601 : BitVec 32 := Scalar.muli v582 c256_i32_227
  v601
def k0_mult22 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let c0_i32_210 : BitVec 32 := 0#32
  let v576 : BitVec 32 := Scalar.subi v575 c0_i32_210
  let c256_i32_233 : BitVec 32 := 256#32
  let v610 : BitVec 32 := Scalar.muli v576 c256_i32_233
  v610
def k0_mult23 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_211 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v577 : BitVec 32 := Scalar.muli c3_i32_211 arg11
  let v578 : BitVec 32 := Scalar.subi v481 v577
  let c1_i32_212 : BitVec 32 := 1#32
  let v579 : BitVec 32 := Scalar.subi v578 c1_i32_212
  let c256_i32_239 : BitVec 32 := 256#32
  let v619 : BitVec 32 := Scalar.muli v579 c256_i32_239
  v619
def k0_mult24 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_213 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v580 : BitVec 32 := Scalar.muli c3_i32_213 arg11
  let v581 : BitVec 32 := Scalar.subi v481 v580
  let c2_i32_214 : BitVec 32 := 2#32
  let v582 : BitVec 32 := Scalar.subi v581 c2_i32_214
  let c256_i32_245 : BitVec 32 := 256#32
  let v628 : BitVec 32 := Scalar.muli v582 c256_i32_245
  v628
def k0_off22 (i : grid0.Coords) (k0_t4 : Fin (k0_t4_loop i).trips) (c0_i32_210 : BitVec 32) : Fin 4 → Nat :=
  let c0_311 : Index := 0#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let v576 : BitVec 32 := Scalar.subi v575 c0_i32_210
  let v879 : Index := Scalar.indexCast v576
  let c0_312 : Index := 0#32
  let c0_313 : Index := 0#32
  ![0, v879.toNat, 0, 0]
def k0_off23 (i : grid0.Coords) (k0_t4 : Fin (k0_t4_loop i).trips) (c0_i32_210 : BitVec 32) : Fin 4 → Nat :=
  let c1_317 : Index := 1#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let v576 : BitVec 32 := Scalar.subi v575 c0_i32_210
  let v891 : Index := Scalar.indexCast v576
  let c0_318 : Index := 0#32
  let c0_319 : Index := 0#32
  ![1, v891.toNat, 0, 0]
def k0_off24 (i : grid0.Coords) (k0_t4 : Fin (k0_t4_loop i).trips) (c0_i32_210 : BitVec 32) : Fin 4 → Nat :=
  let c2_323 : Index := 2#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let v576 : BitVec 32 := Scalar.subi v575 c0_i32_210
  let v903 : Index := Scalar.indexCast v576
  let c0_324 : Index := 0#32
  let c0_325 : Index := 0#32
  ![2, v903.toNat, 0, 0]
def k0_off25 (i : grid0.Coords) (k0_t4 : Fin (k0_t4_loop i).trips) (c0_i32_210 : BitVec 32) : Fin 4 → Nat :=
  let c3_329 : Index := 3#32
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let v576 : BitVec 32 := Scalar.subi v575 c0_i32_210
  let v915 : Index := Scalar.indexCast v576
  let c0_330 : Index := 0#32
  let c0_331 : Index := 0#32
  ![3, v915.toNat, 0, 0]
def k0_mult25 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_209 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v574 : BitVec 32 := Scalar.muli c3_i32_209 arg11
  let v575 : BitVec 32 := Scalar.subi v481 v574
  let c0_i32_210 : BitVec 32 := 0#32
  let v576 : BitVec 32 := Scalar.subi v575 c0_i32_210
  let c256_i32_383 : BitVec 32 := 256#32
  let v1021 : BitVec 32 := Scalar.muli v576 c256_i32_383
  v1021
def k0_mult26 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_211 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v577 : BitVec 32 := Scalar.muli c3_i32_211 arg11
  let v578 : BitVec 32 := Scalar.subi v481 v577
  let c1_i32_212 : BitVec 32 := 1#32
  let v579 : BitVec 32 := Scalar.subi v578 c1_i32_212
  let c256_i32_387 : BitVec 32 := 256#32
  let v1035 : BitVec 32 := Scalar.muli v579 c256_i32_387
  v1035
def k0_mult27 (i : grid0.Coords) (k0_t4 : Fin (k0_t4_loop i).trips) : BitVec 32 :=
  let arg1 : BitVec 32 := BitVec.ofNat 32 (i 1).val
  let c1_i32_154 : BitVec 32 := 1#32
  let v470 : BitVec 32 := Scalar.subi arg1 c1_i32_154
  let c3_i32_155 : BitVec 32 := 3#32
  let c0_i32_156 : BitVec 32 := 0#32
  let v471 : BitVec 1 := Scalar.cmpi .eq c3_i32_155 c0_i32_156
  let c1_i32_157 : BitVec 32 := 1#32
  let v472 : BitVec 32 := Scalar.select v471 c1_i32_157 c3_i32_155
  let v473 : BitVec 32 := Scalar.remsi arg1 v472
  let c0_i32_159 : BitVec 32 := 0#32
  let v475 : BitVec 1 := Scalar.cmpi .slt v473 c0_i32_159
  let c0_i32_160 : BitVec 32 := 0#32
  let v476 : BitVec 1 := Scalar.cmpi .slt v472 c0_i32_160
  let v477 : BitVec 1 := Scalar.xori v475 v476
  let c0_i32_158 : BitVec 32 := 0#32
  let v474 : BitVec 1 := Scalar.cmpi .ne v473 c0_i32_158
  let v478 : BitVec 1 := Scalar.andi v477 v474
  let v479 : BitVec 32 := Scalar.addi v473 v472
  let v480 : BitVec 32 := Scalar.select v478 v479 v473
  let v481 : BitVec 32 := Scalar.subi v470 v480
  let c3_i32_213 : BitVec 32 := 3#32
  let c0_i32_168 : BitVec 32 := 0#32
  let c0_i32_162 : BitVec 32 := 0#32
  let v483 : BitVec 1 := Scalar.cmpi .sgt arg1 c0_i32_162
  let v484 : BitVec 32 := Scalar.extui v483
  let c0_i32_163 : BitVec 32 := 0#32
  let v485 : BitVec 1 := Scalar.cmpi .slt arg1 c0_i32_163
  let v486 : BitVec 32 := Scalar.extui v485
  let v487 : BitVec 32 := Scalar.subi v484 v486
  let c3_i32_161 : BitVec 32 := 3#32
  let c0_i32_164 : BitVec 32 := 0#32
  let v488 : BitVec 1 := Scalar.cmpi .sgt c3_i32_161 c0_i32_164
  let v489 : BitVec 32 := Scalar.extui v488
  let c0_i32_165 : BitVec 32 := 0#32
  let v490 : BitVec 1 := Scalar.cmpi .slt c3_i32_161 c0_i32_165
  let v491 : BitVec 32 := Scalar.extui v490
  let v492 : BitVec 32 := Scalar.subi v489 v491
  let v493 : BitVec 1 := Scalar.cmpi .ne v487 v492
  let v494 : BitVec 32 := Scalar.remsi arg1 c3_i32_161
  let c0_i32_166 : BitVec 32 := 0#32
  let v495 : BitVec 1 := Scalar.cmpi .ne v494 c0_i32_166
  let v496 : BitVec 1 := Scalar.andi v493 v495
  let v482 : BitVec 32 := Scalar.divsi arg1 c3_i32_161
  let c1_i32_167 : BitVec 32 := 1#32
  let v497 : BitVec 32 := Scalar.subi v482 c1_i32_167
  let v498 : BitVec 32 := Scalar.select v496 v497 v482
  let v499 : BitVec 32 := Scalar.subi v498 c0_i32_168
  let c1_i32_169 : BitVec 32 := 1#32
  let v501 : BitVec 32 := Scalar.divsi v499 c1_i32_169
  let v502 : BitVec 32 := Scalar.muli v501 c1_i32_169
  let v503 : BitVec 32 := Scalar.addi c0_i32_168 v502
  let c1_i32_171 : BitVec 32 := 1#32
  let arg11 : BitVec 32 := Scf.iv v503 c1_i32_171 k0_t4
  let v580 : BitVec 32 := Scalar.muli c3_i32_213 arg11
  let v581 : BitVec 32 := Scalar.subi v481 v580
  let c2_i32_214 : BitVec 32 := 2#32
  let v582 : BitVec 32 := Scalar.subi v581 c2_i32_214
  let c256_i32_391 : BitVec 32 := 256#32
  let v1049 : BitVec 32 := Scalar.muli v582 c256_i32_391
  v1049
@[reducible] def k0_t5_loop (i : grid0.Coords) : Scf.Loop 32 :=
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_184 : BitVec 32 := 1#32
  ⟨c0_i32_182, v530, c1_i32_184⟩
def k0_off26 (i : grid0.Coords) (k0_t5 : Fin (k0_t5_loop i).trips) (c0_i32_210 : BitVec 32) : Fin 4 → Nat :=
  let c0_215 : Index := 0#32
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let v575 : BitVec 32 := Scalar.addi v574 c0_i32_210
  let v580 : Index := Scalar.indexCast v575
  let c0_216 : Index := 0#32
  let c0_217 : Index := 0#32
  ![0, v580.toNat, 0, 0]
def k0_off27 (i : grid0.Coords) (k0_t5 : Fin (k0_t5_loop i).trips) (c0_i32_210 : BitVec 32) : Fin 4 → Nat :=
  let c1_219 : Index := 1#32
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let v575 : BitVec 32 := Scalar.addi v574 c0_i32_210
  let v584 : Index := Scalar.indexCast v575
  let c0_220 : Index := 0#32
  let c0_221 : Index := 0#32
  ![1, v584.toNat, 0, 0]
def k0_off28 (i : grid0.Coords) (k0_t5 : Fin (k0_t5_loop i).trips) (c0_i32_210 : BitVec 32) : Fin 4 → Nat :=
  let c2_223 : Index := 2#32
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let v575 : BitVec 32 := Scalar.addi v574 c0_i32_210
  let v588 : Index := Scalar.indexCast v575
  let c0_224 : Index := 0#32
  let c0_225 : Index := 0#32
  ![2, v588.toNat, 0, 0]
def k0_off29 (i : grid0.Coords) (k0_t5 : Fin (k0_t5_loop i).trips) (c0_i32_210 : BitVec 32) : Fin 4 → Nat :=
  let c3_227 : Index := 3#32
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let v575 : BitVec 32 := Scalar.addi v574 c0_i32_210
  let v592 : Index := Scalar.indexCast v575
  let c0_228 : Index := 0#32
  let c0_229 : Index := 0#32
  ![3, v592.toNat, 0, 0]
def k0_mult28 (i : grid0.Coords) (k0_t5 : Fin (k0_t5_loop i).trips) : BitVec 32 :=
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let c0_i32_210 : BitVec 32 := 0#32
  let v575 : BitVec 32 := Scalar.addi v574 c0_i32_210
  let c256_i32_263 : BitVec 32 := 256#32
  let v628 : BitVec 32 := Scalar.muli v575 c256_i32_263
  v628
def k0_off30 (i : grid0.Coords) (k0_t5 : Fin (k0_t5_loop i).trips) (c0_i32_210 : BitVec 32) : Fin 2 → Nat :=
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let v575 : BitVec 32 := Scalar.addi v574 c0_i32_210
  let c256_i32_263 : BitVec 32 := 256#32
  let v628 : BitVec 32 := Scalar.muli v575 c256_i32_263
  let v629 : BitVec 32 := v628
  let v630 : Index := Scalar.indexCast v629
  let c0_264 : Index := 0#32
  ![v630.toNat, 0]
def k0_mult29 (i : grid0.Coords) (k0_t5 : Fin (k0_t5_loop i).trips) : BitVec 32 :=
  let c3_i32_211 : BitVec 32 := 3#32
  let c0_i32_182 : BitVec 32 := 0#32
  let c1_i32_184 : BitVec 32 := 1#32
  let arg11 : BitVec 32 := Scf.iv c0_i32_182 c1_i32_184 k0_t5
  let v576 : BitVec 32 := Scalar.muli c3_i32_211 arg11
  let c1_i32_212 : BitVec 32 := 1#32
  let v577 : BitVec 32 := Scalar.addi v576 c1_i32_212
  let c256_i32_301 : BitVec 32 := 256#32
  let v755 : BitVec 32 := Scalar.muli v577 c256_i32_301
  v755
def k0_mult30 (i : grid0.Coords) (k0_t5 : Fin (k0_t5_loop i).trips) : BitVec 32 :=
  let c3_i32_213 : BitVec 32 := 3#32
  let c0_i32_182 : BitVec 32 := 0#32
  let c1_i32_184 : BitVec 32 := 1#32
  let arg11 : BitVec 32 := Scf.iv c0_i32_182 c1_i32_184 k0_t5
  let v578 : BitVec 32 := Scalar.muli c3_i32_213 arg11
  let c2_i32_214 : BitVec 32 := 2#32
  let v579 : BitVec 32 := Scalar.addi v578 c2_i32_214
  let c256_i32_339 : BitVec 32 := 256#32
  let v882 : BitVec 32 := Scalar.muli v579 c256_i32_339
  v882
def k0_mult31 (i : grid0.Coords) (k0_t5 : Fin (k0_t5_loop i).trips) : BitVec 32 :=
  let c3_i32_209 : BitVec 32 := 3#32
  let c0_i32_182 : BitVec 32 := 0#32
  let c1_i32_184 : BitVec 32 := 1#32
  let arg11 : BitVec 32 := Scf.iv c0_i32_182 c1_i32_184 k0_t5
  let v574 : BitVec 32 := Scalar.muli c3_i32_209 arg11
  let c0_i32_210 : BitVec 32 := 0#32
  let v575 : BitVec 32 := Scalar.addi v574 c0_i32_210
  let c256_i32_462 : BitVec 32 := 256#32
  let v1217 : BitVec 32 := Scalar.muli v575 c256_i32_462
  v1217
def k0_mult32 (i : grid0.Coords) (k0_t5 : Fin (k0_t5_loop i).trips) : BitVec 32 :=
  let c3_i32_211 : BitVec 32 := 3#32
  let c0_i32_182 : BitVec 32 := 0#32
  let c1_i32_184 : BitVec 32 := 1#32
  let arg11 : BitVec 32 := Scf.iv c0_i32_182 c1_i32_184 k0_t5
  let v576 : BitVec 32 := Scalar.muli c3_i32_211 arg11
  let c1_i32_212 : BitVec 32 := 1#32
  let v577 : BitVec 32 := Scalar.addi v576 c1_i32_212
  let c256_i32_466 : BitVec 32 := 256#32
  let v1227 : BitVec 32 := Scalar.muli v577 c256_i32_466
  v1227
def k0_mult33 (i : grid0.Coords) (k0_t5 : Fin (k0_t5_loop i).trips) : BitVec 32 :=
  let c3_i32_213 : BitVec 32 := 3#32
  let c0_i32_182 : BitVec 32 := 0#32
  let c1_i32_184 : BitVec 32 := 1#32
  let arg11 : BitVec 32 := Scf.iv c0_i32_182 c1_i32_184 k0_t5
  let v578 : BitVec 32 := Scalar.muli c3_i32_213 arg11
  let c2_i32_214 : BitVec 32 := 2#32
  let v579 : BitVec 32 := Scalar.addi v578 c2_i32_214
  let c256_i32_470 : BitVec 32 := 256#32
  let v1237 : BitVec 32 := Scalar.muli v579 c256_i32_470
  v1237
@[reducible] def k0_t6_loop (i : grid0.Coords) : Scf.Loop 32 :=
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let v527 : BitVec 32 := Scalar.addi c0_i32_182 v526
  let c1_i32_185 : BitVec 32 := 1#32
  ⟨v530, v527, c1_i32_185⟩
def k0_off31 (i : grid0.Coords) (k0_t6 : Fin (k0_t6_loop i).trips) (c0_i32_210 : BitVec 32) : Fin 4 → Nat :=
  let c0_215 : Index := 0#32
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let v575 : BitVec 32 := Scalar.addi v574 c0_i32_210
  let v580 : Index := Scalar.indexCast v575
  let c0_216 : Index := 0#32
  let c0_217 : Index := 0#32
  ![0, v580.toNat, 0, 0]
def k0_off32 (i : grid0.Coords) (k0_t6 : Fin (k0_t6_loop i).trips) (c0_i32_210 : BitVec 32) : Fin 4 → Nat :=
  let c1_219 : Index := 1#32
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let v575 : BitVec 32 := Scalar.addi v574 c0_i32_210
  let v584 : Index := Scalar.indexCast v575
  let c0_220 : Index := 0#32
  let c0_221 : Index := 0#32
  ![1, v584.toNat, 0, 0]
def k0_off33 (i : grid0.Coords) (k0_t6 : Fin (k0_t6_loop i).trips) (c0_i32_210 : BitVec 32) : Fin 4 → Nat :=
  let c2_223 : Index := 2#32
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let v575 : BitVec 32 := Scalar.addi v574 c0_i32_210
  let v588 : Index := Scalar.indexCast v575
  let c0_224 : Index := 0#32
  let c0_225 : Index := 0#32
  ![2, v588.toNat, 0, 0]
def k0_off34 (i : grid0.Coords) (k0_t6 : Fin (k0_t6_loop i).trips) (c0_i32_210 : BitVec 32) : Fin 4 → Nat :=
  let c3_227 : Index := 3#32
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let v575 : BitVec 32 := Scalar.addi v574 c0_i32_210
  let v592 : Index := Scalar.indexCast v575
  let c0_228 : Index := 0#32
  let c0_229 : Index := 0#32
  ![3, v592.toNat, 0, 0]
def k0_mult34 (i : grid0.Coords) (k0_t6 : Fin (k0_t6_loop i).trips) : BitVec 32 :=
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let c0_i32_210 : BitVec 32 := 0#32
  let v575 : BitVec 32 := Scalar.addi v574 c0_i32_210
  let c256_i32_263 : BitVec 32 := 256#32
  let v628 : BitVec 32 := Scalar.muli v575 c256_i32_263
  v628
def k0_off35 (i : grid0.Coords) (k0_t6 : Fin (k0_t6_loop i).trips) (c0_i32_210 : BitVec 32) : Fin 2 → Nat :=
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let v575 : BitVec 32 := Scalar.addi v574 c0_i32_210
  let c256_i32_263 : BitVec 32 := 256#32
  let v628 : BitVec 32 := Scalar.muli v575 c256_i32_263
  let v629 : BitVec 32 := v628
  let v630 : Index := Scalar.indexCast v629
  let c0_264 : Index := 0#32
  ![v630.toNat, 0]
def k0_mult35 (i : grid0.Coords) (k0_t6 : Fin (k0_t6_loop i).trips) : BitVec 32 :=
  let c3_i32_211 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v576 : BitVec 32 := Scalar.muli c3_i32_211 arg11
  let c1_i32_212 : BitVec 32 := 1#32
  let v577 : BitVec 32 := Scalar.addi v576 c1_i32_212
  let c256_i32_301 : BitVec 32 := 256#32
  let v755 : BitVec 32 := Scalar.muli v577 c256_i32_301
  v755
def k0_mult36 (i : grid0.Coords) (k0_t6 : Fin (k0_t6_loop i).trips) : BitVec 32 :=
  let c3_i32_213 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v578 : BitVec 32 := Scalar.muli c3_i32_213 arg11
  let c2_i32_214 : BitVec 32 := 2#32
  let v579 : BitVec 32 := Scalar.addi v578 c2_i32_214
  let c256_i32_339 : BitVec 32 := 256#32
  let v882 : BitVec 32 := Scalar.muli v579 c256_i32_339
  v882
def k0_mult37 (i : grid0.Coords) (k0_t6 : Fin (k0_t6_loop i).trips) : BitVec 32 :=
  let c3_i32_209 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v574 : BitVec 32 := Scalar.muli c3_i32_209 arg11
  let c0_i32_210 : BitVec 32 := 0#32
  let v575 : BitVec 32 := Scalar.addi v574 c0_i32_210
  let c256_i32_462 : BitVec 32 := 256#32
  let v1217 : BitVec 32 := Scalar.muli v575 c256_i32_462
  v1217
def k0_mult38 (i : grid0.Coords) (k0_t6 : Fin (k0_t6_loop i).trips) : BitVec 32 :=
  let c3_i32_211 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v576 : BitVec 32 := Scalar.muli c3_i32_211 arg11
  let c1_i32_212 : BitVec 32 := 1#32
  let v577 : BitVec 32 := Scalar.addi v576 c1_i32_212
  let c256_i32_466 : BitVec 32 := 256#32
  let v1227 : BitVec 32 := Scalar.muli v577 c256_i32_466
  v1227
def k0_mult39 (i : grid0.Coords) (k0_t6 : Fin (k0_t6_loop i).trips) : BitVec 32 :=
  let c3_i32_213 : BitVec 32 := 3#32
  let c0_i32_182 : BitVec 32 := 0#32
  let arg1 : BitVec 32 := BitVec.ofNat 32 (i 1).val
  let c1_i32_174 : BitVec 32 := 1#32
  let v508 : BitVec 32 := Scalar.addi arg1 c1_i32_174
  let c0_i32_176 : BitVec 32 := 0#32
  let v510 : BitVec 1 := Scalar.cmpi .sgt v508 c0_i32_176
  let v511 : BitVec 32 := Scalar.extui v510
  let c0_i32_177 : BitVec 32 := 0#32
  let v512 : BitVec 1 := Scalar.cmpi .slt v508 c0_i32_177
  let v513 : BitVec 32 := Scalar.extui v512
  let v514 : BitVec 32 := Scalar.subi v511 v513
  let c3_i32_175 : BitVec 32 := 3#32
  let c0_i32_178 : BitVec 32 := 0#32
  let v515 : BitVec 1 := Scalar.cmpi .sgt c3_i32_175 c0_i32_178
  let v516 : BitVec 32 := Scalar.extui v515
  let c0_i32_179 : BitVec 32 := 0#32
  let v517 : BitVec 1 := Scalar.cmpi .slt c3_i32_175 c0_i32_179
  let v518 : BitVec 32 := Scalar.extui v517
  let v519 : BitVec 32 := Scalar.subi v516 v518
  let v520 : BitVec 1 := Scalar.cmpi .ne v514 v519
  let v521 : BitVec 32 := Scalar.remsi v508 c3_i32_175
  let c0_i32_180 : BitVec 32 := 0#32
  let v522 : BitVec 1 := Scalar.cmpi .ne v521 c0_i32_180
  let v523 : BitVec 1 := Scalar.andi v520 v522
  let v509 : BitVec 32 := Scalar.divsi v508 c3_i32_175
  let c1_i32_181 : BitVec 32 := 1#32
  let v524 : BitVec 32 := Scalar.subi v509 c1_i32_181
  let v525 : BitVec 32 := Scalar.select v523 v524 v509
  let v526 : BitVec 32 := Scalar.subi v525 c0_i32_182
  let c1_i32_183 : BitVec 32 := 1#32
  let v528 : BitVec 32 := Scalar.divsi v526 c1_i32_183
  let v529 : BitVec 32 := Scalar.muli v528 c1_i32_183
  let v530 : BitVec 32 := Scalar.addi c0_i32_182 v529
  let c1_i32_185 : BitVec 32 := 1#32
  let arg11 : BitVec 32 := Scf.iv v530 c1_i32_185 k0_t6
  let v578 : BitVec 32 := Scalar.muli c3_i32_213 arg11
  let c2_i32_214 : BitVec 32 := 2#32
  let v579 : BitVec 32 := Scalar.addi v578 c2_i32_214
  let c256_i32_470 : BitVec 32 := 256#32
  let v1237 : BitVec 32 := Scalar.muli v579 c256_i32_470
  v1237
@[reducible] def k0_t7_loop (i : grid0.Coords) : Scf.Loop 32 :=
  let c0_i32_202 : BitVec 32 := 0#32
  let arg1 : BitVec 32 := BitVec.ofNat 32 (i 1).val
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_204 : BitVec 32 := 1#32
  ⟨c0_i32_202, v567, c1_i32_204⟩
def k0_off36 (i : grid0.Coords) (k0_t7 : Fin (k0_t7_loop i).trips) : Fin 4 → Nat :=
  let c0_209 : Index := 0#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let v575 : Index := Scalar.indexCast v574
  let c0_210 : Index := 0#32
  let c0_211 : Index := 0#32
  ![0, v575.toNat, 0, 0]
def k0_off37 (i : grid0.Coords) (k0_t7 : Fin (k0_t7_loop i).trips) : Fin 4 → Nat :=
  let c1_213 : Index := 1#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let v579 : Index := Scalar.indexCast v574
  let c0_214 : Index := 0#32
  let c0_215 : Index := 0#32
  ![1, v579.toNat, 0, 0]
def k0_off38 (i : grid0.Coords) (k0_t7 : Fin (k0_t7_loop i).trips) : Fin 4 → Nat :=
  let c2_217 : Index := 2#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let v583 : Index := Scalar.indexCast v574
  let c0_218 : Index := 0#32
  let c0_219 : Index := 0#32
  ![2, v583.toNat, 0, 0]
def k0_off39 (i : grid0.Coords) (k0_t7 : Fin (k0_t7_loop i).trips) : Fin 4 → Nat :=
  let c3_221 : Index := 3#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let v587 : Index := Scalar.indexCast v574
  let c0_222 : Index := 0#32
  let c0_223 : Index := 0#32
  ![3, v587.toNat, 0, 0]
def k0_mult40 (i : grid0.Coords) (k0_t7 : Fin (k0_t7_loop i).trips) : BitVec 32 :=
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let c256_i32_225 : BitVec 32 := 256#32
  let v591 : BitVec 32 := Scalar.muli v574 c256_i32_225
  v591
def k0_off40 (i : grid0.Coords) (k0_t7 : Fin (k0_t7_loop i).trips) : Fin 2 → Nat :=
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let c256_i32_225 : BitVec 32 := 256#32
  let v591 : BitVec 32 := Scalar.muli v574 c256_i32_225
  let v592 : BitVec 32 := v591
  let v593 : Index := Scalar.indexCast v592
  let c0_226 : Index := 0#32
  ![v593.toNat, 0]
def k0_mult41 (i : grid0.Coords) (k0_t7 : Fin (k0_t7_loop i).trips) : BitVec 32 :=
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_204 : BitVec 32 := 1#32
  let arg11 : BitVec 32 := Scf.iv c0_i32_202 c1_i32_204 k0_t7
  let v574 : BitVec 32 := Scalar.addi v551 arg11
  let c256_i32_292 : BitVec 32 := 256#32
  let v789 : BitVec 32 := Scalar.muli v574 c256_i32_292
  v789
@[reducible] def k0_t8_loop (i : grid0.Coords) : Scf.Loop 32 :=
  let c0_i32_202 : BitVec 32 := 0#32
  let arg1 : BitVec 32 := BitVec.ofNat 32 (i 1).val
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let v564 : BitVec 32 := Scalar.addi c0_i32_202 v563
  let c1_i32_205 : BitVec 32 := 1#32
  ⟨v567, v564, c1_i32_205⟩
def k0_off41 (i : grid0.Coords) (k0_t8 : Fin (k0_t8_loop i).trips) : Fin 4 → Nat :=
  let c0_209 : Index := 0#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let v575 : Index := Scalar.indexCast v574
  let c0_210 : Index := 0#32
  let c0_211 : Index := 0#32
  ![0, v575.toNat, 0, 0]
def k0_off42 (i : grid0.Coords) (k0_t8 : Fin (k0_t8_loop i).trips) : Fin 4 → Nat :=
  let c1_213 : Index := 1#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let v579 : Index := Scalar.indexCast v574
  let c0_214 : Index := 0#32
  let c0_215 : Index := 0#32
  ![1, v579.toNat, 0, 0]
def k0_off43 (i : grid0.Coords) (k0_t8 : Fin (k0_t8_loop i).trips) : Fin 4 → Nat :=
  let c2_217 : Index := 2#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let v583 : Index := Scalar.indexCast v574
  let c0_218 : Index := 0#32
  let c0_219 : Index := 0#32
  ![2, v583.toNat, 0, 0]
def k0_off44 (i : grid0.Coords) (k0_t8 : Fin (k0_t8_loop i).trips) : Fin 4 → Nat :=
  let c3_221 : Index := 3#32
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let v587 : Index := Scalar.indexCast v574
  let c0_222 : Index := 0#32
  let c0_223 : Index := 0#32
  ![3, v587.toNat, 0, 0]
def k0_mult42 (i : grid0.Coords) (k0_t8 : Fin (k0_t8_loop i).trips) : BitVec 32 :=
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let c256_i32_225 : BitVec 32 := 256#32
  let v591 : BitVec 32 := Scalar.muli v574 c256_i32_225
  v591
def k0_off45 (i : grid0.Coords) (k0_t8 : Fin (k0_t8_loop i).trips) : Fin 2 → Nat :=
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let c256_i32_225 : BitVec 32 := 256#32
  let v591 : BitVec 32 := Scalar.muli v574 c256_i32_225
  let v592 : BitVec 32 := v591
  let v593 : Index := Scalar.indexCast v592
  let c0_226 : Index := 0#32
  ![v593.toNat, 0]
def k0_mult43 (i : grid0.Coords) (k0_t8 : Fin (k0_t8_loop i).trips) : BitVec 32 :=
  let arg1 : BitVec 32 := BitVec.ofNat 32 (i 1).val
  let c1_i32_186 : BitVec 32 := 1#32
  let v533 : BitVec 32 := Scalar.addi arg1 c1_i32_186
  let c0_i32_188 : BitVec 32 := 0#32
  let v535 : BitVec 1 := Scalar.cmpi .sgt v533 c0_i32_188
  let v536 : BitVec 32 := Scalar.extui v535
  let c0_i32_189 : BitVec 32 := 0#32
  let v537 : BitVec 1 := Scalar.cmpi .slt v533 c0_i32_189
  let v538 : BitVec 32 := Scalar.extui v537
  let v539 : BitVec 32 := Scalar.subi v536 v538
  let c3_i32_187 : BitVec 32 := 3#32
  let c0_i32_190 : BitVec 32 := 0#32
  let v540 : BitVec 1 := Scalar.cmpi .sgt c3_i32_187 c0_i32_190
  let v541 : BitVec 32 := Scalar.extui v540
  let c0_i32_191 : BitVec 32 := 0#32
  let v542 : BitVec 1 := Scalar.cmpi .slt c3_i32_187 c0_i32_191
  let v543 : BitVec 32 := Scalar.extui v542
  let v544 : BitVec 32 := Scalar.subi v541 v543
  let v545 : BitVec 1 := Scalar.cmpi .ne v539 v544
  let v546 : BitVec 32 := Scalar.remsi v533 c3_i32_187
  let c0_i32_192 : BitVec 32 := 0#32
  let v547 : BitVec 1 := Scalar.cmpi .ne v546 c0_i32_192
  let v548 : BitVec 1 := Scalar.andi v545 v547
  let v534 : BitVec 32 := Scalar.divsi v533 c3_i32_187
  let c1_i32_193 : BitVec 32 := 1#32
  let v549 : BitVec 32 := Scalar.subi v534 c1_i32_193
  let v550 : BitVec 32 := Scalar.select v548 v549 v534
  let c3_i32_194 : BitVec 32 := 3#32
  let v551 : BitVec 32 := Scalar.muli v550 c3_i32_194
  let c0_i32_202 : BitVec 32 := 0#32
  let c1_i32_195 : BitVec 32 := 1#32
  let v552 : BitVec 32 := Scalar.addi arg1 c1_i32_195
  let c3_i32_196 : BitVec 32 := 3#32
  let c0_i32_197 : BitVec 32 := 0#32
  let v553 : BitVec 1 := Scalar.cmpi .eq c3_i32_196 c0_i32_197
  let c1_i32_198 : BitVec 32 := 1#32
  let v554 : BitVec 32 := Scalar.select v553 c1_i32_198 c3_i32_196
  let v555 : BitVec 32 := Scalar.remsi v552 v554
  let c0_i32_200 : BitVec 32 := 0#32
  let v557 : BitVec 1 := Scalar.cmpi .slt v555 c0_i32_200
  let c0_i32_201 : BitVec 32 := 0#32
  let v558 : BitVec 1 := Scalar.cmpi .slt v554 c0_i32_201
  let v559 : BitVec 1 := Scalar.xori v557 v558
  let c0_i32_199 : BitVec 32 := 0#32
  let v556 : BitVec 1 := Scalar.cmpi .ne v555 c0_i32_199
  let v560 : BitVec 1 := Scalar.andi v559 v556
  let v561 : BitVec 32 := Scalar.addi v555 v554
  let v562 : BitVec 32 := Scalar.select v560 v561 v555
  let v563 : BitVec 32 := Scalar.subi v562 c0_i32_202
  let c1_i32_203 : BitVec 32 := 1#32
  let v565 : BitVec 32 := Scalar.divsi v563 c1_i32_203
  let v566 : BitVec 32 := Scalar.muli v565 c1_i32_203
  let v567 : BitVec 32 := Scalar.addi c0_i32_202 v566
  let c1_i32_205 : BitVec 32 := 1#32
  let arg11 : BitVec 32 := Scf.iv v567 c1_i32_205 k0_t8
  let v574 : BitVec 32 := Scalar.addi v551 arg11
  let c256_i32_292 : BitVec 32 := 256#32
  let v789 : BitVec 32 := Scalar.muli v574 c256_i32_292
  v789
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnRefIdeal.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S4096x2x16x64 : Shape := ⟨4, ![4096, 2, 16, 64]⟩
abbrev S4096x1x16x64 : Shape := ⟨4, ![4096, 1, 16, 64]⟩
abbrev S16x4096x4096 : Shape := ⟨3, ![16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩

abbrev nBuf : Space → Nat
  | .hbm => 184
  | .vmem => 0
  | .smem => 0
  | _ => 0

abbrev hbmTy0_0 (i : Nat) : BufTy := match i % 128 with
  | 0 => ⟨S4096x1024, .f32⟩
  | 1 => ⟨S4096x2048, .f32⟩
  | 2 => ⟨S4096x1024, .f32⟩
  | 3 => ⟨S4096x16x64, .f32⟩
  | 4 => ⟨S16x4096x64, .f32⟩
  | 5 => ⟨S4096x2x16x64, .f32⟩
  | 6 => ⟨S4096x1x16x64, .f32⟩
  | 7 => ⟨S4096x16x64, .f32⟩
  | 8 => ⟨S16x4096x64, .f32⟩
  | 9 => ⟨S4096x1x16x64, .f32⟩
  | 10 => ⟨S4096x16x64, .f32⟩
  | 11 => ⟨S16x4096x64, .f32⟩
  | 12 => ⟨S16x4096x4096, .f32⟩
  | 13 => ⟨S_, .f32⟩
  | 14 => ⟨S16x4096x4096, .f32⟩
  | 15 => ⟨S16x4096x4096, .f32⟩
  | 16 => ⟨S4096, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i1⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S_, .f32⟩
  | 78 => ⟨S_, .f32⟩
  | 79 => ⟨S16x4096x4096, .f32⟩
  | 80 => ⟨S16x4096x4096, .f32⟩
  | 81 => ⟨S16x4096x4096, .f32⟩
  | 82 => ⟨S_, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .i1⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S_, .f32⟩
  | 97 => ⟨S16x4096x4096, .f32⟩
  | 98 => ⟨S16x4096x4096, .i1⟩
  | 99 => ⟨S_, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .i1⟩
  | 105 => ⟨S_, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x4096x4096, .f32⟩
  | 118 => ⟨S16x4096x4096, .i1⟩
  | 119 => ⟨S_, .f32⟩
  | 120 => ⟨S16x4096x4096, .f32⟩
  | 121 => ⟨S16x4096x4096, .f32⟩
  | 122 => ⟨S16x4096x4096, .f32⟩
  | 123 => ⟨S16x4096x4096, .f32⟩
  | 124 => ⟨S16x4096x4096, .f32⟩
  | 125 => ⟨S_, .f32⟩
  | 126 => ⟨S16x4096x4096, .f32⟩
  | 127 => ⟨S16x4096x4096, .f32⟩
  | _ => ⟨S4096x1024, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S_, .f32⟩
  | 4 => ⟨S_, .f32⟩
  | 5 => ⟨S16x4096x4096, .i1⟩
  | 6 => ⟨S16x4096x4096, .f32⟩
  | 7 => ⟨S16x4096x4096, .f32⟩
  | 8 => ⟨S_, .f32⟩
  | 9 => ⟨S16x4096x4096, .f32⟩
  | 10 => ⟨S16x4096x64, .f32⟩
  | 11 => ⟨S4096x16x64, .f32⟩
  | 12 => ⟨S4096x1024, .f32⟩
  | 13 => ⟨S4096x16x64, .f32⟩
  | 14 => ⟨S16x4096x64, .f32⟩
  | 15 => ⟨S16x64x4096, .f32⟩
  | 16 => ⟨S16x4096x64, .f32⟩
  | 17 => ⟨S16x4096x4096, .f32⟩
  | 18 => ⟨S_, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S_, .f32⟩
  | 27 => ⟨S_, .f32⟩
  | 28 => ⟨S16x4096x4096, .f32⟩
  | 29 => ⟨S16x4096x4096, .f32⟩
  | 30 => ⟨S_, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .f32⟩
  | 39 => ⟨S16x4096x64, .f32⟩
  | 40 => ⟨S16x4096x64, .f32⟩
  | 41 => ⟨S4096x16x64, .f32⟩
  | 42 => ⟨S4096x1x16x64, .f32⟩
  | 43 => ⟨S_, .f32⟩
  | 44 => ⟨S4096x2x16x64, .f32⟩
  | 45 => ⟨S4096x16x64, .f32⟩
  | 46 => ⟨S4096x1x16x64, .f32⟩
  | 47 => ⟨S_, .f32⟩
  | 48 => ⟨S4096x2x16x64, .f32⟩
  | 49 => ⟨S4096x2x16x64, .f32⟩
  | 50 => ⟨S4096x2048, .f32⟩
  | 51 => ⟨S4096x16x64, .f32⟩
  | 52 => ⟨S4096x1024, .f32⟩
  | 53 => ⟨S4096x1024, .bf16⟩
  | 54 => ⟨S4096x1024, .f32⟩
  | 55 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v19_0 : Ref sig .tc := ⟨.hbm, 36, rfl⟩
abbrev main_call0_cst_0 : Ref sig .tc := ⟨.hbm, 37, rfl⟩
abbrev main_call0_v13 : Ref sig .tc := ⟨.hbm, 38, rfl⟩
abbrev main_call0_v14 : Ref sig .tc := ⟨.hbm, 39, rfl⟩
abbrev main_call0_cst_1 : Ref sig .tc := ⟨.hbm, 40, rfl⟩
abbrev main_call0_v15 : Ref sig .tc := ⟨.hbm, 41, rfl⟩
abbrev main_call0_v16 : Ref sig .tc := ⟨.hbm, 42, rfl⟩
abbrev main_call0_cst_2 : Ref sig .tc := ⟨.hbm, 43, rfl⟩
abbrev main_call0_v17 : Ref sig .tc := ⟨.hbm, 44, rfl⟩
abbrev main_call0_v18 : Ref sig .tc := ⟨.hbm, 45, rfl⟩
abbrev main_call0_cst_3 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_v19_1 : Ref sig .tc := ⟨.hbm, 50, rfl⟩
abbrev main_call0_cst_4 : Ref sig .tc := ⟨.hbm, 51, rfl⟩
abbrev main_call0_cst_5 : Ref sig .tc := ⟨.hbm, 52, rfl⟩
abbrev main_call0_v23 : Ref sig .tc := ⟨.hbm, 53, rfl⟩
abbrev main_call0_cst_6 : Ref sig .tc := ⟨.hbm, 54, rfl⟩
abbrev main_call0_cst_7 : Ref sig .tc := ⟨.hbm, 55, rfl⟩
abbrev main_call0_v24 : Ref sig .tc := ⟨.hbm, 56, rfl⟩
abbrev main_call0_cst_8 : Ref sig .tc := ⟨.hbm, 57, rfl⟩
abbrev main_call0_v25 : Ref sig .tc := ⟨.hbm, 58, rfl⟩
abbrev main_call0_v26 : Ref sig .tc := ⟨.hbm, 59, rfl⟩
abbrev main_call0_cst_9 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_cst_10 : Ref sig .tc := ⟨.hbm, 66, rfl⟩
abbrev main_call0_v32 : Ref sig .tc := ⟨.hbm, 67, rfl⟩
abbrev main_v19_2 : Ref sig .tc := ⟨.hbm, 68, rfl⟩
abbrev main_v20 : Ref sig .tc := ⟨.hbm, 69, rfl⟩
abbrev main_cst_0 : Ref sig .tc := ⟨.hbm, 70, rfl⟩
abbrev main_call1_v0 : Ref sig .tc := ⟨.hbm, 71, rfl⟩
abbrev main_v21_1 : Ref sig .tc := ⟨.hbm, 72, rfl⟩
abbrev main_call1_v2 : Ref sig .tc := ⟨.hbm, 73, rfl⟩
abbrev main_v21_0 : Ref sig .tc := ⟨.hbm, 74, rfl⟩
abbrev main_call1_cst : Ref sig .tc := ⟨.hbm, 75, rfl⟩
abbrev main_v21_2 : Ref sig .tc := ⟨.hbm, 76, rfl⟩
abbrev main_call2_cst : Ref sig .tc := ⟨.hbm, 77, rfl⟩
abbrev main_call2_v0 : Ref sig .tc := ⟨.hbm, 78, rfl⟩
abbrev main_v22 : Ref sig .tc := ⟨.hbm, 79, rfl⟩
abbrev main_v23 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v24_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v24_2 : Ref sig .tc := ⟨.hbm, 127, rfl⟩
abbrev main_v24_0 : Ref sig .tc := ⟨.hbm, 128, rfl⟩
abbrev main_v25 : Ref sig .tc := ⟨.hbm, 129, rfl⟩
abbrev main_v26 : Ref sig .tc := ⟨.hbm, 130, rfl⟩
abbrev main_cst_1 : Ref sig .tc := ⟨.hbm, 131, rfl⟩
abbrev main_call4_v0 : Ref sig .tc := ⟨.hbm, 132, rfl⟩
abbrev main_v27_1 : Ref sig .tc := ⟨.hbm, 133, rfl⟩
abbrev main_call4_v2 : Ref sig .tc := ⟨.hbm, 134, rfl⟩
abbrev main_v27_0 : Ref sig .tc := ⟨.hbm, 135, rfl⟩
abbrev main_call4_cst : Ref sig .tc := ⟨.hbm, 136, rfl⟩
abbrev main_v27_2 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_call5_cst : Ref sig .tc := ⟨.hbm, 146, rfl⟩
abbrev main_call5_v0 : Ref sig .tc := ⟨.hbm, 147, rfl⟩
abbrev main_v36 : Ref sig .tc := ⟨.hbm, 148, rfl⟩
abbrev main_v37 : Ref sig .tc := ⟨.hbm, 149, rfl⟩
abbrev main_call6_v0 : Ref sig .tc := ⟨.hbm, 150, rfl⟩
abbrev main_call6_v1 : Ref sig .tc := ⟨.hbm, 151, rfl⟩
abbrev main_v38 : Ref sig .tc := ⟨.hbm, 152, rfl⟩
abbrev main_v39 : Ref sig .tc := ⟨.hbm, 153, rfl⟩
abbrev main_call7_cst : Ref sig .tc := ⟨.hbm, 154, rfl⟩
abbrev main_call7_v0 : Ref sig .tc := ⟨.hbm, 155, rfl⟩
abbrev main_v40 : Ref sig .tc := ⟨.hbm, 156, rfl⟩
abbrev main_v41 : Ref sig .tc := ⟨.hbm, 157, rfl⟩
abbrev main_call8_cst : Ref sig .tc := ⟨.hbm, 158, rfl⟩
abbrev main_call8_v0 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_cst_2 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_cst_3 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_cst_4 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩

abbrev nD : Nat := 1
abbrev τ : Topo := Topo.v7x

variable {F : FTy → Type} [FloatOps F]
-- ==== Pool.lean ====
abbrev S4096x1024 : Shape := ⟨2, ![4096, 1024]⟩
abbrev S4x256x256 : Shape := ⟨3, ![4, 256, 256]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S528x1 : Shape := ⟨2, ![528, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S4096x1024, .f32⟩
  | .hbm, ⟨4, _⟩ => ⟨S4x256x256, .bf16⟩
  | .hbm, ⟨5, _⟩ => ⟨S1x1024, .f32⟩
  | .hbm, ⟨6, _⟩ => ⟨S4096x1024, .f32⟩
  | .hbm, ⟨7, _⟩ => ⟨S4x256x256, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S4x256x256, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S4x256x256, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolRefIdeal.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩
abbrev S1x1024 : Shape := ⟨2, ![1, 1024]⟩
abbrev S4097x1024 : Shape := ⟨2, ![4097, 1024]⟩
abbrev S4096 : Shape := ⟨1, ![4096]⟩
abbrev S4096x256 : Shape := ⟨2, ![4096, 256]⟩
abbrev S1x256 : Shape := ⟨2, ![1, 256]⟩
abbrev S4095x256 : Shape := ⟨2, ![4095, 256]⟩
abbrev S4096x1 : Shape := ⟨2, ![4096, 1]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩
abbrev S4096x1x256 : Shape := ⟨3, ![4096, 1, 256]⟩
abbrev S4096x4x256 : Shape := ⟨3, ![4096, 4, 256]⟩
abbrev S4x256x4096 : Shape := ⟨3, ![4, 256, 4096]⟩
abbrev S4x4096x256 : Shape := ⟨3, ![4, 4096, 256]⟩

abbrev nBuf : Space → Nat
  | .hbm => 191
  | .vmem => 0
  | .smem => 0
  | _ => 0

abbrev hbmTy0_0 (i : Nat) : BufTy := match i % 128 with
  | 0 => ⟨S4096x1024, .f32⟩
  | 1 => ⟨S4x256x256, .f32⟩
  | 2 => ⟨S1024, .f32⟩
  | 3 => ⟨S4096x1024, .f32⟩
  | 4 => ⟨S_, .f32⟩
  | 5 => ⟨S1x1024, .f32⟩
  | 6 => ⟨S_, .f32⟩
  | 7 => ⟨S_, .f32⟩
  | 8 => ⟨S4096x1024, .f32⟩
  | 9 => ⟨S4097x1024, .f32⟩
  | 10 => ⟨S_, .f32⟩
  | 11 => ⟨S1x1024, .f32⟩
  | 12 => ⟨S4096, .i32⟩
  | 13 => ⟨S4096x256, .f32⟩
  | 14 => ⟨S_, .f32⟩
  | 15 => ⟨S1x256, .f32⟩
  | 16 => ⟨S4095x256, .f32⟩
  | 17 => ⟨S4096x256, .f32⟩
  | 18 => ⟨S_, .f32⟩
  | 19 => ⟨S1x256, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S4096x1, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S4096x256, .f32⟩
  | 34 => ⟨S_, .f32⟩
  | 35 => ⟨S3x256, .f32⟩
  | 36 => ⟨S4093x256, .f32⟩
  | 37 => ⟨S4096x256, .f32⟩
  | 38 => ⟨S_, .f32⟩
  | 39 => ⟨S3x256, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S4096x1, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S_, .f32⟩
  | 55 => ⟨S7x256, .f32⟩
  | 56 => ⟨S4089x256, .f32⟩
  | 57 => ⟨S4096x256, .f32⟩
  | 58 => ⟨S_, .f32⟩
  | 59 => ⟨S7x256, .f32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .f32⟩
  | 67 => ⟨S4096x1, .f32⟩
  | 68 => ⟨S4096x256, .f32⟩
  | 69 => ⟨S4096x256, .f32⟩
  | 70 => ⟨S4096x256, .f32⟩
  | 71 => ⟨S4096x256, .f32⟩
  | 72 => ⟨S4096x256, .f32⟩
  | 73 => ⟨S4096x256, .f32⟩
  | 74 => ⟨S_, .f32⟩
  | 75 => ⟨S15x256, .f32⟩
  | 76 => ⟨S4081x256, .f32⟩
  | 77 => ⟨S4096x256, .f32⟩
  | 78 => ⟨S_, .f32⟩
  | 79 => ⟨S15x256, .f32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S4096, .f32⟩
  | 87 => ⟨S4096x1, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x1x256, .f32⟩
  | 94 => ⟨S4096x1x256, .f32⟩
  | 95 => ⟨S4096x1x256, .f32⟩
  | 96 => ⟨S4096x1x256, .f32⟩
  | 97 => ⟨S4096x4x256, .f32⟩
  | 98 => ⟨S4x256x4096, .f32⟩
  | 99 => ⟨S4096x4x256, .f32⟩
  | 100 => ⟨S4096x1024, .f32⟩
  | 101 => ⟨S1x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S4096x4x256, .f32⟩
  | 113 => ⟨S4x256x4096, .f32⟩
  | 114 => ⟨S4x4096x256, .f32⟩
  | 115 => ⟨S4096x4x256, .f32⟩
  | 116 => ⟨S4x256x256, .f32⟩
  | 117 => ⟨S4x256x256, .f32⟩
  | 118 => ⟨S4096x1x256, .f32⟩
  | 119 => ⟨S4096x256, .f32⟩
  | 120 => ⟨S4096x1x256, .f32⟩
  | 121 => ⟨S4096x256, .f32⟩
  | 122 => ⟨S4096x1x256, .f32⟩
  | 123 => ⟨S4096x256, .f32⟩
  | 124 => ⟨S4096x1x256, .f32⟩
  | 125 => ⟨S4096x256, .f32⟩
  | 126 => ⟨S4096x256, .f32⟩
  | 127 => ⟨S_, .f32⟩
  | _ => ⟨S4096x1024, .f32⟩

abbrev hbmTy0_1 (i : Nat) : BufTy := match i % 128 with
  | 0 => ⟨S4096x1024, .f32⟩
  | 1 => ⟨S4096x256, .f32⟩
  | 2 => ⟨S4096x256, .f32⟩
  | 3 => ⟨S4096x256, .f32⟩
  | 4 => ⟨S15x256, .f32⟩
  | 5 => ⟨S4081x256, .f32⟩
  | 6 => ⟨S_, .f32⟩
  | 7 => ⟨S4097x1024, .f32⟩
  | 8 => ⟨S_, .f32⟩
  | 9 => ⟨S4097x1024, .f32⟩
  | 10 => ⟨S4097x1024, .f32⟩
  | 11 => ⟨S4096x256, .f32⟩
  | 12 => ⟨S_, .f32⟩
  | 13 => ⟨S4096x1024, .f32⟩
  | 14 => ⟨S4096x1024, .f32⟩
  | 15 => ⟨S4096x256, .f32⟩
  | 16 => ⟨S4096x256, .f32⟩
  | 17 => ⟨S4096x256, .f32⟩
  | 18 => ⟨S7x256, .f32⟩
  | 19 => ⟨S4089x256, .f32⟩
  | 20 => ⟨S_, .f32⟩
  | 21 => ⟨S4097x1024, .f32⟩
  | 22 => ⟨S4097x1024, .f32⟩
  | 23 => ⟨S_, .f32⟩
  | 24 => ⟨S4097x1024, .f32⟩
  | 25 => ⟨S4097x1024, .f32⟩
  | 26 => ⟨S4096x256, .f32⟩
  | 27 => ⟨S_, .f32⟩
  | 28 => ⟨S4096x1024, .f32⟩
  | 29 => ⟨S4096x1024, .f32⟩
  | 30 => ⟨S4096x256, .f32⟩
  | 31 => ⟨S4096x256, .f32⟩
  | 32 => ⟨S4096x256, .f32⟩
  | 33 => ⟨S3x256, .f32⟩
  | 34 => ⟨S4093x256, .f32⟩
  | 35 => ⟨S_, .f32⟩
  | 36 => ⟨S4097x1024, .f32⟩
  | 37 => ⟨S4097x1024, .f32⟩
  | 38 => ⟨S_, .f32⟩
  | 39 => ⟨S4097x1024, .f32⟩
  | 40 => ⟨S4097x1024, .f32⟩
  | 41 => ⟨S4096x256, .f32⟩
  | 42 => ⟨S_, .f32⟩
  | 43 => ⟨S4096x1024, .f32⟩
  | 44 => ⟨S4096x1024, .f32⟩
  | 45 => ⟨S4096x256, .f32⟩
  | 46 => ⟨S4096x256, .f32⟩
  | 47 => ⟨S4096x256, .f32⟩
  | 48 => ⟨S1x256, .f32⟩
  | 49 => ⟨S4095x256, .f32⟩
  | 50 => ⟨S_, .f32⟩
  | 51 => ⟨S4097x1024, .f32⟩
  | 52 => ⟨S4097x1024, .f32⟩
  | 53 => ⟨S_, .f32⟩
  | 54 => ⟨S4097x1024, .f32⟩
  | 55 => ⟨S4097x1024, .f32⟩
  | 56 => ⟨S1x1024, .f32⟩
  | 57 => ⟨S4096x1024, .f32⟩
  | 58 => ⟨S_, .f32⟩
  | 59 => ⟨S_, .f32⟩
  | 60 => ⟨S4096x1024, .f32⟩
  | 61 => ⟨S4096x1024, .f32⟩
  | 62 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_16 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_18 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_19 : Ref sig .tc := ⟨.hbm, 134, rfl⟩
abbrev main_v107 : Ref sig .tc := ⟨.hbm, 135, rfl⟩
abbrev main_cst_20 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_21 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_cst_23 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_24 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_25 : Ref sig .tc := ⟨.hbm, 163, rfl⟩
abbrev main_v130 : Ref sig .tc := ⟨.hbm, 164, rfl⟩
abbrev main_v131 : Ref sig .tc := ⟨.hbm, 165, rfl⟩
abbrev main_cst_26 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_27 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_28 : Ref sig .tc := ⟨.hbm, 178, rfl⟩
abbrev main_v142 : Ref sig .tc := ⟨.hbm, 179, rfl⟩
abbrev main_v143 : Ref sig .tc := ⟨.hbm, 180, rfl⟩
abbrev main_cst_29 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_call1_cst : Ref sig .tc := ⟨.hbm, 186, rfl⟩
abbrev main_call1_v0 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩

abbrev nD : Nat := 1
abbrev τ : Topo := Topo.v7x

variable {F : FTy → Type} [FloatOps F]
-- ==== Entry.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== EntryRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Mid.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== MidRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S1x1024, .f32⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Below.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== BelowRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S4096x1024, .bf16⟩
  | .hbm, ⟨101, _⟩ => ⟨S1x1024, .f32⟩
  | .hbm, ⟨102, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Fork.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31
abbrev cc1_sem12_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ForkRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 153
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S_, .f32⟩
  | 71 => ⟨S1024, .f32⟩
  | 72 => ⟨S1x1024, .f32⟩
  | 73 => ⟨S4096x1024, .f32⟩
  | 74 => ⟨S4096x1024, .f32⟩
  | 75 => ⟨S_, .f32⟩
  | 76 => ⟨S1024, .f32⟩
  | 77 => ⟨S4096x1024, .f32⟩
  | 78 => ⟨S_, .f32⟩
  | 79 => ⟨S4096, .f32⟩
  | 80 => ⟨S4096x1, .f32⟩
  | 81 => ⟨S4096x1024, .f32⟩
  | 82 => ⟨S4096x1024, .f32⟩
  | 83 => ⟨S4096x1024, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S_, .f32⟩
  | 124 => ⟨S1024, .f32⟩
  | 125 => ⟨S1x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .bf16⟩
  | 20 => ⟨S4096x1024, .bf16⟩
  | 21 => ⟨S4096x1024, .bf16⟩
  | 22 => ⟨S1x1024, .f32⟩
  | 23 => ⟨S1x1024, .f32⟩
  | 24 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_17 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_19 : Ref sig .tc := ⟨.hbm, 111, rfl⟩
abbrev main_v83 : Ref sig .tc := ⟨.hbm, 112, rfl⟩
abbrev main_v84 : Ref sig .tc := ⟨.hbm, 113, rfl⟩
abbrev main_cst_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_22 : Ref sig .tc := ⟨.hbm, 128, rfl⟩
abbrev main_v97 : Ref sig .tc := ⟨.hbm, 129, rfl⟩
abbrev main_v98 : Ref sig .tc := ⟨.hbm, 130, rfl⟩
abbrev main_cst_23 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_24 : Ref sig .tc := ⟨.hbm, 137, rfl⟩
abbrev main_v104 : Ref sig .tc := ⟨.hbm, 138, rfl⟩
abbrev main_v105 : Ref sig .tc := ⟨.hbm, 139, rfl⟩
abbrev main_cst_25 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]
-- ==== Mlp.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Fwd.lean ====
abbrev S4096x1024 : Shape := ⟨2, ![4096, 1024]⟩
abbrev S4096x2048 : Shape := ⟨2, ![4096, 2048]⟩
abbrev S_ : Shape := ⟨0, ![]⟩
abbrev S256x256 : Shape := ⟨2, ![256, 256]⟩
abbrev S4096x256 : Shape := ⟨2, ![4096, 256]⟩
abbrev S1x256 : Shape := ⟨2, ![1, 256]⟩
abbrev S256x1 : Shape := ⟨2, ![256, 1]⟩
abbrev S1024x256 : Shape := ⟨2, ![1024, 256]⟩
abbrev S256 : Shape := ⟨1, ![256]⟩
abbrev S256x1024 : Shape := ⟨2, ![256, 1024]⟩
abbrev S256x4096 : Shape := ⟨2, ![256, 4096]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x2048, .bf16⟩
  | .hbm, ⟨7, _⟩ => ⟨S4096x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v135 : BitVec 32 := Scalar.muli arg1 c256_i32
  v135
def k0_off1 (i : grid0.Coords) : Fin 2 → Nat :=
  let arg1 : BitVec 32 := BitVec.ofNat 32 (i 1).val
  let c256_i32 : BitVec 32 := 256#32
  let v135 : BitVec 32 := Scalar.muli arg1 c256_i32
  let v136 : BitVec 32 := v135
  let v137 : Index := Scalar.indexCast v136
  let c0_35 : Index := 0#32
  ![v137.toNat, 0]
def k0_mult2 (i : grid0.Coords) : BitVec 32 :=
  let arg1 : BitVec 32 := BitVec.ofNat 32 (i 1).val
  let c256_i32_40 : BitVec 32 := 256#32
  let v144 : BitVec 32 := Scalar.muli arg1 c256_i32_40
  v144
@[reducible] def k0_t1_loop (i : grid0.Coords) : Scf.Loop 32 :=
  let c0_i32_112 : BitVec 32 := 0#32
  let arg1 : BitVec 32 := BitVec.ofNat 32 (i 1).val
  let c4_i32 : BitVec 32 := 4#32
  let c0_i32_107 : BitVec 32 := 0#32
  let v374 : BitVec 1 := Scalar.cmpi .eq c4_i32 c0_i32_107
  let c1_i32_108 : BitVec 32 := 1#32
  let v375 : BitVec 32 := Scalar.select v374 c1_i32_108 c4_i32
  let v376 : BitVec 32 := Scalar.remsi arg1 v375
  let c0_i32_110 : BitVec 32 := 0#32
  let v378 : BitVec 1 := Scalar.cmpi .slt v376 c0_i32_110
  let c0_i32_111 : BitVec 32 := 0#32
  let v379 : BitVec 1 := Scalar.cmpi .slt v375 c0_i32_111
  let v380 : BitVec 1 := Scalar.xori v378 v379
  let c0_i32_109 : BitVec 32 := 0#32
  let v377 : BitVec 1 := Scalar.cmpi .ne v376 c0_i32_109
  let v381 : BitVec 1 := Scalar.andi v380 v377
  let v382 : BitVec 32 := Scalar.addi v376 v375
  let v383 : BitVec 32 := Scalar.select v381 v382 v376
  let v384 : BitVec 32 := Scalar.subi v383 c0_i32_112
  let c1_i32_113 : BitVec 32 := 1#32
  let v386 : BitVec 32 := Scalar.divsi v384 c1_i32_113
  let v387 : BitVec 32 := Scalar.muli v386 c1_i32_113
  let v388 : BitVec 32 := Scalar.addi c0_i32_112 v387
  let c1_i32_114 : BitVec 32 := 1#32
  ⟨c0_i32_112, v388, c1_i32_114⟩
def k0_mult3 (i : grid0.Coords) (k0_t1 : Fin (k0_t1_loop i).trips) : BitVec 32 :=
  let arg1 : BitVec 32 := BitVec.ofNat 32 (i 1).val
  let c1_i32_136 : BitVec 32 := 1#32
  let v429 : BitVec 32 := Scalar.subi arg1 c1_i32_136
  let c0_i32_112 : BitVec 32 := 0#32
  let c1_i32_114 : BitVec 32 := 1#32
  let arg6 : BitVec 32 := Scf.iv c0_i32_112 c1_i32_114 k0_t1
  let v430 : BitVec 32 := Scalar.subi v429 arg6
  let c256_i32_137 : BitVec 32 := 256#32
  let v431 : BitVec 32 := Scalar.muli v430 c256_i32_137
  v431
def k0_off2 (i : grid0.Coords) (k0_t1 : Fin (k0_t1_loop i).trips) : Fin 2 → Nat :=
  let arg1 : BitVec 32 := BitVec.ofNat 32 (i 1).val
  let c1_i32_136 : BitVec 32 := 1#32
  let v429 : BitVec 32 := Scalar.subi arg1 c1_i32_136
  let c0_i32_112 : BitVec 32 := 0#32
  let c1_i32_114 : BitVec 32 := 1#32
  let arg6 : BitVec 32 := Scf.iv c0_i32_112 c1_i32_114 k0_t1
  let v430 : BitVec 32 := Scalar.subi v429 arg6
  let c256_i32_137 : BitVec 32 := 256#32
  let v431 : BitVec 32 := Scalar.muli v430 c256_i32_137
  let v432 : BitVec 32 := v431
  let v433 : Index := Scalar.indexCast v432
  let c0_138 : Index := 0#32
  ![v433.toNat, 0]
def k0_mult4 (i : grid0.Coords) (k0_t1 : Fin (k0_t1_loop i).trips) : BitVec 32 :=
  let arg1 : BitVec 32 := BitVec.ofNat 32 (i 1).val
  let c1_i32_136 : BitVec 32 := 1#32
  let v429 : BitVec 32 := Scalar.subi arg1 c1_i32_136
  let c0_i32_112 : BitVec 32 := 0#32
  let c1_i32_114 : BitVec 32 := 1#32
  let arg6 : BitVec 32 := Scf.iv c0_i32_112 c1_i32_114 k0_t1
  let v430 : BitVec 32 := Scalar.subi v429 arg6
  let c256_i32_143 : BitVec 32 := 256#32
  let v440 : BitVec 32 := Scalar.muli v430 c256_i32_143
  v440
@[reducible] def k0_t2_loop (i : grid0.Coords) : Scf.Loop 32 :=
  let c0_i32_112 : BitVec 32 := 0#32
  let arg1 : BitVec 32 := BitVec.ofNat 32 (i 1).val
  let c4_i32 : BitVec 32 := 4#32
  let c0_i32_107 : BitVec 32 := 0#32
  let v374 : BitVec 1 := Scalar.cmpi .eq c4_i32 c0_i32_107
  let c1_i32_108 : BitVec 32 := 1#32
  let v375 : BitVec 32 := Scalar.select v374 c1_i32_108 c4_i32
  let v376 : BitVec 32 := Scalar.remsi arg1 v375
  let c0_i32_110 : BitVec 32 := 0#32
  let v378 : BitVec 1 := Scalar.cmpi .slt v376 c0_i32_110
  let c0_i32_111 : BitVec 32 := 0#32
  let v379 : BitVec 1 := Scalar.cmpi .slt v375 c0_i32_111
  let v380 : BitVec 1 := Scalar.xori v378 v379
  let c0_i32_109 : BitVec 32 := 0#32
  let v377 : BitVec 1 := Scalar.cmpi .ne v376 c0_i32_109
  let v381 : BitVec 1 := Scalar.andi v380 v377
  let v382 : BitVec 32 := Scalar.addi v376 v375
  let v383 : BitVec 32 := Scalar.select v381 v382 v376
  let v384 : BitVec 32 := Scalar.subi v383 c0_i32_112
  let c1_i32_113 : BitVec 32 := 1#32
  let v386 : BitVec 32 := Scalar.divsi v384 c1_i32_113
  let v387 : BitVec 32 := Scalar.muli v386 c1_i32_113
  let v388 : BitVec 32 := Scalar.addi c0_i32_112 v387
  let v385 : BitVec 32 := Scalar.addi c0_i32_112 v384
  let c1_i32_115 : BitVec 32 := 1#32
  ⟨v388, v385, c1_i32_115⟩
def k0_mult5 (i : grid0.Coords) (k0_t2 : Fin (k0_t2_loop i).trips) : BitVec 32 :=
  let arg1 : BitVec 32 := BitVec.ofNat 32 (i 1).val
  let c1_i32_136 : BitVec 32 := 1#32
  let v429 : BitVec 32 := Scalar.subi arg1 c1_i32_136
  let c0_i32_112 : BitVec 32 := 0#32
  let c4_i32 : BitVec 32 := 4#32
  let c0_i32_107 : BitVec 32 := 0#32
  let v374 : BitVec 1 := Scalar.cmpi .eq c4_i32 c0_i32_107
  let c1_i32_108 : BitVec 32 := 1#32
  let v375 : BitVec 32 := Scalar.select v374 c1_i32_108 c4_i32
  let v376 : BitVec 32 := Scalar.remsi arg1 v375
  let c0_i32_110 : BitVec 32 := 0#32
  let v378 : BitVec 1 := Scalar.cmpi .slt v376 c0_i32_110
  let c0_i32_111 : BitVec 32 := 0#32
  let v379 : BitVec 1 := Scalar.cmpi .slt v375 c0_i32_111
  let v380 : BitVec 1 := Scalar.xori v378 v379
  let c0_i32_109 : BitVec 32 := 0#32
  let v377 : BitVec 1 := Scalar.cmpi .ne v376 c0_i32_109
  let v381 : BitVec 1 := Scalar.andi v380 v377
  let v382 : BitVec 32 := Scalar.addi v376 v375
  let v383 : BitVec 32 := Scalar.select v381 v382 v376
  let v384 : BitVec 32 := Scalar.subi v383 c0_i32_112
  let c1_i32_113 : BitVec 32 := 1#32
  let v386 : BitVec 32 := Scalar.divsi v384 c1_i32_113
  let v387 : BitVec 32 := Scalar.muli v386 c1_i32_113
  let v388 : BitVec 32 := Scalar.addi c0_i32_112 v387
  let c1_i32_115 : BitVec 32 := 1#32
  let arg6 : BitVec 32 := Scf.iv v388 c1_i32_115 k0_t2
  let v430 : BitVec 32 := Scalar.subi v429 arg6
  let c256_i32_137 : BitVec 32 := 256#32
  let v431 : BitVec 32 := Scalar.muli v430 c256_i32_137
  v431
def k0_off3 (i : grid0.Coords) (k0_t2 : Fin (k0_t2_loop i).trips) : Fin 2 → Nat :=
  let arg1 : BitVec 32 := BitVec.ofNat 32 (i 1).val
  let c1_i32_136 : BitVec 32 := 1#32
  let v429 : BitVec 32 := Scalar.subi arg1 c1_i32_136
  let c0_i32_112 : BitVec 32 := 0#32
  let c4_i32 : BitVec 32 := 4#32
  let c0_i32_107 : BitVec 32 := 0#32
  let v374 : BitVec 1 := Scalar.cmpi .eq c4_i32 c0_i32_107
  let c1_i32_108 : BitVec 32 := 1#32
  let v375 : BitVec 32 := Scalar.select v374 c1_i32_108 c4_i32
  let v376 : BitVec 32 := Scalar.remsi arg1 v375
  let c0_i32_110 : BitVec 32 := 0#32
  let v378 : BitVec 1 := Scalar.cmpi .slt v376 c0_i32_110
  let c0_i32_111 : BitVec 32 := 0#32
  let v379 : BitVec 1 := Scalar.cmpi .slt v375 c0_i32_111
  let v380 : BitVec 1 := Scalar.xori v378 v379
  let c0_i32_109 : BitVec 32 := 0#32
  let v377 : BitVec 1 := Scalar.cmpi .ne v376 c0_i32_109
  let v381 : BitVec 1 := Scalar.andi v380 v377
  let v382 : BitVec 32 := Scalar.addi v376 v375
  let v383 : BitVec 32 := Scalar.select v381 v382 v376
  let v384 : BitVec 32 := Scalar.subi v383 c0_i32_112
  let c1_i32_113 : BitVec 32 := 1#32
  let v386 : BitVec 32 := Scalar.divsi v384 c1_i32_113
  let v387 : BitVec 32 := Scalar.muli v386 c1_i32_113
  let v388 : BitVec 32 := Scalar.addi c0_i32_112 v387
  let c1_i32_115 : BitVec 32 := 1#32
  let arg6 : BitVec 32 := Scf.iv v388 c1_i32_115 k0_t2
  let v430 : BitVec 32 := Scalar.subi v429 arg6
  let c256_i32_137 : BitVec 32 := 256#32
  let v431 : BitVec 32 := Scalar.muli v430 c256_i32_137
  let v432 : BitVec 32 := v431
  let v433 : Index := Scalar.indexCast v432
  let c0_138 : Index := 0#32
  ![v433.toNat, 0]
def k0_mult6 (i : grid0.Coords) (k0_t2 : Fin (k0_t2_loop i).trips) : BitVec 32 :=
  let arg1 : BitVec 32 := BitVec.ofNat 32 (i 1).val
  let c1_i32_136 : BitVec 32 := 1#32
  let v429 : BitVec 32 := Scalar.subi arg1 c1_i32_136
  let c0_i32_112 : BitVec 32 := 0#32
  let c4_i32 : BitVec 32 := 4#32
  let c0_i32_107 : BitVec 32 := 0#32
  let v374 : BitVec 1 := Scalar.cmpi .eq c4_i32 c0_i32_107
  let c1_i32_108 : BitVec 32 := 1#32
  let v375 : BitVec 32 := Scalar.select v374 c1_i32_108 c4_i32
  let v376 : BitVec 32 := Scalar.remsi arg1 v375
  let c0_i32_110 : BitVec 32 := 0#32
  let v378 : BitVec 1 := Scalar.cmpi .slt v376 c0_i32_110
  let c0_i32_111 : BitVec 32 := 0#32
  let v379 : BitVec 1 := Scalar.cmpi .slt v375 c0_i32_111
  let v380 : BitVec 1 := Scalar.xori v378 v379
  let c0_i32_109 : BitVec 32 := 0#32
  let v377 : BitVec 1 := Scalar.cmpi .ne v376 c0_i32_109
  let v381 : BitVec 1 := Scalar.andi v380 v377
  let v382 : BitVec 32 := Scalar.addi v376 v375
  let v383 : BitVec 32 := Scalar.select v381 v382 v376
  let v384 : BitVec 32 := Scalar.subi v383 c0_i32_112
  let c1_i32_113 : BitVec 32 := 1#32
  let v386 : BitVec 32 := Scalar.divsi v384 c1_i32_113
  let v387 : BitVec 32 := Scalar.muli v386 c1_i32_113
  let v388 : BitVec 32 := Scalar.addi c0_i32_112 v387
  let c1_i32_115 : BitVec 32 := 1#32
  let arg6 : BitVec 32 := Scf.iv v388 c1_i32_115 k0_t2
  let v430 : BitVec 32 := Scalar.subi v429 arg6
  let c256_i32_143 : BitVec 32 := 256#32
  let v440 : BitVec 32 := Scalar.muli v430 c256_i32_143
  v440
@[reducible] def k0_t3_loop (i : grid0.Coords) : Scf.Loop 32 :=
  let c0_i32_130 : BitVec 32 := 0#32
  let arg1 : BitVec 32 := BitVec.ofNat 32 (i 1).val
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_132 : BitVec 32 := 1#32
  ⟨c0_i32_130, v424, c1_i32_132⟩
def k0_mult7 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_136 : BitVec 32 := 4#32
  let c0_i32_130 : BitVec 32 := 0#32
  let c1_i32_132 : BitVec 32 := 1#32
  let arg6 : BitVec 32 := Scf.iv c0_i32_130 c1_i32_132 k0_t3
  let v429 : BitVec 32 := Scalar.muli c4_i32_136 arg6
  let v430 : BitVec 32 := Scalar.subi v402 v429
  let c0_i32_137 : BitVec 32 := 0#32
  let v431 : BitVec 32 := Scalar.subi v430 c0_i32_137
  let c256_i32_144 : BitVec 32 := 256#32
  let v441 : BitVec 32 := Scalar.muli v431 c256_i32_144
  v441
def k0_off4 (i : grid0.Coords) (k0_t3 : Fin (k0_t3_loop i).trips) (c0_i32_137 : BitVec 32) : Fin 2 → Nat :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_136 : BitVec 32 := 4#32
  let c0_i32_130 : BitVec 32 := 0#32
  let c1_i32_132 : BitVec 32 := 1#32
  let arg6 : BitVec 32 := Scf.iv c0_i32_130 c1_i32_132 k0_t3
  let v429 : BitVec 32 := Scalar.muli c4_i32_136 arg6
  let v430 : BitVec 32 := Scalar.subi v402 v429
  let v431 : BitVec 32 := Scalar.subi v430 c0_i32_137
  let c256_i32_144 : BitVec 32 := 256#32
  let v441 : BitVec 32 := Scalar.muli v431 c256_i32_144
  let v442 : BitVec 32 := v441
  let v443 : Index := Scalar.indexCast v442
  let c0_145 : Index := 0#32
  ![v443.toNat, 0]
def k0_mult8 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_138 : BitVec 32 := 4#32
  let c0_i32_130 : BitVec 32 := 0#32
  let c1_i32_132 : BitVec 32 := 1#32
  let arg6 : BitVec 32 := Scf.iv c0_i32_130 c1_i32_132 k0_t3
  let v432 : BitVec 32 := Scalar.muli c4_i32_138 arg6
  let v433 : BitVec 32 := Scalar.subi v402 v432
  let c1_i32_139 : BitVec 32 := 1#32
  let v434 : BitVec 32 := Scalar.subi v433 c1_i32_139
  let c256_i32_150 : BitVec 32 := 256#32
  let v450 : BitVec 32 := Scalar.muli v434 c256_i32_150
  v450
def k0_mult9 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_140 : BitVec 32 := 4#32
  let c0_i32_130 : BitVec 32 := 0#32
  let c1_i32_132 : BitVec 32 := 1#32
  let arg6 : BitVec 32 := Scf.iv c0_i32_130 c1_i32_132 k0_t3
  let v435 : BitVec 32 := Scalar.muli c4_i32_140 arg6
  let v436 : BitVec 32 := Scalar.subi v402 v435
  let c2_i32_141 : BitVec 32 := 2#32
  let v437 : BitVec 32 := Scalar.subi v436 c2_i32_141
  let c256_i32_156 : BitVec 32 := 256#32
  let v459 : BitVec 32 := Scalar.muli v437 c256_i32_156
  v459
def k0_mult10 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_142 : BitVec 32 := 4#32
  let c0_i32_130 : BitVec 32 := 0#32
  let c1_i32_132 : BitVec 32 := 1#32
  let arg6 : BitVec 32 := Scf.iv c0_i32_130 c1_i32_132 k0_t3
  let v438 : BitVec 32 := Scalar.muli c4_i32_142 arg6
  let v439 : BitVec 32 := Scalar.subi v402 v438
  let c3_i32_143 : BitVec 32 := 3#32
  let v440 : BitVec 32 := Scalar.subi v439 c3_i32_143
  let c256_i32_162 : BitVec 32 := 256#32
  let v468 : BitVec 32 := Scalar.muli v440 c256_i32_162
  v468
def k0_mult11 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_136 : BitVec 32 := 4#32
  let c0_i32_130 : BitVec 32 := 0#32
  let c1_i32_132 : BitVec 32 := 1#32
  let arg6 : BitVec 32 := Scf.iv c0_i32_130 c1_i32_132 k0_t3
  let v429 : BitVec 32 := Scalar.muli c4_i32_136 arg6
  let v430 : BitVec 32 := Scalar.subi v402 v429
  let c0_i32_137 : BitVec 32 := 0#32
  let v431 : BitVec 32 := Scalar.subi v430 c0_i32_137
  let c256_i32_168 : BitVec 32 := 256#32
  let v477 : BitVec 32 := Scalar.muli v431 c256_i32_168
  v477
def k0_mult12 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_138 : BitVec 32 := 4#32
  let c0_i32_130 : BitVec 32 := 0#32
  let c1_i32_132 : BitVec 32 := 1#32
  let arg6 : BitVec 32 := Scf.iv c0_i32_130 c1_i32_132 k0_t3
  let v432 : BitVec 32 := Scalar.muli c4_i32_138 arg6
  let v433 : BitVec 32 := Scalar.subi v402 v432
  let c1_i32_139 : BitVec 32 := 1#32
  let v434 : BitVec 32 := Scalar.subi v433 c1_i32_139
  let c256_i32_206 : BitVec 32 := 256#32
  let v604 : BitVec 32 := Scalar.muli v434 c256_i32_206
  v604
def k0_mult13 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_140 : BitVec 32 := 4#32
  let c0_i32_130 : BitVec 32 := 0#32
  let c1_i32_132 : BitVec 32 := 1#32
  let arg6 : BitVec 32 := Scf.iv c0_i32_130 c1_i32_132 k0_t3
  let v435 : BitVec 32 := Scalar.muli c4_i32_140 arg6
  let v436 : BitVec 32 := Scalar.subi v402 v435
  let c2_i32_141 : BitVec 32 := 2#32
  let v437 : BitVec 32 := Scalar.subi v436 c2_i32_141
  let c256_i32_244 : BitVec 32 := 256#32
  let v731 : BitVec 32 := Scalar.muli v437 c256_i32_244
  v731
def k0_mult14 (i : grid0.Coords) (k0_t3 : Fin (k0_t3_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_142 : BitVec 32 := 4#32
  let c0_i32_130 : BitVec 32 := 0#32
  let c1_i32_132 : BitVec 32 := 1#32
  let arg6 : BitVec 32 := Scf.iv c0_i32_130 c1_i32_132 k0_t3
  let v438 : BitVec 32 := Scalar.muli c4_i32_142 arg6
  let v439 : BitVec 32 := Scalar.subi v402 v438
  let c3_i32_143 : BitVec 32 := 3#32
  let v440 : BitVec 32 := Scalar.subi v439 c3_i32_143
  let c256_i32_282 : BitVec 32 := 256#32
  let v858 : BitVec 32 := Scalar.muli v440 c256_i32_282
  v858
@[reducible] def k0_t4_loop (i : grid0.Coords) : Scf.Loop 32 :=
  let c0_i32_130 : BitVec 32 := 0#32
  let arg1 : BitVec 32 := BitVec.ofNat 32 (i 1).val
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let v421 : BitVec 32 := Scalar.addi c0_i32_130 v420
  let c1_i32_133 : BitVec 32 := 1#32
  ⟨v424, v421, c1_i32_133⟩
def k0_mult15 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_136 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v429 : BitVec 32 := Scalar.muli c4_i32_136 arg6
  let v430 : BitVec 32 := Scalar.subi v402 v429
  let c0_i32_137 : BitVec 32 := 0#32
  let v431 : BitVec 32 := Scalar.subi v430 c0_i32_137
  let c256_i32_144 : BitVec 32 := 256#32
  let v441 : BitVec 32 := Scalar.muli v431 c256_i32_144
  v441
def k0_off5 (i : grid0.Coords) (k0_t4 : Fin (k0_t4_loop i).trips) (c0_i32_137 : BitVec 32) : Fin 2 → Nat :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_136 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v429 : BitVec 32 := Scalar.muli c4_i32_136 arg6
  let v430 : BitVec 32 := Scalar.subi v402 v429
  let v431 : BitVec 32 := Scalar.subi v430 c0_i32_137
  let c256_i32_144 : BitVec 32 := 256#32
  let v441 : BitVec 32 := Scalar.muli v431 c256_i32_144
  let v442 : BitVec 32 := v441
  let v443 : Index := Scalar.indexCast v442
  let c0_145 : Index := 0#32
  ![v443.toNat, 0]
def k0_mult16 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_138 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v432 : BitVec 32 := Scalar.muli c4_i32_138 arg6
  let v433 : BitVec 32 := Scalar.subi v402 v432
  let c1_i32_139 : BitVec 32 := 1#32
  let v434 : BitVec 32 := Scalar.subi v433 c1_i32_139
  let c256_i32_150 : BitVec 32 := 256#32
  let v450 : BitVec 32 := Scalar.muli v434 c256_i32_150
  v450
def k0_mult17 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_140 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v435 : BitVec 32 := Scalar.muli c4_i32_140 arg6
  let v436 : BitVec 32 := Scalar.subi v402 v435
  let c2_i32_141 : BitVec 32 := 2#32
  let v437 : BitVec 32 := Scalar.subi v436 c2_i32_141
  let c256_i32_156 : BitVec 32 := 256#32
  let v459 : BitVec 32 := Scalar.muli v437 c256_i32_156
  v459
def k0_mult18 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_142 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v438 : BitVec 32 := Scalar.muli c4_i32_142 arg6
  let v439 : BitVec 32 := Scalar.subi v402 v438
  let c3_i32_143 : BitVec 32 := 3#32
  let v440 : BitVec 32 := Scalar.subi v439 c3_i32_143
  let c256_i32_162 : BitVec 32 := 256#32
  let v468 : BitVec 32 := Scalar.muli v440 c256_i32_162
  v468
def k0_mult19 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_136 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v429 : BitVec 32 := Scalar.muli c4_i32_136 arg6
  let v430 : BitVec 32 := Scalar.subi v402 v429
  let c0_i32_137 : BitVec 32 := 0#32
  let v431 : BitVec 32 := Scalar.subi v430 c0_i32_137
  let c256_i32_168 : BitVec 32 := 256#32
  let v477 : BitVec 32 := Scalar.muli v431 c256_i32_168
  v477
def k0_mult20 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_138 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v432 : BitVec 32 := Scalar.muli c4_i32_138 arg6
  let v433 : BitVec 32 := Scalar.subi v402 v432
  let c1_i32_139 : BitVec 32 := 1#32
  let v434 : BitVec 32 := Scalar.subi v433 c1_i32_139
  let c256_i32_206 : BitVec 32 := 256#32
  let v604 : BitVec 32 := Scalar.muli v434 c256_i32_206
  v604
def k0_mult21 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_140 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v435 : BitVec 32 := Scalar.muli c4_i32_140 arg6
  let v436 : BitVec 32 := Scalar.subi v402 v435
  let c2_i32_141 : BitVec 32 := 2#32
  let v437 : BitVec 32 := Scalar.subi v436 c2_i32_141
  let c256_i32_244 : BitVec 32 := 256#32
  let v731 : BitVec 32 := Scalar.muli v437 c256_i32_244
  v731
def k0_mult22 (i : grid0.Coords) (k0_t4 : Fin (k0_t4_loop i).trips) : BitVec 32 :=
  let arg1 : BitVec 32 := BitVec.ofNat 32 (i 1).val
  let c1_i32_116 : BitVec 32 := 1#32
  let v391 : BitVec 32 := Scalar.subi arg1 c1_i32_116
  let c4_i32_117 : BitVec 32 := 4#32
  let c0_i32_118 : BitVec 32 := 0#32
  let v392 : BitVec 1 := Scalar.cmpi .eq c4_i32_117 c0_i32_118
  let c1_i32_119 : BitVec 32 := 1#32
  let v393 : BitVec 32 := Scalar.select v392 c1_i32_119 c4_i32_117
  let v394 : BitVec 32 := Scalar.remsi arg1 v393
  let c0_i32_121 : BitVec 32 := 0#32
  let v396 : BitVec 1 := Scalar.cmpi .slt v394 c0_i32_121
  let c0_i32_122 : BitVec 32 := 0#32
  let v397 : BitVec 1 := Scalar.cmpi .slt v393 c0_i32_122
  let v398 : BitVec 1 := Scalar.xori v396 v397
  let c0_i32_120 : BitVec 32 := 0#32
  let v395 : BitVec 1 := Scalar.cmpi .ne v394 c0_i32_120
  let v399 : BitVec 1 := Scalar.andi v398 v395
  let v400 : BitVec 32 := Scalar.addi v394 v393
  let v401 : BitVec 32 := Scalar.select v399 v400 v394
  let v402 : BitVec 32 := Scalar.subi v391 v401
  let c4_i32_142 : BitVec 32 := 4#32
  let c0_i32_130 : BitVec 32 := 0#32
  let c0_i32_124 : BitVec 32 := 0#32
  let v404 : BitVec 1 := Scalar.cmpi .sgt arg1 c0_i32_124
  let v405 : BitVec 32 := Scalar.extui v404
  let c0_i32_125 : BitVec 32 := 0#32
  let v406 : BitVec 1 := Scalar.cmpi .slt arg1 c0_i32_125
  let v407 : BitVec 32 := Scalar.extui v406
  let v408 : BitVec 32 := Scalar.subi v405 v407
  let c4_i32_123 : BitVec 32 := 4#32
  let c0_i32_126 : BitVec 32 := 0#32
  let v409 : BitVec 1 := Scalar.cmpi .sgt c4_i32_123 c0_i32_126
  let v410 : BitVec 32 := Scalar.extui v409
  let c0_i32_127 : BitVec 32 := 0#32
  let v411 : BitVec 1 := Scalar.cmpi .slt c4_i32_123 c0_i32_127
  let v412 : BitVec 32 := Scalar.extui v411
  let v413 : BitVec 32 := Scalar.subi v410 v412
  let v414 : BitVec 1 := Scalar.cmpi .ne v408 v413
  let v415 : BitVec 32 := Scalar.remsi arg1 c4_i32_123
  let c0_i32_128 : BitVec 32 := 0#32
  let v416 : BitVec 1 := Scalar.cmpi .ne v415 c0_i32_128
  let v417 : BitVec 1 := Scalar.andi v414 v416
  let v403 : BitVec 32 := Scalar.divsi arg1 c4_i32_123
  let c1_i32_129 : BitVec 32 := 1#32
  let v418 : BitVec 32 := Scalar.subi v403 c1_i32_129
  let v419 : BitVec 32 := Scalar.select v417 v418 v403
  let v420 : BitVec 32 := Scalar.subi v419 c0_i32_130
  let c1_i32_131 : BitVec 32 := 1#32
  let v422 : BitVec 32 := Scalar.divsi v420 c1_i32_131
  let v423 : BitVec 32 := Scalar.muli v422 c1_i32_131
  let v424 : BitVec 32 := Scalar.addi c0_i32_130 v423
  let c1_i32_133 : BitVec 32 := 1#32
  let arg6 : BitVec 32 := Scf.iv v424 c1_i32_133 k0_t4
  let v438 : BitVec 32 := Scalar.muli c4_i32_142 arg6
  let v439 : BitVec 32 := Scalar.subi v402 v438
  let c3_i32_143 : BitVec 32 := 3#32
  let v440 : BitVec 32 := Scalar.subi v439 c3_i32_143
  let c256_i32_282 : BitVec 32 := 256#32
  let v858 : BitVec 32 := Scalar.muli v440 c256_i32_282
  v858
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FwdRefIdeal.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S4096x2x16x64 : Shape := ⟨4, ![4096, 2, 16, 64]⟩
abbrev S4096x1x16x64 : Shape := ⟨4, ![4096, 1, 16, 64]⟩
abbrev S16x4096x4096 : Shape := ⟨3, ![16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x16x64, .f32⟩
  | .hbm, ⟨3, _⟩ => ⟨S16x4096x64, .f32⟩
  | .hbm, ⟨4, _⟩ => ⟨S4096x2x16x64, .f32⟩
  | .hbm, ⟨5, _⟩ => ⟨S4096x1x16x64, .f32⟩
  | .hbm, ⟨6, _⟩ => ⟨S4096x16x64, .f32⟩
  | .hbm, ⟨7, _⟩ => ⟨S16x4096x64, .f32⟩
  | .hbm, ⟨8, _⟩ => ⟨S4096x1x16x64, .f32⟩
  | .hbm, ⟨9, _⟩ => ⟨S4096x16x64, .f32⟩
  | .hbm, ⟨10, _⟩ => ⟨S16x4096x64, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .i1⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S_, .f32⟩
  | .hbm, ⟨66, _⟩ => ⟨S16x4096x4096, .i1⟩
  | .hbm, ⟨67, _⟩ => ⟨S16x4096x4096, .f32⟩
  | .hbm, ⟨68, _⟩ => ⟨S16x4096x4096, .f32⟩
  | .hbm, ⟨69, _⟩ => ⟨S16x4096x64, .f32⟩
  | .hbm, ⟨70, _⟩ => ⟨S4096x16x64, .f32⟩
  | .hbm, ⟨71, _⟩ => ⟨S4096x1024, .f32⟩
  | .hbm, ⟨72, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩

abbrev nD : Nat := 1
abbrev τ : Topo := Topo.v7x

variable {F : FTy → Type} [FloatOps F]
-- ==== Wdn.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdnRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Mix.lean ====
abbrev S4096x1024 : Shape := ⟨2, ![4096, 1024]⟩
abbrev S4x256x256 : Shape := ⟨3, ![4, 256, 256]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S4x256x256, .bf16⟩
  | .hbm, ⟨4, _⟩ => ⟨S1x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixRefIdeal.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩
abbrev S1x1024 : Shape := ⟨2, ![1, 1024]⟩
abbrev S4097x1024 : Shape := ⟨2, ![4097, 1024]⟩
abbrev S4096 : Shape := ⟨1, ![4096]⟩
abbrev S4096x256 : Shape := ⟨2, ![4096, 256]⟩
abbrev S1x256 : Shape := ⟨2, ![1, 256]⟩
abbrev S4095x256 : Shape := ⟨2, ![4095, 256]⟩
abbrev S4096x1 : Shape := ⟨2, ![4096, 1]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩
abbrev S4096x1x256 : Shape := ⟨3, ![4096, 1, 256]⟩
abbrev S4096x4x256 : Shape := ⟨3, ![4096, 4, 256]⟩
abbrev S4x256x4096 : Shape := ⟨3, ![4, 256, 4096]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S_, .f32⟩
  | .hbm, ⟨7, _⟩ => ⟨S4096x1024, .f32⟩
  | .hbm, ⟨8, _⟩ => ⟨S4097x1024, .f32⟩
  | .hbm, ⟨9, _⟩ => ⟨S4096, .i32⟩
  | .hbm, ⟨10, _⟩ => ⟨S4096x256, .f32⟩
  | .hbm, ⟨11, _⟩ => ⟨S_, .f32⟩
  | .hbm, ⟨12, _⟩ => ⟨S1x256, .f32⟩
  | .hbm, ⟨13, _⟩ => ⟨S4095x256, .f32⟩
  | .hbm, ⟨14, _⟩ => ⟨S4096x256, .f32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S3x256, .f32⟩
  | .hbm, ⟨31, _⟩ => ⟨S4093x256, .f32⟩
  | .hbm, ⟨32, _⟩ => ⟨S4096x256, .f32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .f32⟩
  | .hbm, ⟨40, _⟩ => ⟨S4096x1, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S7x256, .f32⟩
  | .hbm, ⟨49, _⟩ => ⟨S4089x256, .f32⟩
  | .hbm, ⟨50, _⟩ => ⟨S4096x256, .f32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .f32⟩
  | .hbm, ⟨58, _⟩ => ⟨S4096x1, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S15x256, .f32⟩
  | .hbm, ⟨67, _⟩ => ⟨S4081x256, .f32⟩
  | .hbm, ⟨68, _⟩ => ⟨S4096x256, .f32⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .f32⟩
  | .hbm, ⟨76, _⟩ => ⟨S4096x1, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S4096x256, .f32⟩
  | .hbm, ⟨82, _⟩ => ⟨S4096x1x256, .f32⟩
  | .hbm, ⟨83, _⟩ => ⟨S4096x1x256, .f32⟩
  | .hbm, ⟨84, _⟩ => ⟨S4096x1x256, .f32⟩
  | .hbm, ⟨85, _⟩ => ⟨S4096x1x256, .f32⟩
  | .hbm, ⟨86, _⟩ => ⟨S4096x4x256, .f32⟩
  | .hbm, ⟨87, _⟩ => ⟨S4x256x4096, .f32⟩
  | .hbm, ⟨88, _⟩ => ⟨S4096x4x256, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Proof.Reals.lean ====
/-
  Finite extended reals. A float array whose elements are all finite is the image `cv f` of a real array `f`; the
  operations of the ideal instance, applied to such images, are the images of the real operations. The value proofs of
  this certificate move both programs to the reals by these lemmas and compare real functions there.
-/
module

public import Idealize.ShloMosaic.PureOps.Ideal
public import Idealize.ShloMosaic.PureOps.Ideal.Laws
public import Idealize.ShloMosaic.Lib.ValueIdx
public import Idealize.ShloMosaic.Lib.Pipeline.Value
public import Idealize.ShloMosaic.Lib.Pipeline.ValueKit

@[expose] public section

noncomputable section

namespace Cert.Reals

open Idealize.ShloMosaic
open scoped BigOperators

/-- A real array as an array of extended reals. -/
def cv {ι : Type*} (f : ι → ℝ) : ι → EReal := fun i => ((f i : ℝ) : EReal)

theorem cv_apply {ι : Type*} (f : ι → ℝ) (i : ι) : cv f i = ((f i : ℝ) : EReal) := rfl

/-- An array with no infinite element is the image of its real parts. -/
theorem eq_cv {ι : Type*} (x : ι → EReal) (h : ∀ i, x i ≠ ⊥ ∧ x i ≠ ⊤) : x = cv fun i => (x i).toReal :=
  funext fun i => (EReal.coe_toReal (h i).2 (h i).1).symm

/-- `|a| < ∞`, as a precondition states it, says that `a` is neither infinity. -/
theorem finite_of_abs_lt (a : Ideal .f32)
    (h : BitVec.ofBool (decide (FloatOps.absf a < Ideal.ofBits .f32 0x7F800000#32)) = 1#1) : a ≠ (⊥ : EReal) ∧ a ≠ (⊤ : EReal) := by
  have ht : Ideal.ofBits .f32 0x7F800000#32 = ⊤ := by simp [Ideal.ofBits, Ideal.ieee]
  have h' : max (a : EReal) (-a) < ⊤ := by
    rw [← ht]
    by_contra hn
    rw [decide_eq_false (by exact hn)] at h
    exact absurd h (by decide)
  constructor
  · rintro rfl
    simp at h'
  · rintro rfl
    simp at h'

/-- A conjunction of two one-bit flags is set only where both are. -/
theorem and_eq_one {a b : BitVec 1} (h : IntOp.andi a b = 1#1) : a = 1#1 ∧ b = 1#1 := by
  revert h; revert a b; decide

theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of finite values by a nonzero one is the real quotient. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reciprocal square root of a positive value. -/
theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg ha.le.not_gt, if_neg ha.ne']

/-- The rows of an array are the rows of its eight blocks of 512. -/
theorem sum_blocks {N : ℕ} (hN : N = 8) (f : Fin 4096 → ℝ) :
    (∑ t : Fin N, ∑ p : Fin 512, f ⟨t.val * 512 + p.val, by omega⟩) = ∑ r, f r := by
  subst hN
  exact Fin.sum_mul_add_fin 8 512 f

/-! ## The literals -/

/-- The single-precision word nearest to one millionth, as a real. -/
def eps : ℝ := 8796093 / 2 ^ 43

theorem eps_pos : 0 < eps := by unfold eps; positivity

theorem lit_eps : Ideal.ofBits .f32 0x358637BD#32 = ((eps : ℝ) : EReal) := by
  simp only [Ideal.ofBits, Ideal.ieee, eps]
  simp [-EReal.coe_mul]
  norm_num

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_inv2048 : Ideal.ofBits .f32 0x3A000000#32 = ((1 / 2048 : ℝ) : EReal) := by
  simp [Ideal.ofBits, Ideal.ieee, -EReal.coe_mul]; norm_num

/-! ## The norm over a row of 1024 features, and its gradient, on the reals -/

/-- The mean square of a row, plus epsilon. -/
def ms (d : Fin 1024 → ℝ) : ℝ := (∑ k, d k * d k) / 1024 + eps

/-- The reciprocal root mean square of a row. -/
def rs (d : Fin 1024 → ℝ) : ℝ := (Real.sqrt (ms d))⁻¹

theorem ms_pos (d : Fin 1024 → ℝ) : 0 < ms d := by
  have h : 0 ≤ ∑ k, d k * d k := Finset.sum_nonneg fun k _ => mul_self_nonneg (d k)
  have := eps_pos
  unfold ms; positivity

/-- The mean square as the programs compute it. -/
theorem ms_coe (f : Fin 1024 → ℝ) :
    Ideal.div (∑ k, (f k : EReal) * (f k : EReal)) (Ideal.ofBits .f32 0x44800000#32)
      + Ideal.ofBits .f32 0x358637BD#32 = ((ms f : ℝ) : EReal) := by
  simp only [lit_1024, lit_eps, ← EReal.coe_mul, sum_coe]
  rw [div_coe _ _ (by norm_num), ← EReal.coe_add]
  rfl

/-- The reciprocal root mean square as the programs compute it. -/
theorem rs_coe (f : Fin 1024 → ℝ) :
    Ideal.rsqrt (Ideal.div (∑ k, (f k : EReal) * (f k : EReal)) (Ideal.ofBits .f32 0x44800000#32)
      + Ideal.ofBits .f32 0x358637BD#32) = ((rs f : ℝ) : EReal) := by
  rw [ms_coe]
  exact rsqrt_coe _ (ms_pos f)

/-- The gradient of the norm with respect to the row, as the kernel writes it: `r (c − x̂ · mean (c x̂))`. -/
def ngrad (d c : Fin 1024 → ℝ) (j : Fin 1024) : ℝ :=
  rs d * (c j - d j * rs d * ((∑ k, c k * (d k * rs d)) / 1024))

/-- The same gradient as differentiation through the reciprocal square root writes it. -/
theorem ngrad_eq (d c : Fin 1024 → ℝ) (j : Fin 1024) :
    c j * rs d + d j * ((∑ k, d k * c k) * (-(1 / 2) * (rs d / ms d)) / 1024)
      + (∑ k, d k * c k) * (-(1 / 2) * (rs d / ms d)) / 1024 * d j = ngrad d c j := by
  have hm := ms_pos d
  have hr : rs d / ms d = rs d * rs d * rs d := by
    unfold rs
    have hs : Real.sqrt (ms d) ≠ 0 := (Real.sqrt_pos.mpr hm).ne'
    have h2 : Real.sqrt (ms d) * Real.sqrt (ms d) = ms d := Real.mul_self_sqrt hm.le
    field_simp
    nlinarith [h2]
  have hsum : (∑ k, c k * (d k * rs d)) = (∑ k, d k * c k) * rs d := by
    rw [Finset.sum_mul]; exact Finset.sum_congr rfl fun k _ => by ring
  unfold ngrad
  rw [hr, hsum]
  ring

end Cert.Reals

end
-- ==== Proof.LossBlock.lean ====
/-
  The blocks of the loss kernel on finite inputs.
-/
module

public import proofs.«01_k».proof.Proof.Gen.LossIdeal.Value
public import proofs.«01_k».proof.Proof.Reals
public import Idealize.ShloMosaic.Lib.Pipeline.ValueKit
public import Idealize.ShloMosaic.Lib.Pointwise

@[expose] public section

set_option maxRecDepth 16384

noncomputable section

namespace Cert.LossIdeal.Block

open Cert.LossIdeal Cert.LossIdeal.Gen Cert.Reals Idealize.ShloMosaic Idealize.ShloMosaic.TcCoe Idealize.SL.Sem
open Idealize.ShloMosaic.Pipeline (Dat)

/-- Row `p` of a block. -/
abbrev row (d : S512x1024.Idx → ℝ) (p : Fin 512) : Fin 1024 → ℝ := fun k => d (ix2 p k)

/-- The error of one element: the residual stream plus the normed branch, minus the target. -/
def err (x d t : S512x1024.Idx → ℝ) (g : S1x1024.Idx → ℝ) (j : S512x1024.Idx) : ℝ :=
  x j + d j * rs (row d (j 0)) * g (ix2 0 (j 1)) - t j

/-- The gradient with respect to the normed branch, times the gain. -/
def cot (x d t : S512x1024.Idx → ℝ) (g : S1x1024.Idx → ℝ) (p : Fin 512) (k : Fin 1024) : ℝ :=
  err x d t g (ix2 p k) * (1 / 1024) * g (ix2 0 k)

/-- An index is a pair of coordinates. -/
theorem split (j : S512x1024.Idx) : ∃ p q, j = ix2 p q := ⟨j 0, j 1, eq_ix2 j⟩

theorem pay9 (d : S512x1024.Idx → ℝ) (j : S512x1.Idx) :
    k0_pay9 (F := Ideal) (cv d) j = ((rs (row d (j 0)) : ℝ) : EReal) := by
  pointwise [k0_pay9]
  exact rs_coe (row d (j 0))

theorem pay7 (x d t : S512x1024.Idx → ℝ) (g : S1x1024.Idx → ℝ) :
    k0_pay7 (F := Ideal) (cv x) (cv d) (cv t) (cv g) = cv (err x d t g) := by
  funext j
  pointwise [k0_pay7, k0_pay6]
  have h := rs_coe (row d (j 0))
  simp only [cv_apply] at h ⊢
  rw [h]
  unfold err
  push_cast
  rfl

theorem pay8 (x d t : S512x1024.Idx → ℝ) (g : S1x1024.Idx → ℝ) :
    k0_pay8 (F := Ideal) (cv x) (cv d) (cv t) (cv g) = cv fun j => err x d t g j * (1 / 1024) := by
  unfold k0_pay8
  rw [pay7]
  funext j
  pointwise
  simp only [cv_apply, lit_inv1024, EReal.coe_mul]

theorem pay10 (d : S512x1024.Idx → ℝ) :
    k0_pay10 (F := Ideal) (cv d) = cv fun j => d j * rs (row d (j 0)) := by
  funext j
  pointwise [k0_pay10]
  rw [pay9]
  simp only [cv_apply, EReal.coe_mul]
  rfl

theorem pay11 (x d t : S512x1024.Idx → ℝ) (g : S1x1024.Idx → ℝ) :
    k0_pay11 (F := Ideal) (cv x) (cv d) (cv t) (cv g) = cv fun j => cot x d t g (j 0) (j 1)
      - d j * rs (row d (j 0)) * ((∑ k, cot x d t g (j 0) k * (d (ix2 (j 0) k) * rs (row d (j 0)))) / 1024) := by
  unfold k0_pay11
  rw [pay8, pay10]
  funext j
  pointwise [k0_pay6]
  simp only [cv_apply, lit_1024, ← EReal.coe_mul, sum_coe]
  rw [div_coe _ _ (by norm_num)]
  rw [← EReal.coe_mul, ← EReal.coe_sub]
  obtain ⟨p, q, rfl⟩ := split j
  rfl

theorem out5 (x d t : S512x1024.Idx → ℝ) (g : S1x1024.Idx → ℝ) :
    k0_pay1 (F := Ideal) (k0_pay11 (cv x) (cv d) (cv t) (cv g)) (k0_pay12 (cv d))
      = cv fun j => ngrad (row d (j 0)) (cot x d t g (j 0)) (j 1) := by
  rw [pay11]
  funext j
  pointwise [k0_pay1, k0_pay12]
  rw [pay9]
  simp only [cv_apply, ← EReal.coe_mul]
  obtain ⟨p, q, rfl⟩ := split j
  rfl

theorem out6 (e : S512x1024.Idx → ℝ) (a : FVec Ideal S1x1024 .f32) (j : S1x1024.Idx) :
    k0_pay3 (F := Ideal) (cv e) a j
      = a j + (((∑ p, e (ix2 p (j 1)) * e (ix2 p (j 1))) * (1 / 2048) : ℝ) : EReal) := by
  pointwise [k0_pay3]
  simp only [cv_apply, lit_inv2048, ← EReal.coe_mul, sum_coe, ← EReal.coe_add]

theorem out7 (c e : S512x1024.Idx → ℝ) (a : FVec Ideal S1x1024 .f32) (j : S1x1024.Idx) :
    k0_pay5 (F := Ideal) (cv c) (cv e) a j = a j + ((∑ p, c (ix2 p (j 1)) * e (ix2 p (j 1)) : ℝ) : EReal) := by
  pointwise [k0_pay5]
  simp only [cv_apply, ← EReal.coe_mul, sum_coe, ← EReal.coe_add]

variable (m : (ℓ : Loc nD τ sig) → Buf (Elt Ideal) ℓ)
variable (X D T : S4096x1024.Idx → ℝ) (G : S1024.Idx → ℝ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0]
    ∧ win0_6.index t = ![0, 0] ∧ win0_7.index t = ![0, 0] ∧ t.val < 8 :=
  (by decide +kernel : ∀ t : Fin grid0.N, _)

/-- The block of 512 rows which point `t` takes from an array. -/
def blk (X : S4096x1024.Idx → ℝ) (t : ℕ) (ht : t < 8) (y : S512x1024.Idx) : ℝ :=
  X (ix2 ⟨t * 512 + (y 0).val, by have : (y 0).val < 512 := (y 0).isLt; omega⟩ ⟨(y 1).val, (y 1).isLt⟩)

theorem iblk0 (c : Dev nD) (t : Fin cfg0.N) (h : m ((c : Thread nD τ).loc main_arg0) = cv X) :
    iblk m c 0 t = cv (blk X t.val (idx t).2.2.2.2.2.2.2.2) := by
  funext y
  blk_simp [iblk]
  rw [V_main_arg0, h]
  show ((X _ : ℝ) : EReal) = ((X _ : ℝ) : EReal)
  congr 2
  blk_ext [idx t]

theorem iblk1 (c : Dev nD) (t : Fin cfg0.N) (h : m ((c : Thread nD τ).loc main_arg1) = cv X) :
    iblk m c 1 t = cv (blk X t.val (idx t).2.2.2.2.2.2.2.2) := by
  funext y
  blk_simp [iblk]
  rw [V_main_arg1, h]
  show ((X _ : ℝ) : EReal) = ((X _ : ℝ) : EReal)
  congr 2
  blk_ext [idx t]

theorem iblk2 (c : Dev nD) (t : Fin cfg0.N) (h : m ((c : Thread nD τ).loc main_arg3) = cv X) :
    iblk m c 2 t = cv (blk X t.val (idx t).2.2.2.2.2.2.2.2) := by
  funext y
  blk_simp [iblk]
  rw [V_main_arg3, h]
  show ((X _ : ℝ) : EReal) = ((X _ : ℝ) : EReal)
  congr 2
  blk_ext [idx t]

theorem iblk3 (c : Dev nD) (t : Fin cfg0.N) (h : m ((c : Thread nD τ).loc main_arg2) = cv G) :
    iblk m c 3 t = cv fun y => G (ix1 (y 1)) := by
  funext y
  blk_simp [iblk, idx t]
  entry_read
  pointwise
  have h' : m (c, Proc.tc.devRef main_arg2) = cv G := h
  rw [h']
  show ((G _ : ℝ) : EReal) = ((G _ : ℝ) : EReal)
  congr 2
  blk_ext [idx t]

/-- The four blocks which point `t` reads, on finite inputs. -/
structure Inputs (c : Dev nD) : Prop where
  x : m ((c : Thread nD τ).loc main_arg0) = cv X
  d : m ((c : Thread nD τ).loc main_arg1) = cv D
  t : m ((c : Thread nD τ).loc main_arg3) = cv T
  g : m ((c : Thread nD τ).loc main_arg2) = cv G

/-- The error over the whole array: row `p`, feature `q`. -/
def ERR (p : Fin 4096) (q : Fin 1024) : ℝ :=
  X (ix2 p q) + D (ix2 p q) * rs (fun k => D (ix2 p k)) * G (ix1 q) - T (ix2 p q)

/-- The loss' gradient with respect to the residual stream. -/
def DY (i : S4096x1024.Idx) : ℝ := ERR X D T G (i 0) (i 1) * (1 / 1024)

/-- The loss' gradient with respect to the branch, through the norm. -/
def DD (i : S4096x1024.Idx) : ℝ :=
  ngrad (fun k => D (ix2 (i 0) k)) (fun k => ERR X D T G (i 0) k * (1 / 1024) * G (ix1 k)) (i 1)

/-- The loss by feature. -/
def LOSS (j : S1x1024.Idx) : ℝ := ∑ p, ERR X D T G p (j 1) * ERR X D T G p (j 1) * (1 / 2048)

/-- The loss' gradient with respect to the gain. -/
def DG (j : S1x1024.Idx) : ℝ :=
  ∑ p, ERR X D T G p (j 1) * (1 / 1024) * (D (ix2 p (j 1)) * rs fun k => D (ix2 p k))

/-- Row `y` of block `t` in the whole array. -/
abbrev at_ (t : ℕ) (ht : t < 8) (y : Fin 512) : Fin 4096 := ⟨t * 512 + y.val, by omega⟩

variable {X D T G}

theorem outs4 (c : Dev nD) (t : Fin cfg0.N) : (outsAt0 m c t.val t.isLt).1
      = k0_pay8 (iblk m c 0 t) (iblk m c 1 t) (iblk m c 2 t) (iblk m c 3 t) := by
  by_cases h : t.val % 8 = 0
  · rw [outsAt0_A m c t h h]
    frame_out
  · rw [outsAt0_B m c t h h]
    frame_out

theorem outs5 (c : Dev nD) (t : Fin cfg0.N) : (outsAt0 m c t.val t.isLt).2.1
      = k0_pay1 (k0_pay11 (iblk m c 0 t) (iblk m c 1 t) (iblk m c 2 t) (iblk m c 3 t)) (k0_pay12 (iblk m c 1 t)) := by
  by_cases h : t.val % 8 = 0
  · rw [outsAt0_A m c t h h]
    frame_out
  · rw [outsAt0_B m c t h h]
    frame_out

/-- The first result: the gradient with respect to the residual stream. -/
theorem final4 (c : Dev nD) (h : Inputs m X D T G c) : (dats m 0 c).arrAt 4 (cfgs 0).N = cv (DY X D T G) := by
  refine (dats m 0 c).arrAt_eq_of_covers 4 _ (by decide +kernel) fun t _ y => ?_
  blk_simp
  rw [after0_4, outs4, iblk0 m X c t h.x, iblk1 m D c t h.d, iblk2 m T c t h.t, iblk3 m G c t h.g, pay8]
  obtain ⟨p, q, rfl⟩ := split y
  have e : ((cfg0.win 4).blk t).view.emb (ix2 p q) = ix2 (at_ t.val (idx t).2.2.2.2.2.2.2.2 p) q := by
    blk_ext [idx t]
  rw [e]
  rfl

/-- The second result: the gradient with respect to the branch. -/
theorem final5 (c : Dev nD) (h : Inputs m X D T G c) : (dats m 0 c).arrAt 5 (cfgs 0).N = cv (DD X D T G) := by
  refine (dats m 0 c).arrAt_eq_of_covers 5 _ (by decide +kernel) fun t _ y => ?_
  blk_simp
  rw [after0_5, outs5, iblk0 m X c t h.x, iblk1 m D c t h.d, iblk2 m T c t h.t, iblk3 m G c t h.g, out5]
  obtain ⟨p, q, rfl⟩ := split y
  have e : ((cfg0.win 5).blk t).view.emb (ix2 p q) = ix2 (at_ t.val (idx t).2.2.2.2.2.2.2.2 p) q := by
    blk_ext [idx t]
  rw [e]
  rfl

/-- The third result: the loss by feature. -/
theorem final6 (c : Dev nD) (h : Inputs m X D T G c) : (dats m 0 c).arrAt 6 (cfgs 0).N = cv (LOSS X D T G) := by
  refine (dats m 0 c).arrAt_eq_of_after_last 6 t0_7 (by decide +kernel) _ fun j => ?_
  blk_simp
  rw [after0_6]
  refine (Pipeline.eq_sum_fin_of_reset_step_apply_last (fun n h => (outsAt0 m c n h).2.2.1) 8 (fun _ => (0 : EReal))
    (fun t j => ((∑ p : Fin 512, ERR X D T G (at_ t.val (idx t).2.2.2.2.2.2.2.2 p) (j 1) * ERR X D T G (at_ t.val (idx t).2.2.2.2.2.2.2.2 p) (j 1) * (1 / 2048) : ℝ) : EReal))
    (fun t h0 j => ?_) (fun t h0 j => ?_) (by decide) t0_7 rfl j).trans ?_
  · rw [outsAt0_A m c t h0 h0]
    frame_out
    rw [iblk0 m X c t h.x, iblk1 m D c t h.d, iblk2 m T c t h.t, iblk3 m G c t h.g, pay7, out6]
    refine congrArg₂ (· + ·) lit_zero ?_
    rw [Finset.sum_mul]
    rfl
  · rw [outsAt0_B m c t h0 h0]
    frame_out
    rw [iblk0 m X c t h.x, iblk1 m D c t h.d, iblk2 m T c t h.t, iblk3 m G c t h.g, pay7, out6]
    refine congrArg₂ (· + ·) rfl ?_
    rw [Finset.sum_mul]
    rfl
  · rw [zero_add, sum_coe]
    exact congrArg _ (sum_blocks N_0 fun r => ERR X D T G r (j 1) * ERR X D T G r (j 1) * (1 / 2048))

/-- The fourth result: the gradient with respect to the gain. -/
theorem final7 (c : Dev nD) (h : Inputs m X D T G c) : (dats m 0 c).arrAt 7 (cfgs 0).N = cv (DG X D T G) := by
  refine (dats m 0 c).arrAt_eq_of_after_last 7 t0_7 (by decide +kernel) _ fun j => ?_
  blk_simp
  rw [after0_7]
  refine (Pipeline.eq_sum_fin_of_reset_step_apply_last (fun n h => (outsAt0 m c n h).2.2.2) 8 (fun _ => (0 : EReal))
    (fun t j => ((∑ p : Fin 512, ERR X D T G (at_ t.val (idx t).2.2.2.2.2.2.2.2 p) (j 1) * (1 / 1024) * (D (ix2 (at_ t.val (idx t).2.2.2.2.2.2.2.2 p) (j 1)) * rs fun k => D (ix2 (at_ t.val (idx t).2.2.2.2.2.2.2.2 p) k)) : ℝ) : EReal))
    (fun t h0 j => ?_) (fun t h0 j => ?_) (by decide) t0_7 rfl j).trans ?_
  · rw [outsAt0_A m c t h0 h0]
    frame_out
    rw [iblk0 m X c t h.x, iblk1 m D c t h.d, iblk2 m T c t h.t, iblk3 m G c t h.g, pay8, pay10, out7]
    refine congrArg₂ (· + ·) lit_zero ?_
    rfl
  · rw [outsAt0_B m c t h0 h0]
    frame_out
    rw [iblk0 m X c t h.x, iblk1 m D c t h.d, iblk2 m T c t h.t, iblk3 m G c t h.g, pay8, pay10, out7]
    refine congrArg₂ (· + ·) rfl ?_
    rfl
  · rw [zero_add, sum_coe]
    exact congrArg _ (sum_blocks N_0 fun r => ERR X D T G r (j 1) * (1 / 1024) * (D (ix2 r (j 1)) * rs fun k => D (ix2 r k)))

end Cert.LossIdeal.Block

end
-- ==== Proof.LossRefValue.lean ====
/-
  The loss reference on finite inputs: its four results are the same real functions as the kernel's.
-/
module

public import proofs.«01_k».proof.Proof.Gen.LossRefIdeal.Read
public import proofs.«01_k».proof.Proof.LossBlock

@[expose] public section

set_option maxRecDepth 16384

noncomputable section

namespace Cert.LossRefIdeal.Block

open Cert.LossRefIdeal Cert.LossRefIdeal.Gen Cert.LossRefIdeal.Read Cert.Reals Idealize.ShloMosaic Idealize.ShloMosaic.TcCoe
open Cert.LossIdeal.Block (ERR DY DD LOSS DG)

variable (X D T : S4096x1024.Idx → ℝ) (G : S1024.Idx → ℝ)

/-- The mean square of a row, plus epsilon. -/
theorem v27 (j : S4096x1.Idx) : val_main_v27 (F := Ideal) (cv D) j = ((ms fun k => D (ix2 (j 0) k) : ℝ) : EReal) := by
  pointwise [val_main_v27, val_main_v26, val_main_v25, val_main_v24, val_main_v23, val_main_v22, val_main_v21,
    val_main_cst_5, val_main_cst_6, val_main_cst_7]
  exact ms_coe _

/-- The error. -/
theorem v38 : val_main_v38 (F := Ideal) (cv X) (cv D) (cv G) (cv T) = cv fun i => ERR X D T G (i 0) (i 1) := by
  funext i
  pointwise [val_main_v38, val_main_v37, val_main_v36, val_main_v35, val_main_v34, val_main_v33, val_main_v32, val_main_v28]
  obtain ⟨p, q, rfl⟩ : ∃ p q, i = ix2 p q := ⟨i 0, i 1, eq_ix2 i⟩
  rw [v27, rsqrt_coe _ (ms_pos _)]
  simp only [cv_apply, ← EReal.coe_mul, ← EReal.coe_add, ← EReal.coe_sub]
  rfl

/-- The same error, computed for the loss itself. -/
theorem v14 : val_main_v14 (F := Ideal) (cv X) (cv D) (cv G) (cv T) = cv fun i => ERR X D T G (i 0) (i 1) := by
  rw [← v38]
  rfl

/-- The loss by feature. -/
theorem v74 : val_main_v74 (F := Ideal) (cv X) (cv D) (cv G) (cv T) = cv (LOSS X D T G) := by
  funext j
  pointwise [val_main_v74, val_main_v20, val_main_v19, val_main_v18, val_main_v17, val_main_v16, val_main_v15,
    val_main_cst_2, val_main_cst_3, val_main_cst_4]
  rw [v14]
  simp only [cv_apply, lit_half, lit_1024, ← EReal.coe_mul, sum_coe]
  rw [div_coe _ _ (by norm_num)]
  unfold LOSS
  rw [← Finset.sum_mul]
  congr 1
  show 1 / 2 * (∑ r, ERR X D T G r (j 1) * ERR X D T G r (j 1)) / 1024 = _
  ring

/-- The gradient with respect to the residual stream. -/
theorem v52 : val_main_v52 (F := Ideal) (cv X) (cv D) (cv G) (cv T) = cv (DY X D T G) := by
  funext i
  pointwise [val_main_v52, val_main_v51, val_main_v50, val_main_v49, val_main_v48, val_main_v47, val_main_v41, val_main_v40,
    val_main_cst_9, val_main_cst_14, val_main_cst_15, val_main_cst_16]
  rw [v38]
  simp only [cv_apply, lit_half, lit_two, lit_one, lit_1024, ← EReal.coe_mul]
  rw [div_coe _ _ (by norm_num), ← EReal.coe_mul]
  unfold DY
  congr 1
  ring

/-- The gradient with respect to the gain. -/
theorem v75 : val_main_v75 (F := Ideal) (cv X) (cv D) (cv G) (cv T) = cv (DG X D T G) := by
  funext j
  pointwise [val_main_v75, val_main_v58, val_main_v55, val_main_v54, val_main_v53, val_main_v33, val_main_v32, val_main_v28,
    val_main_cst_17, val_main_cst_18]
  rw [v52]
  refine (Fin.sum_univ_one _).trans ?_
  refine (Finset.sum_congr rfl fun r _ => ?_).trans (sum_coe Finset.univ fun r => ERR X D T G r (j 1) * (1 / 1024)
    * (D (ix2 r (j 1)) * rs fun k => D (ix2 r k)))
  rw [v27, rsqrt_coe _ (ms_pos _)]
  simp only [cv_apply, ← EReal.coe_mul]
  exact congrArg _ (mul_comm _ _)

/-- The gradient with respect to the normed branch, times the gain. -/
theorem v57 : val_main_v57 (F := Ideal) (cv X) (cv D) (cv G) (cv T)
    = cv fun i => ERR X D T G (i 0) (i 1) * (1 / 1024) * G (ix1 (i 1)) := by
  unfold val_main_v57
  rw [v52]
  funext i
  pointwise [val_main_v56, val_main_v34]
  simp only [cv_apply, ← EReal.coe_mul]
  rfl

/-- The gradient with respect to the branch. -/
theorem v73 : val_main_v73 (F := Ideal) (cv X) (cv D) (cv G) (cv T) = cv (DD X D T G) := by
  funext i
  pointwise [val_main_v73, val_main_v72, val_main_v71, val_main_v70, val_main_v69, val_main_v68, val_main_v67, val_main_v66,
    val_main_v65, val_main_v64, val_main_v63, val_main_v62, val_main_v61, val_main_v60, val_main_v59, val_main_v31,
    val_main_v30, val_main_v29, val_main_v28, val_main_cst_8, val_main_cst_19, val_main_cst_20, val_main_cst_21]
  rw [v57]
  obtain ⟨p, q, rfl⟩ : ∃ p q, i = ix2 p q := ⟨i 0, i 1, eq_ix2 i⟩
  have e (f : Fin 1 → EReal) : ∑ x : Fin 1, f x = f 0 := Fin.sum_univ_one f
  rw [e, v27, rsqrt_coe _ (ms_pos _), div_coe _ _ (ms_pos _).ne']
  simp only [cv_apply, lit_neg_half, lit_1024, ← EReal.coe_mul, sum_coe]
  rw [div_coe _ _ (by norm_num)]
  simp only [← EReal.coe_mul, ← EReal.coe_add]
  exact congrArg _ (ngrad_eq (fun k => D (ix2 p k)) (fun k => ERR X D T G p k * (1 / 1024) * G (ix1 k)) q)

end Cert.LossRefIdeal.Block

end
-- ==== Proof.Loss.lean ====
/-
  The claims about the gradient of the loss: frames, and equality with the reference at the ideal instance on finite inputs.
-/
module

public import proofs.«01_k».proof.Defs
public import proofs.«01_k».proof.Proof.Gen.Loss.Frame
public import proofs.«01_k».proof.Proof.Gen.Pre_loss_finite
public import proofs.«01_k».proof.Proof.LossRefValue
public import Idealize.ShloMosaic.Lib.Quiescent

@[expose] public section

set_option maxRecDepth 16384

noncomputable section

namespace Cert.Proof.LossClaims

open Idealize.ShloMosaic Idealize.ShloMosaic.TcCoe Idealize.SL.Sem Cert.Reals
open Cert.LossIdeal.Block (Inputs DY DD LOSS DG)

/-- The kernel and its idealization run without a fault, keep their arguments, and leave no semaphore raised. -/
theorem frame : Cert.quiescent_Loss := fun m ρ _ => Cert.Loss.Gen.frame m ρ
theorem frame_ideal : Cert.quiescent_LossIdeal := fun m ρ _ => Cert.LossIdeal.Gen.frame m ρ
theorem frame_ideal_pre : Cert.quiescent_LossIdeal_pre_loss_finite := fun m ρ _ => Cert.LossIdeal.Gen.frame m ρ

/-- So does the reference, at any state. -/
theorem frame_ref : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)
theorem frame_ref_pre : Cert.quiescent_LossRefIdeal_pre_loss_finite := fun m ρ _ => frame_ref m ρ trivial

theorem preserves : Cert.preserves_Loss_LossIdeal := trivial

/-- The precondition, read: every element of the four arguments is finite. -/
theorem finite (x d t : FVec Ideal Cert.LossIdeal.S4096x1024 .f32) (g : FVec Ideal Cert.LossIdeal.S1024 .f32)
    (h : Cert.Pre_loss_finite.fn (F := Ideal) x d g t = fun _ => 1#1) :
    (∀ i, x i ≠ ⊥ ∧ x i ≠ ⊤) ∧ (∀ i, d i ≠ ⊥ ∧ d i ≠ ⊤) ∧ (∀ i, t i ≠ ⊥ ∧ t i ≠ ⊤) ∧ ∀ i, g i ≠ ⊥ ∧ g i ≠ ⊤ := by
  have key (p : Fin 4096) (q : Fin 1024) := congrFun h (ix2 p q)
  have split (p : Fin 4096) (q : Fin 1024) : (x (ix2 p q) ≠ ⊥ ∧ x (ix2 p q) ≠ ⊤) ∧ (d (ix2 p q) ≠ ⊥ ∧ d (ix2 p q) ≠ ⊤)
      ∧ (t (ix2 p q) ≠ ⊥ ∧ t (ix2 p q) ≠ ⊤) ∧ (g (ix1 q) ≠ ⊥ ∧ g (ix1 q) ≠ ⊤) := by
    have k := key p q
    unfold Cert.Pre_loss_finite.fn at k
    pointwise at k
    obtain ⟨k, kg⟩ := and_eq_one k
    obtain ⟨k, kt⟩ := and_eq_one k
    obtain ⟨kx, kd⟩ := and_eq_one k
    exact ⟨finite_of_abs_lt _ kx, finite_of_abs_lt _ kd, finite_of_abs_lt _ kt, finite_of_abs_lt _ kg⟩
  refine ⟨fun i => ?_, fun i => ?_, fun i => ?_, fun i => ?_⟩
  · rw [eq_ix2 i]; exact (split _ _).1
  · rw [eq_ix2 i]; exact (split _ _).2.1
  · rw [eq_ix2 i]; exact (split _ _).2.2.1
  · rw [eq_ix1 i]; exact (split 0 _).2.2.2

/-- On finite inputs the kernel's four results are the reference's. -/
theorem algebraic : Cert.algebraic_LossIdeal_LossRefIdeal_pre_loss_finite := by
  intro m ρ m' ρ' hpre hagree
  have hin (c : Dev Cert.LossIdeal.nD) : ∃ X D T G, Inputs m X D T G c := by
    obtain ⟨hx, hd, ht, hg⟩ := finite _ _ _ _ (hpre c)
    exact ⟨_, _, _, _, ⟨eq_cv _ hx, eq_cv _ hd, eq_cv _ ht, eq_cv _ hg⟩⟩
  choose X D T G hi using hin
  refine ⟨fun c => cv (DY (X c) (D c) (T c) (G c)), fun c => cv (DD (X c) (D c) (T c) (G c)),
    fun c => cv (LOSS (X c) (D c) (T c) (G c)), fun c => cv (DG (X c) (D c) (T c) (G c)), ?_, ?_⟩
  · refine (θ_run Cert.LossIdeal.defs _ _).mono (fun r h c => ?_) (Cert.LossIdeal.Value.run_blocks (F := Ideal) m ρ)
    obtain ⟨h4, h5, h6, h7, rest⟩ := h c
    exact ⟨h4.trans (Cert.LossIdeal.Block.final4 m c (hi c)), h5.trans (Cert.LossIdeal.Block.final5 m c (hi c)),
      h6.trans (Cert.LossIdeal.Block.final6 m c (hi c)), h7.trans (Cert.LossIdeal.Block.final7 m c (hi c)), rest⟩
  · refine (θ_run Cert.LossRefIdeal.defs _ _).mono (fun r h c => ?_) (Cert.LossRefIdeal.Value.run (F := Ideal) m' ρ')
    obtain ⟨h4, h5, h6, h7, rest⟩ := h c
    have e0 := (hagree c).1.trans (hi c).x
    have e1 := (hagree c).2.1.trans (hi c).d
    have e2 := (hagree c).2.2.1.trans (hi c).g
    have e3 := (hagree c).2.2.2.trans (hi c).t
    refine ⟨h4.trans ((Cert.LossRefIdeal.Read.val_main_v52_eq _ _ _ _).trans ?_),
      h5.trans ((Cert.LossRefIdeal.Read.val_main_v73_eq m' c).trans ?_),
      h6.trans ((Cert.LossRefIdeal.Read.val_main_v74_eq _ _ _ _).trans ?_),
      h7.trans ((Cert.LossRefIdeal.Read.val_main_v75_eq _ _ _ _).trans ?_), rest⟩
    · rw [e0, e1, e2, e3]
      exact Cert.LossRefIdeal.Block.v52 _ _ _ _
    · rw [e0, e1, e2, e3]
      exact Cert.LossRefIdeal.Block.v73 _ _ _ _
    · rw [e0, e1, e2, e3]
      exact Cert.LossRefIdeal.Block.v74 _ _ _ _
    · rw [e0, e1, e2, e3]
      exact Cert.LossRefIdeal.Block.v75 _ _ _ _

end Cert.Proof.LossClaims

end
-- ==== Proof.Attn.Running.lean ====
/-
  Running sums along the last axis of a three-axis array of finite extended reals, as a host program's window sum prints them,
  and arrays of reals read at natural numbers.
-/
module

public import proofs.«01_k».proof.Proof.Reals

@[expose] public section

set_option maxRecDepth 8192

noncomputable section

namespace Cert.Reals

open Idealize.ShloMosaic
open scoped BigOperators

/-- A fold that adds one term after another is the start plus the sum of the terms. -/
theorem foldl_add {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- The positions of a window of `N` along the last of three axes. -/
def lastAxis (N : ℕ) : Fin N ≃ (⟨3, ![1, 1, N]⟩ : Shape).Idx where
  toFun n := ix3 (0 : Fin 1) (0 : Fin 1) n
  invFun w := w 2
  left_inv _ := rfl
  right_inv w := by
    refine funext fun a => Fin.ext ?_
    match a with
    | ⟨0, _⟩ => have h : (w 0).val < 1 := (w 0).isLt; show 0 = (w 0).val; omega
    | ⟨1, _⟩ => have h : (w 1).val < 1 := (w 1).isLt; show 0 = (w 1).val; omega
    | ⟨2, _⟩ => rfl

/-- A window sum along the last of three axes, the window as long as the axis and the start zero. -/
theorem windowSum {A B N lo hi : ℕ} (x : (⟨3, ![A, B, N]⟩ : Shape).Idx → EReal) (init : EReal) (h0 : init = 0)
    (h : (⟨3, ![A, B, N]⟩ : Shape).ReduceWindows (![1, 1, N] : Fin 3 → ℕ) ![1, 1, 1] ![0, 0, lo] ![0, 0, hi] ⟨3, ![A, B, N]⟩)
    (a : Fin A) (b : Fin B) (c : Fin N) :
    Ideal.hostReduceWindowAdd (![1, 1, N] : Fin 3 → ℕ) ![1, 1, 1] ![0, 0, lo] ![0, 0, hi] h x init (ix3 a b c)
      = ∑ n : Fin N, if hn : lo ≤ c.val + n.val ∧ c.val + n.val - lo < N then x (ix3 a b ⟨c.val + n.val - lo, hn.2⟩) else 0 := by
  subst h0
  unfold Ideal.hostReduceWindowAdd Host.reduceWindow
  dsimp only
  rw [foldl_add, zero_add, ← Equiv.sum_comp ((lastAxis N).trans (⟨3, ![1, 1, N]⟩ : Shape).rowMajor)]
  refine Finset.sum_congr rfl fun n _ => ?_
  rw [Equiv.trans_apply]
  have hs : (Shape.rowMajor (⟨3, ![1, 1, N]⟩ : Shape)).symm (Shape.rowMajor _ (lastAxis N n)) = lastAxis N n := Equiv.symm_apply_apply _ _
  have w0 : ((Shape.rowMajor (⟨3, ![1, 1, N]⟩ : Shape)).symm (Shape.rowMajor _ (lastAxis N n)) 0).val = 0 := by rw [hs]; rfl
  have w1 : ((Shape.rowMajor (⟨3, ![1, 1, N]⟩ : Shape)).symm (Shape.rowMajor _ (lastAxis N n)) 1).val = 0 := by rw [hs]; rfl
  have w2 : ((Shape.rowMajor (⟨3, ![1, 1, N]⟩ : Shape)).symm (Shape.rowMajor _ (lastAxis N n)) 2).val = n.val := by rw [hs]; rfl
  clear hs
  split
  · next hin =>
    have h2 := hin 2
    change lo ≤ c.val * 1 + ((Shape.rowMajor (⟨3, ![1, 1, N]⟩ : Shape)).symm (Shape.rowMajor _ (lastAxis N n)) 2).val
      ∧ c.val * 1 + ((Shape.rowMajor (⟨3, ![1, 1, N]⟩ : Shape)).symm (Shape.rowMajor _ (lastAxis N n)) 2).val - lo < N at h2
    rw [w2] at h2
    rw [dif_pos (by omega)]
    refine congrArg x (funext fun e => Fin.ext ?_)
    match e with
    | ⟨0, _⟩ => show a.val * 1 + ((Shape.rowMajor (⟨3, ![1, 1, N]⟩ : Shape)).symm (Shape.rowMajor _ (lastAxis N n)) 0).val - 0 = a.val; omega
    | ⟨1, _⟩ => show b.val * 1 + ((Shape.rowMajor (⟨3, ![1, 1, N]⟩ : Shape)).symm (Shape.rowMajor _ (lastAxis N n)) 1).val - 0 = b.val; omega
    | ⟨2, _⟩ => show c.val * 1 + ((Shape.rowMajor (⟨3, ![1, 1, N]⟩ : Shape)).symm (Shape.rowMajor _ (lastAxis N n)) 2).val - lo = c.val + n.val - lo; omega
  · next hin =>
    rw [dif_neg fun hn => hin fun e => by
      match e with
      | ⟨0, _⟩ =>
        have := a.isLt
        show 0 ≤ a.val * 1 + ((Shape.rowMajor (⟨3, ![1, 1, N]⟩ : Shape)).symm (Shape.rowMajor _ (lastAxis N n)) 0).val
          ∧ a.val * 1 + ((Shape.rowMajor (⟨3, ![1, 1, N]⟩ : Shape)).symm (Shape.rowMajor _ (lastAxis N n)) 0).val - 0 < A
        omega
      | ⟨1, _⟩ =>
        have := b.isLt
        show 0 ≤ b.val * 1 + ((Shape.rowMajor (⟨3, ![1, 1, N]⟩ : Shape)).symm (Shape.rowMajor _ (lastAxis N n)) 1).val
          ∧ b.val * 1 + ((Shape.rowMajor (⟨3, ![1, 1, N]⟩ : Shape)).symm (Shape.rowMajor _ (lastAxis N n)) 1).val - 0 < B
        omega
      | ⟨2, _⟩ =>
        show lo ≤ c.val * 1 + ((Shape.rowMajor (⟨3, ![1, 1, N]⟩ : Shape)).symm (Shape.rowMajor _ (lastAxis N n)) 2).val
          ∧ c.val * 1 + ((Shape.rowMajor (⟨3, ![1, 1, N]⟩ : Shape)).symm (Shape.rowMajor _ (lastAxis N n)) 2).val - lo < N
        omega]

/-- From the right: padded high, each entry becomes the sum of itself and the entries after it. -/
theorem windowSum_high {A B N Nm1 : ℕ} (f : ℕ → ℝ) (x : (⟨3, ![A, B, N]⟩ : Shape).Idx → EReal) (init : EReal) (h0 : init = 0)
    (h : (⟨3, ![A, B, N]⟩ : Shape).ReduceWindows (![1, 1, N] : Fin 3 → ℕ) ![1, 1, 1] ![0, 0, 0] ![0, 0, Nm1] ⟨3, ![A, B, N]⟩)
    (a : Fin A) (b : Fin B) (hx : ∀ n : Fin N, x (ix3 a b n) = ((f n.val : ℝ) : EReal)) (c : Fin N) :
    Ideal.hostReduceWindowAdd (![1, 1, N] : Fin 3 → ℕ) ![1, 1, 1] ![0, 0, 0] ![0, 0, Nm1] h x init (ix3 a b c)
      = ((∑ n ∈ Finset.Ico c.val N, f n : ℝ) : EReal) := by
  rw [windowSum x init h0]
  have hc := c.isLt
  have e (n : Fin N) : (if hn : 0 ≤ c.val + n.val ∧ c.val + n.val - 0 < N then x (ix3 a b ⟨c.val + n.val - 0, hn.2⟩) else 0)
      = (((if c.val + n.val < N then f (c.val + n.val) else 0 : ℝ)) : EReal) := by
    split
    · next hn => rw [hx, if_pos (by omega)]; rfl
    · next hn => rw [if_neg (by omega)]; rfl
  rw [Finset.sum_congr rfl fun n _ => e n, sum_coe, Fin.sum_univ_eq_sum_range (fun n => if c.val + n < N then f (c.val + n) else 0) N,
    ← Finset.sum_filter, Finset.sum_Ico_eq_sum_range]
  congr 2
  ext n
  simp only [Finset.mem_filter, Finset.mem_range]
  omega

/-- From the left: padded low by the length less one, each entry becomes the sum of the entries up to it. -/
theorem windowSum_low {A B N Nm1 : ℕ} (hN : Nm1 + 1 = N) (f : ℕ → ℝ) (x : (⟨3, ![A, B, N]⟩ : Shape).Idx → EReal) (init : EReal) (h0 : init = 0)
    (h : (⟨3, ![A, B, N]⟩ : Shape).ReduceWindows (![1, 1, N] : Fin 3 → ℕ) ![1, 1, 1] ![0, 0, Nm1] ![0, 0, 0] ⟨3, ![A, B, N]⟩)
    (a : Fin A) (b : Fin B) (hx : ∀ n : Fin N, x (ix3 a b n) = ((f n.val : ℝ) : EReal)) (c : Fin N) :
    Ideal.hostReduceWindowAdd (![1, 1, N] : Fin 3 → ℕ) ![1, 1, 1] ![0, 0, Nm1] ![0, 0, 0] h x init (ix3 a b c)
      = ((∑ n ∈ Finset.range (c.val + 1), f n : ℝ) : EReal) := by
  rw [windowSum x init h0]
  have hc := c.isLt
  have e (n : Fin N) : (if hn : Nm1 ≤ c.val + n.val ∧ c.val + n.val - Nm1 < N then x (ix3 a b ⟨c.val + n.val - Nm1, hn.2⟩) else 0)
      = (((if Nm1 ≤ c.val + n.val then f (c.val + n.val - Nm1) else 0 : ℝ)) : EReal) := by
    have := n.isLt
    split
    · next hn => rw [hx, if_pos (by omega)]
    · next hn => rw [if_neg (by omega)]; rfl
  rw [Finset.sum_congr rfl fun n _ => e n, sum_coe, Fin.sum_univ_eq_sum_range (fun n => if Nm1 ≤ c.val + n then f (c.val + n - Nm1) else 0) N,
    ← Finset.sum_filter]
  congr 1
  refine Finset.sum_bij' (fun n _ => c.val + n - Nm1) (fun n _ => n + Nm1 - c.val) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; rfl

/-! ## Arrays of reals read at natural numbers -/

/-- A matrix at a row and a column, zero outside it. -/
def at2 {A B : ℕ} (X : (⟨2, ![A, B]⟩ : Shape).Idx → ℝ) (a b : ℕ) : ℝ := if h : a < A ∧ b < B then X (ix2 ⟨a, h.1⟩ ⟨b, h.2⟩) else 0

/-- A matrix at an index, read at the index's two coordinates. -/
theorem at2_of {A B : ℕ} (X : (⟨2, ![A, B]⟩ : Shape).Idx → ℝ) (i : (⟨2, ![A, B]⟩ : Shape).Idx) (a b : ℕ) (ha : (i 0).val = a) (hb : (i 1).val = b) :
    X i = at2 X a b := by
  subst ha hb
  have h0 : (i 0).val < A := (i 0).isLt
  have h1 : (i 1).val < B := (i 1).isLt
  unfold at2
  rw [dif_pos ⟨h0, h1⟩]
  exact congrArg X (eq_ix2 i)

/-! ## The logarithm of one plus an exponential -/

/-- `log (1 + exp x)`. -/
def spl (x : ℝ) : ℝ := Real.log (1 + Real.exp x)

/-- The same in the form that does not overflow. -/
theorem spl_eq (x : ℝ) : max x 0 + Real.log (1 + Real.exp (-|x|)) = spl x := by
  have h1 : 0 < 1 + Real.exp x := by positivity
  rcases le_total 0 x with h | h
  · rw [max_eq_left h, abs_of_nonneg h]
    have : spl x = Real.log (Real.exp x * (1 + Real.exp (-x))) := by
      unfold spl; congr 1; rw [mul_add, ← Real.exp_add]; simp [add_comm]
    rw [this, Real.log_mul (Real.exp_pos x).ne' (by positivity), Real.log_exp]
  · rw [max_eq_right h, abs_of_nonpos h, neg_neg, zero_add]; rfl

/-- Of a negated argument. -/
theorem spl_neg (x : ℝ) : spl (-x) = spl x - x := by
  have : spl x = Real.log (Real.exp x * (1 + Real.exp (-x))) := by
    unfold spl; congr 1; rw [mul_add, ← Real.exp_add]; simp [add_comm]
  rw [this, Real.log_mul (Real.exp_pos x).ne' (by positivity), Real.log_exp]
  unfold spl; ring

/-- The share and what it leaves sum to one. -/
theorem share_add (x : ℝ) : Real.exp (x - spl x) + Real.exp (-spl x) = 1 := by
  have h1 : 0 < 1 + Real.exp x := by positivity
  rw [Real.exp_sub, Real.exp_neg]
  unfold spl
  rw [Real.exp_log h1]
  field_simp
  ring

/-! ## Scalars -/

/-- The larger of two finite values. -/
theorem max_coe (a b : ℝ) : max (a : EReal) (b : EReal) = ((max a b : ℝ) : EReal) := (EReal.coe_strictMono.monotone.map_max).symm

/-- A choice by a decided proposition. -/
theorem select_ofBool {α : Type} (p : Prop) [Decidable p] (x y : α) : Scalar.select (BitVec.ofBool (decide p)) x y = if p then x else y := by
  by_cases h : p <;> simp [Scalar.select, h]

/-- One eighth. -/
theorem lit_eighth : Ideal.ofBits .f32 0x3E000000#32 = ((1 / 8 : ℝ) : EReal) := by
  simp [Ideal.ofBits, Ideal.ieee, -EReal.coe_mul]; norm_num

/-- The absolute value of a finite value. -/
theorem abs_coe (a : ℝ) : FloatOps.absf (F := Ideal) (φ := .f32) (a : EReal) = ((|a| : ℝ) : EReal) := by
  show max (a : EReal) (-(a : EReal)) = _
  rw [← EReal.coe_neg, max_coe]; rfl

/-- `log (1 + exp x)` of a finite value in the form that does not overflow. -/
theorem stable_coe (a : ℝ) : max (a : EReal) 0 + Ideal.log (1 + Ideal.exp (((-|a| : ℝ)) : EReal)) = ((spl a : ℝ) : EReal) := by
  have h2 : (1 : EReal) = ((1 : ℝ) : EReal) := rfl
  have h3 : (0 : EReal) = ((0 : ℝ) : EReal) := rfl
  have h4 : ¬ (1 + Real.exp (-|a|) ≤ 0) := by have := Real.exp_pos (-|a|); linarith
  rw [Ideal.exp_coe, h2, ← EReal.coe_add, Ideal.log_coe, if_neg h4, h3, max_coe, ← EReal.coe_add, spl_eq]

end Cert.Reals

end
-- ==== Proof.Attn.Model.lean ====
/-
  The gradient of the stick-breaking attention as functions of real arrays, one head at a time.
-/
module

public import proofs.«01_k».proof.Proof.Attn.Running

@[expose] public section

noncomputable section

namespace Cert.Proof.Attn.Model

open Cert.Reals Idealize.ShloMosaic
open scoped BigOperators

/-- The score of query `t` and key `s` in head `H`. -/
def score (q k : ℕ → ℕ → ℝ) (H t s : ℕ) : ℝ := (∑ d ∈ Finset.range 64, q t (64 * H + d) * k s (64 * H + d)) * (1 / 8)

/-- The cotangent of a weight. -/
def cot (o v : ℕ → ℕ → ℝ) (H t s : ℕ) : ℝ := ∑ d ∈ Finset.range 64, o t (64 * H + d) * v s (64 * H + d)

/-- What a key leaves of the stick, as a logarithm with its sign turned; zero for the keys not before the query. -/
def left (t : ℕ) (z : ℕ → ℝ) (s : ℕ) : ℝ := if s < t then spl (z s) else 0

/-- The share a key takes; zero for the keys not before the query. -/
def share (t : ℕ) (z : ℕ → ℝ) (s : ℕ) : ℝ := if s < t then Real.exp (z s - spl (z s)) else 0

/-- The weight of a key: its share of what the keys between it and the query leave. -/
def wgt (t : ℕ) (z : ℕ → ℝ) (s : ℕ) : ℝ :=
  if s < t then Real.exp (z s - spl (z s) - ∑ x ∈ Finset.Ico (s + 1) 4096, left t z x) else 0

/-- The weight times its cotangent. -/
def grd (t : ℕ) (z a : ℕ → ℝ) (s : ℕ) : ℝ := a s * wgt t z s

/-- The cotangent of a score. -/
def dsc (t : ℕ) (z a : ℕ → ℝ) (s : ℕ) : ℝ := grd t z a s - share t z s * ∑ x ∈ Finset.range (s + 1), grd t z a x

/-- The cotangent of a score from the four arrays. -/
def dscore (q k v o : ℕ → ℕ → ℝ) (H t s : ℕ) : ℝ := dsc t (score q k H t) (cot o v H t) s

/-- The three gradients at a row and a lane; the lane's head is the lane by 64. -/
def DQ (q k v o : ℕ → ℕ → ℝ) (t l : ℕ) : ℝ := ∑ s ∈ Finset.range 4096, dscore q k v o (l / 64) t s * (1 / 8) * k s l
def DK (q k v o : ℕ → ℕ → ℝ) (s l : ℕ) : ℝ := ∑ t ∈ Finset.range 4096, dscore q k v o (l / 64) t s * (1 / 8) * q t l
def DV (q k o : ℕ → ℕ → ℝ) (s l : ℕ) : ℝ := ∑ t ∈ Finset.range 4096, o t l * wgt t (score q k (l / 64) t) s

/-- The keys and the values of the one array both are handed over in. -/
def keys (X : (⟨2, ![4096, 2048]⟩ : Shape).Idx → ℝ) (s l : ℕ) : ℝ := at2 X s l
def vals (X : (⟨2, ![4096, 2048]⟩ : Shape).Idx → ℝ) (s l : ℕ) : ℝ := at2 X s (1024 + l)

end Cert.Proof.Attn.Model

end
-- ==== Proof.Attn.Loops.lean ====
module

public import proofs.«01_k».proof.Proof.Gen.AttnIdeal.Loops

/-! The counted loops of the first sweep of the attention backward body. Each processes one tile (or three
tiles) of keys per trip: it stores the products of the weights with their cotangents and the complementary
weights into the two scratch buffers, and adds the tile's contribution to the value gradient. -/

@[expose] public section

set_option maxRecDepth 8192
set_option maxHeartbeats 4000000

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### Trip counts and the places of the tiles -/

/-- How often each loop of the first sweep runs, and where each of its accesses lies. -/
theorem trips1 : ∀ i : grid0.Coords, (k0_t1_loop i).trips = (i 1).val % 3 := by decide +kernel
theorem trips2 : ∀ i : grid0.Coords, (k0_t2_loop i).trips = 0 := by decide +kernel
theorem trips3 : ∀ i : grid0.Coords, (k0_t3_loop i).trips = (i 1).val / 3 := by decide +kernel
theorem trips4 : ∀ i : grid0.Coords, (k0_t4_loop i).trips = 0 := by decide +kernel

/-- The places of the first sweep's accesses. -/
theorem off6_eq : ∀ (i : grid0.Coords) (k : Fin (k0_t1_loop i).trips), k0_off6 i k = ![256 * ((i 1).val - 1 - k.val), 0] := by decide +kernel
instance (i : grid0.Coords) (k : Fin (k0_t1_loop i).trips) : ClosedOff (k0_off6 i k) := ⟨_, off6_eq i k⟩
theorem off7_eq : ∀ (i : grid0.Coords) (k : Fin (k0_t1_loop i).trips), k0_off7 i k = ![0, (i 1).val - 1 - k.val, 0, 0] := by decide +kernel
instance (i : grid0.Coords) (k : Fin (k0_t1_loop i).trips) : ClosedOff (k0_off7 i k) := ⟨_, off7_eq i k⟩
theorem off8_eq : ∀ (i : grid0.Coords) (k : Fin (k0_t1_loop i).trips), k0_off8 i k = ![1, (i 1).val - 1 - k.val, 0, 0] := by decide +kernel
instance (i : grid0.Coords) (k : Fin (k0_t1_loop i).trips) : ClosedOff (k0_off8 i k) := ⟨_, off8_eq i k⟩
theorem off9_eq : ∀ (i : grid0.Coords) (k : Fin (k0_t1_loop i).trips), k0_off9 i k = ![2, (i 1).val - 1 - k.val, 0, 0] := by decide +kernel
instance (i : grid0.Coords) (k : Fin (k0_t1_loop i).trips) : ClosedOff (k0_off9 i k) := ⟨_, off9_eq i k⟩
theorem off10_eq : ∀ (i : grid0.Coords) (k : Fin (k0_t1_loop i).trips), k0_off10 i k = ![3, (i 1).val - 1 - k.val, 0, 0] := by decide +kernel
instance (i : grid0.Coords) (k : Fin (k0_t1_loop i).trips) : ClosedOff (k0_off10 i k) := ⟨_, off10_eq i k⟩
theorem off16_eq : ∀ (i : grid0.Coords) (k : Fin (k0_t3_loop i).trips) (w : Fin 3), k0_off16 i k (BitVec.ofNat 32 w.val) = ![256 * ((i 1).val - 1 - (i 1).val % 3 - 3 * k.val - w.val), 0] := by decide +kernel
instance (i : grid0.Coords) (k : Fin (k0_t3_loop i).trips) : ClosedOff (k0_off16 i k 0#32) := ⟨_, off16_eq i k 0⟩
instance (i : grid0.Coords) (k : Fin (k0_t3_loop i).trips) : ClosedOff (k0_off16 i k 1#32) := ⟨_, off16_eq i k 1⟩
instance (i : grid0.Coords) (k : Fin (k0_t3_loop i).trips) : ClosedOff (k0_off16 i k 2#32) := ⟨_, off16_eq i k 2⟩
theorem off17_eq : ∀ (i : grid0.Coords) (k : Fin (k0_t3_loop i).trips) (w : Fin 3), k0_off17 i k (BitVec.ofNat 32 w.val) = ![0, (i 1).val - 1 - (i 1).val % 3 - 3 * k.val - w.val, 0, 0] := by decide +kernel
instance (i : grid0.Coords) (k : Fin (k0_t3_loop i).trips) : ClosedOff (k0_off17 i k 0#32) := ⟨_, off17_eq i k 0⟩
instance (i : grid0.Coords) (k : Fin (k0_t3_loop i).trips) : ClosedOff (k0_off17 i k 1#32) := ⟨_, off17_eq i k 1⟩
instance (i : grid0.Coords) (k : Fin (k0_t3_loop i).trips) : ClosedOff (k0_off17 i k 2#32) := ⟨_, off17_eq i k 2⟩
theorem off18_eq : ∀ (i : grid0.Coords) (k : Fin (k0_t3_loop i).trips) (w : Fin 3), k0_off18 i k (BitVec.ofNat 32 w.val) = ![1, (i 1).val - 1 - (i 1).val % 3 - 3 * k.val - w.val, 0, 0] := by decide +kernel
instance (i : grid0.Coords) (k : Fin (k0_t3_loop i).trips) : ClosedOff (k0_off18 i k 0#32) := ⟨_, off18_eq i k 0⟩
instance (i : grid0.Coords) (k : Fin (k0_t3_loop i).trips) : ClosedOff (k0_off18 i k 1#32) := ⟨_, off18_eq i k 1⟩
instance (i : grid0.Coords) (k : Fin (k0_t3_loop i).trips) : ClosedOff (k0_off18 i k 2#32) := ⟨_, off18_eq i k 2⟩
theorem off19_eq : ∀ (i : grid0.Coords) (k : Fin (k0_t3_loop i).trips) (w : Fin 3), k0_off19 i k (BitVec.ofNat 32 w.val) = ![2, (i 1).val - 1 - (i 1).val % 3 - 3 * k.val - w.val, 0, 0] := by decide +kernel
instance (i : grid0.Coords) (k : Fin (k0_t3_loop i).trips) : ClosedOff (k0_off19 i k 0#32) := ⟨_, off19_eq i k 0⟩
instance (i : grid0.Coords) (k : Fin (k0_t3_loop i).trips) : ClosedOff (k0_off19 i k 1#32) := ⟨_, off19_eq i k 1⟩
instance (i : grid0.Coords) (k : Fin (k0_t3_loop i).trips) : ClosedOff (k0_off19 i k 2#32) := ⟨_, off19_eq i k 2⟩
theorem off20_eq : ∀ (i : grid0.Coords) (k : Fin (k0_t3_loop i).trips) (w : Fin 3), k0_off20 i k (BitVec.ofNat 32 w.val) = ![3, (i 1).val - 1 - (i 1).val % 3 - 3 * k.val - w.val, 0, 0] := by decide +kernel
instance (i : grid0.Coords) (k : Fin (k0_t3_loop i).trips) : ClosedOff (k0_off20 i k 0#32) := ⟨_, off20_eq i k 0⟩
instance (i : grid0.Coords) (k : Fin (k0_t3_loop i).trips) : ClosedOff (k0_off20 i k 1#32) := ⟨_, off20_eq i k 1⟩
instance (i : grid0.Coords) (k : Fin (k0_t3_loop i).trips) : ClosedOff (k0_off20 i k 2#32) := ⟨_, off20_eq i k 2⟩

/-- Four columns of row sums, one per head of the lane group. -/
abbrev Cols (F : FTy → Type) : Type := FVec F S256x1 .f32 × FVec F S256x1 .f32 × FVec F S256x1 .f32 × FVec F S256x1 .f32
/-- The stores a trip makes into the value gradient and into a scratch buffer. -/
abbrev LV (F : FTy → Type) : Type := List (View.Piece (Elt F) S4096x256 .f32)
abbrev LS (F : FTy → Type) : Type := List (View.Piece (Elt F) S4x16x256x256 .bf16)

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S4096x256 .f32) (harg7 : arg7.IsWhole) (arg8 : Memref sig .tc .vmem S4096x256 .f32) (harg8 : arg8.IsWhole) (arg9 : Memref sig .tc .vmem S4x16x256x256 .bf16) (harg9 : arg9.IsWhole) (arg10 : Memref sig .tc .vmem S4x16x256x256 .bf16) (harg10 : arg10.IsWhole)

/-- The buffers of the first sweep on core `c`: keys and values read, the value gradient and the two scratch
buffers held at given contents. -/
abbrev Res (X3 : BufTy.Contents (Elt F) arg3.view.ty) (X4 : BufTy.Contents (Elt F) arg4.view.ty) (f8 : BufTy.Contents (Elt F) arg8.view.ty) (f9 : BufTy.Contents (Elt F) arg9.view.ty) (f10 : BufTy.Contents (Elt F) arg10.view.ty) : sProp 𝕄 :=
  iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- The same with the three written buffers at the stores `L` over the contents `G` at entry. -/
abbrev ResW (X3 : BufTy.Contents (Elt F) arg3.view.ty) (X4 : BufTy.Contents (Elt F) arg4.view.ty) (G8 : BufTy.Contents (Elt F) arg8.view.ty) (G9 : BufTy.Contents (Elt F) arg9.view.ty) (G10 : BufTy.Contents (Elt F) arg10.view.ty) (L8 : LV F) (L9 L10 : LS F) : sProp 𝕄 :=
  iprop((arg3.view.loc (c : Thread nD τ) ↦[arg3.view.set]{fullShare} X3) ∗ (arg4.view.loc (c : Thread nD τ) ↦[arg4.view.set]{fullShare} X4) ∗ (∃ f, (arg8.view.loc (c : Thread nD τ) ↦[arg8.view.set]{fullShare} f) ∗ ⌜f = arg8.view.writes (Elt F) G8 L8⌝) ∗ (∃ f, (arg9.view.loc (c : Thread nD τ) ↦[arg9.view.set]{fullShare} f) ∗ ⌜f = arg9.view.writes (Elt F) G9 L9⌝) ∗ (∃ f, (arg10.view.loc (c : Thread nD τ) ↦[arg10.view.set]{fullShare} f) ∗ ⌜f = arg10.view.writes (Elt F) G10 L10⌝))

section Loop1
variable (arg1 : BitVec 32) (v9 v49 v79 v109 v139 v172 v202 v232 v262 : FVec F S256x256 .bf16) (v264 : FVec F S1024x256 .bf16) (v360 v366 v372 v378 : FVec F S256x256 .f32) (v379 v380 v381 v382 : FVec F S256x1 .f32) (v438 : FVec F S1x1x256x256 .bf16) (X3 : BufTy.Contents (Elt F) arg3.view.ty) (X4 : BufTy.Contents (Elt F) arg4.view.ty)

/-- One trip over one tile: what it yields and the stores it makes, as functions of the carried columns and of
the value gradient's contents, found by running it. -/
def trip1 (k : Fin (k0_t1_loop i).trips) :
    Σ' (R : Cols F → BufTy.Contents (Elt F) arg8.view.ty → Cols F) (L8 : Cols F → BufTy.Contents (Elt F) arg8.view.ty → LV F)
      (L9 : Cols F → BufTy.Contents (Elt F) arg8.view.ty → LS F),
      { L10 : Cols F → BufTy.Contents (Elt F) arg8.view.ty → LS F //
      ∀ (E : Set ℕ) (acc : Cols F) (f8 : BufTy.Contents (Elt F) arg8.view.ty) (f9 : BufTy.Contents (Elt F) arg9.view.ty) (f10 : BufTy.Contents (Elt F) arg10.view.ty),
      Res (F := F) c arg3 arg4 arg8 arg9 arg10 X3 X4 f8 f9 f10
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 k acc)
          (fun yld => iprop(⌜yld = R acc f8⌝ ∗ Res (F := F) c arg3 arg4 arg8 arg9 arg10 X3 X4 (arg8.view.writes (Elt F) f8 (L8 acc f8)) (arg9.view.writes (Elt F) f9 (L9 acc f8)) (arg10.view.writes (Elt F) f10 (L10 acc f8)))) } := by
  refine ⟨?_, ?_, ?_, ?_, fun E acc f8 f9 f10 => ?run⟩
  case run =>
    unfold k0_t1_body
    iintro ⟨H3, H4, H8, H9, H10⟩
    sl_exec
    sl_step
    sl_close

/-- The carried columns and the stores so far, before trip `k`. -/
def st1 (G8 : BufTy.Contents (Elt F) arg8.view.ty) (init : Cols F) : ℕ → Cols F × LV F × LS F × LS F
  | 0 => (init, [], [], [])
  | k + 1 =>
    let s := st1 G8 init k
    let f := arg8.view.writes (Elt F) G8 s.2.1
    if h : k < (k0_t1_loop i).trips then
      let T := trip1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 ⟨k, h⟩
      (T.1 s.1 f, T.2.1 s.1 f ++ s.2.1, T.2.2.1 s.1 f ++ s.2.2.1, T.2.2.2.1 s.1 f ++ s.2.2.2)
    else s

/-- One more turn of the single-tile loop, and none. -/
theorem st1_succ (G8 : BufTy.Contents (Elt F) arg8.view.ty) (init : Cols F) (k : Fin (k0_t1_loop i).trips) :
    st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init (k.val + 1)
      = (let s := st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init k.val
         let f := arg8.view.writes (Elt F) G8 s.2.1
         let T := trip1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 k
         (T.1 s.1 f, T.2.1 s.1 f ++ s.2.1, T.2.2.1 s.1 f ++ s.2.2.1, T.2.2.2.1 s.1 f ++ s.2.2.2)) := by
  rw [st1]; exact dif_pos k.isLt

set_option warn.classDefReducibility false in
/-- The loop by its invariant: before trip `k` the buffers hold the stores of the trips before over the contents
at entry. -/
@[sl_loop] def loopInv1 (E : Set ℕ) (G8 : BufTy.Contents (Elt F) arg8.view.ty) (G9 : BufTy.Contents (Elt F) arg9.view.ty) (G10 : BufTy.Contents (Elt F) arg10.view.ty) (init : Cols F) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 init where
  inv k acc := iprop(ResW (F := F) c arg3 arg4 arg8 arg9 arg10 X3 X4 G8 G9 G10 (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init k).2.1 (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init k).2.2.1 (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init k).2.2.2
    ∗ ⌜acc = (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init k).1⌝)
  step k acc := by
    iintro ⟨⟨H3, H4, ⟨%f8, H8, %h8⟩, ⟨%f9, H9, %h9⟩, ⟨%f10, H10, %h10⟩⟩, %h⟩
    subst h
    iapply (wp_wand_r Idealize.ShloMosaic.frame (wpE (defs₀ (F := F)) Variants.none (c : Thread nD τ) none) E)
    isplitl [H3 H4 H8 H9 H10]
    · iapply ((trip1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 k).2.2.2.2 E (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 init k).1 f8 f9 f10)
      isplitl [H3]; · iexact H3
      isplitl [H4]; · iexact H4
      isplitl [H8]; · iexact H8
      isplitl [H9]; · iexact H9
      iexact H10
    · iintro %yld ⟨%hy, H3, H4, H8, H9, H10⟩
      rw [st1_succ]
      isplitl
      · isplitl [H3]; · iexact H3
        isplitl [H4]; · iexact H4
        isplitl [H8]
        · iexists _; isplitl [H8]; · iexact H8
          ipureintro; rw [h8, ← View.writes_append]
        isplitl [H9]
        · iexists _; isplitl [H9]; · iexact H9
          ipureintro; rw [h8, h9, ← View.writes_append]
        iexists _; isplitl [H10]; · iexact H10
        ipureintro; rw [h8, h10, ← View.writes_append]
      ipureintro; rw [hy, h8]
end Loop1

section Loop3
variable (arg1 : BitVec 32) (v9 v49 v79 v109 v139 v172 v202 v232 v262 : FVec F S256x256 .bf16) (v264 : FVec F S1024x256 .bf16) (v469_0 v469_1 v469_2 v469_3 : FVec F S256x1 .f32) (v470 v472 v473 : BitVec 32) (v474 v475 : BitVec 1) (c0_i32_160 v481 : BitVec 32) (X3 : BufTy.Contents (Elt F) arg3.view.ty) (X4 : BufTy.Contents (Elt F) arg4.view.ty)

/-- One trip over three tiles: what it yields and the stores it makes, as functions of the carried columns and of
the value gradient's contents, found by running it. -/
def trip3 (k : Fin (k0_t3_loop i).trips) :
    Σ' (R : Cols F → BufTy.Contents (Elt F) arg8.view.ty → Cols F) (L8 : Cols F → BufTy.Contents (Elt F) arg8.view.ty → LV F)
      (L9 : Cols F → BufTy.Contents (Elt F) arg8.view.ty → LS F),
      { L10 : Cols F → BufTy.Contents (Elt F) arg8.view.ty → LS F //
      ∀ (E : Set ℕ) (acc : Cols F) (f8 : BufTy.Contents (Elt F) arg8.view.ty) (f9 : BufTy.Contents (Elt F) arg9.view.ty) (f10 : BufTy.Contents (Elt F) arg10.view.ty),
      Res (F := F) c arg3 arg4 arg8 arg9 arg10 X3 X4 f8 f9 f10
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 k acc)
          (fun yld => iprop(⌜yld = R acc f8⌝ ∗ Res (F := F) c arg3 arg4 arg8 arg9 arg10 X3 X4 (arg8.view.writes (Elt F) f8 (L8 acc f8)) (arg9.view.writes (Elt F) f9 (L9 acc f8)) (arg10.view.writes (Elt F) f10 (L10 acc f8)))) } := by
  refine ⟨?_, ?_, ?_, ?_, fun E acc f8 f9 f10 => ?run⟩
  case run =>
    unfold k0_t3_body
    iintro ⟨H3, H4, H8, H9, H10⟩
    sl_exec
    sl_step
    sl_close

/-- The carried columns and the stores so far, before trip `k`. -/
def st3 (G8 : BufTy.Contents (Elt F) arg8.view.ty) (init : Cols F) : ℕ → Cols F × LV F × LS F × LS F
  | 0 => (init, [], [], [])
  | k + 1 =>
    let s := st3 G8 init k
    let f := arg8.view.writes (Elt F) G8 s.2.1
    if h : k < (k0_t3_loop i).trips then
      let T := trip3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 ⟨k, h⟩
      (T.1 s.1 f, T.2.1 s.1 f ++ s.2.1, T.2.2.1 s.1 f ++ s.2.2.1, T.2.2.2.1 s.1 f ++ s.2.2.2)
    else s

/-- One more turn of the three-tile loop, and none. -/
theorem st3_succ (G8 : BufTy.Contents (Elt F) arg8.view.ty) (init : Cols F) (k : Fin (k0_t3_loop i).trips) :
    st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init (k.val + 1)
      = (let s := st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init k.val
         let f := arg8.view.writes (Elt F) G8 s.2.1
         let T := trip3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 k
         (T.1 s.1 f, T.2.1 s.1 f ++ s.2.1, T.2.2.1 s.1 f ++ s.2.2.1, T.2.2.2.1 s.1 f ++ s.2.2.2)) := by
  rw [st3]; exact dif_pos k.isLt

set_option warn.classDefReducibility false in
/-- The loop by its invariant: before trip `k` the buffers hold the stores of the trips before over the contents
at entry. -/
@[sl_loop] def loopInv3 (E : Set ℕ) (G8 : BufTy.Contents (Elt F) arg8.view.ty) (G9 : BufTy.Contents (Elt F) arg9.view.ty) (G10 : BufTy.Contents (Elt F) arg10.view.ty) (init : Cols F) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 init where
  inv k acc := iprop(ResW (F := F) c arg3 arg4 arg8 arg9 arg10 X3 X4 G8 G9 G10 (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init k).2.1 (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init k).2.2.1 (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init k).2.2.2
    ∗ ⌜acc = (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init k).1⌝)
  step k acc := by
    iintro ⟨⟨H3, H4, ⟨%f8, H8, %h8⟩, ⟨%f9, H9, %h9⟩, ⟨%f10, H10, %h10⟩⟩, %h⟩
    subst h
    iapply (wp_wand_r Idealize.ShloMosaic.frame (wpE (defs₀ (F := F)) Variants.none (c : Thread nD τ) none) E)
    isplitl [H3 H4 H8 H9 H10]
    · iapply ((trip3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 k).2.2.2.2 E (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 init k).1 f8 f9 f10)
      isplitl [H3]; · iexact H3
      isplitl [H4]; · iexact H4
      isplitl [H8]; · iexact H8
      isplitl [H9]; · iexact H9
      iexact H10
    · iintro %yld ⟨%hy, H3, H4, H8, H9, H10⟩
      rw [st3_succ]
      isplitl
      · isplitl [H3]; · iexact H3
        isplitl [H4]; · iexact H4
        isplitl [H8]
        · iexists _; isplitl [H8]; · iexact H8
          ipureintro; rw [h8, ← View.writes_append]
        isplitl [H9]
        · iexists _; isplitl [H9]; · iexact H9
          ipureintro; rw [h8, h9, ← View.writes_append]
        iexists _; isplitl [H10]; · iexact H10
        ipureintro; rw [h8, h10, ← View.writes_append]
      ipureintro; rw [hy, h8]
end Loop3

set_option warn.classDefReducibility false in
/-- A remainder loop of no trips. -/
@[sl_loop] def loopInv2 (E : Set ℕ) (arg1 : BitVec 32) (v9 v49 v79 v109 v139 v172 v202 v232 v262 : FVec F S256x256 .bf16) (v264 : FVec F S1024x256 .bf16) (v360 v366 v372 v378 : FVec F S256x256 .f32) (v379 v380 v381 v382 : FVec F S256x1 .f32) (v438 : FVec F S1x1x256x256 .bf16) (v467 : BitVec 32) (init : Cols F) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 v467 init where
  inv k acc := iprop(⌜acc = init⌝)
  step k acc := by
    have h : k.val < (k0_t2_loop i).trips := k.isLt
    exact absurd h (by rw [trips2 i]; omega)

set_option warn.classDefReducibility false in
/-- A remainder loop of no trips. -/
@[sl_loop] def loopInv4 (E : Set ℕ) (arg1 : BitVec 32) (v9 v49 v79 v109 v139 v172 v202 v232 v262 : FVec F S256x256 .bf16) (v264 : FVec F S1024x256 .bf16) (v469_0 v469_1 v469_2 v469_3 : FVec F S256x1 .f32) (v470 v472 v473 : BitVec 32) (v474 v475 : BitVec 1) (c0_i32_160 v481 v503 : BitVec 32) (init : Cols F) :
    LoopInvTy_k0_t4 (F := F) Unit ℕ (UR sig nD τ) ℕ Variants.none c none E i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 v503 init where
  inv k acc := iprop(⌜acc = init⌝)
  step k acc := by
    have h : k.val < (k0_t4_loop i).trips := k.isLt
    exact absurd h (by rw [trips4 i]; omega)

end Cert.Proof.Attn
-- ==== Proof.Attn.Run.lean ====
module

public import proofs.«01_k».proof.Proof.Attn.Loops
public import proofs.«01_k».proof.Proof.Gen.AttnIdeal.Frame

/-! The whole body of the attention backward call, run once per case of its first conditional. -/

@[expose] public section

set_option maxRecDepth 65536
set_option maxHeartbeats 16000000

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's conditional: the first row block of a lane group. -/
abbrev Zeroing (i : grid0.Coords) : Prop :=
  Scalar.cmpi .ne (Scalar.extui (Scalar.cmpi .eq (BitVec.ofNat 32 (i 1).val) 0#32) : BitVec 32) 0#32 = 1#1

/-- The gradients are zeroed at the first query tile. -/
theorem zeroing_iff : ∀ i : grid0.Coords, Zeroing i ↔ (i 1).val = 0 := by decide +kernel

/-- Where the diagonal tile's accesses lie. -/
theorem off1_eq : ∀ i : grid0.Coords, k0_off1 i = ![256 * (i 1).val, 0] := by decide +kernel
instance (i : grid0.Coords) : ClosedOff (k0_off1 i) := ⟨_, off1_eq i⟩
theorem off2_eq : ∀ i : grid0.Coords, k0_off2 i = ![0, (i 1).val, 0, 0] := by decide +kernel
instance (i : grid0.Coords) : ClosedOff (k0_off2 i) := ⟨_, off2_eq i⟩
theorem off3_eq : ∀ i : grid0.Coords, k0_off3 i = ![1, (i 1).val, 0, 0] := by decide +kernel
instance (i : grid0.Coords) : ClosedOff (k0_off3 i) := ⟨_, off3_eq i⟩
theorem off4_eq : ∀ i : grid0.Coords, k0_off4 i = ![2, (i 1).val, 0, 0] := by decide +kernel
instance (i : grid0.Coords) : ClosedOff (k0_off4 i) := ⟨_, off4_eq i⟩
theorem off5_eq : ∀ i : grid0.Coords, k0_off5 i = ![3, (i 1).val, 0, 0] := by decide +kernel
instance (i : grid0.Coords) : ClosedOff (k0_off5 i) := ⟨_, off5_eq i⟩

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S4096x256 .f32) (harg7 : arg7.IsWhole) (arg8 : Memref sig .tc .vmem S4096x256 .f32) (harg8 : arg8.IsWhole) (arg9 : Memref sig .tc .vmem S4x16x256x256 .bf16) (harg9 : arg9.IsWhole) (arg10 : Memref sig .tc .vmem S4x16x256x256 .bf16) (harg10 : arg10.IsWhole)
  (x2 : Vec F S256x256 .bf16) (x3 x4 : Vec F S4096x256 .bf16) (x5 : Vec F S256x256 .bf16)

/-- The four operand buffers at the blocks read, the outputs and the scratch buffers at given contents. -/
abbrev Held (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5
    ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9) ∗ (arg10.view.loc (c : Thread nD τ) ↦[arg10.view.set]{fullShare} f10))

/-- The body where the key and value gradients are zeroed first: the stores it leaves in the query gradient's block and
in the two accumulated gradients, found by running it. -/
def runA (hc : Zeroing i) (f7 : BufTy.Contents (Elt F) arg7.view.ty) (f8 : BufTy.Contents (Elt F) arg8.view.ty) (f9 : BufTy.Contents (Elt F) arg9.view.ty) (f10 : BufTy.Contents (Elt F) arg10.view.ty) :
    Σ' (L6 : List (View.Piece (Elt F) S256x256 .bf16)) (g7 : BufTy.Contents (Elt F) arg7.view.ty) (g8 : BufTy.Contents (Elt F) arg8.view.ty) (g9 : BufTy.Contents (Elt F) arg9.view.ty),
      { g10 : BufTy.Contents (Elt F) arg10.view.ty // ∀ (E : Set ℕ) (f6 : BufTy.Contents (Elt F) arg6.view.ty) (K : PUnit → sProp 𝕄),
        iprop(Held (F := F) c arg2 arg3 arg4 arg5 arg6 arg7 arg8 arg9 arg10 x2 x3 x4 x5 f6 f7 f8 f9 f10
          ∗ (Held (F := F) c arg2 arg3 arg4 arg5 arg6 arg7 arg8 arg9 arg10 x2 x3 x4 x5 (arg6.view.writes (Elt F) f6 L6) g7 g8 g9 g10 -∗ K ⟨⟩))
        ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10) K } := by
  refine ⟨?_, ?_, ?_, ?_, ?_, fun E f6 K => ?run⟩
  case run =>
    simp only [cc0_attn_bwd_eq_skeleton]; unfold cc0_attn_bwd_skel
    simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold Held owns
    iintro ⟨⟨⟨%f2, %hf2, H2⟩, ⟨%f3, %hf3, H3⟩, ⟨%f4, %hf4, H4⟩, ⟨%f5, %hf5, H5⟩, H6, H7, H8, H9, H10⟩, Hk⟩
    obtain rfl := harg2.eq_unread hf2; obtain rfl := harg3.eq_unread hf3; obtain rfl := harg4.eq_unread hf4; obtain rfl := harg5.eq_unread hf5
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    iexact H10

/-- The body where they are added to: the stores it leaves in the query gradient's block and
in the two accumulated gradients, found by running it. -/
def runB (hc : ¬Zeroing i) (f7 : BufTy.Contents (Elt F) arg7.view.ty) (f8 : BufTy.Contents (Elt F) arg8.view.ty) (f9 : BufTy.Contents (Elt F) arg9.view.ty) (f10 : BufTy.Contents (Elt F) arg10.view.ty) :
    Σ' (L6 : List (View.Piece (Elt F) S256x256 .bf16)) (g7 : BufTy.Contents (Elt F) arg7.view.ty) (g8 : BufTy.Contents (Elt F) arg8.view.ty) (g9 : BufTy.Contents (Elt F) arg9.view.ty),
      { g10 : BufTy.Contents (Elt F) arg10.view.ty // ∀ (E : Set ℕ) (f6 : BufTy.Contents (Elt F) arg6.view.ty) (K : PUnit → sProp 𝕄),
        iprop(Held (F := F) c arg2 arg3 arg4 arg5 arg6 arg7 arg8 arg9 arg10 x2 x3 x4 x5 f6 f7 f8 f9 f10
          ∗ (Held (F := F) c arg2 arg3 arg4 arg5 arg6 arg7 arg8 arg9 arg10 x2 x3 x4 x5 (arg6.view.writes (Elt F) f6 L6) g7 g8 g9 g10 -∗ K ⟨⟩))
        ⊢ wp frame (wpE (defs₀ (F := F)) Variants.none (c : Thread nD τ) none) E (cc0_attn_bwd (F := F) i arg2 harg2 arg3 harg3 arg4 harg4 arg5 harg5 arg6 harg6 arg7 harg7 arg8 harg8 arg9 harg9 arg10 harg10) K } := by
  refine ⟨?_, ?_, ?_, ?_, ?_, fun E f6 K => ?run⟩
  case run =>
    simp only [cc0_attn_bwd_eq_skeleton]; unfold cc0_attn_bwd_skel
    simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold Held owns
    iintro ⟨⟨⟨%f2, %hf2, H2⟩, ⟨%f3, %hf3, H3⟩, ⟨%f4, %hf4, H4⟩, ⟨%f5, %hf5, H5⟩, H6, H7, H8, H9, H10⟩, Hk⟩
    obtain rfl := harg2.eq_unread hf2; obtain rfl := harg3.eq_unread hf3; obtain rfl := harg4.eq_unread hf4; obtain rfl := harg5.eq_unread hf5
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexact H6
    isplitl [H7]; · iexact H7
    isplitl [H8]; · iexact H8
    isplitl [H9]; · iexact H9
    iexact H10

end Cert.Proof.Attn
-- ==== Proof.Attn.Tile.lean ====
module

public import proofs.«01_k».proof.Proof.Attn.Run
public import Idealize.ShloMosaic.Lib.VecWindow

/-! One grid point of the attention backward kernel written as plain functions of the tiles it reads: the scores of
a key tile, the logarithms of the stick-breaking weights, the weights, and what both sweeps leave in the scratch
buffers and the three gradients. Nothing here is about memory; the modules that follow show that the body computes
these functions. -/

@[expose] public section

set_option maxRecDepth 8192

noncomputable section

namespace Cert.Proof.Attn

open Cert.AttnIdeal Cert.AttnIdeal.Gen
open Idealize.ShloMosaic Idealize.ShloMosaic.TcCoe

variable {F : FTy → Type} [FloatOps F]

/-- Tile `j` of a matrix of 4096 rows: its 256 rows from row `256 j`. -/
def rows {α : Type} (x : S4096x256.Idx → α) (j : Fin 16) : S256x256.Idx → α :=
  VecWindow.window x ![256 * j.val, 0] S256x256.size (by have := j.isLt; intro a; fin_cases a <;> simp [S4096x256, S256x256] <;> omega)

/-- Tile `j` of head `h` in a scratch buffer. -/
def slot {α : Type} (x : S4x16x256x256.Idx → α) (h : Fin 4) (j : Fin 16) : S1x1x256x256.Idx → α :=
  VecWindow.window x ![h.val, j.val, 0, 0] S1x1x256x256.size (by have := j.isLt; have := h.isLt; intro a; fin_cases a <;> simp [S4x16x256x256, S1x1x256x256] <;> omega)

/-- The zero tile and the zero column. -/
abbrev zeroTile : FVec F S256x256 .f32 := broadcast S256x256 (Scalar.ofBits .f32 0x00000000#32)
abbrev zeroCol : FVec F S256x1 .f32 := broadcast S256x1 (Scalar.ofBits .f32 0x00000000#32)

/-- On the diagonal tile only the entries left of the diagonal are kept, elsewhere all of them. -/
def cut (d : Bool) (x : FVec F S256x256 .f32) : FVec F S256x256 .f32 :=
  bif d then select k0_pay621 x zeroTile else x

/-- A product of one head's rows with a tile's rows. -/
def dots (q kt : FVec F S256x256 .bf16) : FVec F S256x256 .f32 :=
  matmul dot_S256x256_S256x256_S256x256_1_1_0_0_n_n none q (shapeCast S256x256 kt shapeCasts_S256x256_S256x256) (constant S256x256 .f32 0x00000000#32)

/-- `log (1 + exp z)`, as the kernel writes it. -/
def softplus (z : FVec F S256x256 .f32) : FVec F S256x256 .f32 :=
  addf (maximumf z zeroTile) (log (addf (broadcast S256x256 (Scalar.ofBits .f32 0x3F800000#32)) (exp (subf zeroTile (absf z)))))

/-- The logarithm of the share of the stick a key takes. -/
def logShare (z : FVec F S256x256 .f32) : FVec F S256x256 .f32 := subf z (softplus z)

/-- The row sums of a tile. -/
def rowSum (x : FVec F S256x256 .f32) : FVec F S256x1 .f32 :=
  shapeCast S256x1 (multiReduction .add [1] S256 x 0x00000000#32 reduces_S256x256_S256 (.inl rfl) rfl) shapeCasts_S256_S256x1

/-- A product of a tile with a 256 by 256 matrix of zeros and ones. -/
def sums (x u : FVec F S256x256 .bf16) : FVec F S256x256 .f32 :=
  matmul dot_S256x256_S256x256_S256x256_1_0_0_1_n_n none x u (constant S256x256 .f32 0x00000000#32)

/-- A column repeated over a tile. -/
def spread (c : FVec F S256x1 .f32) : FVec F S256x256 .f32 := broadcastTo S256x256 c broadcasts_S256x1_S256x256

/-- The weights of a tile: `u` sums the entries right of each, `c` is what the later tiles hold. -/
def weight (u : FVec F S256x256 .bf16) (d : Bool) (z : FVec F S256x256 .f32) (c : FVec F S256x1 .f32) : FVec F S256x256 .f32 :=
  cut d (exp (subf (logShare z) (addf (sums (truncf .bf16 (cut d (softplus z)) bitsLt_bf16_f32) u) (spread c))))

/-- What the first sweep keeps of a tile: the weights times their cotangents, and the shares. -/
def keptG (a w : FVec F S256x256 .f32) : FVec F S1x1x256x256 .bf16 :=
  shapeCast S1x1x256x256 (truncf .bf16 (mulf a w) bitsLt_bf16_f32) shapeCasts_S256x256_S1x1x256x256
def keptS (d : Bool) (z : FVec F S256x256 .f32) : FVec F S1x1x256x256 .bf16 :=
  shapeCast S1x1x256x256 (truncf .bf16 (cut d (exp (logShare z))) bitsLt_bf16_f32) shapeCasts_S256x256_S1x1x256x256

/-- Four heads' tiles one above the other. -/
def stack (w : Fin 4 → FVec F S256x256 .bf16) : FVec F S1024x256 .bf16 :=
  concatenate S1024x256 0 [⟨S256x256, w 0⟩, ⟨S256x256, w 1⟩, ⟨S256x256, w 2⟩, ⟨S256x256, w 3⟩] concatenates_S256x256_S256x256_S256x256_S256x256_S1024x256_d0

/-- A gradient's tile with the four heads' products added. -/
def addInto (old : FVec F S256x256 .f32) (w : Fin 4 → FVec F S256x256 .bf16) (x : FVec F S1024x256 .bf16) : FVec F S256x256 .f32 :=
  addf (shapeCast S256x256 old shapeCasts_S256x256_S256x256)
    (matmul dot_S1024x256_S1024x256_S256x256_0_0_1_1_n_n none (stack w) x (constant S256x256 .f32 0x00000000#32))

/-- What one grid point reads: the two triangles of ones, the four heads of the query rows and of the output's
cotangent, and the keys and values by tiles. -/
structure Env (F : FTy → Type) where
  above : FVec F S256x256 .bf16
  qh : Fin 4 → FVec F S256x256 .bf16
  oh : Fin 4 → FVec F S256x256 .bf16
  kt : Fin 16 → FVec F S256x256 .bf16
  vt : Fin 16 → FVec F S256x256 .bf16

namespace Env
variable (e : Env F)

/-- The scores of head `h` on tile `j`, and the weights' cotangents. -/
def z (h : Fin 4) (j : Fin 16) : FVec F S256x256 .f32 := dots (e.qh h) (e.kt j)
def a (h : Fin 4) (j : Fin 16) : FVec F S256x256 .f32 := dots (e.oh h) (e.vt j)

/-- The row sums over the `p` last of the tiles up to `i`. -/
def held (i : Fin 16) (h : Fin 4) : ℕ → FVec F S256x1 .f32
  | 0 => zeroCol
  | p + 1 => addf (held i h p) (rowSum (cut (p == 0) (softplus (e.z h (Fin.ofNat 16 (i.val - p))))))

/-- The weights of head `h` on tile `j`. -/
def w (i : Fin 16) (h : Fin 4) (j : Fin 16) : FVec F S256x256 .f32 :=
  weight e.above (i.val - j.val == 0) (e.z h j) (e.held i h (i.val - j.val))

/-- The kept product of a weight and its cotangent, and the kept share. -/
def g (i : Fin 16) (h : Fin 4) (j : Fin 16) : FVec F S1x1x256x256 .bf16 := keptG (e.a h j) (e.w i h j)
def s (i : Fin 16) (h : Fin 4) (j : Fin 16) : FVec F S1x1x256x256 .bf16 := keptS (i.val - j.val == 0) (e.z h j)

/-- The value gradient's tile `j` with this grid point's part added. -/
def newV (i : Fin 16) (j : Fin 16) (old : FVec F S256x256 .f32) : FVec F S256x256 .f32 :=
  addInto old (fun h => truncf .bf16 (e.w i h j) bitsLt_bf16_f32) (stack e.oh)

end Env

/-- A matrix of 4096 rows with tile `j` replaced. -/
def putRows {α : Type} (x : S4096x256.Idx → α) (j : Fin 16) (w : S256x256.Idx → α) : S4096x256.Idx → α :=
  VecWindow.put x ![256 * j.val, 0] S256x256.size w

/-- A scratch buffer with tile `j` of head `h` replaced, and with tile `j` of all four heads. -/
def putSlot {α : Type} (x : S4x16x256x256.Idx → α) (h : Fin 4) (j : Fin 16) (w : S1x1x256x256.Idx → α) : S4x16x256x256.Idx → α :=
  VecWindow.put x ![h.val, j.val, 0, 0] S1x1x256x256.size w
def putSlots {α : Type} (x : S4x16x256x256.Idx → α) (j : Fin 16) (w : Fin 4 → S1x1x256x256.Idx → α) : S4x16x256x256.Idx → α :=
  putSlot (putSlot (putSlot (putSlot x 0 j (w 0)) 1 j (w 1)) 2 j (w 2)) 3 j (w 3)

/-- A tile of a matrix one of whose tiles was replaced. -/
theorem rows_putRows {α : Type} (x : S4096x256.Idx → α) (j j' : Fin 16) (w : S256x256.Idx → α) :
    rows (putRows x j w) j' = if j' = j then w else rows x j' := by
  split
  · next h => subst h; exact VecWindow.window_put_same x _ S256x256.size _ w
  · next h =>
    refine VecWindow.window_put_of_disjoint x _ S256x256.size _ S256x256.size _ w (0 : Fin 2) ?_
    show 256 * j'.val + 256 ≤ 256 * j.val ∨ 256 * j.val + 256 ≤ 256 * j'.val
    have : j'.val ≠ j.val := fun h' => h (Fin.ext h')
    omega

/-- A scratch tile after one was replaced, and after the four heads' were. -/
theorem slot_putSlot {α : Type} (x : S4x16x256x256.Idx → α) (h h' : Fin 4) (j j' : Fin 16) (w : S1x1x256x256.Idx → α) :
    slot (putSlot x h j w) h' j' = if h' = h ∧ j' = j then w else slot x h' j' := by
  split
  · next e => obtain ⟨rfl, rfl⟩ := e; exact VecWindow.window_put_same x _ S1x1x256x256.size _ w
  · next e =>
    by_cases hh : h' = h
    · refine VecWindow.window_put_of_disjoint x _ S1x1x256x256.size _ S1x1x256x256.size _ w (1 : Fin 4) ?_
      show j'.val + 1 ≤ j.val ∨ j.val + 1 ≤ j'.val
      have : j'.val ≠ j.val := fun h' => e ⟨hh, Fin.ext h'⟩
      omega
    · refine VecWindow.window_put_of_disjoint x _ S1x1x256x256.size _ S1x1x256x256.size _ w (0 : Fin 4) ?_
      show h'.val + 1 ≤ h.val ∨ h.val + 1 ≤ h'.val
      have : h'.val ≠ h.val := fun h' => hh (Fin.ext h')
      omega

/-- A scratch tile after the four heads' tiles of one key tile were replaced. -/
theorem slot_putSlots {α : Type} (x : S4x16x256x256.Idx → α) (j j' : Fin 16) (w : Fin 4 → S1x1x256x256.Idx → α) (h : Fin 4) :
    slot (putSlots x j w) h j' = if j' = j then w h else slot x h j' := by
  unfold putSlots
  simp only [slot_putSlot]
  by_cases hj : j' = j
  · simp only [hj, and_true, if_true]; fin_cases h <;> rfl
  · simp only [hj, and_false, if_false]

/-- A matrix of 4096 rows is determined by its tiles. -/
theorem ext_rows {α : Type} {x x' : S4096x256.Idx → α} (h : ∀ j, rows x j = rows x' j) : x = x' := by
  funext y
  have h0 : (y (0 : Fin 2)).val < 4096 := (y (0 : Fin 2)).isLt
  have hy := congrFun (h ⟨(y (0 : Fin 2)).val / 256, by omega⟩)
    (Fin.cons (⟨(y (0 : Fin 2)).val % 256, Nat.mod_lt _ (by omega)⟩ : Fin 256) (Fin.cons (y (1 : Fin 2) : Fin 256) finZeroElim))
  have he : ∀ z : S4096x256.Idx → α, rows z ⟨(y (0 : Fin 2)).val / 256, by omega⟩
      (Fin.cons (⟨(y (0 : Fin 2)).val % 256, Nat.mod_lt _ (by omega)⟩ : Fin 256) (Fin.cons (y (1 : Fin 2) : Fin 256) finZeroElim)) = z y := by
    intro z
    refine congrArg z (funext fun a => Fin.ext ?_)
    fin_cases a
    · show 256 * ((y (0 : Fin 2)).val / 256) + 1 * ((y (0 : Fin 2)).val % 256) = (y (0 : Fin 2)).val
      omega
    · show 0 + 1 * (y (1 : Fin 2)).val = (y (1 : Fin 2)).val
      omega
  rwa [he, he] at hy

namespace Env
variable (e : Env F)

/-- The four heads' row sums as the loops carry them. -/
def cols (i : Fin 16) (p : ℕ) : Cols F := (e.held i 0 p, e.held i 1 p, e.held i 2 p, e.held i 3 p)

/-- The row sums a tile finds are those the tile right of it leaves. -/
theorem held_succ {i j : Fin 16} {p : ℕ} (h : Fin 4) (hp : 0 < p) (hj : j.val + p = i.val) :
    e.held i h (p + 1) = addf (e.held i h p) (rowSum (cut false (softplus (e.z h j)))) := by
  have h1 : (p == 0) = false := by simpa using hp.ne'
  have h2 : Fin.ofNat 16 (i.val - p) = j := Fin.ext (by have := j.isLt; show (i.val - p) % 16 = _; omega)
  show addf _ (rowSum (cut (p == 0) (softplus (e.z h (Fin.ofNat 16 (i.val - p)))))) = _
  rw [h1, h2]

/-- A weight, and a share, of a tile left of the diagonal. -/
theorem w_eq {i j : Fin 16} {p : ℕ} (h : Fin 4) (hp : 0 < p) (hj : j.val + p = i.val) :
    e.w i h j = weight e.above false (e.z h j) (e.held i h p) := by
  have h1 : i.val - j.val = p := by omega
  have h2 : (p == 0) = false := by simpa using hp.ne'
  unfold w; rw [h1, h2]

/-- A share of a tile left of the diagonal. -/
theorem s_eq {i j : Fin 16} {p : ℕ} (h : Fin 4) (hp : 0 < p) (hj : j.val + p = i.val) :
    e.s i h j = keptS false (e.z h j) := by
  have h1 : i.val - j.val = p := by omega
  have h2 : (p == 0) = false := by simpa using hp.ne'
  unfold s; rw [h1, h2]

/-- The first sweep has been over the `p` last of the tiles up to `i`: their parts stand in the value gradient
`x`, which was `old`, and what is kept of them stands in the scratch buffers. -/
structure Swept (i : Fin 16) (p : ℕ) (old x : S4096x256.Idx → F .f32) (xg xs : S4x16x256x256.Idx → F .bf16) : Prop where
  done : ∀ j : Fin 16, j.val ≤ i.val → i.val < j.val + p → rows x j = e.newV i j (rows old j)
  rest : ∀ j : Fin 16, (i.val < j.val ∨ j.val + p ≤ i.val) → rows x j = rows old j
  g : ∀ (h : Fin 4) (j : Fin 16), j.val ≤ i.val → i.val < j.val + p → slot xg h j = e.g i h j
  s : ∀ (h : Fin 4) (j : Fin 16), j.val ≤ i.val → i.val < j.val + p → slot xs h j = e.s i h j

/-- Nothing swept yet. -/
theorem Swept.zero (i : Fin 16) (x : S4096x256.Idx → F .f32) (xg xs : S4x16x256x256.Idx → F .bf16) : e.Swept i 0 x x xg xs :=
  ⟨fun _ h h' => absurd h' (by omega), fun _ _ => rfl, fun _ _ h h' => absurd h' (by omega), fun _ _ h h' => absurd h' (by omega)⟩

/-- One more tile. -/
theorem Swept.step {e : Env F} {i : Fin 16} {p : ℕ} {old x : S4096x256.Idx → F .f32} {xg xs : S4x16x256x256.Idx → F .bf16} (H : e.Swept i p old x xg xs)
    {j : Fin 16} (hj : j.val + p = i.val) :
    e.Swept i (p + 1) old (putRows x j (e.newV i j (rows x j))) (putSlots xg j fun h => e.g i h j) (putSlots xs j fun h => e.s i h j) := by
  have key : ∀ j' : Fin 16, j' ≠ j → j'.val ≤ i.val → i.val < j'.val + (p + 1) → i.val < j'.val + p := fun j' hne h1 h2 => by
    have : j'.val ≠ j.val := fun h => hne (Fin.ext h)
    omega
  refine ⟨fun j' h1 h2 => ?_, fun j' h => ?_, fun h j' h1 h2 => ?_, fun h j' h1 h2 => ?_⟩
  · rw [rows_putRows]
    by_cases hjj : j' = j
    · subst hjj; rw [if_pos rfl, H.rest j' (.inr (by omega))]
    · rw [if_neg hjj, H.done j' h1 (key j' hjj h1 h2)]
  · have hjj : j' ≠ j := fun hh => by subst hh; omega
    rw [rows_putRows, if_neg hjj, H.rest j' (by omega)]
  · rw [slot_putSlots]
    by_cases hjj : j' = j
    · subst hjj; rw [if_pos rfl]
    · rw [if_neg hjj, H.g h j' h1 (key j' hjj h1 h2)]
  · rw [slot_putSlots]
    by_cases hjj : j' = j
    · subst hjj; rw [if_pos rfl]
    · rw [if_neg hjj, H.s h j' h1 (key j' hjj h1 h2)]

end Env

/-! ### The second sweep -/

/-- A kept tile as a matrix, in the two widths. -/
def flat (x : FVec F S1x1x256x256 .bf16) : FVec F S256x256 .bf16 := shapeCast S256x256 x shapeCasts_S1x1x256x256_S256x256
def wide (x : FVec F S1x1x256x256 .bf16) : FVec F S256x256 .f32 := extf .f32 (flat x) bitsLt_bf16_f32

/-- The scores' cotangents on a tile: `c` is what the tiles before hold. -/
def dzOf (g s : FVec F S1x1x256x256 .bf16) (c : FVec F S256x1 .f32) : FVec F S256x256 .bf16 :=
  truncf .bf16 (subf (wide g) (mulf (wide s) (addf (wide g) (addf (sums (flat g) k0_pay595) (spread c))))) bitsLt_bf16_f32

/-- The head, of the four in a group, each of the 256 lanes belongs to: the lane by 64 rounded down. -/
def laneHead : IVec S1x256 32 :=
  select
    (andi
      (cmpi .ne
        (subi (extui 32 (cmpi .sgt (iota .tc S1x256 32 [1] iota_S1x256_d1_w32) (broadcast S1x256 0#32)) natLt_1_32)
          (extui 32 (cmpi .slt (iota .tc S1x256 32 [1] iota_S1x256_d1_w32) (broadcast S1x256 0#32)) natLt_1_32))
        (broadcast S1x256 (Scalar.subi (Scalar.extui (Scalar.cmpi .sgt 64#32 0#32)) (Scalar.extui (Scalar.cmpi .slt 64#32 0#32)))))
      (cmpi .ne (remsi (iota .tc S1x256 32 [1] iota_S1x256_d1_w32) (broadcast S1x256 64#32)) (broadcast S1x256 0#32)))
    (subi (divsi (iota .tc S1x256 32 [1] iota_S1x256_d1_w32) (broadcast S1x256 64#32)) (broadcast S1x256 1#32))
    (divsi (iota .tc S1x256 32 [1] iota_S1x256_d1_w32) (broadcast S1x256 64#32))

/-- A tile with the lanes of the heads other than `h` at zero. -/
def headOf (x : FVec F S256x256 .bf16) (h : Fin 4) : FVec F S256x256 .bf16 :=
  select (broadcastTo S256x256 (shapeCast S1x256 (cmpi .eq laneHead (broadcast S1x256 (BitVec.ofNat 32 h.val))) shapeCasts_S1x256_S1x256) broadcasts_S1x256_S256x256)
    x (broadcast S256x256 (Scalar.ofBits .bf16 0x0000#16))

/-- A key tile's four heads one above the other. -/
def keyStack (kt : FVec F S256x256 .bf16) : FVec F S1024x256 .bf16 := stack (headOf (shapeCast S256x256 kt shapeCasts_S256x256_S256x256))

/-- The query gradient with the products of one tile, and of three tiles, added. -/
def addOne (acc : FVec F S256x256 .f32) (d : Fin 4 → FVec F S256x256 .bf16) (k : FVec F S1024x256 .bf16) : FVec F S256x256 .f32 :=
  addf acc (matmul dot_S256x1024_S1024x256_S256x256_1_0_0_1_n_n none
    (concatenate S256x1024 1 [⟨S256x256, d 0⟩, ⟨S256x256, d 1⟩, ⟨S256x256, d 2⟩, ⟨S256x256, d 3⟩] concatenates_S256x256_S256x256_S256x256_S256x256_S256x1024_d1)
    k (constant S256x256 .f32 0x00000000#32))
def addThree (acc : FVec F S256x256 .f32) (d0 d1 d2 : Fin 4 → FVec F S256x256 .bf16) (k0 k1 k2 : FVec F S1024x256 .bf16) : FVec F S256x256 .f32 :=
  addf acc (matmul dot_S256x3072_S3072x256_S256x256_1_0_0_1_n_n none
    (concatenate S256x3072 1 [⟨S256x256, d0 0⟩, ⟨S256x256, d0 1⟩, ⟨S256x256, d0 2⟩, ⟨S256x256, d0 3⟩, ⟨S256x256, d1 0⟩, ⟨S256x256, d1 1⟩, ⟨S256x256, d1 2⟩, ⟨S256x256, d1 3⟩,
      ⟨S256x256, d2 0⟩, ⟨S256x256, d2 1⟩, ⟨S256x256, d2 2⟩, ⟨S256x256, d2 3⟩]
      concatenates_S256x256_S256x256_S256x256_S256x256_S256x256_S256x256_S256x256_S256x256_S256x256_S256x256_S256x256_S256x256_S256x3072_d1)
    (concatenate S3072x256 0 [⟨S1024x256, k0⟩, ⟨S1024x256, k1⟩, ⟨S1024x256, k2⟩] concatenates_S1024x256_S1024x256_S1024x256_S3072x256_d0)
    (constant S256x256 .f32 0x00000000#32))

/-- The five values the second sweep carries. -/
abbrev Cols5 (F : FTy → Type) : Type := FVec F S256x1 .f32 × FVec F S256x1 .f32 × FVec F S256x1 .f32 × FVec F S256x1 .f32 × FVec F S256x256 .f32

namespace Env
variable (e : Env F)

/-- The row sums of the products over the first `p` tiles. -/
def past (i : Fin 16) (h : Fin 4) : ℕ → FVec F S256x1 .f32
  | 0 => zeroCol
  | p + 1 => addf (past i h p) (rowSum (wide (e.g i h (Fin.ofNat 16 p))))

/-- The scores' cotangents of head `h` on tile `j`. -/
def dz (i : Fin 16) (h : Fin 4) (j : Fin 16) : FVec F S256x256 .bf16 := dzOf (e.g i h j) (e.s i h j) (e.past i h j.val)

/-- The key gradient's tile `j` with this grid point's part added. -/
def newK (i : Fin 16) (j : Fin 16) (old : FVec F S256x256 .f32) : FVec F S256x256 .f32 :=
  addInto old (fun h => e.dz i h j) (stack e.qh)

/-- The query gradient over the first `k` triples of tiles. -/
def triples (i : Fin 16) : ℕ → FVec F S256x256 .f32
  | 0 => zeroTile
  | k + 1 => addThree (triples i k) (fun h => e.dz i h (Fin.ofNat 16 (3 * k))) (fun h => e.dz i h (Fin.ofNat 16 (3 * k + 1))) (fun h => e.dz i h (Fin.ofNat 16 (3 * k + 2)))
      (keyStack (e.kt (Fin.ofNat 16 (3 * k)))) (keyStack (e.kt (Fin.ofNat 16 (3 * k + 1)))) (keyStack (e.kt (Fin.ofNat 16 (3 * k + 2))))

/-- And over `k` more single tiles. -/
def singles (i : Fin 16) : ℕ → FVec F S256x256 .f32
  | 0 => e.triples i ((i.val + 1) / 3)
  | k + 1 => addOne (singles i k) (fun h => e.dz i h (Fin.ofNat 16 ((i.val + 1) / 3 * 3 + k))) (keyStack (e.kt (Fin.ofNat 16 ((i.val + 1) / 3 * 3 + k))))

/-- The query gradient's block. -/
def dq (i : Fin 16) : FVec F S256x256 .bf16 := k0_pay3 (e.singles i ((i.val + 1) % 3))

/-- What the second sweep carries before tile `p`, with `acc` as the query gradient so far. -/
def cols5 (i : Fin 16) (p : ℕ) (acc : FVec F S256x256 .f32) : Cols5 F := (e.past i 0 p, e.past i 1 p, e.past i 2 p, e.past i 3 p, acc)

/-- The second sweep has been over the tiles before `p`: their parts stand in the key gradient `x`, which was
`old`. -/
structure Swept' (i : Fin 16) (p : ℕ) (old x : S4096x256.Idx → F .f32) : Prop where
  done : ∀ j : Fin 16, j.val < p → rows x j = e.newK i j (rows old j)
  rest : ∀ j : Fin 16, p ≤ j.val → rows x j = rows old j

/-- Nothing swept yet. -/
theorem Swept'.zero (i : Fin 16) (x : S4096x256.Idx → F .f32) : e.Swept' i 0 x x := ⟨fun _ h => absurd h (by omega), fun _ _ => rfl⟩

/-- One more tile swept. -/
theorem Swept'.step {e : Env F} {i : Fin 16} {p : ℕ} {old x : S4096x256.Idx → F .f32} (H : e.Swept' i p old x) {j : Fin 16} (hj : j.val = p) :
    e.Swept' i (p + 1) old (putRows x j (e.newK i j (rows x j))) := by
  refine ⟨fun j' h => ?_, fun j' h => ?_⟩
  · rw [rows_putRows]
    by_cases hjj : j' = j
    · subst hjj; rw [if_pos rfl, H.rest j' (by omega)]
    · have : j'.val ≠ j.val := fun h => hjj (Fin.ext h)
      rw [if_neg hjj, H.done j' (by omega)]
  · have hjj : j' ≠ j := fun hh => by subst hh; omega
    rw [rows_putRows, if_neg hjj, H.rest j' (by omega)]

/-- The running row sum with one more tile. -/
theorem past_succ {i j : Fin 16} (h : Fin 4) {p : ℕ} (hj : j.val = p) : e.past i h (p + 1) = addf (e.past i h p) (rowSum (wide (e.g i h j))) := by
  have : Fin.ofNat 16 p = j := Fin.ext (by have := j.isLt; show p % 16 = _; omega)
  rw [past, this]

end Env

end Cert.Proof.Attn
-- ==== Proof.Attn.TileValue.lean ====
module

public import proofs.«01_k».proof.Proof.Attn.Model
public import proofs.«01_k».proof.Proof.Attn.Tile
public import Idealize.ShloMosaic.Lib.Pointwise
public import Idealize.ShloMosaic.Lib.WordCmp

/-! The functions of one grid point on tiles of finite extended reals. -/

@[expose] public section

set_option maxRecDepth 16384

noncomputable section

namespace Cert.Proof.Attn

open Cert.AttnIdeal Cert.AttnIdeal.Gen Cert.Reals
open Idealize.ShloMosaic Idealize.ShloMosaic.TcCoe
open scoped BigOperators

/-- A tile, and a column, of reals. -/
def tl (f : ℕ → ℕ → ℝ) : S256x256.Idx → EReal := fun i => ((f (i 0).val (i 1).val : ℝ) : EReal)
def cl (f : ℕ → ℝ) : S256x1.Idx → EReal := fun i => ((f (i 0).val : ℝ) : EReal)

/-- Row by row products of two tiles, and a tile of sums. -/
theorem dots_tl (f g : ℕ → ℕ → ℝ) :
    dots (F := Ideal) (tl f) (tl g) = tl fun r b => ∑ l ∈ Finset.range 256, f r l * g b l := by
  funext i
  obtain ⟨p, q, rfl⟩ : ∃ (p : Fin 256) (q : Fin 256), i = ix2 p q := ⟨i 0, i 1, eq_ix2 i⟩
  pointwise [dots]
  simp only [tl, ← EReal.coe_mul, sum_coe]
  exact congrArg _ (Fin.sum_univ_eq_sum_range (fun l => f p.val l * g q.val l) 256)

/-- A product of two tiles. -/
theorem sums_tl (f g : ℕ → ℕ → ℝ) :
    sums (F := Ideal) (tl f) (tl g) = tl fun r b => ∑ l ∈ Finset.range 256, f r l * g l b := by
  funext i
  obtain ⟨p, q, rfl⟩ : ∃ (p : Fin 256) (q : Fin 256), i = ix2 p q := ⟨i 0, i 1, eq_ix2 i⟩
  pointwise [sums]
  simp only [tl, ← EReal.coe_mul, sum_coe]
  exact congrArg _ (Fin.sum_univ_eq_sum_range (fun l => f p.val l * g l q.val) 256)

/-- The softplus. -/
theorem softplus_tl (f : ℕ → ℕ → ℝ) : softplus (F := Ideal) (tl f) = tl fun r b => spl (f r b) := by
  funext i
  pointwise [softplus, zeroTile]
  simp only [tl]
  rw [abs_coe, zero_sub, ← EReal.coe_neg]
  exact stable_coe _

/-- The part of a diagonal tile before the query. -/
theorem cut_tl (d : Bool) (f : ℕ → ℕ → ℝ) : cut (F := Ideal) d (tl f) = tl fun r b => if d = true ∧ ¬ b < r then 0 else f r b := by
  funext i
  obtain ⟨p, q, rfl⟩ : ∃ (p : Fin 256) (q : Fin 256), i = ix2 p q := ⟨i 0, i 1, eq_ix2 i⟩
  cases d
  · show tl f (ix2 p q) = tl _ (ix2 p q)
    simp [tl]
  · pointwise [cut, zeroTile, k0_pay621]
    rw [cond_true]
    pointwise
    rw [WordCmp.cmpi_slt_ofNat (by have := q.isLt; omega) (by have := p.isLt; omega), select_ofBool]
    show _ = ((if ¬ q.val < p.val then 0 else f p.val q.val : ℝ) : EReal)
    by_cases h : q.val < p.val
    · rw [if_pos h, if_neg (not_not.mpr h)]; rfl
    · rw [if_neg h, if_pos h]; rfl

/-- Row sums. -/
theorem rowSum_tl (f : ℕ → ℕ → ℝ) : rowSum (F := Ideal) (tl f) = cl fun r => ∑ l ∈ Finset.range 256, f r l := by
  funext i
  obtain ⟨p, q, rfl⟩ : ∃ (p : Fin 256) (q : Fin 1), i = ix2 p q := ⟨i 0, i 1, eq_ix2 i⟩
  pointwise [rowSum]
  simp only [tl, sum_coe]
  exact congrArg _ (Fin.sum_univ_eq_sum_range (fun l => f p.val l) 256)

/-- A column over every lane. -/
theorem spread_cl (f : ℕ → ℝ) : spread (F := Ideal) (cl f) = tl fun r b => f r := by
  funext i
  obtain ⟨p, q, rfl⟩ : ∃ (p : Fin 256) (q : Fin 256), i = ix2 p q := ⟨i 0, i 1, eq_ix2 i⟩
  pointwise [spread]
  rfl

/-- The triangle of ones below the diagonal. -/
theorem above_tl : k0_pay594 (F := Ideal) = tl fun a b => if b < a then 1 else 0 := by
  funext i
  obtain ⟨p, q, rfl⟩ : ∃ (p : Fin 256) (q : Fin 256), i = ix2 p q := ⟨i 0, i 1, eq_ix2 i⟩
  pointwise [k0_pay594]
  rw [WordCmp.cmpi_sgt_ofNat (by have := p.isLt; omega) (by have := q.isLt; omega), select_ofBool]
  show _ = ((if q.val < p.val then 1 else 0 : ℝ) : EReal)
  split <;> rfl

/-- The triangle of ones above the diagonal. -/
theorem below_tl : k0_pay595 (F := Ideal) = tl fun a b => if a < b then 1 else 0 := by
  funext i
  obtain ⟨p, q, rfl⟩ : ∃ (p : Fin 256) (q : Fin 256), i = ix2 p q := ⟨i 0, i 1, eq_ix2 i⟩
  pointwise [k0_pay595]
  rw [WordCmp.cmpi_slt_ofNat (by have := p.isLt; omega) (by have := q.isLt; omega), select_ofBool]
  show _ = ((if p.val < q.val then 1 else 0 : ℝ) : EReal)
  split <;> rfl

/-- The scale. -/
theorem scale_tl (f : ℕ → ℕ → ℝ) : k0_pay3 (F := Ideal) (tl f) = tl fun a b => f a b * (1 / 8) := by
  funext i
  obtain ⟨p, q, rfl⟩ : ∃ (p : Fin 256) (q : Fin 256), i = ix2 p q := ⟨i 0, i 1, eq_ix2 i⟩
  pointwise [k0_pay3]
  rw [lit_eighth]
  exact (EReal.coe_mul _ _).symm

/-! ## A tile's weights -/

/-- A change of format leaves the values. -/
theorem truncf_tl (f : ℕ → ℕ → ℝ) : truncf (F := Ideal) (φ := .f32) .bf16 (tl f) bitsLt_bf16_f32 = tl f := rfl

/-- The logarithm of a share. -/
theorem logShare_tl (f : ℕ → ℕ → ℝ) : logShare (F := Ideal) (tl f) = tl fun r b => f r b - spl (f r b) := by
  unfold logShare
  rw [softplus_tl]
  funext i
  exact (EReal.coe_sub _ _).symm

/-- The exponential. -/
theorem exp_tl (f : ℕ → ℕ → ℝ) : exp (F := Ideal) (φ := .f32) (tl f) = tl fun r b => Real.exp (f r b) := by
  funext i
  pointwise
  exact Ideal.exp_coe _

/-- Sums, differences and products of tiles; sums of columns; zeros. -/
theorem add_tl (f g : ℕ → ℕ → ℝ) : addf (F := Ideal) (φ := .f32) (tl f) (tl g) = tl fun r b => f r b + g r b :=
  funext fun i => (EReal.coe_add _ _).symm
theorem sub_tl (f g : ℕ → ℕ → ℝ) : subf (F := Ideal) (φ := .f32) (tl f) (tl g) = tl fun r b => f r b - g r b :=
  funext fun i => (EReal.coe_sub _ _).symm
theorem mul_tl (f g : ℕ → ℕ → ℝ) : mulf (F := Ideal) (φ := .f32) (tl f) (tl g) = tl fun r b => f r b * g r b :=
  funext fun i => (EReal.coe_mul _ _).symm
theorem add_cl (f g : ℕ → ℝ) : addf (F := Ideal) (φ := .f32) (cl f) (cl g) = cl fun r => f r + g r :=
  funext fun i => (EReal.coe_add _ _).symm
theorem zeroTile_tl : zeroTile (F := Ideal) = tl fun _ _ => 0 := by
  funext i; pointwise [zeroTile]; try rfl
theorem zeroCol_cl : zeroCol (F := Ideal) = cl fun _ => 0 := by
  funext i; pointwise [zeroCol]; try rfl

/-- The weights of a tile. -/
theorem weight_tl (d : Bool) (z : ℕ → ℕ → ℝ) (c : ℕ → ℝ) :
    weight (F := Ideal) k0_pay594 d (tl z) (cl c) = tl fun r b => if d = true ∧ ¬ b < r then 0 else
      Real.exp (z r b - spl (z r b) - (∑ l ∈ Finset.range 256, (if d = true ∧ ¬ l < r then 0 else spl (z r l)) * (if b < l then 1 else 0) + c r)) := by
  unfold weight
  rw [logShare_tl, softplus_tl, cut_tl, truncf_tl, above_tl, sums_tl, spread_cl, add_tl, sub_tl, exp_tl, cut_tl]

/-- Four tiles one above the other, at a row. -/
theorem stack_apply (w : Fin 4 → FVec Ideal S256x256 .bf16) (h : Fin 4) (r l : Fin 256) (x : Fin 1024) (hx : x.val = h.val * 256 + r.val) :
    stack w (ix2 x l) = w h (ix2 r l) := by
  have hr := r.isLt
  pointwise [stack]
  fin_cases h <;> simp only [] at hx
  all_goals
    repeat first | rw [dif_pos (by omega)] | rw [dif_neg (by omega)]
    congr 2
    refine Fin.ext ?_
    dsimp only
    omega

/-- Four tiles side by side, at a column. -/
theorem beside4_apply (d : Fin 4 → FVec Ideal S256x256 .bf16) (m : Fin 4) (a r : Fin 256) (x : Fin 1024) (hx : x.val = m.val * 256 + r.val) :
    concatenate S256x1024 1 [⟨S256x256, d 0⟩, ⟨S256x256, d 1⟩, ⟨S256x256, d 2⟩, ⟨S256x256, d 3⟩] concatenates_S256x256_S256x256_S256x256_S256x256_S256x1024_d1 (ix2 a x)
      = d m (ix2 a r) := by
  have hr := r.isLt
  pointwise
  fin_cases m <;> simp only [] at hx
  all_goals
    repeat first | rw [dif_pos (by omega)] | rw [dif_neg (by omega)]
    congr 2
    refine Fin.ext ?_
    dsimp only
    omega

/-- Twelve tiles side by side, at a column. -/
theorem beside12_apply (d : Fin 12 → FVec Ideal S256x256 .bf16) (m : Fin 12) (a r : Fin 256) (x : Fin 3072) (hx : x.val = m.val * 256 + r.val) :
    concatenate S256x3072 1 [⟨S256x256, d 0⟩, ⟨S256x256, d 1⟩, ⟨S256x256, d 2⟩, ⟨S256x256, d 3⟩, ⟨S256x256, d 4⟩, ⟨S256x256, d 5⟩, ⟨S256x256, d 6⟩, ⟨S256x256, d 7⟩,
      ⟨S256x256, d 8⟩, ⟨S256x256, d 9⟩, ⟨S256x256, d 10⟩, ⟨S256x256, d 11⟩]
      concatenates_S256x256_S256x256_S256x256_S256x256_S256x256_S256x256_S256x256_S256x256_S256x256_S256x256_S256x256_S256x256_S256x3072_d1 (ix2 a x)
      = d m (ix2 a r) := by
  have hr := r.isLt
  pointwise
  fin_cases m <;> simp only [] at hx
  all_goals
    repeat first | rw [dif_pos (by omega)] | rw [dif_neg (by omega)]
    congr 2
    refine Fin.ext ?_
    dsimp only
    omega

/-- Three stacks one above the other, at a row. -/
theorem above3_apply (k : Fin 3 → FVec Ideal S1024x256 .bf16) (g : Fin 3) (r : Fin 1024) (l : Fin 256) (x : Fin 3072) (hx : x.val = g.val * 1024 + r.val) :
    concatenate S3072x256 0 [⟨S1024x256, k 0⟩, ⟨S1024x256, k 1⟩, ⟨S1024x256, k 2⟩] concatenates_S1024x256_S1024x256_S1024x256_S3072x256_d0 (ix2 x l)
      = k g (ix2 r l) := by
  have hr := r.isLt
  pointwise
  fin_cases g <;> simp only [] at hx
  all_goals
    repeat first | rw [dif_pos (by omega)] | rw [dif_neg (by omega)]
    congr 2
    refine Fin.ext ?_
    dsimp only
    omega

/-- A sum of four heads' sums. -/
theorem sum4 (F : Fin 1024 → ℝ) (G : ℕ → ℕ → ℝ) (h : ∀ (m : Fin 4) (r : Fin 256), F ⟨m.val * 256 + r.val, by omega⟩ = G m.val r.val) :
    ∑ x, F x = ∑ m ∈ Finset.range 4, ∑ r ∈ Finset.range 256, G m r := by
  rw [← Fin.sum_mul_add_fin 4 256 F, ← Fin.sum_univ_eq_sum_range (fun m => ∑ r ∈ Finset.range 256, G m r) 4]
  refine Finset.sum_congr rfl fun m _ => ?_
  rw [← Fin.sum_univ_eq_sum_range (fun r => G m.val r) 256]
  exact Finset.sum_congr rfl fun r _ => h m r

/-- Four heads' products added to a gradient's tile. -/
theorem addInto_tl (old : ℕ → ℕ → ℝ) (w x : ℕ → ℕ → ℕ → ℝ) :
    addInto (F := Ideal) (tl old) (fun h => tl (w h.val)) (stack fun h => tl (x h.val))
      = tl fun b l => old b l + ∑ h ∈ Finset.range 4, ∑ r ∈ Finset.range 256, w h r b * x h r l := by
  funext i
  obtain ⟨p, q, rfl⟩ : ∃ (p : Fin 256) (q : Fin 256), i = ix2 p q := ⟨i 0, i 1, eq_ix2 i⟩
  pointwise [addInto]
  have e (y : Fin 1024) : stack (F := Ideal) (fun h => tl (w h.val)) (ix2 y p) * stack (F := Ideal) (fun h => tl (x h.val)) (ix2 y q)
      = ((w (y.val / 256) (y.val % 256) p.val * x (y.val / 256) (y.val % 256) q.val : ℝ) : EReal) := by
    have hy := y.isLt
    rw [stack_apply _ ⟨y.val / 256, by omega⟩ ⟨y.val % 256, by omega⟩ p y (by dsimp only; omega),
      stack_apply _ ⟨y.val / 256, by omega⟩ ⟨y.val % 256, by omega⟩ q y (by dsimp only; omega)]
    exact (EReal.coe_mul _ _).symm
  rw [Finset.sum_congr rfl fun y _ => e y, sum_coe, sum4 _ (fun h r => w h r p.val * x h r q.val) (fun m r => by
    have := r.isLt
    dsimp only
    rw [show (m.val * 256 + r.val) / 256 = m.val by omega, show (m.val * 256 + r.val) % 256 = r.val by omega])]
  exact (EReal.coe_add _ _).symm

/-- One tile's products added to the query gradient. -/
theorem addOne_tl (acc : ℕ → ℕ → ℝ) (d k : ℕ → ℕ → ℕ → ℝ) :
    addOne (F := Ideal) (tl acc) (fun h => tl (d h.val)) (stack fun h => tl (k h.val))
      = tl fun a l => acc a l + ∑ h ∈ Finset.range 4, ∑ r ∈ Finset.range 256, d h a r * k h r l := by
  funext i
  obtain ⟨p, q, rfl⟩ : ∃ (p : Fin 256) (q : Fin 256), i = ix2 p q := ⟨i 0, i 1, eq_ix2 i⟩
  unfold addOne
  have hD := beside4_apply fun h => tl (d h.val)
  generalize concatenate S256x1024 1 _ _ = D at hD ⊢
  pointwise
  have e (y : Fin 1024) : D (ix2 p y) * stack (F := Ideal) (fun h => tl (k h.val)) (ix2 y q)
      = ((d (y.val / 256) p.val (y.val % 256) * k (y.val / 256) (y.val % 256) q.val : ℝ) : EReal) := by
    have hy := y.isLt
    rw [hD ⟨y.val / 256, by omega⟩ p ⟨y.val % 256, by omega⟩ y (by dsimp only; omega),
      stack_apply _ ⟨y.val / 256, by omega⟩ ⟨y.val % 256, by omega⟩ q y (by dsimp only; omega)]
    exact (EReal.coe_mul _ _).symm
  rw [Finset.sum_congr rfl fun y _ => e y, sum_coe, sum4 _ (fun h r => d h p.val r * k h r q.val) (fun m r => by
    have := r.isLt
    dsimp only
    rw [show (m.val * 256 + r.val) / 256 = m.val by omega, show (m.val * 256 + r.val) % 256 = r.val by omega])]
  exact (EReal.coe_add _ _).symm

/-- A product over 3072 columns that are three times four tiles. -/
theorem mm3072 (acc : ℕ → ℕ → ℝ) (d k : ℕ → ℕ → ℕ → ℕ → ℝ) (D : FVec Ideal S256x3072 .bf16) (K : FVec Ideal S3072x256 .bf16)
    (hD : ∀ (m : Fin 12) (a r : Fin 256) (x : Fin 3072), x.val = m.val * 256 + r.val → D (ix2 a x) = tl (d (m.val / 4) (m.val % 4)) (ix2 a r))
    (hK : ∀ (g : Fin 3) (r : Fin 1024) (l : Fin 256) (x : Fin 3072), x.val = g.val * 1024 + r.val →
      K (ix2 x l) = stack (F := Ideal) (fun h => tl (k g.val h.val)) (ix2 r l)) :
    addf (F := Ideal) (φ := .f32) (tl acc) (matmul dot_S256x3072_S3072x256_S256x256_1_0_0_1_n_n none D K (constant S256x256 .f32 0x00000000#32))
      = tl fun a l => acc a l + ∑ g ∈ Finset.range 3, ∑ h ∈ Finset.range 4, ∑ r ∈ Finset.range 256, d g h a r * k g h r l := by
  funext i
  obtain ⟨p, q, rfl⟩ : ∃ (p : Fin 256) (q : Fin 256), i = ix2 p q := ⟨i 0, i 1, eq_ix2 i⟩
  pointwise
  have e (y : Fin 3072) : D (ix2 p y) * K (ix2 y q)
      = ((d (y.val / 1024) (y.val % 1024 / 256) p.val (y.val % 256) * k (y.val / 1024) (y.val % 1024 / 256) (y.val % 256) q.val : ℝ) : EReal) := by
    have hy := y.isLt
    have h1 : y.val / 256 / 4 = y.val / 1024 := by omega
    have h2 : y.val / 256 % 4 = y.val % 1024 / 256 := by omega
    have h3 : y.val % 1024 % 256 = y.val % 256 := by omega
    rw [hD ⟨y.val / 256, by omega⟩ p ⟨y.val % 256, by omega⟩ y (by dsimp only; omega),
      hK ⟨y.val / 1024, by omega⟩ ⟨y.val % 1024, by omega⟩ q y (by dsimp only; omega),
      stack_apply _ ⟨y.val % 1024 / 256, by omega⟩ ⟨y.val % 1024 % 256, by omega⟩ q ⟨y.val % 1024, by omega⟩ (by dsimp only; omega)]
    refine (EReal.coe_mul _ _).symm.trans (congrArg Real.toEReal ?_)
    show d (y.val / 256 / 4) (y.val / 256 % 4) p.val (y.val % 256) * k (y.val / 1024) (y.val % 1024 / 256) (y.val % 1024 % 256) q.val = _
    rw [h1, h2, h3]
  rw [Finset.sum_congr rfl fun y _ => e y, sum_coe, ← Fin.sum_mul_add_fin 3 1024,
    Finset.sum_congr rfl fun g _ => sum4 _ (fun h r => d g.val h p.val r * k g.val h r q.val) (fun m r => by
      have := r.isLt
      have := m.isLt
      dsimp only
      rw [show (g.val * 1024 + (m.val * 256 + r.val)) / 1024 = g.val by omega, show (g.val * 1024 + (m.val * 256 + r.val)) % 1024 / 256 = m.val by omega,
        show (g.val * 1024 + (m.val * 256 + r.val)) % 256 = r.val by omega]),
    Fin.sum_univ_eq_sum_range (fun g => ∑ h ∈ Finset.range 4, ∑ r ∈ Finset.range 256, d g h p.val r * k g h r q.val) 3]
  exact (EReal.coe_add _ _).symm

/-- Three tiles' products added to the query gradient. -/
theorem addThree_tl (acc : ℕ → ℕ → ℝ) (d k : ℕ → ℕ → ℕ → ℕ → ℝ) :
    addThree (F := Ideal) (tl acc) (fun h => tl (d 0 h.val)) (fun h => tl (d 1 h.val)) (fun h => tl (d 2 h.val))
        (stack fun h => tl (k 0 h.val)) (stack fun h => tl (k 1 h.val)) (stack fun h => tl (k 2 h.val))
      = tl fun a l => acc a l + ∑ g ∈ Finset.range 3, ∑ h ∈ Finset.range 4, ∑ r ∈ Finset.range 256, d g h a r * k g h r l :=
  mm3072 acc d k _ _ (beside12_apply fun m => tl (d (m.val / 4) (m.val % 4))) (above3_apply fun g => stack fun h => tl (k g.val h.val))

/-- The lanes' heads, decided lane by lane. -/
theorem laneHead_eq : ∀ l : Fin 256, laneHead (ix2 (0 : Fin 1) l) = BitVec.ofNat 32 (l.val / 64) := by
  decide +kernel

/-- One head's lanes of a tile. -/
theorem headOf_tl (f : ℕ → ℕ → ℝ) (h : Fin 4) : headOf (F := Ideal) (tl f) h = tl fun r l => if l / 64 = h.val then f r l else 0 := by
  funext i
  obtain ⟨p, q, rfl⟩ : ∃ (p : Fin 256) (q : Fin 256), i = ix2 p q := ⟨i 0, i 1, eq_ix2 i⟩
  unfold headOf
  have hl := laneHead_eq
  generalize laneHead = L at hl ⊢
  pointwise
  have hq := q.isLt
  have hh := h.isLt
  rw [hl, WordCmp.cmpi_eq_ofNat (by omega) (by omega), select_ofBool]
  show _ = ((if q.val / 64 = h.val then f p.val q.val else 0 : ℝ) : EReal)
  split <;> rfl

/-- What the first sweep keeps, as matrices. -/
theorem flat_keptG (a w : ℕ → ℕ → ℝ) : flat (keptG (F := Ideal) (tl a) (tl w)) = tl fun r b => a r b * w r b := by
  unfold keptG
  rw [mul_tl, truncf_tl]
  funext i
  obtain ⟨p, q, rfl⟩ : ∃ (p : Fin 256) (q : Fin 256), i = ix2 p q := ⟨i 0, i 1, eq_ix2 i⟩
  pointwise [flat]

/-- The kept share. -/
theorem flat_keptS (d : Bool) (z : ℕ → ℕ → ℝ) :
    flat (keptS (F := Ideal) d (tl z)) = tl fun r b => if d = true ∧ ¬ b < r then 0 else Real.exp (z r b - spl (z r b)) := by
  unfold keptS
  rw [logShare_tl, exp_tl, cut_tl, truncf_tl]
  funext i
  obtain ⟨p, q, rfl⟩ : ∃ (p : Fin 256) (q : Fin 256), i = ix2 p q := ⟨i 0, i 1, eq_ix2 i⟩
  pointwise [flat]

/-- A kept tile read back. -/
theorem wide_eq (x : FVec Ideal S1x1x256x256 .bf16) (f : ℕ → ℕ → ℝ) (h : flat x = tl f) : wide x = tl f := by
  unfold wide
  rw [h]
  rfl

/-- The cotangents of a tile's scores. -/
theorem dzOf_tl (g s : FVec Ideal S1x1x256x256 .bf16) (f u : ℕ → ℕ → ℝ) (c : ℕ → ℝ) (hg : flat g = tl f) (hs : flat s = tl u) :
    dzOf g s (cl c) = tl fun r b => f r b - u r b * (f r b + (∑ l ∈ Finset.range 256, f r l * (if l < b then 1 else 0) + c r)) := by
  unfold dzOf
  rw [wide_eq g f hg, wide_eq s u hs, hg, below_tl, sums_tl, spread_cl, add_tl, add_tl, mul_tl, sub_tl, truncf_tl]

end Cert.Proof.Attn
-- ==== Proof.Attn.EnvValue.lean ====
module

public import proofs.«01_k».proof.Proof.Attn.TileValue

/-! One grid point on finite inputs: the weights, the scores' cotangents and the three gradients' parts are the
model's. -/

@[expose] public section

set_option maxRecDepth 8192

noncomputable section

namespace Cert.Proof.Attn

open Cert.AttnIdeal Cert.AttnIdeal.Gen Cert.Reals Model
open Idealize.ShloMosaic Idealize.ShloMosaic.TcCoe
open scoped BigOperators

/-- Two tiles, or columns, agree where they agree inside. -/
theorem tl_congr {f g : ℕ → ℕ → ℝ} (h : ∀ r b, r < 256 → b < 256 → f r b = g r b) : tl f = tl g :=
  funext fun i => congrArg Real.toEReal (h _ _ (i 0).isLt (i 1).isLt)
theorem cl_congr {f g : ℕ → ℝ} (h : ∀ r, r < 256 → f r = g r) : cl f = cl g :=
  funext fun i => congrArg Real.toEReal (h _ (i 0).isLt)

/-! ## Sums -/

/-- A sum over the lanes of one head. -/
theorem head_sum (f : ℕ → ℝ) {h : ℕ} (hh : h < 4) :
    ∑ l ∈ Finset.range 256, (if l / 64 = h then f l else 0) = ∑ d ∈ Finset.range 64, f (64 * h + d) := by
  rw [← Finset.sum_filter]
  symm
  refine Finset.sum_bij' (fun d _ => 64 * h + d) (fun l _ => l - 64 * h) ?_ ?_ ?_ ?_ ?_
  all_goals intro n hn; simp only [Finset.mem_filter, Finset.mem_range] at hn ⊢; try omega

/-- A sum over the four heads that keeps the one a lane belongs to. -/
theorem sum_head (f : ℕ → ℝ) {l : ℕ} (hl : l < 256) : ∑ h ∈ Finset.range 4, (if l / 64 = h then f h else 0) = f (l / 64) := by
  rw [Finset.sum_ite_eq, if_pos (Finset.mem_range.mpr (by omega))]

/-- The entries of a tile right of one, and left of one. -/
theorem right_sum (f : ℕ → ℝ) (j : ℕ) {b : ℕ} (hb : b < 256) :
    ∑ l ∈ Finset.range 256, f (256 * j + l) * (if b < l then 1 else 0) = ∑ x ∈ Finset.Ico (256 * j + b + 1) (256 * (j + 1)), f x := by
  have e (l : ℕ) : f (256 * j + l) * (if b < l then 1 else 0) = if b < l then f (256 * j + l) else 0 := by split <;> simp
  rw [Finset.sum_congr rfl fun l _ => e l, ← Finset.sum_filter]
  refine Finset.sum_bij' (fun l _ => 256 * j + l) (fun x _ => x - 256 * j) ?_ ?_ ?_ ?_ ?_
  all_goals intro n hn; simp only [Finset.mem_filter, Finset.mem_range, Finset.mem_Ico] at hn ⊢; try omega
theorem left_sum (f : ℕ → ℝ) (j : ℕ) {b : ℕ} (hb : b < 256) :
    ∑ l ∈ Finset.range 256, f (256 * j + l) * (if l < b then 1 else 0) = ∑ x ∈ Finset.Ico (256 * j) (256 * j + b), f x := by
  have e (l : ℕ) : f (256 * j + l) * (if l < b then 1 else 0) = if l < b then f (256 * j + l) else 0 := by split <;> simp
  rw [Finset.sum_congr rfl fun l _ => e l, ← Finset.sum_filter]
  refine Finset.sum_bij' (fun l _ => 256 * j + l) (fun x _ => x - 256 * j) ?_ ?_ ?_ ?_ ?_
  all_goals intro n hn; simp only [Finset.mem_filter, Finset.mem_range, Finset.mem_Ico] at hn ⊢; try omega

/-- A tile's sum. -/
theorem tile_sum (f : ℕ → ℝ) (j : ℕ) : ∑ l ∈ Finset.range 256, f (256 * j + l) = ∑ x ∈ Finset.Ico (256 * j) (256 * (j + 1)), f x := by
  rw [Finset.sum_Ico_eq_sum_range]
  congr 2
  omega

/-! ## The grid point -/

/-- What a grid point reads, where the four arrays are finite: head group `c`, query tile `i`. -/
structure Reads (e : Env Ideal) (q k v o : ℕ → ℕ → ℝ) (c : ℕ) (i : Fin 16) : Prop where
  above : e.above = k0_pay594
  qh : ∀ h : Fin 4, e.qh h = tl fun r l => if l / 64 = h.val then q (256 * i.val + r) (256 * c + l) * (1 / 8) else 0
  oh : ∀ h : Fin 4, e.oh h = tl fun r l => if l / 64 = h.val then o (256 * i.val + r) (256 * c + l) else 0
  kt : ∀ j : Fin 16, e.kt j = tl fun b l => k (256 * j.val + b) (256 * c + l)
  vt : ∀ j : Fin 16, e.vt j = tl fun b l => v (256 * j.val + b) (256 * c + l)

namespace Reads
variable {e : Env Ideal} {q k v o : ℕ → ℕ → ℝ} {c : ℕ} {i : Fin 16} (R : Reads e q k v o c i)
include R

/-- The scores and the weights' cotangents. -/
theorem z (h : Fin 4) (j : Fin 16) : e.z h j = tl fun r b => score q k (4 * c + h.val) (256 * i.val + r) (256 * j.val + b) := by
  unfold Env.z
  rw [R.qh, R.kt, dots_tl]
  refine tl_congr fun r b _ _ => ?_
  have e1 (l : ℕ) : (if l / 64 = h.val then q (256 * i.val + r) (256 * c + l) * (1 / 8) else 0) * k (256 * j.val + b) (256 * c + l)
      = if l / 64 = h.val then q (256 * i.val + r) (256 * c + l) * (1 / 8) * k (256 * j.val + b) (256 * c + l) else 0 := by split <;> simp
  rw [Finset.sum_congr rfl fun l _ => e1 l, head_sum _ h.isLt]
  unfold score
  rw [Finset.sum_mul]
  refine Finset.sum_congr rfl fun d _ => ?_
  rw [show 256 * c + (64 * h.val + d) = 64 * (4 * c + h.val) + d by ring]
  ring

/-- The weights' cotangents. -/
theorem a (h : Fin 4) (j : Fin 16) : e.a h j = tl fun r b => cot o v (4 * c + h.val) (256 * i.val + r) (256 * j.val + b) := by
  unfold Env.a
  rw [R.oh, R.vt, dots_tl]
  refine tl_congr fun r b _ _ => ?_
  have e1 (l : ℕ) : (if l / 64 = h.val then o (256 * i.val + r) (256 * c + l) else 0) * v (256 * j.val + b) (256 * c + l)
      = if l / 64 = h.val then o (256 * i.val + r) (256 * c + l) * v (256 * j.val + b) (256 * c + l) else 0 := by split <;> simp
  rw [Finset.sum_congr rfl fun l _ => e1 l, head_sum _ h.isLt]
  unfold cot
  refine Finset.sum_congr rfl fun d _ => ?_
  rw [show 256 * c + (64 * h.val + d) = 64 * (4 * c + h.val) + d by ring]

omit R in
/-- On the diagonal tile an entry is left of the diagonal exactly where its key is before its query. -/
theorem kept {j : Fin 16} (hj : j.val ≤ i.val) {d : Bool} (hd : d = (i.val - j.val == 0)) {r b : ℕ} (hr : r < 256) (hb : b < 256) :
    (d = true ∧ ¬ b < r) ↔ ¬ 256 * j.val + b < 256 * i.val + r := by
  subst hd
  simp only [beq_iff_eq]
  omega

/-- What the keys of a tile leave. -/
theorem left_tile (h : Fin 4) {j : Fin 16} (hj : j.val ≤ i.val) :
    cut (i.val - j.val == 0) (softplus (e.z h j))
      = tl fun r b => left (256 * i.val + r) (score q k (4 * c + h.val) (256 * i.val + r)) (256 * j.val + b) := by
  rw [R.z, softplus_tl, cut_tl]
  refine tl_congr fun r b hr hb => ?_
  unfold left
  by_cases h' : 256 * j.val + b < 256 * i.val + r
  · rw [if_pos h', if_neg fun hh => (kept hj rfl hr hb).mp hh h']
  · rw [if_neg h', if_pos ((kept hj rfl hr hb).mpr h')]

/-- What the last `p` tiles leave. -/
theorem held (h : Fin 4) (p : ℕ) (hp : p ≤ i.val + 1) :
    e.held i h p = cl fun r => ∑ x ∈ Finset.Ico (256 * (i.val + 1 - p)) (256 * (i.val + 1)), left (256 * i.val + r) (score q k (4 * c + h.val) (256 * i.val + r)) x := by
  induction p with
  | zero =>
    refine zeroCol_cl.trans (cl_congr fun r _ => ?_)
    rw [Nat.sub_zero, Finset.Ico_self, Finset.sum_empty]
  | succ p ih =>
    have hi := i.isLt
    have e1 : (Fin.ofNat 16 (i.val - p)).val = i.val - p := by show (i.val - p) % 16 = _; omega
    have e2 : (p == 0) = (i.val - (Fin.ofNat 16 (i.val - p)).val == 0) := by rw [e1]; congr 1; omega
    unfold Env.held
    rw [ih (by omega), e2, R.left_tile h (by rw [e1]; omega), rowSum_tl, add_cl]
    refine cl_congr fun r _ => ?_
    rw [tile_sum (left (256 * i.val + r) (score q k (4 * c + h.val) (256 * i.val + r))), e1, add_comm]
    rw [show 256 * (i.val - p + 1) = 256 * (i.val + 1 - p) by omega, show 256 * (i.val - p) = 256 * (i.val + 1 - (p + 1)) by omega]
    exact Finset.sum_Ico_consecutive _ (by omega) (by omega)

/-- The weights. -/
theorem w (h : Fin 4) {j : Fin 16} (hj : j.val ≤ i.val) :
    e.w i h j = tl fun r b => wgt (256 * i.val + r) (score q k (4 * c + h.val) (256 * i.val + r)) (256 * j.val + b) := by
  have hi := i.isLt
  unfold Env.w
  rw [R.above, R.z, R.held h _ (by omega), weight_tl]
  refine tl_congr fun r b hr hb => ?_
  unfold wgt
  by_cases h' : 256 * j.val + b < 256 * i.val + r
  · rw [if_pos h', if_neg fun hh => (kept hj rfl hr hb).mp hh h']
    congr 2
    have e1 (l : ℕ) (hl : l ∈ Finset.range 256) : (if (i.val - j.val == 0) = true ∧ ¬ l < r then 0 else spl (score q k (4 * c + h.val) (256 * i.val + r) (256 * j.val + l)))
        = left (256 * i.val + r) (score q k (4 * c + h.val) (256 * i.val + r)) (256 * j.val + l) := by
      have hl := Finset.mem_range.mp hl
      unfold left
      by_cases h' : 256 * j.val + l < 256 * i.val + r
      · rw [if_pos h', if_neg fun hh => (kept hj rfl hr hl).mp hh h']
      · rw [if_neg h', if_pos ((kept hj rfl hr hl).mpr h')]
    rw [Finset.sum_congr rfl fun l hl => congrArg (· * (if b < l then (1 : ℝ) else 0)) (e1 l hl),
      right_sum (left (256 * i.val + r) (score q k (4 * c + h.val) (256 * i.val + r))) j.val hb,
      show i.val + 1 - (i.val - j.val) = j.val + 1 by omega, Finset.sum_Ico_consecutive _ (by omega) (by omega),
      ← Finset.sum_Ico_consecutive _ (show 256 * j.val + b + 1 ≤ 256 * (i.val + 1) by omega) (show 256 * (i.val + 1) ≤ 4096 by omega)]
    rw [Finset.sum_eq_zero (s := Finset.Ico (256 * (i.val + 1)) 4096), add_zero]
    intro x hx
    have := Finset.mem_Ico.mp hx
    unfold left
    rw [if_neg (by omega)]
  · rw [if_neg h', if_pos ((kept hj rfl hr hb).mpr h')]

/-- The weights times their cotangents. -/
theorem g (h : Fin 4) {j : Fin 16} (hj : j.val ≤ i.val) :
    flat (e.g i h j) = tl fun r b => grd (256 * i.val + r) (score q k (4 * c + h.val) (256 * i.val + r)) (cot o v (4 * c + h.val) (256 * i.val + r)) (256 * j.val + b) := by
  unfold Env.g
  rw [R.a, R.w h hj, flat_keptG]
  rfl

/-- The shares. -/
theorem s (h : Fin 4) {j : Fin 16} (hj : j.val ≤ i.val) :
    flat (e.s i h j) = tl fun r b => share (256 * i.val + r) (score q k (4 * c + h.val) (256 * i.val + r)) (256 * j.val + b) := by
  unfold Env.s
  rw [R.z, flat_keptS]
  refine tl_congr fun r b hr hb => ?_
  unfold share
  by_cases h' : 256 * j.val + b < 256 * i.val + r
  · rw [if_pos h', if_neg fun hh => (kept hj rfl hr hb).mp hh h']
  · rw [if_neg h', if_pos ((kept hj rfl hr hb).mpr h')]

/-- What the first `p` tiles hold. -/
theorem past (h : Fin 4) (p : ℕ) (hp : p ≤ i.val + 1) :
    e.past i h p = cl fun r => ∑ x ∈ Finset.range (256 * p), grd (256 * i.val + r) (score q k (4 * c + h.val) (256 * i.val + r)) (cot o v (4 * c + h.val) (256 * i.val + r)) x := by
  induction p with
  | zero => exact zeroCol_cl.trans (cl_congr fun r _ => by simp)
  | succ p ih =>
    have hi := i.isLt
    have e1 : (Fin.ofNat 16 p).val = p := by show p % 16 = _; omega
    unfold Env.past
    rw [ih (by omega), wide_eq _ _ (R.g h (by rw [e1]; omega)), rowSum_tl, add_cl]
    refine cl_congr fun r _ => ?_
    rw [tile_sum (grd (256 * i.val + r) (score q k (4 * c + h.val) (256 * i.val + r)) (cot o v (4 * c + h.val) (256 * i.val + r))), e1]
    exact Finset.sum_range_add_sum_Ico _ (by omega)

/-- The scores' cotangents. -/
theorem dz (h : Fin 4) {j : Fin 16} (hj : j.val ≤ i.val) :
    e.dz i h j = tl fun r b => dscore q k v o (4 * c + h.val) (256 * i.val + r) (256 * j.val + b) := by
  unfold Env.dz
  rw [R.past h _ (by omega), dzOf_tl _ _ _ _ _ (R.g h hj) (R.s h hj)]
  refine tl_congr fun r b hr hb => ?_
  unfold dscore dsc
  rw [left_sum (grd (256 * i.val + r) (score q k (4 * c + h.val) (256 * i.val + r)) (cot o v (4 * c + h.val) (256 * i.val + r))) j.val hb]
  congr 2
  rw [Finset.sum_range_succ, ← Finset.sum_range_add_sum_Ico _ (show 256 * j.val ≤ 256 * j.val + b by omega)]
  ring

/-- The value gradient's part. -/
theorem newV {j : Fin 16} (hj : j.val ≤ i.val) (old : ℕ → ℕ → ℝ) :
    e.newV i j (tl old) = tl fun b l => old b l + ∑ r ∈ Finset.range 256,
      o (256 * i.val + r) (256 * c + l) * wgt (256 * i.val + r) (score q k (4 * c + l / 64) (256 * i.val + r)) (256 * j.val + b) := by
  unfold Env.newV
  obtain ⟨W, hW⟩ : ∃ W : ℕ → ℕ → ℕ → ℝ, W = fun h r b => wgt (256 * i.val + r) (score q k (4 * c + h) (256 * i.val + r)) (256 * j.val + b) := ⟨_, rfl⟩
  obtain ⟨Y, hY⟩ : ∃ Y : ℕ → ℕ → ℕ → ℝ, Y = fun h r l => if l / 64 = h then o (256 * i.val + r) (256 * c + l) else 0 := ⟨_, rfl⟩
  have e1 : (fun h : Fin 4 => truncf (F := Ideal) (φ := .f32) .bf16 (e.w i h j) bitsLt_bf16_f32) = fun h => tl (W h.val) :=
    funext fun h => by rw [R.w h hj, hW]; rfl
  have e2 : e.oh = fun h : Fin 4 => tl (Y h.val) := funext fun h => by rw [R.oh h, hY]
  rw [e1, e2]
  refine (addInto_tl old W Y).trans (tl_congr fun b l _ hl => ?_)
  subst hW hY
  congr 1
  rw [Finset.sum_comm]
  refine Finset.sum_congr rfl fun r _ => ?_
  have e3 (h : ℕ) : wgt (256 * i.val + r) (score q k (4 * c + h) (256 * i.val + r)) (256 * j.val + b) * (if l / 64 = h then o (256 * i.val + r) (256 * c + l) else 0)
      = if l / 64 = h then o (256 * i.val + r) (256 * c + l) * wgt (256 * i.val + r) (score q k (4 * c + h) (256 * i.val + r)) (256 * j.val + b) else 0 := by
    split <;> simp [mul_comm]
  exact (Finset.sum_congr rfl fun h _ => e3 h).trans
    (sum_head (fun h => o (256 * i.val + r) (256 * c + l) * wgt (256 * i.val + r) (score q k (4 * c + h) (256 * i.val + r)) (256 * j.val + b)) hl)

/-- The key gradient's part. -/
theorem newK {j : Fin 16} (hj : j.val ≤ i.val) (old : ℕ → ℕ → ℝ) :
    e.newK i j (tl old) = tl fun b l => old b l + ∑ r ∈ Finset.range 256,
      dscore q k v o (4 * c + l / 64) (256 * i.val + r) (256 * j.val + b) * (1 / 8) * q (256 * i.val + r) (256 * c + l) := by
  unfold Env.newK
  obtain ⟨W, hW⟩ : ∃ W : ℕ → ℕ → ℕ → ℝ, W = fun h r b => dscore q k v o (4 * c + h) (256 * i.val + r) (256 * j.val + b) := ⟨_, rfl⟩
  obtain ⟨Y, hY⟩ : ∃ Y : ℕ → ℕ → ℕ → ℝ, Y = fun h r l => if l / 64 = h then q (256 * i.val + r) (256 * c + l) * (1 / 8) else 0 := ⟨_, rfl⟩
  have e1 : (fun h : Fin 4 => e.dz i h j) = fun h => tl (W h.val) := funext fun h => by rw [R.dz h hj, hW]
  have e2 : e.qh = fun h : Fin 4 => tl (Y h.val) := funext fun h => by rw [R.qh h, hY]
  rw [e1, e2]
  refine (addInto_tl old W Y).trans (tl_congr fun b l _ hl => ?_)
  subst hW hY
  congr 1
  rw [Finset.sum_comm]
  refine Finset.sum_congr rfl fun r _ => ?_
  have e3 (h : ℕ) : dscore q k v o (4 * c + h) (256 * i.val + r) (256 * j.val + b) * (if l / 64 = h then q (256 * i.val + r) (256 * c + l) * (1 / 8) else 0)
      = if l / 64 = h then dscore q k v o (4 * c + h) (256 * i.val + r) (256 * j.val + b) * (1 / 8) * q (256 * i.val + r) (256 * c + l) else 0 := by
    split <;> ring
  exact (Finset.sum_congr rfl fun h _ => e3 h).trans
    (sum_head (fun h => dscore q k v o (4 * c + h) (256 * i.val + r) (256 * j.val + b) * (1 / 8) * q (256 * i.val + r) (256 * c + l)) hl)

omit R in
/-- One tile's part of the query gradient. -/
def part (q k v o : ℕ → ℕ → ℝ) (c i j r l : ℕ) : ℝ :=
  ∑ b ∈ Finset.range 256, dscore q k v o (4 * c + l / 64) (256 * i + r) (256 * j + b) * k (256 * j + b) (256 * c + l)

/-- A key tile's heads. -/
theorem keyStack (j : Fin 16) (Y : ℕ → ℕ → ℕ → ℝ) (hY : Y = fun h b l => if l / 64 = h then k (256 * j.val + b) (256 * c + l) else 0) :
    keyStack (e.kt j) = stack (F := Ideal) fun h => tl (Y h.val) := by
  subst hY
  have e1 : shapeCast S256x256 (e.kt j) shapeCasts_S256x256_S256x256 = e.kt j := by
    funext i
    obtain ⟨p, q, rfl⟩ : ∃ (p : Fin 256) (q : Fin 256), i = ix2 p q := ⟨i 0, i 1, eq_ix2 i⟩
    pointwise
  unfold Attn.keyStack
  rw [e1, R.kt]
  exact congrArg stack (funext fun h => headOf_tl _ h)

omit R in
/-- The four heads' products of a tile are its part of the query gradient. -/
theorem part_sum (c i j : ℕ) {r l : ℕ} (hl : l < 256) :
    ∑ h ∈ Finset.range 4, ∑ b ∈ Finset.range 256, dscore q k v o (4 * c + h) (256 * i + r) (256 * j + b) * (if l / 64 = h then k (256 * j + b) (256 * c + l) else 0)
      = part q k v o c i j r l := by
  rw [Finset.sum_comm]
  unfold part
  refine Finset.sum_congr rfl fun b _ => ?_
  have e3 (h : ℕ) : dscore q k v o (4 * c + h) (256 * i + r) (256 * j + b) * (if l / 64 = h then k (256 * j + b) (256 * c + l) else 0)
      = if l / 64 = h then dscore q k v o (4 * c + h) (256 * i + r) (256 * j + b) * k (256 * j + b) (256 * c + l) else 0 := by
    split <;> simp
  exact (Finset.sum_congr rfl fun h _ => e3 h).trans
    (sum_head (fun h => dscore q k v o (4 * c + h) (256 * i + r) (256 * j + b) * k (256 * j + b) (256 * c + l)) hl)

/-- The query gradient over triples of tiles, and over single tiles after them. -/
theorem triples (n : ℕ) (hn : 3 * n ≤ i.val + 1) :
    e.triples i n = tl fun r l => ∑ j ∈ Finset.range (3 * n), part q k v o c i.val j r l := by
  induction n with
  | zero => exact zeroTile_tl.trans (tl_congr fun r l _ _ => by simp)
  | succ n ih =>
    have hi := i.isLt
    have e0 (g : ℕ) (hg : g < 3) : (Fin.ofNat 16 (3 * n + g)).val = 3 * n + g := by show (3 * n + g) % 16 = _; omega
    obtain ⟨W, hW⟩ : ∃ W : ℕ → ℕ → ℕ → ℕ → ℝ, W = fun g h r b => dscore q k v o (4 * c + h) (256 * i.val + r) (256 * (3 * n + g) + b) := ⟨_, rfl⟩
    obtain ⟨Y, hY⟩ : ∃ Y : ℕ → ℕ → ℕ → ℕ → ℝ, Y = fun g h b l => if l / 64 = h then k (256 * (3 * n + g) + b) (256 * c + l) else 0 := ⟨_, rfl⟩
    have e1 (g : ℕ) (hg : g < 3) : (fun h : Fin 4 => e.dz i h (Fin.ofNat 16 (3 * n + g))) = fun h => tl (W g h.val) :=
      funext fun h => by rw [R.dz h (by rw [e0 g hg]; omega), e0 g hg, hW]
    have e2 (g : ℕ) (hg : g < 3) : Attn.keyStack (e.kt (Fin.ofNat 16 (3 * n + g))) = stack (F := Ideal) fun h => tl (Y g h.val) :=
      R.keyStack _ _ (by rw [e0 g hg, hY])
    unfold Env.triples
    rw [ih (by omega), e1 1 (by omega), e1 2 (by omega), e2 1 (by omega), e2 2 (by omega)]
    have e1' := e1 0 (by omega)
    have e2' := e2 0 (by omega)
    rw [Nat.add_zero] at e1' e2'
    rw [e1', e2']
    refine (addThree_tl _ W Y).trans (tl_congr fun r l _ hl => ?_)
    subst hW hY
    rw [show 3 * (n + 1) = 3 * n + 1 + 1 + 1 by ring, Finset.sum_range_succ _ (3 * n + 1 + 1), Finset.sum_range_succ _ (3 * n + 1), Finset.sum_range_succ _ (3 * n)]
    rw [Finset.sum_congr rfl fun g _ => part_sum c i.val (3 * n + g) hl, Finset.sum_range_succ, Finset.sum_range_succ, Finset.sum_range_one]
    rw [Nat.add_zero]
    ring

/-- The tiles left over after the triples. -/
theorem singles (n : ℕ) (hn : (i.val + 1) / 3 * 3 + n ≤ i.val + 1) :
    e.singles i n = tl fun r l => ∑ j ∈ Finset.range ((i.val + 1) / 3 * 3 + n), part q k v o c i.val j r l := by
  induction n with
  | zero =>
    refine (R.triples _ (by omega)).trans (tl_congr fun r l _ _ => ?_)
    exact congrArg (fun n => ∑ j ∈ Finset.range n, part q k v o c i.val j r l) (Nat.mul_comm 3 _)
  | succ n ih =>
    have hi := i.isLt
    have e0 : (Fin.ofNat 16 ((i.val + 1) / 3 * 3 + n)).val = (i.val + 1) / 3 * 3 + n := by show ((i.val + 1) / 3 * 3 + n) % 16 = _; omega
    obtain ⟨W, hW⟩ : ∃ W : ℕ → ℕ → ℕ → ℝ, W = fun h r b => dscore q k v o (4 * c + h) (256 * i.val + r) (256 * ((i.val + 1) / 3 * 3 + n) + b) := ⟨_, rfl⟩
    obtain ⟨Y, hY⟩ : ∃ Y : ℕ → ℕ → ℕ → ℝ, Y = fun h b l => if l / 64 = h then k (256 * ((i.val + 1) / 3 * 3 + n) + b) (256 * c + l) else 0 := ⟨_, rfl⟩
    have e1 : (fun h : Fin 4 => e.dz i h (Fin.ofNat 16 ((i.val + 1) / 3 * 3 + n))) = fun h => tl (W h.val) :=
      funext fun h => by rw [R.dz h (by rw [e0]; omega), e0, hW]
    unfold Env.singles
    rw [ih (by omega), e1, R.keyStack _ Y (by rw [e0, hY])]
    refine (addOne_tl _ W Y).trans (tl_congr fun r l _ hl => ?_)
    subst hW hY
    rw [← Nat.add_assoc, Finset.sum_range_succ (fun j => part q k v o c i.val j r l)]
    congr 1
    exact part_sum c i.val _ hl

/-- The query gradient's block. -/
theorem dq : e.dq i = tl fun r l => DQ q k v o (256 * i.val + r) (256 * c + l) := by
  have hi := i.isLt
  unfold Env.dq
  rw [R.singles _ (by omega), scale_tl]
  refine tl_congr fun r l hr hl => ?_
  rw [show (i.val + 1) / 3 * 3 + (i.val + 1) % 3 = i.val + 1 by omega]
  unfold DQ part
  rw [show (256 * c + l) / 64 = 4 * c + l / 64 by omega]
  have hz : ∑ s ∈ Finset.Ico (256 * (i.val + 1)) 4096, dscore q k v o (4 * c + l / 64) (256 * i.val + r) s * (1 / 8) * k s (256 * c + l) = 0 := by
    refine Finset.sum_eq_zero fun x hx => ?_
    have := Finset.mem_Ico.mp hx
    unfold dscore dsc grd wgt share
    rw [if_neg (by omega), if_neg (by omega)]
    ring
  rw [← Finset.sum_range_add_sum_Ico _ (show 256 * (i.val + 1) ≤ 4096 by omega), hz, add_zero, Finset.sum_mul]
  have tiles (f : ℕ → ℝ) (n : ℕ) : ∑ x ∈ Finset.range (256 * n), f x = ∑ j ∈ Finset.range n, ∑ b ∈ Finset.range 256, f (256 * j + b) := by
    induction n with
    | zero => simp
    | succ n ih => rw [Finset.sum_range_succ, ← ih, tile_sum, Finset.sum_range_add_sum_Ico _ (by omega)]
  rw [tiles]
  refine Finset.sum_congr rfl fun j _ => ?_
  rw [Finset.sum_mul]
  exact Finset.sum_congr rfl fun b _ => by ring

end Reads

end Cert.Proof.Attn
-- ==== Proof.Attn.Sweep.lean ====
module

public import proofs.«01_k».proof.Proof.Attn.Tile

/-! The first sweep at the level of tiles: each trip of its loops takes the sweep one tile (three tiles) further. -/

@[expose] public section

set_option maxRecDepth 8192
set_option maxHeartbeats 4000000

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S4096x256 .f32) (harg7 : arg7.IsWhole) (arg8 : Memref sig .tc .vmem S4096x256 .f32) (harg8 : arg8.IsWhole) (arg9 : Memref sig .tc .vmem S4x16x256x256 .bf16) (harg9 : arg9.IsWhole) (arg10 : Memref sig .tc .vmem S4x16x256x256 .bf16) (harg10 : arg10.IsWhole)

/-- The columns after one more tile, and what a tile gives, as functions of the tile read. -/
def moreHeld (q : Fin 4 → FVec F S256x256 .bf16) (kt : FVec F S256x256 .bf16) (c : Fin 4 → FVec F S256x1 .f32) (h : Fin 4) : FVec F S256x1 .f32 :=
  addf (c h) (rowSum (cut false (softplus (dots (q h) kt))))
def someW (u : FVec F S256x256 .bf16) (q : Fin 4 → FVec F S256x256 .bf16) (kt : FVec F S256x256 .bf16) (c : Fin 4 → FVec F S256x1 .f32) (h : Fin 4) : FVec F S256x256 .f32 :=
  weight u false (dots (q h) kt) (c h)
def someG (o : Fin 4 → FVec F S256x256 .bf16) (vt : FVec F S256x256 .bf16) (w : Fin 4 → FVec F S256x256 .f32) (h : Fin 4) : FVec F S1x1x256x256 .bf16 :=
  keptG (dots (o h) vt) (w h)
def someS (q : Fin 4 → FVec F S256x256 .bf16) (kt : FVec F S256x256 .bf16) (h : Fin 4) : FVec F S1x1x256x256 .bf16 :=
  keptS false (dots (q h) kt)

section Trip1
variable (arg1 : BitVec 32) (v9 v49 v79 v109 v139 v172 v202 v232 v262 : FVec F S256x256 .bf16) (v264 : FVec F S1024x256 .bf16) (v360 v366 v372 v378 : FVec F S256x256 .f32) (v379 v380 v381 v382 : FVec F S256x1 .f32) (v438 : FVec F S1x1x256x256 .bf16) (X3 : BufTy.Contents (Elt F) arg3.view.ty) (X4 : BufTy.Contents (Elt F) arg4.view.ty)

/-- What the trip yields and stores, in the functions of a tile: `kt` and `vt` are the tiles it reads and `c` the
columns it carries from tile to tile. -/
theorem trip1_eq (k : Fin (k0_t1_loop i).trips) (acc : Cols F) (f8 : BufTy.Contents (Elt F) arg8.view.ty) {kt0 vt0 : FVec F S256x256 .bf16} {c0 c1 : Fin 4 → FVec F S256x1 .f32}
    (hk0 : arg3.view.readAt (Elt F) (Rect.unit (s := S4096x256) (k0_off6 i k) S256x256.size (k0_off6_inb i k)).toLoadRect X3 = kt0) (hv0 : arg4.view.readAt (Elt F) (Rect.unit (s := S4096x256) (k0_off6 i k) S256x256.size (k0_off6_inb i k)).toLoadRect X4 = vt0)
    (hc0 : ![acc.1, acc.2.1, acc.2.2.1, acc.2.2.2] = c0) (hc1 : moreHeld ![v49, v79, v109, v139] kt0 c0 = c1)
    {T : _} (eT : trip1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 k = T) :
    T.1 acc f8 = (c1 0, c1 1, c1 2, c1 3)
    ∧ T.2.1 acc f8 = (
      let L1 : LV F := ⟨(Rect.unit (s := S4096x256) (k0_off6 i k) S256x256.size (k0_off6_inb i k)), addInto (arg8.view.readAt (Elt F) (Rect.unit (s := S4096x256) (k0_off6 i k) S256x256.size (k0_off6_inb i k)).toLoadRect f8) (fun h => truncf .bf16 ((someW v9 ![v49, v79, v109, v139] kt0 c0) h) bitsLt_bf16_f32) v264⟩ :: []
      L1)
    ∧ T.2.2.1 acc f8 = [⟨(Rect.unit (s := S4x16x256x256) (k0_off10 i k) S1x1x256x256.size (k0_off10_inb i k)), someG ![v172, v202, v232, v262] vt0 (someW v9 ![v49, v79, v109, v139] kt0 c0) 3⟩, ⟨(Rect.unit (s := S4x16x256x256) (k0_off9 i k) S1x1x256x256.size (k0_off9_inb i k)), someG ![v172, v202, v232, v262] vt0 (someW v9 ![v49, v79, v109, v139] kt0 c0) 2⟩, ⟨(Rect.unit (s := S4x16x256x256) (k0_off8 i k) S1x1x256x256.size (k0_off8_inb i k)), someG ![v172, v202, v232, v262] vt0 (someW v9 ![v49, v79, v109, v139] kt0 c0) 1⟩, ⟨(Rect.unit (s := S4x16x256x256) (k0_off7 i k) S1x1x256x256.size (k0_off7_inb i k)), someG ![v172, v202, v232, v262] vt0 (someW v9 ![v49, v79, v109, v139] kt0 c0) 0⟩]
    ∧ T.2.2.2.1 acc f8 = [⟨(Rect.unit (s := S4x16x256x256) (k0_off10 i k) S1x1x256x256.size (k0_off10_inb i k)), someS ![v49, v79, v109, v139] kt0 3⟩, ⟨(Rect.unit (s := S4x16x256x256) (k0_off9 i k) S1x1x256x256.size (k0_off9_inb i k)), someS ![v49, v79, v109, v139] kt0 2⟩, ⟨(Rect.unit (s := S4x16x256x256) (k0_off8 i k) S1x1x256x256.size (k0_off8_inb i k)), someS ![v49, v79, v109, v139] kt0 1⟩, ⟨(Rect.unit (s := S4x16x256x256) (k0_off7 i k) S1x1x256x256.size (k0_off7_inb i k)), someS ![v49, v79, v109, v139] kt0 0⟩] := by
  subst hk0 hv0 hc0 hc1 eT
  exact ⟨rfl, rfl, rfl, rfl⟩

end Trip1

section Trip3
variable (arg1 : BitVec 32) (v9 v49 v79 v109 v139 v172 v202 v232 v262 : FVec F S256x256 .bf16) (v264 : FVec F S1024x256 .bf16) (v469_0 v469_1 v469_2 v469_3 : FVec F S256x1 .f32) (v470 v472 v473 : BitVec 32) (v474 v475 : BitVec 1) (c0_i32_160 v481 : BitVec 32) (X3 : BufTy.Contents (Elt F) arg3.view.ty) (X4 : BufTy.Contents (Elt F) arg4.view.ty)

/-- What the trip yields and stores, in the functions of a tile: `kt` and `vt` are the tiles it reads and `c` the
columns it carries from tile to tile. -/
theorem trip3_eq (k : Fin (k0_t3_loop i).trips) (acc : Cols F) (f8 : BufTy.Contents (Elt F) arg8.view.ty) {kt0 kt1 kt2 vt0 vt1 vt2 : FVec F S256x256 .bf16} {c0 c1 c2 c3 : Fin 4 → FVec F S256x1 .f32}
    (hk0 : arg3.view.readAt (Elt F) (Rect.unit (s := S4096x256) (k0_off16 i k 0#32) S256x256.size (k0_off16_inb i k 0)).toLoadRect X3 = kt0) (hv0 : arg4.view.readAt (Elt F) (Rect.unit (s := S4096x256) (k0_off16 i k 0#32) S256x256.size (k0_off16_inb i k 0)).toLoadRect X4 = vt0)
    (hk1 : arg3.view.readAt (Elt F) (Rect.unit (s := S4096x256) (k0_off16 i k 1#32) S256x256.size (k0_off16_inb i k 1)).toLoadRect X3 = kt1) (hv1 : arg4.view.readAt (Elt F) (Rect.unit (s := S4096x256) (k0_off16 i k 1#32) S256x256.size (k0_off16_inb i k 1)).toLoadRect X4 = vt1)
    (hk2 : arg3.view.readAt (Elt F) (Rect.unit (s := S4096x256) (k0_off16 i k 2#32) S256x256.size (k0_off16_inb i k 2)).toLoadRect X3 = kt2) (hv2 : arg4.view.readAt (Elt F) (Rect.unit (s := S4096x256) (k0_off16 i k 2#32) S256x256.size (k0_off16_inb i k 2)).toLoadRect X4 = vt2)
    (hc0 : ![acc.1, acc.2.1, acc.2.2.1, acc.2.2.2] = c0) (hc1 : moreHeld ![v49, v79, v109, v139] kt0 c0 = c1) (hc2 : moreHeld ![v49, v79, v109, v139] kt1 c1 = c2) (hc3 : moreHeld ![v49, v79, v109, v139] kt2 c2 = c3)
    {T : _} (eT : trip3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 k = T) :
    T.1 acc f8 = (c3 0, c3 1, c3 2, c3 3)
    ∧ T.2.1 acc f8 = (
      let L1 : LV F := ⟨(Rect.unit (s := S4096x256) (k0_off16 i k 0#32) S256x256.size (k0_off16_inb i k 0)), addInto (arg8.view.readAt (Elt F) (Rect.unit (s := S4096x256) (k0_off16 i k 0#32) S256x256.size (k0_off16_inb i k 0)).toLoadRect f8) (fun h => truncf .bf16 ((someW v9 ![v49, v79, v109, v139] kt0 c0) h) bitsLt_bf16_f32) v264⟩ :: []
      let L2 : LV F := ⟨(Rect.unit (s := S4096x256) (k0_off16 i k 1#32) S256x256.size (k0_off16_inb i k 1)), addInto (arg8.view.readAt (Elt F) (Rect.unit (s := S4096x256) (k0_off16 i k 1#32) S256x256.size (k0_off16_inb i k 1)).toLoadRect (arg8.view.writes (Elt F) f8 L1)) (fun h => truncf .bf16 ((someW v9 ![v49, v79, v109, v139] kt1 c1) h) bitsLt_bf16_f32) v264⟩ :: L1
      let L3 : LV F := ⟨(Rect.unit (s := S4096x256) (k0_off16 i k 2#32) S256x256.size (k0_off16_inb i k 2)), addInto (arg8.view.readAt (Elt F) (Rect.unit (s := S4096x256) (k0_off16 i k 2#32) S256x256.size (k0_off16_inb i k 2)).toLoadRect (arg8.view.writes (Elt F) f8 L2)) (fun h => truncf .bf16 ((someW v9 ![v49, v79, v109, v139] kt2 c2) h) bitsLt_bf16_f32) v264⟩ :: L2
      L3)
    ∧ T.2.2.1 acc f8 = [⟨(Rect.unit (s := S4x16x256x256) (k0_off20 i k 2#32) S1x1x256x256.size (k0_off20_inb i k 2)), someG ![v172, v202, v232, v262] vt2 (someW v9 ![v49, v79, v109, v139] kt2 c2) 3⟩, ⟨(Rect.unit (s := S4x16x256x256) (k0_off19 i k 2#32) S1x1x256x256.size (k0_off19_inb i k 2)), someG ![v172, v202, v232, v262] vt2 (someW v9 ![v49, v79, v109, v139] kt2 c2) 2⟩, ⟨(Rect.unit (s := S4x16x256x256) (k0_off18 i k 2#32) S1x1x256x256.size (k0_off18_inb i k 2)), someG ![v172, v202, v232, v262] vt2 (someW v9 ![v49, v79, v109, v139] kt2 c2) 1⟩, ⟨(Rect.unit (s := S4x16x256x256) (k0_off17 i k 2#32) S1x1x256x256.size (k0_off17_inb i k 2)), someG ![v172, v202, v232, v262] vt2 (someW v9 ![v49, v79, v109, v139] kt2 c2) 0⟩, ⟨(Rect.unit (s := S4x16x256x256) (k0_off20 i k 1#32) S1x1x256x256.size (k0_off20_inb i k 1)), someG ![v172, v202, v232, v262] vt1 (someW v9 ![v49, v79, v109, v139] kt1 c1) 3⟩, ⟨(Rect.unit (s := S4x16x256x256) (k0_off19 i k 1#32) S1x1x256x256.size (k0_off19_inb i k 1)), someG ![v172, v202, v232, v262] vt1 (someW v9 ![v49, v79, v109, v139] kt1 c1) 2⟩, ⟨(Rect.unit (s := S4x16x256x256) (k0_off18 i k 1#32) S1x1x256x256.size (k0_off18_inb i k 1)), someG ![v172, v202, v232, v262] vt1 (someW v9 ![v49, v79, v109, v139] kt1 c1) 1⟩, ⟨(Rect.unit (s := S4x16x256x256) (k0_off17 i k 1#32) S1x1x256x256.size (k0_off17_inb i k 1)), someG ![v172, v202, v232, v262] vt1 (someW v9 ![v49, v79, v109, v139] kt1 c1) 0⟩, ⟨(Rect.unit (s := S4x16x256x256) (k0_off20 i k 0#32) S1x1x256x256.size (k0_off20_inb i k 0)), someG ![v172, v202, v232, v262] vt0 (someW v9 ![v49, v79, v109, v139] kt0 c0) 3⟩, ⟨(Rect.unit (s := S4x16x256x256) (k0_off19 i k 0#32) S1x1x256x256.size (k0_off19_inb i k 0)), someG ![v172, v202, v232, v262] vt0 (someW v9 ![v49, v79, v109, v139] kt0 c0) 2⟩, ⟨(Rect.unit (s := S4x16x256x256) (k0_off18 i k 0#32) S1x1x256x256.size (k0_off18_inb i k 0)), someG ![v172, v202, v232, v262] vt0 (someW v9 ![v49, v79, v109, v139] kt0 c0) 1⟩, ⟨(Rect.unit (s := S4x16x256x256) (k0_off17 i k 0#32) S1x1x256x256.size (k0_off17_inb i k 0)), someG ![v172, v202, v232, v262] vt0 (someW v9 ![v49, v79, v109, v139] kt0 c0) 0⟩]
    ∧ T.2.2.2.1 acc f8 = [⟨(Rect.unit (s := S4x16x256x256) (k0_off20 i k 2#32) S1x1x256x256.size (k0_off20_inb i k 2)), someS ![v49, v79, v109, v139] kt2 3⟩, ⟨(Rect.unit (s := S4x16x256x256) (k0_off19 i k 2#32) S1x1x256x256.size (k0_off19_inb i k 2)), someS ![v49, v79, v109, v139] kt2 2⟩, ⟨(Rect.unit (s := S4x16x256x256) (k0_off18 i k 2#32) S1x1x256x256.size (k0_off18_inb i k 2)), someS ![v49, v79, v109, v139] kt2 1⟩, ⟨(Rect.unit (s := S4x16x256x256) (k0_off17 i k 2#32) S1x1x256x256.size (k0_off17_inb i k 2)), someS ![v49, v79, v109, v139] kt2 0⟩, ⟨(Rect.unit (s := S4x16x256x256) (k0_off20 i k 1#32) S1x1x256x256.size (k0_off20_inb i k 1)), someS ![v49, v79, v109, v139] kt1 3⟩, ⟨(Rect.unit (s := S4x16x256x256) (k0_off19 i k 1#32) S1x1x256x256.size (k0_off19_inb i k 1)), someS ![v49, v79, v109, v139] kt1 2⟩, ⟨(Rect.unit (s := S4x16x256x256) (k0_off18 i k 1#32) S1x1x256x256.size (k0_off18_inb i k 1)), someS ![v49, v79, v109, v139] kt1 1⟩, ⟨(Rect.unit (s := S4x16x256x256) (k0_off17 i k 1#32) S1x1x256x256.size (k0_off17_inb i k 1)), someS ![v49, v79, v109, v139] kt1 0⟩, ⟨(Rect.unit (s := S4x16x256x256) (k0_off20 i k 0#32) S1x1x256x256.size (k0_off20_inb i k 0)), someS ![v49, v79, v109, v139] kt0 3⟩, ⟨(Rect.unit (s := S4x16x256x256) (k0_off19 i k 0#32) S1x1x256x256.size (k0_off19_inb i k 0)), someS ![v49, v79, v109, v139] kt0 2⟩, ⟨(Rect.unit (s := S4x16x256x256) (k0_off18 i k 0#32) S1x1x256x256.size (k0_off18_inb i k 0)), someS ![v49, v79, v109, v139] kt0 1⟩, ⟨(Rect.unit (s := S4x16x256x256) (k0_off17 i k 0#32) S1x1x256x256.size (k0_off17_inb i k 0)), someS ![v49, v79, v109, v139] kt0 0⟩] := by
  subst hk0 hv0 hk1 hv1 hk2 hv2 hc0 hc1 hc2 hc3 eT
  exact ⟨rfl, rfl, rfl, rfl⟩

end Trip3

/-- What a grid point reads, from the buffers of keys and values and the values carried into the loops. -/
def envOf (arg3 arg4 : Memref sig .tc .vmem S4096x256 .bf16) (X3 : BufTy.Contents (Elt F) arg3.view.ty) (X4 : BufTy.Contents (Elt F) arg4.view.ty)
    (u : FVec F S256x256 .bf16) (q o : Fin 4 → FVec F S256x256 .bf16) : Env F :=
  ⟨u, q, o, rows (arg3.view.read (Elt F) X3), rows (arg4.view.read (Elt F) X4)⟩

/-- The stores of one tile take the sweep one tile further. -/
theorem Env.Swept.store {e : Env F} {I : Fin 16} {p : ℕ} {old : S4096x256.Idx → F .f32}
    {v8 : View sig .tc .vmem S4096x256 .f32} {v9 v10 : View sig .tc .vmem S4x16x256x256 .bf16}
    {f8 : BufTy.Contents (Elt F) v8.ty} {f9 : BufTy.Contents (Elt F) v9.ty} {f10 : BufTy.Contents (Elt F) v10.ty}
    {L8 : LV F} {L9 L10 : LS F}
    (H : e.Swept I p old (v8.read (Elt F) (v8.writes (Elt F) f8 L8)) (v9.read (Elt F) (v9.writes (Elt F) f9 L9)) (v10.read (Elt F) (v10.writes (Elt F) f10 L10)))
    {j : Fin 16} (hj : j.val + p = I.val)
    {off : Fin 2 → ℕ} (o : off = ![256 * j.val, 0]) (inb : ∀ a, off a + S256x256.size a ≤ S4096x256.size a)
    {o0 o1 o2 o3 : Fin 4 → ℕ} (q0 : o0 = ![((0 : Fin 4)).val, j.val, 0, 0]) (q1 : o1 = ![((1 : Fin 4)).val, j.val, 0, 0]) (q2 : o2 = ![((2 : Fin 4)).val, j.val, 0, 0]) (q3 : o3 = ![((3 : Fin 4)).val, j.val, 0, 0])
    (i0 : ∀ a, o0 a + S1x1x256x256.size a ≤ S4x16x256x256.size a) (i1 : ∀ a, o1 a + S1x1x256x256.size a ≤ S4x16x256x256.size a)
    (i2 : ∀ a, o2 a + S1x1x256x256.size a ≤ S4x16x256x256.size a) (i3 : ∀ a, o3 a + S1x1x256x256.size a ≤ S4x16x256x256.size a)
    {x : FVec F S256x256 .f32} {g s : Fin 4 → FVec F S1x1x256x256 .bf16}
    (hx : x = e.newV I j (v8.readAt (Elt F) (Rect.unit (s := S4096x256) off S256x256.size inb).toLoadRect (v8.writes (Elt F) f8 L8)))
    (hg : ∀ h, g h = e.g I h j) (hs : ∀ h, s h = e.s I h j) :
    e.Swept I (p + 1) old (v8.read (Elt F) (v8.writes (Elt F) f8 (⟨Rect.unit (s := S4096x256) off S256x256.size inb, x⟩ :: L8)))
      (v9.read (Elt F) (v9.writes (Elt F) f9 (⟨Rect.unit (s := S4x16x256x256) o3 S1x1x256x256.size i3, g 3⟩ :: ⟨Rect.unit (s := S4x16x256x256) o2 S1x1x256x256.size i2, g 2⟩
        :: ⟨Rect.unit (s := S4x16x256x256) o1 S1x1x256x256.size i1, g 1⟩ :: ⟨Rect.unit (s := S4x16x256x256) o0 S1x1x256x256.size i0, g 0⟩ :: L9)))
      (v10.read (Elt F) (v10.writes (Elt F) f10 (⟨Rect.unit (s := S4x16x256x256) o3 S1x1x256x256.size i3, s 3⟩ :: ⟨Rect.unit (s := S4x16x256x256) o2 S1x1x256x256.size i2, s 2⟩
        :: ⟨Rect.unit (s := S4x16x256x256) o1 S1x1x256x256.size i1, s 1⟩ :: ⟨Rect.unit (s := S4x16x256x256) o0 S1x1x256x256.size i0, s 0⟩ :: L10))) := by
  rw [View.readAt_unit v8 _ inb o (o ▸ inb)] at hx
  obtain rfl : g = fun h => e.g I h j := funext hg
  obtain rfl : s = fun h => e.s I h j := funext hs
  subst hx
  rw [View.read_writes_cons_put v8 f8 inb _ L8 o,
    View.read_writes_cons_put v9 f9 i3 _ _ q3, View.read_writes_cons_put v9 f9 i2 _ _ q2, View.read_writes_cons_put v9 f9 i1 _ _ q1, View.read_writes_cons_put v9 f9 i0 _ _ q0,
    View.read_writes_cons_put v10 f10 i3 _ _ q3, View.read_writes_cons_put v10 f10 i2 _ _ q2, View.read_writes_cons_put v10 f10 i1 _ _ q1, View.read_writes_cons_put v10 f10 i0 _ _ q0]
  exact H.step hj

section Swept1
variable (arg1 : BitVec 32) (v9 v49 v79 v109 v139 v172 v202 v232 v262 : FVec F S256x256 .bf16) (v264 : FVec F S1024x256 .bf16) (v360 v366 v372 v378 : FVec F S256x256 .f32) (v379 v380 v381 v382 : FVec F S256x1 .f32) (v438 : FVec F S1x1x256x256 .bf16) (X3 : BufTy.Contents (Elt F) arg3.view.ty) (X4 : BufTy.Contents (Elt F) arg4.view.ty)

/-- A trip takes the sweep one tile further. -/
theorem trip1_swept (hv : v264 = stack ![v172, v202, v232, v262]) (k : Fin (k0_t1_loop i).trips) {old : S4096x256.Idx → F .f32}
    {f8 : BufTy.Contents (Elt F) arg8.view.ty} {f9 : BufTy.Contents (Elt F) arg9.view.ty} {f10 : BufTy.Contents (Elt F) arg10.view.ty}
    {acc : Cols F} (hacc : acc = (envOf arg3 arg4 X3 X4 v9 ![v49, v79, v109, v139] ![v172, v202, v232, v262]).cols (i 1) (1 + k.val))
    (H : (envOf arg3 arg4 X3 X4 v9 ![v49, v79, v109, v139] ![v172, v202, v232, v262]).Swept (i 1) (1 + k.val) old (arg8.view.read (Elt F) f8) (arg9.view.read (Elt F) f9) (arg10.view.read (Elt F) f10))
    {T : _} (eT : trip1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 k = T) :
    T.1 acc f8 = (envOf arg3 arg4 X3 X4 v9 ![v49, v79, v109, v139] ![v172, v202, v232, v262]).cols (i 1) (1 + k.val + 1)
      ∧ (envOf arg3 arg4 X3 X4 v9 ![v49, v79, v109, v139] ![v172, v202, v232, v262]).Swept (i 1) (1 + k.val + 1) old (arg8.view.read (Elt F) (arg8.view.writes (Elt F) f8 (T.2.1 acc f8)))
          (arg9.view.read (Elt F) (arg9.view.writes (Elt F) f9 (T.2.2.1 acc f8)))
          (arg10.view.read (Elt F) (arg10.view.writes (Elt F) f10 (T.2.2.2.1 acc f8))) := by
  have hk := Nat.lt_of_lt_of_eq k.isLt (trips1 i)
  have hi : (i 1).val < 16 := (i 1).isLt
  subst hv
  obtain ⟨j0, hj0⟩ : ∃ j : Fin 16, j.val = (i 1).val - 1 - k.val := ⟨⟨_, by omega⟩, rfl⟩
  have hs0 : j0.val + (1 + k.val) = (i 1 : Fin 16).val := by rw [hj0]; show (i 1).val - 1 - k.val + (1 + k.val) = (i 1).val; omega
  have o0 : k0_off6 i k = ![256 * j0.val, 0] := (off6_eq i k).trans (by rw [hj0])
  have q0_0 : k0_off7 i k = ![((0 : Fin 4)).val, j0.val, 0, 0] := (off7_eq i k).trans (by rw [hj0]; rfl)
  have q0_1 : k0_off8 i k = ![((1 : Fin 4)).val, j0.val, 0, 0] := (off8_eq i k).trans (by rw [hj0]; rfl)
  have q0_2 : k0_off9 i k = ![((2 : Fin 4)).val, j0.val, 0, 0] := (off9_eq i k).trans (by rw [hj0]; rfl)
  have q0_3 : k0_off10 i k = ![((3 : Fin 4)).val, j0.val, 0, 0] := (off10_eq i k).trans (by rw [hj0]; rfl)
  have k0 : arg3.view.readAt (Elt F) (Rect.unit (s := S4096x256) (k0_off6 i k) S256x256.size (k0_off6_inb i k)).toLoadRect X3 = rows (arg3.view.read (Elt F) X3) j0 := View.readAt_unit _ _ _ o0 _
  have v0 : arg4.view.readAt (Elt F) (Rect.unit (s := S4096x256) (k0_off6 i k) S256x256.size (k0_off6_inb i k)).toLoadRect X4 = rows (arg4.view.read (Elt F) X4) j0 := View.readAt_unit _ _ _ o0 _
  obtain ⟨E, hE⟩ : ∃ E : Env F, E = (envOf arg3 arg4 X3 X4 v9 ![v49, v79, v109, v139] ![v172, v202, v232, v262]) := ⟨_, rfl⟩
  rw [← hE] at H hacc ⊢
  have c1 : moreHeld ![v49, v79, v109, v139] (rows (arg3.view.read (Elt F) X3) j0) (fun h => E.held (i 1) h (1 + k.val)) = fun h => E.held (i 1) h (1 + k.val + 1) := funext fun h => ((E.held_succ h (by omega) hs0).trans (by subst hE; rfl)).symm
  have w0 : someW v9 ![v49, v79, v109, v139] (rows (arg3.view.read (Elt F) X3) j0) (fun h => E.held (i 1) h (1 + k.val)) = fun h => E.w (i 1) h j0 := funext fun h => ((E.w_eq h (by omega) hs0).trans (by subst hE; rfl)).symm
  have g0 : ∀ h, someG ![v172, v202, v232, v262] (rows (arg4.view.read (Elt F) X4) j0) (fun h => E.w (i 1) h j0) h = E.g (i 1) h j0 := fun h => by subst hE; rfl
  have s0 : ∀ h, someS ![v49, v79, v109, v139] (rows (arg3.view.read (Elt F) X3) j0) h = E.s (i 1) h j0 := fun h => ((E.s_eq h (by omega) hs0).trans (by subst hE; rfl)).symm
  have c0 : ![acc.1, acc.2.1, acc.2.2.1, acc.2.2.2] = fun h => E.held (i 1) h (1 + k.val) := by subst hacc; funext h; fin_cases h <;> rfl
  have hT := trip1_eq c i arg2 harg2 arg3 harg3 arg4 harg4 arg5 harg5 arg6 harg6 arg7 harg7 arg8 harg8 arg9 harg9 arg10 harg10 arg1 v9 v49 v79 v109 v139 v172 v202 v232 v262 (stack ![v172, v202, v232, v262]) v360 v366 v372 v378 v379 v380 v381 v382 v438 X3 X4 k acc f8 k0 v0 c0 c1 eT
  simp only [w0] at hT
  have st : stack ![v172, v202, v232, v262] = stack E.oh := by subst hE; rfl
  obtain ⟨h1, h8, h9, h10⟩ := hT
  rw [h1, h8, h9, h10]
  refine ⟨rfl, ?_⟩
  have H1 := Env.Swept.store (f8 := f8) (f9 := f9) (f10 := f10) (L8 := []) (L9 := []) (L10 := []) H hs0 o0 (k0_off6_inb i k) q0_0 q0_1 q0_2 q0_3 (k0_off7_inb i k) (k0_off8_inb i k) (k0_off9_inb i k) (k0_off10_inb i k)
    (show _ = E.newV (i 1) j0 _ by unfold Env.newV; rw [← st]) g0 s0
  exact H1

end Swept1
section Swept3
variable (arg1 : BitVec 32) (v9 v49 v79 v109 v139 v172 v202 v232 v262 : FVec F S256x256 .bf16) (v264 : FVec F S1024x256 .bf16) (v469_0 v469_1 v469_2 v469_3 : FVec F S256x1 .f32) (v470 v472 v473 : BitVec 32) (v474 v475 : BitVec 1) (c0_i32_160 v481 : BitVec 32) (X3 : BufTy.Contents (Elt F) arg3.view.ty) (X4 : BufTy.Contents (Elt F) arg4.view.ty)

/-- A trip takes the sweep three tiles further. -/
theorem trip3_swept (hv : v264 = stack ![v172, v202, v232, v262]) (k : Fin (k0_t3_loop i).trips) {old : S4096x256.Idx → F .f32}
    {f8 : BufTy.Contents (Elt F) arg8.view.ty} {f9 : BufTy.Contents (Elt F) arg9.view.ty} {f10 : BufTy.Contents (Elt F) arg10.view.ty}
    {acc : Cols F} (hacc : acc = (envOf arg3 arg4 X3 X4 v9 ![v49, v79, v109, v139] ![v172, v202, v232, v262]).cols (i 1) (1 + (i 1).val % 3 + 3 * k.val))
    (H : (envOf arg3 arg4 X3 X4 v9 ![v49, v79, v109, v139] ![v172, v202, v232, v262]).Swept (i 1) (1 + (i 1).val % 3 + 3 * k.val) old (arg8.view.read (Elt F) f8) (arg9.view.read (Elt F) f9) (arg10.view.read (Elt F) f10))
    {T : _} (eT : trip3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 k = T) :
    T.1 acc f8 = (envOf arg3 arg4 X3 X4 v9 ![v49, v79, v109, v139] ![v172, v202, v232, v262]).cols (i 1) (1 + (i 1).val % 3 + 3 * k.val + 3)
      ∧ (envOf arg3 arg4 X3 X4 v9 ![v49, v79, v109, v139] ![v172, v202, v232, v262]).Swept (i 1) (1 + (i 1).val % 3 + 3 * k.val + 3) old (arg8.view.read (Elt F) (arg8.view.writes (Elt F) f8 (T.2.1 acc f8)))
          (arg9.view.read (Elt F) (arg9.view.writes (Elt F) f9 (T.2.2.1 acc f8)))
          (arg10.view.read (Elt F) (arg10.view.writes (Elt F) f10 (T.2.2.2.1 acc f8))) := by
  have hk := Nat.lt_of_lt_of_eq k.isLt (trips3 i)
  have hi : (i 1).val < 16 := (i 1).isLt
  subst hv
  obtain ⟨j0, hj0⟩ : ∃ j : Fin 16, j.val = (i 1).val - 1 - (i 1).val % 3 - 3 * k.val - (0 : Fin 3).val := ⟨⟨_, by omega⟩, rfl⟩
  have hs0 : j0.val + (1 + (i 1).val % 3 + 3 * k.val) = (i 1 : Fin 16).val := by rw [hj0]; show (i 1).val - 1 - (i 1).val % 3 - 3 * k.val - (0 : Fin 3).val + (1 + (i 1).val % 3 + 3 * k.val) = (i 1).val; have : (0 : Fin 3).val = 0 := rfl; omega
  have o0 : k0_off16 i k 0#32 = ![256 * j0.val, 0] := (off16_eq i k 0).trans (by rw [hj0])
  have q0_0 : k0_off17 i k 0#32 = ![((0 : Fin 4)).val, j0.val, 0, 0] := (off17_eq i k 0).trans (by rw [hj0]; rfl)
  have q0_1 : k0_off18 i k 0#32 = ![((1 : Fin 4)).val, j0.val, 0, 0] := (off18_eq i k 0).trans (by rw [hj0]; rfl)
  have q0_2 : k0_off19 i k 0#32 = ![((2 : Fin 4)).val, j0.val, 0, 0] := (off19_eq i k 0).trans (by rw [hj0]; rfl)
  have q0_3 : k0_off20 i k 0#32 = ![((3 : Fin 4)).val, j0.val, 0, 0] := (off20_eq i k 0).trans (by rw [hj0]; rfl)
  have k0 : arg3.view.readAt (Elt F) (Rect.unit (s := S4096x256) (k0_off16 i k 0#32) S256x256.size (k0_off16_inb i k 0)).toLoadRect X3 = rows (arg3.view.read (Elt F) X3) j0 := View.readAt_unit _ _ _ o0 _
  have v0 : arg4.view.readAt (Elt F) (Rect.unit (s := S4096x256) (k0_off16 i k 0#32) S256x256.size (k0_off16_inb i k 0)).toLoadRect X4 = rows (arg4.view.read (Elt F) X4) j0 := View.readAt_unit _ _ _ o0 _
  obtain ⟨j1, hj1⟩ : ∃ j : Fin 16, j.val = (i 1).val - 1 - (i 1).val % 3 - 3 * k.val - (1 : Fin 3).val := ⟨⟨_, by omega⟩, rfl⟩
  have hs1 : j1.val + (1 + (i 1).val % 3 + 3 * k.val + 1) = (i 1 : Fin 16).val := by rw [hj1]; show (i 1).val - 1 - (i 1).val % 3 - 3 * k.val - (1 : Fin 3).val + (1 + (i 1).val % 3 + 3 * k.val + 1) = (i 1).val; have : (1 : Fin 3).val = 1 := rfl; omega
  have o1 : k0_off16 i k 1#32 = ![256 * j1.val, 0] := (off16_eq i k 1).trans (by rw [hj1])
  have q1_0 : k0_off17 i k 1#32 = ![((0 : Fin 4)).val, j1.val, 0, 0] := (off17_eq i k 1).trans (by rw [hj1]; rfl)
  have q1_1 : k0_off18 i k 1#32 = ![((1 : Fin 4)).val, j1.val, 0, 0] := (off18_eq i k 1).trans (by rw [hj1]; rfl)
  have q1_2 : k0_off19 i k 1#32 = ![((2 : Fin 4)).val, j1.val, 0, 0] := (off19_eq i k 1).trans (by rw [hj1]; rfl)
  have q1_3 : k0_off20 i k 1#32 = ![((3 : Fin 4)).val, j1.val, 0, 0] := (off20_eq i k 1).trans (by rw [hj1]; rfl)
  have k1 : arg3.view.readAt (Elt F) (Rect.unit (s := S4096x256) (k0_off16 i k 1#32) S256x256.size (k0_off16_inb i k 1)).toLoadRect X3 = rows (arg3.view.read (Elt F) X3) j1 := View.readAt_unit _ _ _ o1 _
  have v1 : arg4.view.readAt (Elt F) (Rect.unit (s := S4096x256) (k0_off16 i k 1#32) S256x256.size (k0_off16_inb i k 1)).toLoadRect X4 = rows (arg4.view.read (Elt F) X4) j1 := View.readAt_unit _ _ _ o1 _
  obtain ⟨j2, hj2⟩ : ∃ j : Fin 16, j.val = (i 1).val - 1 - (i 1).val % 3 - 3 * k.val - (2 : Fin 3).val := ⟨⟨_, by omega⟩, rfl⟩
  have hs2 : j2.val + (1 + (i 1).val % 3 + 3 * k.val + 2) = (i 1 : Fin 16).val := by rw [hj2]; show (i 1).val - 1 - (i 1).val % 3 - 3 * k.val - (2 : Fin 3).val + (1 + (i 1).val % 3 + 3 * k.val + 2) = (i 1).val; have : (2 : Fin 3).val = 2 := rfl; omega
  have o2 : k0_off16 i k 2#32 = ![256 * j2.val, 0] := (off16_eq i k 2).trans (by rw [hj2])
  have q2_0 : k0_off17 i k 2#32 = ![((0 : Fin 4)).val, j2.val, 0, 0] := (off17_eq i k 2).trans (by rw [hj2]; rfl)
  have q2_1 : k0_off18 i k 2#32 = ![((1 : Fin 4)).val, j2.val, 0, 0] := (off18_eq i k 2).trans (by rw [hj2]; rfl)
  have q2_2 : k0_off19 i k 2#32 = ![((2 : Fin 4)).val, j2.val, 0, 0] := (off19_eq i k 2).trans (by rw [hj2]; rfl)
  have q2_3 : k0_off20 i k 2#32 = ![((3 : Fin 4)).val, j2.val, 0, 0] := (off20_eq i k 2).trans (by rw [hj2]; rfl)
  have k2 : arg3.view.readAt (Elt F) (Rect.unit (s := S4096x256) (k0_off16 i k 2#32) S256x256.size (k0_off16_inb i k 2)).toLoadRect X3 = rows (arg3.view.read (Elt F) X3) j2 := View.readAt_unit _ _ _ o2 _
  have v2 : arg4.view.readAt (Elt F) (Rect.unit (s := S4096x256) (k0_off16 i k 2#32) S256x256.size (k0_off16_inb i k 2)).toLoadRect X4 = rows (arg4.view.read (Elt F) X4) j2 := View.readAt_unit _ _ _ o2 _
  obtain ⟨E, hE⟩ : ∃ E : Env F, E = (envOf arg3 arg4 X3 X4 v9 ![v49, v79, v109, v139] ![v172, v202, v232, v262]) := ⟨_, rfl⟩
  rw [← hE] at H hacc ⊢
  have c1 : moreHeld ![v49, v79, v109, v139] (rows (arg3.view.read (Elt F) X3) j0) (fun h => E.held (i 1) h (1 + (i 1).val % 3 + 3 * k.val)) = fun h => E.held (i 1) h (1 + (i 1).val % 3 + 3 * k.val + 1) := funext fun h => ((E.held_succ h (by omega) hs0).trans (by subst hE; rfl)).symm
  have w0 : someW v9 ![v49, v79, v109, v139] (rows (arg3.view.read (Elt F) X3) j0) (fun h => E.held (i 1) h (1 + (i 1).val % 3 + 3 * k.val)) = fun h => E.w (i 1) h j0 := funext fun h => ((E.w_eq h (by omega) hs0).trans (by subst hE; rfl)).symm
  have g0 : ∀ h, someG ![v172, v202, v232, v262] (rows (arg4.view.read (Elt F) X4) j0) (fun h => E.w (i 1) h j0) h = E.g (i 1) h j0 := fun h => by subst hE; rfl
  have s0 : ∀ h, someS ![v49, v79, v109, v139] (rows (arg3.view.read (Elt F) X3) j0) h = E.s (i 1) h j0 := fun h => ((E.s_eq h (by omega) hs0).trans (by subst hE; rfl)).symm
  have c2 : moreHeld ![v49, v79, v109, v139] (rows (arg3.view.read (Elt F) X3) j1) (fun h => E.held (i 1) h (1 + (i 1).val % 3 + 3 * k.val + 1)) = fun h => E.held (i 1) h (1 + (i 1).val % 3 + 3 * k.val + 2) := funext fun h => ((E.held_succ h (by omega) hs1).trans (by subst hE; rfl)).symm
  have w1 : someW v9 ![v49, v79, v109, v139] (rows (arg3.view.read (Elt F) X3) j1) (fun h => E.held (i 1) h (1 + (i 1).val % 3 + 3 * k.val + 1)) = fun h => E.w (i 1) h j1 := funext fun h => ((E.w_eq h (by omega) hs1).trans (by subst hE; rfl)).symm
  have g1 : ∀ h, someG ![v172, v202, v232, v262] (rows (arg4.view.read (Elt F) X4) j1) (fun h => E.w (i 1) h j1) h = E.g (i 1) h j1 := fun h => by subst hE; rfl
  have s1 : ∀ h, someS ![v49, v79, v109, v139] (rows (arg3.view.read (Elt F) X3) j1) h = E.s (i 1) h j1 := fun h => ((E.s_eq h (by omega) hs1).trans (by subst hE; rfl)).symm
  have c3 : moreHeld ![v49, v79, v109, v139] (rows (arg3.view.read (Elt F) X3) j2) (fun h => E.held (i 1) h (1 + (i 1).val % 3 + 3 * k.val + 2)) = fun h => E.held (i 1) h (1 + (i 1).val % 3 + 3 * k.val + 3) := funext fun h => ((E.held_succ h (by omega) hs2).trans (by subst hE; rfl)).symm
  have w2 : someW v9 ![v49, v79, v109, v139] (rows (arg3.view.read (Elt F) X3) j2) (fun h => E.held (i 1) h (1 + (i 1).val % 3 + 3 * k.val + 2)) = fun h => E.w (i 1) h j2 := funext fun h => ((E.w_eq h (by omega) hs2).trans (by subst hE; rfl)).symm
  have g2 : ∀ h, someG ![v172, v202, v232, v262] (rows (arg4.view.read (Elt F) X4) j2) (fun h => E.w (i 1) h j2) h = E.g (i 1) h j2 := fun h => by subst hE; rfl
  have s2 : ∀ h, someS ![v49, v79, v109, v139] (rows (arg3.view.read (Elt F) X3) j2) h = E.s (i 1) h j2 := fun h => ((E.s_eq h (by omega) hs2).trans (by subst hE; rfl)).symm
  have c0 : ![acc.1, acc.2.1, acc.2.2.1, acc.2.2.2] = fun h => E.held (i 1) h (1 + (i 1).val % 3 + 3 * k.val) := by subst hacc; funext h; fin_cases h <;> rfl
  have hT := trip3_eq c i arg2 harg2 arg3 harg3 arg4 harg4 arg5 harg5 arg6 harg6 arg7 harg7 arg8 harg8 arg9 harg9 arg10 harg10 arg1 v9 v49 v79 v109 v139 v172 v202 v232 v262 (stack ![v172, v202, v232, v262]) v469_0 v469_1 v469_2 v469_3 v470 v472 v473 v474 v475 c0_i32_160 v481 X3 X4 k acc f8 k0 v0 k1 v1 k2 v2 c0 c1 c2 c3 eT
  simp only [w0, w1, w2] at hT
  have st : stack ![v172, v202, v232, v262] = stack E.oh := by subst hE; rfl
  obtain ⟨h1, h8, h9, h10⟩ := hT
  rw [h1, h8, h9, h10]
  refine ⟨rfl, ?_⟩
  have H1 := Env.Swept.store (f8 := f8) (f9 := f9) (f10 := f10) (L8 := []) (L9 := []) (L10 := []) H hs0 o0 (k0_off16_inb i k 0) q0_0 q0_1 q0_2 q0_3 (k0_off17_inb i k 0) (k0_off18_inb i k 0) (k0_off19_inb i k 0) (k0_off20_inb i k 0)
    (show _ = E.newV (i 1) j0 _ by unfold Env.newV; rw [← st]) g0 s0
  have H2 := Env.Swept.store (f8 := f8) (f9 := f9) (f10 := f10) H1 hs1 o1 (k0_off16_inb i k 1) q1_0 q1_1 q1_2 q1_3 (k0_off17_inb i k 1) (k0_off18_inb i k 1) (k0_off19_inb i k 1) (k0_off20_inb i k 1)
    (show _ = E.newV (i 1) j1 _ by unfold Env.newV; rw [← st]) g1 s1
  have H3 := Env.Swept.store (f8 := f8) (f9 := f9) (f10 := f10) H2 hs2 o2 (k0_off16_inb i k 2) q2_0 q2_1 q2_2 q2_3 (k0_off17_inb i k 2) (k0_off18_inb i k 2) (k0_off19_inb i k 2) (k0_off20_inb i k 2)
    (show _ = E.newV (i 1) j2 _ by unfold Env.newV; rw [← st]) g2 s2
  exact H3

end Swept3

section Fold1
variable (arg1 : BitVec 32) (v9 v49 v79 v109 v139 v172 v202 v232 v262 : FVec F S256x256 .bf16) (v264 : FVec F S1024x256 .bf16) (v360 v366 v372 v378 : FVec F S256x256 .f32) (v379 v380 v381 v382 : FVec F S256x1 .f32) (v438 : FVec F S1x1x256x256 .bf16) (X3 : BufTy.Contents (Elt F) arg3.view.ty) (X4 : BufTy.Contents (Elt F) arg4.view.ty)

/-- How far the sweep is after `k` trips of the loop. -/
theorem st1_swept (hv : v264 = stack ![v172, v202, v232, v262]) {old : S4096x256.Idx → F .f32}
    {G8 : BufTy.Contents (Elt F) arg8.view.ty} {G9 : BufTy.Contents (Elt F) arg9.view.ty} {G10 : BufTy.Contents (Elt F) arg10.view.ty}
    (H : (envOf arg3 arg4 X3 X4 v9 ![v49, v79, v109, v139] ![v172, v202, v232, v262]).Swept (i 1) (1) old (arg8.view.read (Elt F) G8) (arg9.view.read (Elt F) G9) (arg10.view.read (Elt F) G10)) :
    ∀ k : ℕ, k ≤ (k0_t1_loop i).trips →
      (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 ((envOf arg3 arg4 X3 X4 v9 ![v49, v79, v109, v139] ![v172, v202, v232, v262]).cols (i 1) (1)) k).1 = (envOf arg3 arg4 X3 X4 v9 ![v49, v79, v109, v139] ![v172, v202, v232, v262]).cols (i 1) (1 + k)
      ∧ (envOf arg3 arg4 X3 X4 v9 ![v49, v79, v109, v139] ![v172, v202, v232, v262]).Swept (i 1) (1 + k) old (arg8.view.read (Elt F) (arg8.view.writes (Elt F) G8 (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 ((envOf arg3 arg4 X3 X4 v9 ![v49, v79, v109, v139] ![v172, v202, v232, v262]).cols (i 1) (1)) k).2.1))
          (arg9.view.read (Elt F) (arg9.view.writes (Elt F) G9 (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 ((envOf arg3 arg4 X3 X4 v9 ![v49, v79, v109, v139] ![v172, v202, v232, v262]).cols (i 1) (1)) k).2.2.1))
          (arg10.view.read (Elt F) (arg10.view.writes (Elt F) G10 (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 ((envOf arg3 arg4 X3 X4 v9 ![v49, v79, v109, v139] ![v172, v202, v232, v262]).cols (i 1) (1)) k).2.2.2))
  | 0, _ => ⟨rfl, H⟩
  | k + 1, hk => by
    obtain ⟨h1, h2⟩ := st1_swept hv H k (Nat.le_of_succ_le hk)
    rw [st1_succ c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 _ ⟨k, hk⟩]
    generalize (st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 G8 ((envOf arg3 arg4 X3 X4 v9 ![v49, v79, v109, v139] ![v172, v202, v232, v262]).cols (i 1) (1)) k) = S at h1 h2 ⊢
    have := trip1_swept c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 hv ⟨k, hk⟩ h1 h2 rfl
    dsimp only []
    rw [View.writes_append, View.writes_append, View.writes_append]
    exact this

end Fold1

section Fold3
variable (arg1 : BitVec 32) (v9 v49 v79 v109 v139 v172 v202 v232 v262 : FVec F S256x256 .bf16) (v264 : FVec F S1024x256 .bf16) (v469_0 v469_1 v469_2 v469_3 : FVec F S256x1 .f32) (v470 v472 v473 : BitVec 32) (v474 v475 : BitVec 1) (c0_i32_160 v481 : BitVec 32) (X3 : BufTy.Contents (Elt F) arg3.view.ty) (X4 : BufTy.Contents (Elt F) arg4.view.ty)

/-- How far the sweep is after `k` trips of the loop. -/
theorem st3_swept (hv : v264 = stack ![v172, v202, v232, v262]) {old : S4096x256.Idx → F .f32}
    {G8 : BufTy.Contents (Elt F) arg8.view.ty} {G9 : BufTy.Contents (Elt F) arg9.view.ty} {G10 : BufTy.Contents (Elt F) arg10.view.ty}
    (H : (envOf arg3 arg4 X3 X4 v9 ![v49, v79, v109, v139] ![v172, v202, v232, v262]).Swept (i 1) (1 + (i 1).val % 3) old (arg8.view.read (Elt F) G8) (arg9.view.read (Elt F) G9) (arg10.view.read (Elt F) G10)) :
    ∀ k : ℕ, k ≤ (k0_t3_loop i).trips →
      (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 ((envOf arg3 arg4 X3 X4 v9 ![v49, v79, v109, v139] ![v172, v202, v232, v262]).cols (i 1) (1 + (i 1).val % 3)) k).1 = (envOf arg3 arg4 X3 X4 v9 ![v49, v79, v109, v139] ![v172, v202, v232, v262]).cols (i 1) (1 + (i 1).val % 3 + 3 * k)
      ∧ (envOf arg3 arg4 X3 X4 v9 ![v49, v79, v109, v139] ![v172, v202, v232, v262]).Swept (i 1) (1 + (i 1).val % 3 + 3 * k) old (arg8.view.read (Elt F) (arg8.view.writes (Elt F) G8 (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 ((envOf arg3 arg4 X3 X4 v9 ![v49, v79, v109, v139] ![v172, v202, v232, v262]).cols (i 1) (1 + (i 1).val % 3)) k).2.1))
          (arg9.view.read (Elt F) (arg9.view.writes (Elt F) G9 (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 ((envOf arg3 arg4 X3 X4 v9 ![v49, v79, v109, v139] ![v172, v202, v232, v262]).cols (i 1) (1 + (i 1).val % 3)) k).2.2.1))
          (arg10.view.read (Elt F) (arg10.view.writes (Elt F) G10 (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 ((envOf arg3 arg4 X3 X4 v9 ![v49, v79, v109, v139] ![v172, v202, v232, v262]).cols (i 1) (1 + (i 1).val % 3)) k).2.2.2))
  | 0, _ => ⟨rfl, H⟩
  | k + 1, hk => by
    obtain ⟨h1, h2⟩ := st3_swept hv H k (Nat.le_of_succ_le hk)
    rw [st3_succ c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 _ ⟨k, hk⟩]
    generalize (st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 G8 ((envOf arg3 arg4 X3 X4 v9 ![v49, v79, v109, v139] ![v172, v202, v232, v262]).cols (i 1) (1 + (i 1).val % 3)) k) = S at h1 h2 ⊢
    have := trip3_swept c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 hv ⟨k, hk⟩ h1 h2 rfl
    dsimp only []
    rw [View.writes_append, View.writes_append, View.writes_append]
    exact this

end Fold3

end Cert.Proof.Attn
-- ==== Proof.Attn.Sweep2.lean ====
module

public import proofs.«01_k».proof.Proof.Attn.Sweep

/-! The second sweep at the level of tiles: each trip of its loops takes it one tile (three tiles) further. -/

@[expose] public section

set_option maxRecDepth 8192
set_option maxHeartbeats 4000000

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S4096x256 .f32) (harg7 : arg7.IsWhole) (arg8 : Memref sig .tc .vmem S4096x256 .f32) (harg8 : arg8.IsWhole) (arg9 : Memref sig .tc .vmem S4x16x256x256 .bf16) (harg9 : arg9.IsWhole) (arg10 : Memref sig .tc .vmem S4x16x256x256 .bf16) (harg10 : arg10.IsWhole)

/-- The columns after one more tile, and a tile's cotangents, as functions of what is kept of the tile. -/
def morePast (g : Fin 4 → FVec F S1x1x256x256 .bf16) (c : Fin 4 → FVec F S256x1 .f32) (h : Fin 4) : FVec F S256x1 .f32 := addf (c h) (rowSum (wide (g h)))
def someDz (g s : Fin 4 → FVec F S1x1x256x256 .bf16) (c : Fin 4 → FVec F S256x1 .f32) (h : Fin 4) : FVec F S256x256 .bf16 := dzOf (g h) (s h) (c h)

/-- The four heads' tiles at four offsets of a kept array. -/
abbrev readFour (M : Memref sig .tc .vmem S4x16x256x256 .bf16) (X : BufTy.Contents (Elt F) M.view.ty) {o0 o1 o2 o3 : Fin 4 → ℕ}
    (i0 : ∀ a, o0 a + S1x1x256x256.size a ≤ S4x16x256x256.size a) (i1 : ∀ a, o1 a + S1x1x256x256.size a ≤ S4x16x256x256.size a)
    (i2 : ∀ a, o2 a + S1x1x256x256.size a ≤ S4x16x256x256.size a) (i3 : ∀ a, o3 a + S1x1x256x256.size a ≤ S4x16x256x256.size a) :
    Fin 4 → FVec F S1x1x256x256 .bf16 :=
  ![M.view.readAt (Elt F) (Rect.unit (s := S4x16x256x256) o0 S1x1x256x256.size i0).toLoadRect X,
    M.view.readAt (Elt F) (Rect.unit (s := S4x16x256x256) o1 S1x1x256x256.size i1).toLoadRect X,
    M.view.readAt (Elt F) (Rect.unit (s := S4x16x256x256) o2 S1x1x256x256.size i2).toLoadRect X,
    M.view.readAt (Elt F) (Rect.unit (s := S4x16x256x256) o3 S1x1x256x256.size i3).toLoadRect X]

/-- They are the slots of the heads at one tile. -/
theorem readFour_eq (M : Memref sig .tc .vmem S4x16x256x256 .bf16) (X : BufTy.Contents (Elt F) M.view.ty) {o0 o1 o2 o3 : Fin 4 → ℕ}
    {i0 : ∀ a, o0 a + S1x1x256x256.size a ≤ S4x16x256x256.size a} {i1 : ∀ a, o1 a + S1x1x256x256.size a ≤ S4x16x256x256.size a}
    {i2 : ∀ a, o2 a + S1x1x256x256.size a ≤ S4x16x256x256.size a} {i3 : ∀ a, o3 a + S1x1x256x256.size a ≤ S4x16x256x256.size a}
    {p : ℕ} {j : Fin 16} (hp : p = j.val) (q0 : o0 = ![0, p, 0, 0]) (q1 : o1 = ![1, p, 0, 0]) (q2 : o2 = ![2, p, 0, 0]) (q3 : o3 = ![3, p, 0, 0]) :
    readFour M X i0 i1 i2 i3 = fun h => slot (M.view.read (Elt F) X) h j := by
  subst hp
  funext h
  fin_cases h
  · exact View.readAt_unit (s := S4x16x256x256) M.view _ _ q0 _
  · exact View.readAt_unit (s := S4x16x256x256) M.view _ _ q1 _
  · exact View.readAt_unit (s := S4x16x256x256) M.view _ _ q2 _
  · exact View.readAt_unit (s := S4x16x256x256) M.view _ _ q3 _

section Trip7
variable (v16 : FVec F S256x256 .bf16) (v263 : FVec F S1024x256 .bf16) (v551 : BitVec 32) (X3 : BufTy.Contents (Elt F) arg3.view.ty) (X9 : BufTy.Contents (Elt F) arg9.view.ty) (X10 : BufTy.Contents (Elt F) arg10.view.ty)

/-- What the trip yields and stores, in the functions of a tile. -/
theorem trip7_eq (hu : v16 = k0_pay595) (k : Fin (k0_t7_loop i).trips) (acc : Cols5 F) (f7 : BufTy.Contents (Elt F) arg7.view.ty) {kt0 : FVec F S256x256 .bf16}
    {g0 : Fin 4 → FVec F S1x1x256x256 .bf16} {s0 : Fin 4 → FVec F S1x1x256x256 .bf16} {d0 : Fin 4 → FVec F S256x256 .bf16} {c0 c1 : Fin 4 → FVec F S256x1 .f32}
    (hk0 : arg3.view.readAt (Elt F) (Rect.unit (s := S4096x256) (k0_off40 i k) S256x256.size (k0_off40_inb i k)).toLoadRect X3 = kt0)
    (hg0 : readFour arg9 X9 (k0_off36_inb i k) (k0_off37_inb i k) (k0_off38_inb i k) (k0_off39_inb i k) = g0)
    (hs0 : readFour arg10 X10 (k0_off36_inb i k) (k0_off37_inb i k) (k0_off38_inb i k) (k0_off39_inb i k) = s0)
    (hc0 : ![acc.1, acc.2.1, acc.2.2.1, acc.2.2.2.1] = c0) (hc1 : morePast g0 c0 = c1) (hd0 : someDz g0 s0 c0 = d0) :
    (trip_k0_t7 (F := F) Variants.none c none i arg2 harg2 arg3 harg3 arg4 harg4 arg5 harg5 arg6 harg6 arg7 harg7 arg8 harg8 arg9 harg9 arg10 harg10 v16 v263 v551 X3 X9 X10 k).1 acc f7 = (c1 0, c1 1, c1 2, c1 3, addOne acc.2.2.2.2 d0 (keyStack kt0))
    ∧ (trip_k0_t7 (F := F) Variants.none c none i arg2 harg2 arg3 harg3 arg4 harg4 arg5 harg5 arg6 harg6 arg7 harg7 arg8 harg8 arg9 harg9 arg10 harg10 v16 v263 v551 X3 X9 X10 k).2.1 acc f7 = (
      let L1 : LV F := ⟨(Rect.unit (s := S4096x256) (k0_off40 i k) S256x256.size (k0_off40_inb i k)), addInto (arg7.view.readAt (Elt F) (Rect.unit (s := S4096x256) (k0_off40 i k) S256x256.size (k0_off40_inb i k)).toLoadRect f7) d0 v263⟩ :: []
      L1) := by
  subst hu hk0 hg0 hs0 hc0 hc1 hd0
  unfold trip_k0_t7
  exact ⟨rfl, rfl⟩

end Trip7

section Trip5
variable (arg1 : BitVec 32) (v16 : FVec F S256x256 .bf16) (v263 : FVec F S1024x256 .bf16) (v506 : FVec F S256x1 .f32) (v507 : FVec F S256x256 .f32) (v508 c3_i32_175 v509 v514 v516 c0_i32_179 : BitVec 32) (X3 : BufTy.Contents (Elt F) arg3.view.ty) (X9 : BufTy.Contents (Elt F) arg9.view.ty) (X10 : BufTy.Contents (Elt F) arg10.view.ty)

/-- What the trip yields and stores, in the functions of a tile. -/
theorem trip5_eq (hu : v16 = k0_pay595) (k : Fin (k0_t5_loop i).trips) (acc : Cols5 F) (f7 : BufTy.Contents (Elt F) arg7.view.ty) {kt0 kt1 kt2 : FVec F S256x256 .bf16}
    {g0 g1 g2 : Fin 4 → FVec F S1x1x256x256 .bf16} {s0 s1 s2 : Fin 4 → FVec F S1x1x256x256 .bf16} {d0 d1 d2 : Fin 4 → FVec F S256x256 .bf16} {c0 c1 c2 c3 : Fin 4 → FVec F S256x1 .f32}
    (hk0 : arg3.view.readAt (Elt F) (Rect.unit (s := S4096x256) (k0_off30 i k 0#32) S256x256.size (k0_off30_inb i k 0)).toLoadRect X3 = kt0)
    (hg0 : readFour arg9 X9 (k0_off26_inb i k 0) (k0_off27_inb i k 0) (k0_off28_inb i k 0) (k0_off29_inb i k 0) = g0)
    (hs0 : readFour arg10 X10 (k0_off26_inb i k 0) (k0_off27_inb i k 0) (k0_off28_inb i k 0) (k0_off29_inb i k 0) = s0)
    (hk1 : arg3.view.readAt (Elt F) (Rect.unit (s := S4096x256) (k0_off30 i k 1#32) S256x256.size (k0_off30_inb i k 1)).toLoadRect X3 = kt1)
    (hg1 : readFour arg9 X9 (k0_off26_inb i k 1) (k0_off27_inb i k 1) (k0_off28_inb i k 1) (k0_off29_inb i k 1) = g1)
    (hs1 : readFour arg10 X10 (k0_off26_inb i k 1) (k0_off27_inb i k 1) (k0_off28_inb i k 1) (k0_off29_inb i k 1) = s1)
    (hk2 : arg3.view.readAt (Elt F) (Rect.unit (s := S4096x256) (k0_off30 i k 2#32) S256x256.size (k0_off30_inb i k 2)).toLoadRect X3 = kt2)
    (hg2 : readFour arg9 X9 (k0_off26_inb i k 2) (k0_off27_inb i k 2) (k0_off28_inb i k 2) (k0_off29_inb i k 2) = g2)
    (hs2 : readFour arg10 X10 (k0_off26_inb i k 2) (k0_off27_inb i k 2) (k0_off28_inb i k 2) (k0_off29_inb i k 2) = s2)
    (hc0 : ![acc.1, acc.2.1, acc.2.2.1, acc.2.2.2.1] = c0) (hc1 : morePast g0 c0 = c1) (hd0 : someDz g0 s0 c0 = d0) (hc2 : morePast g1 c1 = c2) (hd1 : someDz g1 s1 c1 = d1) (hc3 : morePast g2 c2 = c3) (hd2 : someDz g2 s2 c2 = d2) :
    (trip_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 k).1 acc f7 = (c3 0, c3 1, c3 2, c3 3, addThree acc.2.2.2.2 d0 d1 d2 (keyStack kt0) (keyStack kt1) (keyStack kt2))
    ∧ (trip_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 k).2.1 acc f7 = (
      let L1 : LV F := ⟨(Rect.unit (s := S4096x256) (k0_off30 i k 0#32) S256x256.size (k0_off30_inb i k 0)), addInto (arg7.view.readAt (Elt F) (Rect.unit (s := S4096x256) (k0_off30 i k 0#32) S256x256.size (k0_off30_inb i k 0)).toLoadRect f7) d0 v263⟩ :: []
      let L2 : LV F := ⟨(Rect.unit (s := S4096x256) (k0_off30 i k 1#32) S256x256.size (k0_off30_inb i k 1)), addInto (arg7.view.readAt (Elt F) (Rect.unit (s := S4096x256) (k0_off30 i k 1#32) S256x256.size (k0_off30_inb i k 1)).toLoadRect f7) d1 v263⟩ :: L1
      let L3 : LV F := ⟨(Rect.unit (s := S4096x256) (k0_off30 i k 2#32) S256x256.size (k0_off30_inb i k 2)), addInto (arg7.view.readAt (Elt F) (Rect.unit (s := S4096x256) (k0_off30 i k 2#32) S256x256.size (k0_off30_inb i k 2)).toLoadRect f7) d2 v263⟩ :: L2
      L3) := by
  subst hu hk0 hg0 hs0 hk1 hg1 hs1 hk2 hg2 hs2 hc0 hc1 hd0 hc2 hd1 hc3 hd2
  unfold trip_k0_t5
  exact ⟨rfl, rfl⟩

end Trip5

/-! ### Trip counts and the places of the tiles -/

/-- How often each loop of the second sweep runs. -/
theorem trips5 : ∀ i : grid0.Coords, (k0_t5_loop i).trips = ((i 1).val + 1) / 3 := by decide +kernel
theorem trips6 : ∀ i : grid0.Coords, (k0_t6_loop i).trips = 0 := by decide +kernel
theorem trips7 : ∀ i : grid0.Coords, (k0_t7_loop i).trips = ((i 1).val + 1) % 3 := by decide +kernel
theorem trips8 : ∀ i : grid0.Coords, (k0_t8_loop i).trips = 0 := by decide +kernel

/-- Where each of the second sweep's accesses lies. -/
theorem off26_eq : ∀ (i : grid0.Coords) (k : Fin (k0_t5_loop i).trips) (w : Fin 3), k0_off26 i k (BitVec.ofNat 32 w.val) = ![0, 3 * k.val + w.val, 0, 0] := by decide +kernel
theorem off36_eq : ∀ (i : grid0.Coords) (k : Fin (k0_t7_loop i).trips), k0_off36 i k = ![0, ((i 1).val + 1) / 3 * 3 + k.val, 0, 0] := by decide +kernel
theorem off27_eq : ∀ (i : grid0.Coords) (k : Fin (k0_t5_loop i).trips) (w : Fin 3), k0_off27 i k (BitVec.ofNat 32 w.val) = ![1, 3 * k.val + w.val, 0, 0] := by decide +kernel
theorem off37_eq : ∀ (i : grid0.Coords) (k : Fin (k0_t7_loop i).trips), k0_off37 i k = ![1, ((i 1).val + 1) / 3 * 3 + k.val, 0, 0] := by decide +kernel
theorem off28_eq : ∀ (i : grid0.Coords) (k : Fin (k0_t5_loop i).trips) (w : Fin 3), k0_off28 i k (BitVec.ofNat 32 w.val) = ![2, 3 * k.val + w.val, 0, 0] := by decide +kernel
theorem off38_eq : ∀ (i : grid0.Coords) (k : Fin (k0_t7_loop i).trips), k0_off38 i k = ![2, ((i 1).val + 1) / 3 * 3 + k.val, 0, 0] := by decide +kernel
theorem off29_eq : ∀ (i : grid0.Coords) (k : Fin (k0_t5_loop i).trips) (w : Fin 3), k0_off29 i k (BitVec.ofNat 32 w.val) = ![3, 3 * k.val + w.val, 0, 0] := by decide +kernel
theorem off39_eq : ∀ (i : grid0.Coords) (k : Fin (k0_t7_loop i).trips), k0_off39 i k = ![3, ((i 1).val + 1) / 3 * 3 + k.val, 0, 0] := by decide +kernel
theorem off30_eq : ∀ (i : grid0.Coords) (k : Fin (k0_t5_loop i).trips) (w : Fin 3), k0_off30 i k (BitVec.ofNat 32 w.val) = ![256 * (3 * k.val + w.val), 0] := by decide +kernel
theorem off40_eq : ∀ (i : grid0.Coords) (k : Fin (k0_t7_loop i).trips), k0_off40 i k = ![256 * (((i 1).val + 1) / 3 * 3 + k.val), 0] := by decide +kernel

/-- The store of one tile takes the second sweep one tile further. -/
theorem Env.Swept'.store {e : Env F} {I : Fin 16} {p : ℕ} {old : S4096x256.Idx → F .f32} {v : View sig .tc .vmem S4096x256 .f32} {f : BufTy.Contents (Elt F) v.ty} {L : LV F}
    (H : e.Swept' I p old (v.read (Elt F) (v.writes (Elt F) f L))) {j : Fin 16} (hj : j.val = p)
    {off : Fin 2 → ℕ} (o : off = ![256 * j.val, 0]) (inb : ∀ a, off a + S256x256.size a ≤ S4096x256.size a)
    {x : FVec F S256x256 .f32} (hx : x = e.newK I j (rows old j)) :
    e.Swept' I (p + 1) old (v.read (Elt F) (v.writes (Elt F) f (⟨Rect.unit (s := S4096x256) off S256x256.size inb, x⟩ :: L))) := by
  rw [View.read_writes_cons_put v f inb _ L o, hx, ← H.rest j (by omega)]
  exact H.step hj

section Swept7
variable (v16 : FVec F S256x256 .bf16) (v263 : FVec F S1024x256 .bf16) (v551 : BitVec 32) (X3 : BufTy.Contents (Elt F) arg3.view.ty) (X9 : BufTy.Contents (Elt F) arg9.view.ty) (X10 : BufTy.Contents (Elt F) arg10.view.ty)

/-- A trip takes the second sweep one tile further. -/
theorem trip7_swept {E : Env F} (hu : v16 = k0_pay595) (hv : v263 = stack E.qh) (hkt : E.kt = rows (arg3.view.read (Elt F) X3))
    (hg : ∀ (h : Fin 4) (j : Fin 16), j.val ≤ (i 1).val → slot (arg9.view.read (Elt F) X9) h j = E.g (i 1) h j)
    (hs : ∀ (h : Fin 4) (j : Fin 16), j.val ≤ (i 1).val → slot (arg10.view.read (Elt F) X10) h j = E.s (i 1) h j)
    (k : Fin (k0_t7_loop i).trips) {old : S4096x256.Idx → F .f32} {f7 : BufTy.Contents (Elt F) arg7.view.ty}
    {acc : Cols5 F} (hacc : acc = E.cols5 (i 1) (((i 1).val + 1) / 3 * 3 + k.val) (E.singles (i 1) k.val)) (H : E.Swept' (i 1) (((i 1).val + 1) / 3 * 3 + k.val) old (arg7.view.read (Elt F) f7)) :
    (trip_k0_t7 (F := F) Variants.none c none i arg2 harg2 arg3 harg3 arg4 harg4 arg5 harg5 arg6 harg6 arg7 harg7 arg8 harg8 arg9 harg9 arg10 harg10 v16 v263 v551 X3 X9 X10 k).1 acc f7 = E.cols5 (i 1) (((i 1).val + 1) / 3 * 3 + k.val + 1) (E.singles (i 1) (k.val + 1))
      ∧ E.Swept' (i 1) (((i 1).val + 1) / 3 * 3 + k.val + 1) old (arg7.view.read (Elt F) (arg7.view.writes (Elt F) f7 ((trip_k0_t7 (F := F) Variants.none c none i arg2 harg2 arg3 harg3 arg4 harg4 arg5 harg5 arg6 harg6 arg7 harg7 arg8 harg8 arg9 harg9 arg10 harg10 v16 v263 v551 X3 X9 X10 k).2.1 acc f7))) := by
  have hk := Nat.lt_of_lt_of_eq k.isLt (trips7 i)
  have hi : (i 1).val < 16 := (i 1).isLt
  subst hu hv
  obtain ⟨j0, hj0⟩ : ∃ j : Fin 16, j.val = ((i 1).val + 1) / 3 * 3 + k.val := ⟨⟨_, by omega⟩, rfl⟩
  have hp0 : j0.val = ((i 1).val + 1) / 3 * 3 + k.val := by rw [hj0]
  have hle0 : j0.val ≤ (i 1).val := by omega
  have o0 : k0_off40 i k = ![256 * j0.val, 0] := (off40_eq i k).trans (by rw [hj0])
  have k0 : arg3.view.readAt (Elt F) (Rect.unit (s := S4096x256) (k0_off40 i k) S256x256.size (k0_off40_inb i k)).toLoadRect X3 = E.kt j0 := by rw [hkt]; exact View.readAt_unit _ _ _ o0 _
  have g0 : readFour arg9 X9 (k0_off36_inb i k) (k0_off37_inb i k) (k0_off38_inb i k) (k0_off39_inb i k) = fun h => E.g (i 1) h j0 :=
    (readFour_eq _ _ hj0.symm (off36_eq i k) (off37_eq i k) (off38_eq i k) (off39_eq i k)).trans (funext fun h => hg h j0 hle0)
  have s0 : readFour arg10 X10 (k0_off36_inb i k) (k0_off37_inb i k) (k0_off38_inb i k) (k0_off39_inb i k) = fun h => E.s (i 1) h j0 :=
    (readFour_eq _ _ hj0.symm (off36_eq i k) (off37_eq i k) (off38_eq i k) (off39_eq i k)).trans (funext fun h => hs h j0 hle0)
  have c1 : morePast (fun h => E.g (i 1) h j0) (fun h => E.past (i 1) h (((i 1).val + 1) / 3 * 3 + k.val)) = fun h => E.past (i 1) h (((i 1).val + 1) / 3 * 3 + k.val + 1) := funext fun h => (E.past_succ h hp0).symm
  have d0 : someDz (fun h => E.g (i 1) h j0) (fun h => E.s (i 1) h j0) (fun h => E.past (i 1) h (((i 1).val + 1) / 3 * 3 + k.val)) = fun h => E.dz (i 1) h j0 := by funext h; unfold Env.dz; rw [hp0]; rfl
  have c0 : ![acc.1, acc.2.1, acc.2.2.1, acc.2.2.2.1] = fun h => E.past (i 1) h (((i 1).val + 1) / 3 * 3 + k.val) := by subst hacc; funext h; fin_cases h <;> rfl
  have ha : acc.2.2.2.2 = E.singles (i 1) k.val := by subst hacc; rfl
  have hT := trip7_eq c i arg2 harg2 arg3 harg3 arg4 harg4 arg5 harg5 arg6 harg6 arg7 harg7 arg8 harg8 arg9 harg9 arg10 harg10 k0_pay595 (stack E.qh) v551 X3 X9 X10 rfl k acc f7 k0 g0 s0 c0 c1 d0
  generalize (trip_k0_t7 (F := F) Variants.none c none i arg2 harg2 arg3 harg3 arg4 harg4 arg5 harg5 arg6 harg6 arg7 harg7 arg8 harg8 arg9 harg9 arg10 harg10 k0_pay595 (stack E.qh) v551 X3 X9 X10 k) = T at hT ⊢
  obtain ⟨h1, h7⟩ := hT
  rw [h1, h7]
  refine ⟨?_, ?_⟩
  · have q0 : Fin.ofNat 16 (((i 1).val + 1) / 3 * 3 + k.val) = j0 := Fin.ext (by show (((i 1).val + 1) / 3 * 3 + k.val) % 16 = _; omega)
    rw [ha, ← q0]; rfl
  · have H1 := Env.Swept'.store (f := f7) (L := []) H hp0 o0 (k0_off40_inb i k) (x := addInto (arg7.view.readAt (Elt F) (Rect.unit (s := S4096x256) (k0_off40 i k) S256x256.size (k0_off40_inb i k)).toLoadRect f7) (fun h => E.dz (i 1) h j0) (stack E.qh))
      (by rw [View.readAt_unit arg7.view f7 _ o0 (o0 ▸ k0_off40_inb i k)]; exact congrArg (E.newK (i 1) j0) (H.rest j0 (by omega)))
    exact H1

/-- How far the second sweep is after `k` trips of the loop. -/
theorem st7_swept {E : Env F} (hu : v16 = k0_pay595) (hv : v263 = stack E.qh) (hkt : E.kt = rows (arg3.view.read (Elt F) X3))
    (hg : ∀ (h : Fin 4) (j : Fin 16), j.val ≤ (i 1).val → slot (arg9.view.read (Elt F) X9) h j = E.g (i 1) h j)
    (hs : ∀ (h : Fin 4) (j : Fin 16), j.val ≤ (i 1).val → slot (arg10.view.read (Elt F) X10) h j = E.s (i 1) h j)
    {old : S4096x256.Idx → F .f32} {G7 : BufTy.Contents (Elt F) arg7.view.ty} {init : Cols5 F}
    (hinit : init = E.cols5 (i 1) (((i 1).val + 1) / 3 * 3) (E.triples (i 1) (((i 1).val + 1) / 3))) (H : E.Swept' (i 1) (((i 1).val + 1) / 3 * 3) old (arg7.view.read (Elt F) G7)) :
    ∀ k : ℕ, k ≤ (k0_t7_loop i).trips →
      (st_k0_t7 (F := F) Variants.none c none i arg2 harg2 arg3 harg3 arg4 harg4 arg5 harg5 arg6 harg6 arg7 harg7 arg8 harg8 arg9 harg9 arg10 harg10 v16 v263 v551 X3 X9 X10 G7 init k).1 = E.cols5 (i 1) (((i 1).val + 1) / 3 * 3 + k) (E.singles (i 1) k)
      ∧ E.Swept' (i 1) (((i 1).val + 1) / 3 * 3 + k) old (arg7.view.read (Elt F) (arg7.view.writes (Elt F) G7 (st_k0_t7 (F := F) Variants.none c none i arg2 harg2 arg3 harg3 arg4 harg4 arg5 harg5 arg6 harg6 arg7 harg7 arg8 harg8 arg9 harg9 arg10 harg10 v16 v263 v551 X3 X9 X10 G7 init k).2))
  | 0, _ => ⟨hinit, H⟩
  | k + 1, hk => by
    obtain ⟨h1, h2⟩ := st7_swept hu hv hkt hg hs hinit H k (Nat.le_of_succ_le hk)
    rw [st_k0_t7_succ (F := F) Variants.none c none i arg2 harg2 arg3 harg3 arg4 harg4 arg5 harg5 arg6 harg6 arg7 harg7 arg8 harg8 arg9 harg9 arg10 harg10 v16 v263 v551 X3 X9 X10 G7 init ⟨k, hk⟩]
    generalize (st_k0_t7 (F := F) Variants.none c none i arg2 harg2 arg3 harg3 arg4 harg4 arg5 harg5 arg6 harg6 arg7 harg7 arg8 harg8 arg9 harg9 arg10 harg10 v16 v263 v551 X3 X9 X10 G7 init k) = S at h1 h2 ⊢
    have := trip7_swept c i arg2 harg2 arg3 harg3 arg4 harg4 arg5 harg5 arg6 harg6 arg7 harg7 arg8 harg8 arg9 harg9 arg10 harg10 v16 v263 v551 X3 X9 X10 hu hv hkt hg hs ⟨k, hk⟩ h1 h2
    dsimp only [tripR_k0_t7, tripL_k0_t7]
    rw [View.writes_append]
    exact this

end Swept7

section Swept5
variable (arg1 : BitVec 32) (v16 : FVec F S256x256 .bf16) (v263 : FVec F S1024x256 .bf16) (v506 : FVec F S256x1 .f32) (v507 : FVec F S256x256 .f32) (v508 c3_i32_175 v509 v514 v516 c0_i32_179 : BitVec 32) (X3 : BufTy.Contents (Elt F) arg3.view.ty) (X9 : BufTy.Contents (Elt F) arg9.view.ty) (X10 : BufTy.Contents (Elt F) arg10.view.ty)

/-- A trip takes the second sweep three tiles further. -/
theorem trip5_swept {E : Env F} (hu : v16 = k0_pay595) (hv : v263 = stack E.qh) (hkt : E.kt = rows (arg3.view.read (Elt F) X3))
    (hg : ∀ (h : Fin 4) (j : Fin 16), j.val ≤ (i 1).val → slot (arg9.view.read (Elt F) X9) h j = E.g (i 1) h j)
    (hs : ∀ (h : Fin 4) (j : Fin 16), j.val ≤ (i 1).val → slot (arg10.view.read (Elt F) X10) h j = E.s (i 1) h j)
    (k : Fin (k0_t5_loop i).trips) {old : S4096x256.Idx → F .f32} {f7 : BufTy.Contents (Elt F) arg7.view.ty}
    {acc : Cols5 F} (hacc : acc = E.cols5 (i 1) (3 * k.val) (E.triples (i 1) k.val)) (H : E.Swept' (i 1) (3 * k.val) old (arg7.view.read (Elt F) f7)) :
    (trip_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 k).1 acc f7 = E.cols5 (i 1) (3 * k.val + 3) (E.triples (i 1) (k.val + 1))
      ∧ E.Swept' (i 1) (3 * k.val + 3) old (arg7.view.read (Elt F) (arg7.view.writes (Elt F) f7 ((trip_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 k).2.1 acc f7))) := by
  have hk := Nat.lt_of_lt_of_eq k.isLt (trips5 i)
  have hi : (i 1).val < 16 := (i 1).isLt
  subst hu hv
  obtain ⟨j0, hj0⟩ : ∃ j : Fin 16, j.val = 3 * k.val + (0 : Fin 3).val := ⟨⟨_, by have : (0 : Fin 3).val = 0 := rfl; omega⟩, rfl⟩
  have hp0 : j0.val = 3 * k.val := hj0
  have hle0 : j0.val ≤ (i 1).val := by omega
  have o0 : k0_off30 i k 0#32 = ![256 * j0.val, 0] := (off30_eq i k 0).trans (by rw [hj0])
  have k0 : arg3.view.readAt (Elt F) (Rect.unit (s := S4096x256) (k0_off30 i k 0#32) S256x256.size (k0_off30_inb i k 0)).toLoadRect X3 = E.kt j0 := by rw [hkt]; exact View.readAt_unit _ _ _ o0 _
  have g0 : readFour arg9 X9 (k0_off26_inb i k 0) (k0_off27_inb i k 0) (k0_off28_inb i k 0) (k0_off29_inb i k 0) = fun h => E.g (i 1) h j0 :=
    (readFour_eq _ _ hj0.symm (off26_eq i k 0) (off27_eq i k 0) (off28_eq i k 0) (off29_eq i k 0)).trans (funext fun h => hg h j0 hle0)
  have s0 : readFour arg10 X10 (k0_off26_inb i k 0) (k0_off27_inb i k 0) (k0_off28_inb i k 0) (k0_off29_inb i k 0) = fun h => E.s (i 1) h j0 :=
    (readFour_eq _ _ hj0.symm (off26_eq i k 0) (off27_eq i k 0) (off28_eq i k 0) (off29_eq i k 0)).trans (funext fun h => hs h j0 hle0)
  have c1 : morePast (fun h => E.g (i 1) h j0) (fun h => E.past (i 1) h (3 * k.val)) = fun h => E.past (i 1) h (3 * k.val + 1) := funext fun h => (E.past_succ h hp0).symm
  have d0 : someDz (fun h => E.g (i 1) h j0) (fun h => E.s (i 1) h j0) (fun h => E.past (i 1) h (3 * k.val)) = fun h => E.dz (i 1) h j0 := by funext h; unfold Env.dz; rw [hp0]; rfl
  obtain ⟨j1, hj1⟩ : ∃ j : Fin 16, j.val = 3 * k.val + (1 : Fin 3).val := ⟨⟨_, by have : (1 : Fin 3).val = 1 := rfl; omega⟩, rfl⟩
  have hp1 : j1.val = 3 * k.val + 1 := by rw [hj1]; rfl
  have hle1 : j1.val ≤ (i 1).val := by omega
  have o1 : k0_off30 i k 1#32 = ![256 * j1.val, 0] := (off30_eq i k 1).trans (by rw [hj1])
  have k1 : arg3.view.readAt (Elt F) (Rect.unit (s := S4096x256) (k0_off30 i k 1#32) S256x256.size (k0_off30_inb i k 1)).toLoadRect X3 = E.kt j1 := by rw [hkt]; exact View.readAt_unit _ _ _ o1 _
  have g1 : readFour arg9 X9 (k0_off26_inb i k 1) (k0_off27_inb i k 1) (k0_off28_inb i k 1) (k0_off29_inb i k 1) = fun h => E.g (i 1) h j1 :=
    (readFour_eq _ _ hj1.symm (off26_eq i k 1) (off27_eq i k 1) (off28_eq i k 1) (off29_eq i k 1)).trans (funext fun h => hg h j1 hle1)
  have s1 : readFour arg10 X10 (k0_off26_inb i k 1) (k0_off27_inb i k 1) (k0_off28_inb i k 1) (k0_off29_inb i k 1) = fun h => E.s (i 1) h j1 :=
    (readFour_eq _ _ hj1.symm (off26_eq i k 1) (off27_eq i k 1) (off28_eq i k 1) (off29_eq i k 1)).trans (funext fun h => hs h j1 hle1)
  have c2 : morePast (fun h => E.g (i 1) h j1) (fun h => E.past (i 1) h (3 * k.val + 1)) = fun h => E.past (i 1) h (3 * k.val + 2) := funext fun h => (E.past_succ h hp1).symm
  have d1 : someDz (fun h => E.g (i 1) h j1) (fun h => E.s (i 1) h j1) (fun h => E.past (i 1) h (3 * k.val + 1)) = fun h => E.dz (i 1) h j1 := by funext h; unfold Env.dz; rw [hp1]; rfl
  obtain ⟨j2, hj2⟩ : ∃ j : Fin 16, j.val = 3 * k.val + (2 : Fin 3).val := ⟨⟨_, by have : (2 : Fin 3).val = 2 := rfl; omega⟩, rfl⟩
  have hp2 : j2.val = 3 * k.val + 2 := by rw [hj2]; rfl
  have hle2 : j2.val ≤ (i 1).val := by omega
  have o2 : k0_off30 i k 2#32 = ![256 * j2.val, 0] := (off30_eq i k 2).trans (by rw [hj2])
  have k2 : arg3.view.readAt (Elt F) (Rect.unit (s := S4096x256) (k0_off30 i k 2#32) S256x256.size (k0_off30_inb i k 2)).toLoadRect X3 = E.kt j2 := by rw [hkt]; exact View.readAt_unit _ _ _ o2 _
  have g2 : readFour arg9 X9 (k0_off26_inb i k 2) (k0_off27_inb i k 2) (k0_off28_inb i k 2) (k0_off29_inb i k 2) = fun h => E.g (i 1) h j2 :=
    (readFour_eq _ _ hj2.symm (off26_eq i k 2) (off27_eq i k 2) (off28_eq i k 2) (off29_eq i k 2)).trans (funext fun h => hg h j2 hle2)
  have s2 : readFour arg10 X10 (k0_off26_inb i k 2) (k0_off27_inb i k 2) (k0_off28_inb i k 2) (k0_off29_inb i k 2) = fun h => E.s (i 1) h j2 :=
    (readFour_eq _ _ hj2.symm (off26_eq i k 2) (off27_eq i k 2) (off28_eq i k 2) (off29_eq i k 2)).trans (funext fun h => hs h j2 hle2)
  have c3 : morePast (fun h => E.g (i 1) h j2) (fun h => E.past (i 1) h (3 * k.val + 2)) = fun h => E.past (i 1) h (3 * k.val + 3) := funext fun h => (E.past_succ h hp2).symm
  have d2 : someDz (fun h => E.g (i 1) h j2) (fun h => E.s (i 1) h j2) (fun h => E.past (i 1) h (3 * k.val + 2)) = fun h => E.dz (i 1) h j2 := by funext h; unfold Env.dz; rw [hp2]; rfl
  have c0 : ![acc.1, acc.2.1, acc.2.2.1, acc.2.2.2.1] = fun h => E.past (i 1) h (3 * k.val) := by subst hacc; funext h; fin_cases h <;> rfl
  have ha : acc.2.2.2.2 = E.triples (i 1) k.val := by subst hacc; rfl
  have hT := trip5_eq c i arg2 harg2 arg3 harg3 arg4 harg4 arg5 harg5 arg6 harg6 arg7 harg7 arg8 harg8 arg9 harg9 arg10 harg10 arg1 k0_pay595 (stack E.qh) v506 v507 v508 c3_i32_175 v509 v514 v516 c0_i32_179 X3 X9 X10 rfl k acc f7 k0 g0 s0 k1 g1 s1 k2 g2 s2 c0 c1 d0 c2 d1 c3 d2
  generalize (trip_k0_t5 (F := F) Variants.none c none i arg2 harg2 arg3 harg3 arg4 harg4 arg5 harg5 arg6 harg6 arg7 harg7 arg8 harg8 arg9 harg9 arg10 harg10 arg1 k0_pay595 (stack E.qh) v506 v507 v508 c3_i32_175 v509 v514 v516 c0_i32_179 X3 X9 X10 k) = T at hT ⊢
  obtain ⟨h1, h7⟩ := hT
  rw [h1, h7]
  refine ⟨?_, ?_⟩
  · have q0 : Fin.ofNat 16 (3 * k.val) = j0 := Fin.ext (by show (3 * k.val) % 16 = _; omega)
    have q1 : Fin.ofNat 16 (3 * k.val + 1) = j1 := Fin.ext (by show (3 * k.val + 1) % 16 = _; omega)
    have q2 : Fin.ofNat 16 (3 * k.val + 2) = j2 := Fin.ext (by show (3 * k.val + 2) % 16 = _; omega)
    rw [ha, ← q0, ← q1, ← q2]; rfl
  · have H1 := Env.Swept'.store (f := f7) (L := []) H hp0 o0 (k0_off30_inb i k 0) (x := addInto (arg7.view.readAt (Elt F) (Rect.unit (s := S4096x256) (k0_off30 i k 0#32) S256x256.size (k0_off30_inb i k 0)).toLoadRect f7) (fun h => E.dz (i 1) h j0) (stack E.qh))
      (by rw [View.readAt_unit arg7.view f7 _ o0 (o0 ▸ k0_off30_inb i k 0)]; exact congrArg (E.newK (i 1) j0) (H.rest j0 (by omega)))
    have H2 := Env.Swept'.store (f := f7) H1 hp1 o1 (k0_off30_inb i k 1) (x := addInto (arg7.view.readAt (Elt F) (Rect.unit (s := S4096x256) (k0_off30 i k 1#32) S256x256.size (k0_off30_inb i k 1)).toLoadRect f7) (fun h => E.dz (i 1) h j1) (stack E.qh))
      (by rw [View.readAt_unit arg7.view f7 _ o1 (o1 ▸ k0_off30_inb i k 1)]; exact congrArg (E.newK (i 1) j1) (H.rest j1 (by omega)))
    have H3 := Env.Swept'.store (f := f7) H2 hp2 o2 (k0_off30_inb i k 2) (x := addInto (arg7.view.readAt (Elt F) (Rect.unit (s := S4096x256) (k0_off30 i k 2#32) S256x256.size (k0_off30_inb i k 2)).toLoadRect f7) (fun h => E.dz (i 1) h j2) (stack E.qh))
      (by rw [View.readAt_unit arg7.view f7 _ o2 (o2 ▸ k0_off30_inb i k 2)]; exact congrArg (E.newK (i 1) j2) (H.rest j2 (by omega)))
    exact H3

/-- How far the second sweep is after `k` trips of the loop. -/
theorem st5_swept {E : Env F} (hu : v16 = k0_pay595) (hv : v263 = stack E.qh) (hkt : E.kt = rows (arg3.view.read (Elt F) X3))
    (hg : ∀ (h : Fin 4) (j : Fin 16), j.val ≤ (i 1).val → slot (arg9.view.read (Elt F) X9) h j = E.g (i 1) h j)
    (hs : ∀ (h : Fin 4) (j : Fin 16), j.val ≤ (i 1).val → slot (arg10.view.read (Elt F) X10) h j = E.s (i 1) h j)
    {old : S4096x256.Idx → F .f32} {G7 : BufTy.Contents (Elt F) arg7.view.ty} {init : Cols5 F}
    (hinit : init = E.cols5 (i 1) (0) (zeroTile)) (H : E.Swept' (i 1) (0) old (arg7.view.read (Elt F) G7)) :
    ∀ k : ℕ, k ≤ (k0_t5_loop i).trips →
      (st_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 G7 init k).1 = E.cols5 (i 1) (3 * k) (E.triples (i 1) k)
      ∧ E.Swept' (i 1) (3 * k) old (arg7.view.read (Elt F) (arg7.view.writes (Elt F) G7 (st_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 G7 init k).2))
  | 0, _ => ⟨hinit, H⟩
  | k + 1, hk => by
    obtain ⟨h1, h2⟩ := st5_swept hu hv hkt hg hs hinit H k (Nat.le_of_succ_le hk)
    rw [st_k0_t5_succ (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 G7 init ⟨k, hk⟩]
    generalize (st_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 G7 init k) = S at h1 h2 ⊢
    have := trip5_swept c i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 hu hv hkt hg hs ⟨k, hk⟩ h1 h2
    dsimp only [tripR_k0_t5, tripL_k0_t5]
    rw [View.writes_append]
    exact this

end Swept5

end Cert.Proof.Attn
-- ==== Proof.Attn.Whole.lean ====
module

public import proofs.«01_k».proof.Proof.Attn.Sweep2

/-! The two sweeps of the attention backward body as wholes. -/

@[expose] public section

set_option maxRecDepth 8192
set_option maxHeartbeats 4000000

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S4096x256 .f32) (harg7 : arg7.IsWhole) (arg8 : Memref sig .tc .vmem S4096x256 .f32) (harg8 : arg8.IsWhole) (arg9 : Memref sig .tc .vmem S4x16x256x256 .bf16) (harg9 : arg9.IsWhole) (arg10 : Memref sig .tc .vmem S4x16x256x256 .bf16) (harg10 : arg10.IsWhole)

section First
variable (arg1 : BitVec 32) (v9 v49 v79 v109 v139 v172 v202 v232 v262 : FVec F S256x256 .bf16) (v264 : FVec F S1024x256 .bf16) (v360 v366 v372 v378 : FVec F S256x256 .f32) (v379 v380 v381 v382 : FVec F S256x1 .f32) (v438 : FVec F S1x1x256x256 .bf16) (X3 : BufTy.Contents (Elt F) arg3.view.ty) (X4 : BufTy.Contents (Elt F) arg4.view.ty) (v469_0 v469_1 v469_2 v469_3 : FVec F S256x1 .f32) (v470 v472 v473 : BitVec 32) (v474 v475 : BitVec 1) (c0_i32_160 v481 : BitVec 32)

/-- The first sweep: from the diagonal tile's stores to all the tiles up to the grid point's own. -/
theorem first_sweep (hv : v264 = stack ![v172, v202, v232, v262]) {old : S4096x256.Idx → F .f32}
    {f8 : BufTy.Contents (Elt F) arg8.view.ty} {f9 : BufTy.Contents (Elt F) arg9.view.ty} {f10 : BufTy.Contents (Elt F) arg10.view.ty} {D8 : LV F} {D9 D10 : LS F}
    (H : (envOf arg3 arg4 X3 X4 v9 ![v49, v79, v109, v139] ![v172, v202, v232, v262]).Swept (i 1) 1 old (arg8.view.read (Elt F) (arg8.view.writes (Elt F) f8 D8)) (arg9.view.read (Elt F) (arg9.view.writes (Elt F) f9 D9)) (arg10.view.read (Elt F) (arg10.view.writes (Elt F) f10 D10)))
    {init : Cols F} (hinit : init = (envOf arg3 arg4 X3 X4 v9 ![v49, v79, v109, v139] ![v172, v202, v232, v262]).cols (i 1) 1) {S1 S3 : Cols F × LV F × LS F × LS F}
    (h1 : S1 = st1 c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 (arg8.view.writes (Elt F) f8 D8) init (k0_t1_loop i).trips)
    (h3 : S3 = st3 c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 (arg8.view.writes (Elt F) f8 (S1.2.1 ++ D8)) S1.1 (k0_t3_loop i).trips) :
    (envOf arg3 arg4 X3 X4 v9 ![v49, v79, v109, v139] ![v172, v202, v232, v262]).Swept (i 1) ((i 1).val + 1) old (arg8.view.read (Elt F) (arg8.view.writes (Elt F) f8 (S3.2.1 ++ (S1.2.1 ++ D8))))
      (arg9.view.read (Elt F) (arg9.view.writes (Elt F) f9 (S3.2.2.1 ++ (S1.2.2.1 ++ D9)))) (arg10.view.read (Elt F) (arg10.view.writes (Elt F) f10 (S3.2.2.2 ++ (S1.2.2.2 ++ D10)))) := by
  subst hinit
  obtain ⟨a1, b1⟩ := st1_swept c i arg2 harg2 arg3 harg3 arg4 harg4 arg5 harg5 arg6 harg6 arg7 harg7 arg8 harg8 arg9 harg9 arg10 harg10 arg1 v9 v49 v79 v109 v139 v172 v202 v232 v262 v264 v360 v366 v372 v378 v379 v380 v381 v382 v438 X3 X4 hv H _ (Nat.le_refl _)
  rw [← h1] at a1 b1
  rw [trips1, ← View.writes_append, ← View.writes_append, ← View.writes_append] at b1
  rw [trips1] at a1
  rw [a1] at h3
  obtain ⟨a3, b3⟩ := st3_swept c i arg2 harg2 arg3 harg3 arg4 harg4 arg5 harg5 arg6 harg6 arg7 harg7 arg8 harg8 arg9 harg9 arg10 harg10 arg1 v9 v49 v79 v109 v139 v172 v202 v232 v262 v264 v469_0 v469_1 v469_2 v469_3 v470 v472 v473 v474 v475 c0_i32_160 v481 X3 X4 hv b1 _ (Nat.le_refl _)
  rw [← h3, trips3, ← View.writes_append, ← View.writes_append, ← View.writes_append] at b3
  have e : 1 + (i 1).val % 3 + 3 * ((i 1).val / 3) = (i 1).val + 1 := by omega
  rw [e] at b3
  exact b3

end First

section Second
variable (arg1 : BitVec 32) (v16 : FVec F S256x256 .bf16) (v263 : FVec F S1024x256 .bf16) (v506 : FVec F S256x1 .f32) (v507 : FVec F S256x256 .f32) (v508 c3_i32_175 v509 v514 v516 c0_i32_179 v530 v551 v567 : BitVec 32) (X3 : BufTy.Contents (Elt F) arg3.view.ty) (X9 : BufTy.Contents (Elt F) arg9.view.ty) (X10 : BufTy.Contents (Elt F) arg10.view.ty)

/-- The second sweep over all the tiles up to the grid point's own. -/
theorem second_sweep {E : Env F} (hu : v16 = k0_pay595) (hv : v263 = stack E.qh) (hkt : E.kt = rows (arg3.view.read (Elt F) X3))
    (hg : ∀ (h : Fin 4) (j : Fin 16), j.val ≤ (i 1).val → slot (arg9.view.read (Elt F) X9) h j = E.g (i 1) h j)
    (hs : ∀ (h : Fin 4) (j : Fin 16), j.val ≤ (i 1).val → slot (arg10.view.read (Elt F) X10) h j = E.s (i 1) h j)
    {old : S4096x256.Idx → F .f32} {f7 : BufTy.Contents (Elt F) arg7.view.ty} {D7 : LV F} (hold : (arg7.view.read (Elt F) (arg7.view.writes (Elt F) f7 D7)) = old)
    {init : Cols5 F} (hinit : init = E.cols5 (i 1) 0 zeroTile) {S5 S6 S7 S8 : Cols5 F × LV F}
    (h5 : S5 = st_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 (arg7.view.writes (Elt F) f7 D7) init (k0_t5_loop i).trips)
    (h6 : S6 = st_k0_t6 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 v530 X3 X9 X10 (arg7.view.writes (Elt F) f7 (S5.2 ++ D7)) S5.1 (k0_t6_loop i).trips)
    (h7 : S7 = st_k0_t7 (F := F) Variants.none c none i arg2 harg2 arg3 harg3 arg4 harg4 arg5 harg5 arg6 harg6 arg7 harg7 arg8 harg8 arg9 harg9 arg10 harg10 v16 v263 v551 X3 X9 X10 (arg7.view.writes (Elt F) f7 (S6.2 ++ (S5.2 ++ D7))) S6.1 (k0_t7_loop i).trips)
    (h8 : S8 = st_k0_t8 (F := F) Variants.none c none i arg2 harg2 arg3 harg3 arg4 harg4 arg5 harg5 arg6 harg6 arg7 harg7 arg8 harg8 arg9 harg9 arg10 harg10 v16 v263 v551 v567 X3 X9 X10 (arg7.view.writes (Elt F) f7 (S7.2 ++ (S6.2 ++ (S5.2 ++ D7)))) S7.1 (k0_t8_loop i).trips) :
    S8.1.2.2.2.2 = E.singles (i 1) (((i 1).val + 1) % 3)
      ∧ E.Swept' (i 1) ((i 1).val + 1) old (arg7.view.read (Elt F) (arg7.view.writes (Elt F) f7 (S8.2 ++ (S7.2 ++ (S6.2 ++ (S5.2 ++ D7)))))) := by
  have H0 : E.Swept' (i 1) (3 * 0) old (arg7.view.read (Elt F) (arg7.view.writes (Elt F) f7 D7)) := by rw [hold]; exact Env.Swept'.zero E _ _
  obtain ⟨a5, b5⟩ := st5_swept c i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 hu hv hkt hg hs hinit H0 _ (Nat.le_refl _)
  rw [← h5, trips5] at a5 b5
  rw [trips6] at h6
  have h6' : S6 = (S5.1, []) := h6
  subst h6'
  rw [← View.writes_append] at b5
  have e5 : 3 * (((i 1).val + 1) / 3) = ((i 1).val + 1) / 3 * 3 + 0 := by omega
  rw [e5] at a5 b5
  obtain ⟨a7, b7⟩ := st7_swept c i arg2 harg2 arg3 harg3 arg4 harg4 arg5 harg5 arg6 harg6 arg7 harg7 arg8 harg8 arg9 harg9 arg10 harg10 v16 v263 v551 X3 X9 X10 hu hv hkt hg hs (G7 := arg7.view.writes (Elt F) f7 (S5.2 ++ D7)) a5 b5 _ (Nat.le_refl _)
  have h7' : S7 = st_k0_t7 (F := F) Variants.none c none i arg2 harg2 arg3 harg3 arg4 harg4 arg5 harg5 arg6 harg6 arg7 harg7 arg8 harg8 arg9 harg9 arg10 harg10 v16 v263 v551 X3 X9 X10 (arg7.view.writes (Elt F) f7 (S5.2 ++ D7)) S5.1 (k0_t7_loop i).trips := h7
  rw [← h7', trips7] at a7 b7
  rw [trips8] at h8
  have h8' : S8 = (S7.1, []) := h8
  subst h8'
  rw [← View.writes_append] at b7
  have e7 : ((i 1).val + 1) / 3 * 3 + ((i 1).val + 1) % 3 = (i 1).val + 1 := by omega
  rw [e7] at b7
  refine ⟨?_, b7⟩
  show S7.1.2.2.2.2 = _
  rw [a7]; rfl

/-- The same from contents with no stores before them. -/
theorem second_sweep0 {E : Env F} (hu : v16 = k0_pay595) (hv : v263 = stack E.qh) (hkt : E.kt = rows (arg3.view.read (Elt F) X3))
    (hg : ∀ (h : Fin 4) (j : Fin 16), j.val ≤ (i 1).val → slot (arg9.view.read (Elt F) X9) h j = E.g (i 1) h j)
    (hs : ∀ (h : Fin 4) (j : Fin 16), j.val ≤ (i 1).val → slot (arg10.view.read (Elt F) X10) h j = E.s (i 1) h j)
    {f7 : BufTy.Contents (Elt F) arg7.view.ty}
    {init : Cols5 F} (hinit : init = E.cols5 (i 1) 0 zeroTile) {S5 S6 S7 S8 : Cols5 F × LV F}
    (h5 : S5 = st_k0_t5 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 X3 X9 X10 f7 init (k0_t5_loop i).trips)
    (h6 : S6 = st_k0_t6 (F := F) Variants.none c none i arg2 harg2 arg3 harg3 arg4 harg4 arg5 harg5 arg6 harg6 arg7 harg7 arg8 harg8 arg9 harg9 arg10 harg10 arg1 v16 v263 v506 v507 v508 c3_i32_175 v509 v514 v516 c0_i32_179 v530 X3 X9 X10 (arg7.view.writes (Elt F) f7 S5.2) S5.1 (k0_t6_loop i).trips)
    (h7 : S7 = st_k0_t7 (F := F) Variants.none c none i arg2 harg2 arg3 harg3 arg4 harg4 arg5 harg5 arg6 harg6 arg7 harg7 arg8 harg8 arg9 harg9 arg10 harg10 v16 v263 v551 X3 X9 X10 (arg7.view.writes (Elt F) f7 (S6.2 ++ S5.2)) S6.1 (k0_t7_loop i).trips)
    (h8 : S8 = st_k0_t8 (F := F) Variants.none c none i arg2 harg2 arg3 harg3 arg4 harg4 arg5 harg5 arg6 harg6 arg7 harg7 arg8 harg8 arg9 harg9 arg10 harg10 v16 v263 v551 v567 X3 X9 X10 (arg7.view.writes (Elt F) f7 (S7.2 ++ (S6.2 ++ S5.2))) S7.1 (k0_t8_loop i).trips) :
    S8.1.2.2.2.2 = E.singles (i 1) (((i 1).val + 1) % 3)
      ∧ E.Swept' (i 1) ((i 1).val + 1) (arg7.view.read (Elt F) f7) (arg7.view.read (Elt F) (arg7.view.writes (Elt F) f7 (S8.2 ++ (S7.2 ++ (S6.2 ++ S5.2))))) := by
  rw [← List.append_nil S5.2] at h6 h7 h8 ⊢
  exact second_sweep c i arg2 harg2 arg3 harg3 arg4 harg4 arg5 harg5 arg6 harg6 arg7 harg7 arg8 harg8 arg9 harg9 arg10 harg10 arg1 v16 v263 v506 v507 v508 c3_i32_175 v509 v514 v516 c0_i32_179 v530 v551 v567 X3 X9 X10 hu hv hkt hg hs (f7 := f7) (D7 := []) rfl hinit h5 h6 h7 h8

end Second

end Cert.Proof.Attn
-- ==== Proof.Attn.Point.lean ====
module

public import proofs.«01_k».proof.Proof.Attn.Whole

/-! What one grid point of the attention backward body leaves, against its plain description. -/

@[expose] public section

set_option maxRecDepth 8192
set_option maxHeartbeats 4000000

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a grid point reads, from the four operand blocks. -/
def envAt (x2 : Vec F S256x256 .bf16) (x3 x4 : Vec F S4096x256 .bf16) (x5 : Vec F S256x256 .bf16) : Env F :=
  ⟨k0_pay594, headOf (shapeCast S256x256 x2 shapeCasts_S256x256_S256x256), headOf (shapeCast S256x256 x5 shapeCasts_S256x256_S256x256), rows x3, rows x4⟩

/-- A sweep may be restated at an equal environment. -/
theorem Env.Swept.of_eq {e e' : Env F} (h : e = e') {i : Fin 16} {p : ℕ} {old old' x : S4096x256.Idx → F .f32} (ho : old = old') {xg xs : S4x16x256x256.Idx → F .bf16}
    (H : e.Swept i p old x xg xs) : e'.Swept i p old' x xg xs := by subst h ho; exact H

/-! ### The diagonal tile -/

/-- The row sums, the weights and the shares of the diagonal tile, from its keys. -/
def startHeld (q : Fin 4 → FVec F S256x256 .bf16) (kt : FVec F S256x256 .bf16) (h : Fin 4) : FVec F S256x1 .f32 :=
  addf zeroCol (rowSum (cut true (softplus (dots (q h) kt))))
def startW (u : FVec F S256x256 .bf16) (q : Fin 4 → FVec F S256x256 .bf16) (kt : FVec F S256x256 .bf16) (h : Fin 4) : FVec F S256x256 .f32 :=
  weight u true (dots (q h) kt) zeroCol
def startS (q : Fin 4 → FVec F S256x256 .bf16) (kt : FVec F S256x256 .bf16) (h : Fin 4) : FVec F S1x1x256x256 .bf16 := keptS true (dots (q h) kt)

/-- The diagonal tile's row sums are the environment's. -/
theorem Env.start_cols {e : Env F} {I : Fin 16} {K : FVec F S256x256 .bf16} (hK : K = e.kt I) :
    (startHeld e.qh K 0, startHeld e.qh K 1, startHeld e.qh K 2, startHeld e.qh K 3) = e.cols I 1 := by
  have h : Fin.ofNat 16 (I.val - 0) = I := Fin.ext (by have := I.isLt; show (I.val - 0) % 16 = _; omega)
  have key : ∀ h, startHeld e.qh K h = e.held I h 1 := fun m => by
    unfold Env.held Env.z; rw [h, hK]; rfl
  unfold Env.cols
  rw [key, key, key, key]

/-- The diagonal tile's weights are the environment's. -/
theorem Env.start_w {e : Env F} {I : Fin 16} {K : FVec F S256x256 .bf16} (hK : K = e.kt I) (h : Fin 4) : startW e.above e.qh K h = e.w I h I := by
  have h0 : I.val - I.val = 0 := Nat.sub_self _
  unfold Env.w Env.z; rw [h0, hK]; rfl

/-- The diagonal tile's shares are the environment's. -/
theorem Env.start_s {e : Env F} {I : Fin 16} {K : FVec F S256x256 .bf16} (hK : K = e.kt I) (h : Fin 4) : startS e.qh K h = e.s I h I := by
  have h0 : I.val - I.val = 0 := Nat.sub_self _
  unfold Env.s Env.z; rw [h0, hK]; rfl

/-- The stores of the diagonal tile begin the first sweep. -/
theorem Env.Swept.start {e : Env F} {I : Fin 16} {v8 : View sig .tc .vmem S4096x256 .f32} {v9 v10 : View sig .tc .vmem S4x16x256x256 .bf16}
    {f8 : BufTy.Contents (Elt F) v8.ty} {f9 : BufTy.Contents (Elt F) v9.ty} {f10 : BufTy.Contents (Elt F) v10.ty} {L8 : LV F}
    {off : Fin 2 → ℕ} (o : off = ![256 * I.val, 0]) (inb : ∀ a, off a + S256x256.size a ≤ S4096x256.size a)
    {o0 o1 o2 o3 : Fin 4 → ℕ} (q0 : o0 = ![0, I.val, 0, 0]) (q1 : o1 = ![1, I.val, 0, 0]) (q2 : o2 = ![2, I.val, 0, 0]) (q3 : o3 = ![3, I.val, 0, 0])
    (i0 : ∀ a, o0 a + S1x1x256x256.size a ≤ S4x16x256x256.size a) (i1 : ∀ a, o1 a + S1x1x256x256.size a ≤ S4x16x256x256.size a)
    (i2 : ∀ a, o2 a + S1x1x256x256.size a ≤ S4x16x256x256.size a) (i3 : ∀ a, o3 a + S1x1x256x256.size a ≤ S4x16x256x256.size a)
    {K V : FVec F S256x256 .bf16} (hK : K = e.kt I) (hV : V = e.vt I) {x : FVec F S256x256 .f32} {g0 g1 g2 g3 s0 s1 s2 s3 : FVec F S1x1x256x256 .bf16}
    (hx : x = addInto (v8.readAt (Elt F) (Rect.unit (s := S4096x256) off S256x256.size inb).toLoadRect (v8.writes (Elt F) f8 L8))
      (fun h => truncf .bf16 (startW e.above e.qh K h) bitsLt_bf16_f32) (stack e.oh))
    (hg0 : g0 = someG e.oh V (startW e.above e.qh K) 0) (hg1 : g1 = someG e.oh V (startW e.above e.qh K) 1)
    (hg2 : g2 = someG e.oh V (startW e.above e.qh K) 2) (hg3 : g3 = someG e.oh V (startW e.above e.qh K) 3)
    (hs0 : s0 = startS e.qh K 0) (hs1 : s1 = startS e.qh K 1) (hs2 : s2 = startS e.qh K 2) (hs3 : s3 = startS e.qh K 3) :
    e.Swept I 1 (v8.read (Elt F) (v8.writes (Elt F) f8 L8)) (v8.read (Elt F) (v8.writes (Elt F) f8 (⟨Rect.unit (s := S4096x256) off S256x256.size inb, x⟩ :: L8)))
      (v9.read (Elt F) (v9.writes (Elt F) f9 [⟨Rect.unit (s := S4x16x256x256) o3 S1x1x256x256.size i3, g3⟩, ⟨Rect.unit (s := S4x16x256x256) o2 S1x1x256x256.size i2, g2⟩, ⟨Rect.unit (s := S4x16x256x256) o1 S1x1x256x256.size i1, g1⟩, ⟨Rect.unit (s := S4x16x256x256) o0 S1x1x256x256.size i0, g0⟩]))
      (v10.read (Elt F) (v10.writes (Elt F) f10 [⟨Rect.unit (s := S4x16x256x256) o3 S1x1x256x256.size i3, s3⟩, ⟨Rect.unit (s := S4x16x256x256) o2 S1x1x256x256.size i2, s2⟩, ⟨Rect.unit (s := S4x16x256x256) o1 S1x1x256x256.size i1, s1⟩, ⟨Rect.unit (s := S4x16x256x256) o0 S1x1x256x256.size i0, s0⟩])) := by
  have w : ∀ h, startW e.above e.qh K h = e.w I h I := Env.start_w hK
  subst hg0 hg1 hg2 hg3 hs0 hs1 hs2 hs3
  exact Env.Swept.store (f8 := f8) (f9 := f9) (f10 := f10) (L8 := L8) (L9 := []) (L10 := []) (Env.Swept.zero e I _ _ _) (j := I) rfl o inb q0 q1 q2 q3 i0 i1 i2 i3
    (g := fun h => someG e.oh V (startW e.above e.qh K) h) (s := fun h => startS e.qh K h)
    (by rw [hx]; unfold Env.newV; simp only [w])
    (fun h => by unfold someG Env.g Env.a; rw [w, hV])
    (fun h => Env.start_s hK h)

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S4096x256 .f32) (harg7 : arg7.IsWhole) (arg8 : Memref sig .tc .vmem S4096x256 .f32) (harg8 : arg8.IsWhole) (arg9 : Memref sig .tc .vmem S4x16x256x256 .bf16) (harg9 : arg9.IsWhole) (arg10 : Memref sig .tc .vmem S4x16x256x256 .bf16) (harg10 : arg10.IsWhole)
  (x2 : Vec F S256x256 .bf16) (x3 x4 : Vec F S4096x256 .bf16) (x5 : Vec F S256x256 .bf16)

/-- A block read through its buffer, one head's lanes of it. -/
theorem qh_eq (a : Memref sig .tc .vmem S256x256 .bf16) (ha : a.IsWhole) (x : Vec F S256x256 .bf16) :
    ![headOf (shapeCast S256x256 (a.view.readAt (Elt F) (Rect.unit (s := S256x256) ![0, 0] S256x256.size inb_S256x256_S256x256_0_0).toLoadRect (ha.unread x)) shapeCasts_S256x256_S256x256) 0, headOf (shapeCast S256x256 (a.view.readAt (Elt F) (Rect.unit (s := S256x256) ![0, 0] S256x256.size inb_S256x256_S256x256_0_0).toLoadRect (ha.unread x)) shapeCasts_S256x256_S256x256) 1, headOf (shapeCast S256x256 (a.view.readAt (Elt F) (Rect.unit (s := S256x256) ![0, 0] S256x256.size inb_S256x256_S256x256_0_0).toLoadRect (ha.unread x)) shapeCasts_S256x256_S256x256) 2, headOf (shapeCast S256x256 (a.view.readAt (Elt F) (Rect.unit (s := S256x256) ![0, 0] S256x256.size inb_S256x256_S256x256_0_0).toLoadRect (ha.unread x)) shapeCasts_S256x256_S256x256) 3] = headOf (shapeCast S256x256 x shapeCasts_S256x256_S256x256) := by
  have hx : a.view.readAt (Elt F) (Rect.unit (s := S256x256) ![0, 0] S256x256.size inb_S256x256_S256x256_0_0).toLoadRect (ha.unread x) = x := (View.readAt_full _ _ _).trans (ha.read_unread _)
  rw [hx]; funext h; fin_cases h <;> rfl

/-- A finished second sweep leaves the query gradient's block and the key gradient's step. -/
theorem Env.leaves {e : Env F} {I : Fin 16} {old x : S4096x256.Idx → F .f32} {S : Cols5 F} {y : (f6 : BufTy.Contents (Elt F) arg6.view.ty) → FVec F S256x256 .bf16} (hy : ∀ f6, y f6 = k0_pay3 S.2.2.2.2)
    (H : S.2.2.2.2 = e.singles I ((I.val + 1) % 3) ∧ e.Swept' I (I.val + 1) old x) : (∀ f6, y f6 = e.dq I) ∧ e.Swept' I (I.val + 1) old x :=
  ⟨fun f6 => by rw [hy, H.1]; rfl, H.2⟩

/-- The first sweep at a grid point that does not begin a group of heads: the value gradient. -/
theorem firstB (hc : ¬Zeroing i) (f7 : BufTy.Contents (Elt F) arg7.view.ty) (f8 : BufTy.Contents (Elt F) arg8.view.ty) (f9 : BufTy.Contents (Elt F) arg9.view.ty) (f10 : BufTy.Contents (Elt F) arg10.view.ty) :
    (envAt x2 x3 x4 x5).Swept (i 1) ((i 1).val + 1) (arg8.view.read (Elt F) f8) (arg8.view.read (Elt F) (runB c i arg2 harg2 arg3 harg3 arg4 harg4 arg5 harg5 arg6 harg6 arg7 harg7 arg8 harg8 arg9 harg9 arg10 harg10 x2 x3 x4 x5 (F := F) hc f7 f8 f9 f10).2.2.1) (arg9.view.read (Elt F) (runB c i arg2 harg2 arg3 harg3 arg4 harg4 arg5 harg5 arg6 harg6 arg7 harg7 arg8 harg8 arg9 harg9 arg10 harg10 x2 x3 x4 x5 (F := F) hc f7 f8 f9 f10).2.2.2.1) (arg10.view.read (Elt F) (runB c i arg2 harg2 arg3 harg3 arg4 harg4 arg5 harg5 arg6 harg6 arg7 harg7 arg8 harg8 arg9 harg9 arg10 harg10 x2 x3 x4 x5 (F := F) hc f7 f8 f9 f10).2.2.2.2.1) := by
  delta runB
  dsimp only
  have hK : arg3.view.readAt (Elt F) (Rect.unit (s := S4096x256) (k0_off1 i) S256x256.size (k0_off1_inb i)).toLoadRect (harg3.unread x3) = rows (arg3.view.read (Elt F) (harg3.unread x3)) (i 1) := View.readAt_unit _ _ _ (off1_eq i) _
  have hV : arg4.view.readAt (Elt F) (Rect.unit (s := S4096x256) (k0_off1 i) S256x256.size (k0_off1_inb i)).toLoadRect (harg4.unread x4) = rows (arg4.view.read (Elt F) (harg4.unread x4)) (i 1) := View.readAt_unit _ _ _ (off1_eq i) _
  refine Env.Swept.of_eq (e := envOf arg3 arg4 (harg3.unread x3) (harg4.unread x4) k0_pay594 ![_, _, _, _] ![_, _, _, _]) ?he (old := _) rfl
    (first_sweep c i arg2 harg2 arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ _ _ ?hv (D8 := [_]) (D9 := [_, _, _, _]) (D10 := [_, _, _, _]) ?H ?hinit rfl rfl)
  case he =>
    unfold envOf envAt
    rw [harg3.read_unread, harg4.read_unread]
    congr 1
    · exact qh_eq arg2 harg2 x2
    · exact qh_eq arg5 harg5 x5
  case hv => rfl
  case hinit =>
    refine Eq.trans ?_ (Env.start_cols (e := envOf arg3 arg4 (harg3.unread x3) (harg4.unread x4) _ _ _) (I := i 1) hK)
    rfl
  case H =>
    refine Env.Swept.start (I := i 1) (L8 := []) (off1_eq i) (k0_off1_inb i) (off2_eq i) (off3_eq i) (off4_eq i) (off5_eq i) (k0_off2_inb i) (k0_off3_inb i) (k0_off4_inb i) (k0_off5_inb i) hK hV
      ?x ?g0 ?g1 ?g2 ?g3 ?s0 ?s1 ?s2 ?s3
    case s0 => rfl
    case s1 => rfl
    case s2 => rfl
    case s3 => rfl
    case g0 => rfl
    case g1 => rfl
    case g2 => rfl
    case g3 => rfl
    case x => rfl

/-- The second sweep at such a point: the query and key gradients. -/
theorem secondB (hc : ¬Zeroing i) (f7 : BufTy.Contents (Elt F) arg7.view.ty) (f8 : BufTy.Contents (Elt F) arg8.view.ty) (f9 : BufTy.Contents (Elt F) arg9.view.ty) (f10 : BufTy.Contents (Elt F) arg10.view.ty) :
    (∀ f6 : BufTy.Contents (Elt F) arg6.view.ty, arg6.view.read (Elt F) (arg6.view.writes (Elt F) f6 (runB c i arg2 harg2 arg3 harg3 arg4 harg4 arg5 harg5 arg6 harg6 arg7 harg7 arg8 harg8 arg9 harg9 arg10 harg10 x2 x3 x4 x5 (F := F) hc f7 f8 f9 f10).1) = (envAt x2 x3 x4 x5).dq (i 1))
      ∧ (envAt x2 x3 x4 x5).Swept' (i 1) ((i 1).val + 1) (arg7.view.read (Elt F) f7) (arg7.view.read (Elt F) (runB c i arg2 harg2 arg3 harg3 arg4 harg4 arg5 harg5 arg6 harg6 arg7 harg7 arg8 harg8 arg9 harg9 arg10 harg10 x2 x3 x4 x5 (F := F) hc f7 f8 f9 f10).2.1) := by
  have H := firstB c i arg2 harg2 arg3 harg3 arg4 harg4 arg5 harg5 arg6 harg6 arg7 harg7 arg8 harg8 arg9 harg9 arg10 harg10 x2 x3 x4 x5 (F := F) hc f7 f8 f9 f10
  have Hg := H.g
  have Hs := H.s
  clear H
  delta runB
  dsimp only
  refine Env.leaves arg6 ?hy (second_sweep0 c i arg2 harg2 arg3 harg3 arg4 harg4 arg5 harg5 arg6 harg6 arg7 harg7 arg8 harg8 arg9 harg9 arg10 harg10 _ _ _ _ _ _ _ _ _ _ _ _ _ _ _ _ _ ?hu ?hv ?hkt ?hg ?hs ?hinit rfl rfl rfl rfl)
  case hy => exact fun f6 => View.read_writes_full _ _ _ _ _
  case hg => exact fun h j hj => Hg h j hj (by omega)
  case hs => exact fun h j hj => Hs h j hj (by omega)
  case hu => rfl
  case hv => exact congrArg stack (qh_eq arg2 harg2 x2)
  case hkt => exact congrArg rows (harg3.read_unread x3).symm
  case hinit => rfl

/-- The first sweep at a grid point that begins a group of heads, over the zeroed gradients. -/
theorem firstA (hc : Zeroing i) (f7 : BufTy.Contents (Elt F) arg7.view.ty) (f8 : BufTy.Contents (Elt F) arg8.view.ty) (f9 : BufTy.Contents (Elt F) arg9.view.ty) (f10 : BufTy.Contents (Elt F) arg10.view.ty) :
    (envAt x2 x3 x4 x5).Swept (i 1) ((i 1).val + 1) (k0_pay593) (arg8.view.read (Elt F) (runA c i arg2 harg2 arg3 harg3 arg4 harg4 arg5 harg5 arg6 harg6 arg7 harg7 arg8 harg8 arg9 harg9 arg10 harg10 x2 x3 x4 x5 (F := F) hc f7 f8 f9 f10).2.2.1) (arg9.view.read (Elt F) (runA c i arg2 harg2 arg3 harg3 arg4 harg4 arg5 harg5 arg6 harg6 arg7 harg7 arg8 harg8 arg9 harg9 arg10 harg10 x2 x3 x4 x5 (F := F) hc f7 f8 f9 f10).2.2.2.1) (arg10.view.read (Elt F) (runA c i arg2 harg2 arg3 harg3 arg4 harg4 arg5 harg5 arg6 harg6 arg7 harg7 arg8 harg8 arg9 harg9 arg10 harg10 x2 x3 x4 x5 (F := F) hc f7 f8 f9 f10).2.2.2.2.1) := by
  delta runA
  dsimp only
  have hK : arg3.view.readAt (Elt F) (Rect.unit (s := S4096x256) (k0_off1 i) S256x256.size (k0_off1_inb i)).toLoadRect (harg3.unread x3) = rows (arg3.view.read (Elt F) (harg3.unread x3)) (i 1) := View.readAt_unit _ _ _ (off1_eq i) _
  have hV : arg4.view.readAt (Elt F) (Rect.unit (s := S4096x256) (k0_off1 i) S256x256.size (k0_off1_inb i)).toLoadRect (harg4.unread x4) = rows (arg4.view.read (Elt F) (harg4.unread x4)) (i 1) := View.readAt_unit _ _ _ (off1_eq i) _
  refine Env.Swept.of_eq (e := envOf arg3 arg4 (harg3.unread x3) (harg4.unread x4) k0_pay594 ![_, _, _, _] ![_, _, _, _]) ?he (old := arg8.view.read (Elt F) (arg8.view.writes (Elt F) arg8.view.junk runA.sl.H8_1)) ?ho
    (first_sweep c i arg2 harg2 arg3 harg3 arg4 harg4 arg5 harg5 arg6 harg6 arg7 harg7 arg8 harg8 arg9 harg9 arg10 harg10 _ _ _ _ _ _ _ _ _ _ _ _ _ _ _ _ _ _ _ _ _ _ _ _ _ _ _ _ _ _ _ _ _ ?hv (D8 := _ :: _) (D9 := [_, _, _, _]) (D10 := [_, _, _, _]) ?H ?hinit rfl rfl)
  case he =>
    unfold envOf envAt
    rw [harg3.read_unread, harg4.read_unread]
    congr 1
    · exact qh_eq arg2 harg2 x2
    · exact qh_eq arg5 harg5 x5
  case hv => rfl
  case hinit =>
    refine Eq.trans ?_ (Env.start_cols (e := envOf arg3 arg4 (harg3.unread x3) (harg4.unread x4) _ _ _) (I := i 1) hK)
    rfl
  case H =>
    refine Env.Swept.start (I := i 1) (L8 := _) (off1_eq i) (k0_off1_inb i) (off2_eq i) (off3_eq i) (off4_eq i) (off5_eq i) (k0_off2_inb i) (k0_off3_inb i) (k0_off4_inb i) (k0_off5_inb i) hK hV
      ?x ?g0 ?g1 ?g2 ?g3 ?s0 ?s1 ?s2 ?s3
    case s0 => rfl
    case s1 => rfl
    case s2 => rfl
    case s3 => rfl
    case g0 => rfl
    case g1 => rfl
    case g2 => rfl
    case g3 => rfl
    case x => rfl
  case ho => exact View.read_writes_full _ _ _ _ _

/-- The second sweep at such a point. -/
theorem secondA (hc : Zeroing i) (f7 : BufTy.Contents (Elt F) arg7.view.ty) (f8 : BufTy.Contents (Elt F) arg8.view.ty) (f9 : BufTy.Contents (Elt F) arg9.view.ty) (f10 : BufTy.Contents (Elt F) arg10.view.ty) :
    (∀ f6 : BufTy.Contents (Elt F) arg6.view.ty, arg6.view.read (Elt F) (arg6.view.writes (Elt F) f6 (runA c i arg2 harg2 arg3 harg3 arg4 harg4 arg5 harg5 arg6 harg6 arg7 harg7 arg8 harg8 arg9 harg9 arg10 harg10 x2 x3 x4 x5 (F := F) hc f7 f8 f9 f10).1) = (envAt x2 x3 x4 x5).dq (i 1))
      ∧ (envAt x2 x3 x4 x5).Swept' (i 1) ((i 1).val + 1) (k0_pay592) (arg7.view.read (Elt F) (runA c i arg2 harg2 arg3 harg3 arg4 harg4 arg5 harg5 arg6 harg6 arg7 harg7 arg8 harg8 arg9 harg9 arg10 harg10 x2 x3 x4 x5 (F := F) hc f7 f8 f9 f10).2.1) := by
  have H := firstA c i arg2 harg2 arg3 harg3 arg4 harg4 arg5 harg5 arg6 harg6 arg7 harg7 arg8 harg8 arg9 harg9 arg10 harg10 x2 x3 x4 x5 (F := F) hc f7 f8 f9 f10
  have Hg := H.g
  have Hs := H.s
  clear H
  delta runA
  dsimp only
  refine Env.leaves arg6 ?hy (second_sweep c i arg2 harg2 arg3 harg3 arg4 harg4 arg5 harg5 arg6 harg6 arg7 harg7 arg8 harg8 arg9 harg9 arg10 harg10 _ _ _ _ _ _ _ _ _ _ _ _ _ _ _ _ _ ?hu ?hv ?hkt ?hg ?hs (D7 := _) ?ho ?hinit rfl rfl rfl rfl)
  case hy => exact fun f6 => View.read_writes_full _ _ _ _ _
  case hg => exact fun h j hj => Hg h j hj (by omega)
  case hs => exact fun h j hj => Hs h j hj (by omega)
  case hu => rfl
  case hv => exact congrArg stack (qh_eq arg2 harg2 x2)
  case hkt => exact congrArg rows (harg3.read_unread x3).symm
  case hinit => rfl
  case ho => exact View.read_writes_full _ _ _ _ _

end Cert.Proof.Attn
-- ==== Proof.Attn.Body.lean ====
module

public import proofs.«01_k».proof.Proof.Attn.Point
public import proofs.«01_k».proof.Proof.Gen.AttnIdeal.Frame
public import Idealize.ShloMosaic.Lib.Claim

/-! The frame of the attention backward kernel: what every grid point leaves in the three gradients' buffers, as a
function of the blocks it reads and of what the point before left, and the launch run on the body's runs. -/

@[expose] public section

set_option maxRecDepth 8192

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The matrix of 4096 rows whose tiles are given. -/
def glue {α : Type} (f : Fin 16 → S256x256.Idx → α) : S4096x256.Idx → α := fun y =>
  f ⟨(y (0 : Fin 2)).val / 256, by have : (y (0 : Fin 2)).val < 4096 := (y (0 : Fin 2)).isLt; omega⟩
    (Fin.cons (⟨(y (0 : Fin 2)).val % 256, Nat.mod_lt _ (by omega)⟩ : Fin 256) (Fin.cons (y (1 : Fin 2) : Fin 256) finZeroElim))

/-- A tile of the matrix made of tiles. -/
theorem rows_glue {α : Type} (f : Fin 16 → S256x256.Idx → α) (j : Fin 16) : rows (glue f) j = f j := by
  funext y
  have h0 : (y (0 : Fin 2)).val < 256 := (y (0 : Fin 2)).isLt
  have hv : 256 * j.val + 1 * (y (0 : Fin 2)).val = 256 * j.val + (y (0 : Fin 2)).val := by omega
  have key : ∀ (a : Fin 16) (b : S256x256.Idx), a = j → b = y → f a b = f j y := by rintro _ _ rfl rfl; rfl
  refine key _ _ (Fin.ext ?_) (funext fun a => Fin.ext ?_)
  · show (256 * j.val + 1 * (y (0 : Fin 2)).val) / 256 = j.val
    omega
  · fin_cases a
    · show (256 * j.val + 1 * (y (0 : Fin 2)).val) % 256 = (y (0 : Fin 2)).val
      omega
    · show 0 + 1 * (y (1 : Fin 2)).val = (y (1 : Fin 2)).val
      omega

/-- The value and key gradients after grid point `i`: the tiles up to the point's are added to. -/
def stepV (e : Env F) (i : Fin 16) (old : S4096x256.Idx → F .f32) : S4096x256.Idx → F .f32 :=
  glue fun j => if j.val ≤ i.val then e.newV i j (rows old j) else rows old j
def stepK (e : Env F) (i : Fin 16) (old : S4096x256.Idx → F .f32) : S4096x256.Idx → F .f32 :=
  glue fun j => if j.val ≤ i.val then e.newK i j (rows old j) else rows old j

/-- A finished first sweep is the value gradient's step, a finished second one the key gradient's. -/
theorem Env.Swept.eq_stepV {e : Env F} {i : Fin 16} {old x : S4096x256.Idx → F .f32} {xg xs : S4x16x256x256.Idx → F .bf16}
    (H : e.Swept i (i.val + 1) old x xg xs) : x = stepV e i old := by
  refine ext_rows fun j => ?_
  unfold stepV
  rw [rows_glue]
  split
  · next h => exact H.done j h (by omega)
  · next h => exact H.rest j (by omega)

theorem Env.Swept'.eq_stepK {e : Env F} {i : Fin 16} {old x : S4096x256.Idx → F .f32} (H : e.Swept' i (i.val + 1) old x) :
    x = stepK e i old := by
  refine ext_rows fun j => ?_
  unfold stepK
  rw [rows_glue]
  split
  · next h => exact H.done j (by omega)
  · next h => exact H.rest j (by omega)

variable (m : (ℓ : Loc nD τ sig) → Buf (Elt F) ℓ) (ρ : Dev nD → PrngReg)

/-- What grid point `t` reads, and the query tile it works on. -/
def env (c : Dev nD) (t : Fin cfg0.N) : Env F := envAt (iblk m c 0 t) (iblk m c 1 t) (iblk m c 2 t) (iblk m c 3 t)
def tile (t : Fin cfg0.N) : Fin 16 := grid0.coords t 1

/-- What grid point `t` leaves in the three gradients' buffers, from what the key and value gradients held. -/
def leaves (c : Dev nD) (t : Fin cfg0.N) (k v : S4096x256.Idx → F .f32) :
    FVec F S256x256 .bf16 × (S4096x256.Idx → F .f32) × (S4096x256.Idx → F .f32) :=
  ((env m c t).dq (tile t), stepK (env m c t) (tile t) k, stepV (env m c t) (tile t) v)

/-- The three gradients' buffers after grid point `n`: the key and value gradients begin at zero with each group of
heads. -/
def outs (c : Dev nD) : (n : ℕ) → n < cfg0.N → FVec F S256x256 .bf16 × (S4096x256.Idx → F .f32) × (S4096x256.Idx → F .f32)
  | 0, hn => leaves m c ⟨0, hn⟩ k0_pay592 k0_pay593
  | n + 1, hn =>
    if (n + 1) % 16 = 0 then leaves m c ⟨n + 1, hn⟩ k0_pay592 k0_pay593
    else leaves m c ⟨n + 1, hn⟩ (outs c n (Nat.lt_of_succ_lt hn)).2.1 (outs c n (Nat.lt_of_succ_lt hn)).2.2

/-- What the buffers hold after a grid point that begins a group of heads, and after one that does not. -/
theorem outs_zero (c : Dev nD) (t : Fin cfg0.N) (h : t.val % 16 = 0) : outs m c t.val t.isLt = leaves m c t k0_pay592 k0_pay593 := by
  obtain ⟨n, hn⟩ := t
  cases n with
  | zero => rfl
  | succ n => exact if_pos h

theorem outs_succ (c : Dev nD) (t : Fin cfg0.N) (h : ¬t.val % 16 = 0) :
    outs m c t.val t.isLt = leaves m c t (outs m c (t.val - 1) (Nat.lt_of_le_of_lt (Nat.sub_le _ _) t.isLt)).2.1
      (outs m c (t.val - 1) (Nat.lt_of_le_of_lt (Nat.sub_le _ _) t.isLt)).2.2 := by
  obtain ⟨n, hn⟩ := t
  cases n with
  | zero => exact absurd (Nat.zero_mod _) h
  | succ n => exact if_neg h

/-- The key and value gradients are zeroed at the first query tile of a group of heads. -/
theorem zeroing_at : ∀ t : Fin cfg0.N, Zeroing (grid0.coords t) ↔ t.val % 16 = 0 := fun t =>
  (zeroing_iff _).trans ((by decide +kernel : ∀ t : Fin grid0.N, (grid0.coords t 1).val = 0 ↔ t.val % 16 = 0) t)

/-- The staging buffers at a grid point. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)

/-- The pipeline's proof data: the arrays as the region finds them, each operand's buffer at its block after every
point, each gradient's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2.1
    | ⟨6, _⟩ => (outs m c t.val t.isLt).2.2
  Φ _ := Pipeline.ΦA spec0 c
  q w := Pipeline.shareOf spec0 w
  owed _ := 0

/-- The proof data's arrays are the ones the region finds; its buffers are as `dats` lists them. -/
theorem A_eq (c : Dev nD) (w : Fin cfg0.W) : (dats m 0 c).A w = V m c (Pipeline.arrRef spec0 w) := by
  dsimp only [dats]

/-- Each buffer after, and before, a grid point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outs m c t.val t.isLt).1 := by dsimp only [dats]
theorem after0_5 (c : Dev nD) (t : Fin cfg0.N) : (dats m 0 c).after 5 t = (outs m c t.val t.isLt).2.1 := by dsimp only [dats]
theorem after0_6 (c : Dev nD) (t : Fin cfg0.N) : (dats m 0 c).after 6 t = (outs m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Within a group of heads the key and value gradients' buffers hold what the point before left. -/
theorem before0_5 (c : Dev nD) (t : Fin cfg0.N) (h : ¬t.val % 16 = 0) (d) :
    (dats m 0 c).before 5 t d = (outs m c (t.val - 1) (Nat.lt_of_le_of_lt (Nat.sub_le _ _) t.isLt)).2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
theorem before0_6 (c : Dev nD) (t : Fin cfg0.N) (h : ¬t.val % 16 = 0) (d) :
    (dats m 0 c).before 6 t d = (outs m c (t.val - 1) (Nat.lt_of_le_of_lt (Nat.sub_le _ _) t.isLt)).2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- An owned buffer is its points-to at some contents of the value read. -/
theorem owns_open (c : Dev nD) {s : Shape} {e : EltTy} (M : Memref sig .tc .vmem s e) (X : s.Idx → Elt F e) :
    (owns (c : Thread nD τ) M fullShare X : sProp 𝕄)
      = iprop(∃ f : BufTy.Contents (Elt F) M.view.ty, ⌜M.view.read (Elt F) f = X⌝ ∗ (M.view.loc (c : Thread nD τ) ↦[M.view.set]{fullShare} f)) := rfl

set_option maxHeartbeats 1600000 in
/-- The body at any point, from the two runs and what they leave. -/
theorem sound_body (c : Dev nD) (t : Fin cfg0.N) :
    bodyPre m c t ⊢ wp frame (wpE (defs₀ (F := F)) Variants.none c none) Set.univ (bodyAt0 t) (fun _ => bodyPost m c t) := by
  have w9 := View.set_whole (κ := .tc) cc0_scratch0
  have w10 := View.set_whole (κ := .tc) cc0_scratch1
  have o4 := owns_open (F := F) c (ms0_4 t)
  have o5 := owns_open (F := F) c (ms0_5 t)
  have o6 := owns_open (F := F) c (ms0_6 t)
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6]
  unfold Pipeline.ΦA
  rw [scopedRest0_eq]
  by_cases h : t.val % 16 = 0
  · rw [outs_zero m c t h]
    unfold leaves; dsimp only; simp only [o4, o5, o6]
    iintro ⟨⟨⟨⟨%f9, H9⟩, ⟨%f10, H10⟩⟩, Hp⟩, Ho, ⟨%d0, H0⟩, ⟨%d1, H1⟩, ⟨%d2, H2⟩, ⟨%d3, H3⟩, ⟨%d4, ⟨%f6, %e6, H4⟩⟩, ⟨%d5, ⟨%f7, %e7, H5⟩⟩, ⟨%d6, ⟨%f8, %e8, H6⟩⟩⟩
    have hs := secondA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (iblk m c 0 t) (iblk m c 1 t) (iblk m c 2 t) (iblk m c 3 t) ((zeroing_at t).mpr h) f7 f8 f9 f10
    have hf := firstA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (iblk m c 0 t) (iblk m c 1 t) (iblk m c 2 t) (iblk m c 3 t) ((zeroing_at t).mpr h) f7 f8 f9 f10
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (iblk m c 0 t) (iblk m c 1 t) (iblk m c 2 t) (iblk m c 3 t) ((zeroing_at t).mpr h) f7 f8 f9 f10).2.2.2.2.2 Set.univ f6 _)
    isplitl [H0 H1 H2 H3 H4 H5 H6 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]
      · rw [w9]; iexact H9
      · rw [w10]; iexact H10
    iintro ⟨H0, H1, H2, H3, H4, H5, H6, H9, H10⟩
    isplitl [H9 H10 Hp]
    · isplitl [H9 H10]
      · isplitl [H9]
        · rw [w9]; iexists _; iexact H9
        · rw [w10]; iexists _; iexact H10
      · iexact Hp
    isplitl [Ho]; · iexact Ho
    isplitl [H0]; · iexact H0
    isplitl [H1]; · iexact H1
    isplitl [H2]; · iexact H2
    isplitl [H3]; · iexact H3
    isplitl [H4]
    · iexists _; isplitr
      swap; · iexact H4
      ipureintro; exact hs.1 f6
    isplitl [H5]
    · iexists _; isplitr
      swap; · iexact H5
      ipureintro; exact hs.2.eq_stepK
    iexists _; isplitr
    swap; · iexact H6
    ipureintro; exact hf.eq_stepV

  · rw [outs_succ m c t h]
    simp only [before0_5 m c t h, before0_6 m c t h]
    unfold leaves; dsimp only; simp only [o4, o5, o6]
    iintro ⟨⟨⟨⟨%f9, H9⟩, ⟨%f10, H10⟩⟩, Hp⟩, Ho, ⟨%d0, H0⟩, ⟨%d1, H1⟩, ⟨%d2, H2⟩, ⟨%d3, H3⟩, ⟨%d4, ⟨%f6, %e6, H4⟩⟩, ⟨%d5, ⟨%f7, %e7, H5⟩⟩, ⟨%d6, ⟨%f8, %e8, H6⟩⟩⟩
    have hs := secondB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (iblk m c 0 t) (iblk m c 1 t) (iblk m c 2 t) (iblk m c 3 t) (fun hz => h ((zeroing_at t).mp hz)) f7 f8 f9 f10
    have hf := firstB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (iblk m c 0 t) (iblk m c 1 t) (iblk m c 2 t) (iblk m c 3 t) (fun hz => h ((zeroing_at t).mp hz)) f7 f8 f9 f10
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.isWhole_whole _) (Memref.whole cc0_scratch1) (Memref.isWhole_whole _) (iblk m c 0 t) (iblk m c 1 t) (iblk m c 2 t) (iblk m c 3 t) (fun hz => h ((zeroing_at t).mp hz)) f7 f8 f9 f10).2.2.2.2.2 Set.univ f6 _)
    isplitl [H0 H1 H2 H3 H4 H5 H6 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H9]
      · rw [w9]; iexact H9
      · rw [w10]; iexact H10
    iintro ⟨H0, H1, H2, H3, H4, H5, H6, H9, H10⟩
    isplitl [H9 H10 Hp]
    · isplitl [H9 H10]
      · isplitl [H9]
        · rw [w9]; iexists _; iexact H9
        · rw [w10]; iexists _; iexact H10
      · iexact Hp
    isplitl [Ho]; · iexact Ho
    isplitl [H0]; · iexact H0
    isplitl [H1]; · iexact H1
    isplitl [H2]; · iexact H2
    isplitl [H3]; · iexact H3
    isplitl [H4]
    · iexists _; isplitr
      swap; · iexact H4
      ipureintro; exact hs.1 f6
    isplitl [H5]
    · iexists _; isplitr
      swap; · iexact H5
      ipureintro; exact (hs.2.eq_stepK).trans (congrArg (stepK _ _) e7)
    iexists _; isplitr
    swap; · iexact H6
    ipureintro; exact hf.eq_stepV.trans (congrArg (stepV _ _) e8)

/-- The region's body is the kernel's body at the grid point. -/
theorem defs₀_row (t : Fin cfg0.N) :
    defs₀ (F := F) .tc cfg0.body (cfg0.bodyArgs t (cfg0.slots t)) = bodyAt0 t := by
  unfold defs₀; rw [Defs.onTc_tc]

/-- The pipeline's demand of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends with the arrays the proof data give and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they began and the semaphore counters at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Attn
-- ==== Proof.Attn.Value.lean ====
module

public import proofs.«01_k».proof.Proof.Attn.EnvValue
public import proofs.«01_k».proof.Proof.Attn.Body
public import Idealize.ShloMosaic.Lib.Pipeline.Value
public import Idealize.ShloMosaic.Lib.Pointwise

/-! The attention gradient's kernel on finite inputs: what each grid point leaves, and the three arrays after the run. -/

@[expose] public section

set_option maxRecDepth 8192

noncomputable section

namespace Cert.Proof.Attn

open Cert.AttnIdeal Cert.AttnIdeal.Gen Cert.Reals Model
open Idealize.ShloMosaic Idealize.ShloMosaic.TcCoe
open Idealize.ShloMosaic.Pipeline (Dat)
open scoped BigOperators

/-- A matrix of 4096 rows and 256 lanes of real values. -/
def tall (f : ℕ → ℕ → ℝ) : S4096x256.Idx → EReal := fun i => ((f (i 0).val (i 1).val : ℝ) : EReal)

/-- Two such matrices agree where they agree inside. -/
theorem tall_congr {f g : ℕ → ℕ → ℝ} (h : ∀ s l, s < 4096 → l < 256 → f s l = g s l) : tall f = tall g :=
  funext fun i => congrArg Real.toEReal (h _ _ (i 0).isLt (i 1).isLt)

/-- A tile of such a matrix. -/
theorem rows_tall (f : ℕ → ℕ → ℝ) (j : Fin 16) : rows (tall f) j = tl fun b l => f (256 * j.val + b) l := by
  funext y
  obtain ⟨p, q, rfl⟩ : ∃ (p : Fin 256) (q : Fin 256), y = ix2 p q := ⟨y 0, y 1, eq_ix2 y⟩
  have e0 : 256 * j.val + 1 * p.val = 256 * j.val + p.val := by omega
  have e1 : 0 + 1 * q.val = q.val := by omega
  show ((f (256 * j.val + 1 * p.val) (0 + 1 * q.val) : ℝ) : EReal) = ((f (256 * j.val + p.val) q.val : ℝ) : EReal)
  rw [e0, e1]

/-- The cotangent of a score vanishes unless the key is before the query, and so does the weight. -/
theorem dscore_after (q k v o : ℕ → ℕ → ℝ) {H t s : ℕ} (h : t ≤ s) : dscore q k v o H t s = 0 := by
  unfold dscore dsc grd wgt share
  rw [if_neg (by omega), if_neg (by omega)]
  ring
theorem wgt_after (z : ℕ → ℝ) {t s : ℕ} (h : t ≤ s) : wgt t z s = 0 := by
  unfold wgt
  rw [if_neg (by omega)]

/-- The query tile's part of the key gradient and of the value gradient. -/
def partK (q k v o : ℕ → ℕ → ℝ) (c i s l : ℕ) : ℝ :=
  ∑ r ∈ Finset.range 256, dscore q k v o (4 * c + l / 64) (256 * i + r) s * (1 / 8) * q (256 * i + r) (256 * c + l)
def partV (q k o : ℕ → ℕ → ℝ) (c i s l : ℕ) : ℝ :=
  ∑ r ∈ Finset.range 256, o (256 * i + r) (256 * c + l) * wgt (256 * i + r) (score q k (4 * c + l / 64) (256 * i + r)) s

/-- A grid point adds its query tile's part to the key gradient, and to the value gradient. -/
theorem Reads.stepK {e : Env Ideal} {q k v o : ℕ → ℕ → ℝ} {c : ℕ} {i : Fin 16} (R : Reads e q k v o c i) (f : ℕ → ℕ → ℝ) :
    stepK e i (tall f) = tall fun s l => f s l + partK q k v o c i.val s l := by
  refine ext_rows fun j => ?_
  unfold Attn.stepK
  rw [rows_glue, rows_tall, rows_tall]
  split
  · next h => exact R.newK h _
  · next h =>
    refine tl_congr fun b l hb hl => ?_
    unfold partK
    rw [Finset.sum_eq_zero fun r hr => ?_, add_zero]
    have := Finset.mem_range.mp hr
    rw [dscore_after q k v o (by omega)]
    ring
theorem Reads.stepV {e : Env Ideal} {q k v o : ℕ → ℕ → ℝ} {c : ℕ} {i : Fin 16} (R : Reads e q k v o c i) (f : ℕ → ℕ → ℝ) :
    stepV e i (tall f) = tall fun s l => f s l + partV q k o c i.val s l := by
  refine ext_rows fun j => ?_
  unfold Attn.stepV
  rw [rows_glue, rows_tall, rows_tall]
  split
  · next h => exact R.newV h _
  · next h =>
    refine tl_congr fun b l hb hl => ?_
    unfold partV
    rw [Finset.sum_eq_zero fun r hr => ?_, add_zero]
    have := Finset.mem_range.mp hr
    rw [wgt_after _ (by omega)]
    ring

/-- The zero matrices the two gradients begin with. -/
theorem zeroK : k0_pay592 (F := Ideal) = tall fun _ _ => 0 := by
  funext y
  pointwise [k0_pay592]
  exact EReal.coe_zero.symm
theorem zeroV : k0_pay593 (F := Ideal) = tall fun _ _ => 0 := by
  funext y
  pointwise [k0_pay593]
  exact EReal.coe_zero.symm

/-- A sum by tiles. -/
theorem tiles_sum (f : ℕ → ℝ) (n : ℕ) : ∑ i ∈ Finset.range n, ∑ b ∈ Finset.range 256, f (256 * i + b) = ∑ x ∈ Finset.range (256 * n), f x := by
  induction n with
  | zero => simp
  | succ n ih => rw [Finset.sum_range_succ, ih, tile_sum, Finset.sum_range_add_sum_Ico _ (by omega)]

/-- The sixteen query tiles' parts are the two gradients. -/
theorem sum_partK (q k v o : ℕ → ℕ → ℝ) (c s l : ℕ) (hl : l < 256) : ∑ i ∈ Finset.range 16, partK q k v o c i s l = DK q k v o s (256 * c + l) := by
  unfold partK DK
  rw [tiles_sum fun x => dscore q k v o (4 * c + l / 64) x s * (1 / 8) * q x (256 * c + l), show (256 * c + l) / 64 = 4 * c + l / 64 by omega]
theorem sum_partV (q k o : ℕ → ℕ → ℝ) (c s l : ℕ) (hl : l < 256) : ∑ i ∈ Finset.range 16, partV q k o c i s l = DV q k o s (256 * c + l) := by
  unfold partV DV
  rw [tiles_sum fun x => o x (256 * c + l) * wgt x (score q k (4 * c + l / 64) x) s, show (256 * c + l) / 64 = 4 * c + l / 64 by omega]

variable (m : (ℓ : Loc nD τ sig) → Buf (Elt Ideal) ℓ)

/-- Where each window's block lies, and the query tile, at every grid point. -/
theorem idx : ∀ t : Fin cfg0.N, win0_0.index t = ![t.val % 16, t.val / 16] ∧ win0_1.index t = ![0, t.val / 16]
    ∧ win0_2.index t = ![0, t.val / 16 + 4] ∧ win0_3.index t = ![t.val % 16, t.val / 16] ∧ win0_4.index t = ![t.val % 16, t.val / 16]
    ∧ win0_5.index t = ![0, t.val / 16] ∧ win0_6.index t = ![0, t.val / 16] ∧ t.val < 64 :=
  (by decide +kernel : ∀ t : Fin grid0.N, _)
theorem tile_val : ∀ t : Fin cfg0.N, (tile t).val = t.val % 16 :=
  (by decide +kernel : ∀ t : Fin grid0.N, (grid0.coords t 1).val = t.val % 16)

variable {Q O : S4096x1024.Idx → ℝ} {X : S4096x2048.Idx → ℝ}

/-- The query block a grid point reads: scaled by the host. -/
theorem iblk0 (c : Dev nD) (t : Fin cfg0.N) (h : m ((c : Thread nD τ).loc main_arg0) = cv Q) :
    iblk m c 0 t = tl fun r l => at2 Q (256 * (t.val % 16) + r) (256 * (t.val / 16) + l) * (1 / 8) := by
  funext y
  obtain ⟨p, q, rfl⟩ : ∃ (p : Fin 256) (q : Fin 256), y = ix2 p q := ⟨y 0, y 1, eq_ix2 y⟩
  blk_simp [iblk, idx t]
  entry_read
  pointwise
  have h' : m (c, Proc.tc.devRef main_arg0) = cv Q := h
  rw [h', lit_eighth]
  refine (EReal.coe_mul _ _).symm.trans (congrArg (fun z : ℝ => ((z * (1 / 8) : ℝ) : EReal)) (at2_of Q _ _ _ ?_ ?_))
  · show win0_0.index t 0 * 256 + 1 * p.val = _
    rw [(idx t).1]
    show t.val % 16 * 256 + 1 * p.val = 256 * (t.val % 16) + p.val
    omega
  · show win0_0.index t 1 * 256 + 1 * q.val = _
    rw [(idx t).1]
    show (t.val / 16) * 256 + 1 * q.val = 256 * (t.val / 16) + q.val
    omega

/-- The keys it reads. -/
theorem iblk1 (c : Dev nD) (t : Fin cfg0.N) (h : m ((c : Thread nD τ).loc main_arg1) = cv X) :
    iblk m c 1 t = tall fun s l => keys X s (256 * (t.val / 16) + l) := by
  funext y
  obtain ⟨p, q, rfl⟩ : ∃ (p : Fin 4096) (q : Fin 256), y = ix2 p q := ⟨y 0, y 1, eq_ix2 y⟩
  blk_simp [iblk, idx t]
  entry_read
  pointwise
  have h' : m (c, Proc.tc.devRef main_arg1) = cv X := h
  rw [h']
  refine congrArg Real.toEReal (at2_of X _ _ _ ?_ ?_)
  · show win0_1.index t 0 * 4096 + 1 * p.val = _
    rw [(idx t).2.1]
    show 0 * 4096 + 1 * p.val = p.val
    omega
  · show win0_1.index t 1 * 256 + 1 * q.val = _
    rw [(idx t).2.1]
    show (t.val / 16) * 256 + 1 * q.val = 256 * (t.val / 16) + q.val
    omega

/-- The values it reads. -/
theorem iblk2 (c : Dev nD) (t : Fin cfg0.N) (h : m ((c : Thread nD τ).loc main_arg1) = cv X) :
    iblk m c 2 t = tall fun s l => vals X s (256 * (t.val / 16) + l) := by
  funext y
  obtain ⟨p, q, rfl⟩ : ∃ (p : Fin 4096) (q : Fin 256), y = ix2 p q := ⟨y 0, y 1, eq_ix2 y⟩
  blk_simp [iblk, idx t]
  entry_read
  pointwise
  have h' : m (c, Proc.tc.devRef main_arg1) = cv X := h
  rw [h']
  refine congrArg Real.toEReal (at2_of X _ _ _ ?_ ?_)
  · show win0_2.index t 0 * 4096 + 1 * p.val = _
    rw [(idx t).2.2.1]
    show 0 * 4096 + 1 * p.val = p.val
    omega
  · show win0_2.index t 1 * 256 + 1 * q.val = _
    rw [(idx t).2.2.1]
    show (t.val / 16 + 4) * 256 + 1 * q.val = 1024 + (256 * (t.val / 16) + q.val)
    omega

/-- The output's cotangents it reads. -/
theorem iblk3 (c : Dev nD) (t : Fin cfg0.N) (h : m ((c : Thread nD τ).loc main_arg2) = cv O) :
    iblk m c 3 t = tl fun r l => at2 O (256 * (t.val % 16) + r) (256 * (t.val / 16) + l) := by
  funext y
  obtain ⟨p, q, rfl⟩ : ∃ (p : Fin 256) (q : Fin 256), y = ix2 p q := ⟨y 0, y 1, eq_ix2 y⟩
  blk_simp [iblk, idx t]
  entry_read
  pointwise
  have h' : m (c, Proc.tc.devRef main_arg2) = cv O := h
  rw [h']
  refine congrArg Real.toEReal (at2_of O _ _ _ ?_ ?_)
  · show win0_3.index t 0 * 256 + 1 * p.val = _
    rw [(idx t).2.2.2.1]
    show t.val % 16 * 256 + 1 * p.val = 256 * (t.val % 16) + p.val
    omega
  · show win0_3.index t 1 * 256 + 1 * q.val = _
    rw [(idx t).2.2.2.1]
    show (t.val / 16) * 256 + 1 * q.val = 256 * (t.val / 16) + q.val
    omega

/-- The three arguments hold finite values. -/
structure Inputs (Q O : S4096x1024.Idx → ℝ) (X : S4096x2048.Idx → ℝ) (c : Dev nD) : Prop where
  q : m ((c : Thread nD τ).loc main_arg0) = cv Q
  x : m ((c : Thread nD τ).loc main_arg1) = cv X
  o : m ((c : Thread nD τ).loc main_arg2) = cv O

/-- A reshape to the same shape changes nothing. -/
theorem cast_same (x : FVec Ideal S256x256 .bf16) : shapeCast S256x256 x shapeCasts_S256x256_S256x256 = x := by
  funext i
  obtain ⟨p, q, rfl⟩ : ∃ (p : Fin 256) (q : Fin 256), i = ix2 p q := ⟨i 0, i 1, eq_ix2 i⟩
  pointwise

/-- What a grid point reads, on finite inputs. -/
theorem reads (c : Dev nD) (t : Fin cfg0.N) (h : Inputs m Q O X c) :
    Reads (env m c t) (at2 Q) (keys X) (vals X) (at2 O) (t.val / 16) (tile t) := by
  have ht := tile_val t
  unfold env envAt
  rw [iblk0 m c t h.q, iblk1 m c t h.x, iblk2 m c t h.x, iblk3 m c t h.o]
  refine ⟨rfl, fun n => ?_, fun n => ?_, fun j => ?_, fun j => ?_⟩
  · dsimp only
    rw [cast_same, ht]
    exact headOf_tl _ n
  · dsimp only
    rw [cast_same, ht]
    exact headOf_tl _ n
  · dsimp only
    rw [rows_tall]
  · dsimp only
    rw [rows_tall]

/-- The three buffers after each grid point. -/
theorem outs1 (c : Dev nD) (t : Fin cfg0.N) (h : Inputs m Q O X c) :
    (outs m c t.val t.isLt).1 = tl fun r l => DQ (at2 Q) (keys X) (vals X) (at2 O) (256 * (t.val % 16) + r) (256 * (t.val / 16) + l) := by
  have e : (outs m c t.val t.isLt).1 = (env m c t).dq (tile t) := by
    by_cases h : t.val % 16 = 0
    · rw [outs_zero m c t h]; rfl
    · rw [outs_succ m c t h]; rfl
  rw [e, (reads m c t h).dq, tile_val t]

/-- The key and value gradients after each grid point: the query tiles' parts so far. -/
theorem outs2 (c : Dev nD) (h : Inputs m Q O X c) (n : ℕ) (hn : n < cfg0.N) :
    (outs m c n hn).2.1 = (tall fun s l => ∑ i ∈ Finset.range (n % 16 + 1), partK (at2 Q) (keys X) (vals X) (at2 O) (n / 16) i s l)
    ∧ (outs m c n hn).2.2 = tall fun s l => ∑ i ∈ Finset.range (n % 16 + 1), partV (at2 Q) (keys X) (at2 O) (n / 16) i s l := by
  induction n with
  | zero =>
    have R := reads m c ⟨0, hn⟩ h
    have e := outs_zero m c ⟨0, hn⟩ rfl
    have hv := tile_val ⟨0, hn⟩
    rw [e]
    unfold leaves
    dsimp only
    rw [zeroK, zeroV, R.stepK, R.stepV, hv]
    exact ⟨tall_congr fun s l _ _ => by simp, tall_congr fun s l _ _ => by simp⟩
  | succ n ih =>
    have R := reads m c ⟨n + 1, hn⟩ h
    have hv := tile_val ⟨n + 1, hn⟩
    by_cases h0 : (n + 1) % 16 = 0
    · rw [outs_zero m c ⟨n + 1, hn⟩ h0]
      unfold leaves
      dsimp only
      rw [zeroK, zeroV, R.stepK, R.stepV, hv]
      dsimp only
      rw [h0]
      exact ⟨tall_congr fun s l _ _ => by simp, tall_congr fun s l _ _ => by simp⟩
    · rw [outs_succ m c ⟨n + 1, hn⟩ h0]
      unfold leaves
      obtain ⟨i1, i2⟩ := ih (by omega)
      have e1 : (n + 1) % 16 = n % 16 + 1 := by omega
      have e2 : (n + 1) / 16 = n / 16 := by omega
      dsimp only
      simp only [Nat.add_sub_cancel]
      rw [i1, i2, R.stepK, R.stepV, hv]
      dsimp only
      rw [e1, e2]
      exact ⟨tall_congr fun s l _ _ => (Finset.sum_range_succ (fun i => partK _ _ _ _ _ i s l) _).symm,
        tall_congr fun s l _ _ => (Finset.sum_range_succ (fun i => partV _ _ _ _ i s l) _).symm⟩

/-- The gradient with respect to the queries, after the run. -/
theorem final4 (c : Dev nD) (h : Inputs m Q O X c) : (dats m 0 c).arrAt 4 (cfgs 0).N
    = fun i => ((DQ (at2 Q) (keys X) (vals X) (at2 O) (i 0).val (i 1).val : ℝ) : EReal) := by
  refine (dats m 0 c).arrAt_eq_of_covers 4 _ (by decide +kernel) fun t _ y => ?_
  blk_simp
  rw [after0_4, outs1 m c t h]
  obtain ⟨p, q, rfl⟩ : ∃ (p : Fin 256) (q : Fin 256), y = ix2 p q := ⟨y 0, y 1, eq_ix2 y⟩
  have e0 : win0_4.index t 0 * 256 + p.val = 256 * (t.val % 16) + p.val := by
    rw [(idx t).2.2.2.2.1]
    show t.val % 16 * 256 + p.val = _
    omega
  have e1 : win0_4.index t 1 * 256 + q.val = 256 * (t.val / 16) + q.val := by
    rw [(idx t).2.2.2.2.1]
    show (t.val / 16) * 256 + q.val = _
    omega
  refine congrArg Real.toEReal (Eq.symm ?_)
  exact congrArg₂ (DQ (at2 Q) (keys X) (vals X) (at2 O)) e0 e1

/-- The gradient with respect to the keys, after the run. -/
theorem final5 (c : Dev nD) (h : Inputs m Q O X c) : (dats m 0 c).arrAt 5 (cfgs 0).N
    = fun i => ((DK (at2 Q) (keys X) (vals X) (at2 O) (i 0).val (i 1).val : ℝ) : EReal) := by
  refine (dats m 0 c).arrAt_eq_of_covers 5 _ (by decide +kernel) fun t hf y => ?_
  have hf' := (flush0_5 t).mp hf
  blk_simp
  rw [after0_5, (outs2 m c h _ _).1, hf']
  obtain ⟨p, q, rfl⟩ : ∃ (p : Fin 4096) (q : Fin 256), y = ix2 p q := ⟨y 0, y 1, eq_ix2 y⟩
  refine (congrArg Real.toEReal (sum_partK _ _ _ _ _ _ _ q.isLt)).trans ?_
  have e0 : win0_5.index t 0 * 4096 + p.val = p.val := by
    rw [(idx t).2.2.2.2.2.1]
    show 0 * 4096 + p.val = _
    omega
  have e1 : win0_5.index t 1 * 256 + q.val = 256 * (t.val / 16) + q.val := by
    rw [(idx t).2.2.2.2.2.1]
    show (t.val / 16) * 256 + q.val = _
    omega
  refine congrArg Real.toEReal (Eq.symm ?_)
  exact congrArg₂ (DK (at2 Q) (keys X) (vals X) (at2 O)) e0 e1

/-- The gradient with respect to the values, after the run. -/
theorem final6 (c : Dev nD) (h : Inputs m Q O X c) : (dats m 0 c).arrAt 6 (cfgs 0).N
    = fun i => ((DV (at2 Q) (keys X) (at2 O) (i 0).val (i 1).val : ℝ) : EReal) := by
  refine (dats m 0 c).arrAt_eq_of_covers 6 _ (by decide +kernel) fun t hf y => ?_
  have hf' := (flush0_6 t).mp hf
  blk_simp
  rw [after0_6, (outs2 m c h _ _).2, hf']
  obtain ⟨p, q, rfl⟩ : ∃ (p : Fin 4096) (q : Fin 256), y = ix2 p q := ⟨y 0, y 1, eq_ix2 y⟩
  refine (congrArg Real.toEReal (sum_partV _ _ _ _ _ _ q.isLt)).trans ?_
  have e0 : win0_6.index t 0 * 4096 + p.val = p.val := by
    rw [(idx t).2.2.2.2.2.2.1]
    show 0 * 4096 + p.val = _
    omega
  have e1 : win0_6.index t 1 * 256 + q.val = 256 * (t.val / 16) + q.val := by
    rw [(idx t).2.2.2.2.2.2.1]
    show (t.val / 16) * 256 + q.val = _
    omega
  refine congrArg Real.toEReal (Eq.symm ?_)
  exact congrArg₂ (DV (at2 Q) (keys X) (at2 O)) e0 e1

end Cert.Proof.Attn

end
-- ==== Proof.Attn.RefValue.lean ====
/-
  The attention reference on finite inputs: its three results are the model's gradients.
-/
module

public import proofs.«01_k».proof.Proof.Gen.AttnRefIdeal.Read
public import proofs.«01_k».proof.Proof.Attn.Model
public import Idealize.ShloMosaic.Lib.Pointwise
public import Idealize.ShloMosaic.Lib.WordCmp

@[expose] public section

set_option maxRecDepth 16384

noncomputable section

namespace Cert.AttnRefIdeal.Block

open Cert.AttnRefIdeal Cert.AttnRefIdeal.Gen Cert.AttnRefIdeal.Read Cert.Reals Idealize.ShloMosaic Idealize.ShloMosaic.TcCoe
open Cert.Proof.Attn.Model

variable (Q O : S4096x1024.Idx → ℝ) (X : S4096x2048.Idx → ℝ)

/-- The scores and the weights' cotangents of a query in a head. -/
def Z (H t : ℕ) : ℕ → ℝ := score (at2 Q) (keys X) H t
def A (H t : ℕ) : ℕ → ℝ := cot (at2 O) (vals X) H t

/-- No finite value is the infinity that the programs compare against. -/
theorem ne_inf (a : ℝ) : ((a : ℝ) : EReal) ≠ Ideal.ofBits .f32 0x7F800000#32 := by
  have ht : Ideal.ofBits .f32 0x7F800000#32 = ⊤ := by simp [Ideal.ofBits, Ideal.ieee]
  rw [ht]; exact EReal.coe_ne_top a

/-- A sum from the right without its first term. -/
theorem sum_later (f : ℕ → ℝ) {c n : ℕ} (h : c < n) :
    (((∑ x ∈ Finset.Ico c n, -f x : ℝ) : EReal)) - ((-f c : ℝ) : EReal) = ((-∑ x ∈ Finset.Ico (c + 1) n, f x : ℝ) : EReal) := by
  rw [← EReal.coe_sub, Finset.sum_eq_sum_Ico_succ_bot h, Finset.sum_neg_distrib]
  congr 1
  ring

/-- The softplus on a finite value, as the program writes it. -/
theorem softplus_coe (a : ℝ) :
    (if (a : EReal) ≠ (a : EReal) then (a : EReal) else max (a : EReal) 0 + Ideal.log1p (Ideal.exp (-FloatOps.absf (F := Ideal) (φ := .f32) (a : EReal))))
      = ((spl a : ℝ) : EReal) := by
  rw [if_neg (fun h => h rfl), abs_coe, ← EReal.coe_neg]
  exact stable_coe a

/-- The queries, keys, values and cotangents by heads. -/
theorem v1 (i : S16x4096x64.Idx) : val_main_v1 (F := Ideal) (cv Q) i = ((at2 Q (i 1).val (64 * (i 0).val + (i 2).val) : ℝ) : EReal) := by
  have h0 : (i 0).val < 16 := (i 0).isLt
  have h1 : (i 1).val < 4096 := (i 1).isLt
  have h2 : (i 2).val < 64 := (i 2).isLt
  rw [val_main_v1_apply, val_main_v0_apply]
  refine congrArg _ (at2_of Q _ _ _ ?_ ?_)
  · simp [idx_main_v0, idx_main_v1]; omega
  · simp [idx_main_v0, idx_main_v1]; omega

/-- The output's cotangent by head. -/
theorem v32 (i : S16x4096x64.Idx) : val_main_v32 (F := Ideal) (cv O) i = ((at2 O (i 1).val (64 * (i 0).val + (i 2).val) : ℝ) : EReal) :=
  v1 O i

/-- The keys by head. -/
theorem v5 (i : S16x4096x64.Idx) : val_main_v5 (F := Ideal) (cv X) i = ((keys X (i 1).val (64 * (i 0).val + (i 2).val) : ℝ) : EReal) := by
  have h0 : (i 0).val < 16 := (i 0).isLt
  have h1 : (i 1).val < 4096 := (i 1).isLt
  have h2 : (i 2).val < 64 := (i 2).isLt
  rw [val_main_v5_apply, val_main_v4_apply, val_main_v3_apply, val_main_v2_apply]
  refine congrArg _ (at2_of X _ _ _ ?_ ?_)
  · simp [idx_main_v2, idx_main_v3, idx_main_v4, idx_main_v5]; omega
  · simp [idx_main_v2, idx_main_v3, idx_main_v4, idx_main_v5]; omega

/-- The values by head. -/
theorem v8 (i : S16x4096x64.Idx) : val_main_v8 (F := Ideal) (cv X) i = ((vals X (i 1).val (64 * (i 0).val + (i 2).val) : ℝ) : EReal) := by
  have h0 : (i 0).val < 16 := (i 0).isLt
  have h1 : (i 1).val < 4096 := (i 1).isLt
  have h2 : (i 2).val < 64 := (i 2).isLt
  rw [val_main_v8_apply, val_main_v7_apply, val_main_v6_apply, val_main_v2_apply]
  refine congrArg _ (at2_of X _ _ _ ?_ ?_)
  · simp [idx_main_v2, idx_main_v6, idx_main_v7, idx_main_v8]; omega
  · simp [idx_main_v2, idx_main_v6, idx_main_v7, idx_main_v8]; omega

/-- The scores. -/
theorem v11 (i : S16x4096x4096.Idx) :
    val_main_v11 (F := Ideal) (cv Q) (cv X) i = ((Z Q X (i 0).val (i 1).val (i 2).val : ℝ) : EReal) := by
  rw [val_main_v11_apply, val_main_v9_apply]
  simp only [v1, v5]
  pointwise [val_main_v10, val_main_cst]
  simp only [lit_eighth, ← EReal.coe_mul, sum_coe]
  refine congrArg _ (congrArg (· * (1 / 8 : ℝ)) ?_)
  exact Fin.sum_univ_eq_sum_range (fun d => at2 Q (i 1).val (64 * (i 0).val + d) * keys X (i 2).val (64 * (i 0).val + d)) 64

/-- The weights' cotangents. -/
theorem v35 (i : S16x4096x4096.Idx) :
    val_main_v35 (F := Ideal) (cv X) (cv O) i = ((A O X (i 0).val (i 1).val (i 2).val : ℝ) : EReal) := by
  rw [val_main_v35_apply]
  simp only [v32, v8]
  simp only [← EReal.coe_mul, sum_coe]
  refine congrArg _ ?_
  exact Fin.sum_univ_eq_sum_range (fun d => at2 O (i 1).val (64 * (i 0).val + d) * vals X (i 2).val (64 * (i 0).val + d)) 64

/-- The keys before a query. -/
theorem v18 (a b : Fin 4096) : val_main_v18 (F := Ideal) (ix2 a b) = BitVec.ofBool (decide (b.val < a.val)) := by
  pointwise [val_main_v18, val_main_v16, val_main_v17, val_main_v15, val_main_v13, val_main_v12, val_main_v14]
  rw [WordCmp.cmpi_slt_ofNat (by have := b.isLt; omega) (by have := a.isLt; omega)]

/-- The softplus of a score. -/
theorem v19_0 (i : S16x4096x4096.Idx) :
    val_main_v19_0 (F := Ideal) (cv Q) (cv X) i = ((spl (Z Q X (i 0).val (i 1).val (i 2).val) : ℝ) : EReal) := by
  unfold val_main_v19_0
  pointwise [val_main_v19_0, val_main_call0_v4, val_main_call0_v6, val_main_call0_v11, val_main_call0_v3, val_main_call0_v1, val_main_call0_v10,
    val_main_call0_v9, val_main_call0_v8, val_main_call0_v7, val_main_call0_v5, val_main_call0_v2, val_main_call0_v0, val_main_call0_cst]
  simp only [v11]
  exact softplus_coe _

/-- The share of a score. -/
theorem v19_1 (i : S16x4096x4096.Idx) :
    val_main_v19_1 (F := Ideal) (cv Q) (cv X) i
      = ((Real.exp (Z Q X (i 0).val (i 1).val (i 2).val - spl (Z Q X (i 0).val (i 1).val (i 2).val)) : ℝ) : EReal) := by
  pointwise [val_main_v19_1, val_main_call0_v21, val_main_call0_v16, val_main_call0_v20, val_main_call0_v14, val_main_call0_v15, val_main_call0_v18,
    val_main_call0_v19, val_main_call0_v13, val_main_call0_v17, val_main_call0_cst_0, val_main_call0_cst_1, val_main_call0_cst_2, val_main_call0_cst_3]
  simp only [v11, v19_0]
  rw [if_neg (ne_inf _), if_neg (ne_inf _), ← EReal.coe_sub, Ideal.exp_coe]

/-- The softplus of a score with its sign turned. -/
theorem call3 (i : S16x4096x4096.Idx) :
    val_main_call3_v1_0 (F := Ideal) (cv Q) (cv X) i = ((spl (-Z Q X (i 0).val (i 1).val (i 2).val) : ℝ) : EReal) := by
  pointwise [val_main_call3_v1_0, val_main_call3_call0_v4, val_main_call3_call0_v6, val_main_call3_call0_v11, val_main_call3_call0_v3, val_main_call3_call0_v1,
    val_main_call3_call0_v10, val_main_call3_call0_v9, val_main_call3_call0_v8, val_main_call3_call0_v7, val_main_call3_call0_v5, val_main_call3_call0_v2,
    val_main_call3_call0_v0, val_main_call3_v0, val_main_call3_call0_cst]
  simp only [v11, ← EReal.coe_neg]
  exact softplus_coe _

/-- What the score leaves. -/
theorem v24_1 (i : S16x4096x4096.Idx) :
    val_main_v24_1 (F := Ideal) (cv Q) (cv X) i = ((Real.exp (-spl (Z Q X (i 0).val (i 1).val (i 2).val)) : ℝ) : EReal) := by
  pointwise [val_main_v24_1, val_main_call3_call0_v21, val_main_call3_call0_v16, val_main_call3_call0_v20, val_main_call3_call0_v14, val_main_call3_call0_v15,
    val_main_call3_call0_v18, val_main_call3_call0_v19, val_main_call3_call0_v13, val_main_call3_call0_v17, val_main_call3_call0_cst_0,
    val_main_call3_call0_cst_1, val_main_call3_call0_cst_2, val_main_call3_call0_cst_3, val_main_call3_v0]
  simp only [v11, call3, ← EReal.coe_neg]
  rw [if_neg (ne_inf _), if_neg (ne_inf _), ← EReal.coe_sub, Ideal.exp_coe, spl_neg]
  congr 2
  ring

/-- What the keys before the query leave, with the sign turned. -/
theorem v21_0 (a : Fin 16) (b c : Fin 4096) :
    val_main_v21_0 (F := Ideal) (cv Q) (cv X) (ix3 a b c) = ((-left b.val (Z Q X a.val b.val) c.val : ℝ) : EReal) := by
  pointwise [val_main_v21_0, val_main_v21_1, val_main_v20, val_main_call1_v2, val_main_call1_v0, val_main_cst_0]
  rw [v18, v19_0, select_ofBool]
  unfold left
  show (if c.val < b.val then -((spl (Z Q X a.val b.val c.val) : ℝ) : EReal) else Ideal.ofBits .f32 0x00000000#32) = _
  split
  · rw [EReal.coe_neg]
  · rw [lit_zero, neg_zero]

/-- The sum over the keys between a key and the query. -/
theorem v23 (a : Fin 16) (b c : Fin 4096) :
    val_main_v23 (F := Ideal) (cv Q) (cv X) (ix3 a b c) = ((-∑ x ∈ Finset.Ico (c.val + 1) 4096, left b.val (Z Q X a.val b.val) x : ℝ) : EReal) := by
  have h : val_main_v22 (F := Ideal) (cv Q) (cv X) (ix3 a b c) = ((∑ x ∈ Finset.Ico c.val 4096, -left b.val (Z Q X a.val b.val) x : ℝ) : EReal) := by
    have h0 : val_main_call2_v0 (F := Ideal) (Shape.Idx.first h_S_) = (0 : EReal) := by
      pointwise [val_main_call2_v0, val_main_call2_cst]
    have hx := v21_0 Q X a b
    unfold val_main_v22 Host.reduceWindowAdd
    rw [Ideal.hostReduceWindowAdd_def]
    generalize val_main_v21_0 (F := Ideal) (cv Q) (cv X) = x at hx ⊢
    generalize val_main_call2_v0 (F := Ideal) (Shape.Idx.first h_S_) = y at h0 ⊢
    exact windowSum_high (A := 16) (B := 4096) (N := 4096) (Nm1 := 4095) (fun x => -left b.val (Z Q X a.val b.val) x) x y h0 _ a b hx c
  rw [val_main_v23_apply, v21_0, h]
  exact sum_later (left b.val (Z Q X a.val b.val)) c.isLt

/-- A key's weight before the keys not before the query are taken out. -/
theorem v26 (a : Fin 16) (b c : Fin 4096) (h : c.val < b.val) :
    val_main_v26 (F := Ideal) (cv Q) (cv X) (ix3 a b c) = ((wgt b.val (Z Q X a.val b.val) c.val : ℝ) : EReal) := by
  have e : val_main_v24_0 (F := Ideal) (cv Q) (cv X) (ix3 a b c) = ((Z Q X a.val b.val c.val - spl (Z Q X a.val b.val c.val) : ℝ) : EReal) := by
    rw [val_main_v24_0_apply, call3]
    show -((spl (-Z Q X a.val b.val c.val) : ℝ) : EReal) = _
    rw [← EReal.coe_neg, spl_neg]
    congr 1
    ring
  rw [val_main_v26_apply, val_main_v25_apply, v23, e]
  show Ideal.exp (((_ : ℝ) : EReal) + ((_ : ℝ) : EReal)) = _
  rw [← EReal.coe_add, Ideal.exp_coe]
  unfold wgt
  rw [if_pos h, sub_eq_add_neg (_ - _)]

/-- The weights. -/
theorem v27_0 (a : Fin 16) (b c : Fin 4096) :
    val_main_v27_0 (F := Ideal) (cv Q) (cv X) (ix3 a b c) = ((wgt b.val (Z Q X a.val b.val) c.val : ℝ) : EReal) := by
  pointwise [val_main_v27_0, val_main_v27_1, val_main_call4_v2, val_main_call4_v0, val_main_cst_1]
  rw [v18, select_ofBool]
  split
  · next h => rw [v26 Q X a b c h]
  · next h =>
    show Ideal.ofBits .f32 0x00000000#32 = _
    rw [lit_zero, wgt, if_neg h]

/-- Every weight before the mask is finite. -/
theorem v26_finite (a : Fin 16) (b c : Fin 4096) : ∃ r : ℝ, val_main_v26 (F := Ideal) (cv Q) (cv X) (ix3 a b c) = (r : EReal) := by
  have e : val_main_v24_0 (F := Ideal) (cv Q) (cv X) (ix3 a b c) = ((-spl (-Z Q X a.val b.val c.val) : ℝ) : EReal) := by
    rw [val_main_v24_0_apply, call3]
    rfl
  rw [val_main_v26_apply, val_main_v25_apply, v23, e]
  exact ⟨_, rfl⟩

/-- The weights times their cotangents. -/
theorem v37 (a : Fin 16) (b c : Fin 4096) :
    val_main_v37 (F := Ideal) (cv Q) (cv X) (cv O) (ix3 a b c) = ((grd b.val (Z Q X a.val b.val) (A O X a.val b.val) c.val : ℝ) : EReal) := by
  have e : val_main_v36 (F := Ideal) (cv X) (cv O) (ix3 a b c) = (((if c.val < b.val then A O X a.val b.val c.val else 0 : ℝ)) : EReal) := by
    pointwise [val_main_v36, val_main_v27_1, val_main_call5_v0, val_main_call5_cst]
    rw [v18, select_ofBool, v35]
    by_cases h : c.val < b.val
    · rw [if_pos h, if_pos h]; rfl
    · rw [if_neg h, if_neg h]; rfl
  rw [val_main_v37_apply, e]
  unfold grd
  by_cases h : c.val < b.val
  · rw [if_pos h, v26 Q X a b c h]
    exact (EReal.coe_mul _ _).symm
  · obtain ⟨r, hr⟩ := v26_finite Q X a b c
    rw [if_neg h, hr, wgt, if_neg h, mul_zero]
    refine (EReal.coe_mul 0 r).symm.trans ?_
    rw [zero_mul]

/-- The cotangents of the scores, before the scale. -/
theorem v45 (a : Fin 16) (b c : Fin 4096) :
    val_main_v45 (F := Ideal) (cv Q) (cv X) (cv O) (ix3 a b c) = ((dscore (at2 Q) (keys X) (vals X) (at2 O) a.val b.val c.val : ℝ) : EReal) := by
  have e40 : val_main_v40 (F := Ideal) (cv Q) (cv X) (cv O) (ix3 a b c)
      = ((∑ x ∈ Finset.range (c.val + 1), grd b.val (Z Q X a.val b.val) (A O X a.val b.val) x : ℝ) : EReal) := by
    have h0 : val_main_call7_v0 (F := Ideal) (Shape.Idx.first h_S_) = (0 : EReal) := by
      pointwise [val_main_call7_v0, val_main_call7_cst]
    have hx := v37 Q O X a b
    unfold val_main_v40 Host.reduceWindowAdd
    rw [Ideal.hostReduceWindowAdd_def]
    generalize val_main_v37 (F := Ideal) (cv Q) (cv X) (cv O) = x at hx ⊢
    generalize val_main_call7_v0 (F := Ideal) (Shape.Idx.first h_S_) = y at h0 ⊢
    exact windowSum_low (A := 16) (B := 4096) (N := 4096) (Nm1 := 4095) rfl
      (fun x => grd b.val (Z Q X a.val b.val) (A O X a.val b.val) x) x y h0 _ a b hx c
  have e42 : val_main_v42 (F := Ideal) (cv Q) (cv X) (cv O) (ix3 a b c)
      = ((if c.val < b.val then -grd b.val (Z Q X a.val b.val) (A O X a.val b.val) c.val
          + ∑ x ∈ Finset.range (c.val + 1), grd b.val (Z Q X a.val b.val) (A O X a.val b.val) x else 0 : ℝ) : EReal) := by
    pointwise [val_main_v42, val_main_v21_1, val_main_v41, val_main_v39, val_main_call8_v0, val_main_call8_cst]
    rw [v18, select_ofBool, e40, v37]
    by_cases h : c.val < b.val
    · rw [if_pos h, if_pos h]; rfl
    · rw [if_neg h, if_neg h]; rfl
  pointwise [val_main_v45, val_main_v44, val_main_v43, val_main_v38, val_main_call6_v1, val_main_call6_v0]
  rw [e42, v37, v24_1, v19_1]
  simp only [← EReal.coe_neg, ← EReal.coe_mul, ← EReal.coe_add]
  refine congrArg _ ?_
  show _ + -(_) * Real.exp (Z Q X a.val b.val c.val - spl (Z Q X a.val b.val c.val)) = dsc b.val (Z Q X a.val b.val) (A O X a.val b.val) c.val
  have hs := share_add (Z Q X a.val b.val c.val)
  unfold dsc share
  show -(-_ * Real.exp (-spl (Z Q X a.val b.val c.val))) + _ = _
  generalize Real.exp (-spl (Z Q X a.val b.val c.val)) = u at hs ⊢
  by_cases h : c.val < b.val
  · rw [if_pos h, if_pos h]
    obtain rfl : u = 1 - Real.exp (Z Q X a.val b.val c.val - spl (Z Q X a.val b.val c.val)) := by linarith
    ring
  · rw [if_neg h, if_neg h, grd, wgt, if_neg h]
    ring

/-- The cotangents of the scores, scaled, and the weights, at any index. -/
theorem v47 (i : S16x4096x4096.Idx) : val_main_v47 (F := Ideal) (cv Q) (cv X) (cv O) i
    = ((dscore (at2 Q) (keys X) (vals X) (at2 O) (i 0).val (i 1).val (i 2).val * (1 / 8) : ℝ) : EReal) := by
  obtain ⟨a, b, c, rfl⟩ : ∃ a b c, i = ix3 a b c := ⟨i 0, i 1, i 2, eq_ix3 i⟩
  pointwise [val_main_v47, val_main_v46, val_main_cst_2]
  rw [v45, lit_eighth, ← EReal.coe_mul]

/-- The running sum over the keys between, at any index. -/
theorem v27_0' (i : S16x4096x4096.Idx) :
    val_main_v27_0 (F := Ideal) (cv Q) (cv X) i = ((wgt (i 1).val (Z Q X (i 0).val (i 1).val) (i 2).val : ℝ) : EReal) := by
  obtain ⟨a, b, c, rfl⟩ : ∃ a b c, i = ix3 a b c := ⟨i 0, i 1, i 2, eq_ix3 i⟩
  exact v27_0 Q X a b c

/-- The query gradient. -/
theorem v60 (i : S4096x1024.Idx) :
    val_main_v60 (F := Ideal) (cv Q) (cv X) (cv O) i = ((DQ (at2 Q) (keys X) (vals X) (at2 O) (i 0).val (i 1).val : ℝ) : EReal) := by
  have h0 : (i 0).val < 4096 := (i 0).isLt
  have h1 : (i 1).val < 1024 := (i 1).isLt
  have a1 : ((i 0).val * 1024 + (i 1).val) / 1024 = (i 0).val := by omega
  have a2 : ((i 0).val * 1024 + (i 1).val) / 64 % 16 = (i 1).val / 64 := by omega
  have a3 : 64 * ((i 1).val / 64) + ((i 0).val * 1024 + (i 1).val) % 64 = (i 1).val := by omega
  rw [val_main_v60_apply, val_main_v59_apply, val_main_v58_apply, val_main_v49_apply]
  simp only [v47, v5, ← EReal.coe_mul, sum_coe]
  refine congrArg Real.toEReal ((Fin.sum_univ_eq_sum_range (fun s => dscore (at2 Q) (keys X) (vals X) (at2 O) (((i 0).val * 1024 + (i 1).val) / 64 % 16)
    (((i 0).val * 1024 + (i 1).val) / 1024) s * (1 / 8) * keys X s (64 * (((i 0).val * 1024 + (i 1).val) / 64 % 16)
      + ((i 0).val * 1024 + (i 1).val) % 64)) 4096).trans ?_)
  rw [a1, a2, a3]
  rfl

/-- The two gradients of the keys and the values in their one array. -/
theorem v56 (b : Fin 4096) (c : Fin 2) (H : Fin 16) (d : Fin 64) :
    val_main_v56 (F := Ideal) (cv Q) (cv X) (cv O) (ix4 b c H d)
      = ((if c.val = 0 then DK (at2 Q) (keys X) (vals X) (at2 O) b.val (64 * H.val + d.val) else DV (at2 Q) (keys X) (at2 O) b.val (64 * H.val + d.val) : ℝ) : EReal) := by
  have hd := d.isLt
  have a1 : (64 * H.val + d.val) / 64 = H.val := by omega
  have e53 : val_main_v53 (F := Ideal) (cv Q) (cv X) (cv O) (ix3 b H d)
      = ((DK (at2 Q) (keys X) (vals X) (at2 O) b.val (64 * H.val + d.val) : ℝ) : EReal) := by
    rw [val_main_v53_apply, val_main_v48_apply]
    simp only [v47, v1, ← EReal.coe_mul, sum_coe]
    refine congrArg _ ((Fin.sum_univ_eq_sum_range (fun t => dscore (at2 Q) (keys X) (vals X) (at2 O) H.val t b.val * (1 / 8)
      * at2 Q t (64 * H.val + d.val)) 4096).trans ?_)
    unfold DK
    rw [a1]
  have e50 : val_main_v50 (F := Ideal) (cv Q) (cv X) (cv O) (ix3 b H d)
      = ((DV (at2 Q) (keys X) (at2 O) b.val (64 * H.val + d.val) : ℝ) : EReal) := by
    rw [val_main_v50_apply, val_main_v34_apply, val_main_v33_apply]
    simp only [v27_0', v32, ← EReal.coe_mul, sum_coe]
    refine congrArg _ ((Fin.sum_univ_eq_sum_range (fun t => at2 O t (64 * H.val + d.val) * wgt t (Z Q X H.val t) b.val) 4096).trans ?_)
    unfold DV
    rw [a1]
    rfl
  pointwise [val_main_v56, val_main_v52, val_main_v55, val_main_v51, val_main_v54, val_main_cst_3, val_main_cst_4]
  rw [e50, e53]
  have hc := c.isLt
  by_cases h : c.val = 0
  · rw [dif_neg (by omega), dif_pos (by omega), if_pos h, zero_add]
  · rw [dif_pos (by omega), dif_neg (by omega), if_neg h, add_zero]

/-- The key gradient. -/
theorem v61 (i : S4096x1024.Idx) :
    val_main_v61 (F := Ideal) (cv Q) (cv X) (cv O) i = ((DK (at2 Q) (keys X) (vals X) (at2 O) (i 0).val (i 1).val : ℝ) : EReal) := by
  obtain ⟨p, q, rfl⟩ : ∃ (p : Fin 4096) (q : Fin 1024), i = ix2 p q := ⟨i 0, i 1, eq_ix2 i⟩
  have hp := p.isLt
  have hq := q.isLt
  have e : idx_main_v57 (idx_main_v61 (ix2 p q)) = ix4 p (0 : Fin 2) (⟨q.val / 64, by omega⟩ : Fin 16) (⟨q.val % 64, by omega⟩ : Fin 64) := by
    refine funext fun a => Fin.ext ?_
    match a with
    | ⟨0, _⟩ => simp [idx_main_v57, idx_main_v61, ix2]; omega
    | ⟨1, _⟩ => simp [idx_main_v57, idx_main_v61, ix2]; omega
    | ⟨2, _⟩ => simp [idx_main_v57, idx_main_v61, ix2]; omega
    | ⟨3, _⟩ => simp [idx_main_v57, idx_main_v61, ix2]; omega
  have e' : 64 * (q.val / 64) + q.val % 64 = q.val := by omega
  rw [val_main_v61_apply, val_main_v57_apply, e, v56]
  rw [if_pos (by decide)]
  exact congrArg (fun l => ((DK (at2 Q) (keys X) (vals X) (at2 O) p.val l : ℝ) : EReal)) e'

/-- The value gradient. -/
theorem v62 (i : S4096x1024.Idx) :
    val_main_v62 (F := Ideal) (cv Q) (cv X) (cv O) i = ((DV (at2 Q) (keys X) (at2 O) (i 0).val (i 1).val : ℝ) : EReal) := by
  obtain ⟨p, q, rfl⟩ : ∃ (p : Fin 4096) (q : Fin 1024), i = ix2 p q := ⟨i 0, i 1, eq_ix2 i⟩
  have hp := p.isLt
  have hq := q.isLt
  have e : idx_main_v57 (idx_main_v62 (ix2 p q)) = ix4 p (1 : Fin 2) (⟨q.val / 64, by omega⟩ : Fin 16) (⟨q.val % 64, by omega⟩ : Fin 64) := by
    refine funext fun a => Fin.ext ?_
    match a with
    | ⟨0, _⟩ => simp [idx_main_v57, idx_main_v62, ix2]; omega
    | ⟨1, _⟩ => simp [idx_main_v57, idx_main_v62, ix2]; omega
    | ⟨2, _⟩ => simp [idx_main_v57, idx_main_v62, ix2]; omega
    | ⟨3, _⟩ => simp [idx_main_v57, idx_main_v62, ix2]; omega
  have e' : 64 * (q.val / 64) + q.val % 64 = q.val := by omega
  rw [val_main_v62_apply, val_main_v57_apply, e, v56]
  rw [if_neg (by decide)]
  exact congrArg (fun l => ((DV (at2 Q) (keys X) (at2 O) p.val l : ℝ) : EReal)) e'

end Cert.AttnRefIdeal.Block

end
-- ==== Proof.Attn.Claims.lean ====
/-
  The claims about the attention's gradient: frames, and equality with the reference at the ideal instance on finite inputs.
-/
module

public import proofs.«01_k».proof.Defs
public import proofs.«01_k».proof.Proof.Gen.Attn
public import proofs.«01_k».proof.Proof.Gen.Pre_attn_finite
public import proofs.«01_k».proof.Proof.Gen.AttnRefIdeal.Run
public import proofs.«01_k».proof.Proof.Attn.Value
public import proofs.«01_k».proof.Proof.Attn.RefValue
public import Idealize.ShloMosaic.Lib.Quiescent

@[expose] public section

set_option maxRecDepth 16384

noncomputable section

namespace Cert.Proof.AttnClaims

open Idealize.ShloMosaic Idealize.ShloMosaic.TcCoe Idealize.SL.Sem Cert.Reals
open Cert.Proof.Attn (Inputs)
open Cert.Proof.Attn.Model

/-- At the machine's floats the two programs' frames are one statement: their texts are the same. -/
theorem same : (∀ (m : (ℓ : Loc Cert.AttnIdeal.nD Cert.AttnIdeal.τ Cert.AttnIdeal.sig) → Buf (Elt Bits) ℓ) (ρ : Dev Cert.AttnIdeal.nD → PrngReg), True →
      θ_run (Cert.AttnIdeal.defs (F := Bits)) (onTc (τ := Cert.AttnIdeal.τ) (Cert.AttnIdeal.main (F := Bits))) ⟨m, fun _ => 0, ρ⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)) = Cert.quiescent_Attn := by
  sl_kernel_rfl

/-- The kernel and its idealization run without a fault, keep their arguments, and leave no semaphore raised: the two
programs' texts are the same, so the one run serves both. -/
theorem frame : Cert.quiescent_Attn := same.mp fun m ρ _ => Cert.Proof.Attn.frame_attn (F := Bits) m ρ
theorem frame_ideal : Cert.quiescent_AttnIdeal := fun m ρ _ => Cert.Proof.Attn.frame_attn m ρ
theorem frame_ideal_pre : Cert.quiescent_AttnIdeal_pre_attn_finite := fun m ρ _ => Cert.Proof.Attn.frame_attn m ρ

/-- So does the reference, at any state. -/
theorem frame_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)
theorem frame_ref_pre : Cert.quiescent_AttnRefIdeal_pre_attn_finite := fun m ρ _ => frame_ref m ρ trivial

/-- The idealization rewrites nothing. -/
theorem preserves : Cert.preserves_Attn_AttnIdeal := trivial

/-- The precondition, read: every element of the three arguments is finite. -/
theorem finite (q : FVec Ideal Cert.AttnIdeal.S4096x1024 .f32) (x : FVec Ideal Cert.AttnIdeal.S4096x2048 .f32)
    (o : FVec Ideal Cert.AttnIdeal.S4096x1024 .f32) (h : Cert.Pre_attn_finite.fn (F := Ideal) q x o = fun _ => 1#1) :
    (∀ i, q i ≠ ⊥ ∧ q i ≠ ⊤) ∧ (∀ i, x i ≠ ⊥ ∧ x i ≠ ⊤) ∧ ∀ i, o i ≠ ⊥ ∧ o i ≠ ⊤ := by
  have split (p : Fin 4096) (l : Fin 1024) : (q (ix2 p l) ≠ ⊥ ∧ q (ix2 p l) ≠ ⊤) ∧ (o (ix2 p l) ≠ ⊥ ∧ o (ix2 p l) ≠ ⊤)
      ∧ (x (ix2 p ⟨l.val, by omega⟩) ≠ ⊥ ∧ x (ix2 p ⟨l.val, by omega⟩) ≠ ⊤)
      ∧ (x (ix2 p ⟨1024 + l.val, by omega⟩) ≠ ⊥ ∧ x (ix2 p ⟨1024 + l.val, by omega⟩) ≠ ⊤) := by
    have k := congrFun h (ix2 p l)
    unfold Cert.Pre_attn_finite.fn at k
    pointwise at k
    obtain ⟨k, kv⟩ := and_eq_one k
    obtain ⟨k, kk⟩ := and_eq_one k
    obtain ⟨kq, ko⟩ := and_eq_one k
    exact ⟨finite_of_abs_lt _ kq, finite_of_abs_lt _ ko, finite_of_abs_lt _ kk, finite_of_abs_lt _ kv⟩
  refine ⟨fun i => ?_, fun i => ?_, fun i => ?_⟩
  · rw [eq_ix2 i]; exact (split _ _).1
  · obtain ⟨p, l, rfl⟩ : ∃ (p : Fin 4096) (l : Fin 2048), i = ix2 p l := ⟨i 0, i 1, eq_ix2 i⟩
    by_cases hl : l.val < 1024
    · exact (split p ⟨l.val, hl⟩).2.2.1
    · have := (split p ⟨l.val - 1024, by omega⟩).2.2.2
      have e : (⟨1024 + (l.val - 1024), by omega⟩ : Fin 2048) = l := Fin.ext (by show 1024 + (l.val - 1024) = l.val; omega)
      rw [e] at this
      exact this
  · rw [eq_ix2 i]; exact (split _ _).2.1

/-- On finite inputs the kernel's three gradients are the reference's. -/
theorem algebraic : Cert.algebraic_AttnIdeal_AttnRefIdeal_pre_attn_finite := by
  intro m ρ m' ρ' hpre hagree
  have hin (c : Dev Cert.AttnIdeal.nD) : ∃ Q O X, Inputs m Q O X c := by
    obtain ⟨hq, hx, ho⟩ := finite _ _ _ (hpre c)
    exact ⟨_, _, _, ⟨eq_cv _ hq, eq_cv _ hx, eq_cv _ ho⟩⟩
  choose Q O X hi using hin
  refine ⟨fun c i => ((DQ (at2 (Q c)) (keys (X c)) (vals (X c)) (at2 (O c)) (i 0).val (i 1).val : ℝ) : EReal),
    fun c i => ((DK (at2 (Q c)) (keys (X c)) (vals (X c)) (at2 (O c)) (i 0).val (i 1).val : ℝ) : EReal),
    fun c i => ((DV (at2 (Q c)) (keys (X c)) (at2 (O c)) (i 0).val (i 1).val : ℝ) : EReal), ?_, ?_⟩
  · refine (θ_run Cert.AttnIdeal.defs _ _).mono (fun r h c => ?_)
      (θ_run_and (Cert.Proof.Attn.run_main (F := Ideal) m ρ) (Cert.Proof.Attn.frame_attn (F := Ideal) m ρ))
    have a := (h.1.1 c).1
    have k := h.2.1 c
    exact ⟨(a 4).trans (Cert.Proof.Attn.final4 m c (hi c)), (a 5).trans (Cert.Proof.Attn.final5 m c (hi c)),
      (a 6).trans (Cert.Proof.Attn.final6 m c (hi c)), k⟩
  · refine (θ_run Cert.AttnRefIdeal.defs _ _).mono (fun r h c => ?_) (Cert.AttnRefIdeal.Value.run (F := Ideal) m' ρ')
    obtain ⟨h0, h1, h2, rest⟩ := h c
    have e0 := (hagree c).1.trans (hi c).q
    have e1 := (hagree c).2.1.trans (hi c).x
    have e2 := (hagree c).2.2.trans (hi c).o
    refine ⟨h0.trans ((Cert.AttnRefIdeal.Read.val_main_v60_eq _).trans ?_),
      h1.trans ((Cert.AttnRefIdeal.Read.val_main_v61_eq _).trans ?_),
      h2.trans ((Cert.AttnRefIdeal.Read.val_main_v62_eq _).trans ?_), rest⟩
    · refine Eq.trans ?_ (funext fun i => Cert.AttnRefIdeal.Block.v60 (Q c) (O c) (X c) i)
      exact congr (congr (congrArg _ e0) e1) e2
    · refine Eq.trans ?_ (funext fun i => Cert.AttnRefIdeal.Block.v61 (Q c) (O c) (X c) i)
      exact congr (congr (congrArg _ e0) e1) e2
    · refine Eq.trans ?_ (funext fun i => Cert.AttnRefIdeal.Block.v62 (Q c) (O c) (X c) i)
      exact congr (congr (congrArg _ e0) e1) e2

end Cert.Proof.AttnClaims

end
-- ==== Proof.Arrays.lean ====
/-
  Arrays of finite values written as functions of natural coordinates, and the elementwise operations on them.
-/
module

public import proofs.«01_k».proof.Proof.Reals
public import Idealize.ShloMosaic.Lib.Pointwise
public import Idealize.ShloMosaic.PureOps

@[expose] public section

noncomputable section

namespace Cert.Calc

open Idealize.ShloMosaic Cert.Reals
open scoped BigOperators

/-- The array of two axes whose entry at row `r` and column `c` is `f r c`. -/
def n2 {a b : ℕ} (f : ℕ → ℕ → ℝ) : (⟨2, ![a, b]⟩ : Shape).Idx → EReal := fun j => ((f (j 0).val (j 1).val : ℝ) : EReal)

theorem n2_ix {a b : ℕ} (f : ℕ → ℕ → ℝ) (p : Fin a) (q : Fin b) : n2 (a := a) (b := b) f (ix2 p q) = ((f p.val q.val : ℝ) : EReal) := rfl

/-- Two such arrays agree where their functions agree on the shape's coordinates. -/
theorem n2_congr {a b : ℕ} {f g : ℕ → ℕ → ℝ} (h : ∀ r < a, ∀ c < b, f r c = g r c) : n2 (a := a) (b := b) f = n2 g :=
  funext fun j => congrArg (fun x : ℝ => (x : EReal)) (h _ (j 0).isLt _ (j 1).isLt)

/-- The array of three axes whose entry at `(u, r, c)` is `f u r c`. -/
def n3 {a b d : ℕ} (f : ℕ → ℕ → ℕ → ℝ) : (⟨3, ![a, b, d]⟩ : Shape).Idx → EReal :=
  fun j => ((f (j 0).val (j 1).val (j 2).val : ℝ) : EReal)

/-- The array of 1024 elements whose entry at `c` is `S c`. -/
abbrev n1 (S : ℕ → ℝ) : (⟨1, ![1024]⟩ : Shape).Idx → EReal := fun j => ((S (j 0).val : ℝ) : EReal)

/-- The array of two axes with entries that may be infinite. -/
def e2 {a b : ℕ} (f : ℕ → ℕ → EReal) : (⟨2, ![a, b]⟩ : Shape).Idx → EReal := fun j => f (j 0).val (j 1).val

theorem e2_ix {a b : ℕ} (f : ℕ → ℕ → EReal) (p : Fin a) (q : Fin b) : e2 (a := a) (b := b) f (ix2 p q) = f p.val q.val := rfl

/-- Every array of two axes is one. -/
theorem exists_e2 {a b : ℕ} (x : (⟨2, ![a, b]⟩ : Shape).Idx → EReal) : ∃ f, x = e2 f := by
  refine ⟨fun r c => if h : r < a ∧ c < b then x (ix2 ⟨r, h.1⟩ ⟨c, h.2⟩) else 0, funext fun j => ?_⟩
  obtain ⟨p, q, rfl⟩ : ∃ p q, j = ix2 p q := ⟨j 0, j 1, eq_ix2 j⟩
  rw [e2_ix, dif_pos ⟨p.isLt, q.isLt⟩]

variable {a b : ℕ} (f g : ℕ → ℕ → ℝ)

theorem add : addf (F := Ideal) (φ := .f32) (n2 (a := a) (b := b) f) (n2 g) = n2 fun r c => f r c + g r c :=
  funext fun j => (EReal.coe_add _ _).symm

theorem sub : subf (F := Ideal) (φ := .f32) (n2 (a := a) (b := b) f) (n2 g) = n2 fun r c => f r c - g r c :=
  funext fun j => (EReal.coe_sub _ _).symm

theorem mul : mulf (F := Ideal) (φ := .f32) (n2 (a := a) (b := b) f) (n2 g) = n2 fun r c => f r c * g r c :=
  funext fun j => (EReal.coe_mul _ _).symm

theorem div (hg : ∀ r c, g r c ≠ 0) :
    divf (F := Ideal) (φ := .f32) (n2 (a := a) (b := b) f) (n2 g) = n2 fun r c => f r c / g r c :=
  funext fun j => div_coe _ _ (hg _ _)

/-- A matrix' real values by row and column, zero outside it. -/
def val2 {a b : ℕ} (x : (⟨2, ![a, b]⟩ : Shape).Idx → EReal) (r c : ℕ) : ℝ :=
  if h : r < a ∧ c < b then (x (ix2 ⟨r, h.1⟩ ⟨c, h.2⟩)).toReal else 0

/-- The same of three axes and of one. -/
def val3 {a b d : ℕ} (x : (⟨3, ![a, b, d]⟩ : Shape).Idx → EReal) (g r c : ℕ) : ℝ :=
  if h : g < a ∧ r < b ∧ c < d then (x (ix3 ⟨g, h.1⟩ ⟨r, h.2.1⟩ ⟨c, h.2.2⟩)).toReal else 0

def val1 {a : ℕ} (x : (⟨1, ![a]⟩ : Shape).Idx → EReal) (c : ℕ) : ℝ := if h : c < a then (x (ix1 ⟨c, h⟩)).toReal else 0

theorem eq_n2 {a b : ℕ} (x : (⟨2, ![a, b]⟩ : Shape).Idx → EReal) (h : ∀ i, x i ≠ ⊥ ∧ x i ≠ ⊤) : x = n2 (val2 x) := by
  funext j
  obtain ⟨p, q, rfl⟩ : ∃ p q, j = ix2 p q := ⟨j 0, j 1, eq_ix2 j⟩
  rw [n2_ix, val2, dif_pos ⟨p.isLt, q.isLt⟩]
  exact (EReal.coe_toReal (h _).2 (h _).1).symm

theorem eq_n3 {a b d : ℕ} (x : (⟨3, ![a, b, d]⟩ : Shape).Idx → EReal) (h : ∀ i, x i ≠ ⊥ ∧ x i ≠ ⊤) : x = n3 (val3 x) := by
  funext j
  obtain ⟨p, q, r, rfl⟩ : ∃ p q r, j = ix3 p q r := ⟨j 0, j 1, j 2, eq_ix3 j⟩
  show _ = ((val3 x p.val q.val r.val : ℝ) : EReal)
  rw [val3, dif_pos ⟨p.isLt, q.isLt, r.isLt⟩]
  exact (EReal.coe_toReal (h _).2 (h _).1).symm

theorem eq_n1 (x : (⟨1, ![1024]⟩ : Shape).Idx → EReal) (h : ∀ i, x i ≠ ⊥ ∧ x i ≠ ⊤) : x = n1 (val1 x) := by
  funext j
  obtain ⟨p, rfl⟩ : ∃ p, j = ix1 p := ⟨j 0, eq_ix1 j⟩
  show _ = ((val1 x p.val : ℝ) : EReal)
  rw [val1, dif_pos p.isLt]
  exact (EReal.coe_toReal (h _).2 (h _).1).symm

end Cert.Calc

end
-- ==== Proof.Pool.Calc.lean ====
/-
  Arrays of finite values written as functions of natural coordinates. Each operation of the pooling gradient's body,
  applied to such arrays, is such an array again; the lemmas here say which.
-/
module

public import proofs.«01_k».proof.Proof.Arrays
public import proofs.«01_k».proof.Proof.Gen.PoolIdeal.Skeleton

@[expose] public section

noncomputable section

namespace Cert.Calc

open Idealize.ShloMosaic Cert.Reals Cert.PoolIdeal Cert.PoolIdeal.Gen
open scoped BigOperators

variable {a b a' b' : ℕ} (f g : ℕ → ℕ → ℝ)

theorem slice (p q : ℕ) (h : (⟨2, ![a, b]⟩ : Shape).Slices ![p, q] ⟨2, ![a', b']⟩) :
    extractStridedSlice ⟨2, ![a', b']⟩ ![p, q] (n2 (a := a) (b := b) f) h = n2 fun r c => f (p + r) (q + c) := rfl

theorem rotate (m : ℕ) (hm : m < 528) (h : (⟨2, ![528, b]⟩ : Shape).Rotates 0 none) :
    dynamicRotate 0 (BitVec.ofNat 32 m) none (n2 (a := 528) (b := b) f) h = n2 fun r c => f ((r + 528 - m) % 528) c := by
  funext i
  obtain ⟨p, q, rfl⟩ : ∃ p q, i = ix2 p q := ⟨i 0, i 1, eq_ix2 i⟩
  have e : ((BitVec.ofNat 32 m).toNat + 0) % 528 = m := by
    rw [Nat.add_zero, BitVec.toNat_ofNat]; omega
  show ((f ((p.val + 528 - ((BitVec.ofNat 32 m).toNat + 0) % 528) % 528) q.val : ℝ) : EReal) = _
  rw [e]
  rfl

theorem narrow : truncf (F := Ideal) (φ := .f32) .bf16 (n2 (a := a) (b := b) f) bitsLt_bf16_f32 = n2 f := rfl

theorem column512 : broadcastTo S512x256 (n2 (a := 512) (b := 1) f) broadcasts_S512x1_S512x256 = n2 fun r _ => f r 0 := by
  funext i
  obtain ⟨p, q, rfl⟩ : ∃ p q, i = ix2 p q := ⟨i 0, i 1, eq_ix2 i⟩
  pointwise
  rfl

theorem column528 : broadcastTo S528x256 (n2 (a := 528) (b := 1) f) broadcasts_S528x1_S528x256 = n2 fun r _ => f r 0 := by
  funext i
  obtain ⟨p, q, rfl⟩ : ∃ p q, i = ix2 p q := ⟨i 0, i 1, eq_ix2 i⟩
  pointwise
  rfl

theorem row528 : broadcastTo S528x256 (n2 (a := 1) (b := 256) f) broadcasts_S1x256_S528x256 = n2 fun _ c => f 0 c := by
  funext i
  obtain ⟨p, q, rfl⟩ : ∃ p q, i = ix2 p q := ⟨i 0, i 1, eq_ix2 i⟩
  pointwise
  rfl

/-- The number of tokens the window of `w` ending at row `r` of tile `t` reaches. -/
def cnt (t w r : ℕ) : ℝ := ((min (512 * t + r + 1) w : ℕ) : ℝ)

theorem cnt_ne (t w r : ℕ) (hw : 0 < w) : cnt t w r ≠ 0 := by
  unfold cnt
  exact_mod_cast (Nat.pos_iff_ne_zero.mp (lt_min (by omega) hw))

theorem count_word (t p w : ℕ) (ht : t < 8) (hp : p < 528) (hw : w < 32) :
    FloatOps.sitofp (F := Ideal) .f32 (IntOp.minsi (IntOp.addi (IntOp.addi (Scalar.muli (BitVec.ofNat 32 t) 512#32)
      (BitVec.ofNat 32 p)) 1#32) (BitVec.ofNat 32 w)) = (((min (512 * t + p + 1) w : ℕ) : ℝ) : EReal) := by
  have e : IntOp.addi (IntOp.addi (Scalar.muli (BitVec.ofNat 32 t) 512#32) (BitVec.ofNat 32 p)) 1#32
      = BitVec.ofNat 32 (512 * t + p + 1) := by
    show BitVec.ofNat 32 t * 512#32 + BitVec.ofNat 32 p + 1#32 = _
    apply BitVec.eq_of_toNat_eq
    simp only [BitVec.toNat_add, BitVec.toNat_mul, BitVec.toNat_ofNat]
    omega
  have hi (n : ℕ) (hn : n < 8192) : (BitVec.ofNat 32 n).toInt = (n : ℤ) := by
    rw [BitVec.toInt_eq_toNat_of_lt (by rw [BitVec.toNat_ofNat]; omega), BitVec.toNat_ofNat, Nat.mod_eq_of_lt (by omega)]
  have em : IntOp.minsi (BitVec.ofNat 32 (512 * t + p + 1)) (BitVec.ofNat 32 w) = BitVec.ofNat 32 (min (512 * t + p + 1) w) := by
    unfold IntOp.minsi BitVec.slt
    rw [hi _ (by omega), hi _ (by omega)]
    by_cases h : (512 * t + p + 1 : ℕ) < w
    · rw [if_pos (by rw [decide_eq_true]; exact_mod_cast h), min_eq_left h.le]
    · rw [if_neg (by rw [decide_eq_true_eq]; exact_mod_cast h), min_eq_right (by omega)]
  rw [e, em]
  show (((BitVec.ofNat 32 (min (512 * t + p + 1) w)).toInt : ℝ) : EReal) = _
  rw [hi _ (by omega), Int.cast_natCast]

theorem count512 (t w : ℕ) (ht : t < 8) (hw : w < 32) (i : grid0.Coords) (hi : (i 0).val = t) :
    sitofp (F := Ideal) .f32 (minsi (addi (k0_pay6 i) (broadcast S512x1 1#32)) (broadcast S512x1 (BitVec.ofNat 32 w)))
      = n2 fun r _ => cnt t w r := by
  funext j
  obtain ⟨p, q, rfl⟩ : ∃ p q, j = ix2 p q := ⟨j 0, j 1, eq_ix2 j⟩
  pointwise [k0_pay6]
  rw [hi]
  exact count_word t p w ht (by omega) hw

theorem count528 (t w : ℕ) (ht : t < 8) (hw : w < 32) (i : grid0.Coords) (hi : (i 0).val = t) :
    sitofp (F := Ideal) .f32 (minsi (addi (k0_pay7 i) (broadcast S528x1 1#32)) (broadcast S528x1 (BitVec.ofNat 32 w)))
      = n2 fun r _ => cnt t w r := by
  funext j
  obtain ⟨p, q, rfl⟩ : ∃ p q, j = ix2 p q := ⟨j 0, j 1, eq_ix2 j⟩
  pointwise [k0_pay7]
  rw [hi]
  exact count_word t p w ht (by omega) hw

theorem slab (f : ℕ → ℕ → ℕ → ℝ) : shapeCast S256x256 (n3 (a := 1) (b := 256) (d := 256) f) shapeCasts_S1x256x256_S256x256 = n2 (f 0) := by
  funext j
  obtain ⟨p, q, rfl⟩ : ∃ p q, j = ix2 p q := ⟨j 0, j 1, eq_ix2 j⟩
  pointwise
  rfl

/-- The slab of an accumulator, with a product added. -/
theorem accum (v : FVec Ideal S1x256x256 .f32) (f : ℕ → ℕ → ℝ) (p q : Fin 256) :
    shapeCast S1x256x256 (addf (shapeCast S256x256 v shapeCasts_S1x256x256_S256x256) (n2 f)) shapeCasts_S256x256_S1x256x256 (ix3 0 p q)
      = v (ix3 0 p q) + ((f p.val q.val : ℝ) : EReal) := by
  pointwise
  rfl

theorem same (v : FVec Ideal S1x256 .f32) : shapeCast S1x256 v shapeCasts_S1x256_S1x256 = v := by
  funext j
  pointwise

theorem mm : matmul (F := Ideal) (φ₁ := .bf16) (φ₂ := .bf16) dot_S512x256_S256x256_S512x256_1_0_0_1_n_n none (n2 f : FVec Ideal S512x256 .bf16) (n2 g : FVec Ideal S256x256 .bf16)
    (constant S512x256 .f32 0x00000000#32) = n2 fun r d => ∑ k : Fin 256, f r k.val * g k.val d := by
  funext j
  obtain ⟨p, q, rfl⟩ : ∃ p q, j = ix2 p q := ⟨j 0, j 1, eq_ix2 j⟩
  pointwise
  simp only [n2_ix, ← EReal.coe_mul, sum_coe]
  try rfl

theorem mmt : matmul (F := Ideal) (φ₁ := .bf16) (φ₂ := .bf16) dot_S528x256_S256x256_S528x256_1_1_0_0_n_n none (n2 f : FVec Ideal S528x256 .bf16) (n2 g : FVec Ideal S256x256 .bf16)
    (constant S528x256 .f32 0x00000000#32) = n2 fun r c => ∑ k : Fin 256, f r k.val * g c k.val := by
  funext j
  obtain ⟨p, q, rfl⟩ : ∃ p q, j = ix2 p q := ⟨j 0, j 1, eq_ix2 j⟩
  pointwise
  simp only [n2_ix, ← EReal.coe_mul, sum_coe]
  try rfl

theorem tmm : matmul (F := Ideal) (φ₁ := .bf16) (φ₂ := .bf16) dot_S512x256_S512x256_S256x256_0_0_1_1_n_n none (n2 f : FVec Ideal S512x256 .bf16) (n2 g : FVec Ideal S512x256 .bf16)
    (constant S256x256 .f32 0x00000000#32) = n2 fun c d => ∑ p : Fin 512, f p.val c * g p.val d := by
  funext j
  obtain ⟨p, q, rfl⟩ : ∃ p q, j = ix2 p q := ⟨j 0, j 1, eq_ix2 j⟩
  pointwise
  simp only [n2_ix, ← EReal.coe_mul, sum_coe]
  try rfl

theorem colsum : shapeCast S1x256 (multiReduction (F := Ideal) .add [0] S256 (n2 f : FVec Ideal S512x256 .f32) 0x00000000#32
    reduces_S512x256_S256 (.inl rfl) rfl) shapeCasts_S256_S1x256 = n2 fun _ c => ∑ p : Fin 512, f p.val c := by
  funext j
  obtain ⟨p, q, rfl⟩ : ∃ p q, j = ix2 p q := ⟨j 0, j 1, eq_ix2 j⟩
  pointwise
  simp only [n2_ix, ← EReal.coe_mul, sum_coe]
  try rfl

theorem beside {n : ℕ} (f0 f1 f2 f3 : ℕ → ℕ → ℝ) (h) :
    concatenate (⟨2, ![n, 1024]⟩ : Shape) 1 [⟨⟨2, ![n, 256]⟩, n2 f0⟩, ⟨⟨2, ![n, 256]⟩, n2 f1⟩, ⟨⟨2, ![n, 256]⟩, n2 f2⟩, ⟨⟨2, ![n, 256]⟩, n2 f3⟩] h
      = (n2 fun r c => if c < 256 then f0 r c else if c - 256 < 256 then f1 r (c - 256) else if c - 256 - 256 < 256 then f2 r (c - 256 - 256)
          else f3 r (c - 256 - 256 - 256)
          : (⟨2, ![n, 1024]⟩ : Shape).Idx → EReal) := by
  funext j
  obtain ⟨p, q, rfl⟩ : ∃ p q, j = ix2 p q := ⟨j 0, j 1, eq_ix2 j⟩
  pointwise
  rw [n2_ix]
  split_ifs <;> rfl

end Cert.Calc
-- ==== Proof.Pool.Body.lean ====
/-
  The body of the pooling gradient on one tile of 512 tokens, for each of its four groups of channels: the pooled tokens,
  the products with the group's map, and the gradient carried back through the windows.
-/
module

public import proofs.«01_k».proof.Proof.Pool.Calc

@[expose] public section

set_option maxRecDepth 16384

noncomputable section

namespace Cert.Calc

open Idealize.ShloMosaic Cert.Reals Cert.PoolIdeal Cert.PoolIdeal.Gen
open scoped BigOperators

/-! ## Window sums by doubling -/

/-- One doubling step: each row plus the row `m` places before it, around the end of the 528 rows. -/
def roll (m : ℕ) (f : ℕ → ℕ → ℝ) (r c : ℕ) : ℝ := f r c + f ((r + 528 - m) % 528) c

/-- `f` holds the sums of the `m` rows ending at each row from `a` on. -/
def Trails (e : ℕ → ℕ → ℝ) (a m : ℕ) (f : ℕ → ℕ → ℝ) : Prop :=
  ∀ r c, a ≤ r → r < 528 → f r c = ∑ k ∈ Finset.range m, e (r - k) c

/-- `f` holds the sums of the `m` rows beginning at each row that has `a` more after it. -/
def Leads (e : ℕ → ℕ → ℝ) (a m : ℕ) (f : ℕ → ℕ → ℝ) : Prop :=
  ∀ r c, r + a < 528 → f r c = ∑ k ∈ Finset.range m, e (r + k) c

theorem trails_one (e : ℕ → ℕ → ℝ) : Trails e 0 1 e := fun r c _ _ => by simp

theorem leads_one (e : ℕ → ℕ → ℝ) : Leads e 0 1 e := fun r c _ => by simp

theorem Trails.roll {e : ℕ → ℕ → ℝ} {a m : ℕ} {f : ℕ → ℕ → ℝ} (h : Trails e a m f) : Trails e (a + m) (m + m) (roll m f) := by
  intro r c ha hr
  have e1 : (r + 528 - m) % 528 = r - m := by
    rw [show r + 528 - m = (r - m) + 528 by omega, Nat.add_mod_right, Nat.mod_eq_of_lt (by omega)]
  rw [Finset.sum_range_add, Calc.roll, e1, h r c (by omega) hr, h (r - m) c (by omega) (by omega)]
  congr 1
  exact Finset.sum_congr rfl fun k _ => by rw [Nat.sub_sub]

theorem Leads.roll {e : ℕ → ℕ → ℝ} {a m n : ℕ} {f : ℕ → ℕ → ℝ} (h : Leads e a m f) (hn : n + m = 528) :
    Leads e (a + m) (m + m) (roll n f) := by
  intro r c ha
  have e1 : (r + 528 - n) % 528 = r + m := by
    rw [show r + 528 - n = r + m by omega, Nat.mod_eq_of_lt (by omega)]
  rw [Finset.sum_range_add, Calc.roll, e1, h r c (by omega), h (r + m) c (by omega)]
  congr 1
  exact Finset.sum_congr rfl fun k _ => by rw [Nat.add_assoc]

variable (e : ℕ → ℕ → ℝ) (r c : ℕ)

theorem trail2 (h : r < 512) : roll 1 e (16 + r) c = ∑ k ∈ Finset.range 2, e (16 + r - k) c :=
  (trails_one e).roll (16 + r) c (by omega) (by omega)
theorem trail4 (h : r < 512) : roll 2 (roll 1 e) (16 + r) c = ∑ k ∈ Finset.range 4, e (16 + r - k) c :=
  (trails_one e).roll.roll (16 + r) c (by omega) (by omega)
theorem trail8 (h : r < 512) : roll 4 (roll 2 (roll 1 e)) (16 + r) c = ∑ k ∈ Finset.range 8, e (16 + r - k) c :=
  (trails_one e).roll.roll.roll (16 + r) c (by omega) (by omega)
theorem trail16 (h : r < 512) : roll 8 (roll 4 (roll 2 (roll 1 e))) (16 + r) c = ∑ k ∈ Finset.range 16, e (16 + r - k) c :=
  (trails_one e).roll.roll.roll.roll (16 + r) c (by omega) (by omega)
theorem lead2 (h : r < 512) : roll 527 e r c = ∑ k ∈ Finset.range 2, e (r + k) c :=
  (leads_one e).roll (n := 527) rfl r c (by omega)
theorem lead4 (h : r < 512) : roll 526 (roll 527 e) r c = ∑ k ∈ Finset.range 4, e (r + k) c :=
  ((leads_one e).roll (n := 527) rfl).roll (n := 526) rfl r c (by omega)
theorem lead8 (h : r < 512) : roll 524 (roll 526 (roll 527 e)) r c = ∑ k ∈ Finset.range 8, e (r + k) c :=
  (((leads_one e).roll (n := 527) rfl).roll (n := 526) rfl).roll (n := 524) rfl r c (by omega)
theorem lead16 (h : r < 512) : roll 520 (roll 524 (roll 526 (roll 527 e))) r c = ∑ k ∈ Finset.range 16, e (r + k) c :=
  ((((leads_one e).roll (n := 527) rfl).roll (n := 526) rfl).roll (n := 524) rfl).roll (n := 520) rfl r c (by omega)

/-- A doubling step as the body computes it. -/
theorem rolled {b : ℕ} (m : ℕ) (hm : m < 528) (f : ℕ → ℕ → ℝ) (h : (⟨2, ![528, b]⟩ : Shape).Rotates 0 none) :
    addf (F := Ideal) (φ := .f32) (n2 (a := 528) (b := b) f) (dynamicRotate 0 (BitVec.ofNat 32 m) none (n2 (a := 528) (b := b) f) h)
      = n2 (roll m f) := by
  rw [rotate _ m hm, add]
  rfl

/-! ## What a group computes on its tile -/

/-- The pooled token: the mean of its window, minus the token. `E` holds the tile after its 16 rows of halo, `o` is the group's
    first column. -/
def yk (E : ℕ → ℕ → ℝ) (o w t r c : ℕ) : ℝ := (∑ k ∈ Finset.range w, E (16 + r - k) (o + c)) / cnt t w r - E (16 + r) (o + c)

/-- The cotangent times the scale. -/
def dk (D : ℕ → ℕ → ℝ) (S : ℕ → ℝ) (o r c : ℕ) : ℝ := D r (o + c) * S (o + c)

/-- The gradient with respect to the pooled token. -/
def gk (D : ℕ → ℕ → ℝ) (S : ℕ → ℝ) (W : ℕ → ℕ → ℝ) (o r c : ℕ) : ℝ := ∑ d : Fin 256, dk D S o r d.val * W c d.val

/-- The gradient with respect to the token. -/
def hk (D : ℕ → ℕ → ℝ) (S : ℕ → ℝ) (W : ℕ → ℕ → ℝ) (o w t r c : ℕ) : ℝ :=
  (∑ k ∈ Finset.range w, gk D S W o (r + k) c / cnt t w (r + k)) - gk D S W o r c

variable {t : ℕ} (ht : t < 8) {i : grid0.Coords} (hi : (i 0).val = t)
include ht hi

theorem y0 {v4 : Vec Ideal S16x1024 .f32} {v7 : Vec Ideal S512x1024 .f32} {E : ℕ → ℕ → ℝ} (hE : k0_pay4 (F := Ideal) i v4 v7 = n2 E) :
    k0_pay8 (F := Ideal) i v4 v7 = n2 (yk E 0 2 t) := by
  unfold k0_pay8
  rw [hE]
  dsimp only
  rw [slice, rolled 1 (by norm_num), slice, slice, count512 t 2 ht (by norm_num) i hi, column512, div _ _ (fun r c => cnt_ne t 2 r (by norm_num)), sub, narrow]
  refine n2_congr fun r hr c hc => ?_
  rw [Nat.zero_add c, trail2 _ _ _ hr]
  simp only [Nat.zero_add, yk]

theorem y1 {v8 : FVec Ideal S528x1024 .f32} {E : ℕ → ℕ → ℝ} (hE : v8 = n2 E) :
    k0_pay16 (F := Ideal) (k0_pay6 i) (k0_pay14 v8) (k0_pay15 v8) 1#32 = n2 (yk E 256 4 t) := by
  subst hE
  unfold k0_pay16 k0_pay15 k0_pay14
  dsimp only
  rw [slice, rolled 1 (by norm_num), rolled 2 (by norm_num), slice, slice, count512 t 4 ht (by norm_num) i hi, column512,
    div _ _ (fun r c => cnt_ne t 4 r (by norm_num)), sub, narrow]
  refine n2_congr fun r hr c hc => ?_
  rw [Nat.zero_add c, trail4 _ _ _ hr]
  simp only [Nat.zero_add, yk]

theorem y2 {v8 : FVec Ideal S528x1024 .f32} {E : ℕ → ℕ → ℝ} (hE : v8 = n2 E) :
    k0_pay25 (F := Ideal) v8 (k0_pay6 i) = n2 (yk E 512 8 t) := by
  subst hE
  unfold k0_pay25
  dsimp only
  rw [slice, rolled 1 (by norm_num), rolled 2 (by norm_num), rolled 4 (by norm_num), slice, slice, count512 t 8 ht (by norm_num) i hi, column512,
    div _ _ (fun r c => cnt_ne t 8 r (by norm_num)), sub, narrow]
  refine n2_congr fun r hr c hc => ?_
  rw [Nat.zero_add c, trail8 _ _ _ hr]
  simp only [Nat.zero_add, yk]

theorem y3 {v8 : FVec Ideal S528x1024 .f32} {E : ℕ → ℕ → ℝ} (hE : v8 = n2 E) :
    k0_pay32 (F := Ideal) v8 (k0_pay6 i) = n2 (yk E 768 16 t) := by
  subst hE
  unfold k0_pay32
  dsimp only
  rw [slice, rolled 1 (by norm_num), rolled 2 (by norm_num), rolled 4 (by norm_num), rolled 8 (by norm_num), slice, slice,
    count512 t 16 ht (by norm_num) i hi, column512, div _ _ (fun r c => cnt_ne t 16 r (by norm_num)), sub, narrow]
  refine n2_congr fun r hr c hc => ?_
  rw [Nat.zero_add c, trail16 _ _ _ hr]
  simp only [Nat.zero_add, yk]

omit ht hi

variable {D : ℕ → ℕ → ℝ} {S : ℕ → ℝ} {W : ℕ → ℕ → ℕ → ℝ} {v14 : FVec Ideal S528x1024 .f32} (hD : v14 = n2 D)
  {vs : FVec Ideal S1x256 .f32} {o : ℕ} (hS : vs = n2 fun _ c => S (o + c))

/-- The cotangent times the scale, in the group beginning at column `o`. -/
theorem scaled (hs) (hD : v14 = n2 D) (hS : vs = n2 fun _ c => S (o + c)) :
    truncf (F := Ideal) .bf16 (mulf (extractStridedSlice S528x256 ![0, o] v14 hs) (broadcastTo S528x256
      (shapeCast S1x256 vs shapeCasts_S1x256_S1x256) broadcasts_S1x256_S528x256)) bitsLt_bf16_f32 = n2 (dk D S o) := by
  subst hD hS
  rw [slice, same, row528, mul, narrow]
  refine n2_congr fun r hr c hc => ?_
  simp only [Nat.zero_add, dk]

/-- The gradient with respect to the group's scale, on the tile. -/
theorem dscale {v13 : FVec Ideal S512x1024 .f32} {Y : ℕ → ℕ → ℝ} (hs) (hD : v13 = n2 D) :
    shapeCast S1x256 (multiReduction (F := Ideal) .add [0] S256 (mulf (extractStridedSlice S512x256 ![0, o] v13 hs)
      (matmul (φ₁ := .bf16) (φ₂ := .bf16) dot_S512x256_S256x256_S512x256_1_0_0_1_n_n none (n2 Y) (shapeCast S256x256 (n3 W) shapeCasts_S1x256x256_S256x256)
        (constant S512x256 .f32 0x00000000#32))) 0x00000000#32 reduces_S512x256_S256 (.inl rfl) rfl) shapeCasts_S256_S1x256
      = n2 fun _ c => ∑ p : Fin 512, D p.val (o + c) * ∑ k : Fin 256, Y p.val k.val * W 0 k.val c := by
  subst hD
  rw [slab, mm, slice, mul, colsum]
  refine n2_congr fun r hr c hc => ?_
  simp only [Nat.zero_add]

/-- The gradient with respect to the pooled token, on the tile and its halo. -/
theorem dpool : matmul (F := Ideal) (φ₁ := .bf16) (φ₂ := .bf16) dot_S528x256_S256x256_S528x256_1_1_0_0_n_n none (n2 (dk D S o))
    (shapeCast S256x256 (n3 W) shapeCasts_S1x256x256_S256x256) (constant S528x256 .f32 0x00000000#32) = n2 (gk D S (W 0) o) := by
  rw [slab, mmt]
  rfl

/-- The gradient with respect to the group's map, on the tile, added to what was there. -/
theorem dmap {Y : ℕ → ℕ → ℝ} (v : FVec Ideal S1x256x256 .f32) (hs) (p q : Fin 256) :
    shapeCast S1x256x256 (addf (shapeCast S256x256 v shapeCasts_S1x256x256_S256x256)
      (matmul (F := Ideal) (φ₁ := .bf16) (φ₂ := .bf16) dot_S512x256_S512x256_S256x256_0_0_1_1_n_n none (n2 Y)
        (extractStridedSlice S512x256 ![0, 0] (n2 (a := 528) (b := 256) (dk D S o)) hs) (constant S256x256 .f32 0x00000000#32)))
      shapeCasts_S256x256_S1x256x256 (ix3 0 p q)
      = v (ix3 0 p q) + ((∑ r : Fin 512, Y r.val p.val * dk D S o r.val q.val : ℝ) : EReal) := by
  rw [slice, tmm, accum]
  simp only [Nat.zero_add]

theorem h0 (ht : t < 8) (hi : (i 0).val = t) (hD : v14 = n2 D) (hS : vs = n2 fun _ c => S (0 + c)) :
    k0_pay13 (F := Ideal) v14 (k0_pay7 i) (n3 W) vs = n2 (hk D S (W 0) 0 2 t) := by
  unfold k0_pay13 k0_pay11 k0_pay9
  dsimp only
  rw [scaled _ hD hS, dpool, count528 t 2 ht (by norm_num) i hi, column528, div _ _ (fun r c => cnt_ne t 2 r (by norm_num)),
    rolled 527 (by norm_num), slice, slice, sub]
  refine n2_congr fun r hr c hc => ?_
  rw [Nat.zero_add r, Nat.zero_add c, lead2 _ _ _ hr]
  rfl

theorem h1 (ht : t < 8) (hi : (i 0).val = t) (hD : v14 = n2 D) (hS : vs = n2 fun _ c => S (256 + c)) :
    k0_pay24 (F := Ideal) (k0_pay21 v14 (n3 W) vs) (k0_pay22 v14 (k0_pay7 i) (n3 W) vs) (k0_pay23 v14 (k0_pay7 i) (n3 W) vs)
      = n2 (hk D S (W 0) 256 4 t) := by
  unfold k0_pay24 k0_pay23 k0_pay22 k0_pay21 k0_pay19 k0_pay17
  dsimp only
  rw [scaled _ hD hS, dpool, count528 t 4 ht (by norm_num) i hi, column528, div _ _ (fun r c => cnt_ne t 4 r (by norm_num)),
    rolled 527 (by norm_num), rolled 526 (by norm_num), slice, slice, sub]
  refine n2_congr fun r hr c hc => ?_
  rw [Nat.zero_add r, Nat.zero_add c, lead4 _ _ _ hr]
  rfl

theorem h2 (ht : t < 8) (hi : (i 0).val = t) (hD : v14 = n2 D) (hS : vs = n2 fun _ c => S (512 + c)) :
    k0_pay31 (F := Ideal) (k0_pay7 i) (k0_pay26 (n3 W)) (k0_pay28 v14 vs) = n2 (hk D S (W 0) 512 8 t) := by
  unfold k0_pay31 k0_pay28 k0_pay26
  dsimp only
  rw [scaled _ hD hS, dpool, count528 t 8 ht (by norm_num) i hi, column528, div _ _ (fun r c => cnt_ne t 8 r (by norm_num)),
    rolled 527 (by norm_num), rolled 526 (by norm_num), rolled 524 (by norm_num), slice, slice, sub]
  refine n2_congr fun r hr c hc => ?_
  rw [Nat.zero_add r, Nat.zero_add c, lead8 _ _ _ hr]
  rfl

theorem h3 (ht : t < 8) (hi : (i 0).val = t) (hD : v14 = n2 D) (hS : vs = n2 fun _ c => S (768 + c)) (f0 f1 f2 : ℕ → ℕ → ℝ) :
    k0_pay37 (F := Ideal) v14 (k0_pay7 i) (n2 f0) (n2 f1) (n2 f2) (k0_pay33 (n3 W)) vs
      = n2 fun r c => if c < 256 then f0 r c else if c - 256 < 256 then f1 r (c - 256) else if c - 256 - 256 < 256 then f2 r (c - 256 - 256)
          else hk D S (W 0) 768 16 t r (c - 256 - 256 - 256) := by
  unfold k0_pay37 k0_pay35 k0_pay33
  dsimp only
  rw [scaled _ hD hS, dpool, count528 t 16 ht (by norm_num) i hi, column528, div _ _ (fun r c => cnt_ne t 16 r (by norm_num)),
    rolled 527 (by norm_num), rolled 526 (by norm_num), rolled 524 (by norm_num), rolled 520 (by norm_num), slice, slice, sub]
  rw [beside]
  refine n2_congr fun r hr c _ => ?_
  split
  · rfl
  split
  · rfl
  split
  · rfl
  rw [Nat.zero_add r, Nat.zero_add (c - 256 - 256 - 256), lead16 _ _ _ hr]
  rfl

end Cert.Calc
-- ==== Proof.Pool.Point.lean ====
/-
  What one tile of the pooling gradient's body computes, in terms of the whole arrays: rows of the hidden states before the
  first and rows of the cotangent after the last count as zero.
-/
module

public import proofs.«01_k».proof.Proof.Pool.Body

@[expose] public section

set_option maxRecDepth 16384

noncomputable section

namespace Cert.Calc

open Cert.PoolIdeal Cert.PoolIdeal.Gen Cert.Reals Idealize.ShloMosaic
open scoped BigOperators

/-- The number of tokens each of the four groups of channels averages over. -/
def width : ℕ → ℕ
  | 0 => 2
  | 1 => 4
  | 2 => 8
  | _ => 16

theorem width_pos (g : ℕ) : 0 < width g := by unfold width; split <;> norm_num
theorem width_le (g : ℕ) : width g ≤ 16 := by unfold width; split <;> norm_num

variable (H M : ℕ → ℕ → ℝ) (S : ℕ → ℝ) (W : ℕ → ℕ → ℕ → ℝ)

/-- Group `g` of the pooled hidden states less the hidden states, at token `s`. -/
def YG (g s c : ℕ) : ℝ :=
  (∑ k ∈ Finset.range (width g), if k ≤ s then H (s - k) (256 * g + c) else 0) / ((min (s + 1) (width g) : ℕ) : ℝ) - H s (256 * g + c)

/-- Group `g` of the scaled cotangent. -/
def DG (g s c : ℕ) : ℝ := M s (256 * g + c) * S (256 * g + c)

/-- The cotangent of group `g`'s pooled states. -/
def GG (g s c : ℕ) : ℝ := ∑ d : Fin 256, DG M S g s d.val * W g c d.val

/-- The gradient of group `g`'s hidden states. -/
def HG (g s c : ℕ) : ℝ :=
  (∑ k ∈ Finset.range (width g), GG M S W g (s + k) c / ((min (s + k + 1) (width g) : ℕ) : ℝ)) - GG M S W g s c

/-- Group `g`'s pooled states times its map. -/
def PG (g s c : ℕ) : ℝ := ∑ k : Fin 256, YG H g s k.val * W g k.val c

/-- The first result: the gradient of the hidden states. -/
def DH (s q : ℕ) : ℝ := HG M S W (q / 256) s (q % 256)

/-- The second result: the gradient of the four maps. -/
def DW (g c d : ℕ) : ℝ := ∑ s : Fin 4096, YG H g s.val c * DG M S g s.val d

/-- The third result: the gradient of the scale. -/
def DS (q : ℕ) : ℝ := ∑ s : Fin 4096, M s.val q * PG H W (q / 256) s.val (q % 256)

/-- The rows which tile `t` and its halo before it hold. -/
def EV (t r c : ℕ) : ℝ := if r < 16 then (if t = 0 then 0 else H ((32 * t - 1) * 16 + r) c) else H (t * 512 + (r - 16)) c

/-- The rows which tile `t` and its halo after it hold. -/
def DV (t r c : ℕ) : ℝ :=
  if r < 512 then M (t * 512 + r) c else if t = 7 then 0 else M (min (32 * t + 32) 255 * 16 + (r - 512)) c

theorem EV_at (t r k c : ℕ) (hk : k < 16) : EV H t (16 + r - k) c = if k ≤ t * 512 + r then H (t * 512 + r - k) c else 0 := by
  unfold EV
  by_cases h : 16 + r - k < 16
  · rw [if_pos h]
    by_cases h0 : t = 0
    · rw [if_pos h0, if_neg (by omega)]
    · rw [if_neg h0, if_pos (by omega)]
      congr 1
      omega
  · rw [if_neg h, if_pos (by omega)]
    congr 1
    omega

theorem DV_at (hM : ∀ s c, 4096 ≤ s → M s c = 0) (t r c : ℕ) (ht : t < 8) (hr : r < 528) : DV M t r c = M (t * 512 + r) c := by
  unfold DV
  by_cases h : r < 512
  · rw [if_pos h]
  · rw [if_neg h]
    by_cases h0 : t = 7
    · rw [if_pos h0, hM _ _ (by omega)]
    · rw [if_neg h0]
      congr 1
      have : min (32 * t + 32) 255 = 32 * t + 32 := by omega
      omega

theorem yk_at (g t r c : ℕ) : yk (EV H t) (256 * g) (width g) t r c = YG H g (t * 512 + r) c := by
  have hw := width_le g
  unfold yk YG cnt
  rw [show 512 * t = t * 512 from Nat.mul_comm _ _]
  congr 1
  · congr 1
    refine Finset.sum_congr rfl fun k hk => ?_
    rw [EV_at _ _ _ _ _ (by rw [Finset.mem_range] at hk; omega)]
  · have := EV_at H t r 0 (256 * g + c) (by norm_num)
    rw [if_pos (Nat.zero_le _)] at this
    exact this

theorem dk_at (hM : ∀ s c, 4096 ≤ s → M s c = 0) (g t r c : ℕ) (ht : t < 8) (hr : r < 528) :
    dk (DV M t) S (256 * g) r c = DG M S g (t * 512 + r) c := by
  unfold dk DG
  rw [DV_at M hM t r _ ht hr]

theorem gk_at (hM : ∀ s c, 4096 ≤ s → M s c = 0) (g t r c : ℕ) (ht : t < 8) (hr : r < 528) :
    gk (DV M t) S (W g) (256 * g) r c = GG M S W g (t * 512 + r) c := by
  unfold gk GG
  exact Finset.sum_congr rfl fun d _ => by rw [dk_at M S hM g t r _ ht hr]

theorem hk_at (hM : ∀ s c, 4096 ≤ s → M s c = 0) (g t r c : ℕ) (ht : t < 8) (hr : r < 512) :
    hk (DV M t) S (W g) (256 * g) (width g) t r c = HG M S W g (t * 512 + r) c := by
  have hw := width_le g
  unfold hk HG cnt
  rw [gk_at M S W hM g t r c ht (by omega)]
  congr 1
  refine Finset.sum_congr rfl fun k hk => ?_
  rw [Finset.mem_range] at hk
  rw [gk_at M S W hM g t (r + k) c ht (by omega), show 512 * t + (r + k) = t * 512 + r + k by omega, ← Nat.add_assoc]

/-- A choice among four groups of 256 channels. -/
theorem groups (f : ℕ → ℕ → ℝ) (q : ℕ) (h : q < 1024) :
    (if q < 256 then f 0 q else if q - 256 < 256 then f 1 (q - 256) else if q - 256 - 256 < 256 then f 2 (q - 256 - 256)
      else f 3 (q - 256 - 256 - 256)) = f (q / 256) (q % 256) := by
  split_ifs with h0 h1 h2
  · congr 1 <;> omega
  · congr 1 <;> omega
  · congr 1 <;> omega
  · congr 1 <;> omega

variable {H M S W}

/-- The third result's accumulator after one tile. -/
theorem pay1 (f0 f1 f2 f3 : ℕ → ℕ → ℝ) (a : FVec Ideal S1x1024 .f32) (q : Fin 1024) :
    k0_pay1 (F := Ideal) (n2 f0) (n2 f1) (n2 f2) (n2 f3) a (ix2 0 q) = a (ix2 0 q) + (((if q.val < 256 then f0 0 q.val else
      if q.val - 256 < 256 then f1 0 (q.val - 256) else if q.val - 256 - 256 < 256 then f2 0 (q.val - 256 - 256) else f3 0 (q.val - 256 - 256 - 256)) : ℝ) : EReal) := by
  unfold k0_pay1
  rw [beside]
  pointwise
  rfl

variable {v13 : FVec Ideal S512x1024 .f32} {D : ℕ → ℕ → ℝ} {Y : ℕ → ℕ → ℝ} (w : ℕ → ℕ → ℕ → ℝ)

theorem s0 (hD : v13 = n2 D) : k0_pay10 (F := Ideal) v13 (n2 Y) (n3 w)
    = n2 fun _ c => ∑ p : Fin 512, D p.val (0 + c) * ∑ k : Fin 256, Y p.val k.val * w 0 k.val c := by
  unfold k0_pay10 k0_pay9
  exact dscale _ hD

theorem s2 (hD : v13 = n2 D) {v8 v18} (hY : k0_pay25 (F := Ideal) v8 v18 = n2 Y) : k0_pay27 (F := Ideal) v8 v13 v18 (n3 w)
    = n2 fun _ c => ∑ p : Fin 512, D p.val (512 + c) * ∑ k : Fin 256, Y p.val k.val * w 0 k.val c := by
  unfold k0_pay27 k0_pay26
  dsimp only
  rw [hY]
  exact dscale _ hD

theorem s1 (hD : v13 = n2 D) {v18 v71 v76 o} (hY : k0_pay16 (F := Ideal) v18 v71 v76 o = n2 Y) : k0_pay18 (F := Ideal) v13 v18 v71 v76 o (n3 w)
    = n2 fun _ c => ∑ p : Fin 512, D p.val (256 + c) * ∑ k : Fin 256, Y p.val k.val * w 0 k.val c := by
  unfold k0_pay18 k0_pay17
  dsimp only
  rw [hY]
  exact dscale _ hD

theorem s3 (hD : v13 = n2 D) : k0_pay34 (F := Ideal) v13 (n2 Y) (k0_pay33 (n3 w))
    = n2 fun _ c => ∑ p : Fin 512, D p.val (768 + c) * ∑ k : Fin 256, Y p.val k.val * w 0 k.val c := by
  unfold k0_pay34 k0_pay33
  exact dscale _ hD

variable {v14 : FVec Ideal S528x1024 .f32} {vs : FVec Ideal S1x256 .f32} (v : FVec Ideal S1x256x256 .f32) (p q : Fin 256)

theorem m0 (hD : v14 = n2 D) (hS : vs = n2 fun _ c => S (0 + c)) : k0_pay12 (F := Ideal) v14 (n2 Y) vs v (ix3 0 p q)
    = v (ix3 0 p q) + ((∑ r : Fin 512, Y r.val p.val * dk D S 0 r.val q.val : ℝ) : EReal) := by
  unfold k0_pay12 k0_pay11
  dsimp only
  rw [scaled (o := 0) _ hD hS]
  exact dmap v _ p q

theorem m1 (hD : v14 = n2 D) (hS : vs = n2 fun _ c => S (256 + c)) {v18 v71 v76 o} (hY : k0_pay16 (F := Ideal) v18 v71 v76 o = n2 Y) :
    k0_pay20 (F := Ideal) v14 v18 v71 v76 o vs v (ix3 0 p q)
    = v (ix3 0 p q) + ((∑ r : Fin 512, Y r.val p.val * dk D S 256 r.val q.val : ℝ) : EReal) := by
  unfold k0_pay20 k0_pay19
  dsimp only
  rw [scaled (o := 256) _ hD hS, hY]
  exact dmap v _ p q

theorem m2 (hD : v14 = n2 D) (hS : vs = n2 fun _ c => S (512 + c)) {v8 v18} (hY : k0_pay25 (F := Ideal) v8 v18 = n2 Y) :
    k0_pay30 (F := Ideal) (k0_pay29 v8 v14 v18 vs v) (ix3 0 p q)
    = v (ix3 0 p q) + ((∑ r : Fin 512, Y r.val p.val * dk D S 512 r.val q.val : ℝ) : EReal) := by
  unfold k0_pay30 k0_pay29 k0_pay28
  dsimp only
  rw [scaled (o := 512) _ hD hS, hY]
  exact dmap v _ p q

theorem m3 (hD : v14 = n2 D) (hS : vs = n2 fun _ c => S (768 + c)) : k0_pay36 (F := Ideal) v14 (n2 Y) vs v (ix3 0 p q)
    = v (ix3 0 p q) + ((∑ r : Fin 512, Y r.val p.val * dk D S 768 r.val q.val : ℝ) : EReal) := by
  unfold k0_pay36 k0_pay35
  dsimp only
  rw [scaled (o := 768) _ hD hS]
  exact dmap v _ p q

end Cert.Calc

end
-- ==== Proof.Pool.Block.lean ====
/-
  The pooling gradient's blocks on finite inputs, and its three results.
-/
module

public import proofs.«01_k».proof.Proof.Gen.PoolIdeal.Value
public import proofs.«01_k».proof.Proof.Pool.Point
public import Idealize.ShloMosaic.Lib.Pipeline.ValueKit
public import Idealize.ShloMosaic.Lib.Pipeline.ReadBack

@[expose] public section

set_option maxRecDepth 16384

noncomputable section

namespace Cert.Calc

open Cert.PoolIdeal Cert.PoolIdeal.Gen Cert.Reals Idealize.ShloMosaic Idealize.ShloMosaic.TcCoe Idealize.SL.Sem
open Idealize.ShloMosaic.Pipeline (Dat)
open scoped BigOperators

/-- The tile of the tokens after its halo, which the first tile has none of. -/
theorem pay4 (i : grid0.Coords) (t : ℕ) (hi : (i 0).val = t) (ht : t < 8) (f g : ℕ → ℕ → ℝ) :
    k0_pay4 (F := Ideal) i (n2 f) (n2 g) = n2 fun r c => if r < 16 then (if t = 0 then 0 else f r c) else g (r - 16) c := by
  funext j
  obtain ⟨p, q, rfl⟩ : ∃ p q, j = ix2 p q := ⟨j 0, j 1, eq_ix2 j⟩
  pointwise [k0_pay4]
  rw [hi, n2_ix]
  by_cases h : p.val < 16
  · rw [dif_pos h, if_pos h]
    by_cases h0 : t = 0
    · subst h0; rfl
    · have e : Scalar.cmpi .sgt (BitVec.ofNat 32 t) 0#32 = 1#1 := by
        interval_cases t <;> first | rfl | exact absurd rfl h0
      rw [e, if_neg h0]; rfl
  · rw [dif_neg h, if_neg h]; rfl

/-- The tile of the cotangent before its halo, which the last tile has none of. -/
theorem pay5 (i : grid0.Coords) (t : ℕ) (hi : (i 0).val = t) (ht : t < 8) (f g : ℕ → ℕ → ℝ) :
    k0_pay5 (F := Ideal) i (n2 f) (n2 g) = n2 fun r c => if r < 512 then g r c else if t = 7 then 0 else f (r - 512) c := by
  funext j
  obtain ⟨p, q, rfl⟩ : ∃ p q, j = ix2 p q := ⟨j 0, j 1, eq_ix2 j⟩
  pointwise [k0_pay5]
  rw [hi, n2_ix]
  by_cases h : p.val < 512
  · rw [dif_pos h, if_pos h]; rfl
  · rw [dif_neg h, if_neg h]
    by_cases h0 : t = 7
    · subst h0; rfl
    · have e : Scalar.cmpi .slt (BitVec.ofNat 32 t) 7#32 = 1#1 := by
        interval_cases t <;> first | rfl | exact absurd rfl h0
      rw [e, if_neg h0]; rfl

variable (m : (ℓ : Loc nD τ sig) → Buf (Elt Ideal) ℓ)
variable (H M : ℕ → ℕ → ℝ) (S : ℕ → ℝ) (W : ℕ → ℕ → ℕ → ℝ)

theorem idx : ∀ t : Fin cfg0.N, win0_0.index t = ![t.val, 0] ∧ win0_1.index t = ![32 * t.val - 1, 0] ∧ win0_2.index t = ![t.val, 0]
    ∧ win0_3.index t = ![min (32 * t.val + 32) 255, 0] ∧ win0_4.index t = ![0, 0, 0] ∧ win0_5.index t = ![0, 0]
    ∧ win0_6.index t = ![t.val, 0] ∧ win0_7.index t = ![0, 0, 0] ∧ win0_8.index t = ![0, 0] ∧ t.val < 8 ∧ (grid0.coords t 0).val = t.val :=
  (by decide +kernel : ∀ t : Fin grid0.N, _)

theorem iblk0 (c : Dev nD) (t : Fin cfg0.N) (h : m ((c : Thread nD τ).loc main_arg0) = n2 H) :
    iblk m c 0 t = n2 fun r q => H (t.val * 512 + r) q := by
  funext y
  blk_simp [iblk]
  rw [V_main_arg0, h]
  refine congrArg (fun r : ℝ => (r : EReal)) (congrArg₂ H ?_ ?_)
  · blk_simp [idx t]
  · blk_simp [idx t]

theorem iblk1 (c : Dev nD) (t : Fin cfg0.N) (h : m ((c : Thread nD τ).loc main_arg0) = n2 H) :
    iblk m c 1 t = n2 fun r q => H ((32 * t.val - 1) * 16 + r) q := by
  funext y
  blk_simp [iblk]
  rw [V_main_arg0, h]
  refine congrArg (fun r : ℝ => (r : EReal)) (congrArg₂ H ?_ ?_)
  · blk_simp [idx t]
  · blk_simp [idx t]

theorem iblk2 (c : Dev nD) (t : Fin cfg0.N) (h : m ((c : Thread nD τ).loc main_arg3) = n2 M) :
    iblk m c 2 t = n2 fun r q => M (t.val * 512 + r) q := by
  funext y
  blk_simp [iblk]
  rw [V_main_arg3, h]
  refine congrArg (fun r : ℝ => (r : EReal)) (congrArg₂ M ?_ ?_)
  · blk_simp [idx t]
  · blk_simp [idx t]

theorem iblk3 (c : Dev nD) (t : Fin cfg0.N) (h : m ((c : Thread nD τ).loc main_arg3) = n2 M) :
    iblk m c 3 t = n2 fun r q => M (min (32 * t.val + 32) 255 * 16 + r) q := by
  funext y
  blk_simp [iblk]
  rw [V_main_arg3, h]
  refine congrArg (fun r : ℝ => (r : EReal)) (congrArg₂ M ?_ ?_)
  · blk_simp [idx t]
  · blk_simp [idx t]

theorem iblk4 (c : Dev nD) (t : Fin cfg0.N) (h : m ((c : Thread nD τ).loc main_arg1) = n3 W) :
    iblk m c 4 t = n3 W := by
  funext y
  blk_simp [iblk, idx t]
  entry_read
  pointwise
  have h' : m (c, Proc.tc.devRef main_arg1) = n3 W := h
  rw [h']
  show ((W _ _ _ : ℝ) : EReal) = ((W _ _ _ : ℝ) : EReal)
  congr 2 <;> blk_simp [idx t]

theorem iblk5 (c : Dev nD) (t : Fin cfg0.N) (h : m ((c : Thread nD τ).loc main_arg2) = fun j => ((S (j 0).val : ℝ) : EReal)) :
    iblk m c 5 t = n2 fun _ q => S q := by
  funext y
  blk_simp [iblk, idx t]
  entry_read
  pointwise
  have h' : m (c, Proc.tc.devRef main_arg2) = fun j => ((S (j 0).val : ℝ) : EReal) := h
  rw [h']
  show ((S _ : ℝ) : EReal) = ((S _ : ℝ) : EReal)
  congr 2
  show (((View.whole main_v1).slice (win0_5.rect t)).emb y 1).val = _
  blk_simp [idx t]

theorem ld4 (o : ℕ) (inb) : (View.ld (Val := Elt Ideal) (e' := .bf16) (n3 (a := 4) (b := 256) (d := 256) W) (Rect.unit ![o, 0, 0] ![1, 256, 256] inb) : Vec Ideal S1x256x256 .bf16)
    = n3 fun u r c => W (o + u) r c := by
  funext j
  show ((W (o + 1 * (j 0).val) (0 + 1 * (j 1).val) (0 + 1 * (j 2).val) : ℝ) : EReal) = _
  simp only [Nat.one_mul, Nat.zero_add]
  rfl

theorem ld5 (o : ℕ) (inb) : (View.ld (Val := Elt Ideal) (e' := .f32) (n2 (a := 1) (b := 1024) fun _ q => S q) (Rect.unit ![0, o] ![1, 256] inb) : Vec Ideal S1x256 .f32)
    = n2 fun _ c => S (o + c) := by
  funext j
  show ((S (o + 1 * (j 1).val) : ℝ) : EReal) = _
  simp only [Nat.one_mul]
  rfl

/-- The four arguments on finite values; the cotangent's rows past the last are zero. -/
structure Inputs (c : Dev nD) : Prop where
  h : m ((c : Thread nD τ).loc main_arg0) = n2 H
  w : m ((c : Thread nD τ).loc main_arg1) = n3 W
  s : m ((c : Thread nD τ).loc main_arg2) = fun j => ((S (j 0).val : ℝ) : EReal)
  d : m ((c : Thread nD τ).loc main_arg3) = n2 M
  z : ∀ s c, 4096 ≤ s → M s c = 0

variable {H M S W}

theorem tileE (c : Dev nD) (t : Fin cfg0.N) (h : Inputs m H M S W c) :
    k0_pay4 (F := Ideal) (grid0.coords t) (iblk m c 1 t) (iblk m c 0 t) = n2 (EV H t.val) := by
  rw [iblk0 m H c t h.h, iblk1 m H c t h.h]
  exact pay4 _ t.val (idx t).2.2.2.2.2.2.2.2.2.2 (idx t).2.2.2.2.2.2.2.2.2.1 _ _

theorem tileD (c : Dev nD) (t : Fin cfg0.N) (h : Inputs m H M S W c) :
    k0_pay5 (F := Ideal) (grid0.coords t) (iblk m c 3 t) (iblk m c 2 t) = n2 (DV M t.val) := by
  rw [iblk2 m M c t h.d, iblk3 m M c t h.d]
  exact pay5 _ t.val (idx t).2.2.2.2.2.2.2.2.2.2 (idx t).2.2.2.2.2.2.2.2.2.1 _ _

theorem outs6 (c : Dev nD) (t : Fin cfg0.N) (h : Inputs m H M S W c) : (outsAt0 m c t.val t.isLt).1 = n2 fun r q => DH M S W (t.val * 512 + r) q := by
  have ht := (idx t).2.2.2.2.2.2.2.2.2.1
  have hi := (idx t).2.2.2.2.2.2.2.2.2.2
  have key : (outsAt0 m c t.val t.isLt).1 = n2 (a := 512) (b := 1024) fun r c => if c < 256 then hk (DV M t.val) S (fun r c => W (0 + 0) r c) 0 2 t.val r c else
      if c - 256 < 256 then hk (DV M t.val) S (fun r c => W (1 + 0) r c) 256 4 t.val r (c - 256) else
      if c - 256 - 256 < 256 then hk (DV M t.val) S (fun r c => W (2 + 0) r c) 512 8 t.val r (c - 256 - 256) else
      hk (DV M t.val) S (fun r c => W (3 + 0) r c) 768 16 t.val r (c - 256 - 256 - 256) := by
    by_cases hc : t.val % 8 = 0
    · rw [outsAt0_A m c t hc]
      frame_out
      rw [tileD m c t h, iblk4 m W c t h.w, iblk5 m S c t h.s, ld4, ld4, ld4, ld4, ld5, ld5, ld5, ld5,
        h0 ht hi rfl rfl, h1 ht hi rfl rfl, h2 ht hi rfl rfl, h3 ht hi rfl rfl]
    · rw [outsAt0_B m c t hc]
      frame_out
      rw [tileD m c t h, iblk4 m W c t h.w, iblk5 m S c t h.s, ld4, ld4, ld4, ld4, ld5, ld5, ld5, ld5,
        h0 ht hi rfl rfl, h1 ht hi rfl rfl, h2 ht hi rfl rfl, h3 ht hi rfl rfl]
  rw [key]
  refine n2_congr fun r hr q hq => ?_
  have e (g c : ℕ) := hk_at M S W h.z g t.val r c ht hr
  exact (groups (fun g c => hk (DV M t.val) S (W g) (256 * g) (width g) t.val r c) q hq).trans (e _ _)

/-- What tile `t` adds to the second result, and to the third. -/
def addW (H M : ℕ → ℕ → ℝ) (S : ℕ → ℝ) (t g p q : ℕ) : ℝ :=
  ∑ r : Fin 512, yk (EV H t) (256 * g) (width g) t r.val p * dk (DV M t) S (256 * g) r.val q

def addS (H M : ℕ → ℕ → ℝ) (W : ℕ → ℕ → ℕ → ℝ) (t q : ℕ) : ℝ :=
  ∑ r : Fin 512, M (t * 512 + r.val) q * PG H W (q / 256) (t * 512 + r.val) (q % 256)

theorem addS_eq (t q : ℕ) (hq : q < 1024) : (if q < 256 then ∑ p : Fin 512, M (t * 512 + p.val) (0 + q) * ∑ k : Fin 256, yk (EV H t) 0 2 t p.val k.val * W (0 + 0) k.val q else
      if q - 256 < 256 then ∑ p : Fin 512, M (t * 512 + p.val) (256 + (q - 256)) * ∑ k : Fin 256, yk (EV H t) 256 4 t p.val k.val * W (1 + 0) k.val (q - 256) else
      if q - 256 - 256 < 256 then ∑ p : Fin 512, M (t * 512 + p.val) (512 + (q - 256 - 256)) * ∑ k : Fin 256, yk (EV H t) 512 8 t p.val k.val * W (2 + 0) k.val (q - 256 - 256) else
      ∑ p : Fin 512, M (t * 512 + p.val) (768 + (q - 256 - 256 - 256)) * ∑ k : Fin 256, yk (EV H t) 768 16 t p.val k.val * W (3 + 0) k.val (q - 256 - 256 - 256))
      = addS H M W t q := by
  refine (groups (fun g c => ∑ p : Fin 512, M (t * 512 + p.val) (256 * g + c) * ∑ k : Fin 256, yk (EV H t) (256 * g) (width g) t p.val k.val * W g k.val c) q hq).trans ?_
  unfold addS PG
  refine Finset.sum_congr rfl fun p _ => ?_
  rw [Nat.div_add_mod]
  congr 1
  refine Finset.sum_congr rfl fun k _ => ?_
  rw [yk_at]

theorem outs8 (c : Dev nD) (t : Fin cfg0.N) (h : Inputs m H M S W c) (a : FVec Ideal S1x1024 .f32) (q : Fin 1024) :
    k0_pay1 (F := Ideal) (k0_pay10 (iblk m c 2 t) (k0_pay8 (grid0.coords t) (iblk m c 1 t) (iblk m c 0 t)) (n3 fun u r c => W (0 + u) r c))
      (k0_pay18 (iblk m c 2 t) (k0_pay6 (grid0.coords t)) (k0_pay14 (n2 (EV H t.val))) (k0_pay15 (n2 (EV H t.val))) 1#32 (n3 fun u r c => W (1 + u) r c))
      (k0_pay27 (n2 (EV H t.val)) (iblk m c 2 t) (k0_pay6 (grid0.coords t)) (n3 fun u r c => W (2 + u) r c))
      (k0_pay34 (iblk m c 2 t) (k0_pay32 (n2 (EV H t.val)) (k0_pay6 (grid0.coords t))) (k0_pay33 (n3 fun u r c => W (3 + u) r c))) a (ix2 0 q)
      = a (ix2 0 q) + ((addS H M W t.val q.val : ℝ) : EReal) := by
  have ht := (idx t).2.2.2.2.2.2.2.2.2.1
  have hi := (idx t).2.2.2.2.2.2.2.2.2.2
  have hD := iblk2 m M c t h.d
  rw [y0 ht hi (tileE m c t h), y3 ht hi rfl, s0 _ hD, s1 _ hD (y1 ht hi rfl), s2 _ hD (y2 ht hi rfl), s3 _ hD, pay1]
  exact congrArg (fun x : ℝ => a (ix2 0 q) + (x : EReal)) (addS_eq t.val q.val q.isLt)

/-- The third result: the gradient of the scale. -/
theorem final8 (c : Dev nD) (h : Inputs m H M S W c) : (dats m 0 c).arrAt 8 (cfgs 0).N = n2 fun _ q => DS H M W q := by
  refine (dats m 0 c).arrAt_eq_of_after_last 8 t0_7 (by decide +kernel) _ fun j => ?_
  blk_simp
  rw [after0_8]
  obtain ⟨u, q, rfl⟩ : ∃ u q, j = ix2 u q := ⟨j 0, j 1, eq_ix2 j⟩
  obtain rfl : u = 0 := Subsingleton.elim _ _
  refine (Pipeline.eq_sum_fin_of_reset_step_apply_last (fun n h => (outsAt0 m c n h).2.2) 8 (fun _ => (0 : EReal))
    (fun t j => ((addS H M W t.val (j 1).val : ℝ) : EReal))
    (fun t h0 j => ?_) (fun t h0 j => ?_) (by decide) t0_7 rfl (ix2 0 q)).trans ?_
  · obtain ⟨u, q, rfl⟩ : ∃ u q, j = ix2 u q := ⟨j 0, j 1, eq_ix2 j⟩
    obtain rfl : u = 0 := Subsingleton.elim _ _
    rw [outsAt0_A m c t h0]
    frame_out
    rw [tileE m c t h, iblk4 m W c t h.w, ld4, ld4, ld4, ld4, outs8 m c t h]
    exact congrArg (· + _) lit_zero
  · obtain ⟨u, q, rfl⟩ : ∃ u q, j = ix2 u q := ⟨j 0, j 1, eq_ix2 j⟩
    obtain rfl : u = 0 := Subsingleton.elim _ _
    rw [outsAt0_B m c t h0]
    frame_out
    rw [tileE m c t h, iblk4 m W c t h.w, ld4, ld4, ld4, ld4, outs8 m c t h]
    rfl
  · rw [zero_add, sum_coe]
    exact congrArg _ (sum_blocks N_0 fun r => M r.val q.val * PG H W (q.val / 256) r.val (q.val % 256))

/-- The first result: the gradient of the hidden states. -/
theorem final6 (c : Dev nD) (h : Inputs m H M S W c) : (dats m 0 c).arrAt 6 (cfgs 0).N = n2 (DH M S W) := by
  refine (dats m 0 c).arrAt_eq_of_covers 6 _ (by decide +kernel) fun t _ y => ?_
  blk_simp
  rw [after0_6, outs6 m c t h]
  obtain ⟨p, q, rfl⟩ : ∃ p q, y = ix2 p q := ⟨y 0, y 1, eq_ix2 y⟩
  have ht := (idx t).2.2.2.2.2.2.2.2.2.1
  have e : ((cfg0.win 6).blk t).view.emb (ix2 p q) = ix2 (⟨t.val * 512 + p.val, by omega⟩ : Fin 4096) q := by
    blk_ext [idx t]
  rw [e]
  rfl

/-- An accumulator of four slabs, plus `f`, read on one slab. -/
theorem piece (v : FVec Ideal S4x256x256 .f32) (f : ℕ → ℕ → ℕ → ℝ) (g : ℕ) (inb) (p q : Fin 256) :
    v ((Rect.unit (s := S4x256x256) ![g, 0, 0] ![1, 256, 256] inb).emb (ix3 0 p q)) + ((f ((Rect.unit (s := S4x256x256) ![g, 0, 0] ![1, 256, 256] inb).emb (ix3 0 p q) 0).val
      ((Rect.unit (s := S4x256x256) ![g, 0, 0] ![1, 256, 256] inb).emb (ix3 0 p q) 1).val ((Rect.unit (s := S4x256x256) ![g, 0, 0] ![1, 256, 256] inb).emb (ix3 0 p q) 2).val : ℝ) : EReal)
      = View.ld (Val := Elt Ideal) (e' := .f32) v (Rect.unit ![g, 0, 0] ![1, 256, 256] inb) (ix3 0 p q) + ((f g p.val q.val : ℝ) : EReal) := by
  show _ + ((f (g + 1 * 0) (0 + 1 * p.val) (0 + 1 * q.val) : ℝ) : EReal) = _
  simp only [Nat.one_mul, Nat.zero_add, Nat.add_zero]
  rfl

/-- Slab `g` holds the indices whose first coordinate is `g`. -/
theorem mem_slab (j : S4x256x256.Idx) (g : ℕ) (h : (j 0).val = g) (inb) : j ∈ (Rect.unit (s := S4x256x256) ![g, 0, 0] ![1, 256, 256] inb).set := by
  rw [Rect.mem_set_unit]
  intro a
  match a with
  | ⟨0, _⟩ => exact ⟨h.ge, by show (j 0).val < g + 1; omega⟩
  | ⟨1, _⟩ => exact ⟨Nat.zero_le _, by show (j 1).val < 0 + 256; have : (j 1).val < 256 := (j 1).isLt; omega⟩
  | ⟨2, _⟩ => exact ⟨Nat.zero_le _, by show (j 2).val < 0 + 256; have : (j 2).val < 256 := (j 2).isLt; omega⟩

theorem split3 (x : S1x256x256.Idx) : ∃ p q, x = ix3 0 p q :=
  ⟨x 1, x 2, (eq_ix3 x).trans (congrArg (fun u => ix3 u (x 1) (x 2)) (Subsingleton.elim _ _))⟩

/-- Over any earlier stores, the four stores of a tile leave in each slab what they loaded of it plus the tile's product. -/
theorem slabs (i : grid0.Coords) (t : ℕ) (ht : t < 8) (hi : (i 0).val = t) (v : FVec Ideal S4x256x256 .f32) (L : List (View.Piece (Elt Ideal) S4x256x256 .f32)) (j : S4x256x256.Idx) :
    View.canon (⟨Rect.unit ![3, 0, 0] ![1, 256, 256] inb_S4x256x256_S1x256x256_3_0_0,
          k0_pay36 (F := Ideal) (n2 (DV M t)) (n2 (yk (EV H t) 768 16 t)) (n2 fun _ c => S (768 + c))
            (View.ld (Val := Elt Ideal) (e' := .f32) v (Rect.unit ![3, 0, 0] ![1, 256, 256] inb_S4x256x256_S1x256x256_3_0_0))⟩ ::
        ⟨Rect.unit ![2, 0, 0] ![1, 256, 256] inb_S4x256x256_S1x256x256_2_0_0,
          k0_pay30 (F := Ideal) (k0_pay29 (n2 (EV H t)) (n2 (DV M t)) (k0_pay6 i) (n2 fun _ c => S (512 + c))
            (View.ld (Val := Elt Ideal) (e' := .f32) v (Rect.unit ![2, 0, 0] ![1, 256, 256] inb_S4x256x256_S1x256x256_2_0_0)))⟩ ::
        ⟨Rect.unit ![1, 0, 0] ![1, 256, 256] inb_S4x256x256_S1x256x256_1_0_0,
          k0_pay20 (F := Ideal) (n2 (DV M t)) (k0_pay6 i) (k0_pay14 (n2 (EV H t))) (k0_pay15 (n2 (EV H t))) 1#32 (n2 fun _ c => S (256 + c))
            (View.ld (Val := Elt Ideal) (e' := .f32) v (Rect.unit ![1, 0, 0] ![1, 256, 256] inb_S4x256x256_S1x256x256_1_0_0))⟩ ::
        ⟨Rect.unit ![0, 0, 0] ![1, 256, 256] inb_S4x256x256_S1x256x256_0_0_0,
          k0_pay12 (F := Ideal) (n2 (DV M t)) (n2 (yk (EV H t) 0 2 t)) (n2 fun _ c => S (0 + c))
            (View.ld (Val := Elt Ideal) (e' := .f32) v (Rect.unit ![0, 0, 0] ![1, 256, 256] inb_S4x256x256_S1x256x256_0_0_0))⟩ :: L) j
      = v j + ((addW H M S t (j 0).val (j 1).val (j 2).val : ℝ) : EReal) := by
  refine View.canon_append_of_piecesOf (fun j => v j + ((addW H M S t (j 0).val (j 1).val (j 2).val : ℝ) : EReal)) L
    [⟨_, _⟩, ⟨_, _⟩, ⟨_, _⟩, ⟨_, _⟩] (And.intro (fun x => ?_) (And.intro (fun x => ?_) (And.intro (fun x => ?_) (And.intro (fun x => ?_) trivial)))) j ?_
  · obtain ⟨p, q, rfl⟩ := split3 x
    exact (m3 _ p q rfl rfl).trans (piece v (addW H M S t) 3 _ p q).symm
  · obtain ⟨p, q, rfl⟩ := split3 x
    exact (m2 _ p q rfl rfl (y2 ht hi rfl)).trans (piece v (addW H M S t) 2 _ p q).symm
  · obtain ⟨p, q, rfl⟩ := split3 x
    exact (m1 _ p q rfl rfl (y1 ht hi rfl)).trans (piece v (addW H M S t) 1 _ p q).symm
  · obtain ⟨p, q, rfl⟩ := split3 x
    exact (m0 _ p q rfl rfl).trans (piece v (addW H M S t) 0 _ p q).symm
  · have hj : (j 0).val < 4 := (j 0).isLt
    obtain e | e | e | e : (j 0).val = 3 ∨ (j 0).val = 2 ∨ (j 0).val = 1 ∨ (j 0).val = 0 := by omega
    · exact ⟨_, .head _, mem_slab j 3 e inb_S4x256x256_S1x256x256_3_0_0⟩
    · exact ⟨_, .tail _ (.head _), mem_slab j 2 e inb_S4x256x256_S1x256x256_2_0_0⟩
    · exact ⟨_, .tail _ (.tail _ (.head _)), mem_slab j 1 e inb_S4x256x256_S1x256x256_1_0_0⟩
    · exact ⟨_, .tail _ (.tail _ (.tail _ (.head _))), mem_slab j 0 e inb_S4x256x256_S1x256x256_0_0_0⟩

theorem outs7_B (c : Dev nD) (t : Fin cfg0.N) (h : Inputs m H M S W c) (h0 : ¬t.val % 8 = 0) (j : S4x256x256.Idx) :
    (outsAt0 m c t.val t.isLt).2.1 j = (outsAt0 m c (t.val - 1) (by omega)).2.1 j + ((addW H M S t.val (j 0).val (j 1).val (j 2).val : ℝ) : EReal) := by
  have ht := (idx t).2.2.2.2.2.2.2.2.2.1
  have hi := (idx t).2.2.2.2.2.2.2.2.2.2
  rw [outsAt0_B m c t h0]
  frame_out
  rw [tileE m c t h, tileD m c t h, y0 ht hi (tileE m c t h), y3 ht hi rfl, iblk5 m S c t h.s, ld5, ld5, ld5, ld5]
  exact slabs (grid0.coords t) t.val ht hi _ [] j

theorem outs7_A (c : Dev nD) (t : Fin cfg0.N) (h : Inputs m H M S W c) (h0 : t.val % 8 = 0) (j : S4x256x256.Idx) :
    (outsAt0 m c t.val t.isLt).2.1 j = 0 + ((addW H M S t.val (j 0).val (j 1).val (j 2).val : ℝ) : EReal) := by
  have ht := (idx t).2.2.2.2.2.2.2.2.2.1
  have hi := (idx t).2.2.2.2.2.2.2.2.2.2
  rw [outsAt0_A m c t h0]
  frame_out
  simp (disch := first | decide | (intro a; fin_cases a <;> rfl)) only [↓View.readCov_skip, View.readCov_fill]
  rw [tileE m c t h, tileD m c t h, y0 ht hi (tileE m c t h), y3 ht hi rfl, iblk5 m S c t h.s, ld5, ld5, ld5, ld5]
  refine (slabs (grid0.coords t) t.val ht hi k0_pay2 _ j).trans ?_
  exact congrArg (· + _) lit_zero

/-- The second result: the gradient of the four maps. -/
theorem final7 (c : Dev nD) (h : Inputs m H M S W c) : (dats m 0 c).arrAt 7 (cfgs 0).N = n3 (DW H M S) := by
  refine (dats m 0 c).arrAt_eq_of_after_last 7 t0_7 (by decide +kernel) _ fun j => ?_
  blk_simp
  rw [after0_7]
  refine (Pipeline.eq_sum_fin_of_reset_step_apply_last (fun n h => (outsAt0 m c n h).2.1) 8 (fun _ => (0 : EReal))
    (fun t j => ((addW H M S t.val (j 0).val (j 1).val (j 2).val : ℝ) : EReal))
    (fun t h0 j => outs7_A m c t h h0 j) (fun t h0 j => outs7_B m c t h h0 j) (by decide) t0_7 rfl j).trans ?_
  rw [zero_add, sum_coe]
  refine congrArg (fun x : ℝ => (x : EReal)) ((Finset.sum_congr rfl fun t _ => ?_).trans
    (sum_blocks N_0 fun r => YG H (j 0).val r.val (j 1).val * DG M S (j 0).val r.val (j 2).val))
  have ht := (idx t).2.2.2.2.2.2.2.2.2.1
  refine Finset.sum_congr rfl fun r _ => ?_
  rw [yk_at, dk_at M S h.z _ _ _ _ ht (by omega)]

end Cert.Calc

end
-- ==== Proof.Pool.HostCalc.lean ====
/-
  Host operations on arrays of two axes written by natural coordinates: running sums along the rows, zero padding, stacking.
-/
module

public import proofs.«01_k».proof.Proof.Pool.Point
public import Idealize.ShloMosaic.Lib.Pointwise

@[expose] public section

set_option maxRecDepth 16384

noncomputable section

namespace Cert.Calc

open Cert.Reals Idealize.ShloMosaic
open scoped BigOperators

/-- A fold that adds one term after another is the start plus the sum of the terms. -/
theorem foldl_add {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- The positions of a window of `N` rows and one column. -/
def rows (N : ℕ) : Fin N ≃ (⟨2, ![N, 1]⟩ : Shape).Idx where
  toFun n := ix2 n (0 : Fin 1)
  invFun w := w 0
  left_inv _ := rfl
  right_inv w := by
    refine funext fun a => Fin.ext ?_
    match a with
    | ⟨0, _⟩ => rfl
    | ⟨1, _⟩ => have h : (w 1).val < 1 := (w 1).isLt; show 0 = (w 1).val; omega

/-- A window sum along the rows, the window as long as the rows and the start zero. -/
theorem windowRows {N B lo hi : ℕ} (x : (⟨2, ![N, B]⟩ : Shape).Idx → EReal) (init : EReal) (h0 : init = 0)
    (h : (⟨2, ![N, B]⟩ : Shape).ReduceWindows (![N, 1] : Fin 2 → ℕ) ![1, 1] ![lo, 0] ![hi, 0] ⟨2, ![N, B]⟩)
    (c : Fin N) (b : Fin B) :
    Ideal.hostReduceWindowAdd (![N, 1] : Fin 2 → ℕ) ![1, 1] ![lo, 0] ![hi, 0] h x init (ix2 c b)
      = ∑ n : Fin N, if hn : lo ≤ c.val + n.val ∧ c.val + n.val - lo < N then x (ix2 ⟨c.val + n.val - lo, hn.2⟩ b) else 0 := by
  subst h0
  unfold Ideal.hostReduceWindowAdd Host.reduceWindow
  dsimp only
  rw [foldl_add, zero_add, ← Equiv.sum_comp ((rows N).trans (⟨2, ![N, 1]⟩ : Shape).rowMajor)]
  refine Finset.sum_congr rfl fun n _ => ?_
  rw [Equiv.trans_apply]
  have hs : (Shape.rowMajor (⟨2, ![N, 1]⟩ : Shape)).symm (Shape.rowMajor _ (rows N n)) = rows N n := Equiv.symm_apply_apply _ _
  have w0 : ((Shape.rowMajor (⟨2, ![N, 1]⟩ : Shape)).symm (Shape.rowMajor _ (rows N n)) 0).val = n.val := by rw [hs]; rfl
  have w1 : ((Shape.rowMajor (⟨2, ![N, 1]⟩ : Shape)).symm (Shape.rowMajor _ (rows N n)) 1).val = 0 := by rw [hs]; rfl
  clear hs
  split
  · next hin =>
    have h2 := hin 0
    change lo ≤ c.val * 1 + ((Shape.rowMajor (⟨2, ![N, 1]⟩ : Shape)).symm (Shape.rowMajor _ (rows N n)) 0).val
      ∧ c.val * 1 + ((Shape.rowMajor (⟨2, ![N, 1]⟩ : Shape)).symm (Shape.rowMajor _ (rows N n)) 0).val - lo < N at h2
    rw [w0] at h2
    rw [dif_pos (by omega)]
    refine congrArg x (funext fun e => Fin.ext ?_)
    match e with
    | ⟨0, _⟩ => show c.val * 1 + ((Shape.rowMajor (⟨2, ![N, 1]⟩ : Shape)).symm (Shape.rowMajor _ (rows N n)) 0).val - lo = c.val + n.val - lo; omega
    | ⟨1, _⟩ => show b.val * 1 + ((Shape.rowMajor (⟨2, ![N, 1]⟩ : Shape)).symm (Shape.rowMajor _ (rows N n)) 1).val - 0 = b.val; omega
  · next hin =>
    rw [dif_neg fun hn => hin fun e => by
      match e with
      | ⟨0, _⟩ =>
        show lo ≤ c.val * 1 + ((Shape.rowMajor (⟨2, ![N, 1]⟩ : Shape)).symm (Shape.rowMajor _ (rows N n)) 0).val
          ∧ c.val * 1 + ((Shape.rowMajor (⟨2, ![N, 1]⟩ : Shape)).symm (Shape.rowMajor _ (rows N n)) 0).val - lo < N
        omega
      | ⟨1, _⟩ =>
        have := b.isLt
        show 0 ≤ b.val * 1 + ((Shape.rowMajor (⟨2, ![N, 1]⟩ : Shape)).symm (Shape.rowMajor _ (rows N n)) 1).val
          ∧ b.val * 1 + ((Shape.rowMajor (⟨2, ![N, 1]⟩ : Shape)).symm (Shape.rowMajor _ (rows N n)) 1).val - 0 < B
        omega]

variable {a b a' b' : ℕ} (f g : ℕ → ℕ → ℝ)

/-- Padded above by the length less one, each row becomes the sum of the rows up to it. -/
theorem sumDown {N B Nm1 : ℕ} (hN : Nm1 + 1 = N) (init : EReal) (h0 : init = 0)
    (h : (⟨2, ![N, B]⟩ : Shape).ReduceWindows (![N, 1] : Fin 2 → ℕ) ![1, 1] ![Nm1, 0] ![0, 0] ⟨2, ![N, B]⟩) :
    Ideal.hostReduceWindowAdd (![N, 1] : Fin 2 → ℕ) ![1, 1] ![Nm1, 0] ![0, 0] h (n2 (a := N) (b := B) f) init
      = n2 fun r c => ∑ n ∈ Finset.range (r + 1), f n c := by
  funext j
  obtain ⟨c, b, rfl⟩ : ∃ p q, j = ix2 p q := ⟨j 0, j 1, eq_ix2 j⟩
  rw [windowRows _ init h0]
  have hc := c.isLt
  have e (n : Fin N) : (if hn : Nm1 ≤ c.val + n.val ∧ c.val + n.val - Nm1 < N then n2 (a := N) (b := B) f (ix2 ⟨c.val + n.val - Nm1, hn.2⟩ b) else 0)
      = (((if Nm1 ≤ c.val + n.val then f (c.val + n.val - Nm1) b.val else 0 : ℝ)) : EReal) := by
    have := n.isLt
    split
    · next hn => rw [n2_ix, if_pos (by omega)]
    · next hn => rw [if_neg (by omega)]; rfl
  rw [Finset.sum_congr rfl fun n _ => e n, sum_coe, Fin.sum_univ_eq_sum_range (fun n => if Nm1 ≤ c.val + n then f (c.val + n - Nm1) b.val else 0) N,
    ← Finset.sum_filter, n2_ix]
  congr 1
  refine Finset.sum_bij' (fun n _ => c.val + n - Nm1) (fun n _ => n + Nm1 - c.val) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; rfl

/-- Padded below, each row becomes the sum of itself and the rows after it. -/
theorem sumUp {N B Nm1 : ℕ} (init : EReal) (h0 : init = 0)
    (h : (⟨2, ![N, B]⟩ : Shape).ReduceWindows (![N, 1] : Fin 2 → ℕ) ![1, 1] ![0, 0] ![Nm1, 0] ⟨2, ![N, B]⟩) :
    Ideal.hostReduceWindowAdd (![N, 1] : Fin 2 → ℕ) ![1, 1] ![0, 0] ![Nm1, 0] h (n2 (a := N) (b := B) f) init
      = n2 fun r c => ∑ n ∈ Finset.Ico r N, f n c := by
  funext j
  obtain ⟨c, b, rfl⟩ : ∃ p q, j = ix2 p q := ⟨j 0, j 1, eq_ix2 j⟩
  rw [windowRows _ init h0]
  have hc := c.isLt
  have e (n : Fin N) : (if hn : 0 ≤ c.val + n.val ∧ c.val + n.val - 0 < N then n2 (a := N) (b := B) f (ix2 ⟨c.val + n.val - 0, hn.2⟩ b) else 0)
      = (((if c.val + n.val < N then f (c.val + n.val) b.val else 0 : ℝ)) : EReal) := by
    split
    · next hn => rw [n2_ix, if_pos (by omega)]; rfl
    · next hn => rw [if_neg (by omega)]; rfl
  rw [Finset.sum_congr rfl fun n _ => e n, sum_coe, Fin.sum_univ_eq_sum_range (fun n => if c.val + n < N then f (c.val + n) b.val else 0) N,
    ← Finset.sum_filter, n2_ix, Finset.sum_Ico_eq_sum_range]
  congr 2
  ext n
  simp only [Finset.mem_filter, Finset.mem_range]
  omega

/-- One array above another. -/
theorem above {m n A : ℕ} (hA : m + n = A) (h) :
    concatenate (⟨2, ![A, b]⟩ : Shape) 0 [⟨⟨2, ![m, b]⟩, n2 f⟩, ⟨⟨2, ![n, b]⟩, n2 g⟩] h
      = (n2 fun r c => if r < m then f r c else g (r - m) c : (⟨2, ![A, b]⟩ : Shape).Idx → EReal) := by
  funext j
  obtain ⟨p, q, rfl⟩ : ∃ p q, j = ix2 p q := ⟨j 0, j 1, eq_ix2 j⟩
  pointwise
  rw [n2_ix]
  split_ifs <;> rfl

theorem zeros (h) : broadcastInDim (⟨2, ![a, b]⟩ : Shape) ![] h (constant (F := Ideal) (⟨0, ![]⟩ : Shape) .f32 0x00000000#32) = n2 fun _ _ => 0 :=
  funext fun _ => lit_zero

theorem hdiv (hg : ∀ r c, g r c ≠ 0) :
    Host.divf (F := Ideal) (φ := .f32) (n2 (a := a) (b := b) f) (n2 g) = n2 fun r c => f r c / g r c :=
  funext fun j => div_coe _ _ (hg _ _)

theorem hneg : Host.negf (F := Ideal) (φ := .f32) (n2 (a := a) (b := b) f) = n2 fun r c => - f r c :=
  funext fun j => (EReal.coe_neg _).symm

theorem hcolumn (h) : broadcastInDim (⟨2, ![4096, 256]⟩ : Shape) ![0, 1] h (n2 (a := 4096) (b := 1) f) = n2 fun r _ => f r 0 := by
  funext j
  obtain ⟨p, q, rfl⟩ : ∃ p q, j = ix2 p q := ⟨j 0, j 1, eq_ix2 j⟩
  pointwise
  rfl

/-- An array placed at an offset in a larger one, zero elsewhere. -/
def pd (lo0 a lo1 b : ℕ) (f : ℕ → ℕ → ℝ) (r c : ℕ) : ℝ :=
  if lo0 ≤ r ∧ r - lo0 < a ∧ lo1 ≤ c ∧ c - lo1 < b then f (r - lo0) (c - lo1) else 0

theorem padded {A B lo0 lo1 hi0 hi1 : ℕ} (h hu) :
    pad (⟨2, ![A, B]⟩ : Shape) ![lo0, lo1] ![hi0, hi1] ![0, 0] (n2 (a := a) (b := b) f) (constant (F := Ideal) (⟨0, ![]⟩ : Shape) .f32 0x00000000#32) h hu
      = n2 (pd lo0 a lo1 b f) := by
  funext j
  obtain ⟨p, q, rfl⟩ : ∃ p q, j = ix2 p q := ⟨j 0, j 1, eq_ix2 j⟩
  unfold pad
  rw [n2_ix]
  unfold pd
  dsimp only
  split
  · next hin =>
    have h0 := hin 0
    have h1 := hin 1
    change lo0 ≤ p.val ∧ (p.val - lo0) % 1 = 0 ∧ (p.val - lo0) / 1 < a at h0
    change lo1 ≤ q.val ∧ (q.val - lo1) % 1 = 0 ∧ (q.val - lo1) / 1 < b at h1
    rw [if_pos (by omega)]
    show ((f ((p.val - lo0) / 1) ((q.val - lo1) / 1) : ℝ) : EReal) = _
    rw [Nat.div_one, Nat.div_one]
  · next hin =>
    rw [if_neg fun hn => hin fun e => by
      match e with
      | ⟨0, _⟩ =>
        show lo0 ≤ p.val ∧ (p.val - lo0) % 1 = 0 ∧ (p.val - lo0) / 1 < a
        omega
      | ⟨1, _⟩ =>
        show lo1 ≤ q.val ∧ (q.val - lo1) % 1 = 0 ∧ (q.val - lo1) / 1 < b
        omega]
    exact lit_zero

theorem pd_out (lo0 a lo1 b : ℕ) (f : ℕ → ℕ → ℝ) (r c : ℕ) (h : ¬ (lo1 ≤ c ∧ c - lo1 < b)) : pd lo0 a lo1 b f r c = 0 := by
  unfold pd
  rw [if_neg fun hn => h hn.2.2]

/-! ## Sums over windows of tokens -/

/-- A difference of running sums is the sum over the window they leave. -/
theorem window (w r : ℕ) (hw : 0 < w) (f : ℕ → ℝ) :
    (∑ n ∈ Finset.range (r + 1), f n) - (if r < w - 1 then 0 else ∑ n ∈ Finset.range (r - (w - 1)), f n)
      = ∑ k ∈ Finset.range w, if k ≤ r then f (r - k) else 0 := by
  have e : (if r < w - 1 then 0 else ∑ n ∈ Finset.range (r - (w - 1)), f n) = ∑ n ∈ Finset.range (r + 1 - w), f n := by
    split
    · rw [show r + 1 - w = 0 by omega, Finset.sum_range_zero]
    · rw [show r - (w - 1) = r + 1 - w by omega]
  rw [e, ← Finset.sum_Ico_eq_sub f (by omega : r + 1 - w ≤ r + 1), ← Finset.sum_filter]
  refine Finset.sum_bij' (fun n _ => r - n) (fun k _ => r - k) ?_ ?_ ?_ ?_ ?_
  · intro n hn; simp only [Finset.mem_filter, Finset.mem_range, Finset.mem_Ico] at hn ⊢; omega
  · intro n hn; simp only [Finset.mem_filter, Finset.mem_range, Finset.mem_Ico] at hn ⊢; omega
  · intro n hn; simp only [Finset.mem_Ico] at hn; omega
  · intro n hn; simp only [Finset.mem_filter, Finset.mem_range] at hn; omega
  · intro n hn; simp only [Finset.mem_Ico] at hn; rw [show r - (r - n) = n by omega]

/-- A running sum of differences, of a sequence zero from `N` on, is the sum over the window. -/
theorem telescope (N w s : ℕ) (hs : s ≤ N) (R : ℕ → ℝ) (hR : ∀ n, N ≤ n → R n = 0) :
    (∑ n ∈ Finset.Ico s N, (R n - R (n + w))) = ∑ k ∈ Finset.range w, R (s + k) := by
  have e1 : ∑ n ∈ Finset.Ico s N, R (n + w) = ∑ n ∈ Finset.Ico (s + w) (N + w), R n := by
    rw [Finset.sum_Ico_add' R s N w]
  have e2 : ∑ k ∈ Finset.range w, R (s + k) = ∑ n ∈ Finset.Ico s (s + w), R n := by
    rw [Finset.sum_Ico_eq_sum_range, show s + w - s = w by omega]
  have e3 : ∑ n ∈ Finset.Ico N (N + w), R n = 0 := Finset.sum_eq_zero fun n hn => hR n (Finset.mem_Ico.mp hn).1
  have e4 := Finset.sum_Ico_consecutive R (by omega : s ≤ s + w) (by omega : s + w ≤ N + w)
  have e5 := Finset.sum_Ico_consecutive R hs (by omega : N ≤ N + w)
  rw [Finset.sum_sub_distrib, e1, e2]
  linarith

end Cert.Calc

end
-- ==== Proof.Pool.RefValue.lean ====
/-
  The pooling gradient's reference on finite inputs: its three results as plain sums.
-/
module

public import proofs.«01_k».proof.Proof.Gen.PoolRefIdeal.Run
public import proofs.«01_k».proof.Proof.Gen.PoolRefIdeal.Read
public import proofs.«01_k».proof.Proof.Pool.HostCalc

@[expose] public section

set_option maxRecDepth 16384

noncomputable section

namespace Cert.PoolRefIdeal.Block

open Cert.PoolRefIdeal Cert.PoolRefIdeal.Read Cert.Reals Cert.Calc Idealize.ShloMosaic Idealize.ShloMosaic.TcCoe
open scoped BigOperators

variable (H M : ℕ → ℕ → ℝ) (S : ℕ → ℝ) (W : ℕ → ℕ → ℕ → ℝ)

/-- The number of tokens the window of `w` ending at token `r` reaches. -/
def num (w r : ℕ) : ℝ := ((min (r + 1) w : ℕ) : ℝ)

theorem num_ne (w r : ℕ) (hw : 0 < w) : num w r ≠ 0 := by
  unfold num
  exact_mod_cast (Nat.pos_iff_ne_zero.mp (lt_min (by omega) hw))

theorem num_word (p w : ℕ) (hp : p < 4096) (hw : w < 32) :
    FloatOps.sitofp (F := Ideal) .f32 (IntOp.minsi (IntOp.addi (BitVec.ofNat 32 p) 1#32) (BitVec.ofNat 32 w)) = ((num w p : ℝ) : EReal) := by
  have e : IntOp.addi (BitVec.ofNat 32 p) 1#32 = BitVec.ofNat 32 (p + 1) := by
    show BitVec.ofNat 32 p + 1#32 = _
    apply BitVec.eq_of_toNat_eq
    simp only [BitVec.toNat_add, BitVec.toNat_ofNat]
    omega
  have hi (n : ℕ) (hn : n < 8192) : (BitVec.ofNat 32 n).toInt = (n : ℤ) := by
    rw [BitVec.toInt_eq_toNat_of_lt (by rw [BitVec.toNat_ofNat]; omega), BitVec.toNat_ofNat, Nat.mod_eq_of_lt (by omega)]
  have em : IntOp.minsi (BitVec.ofNat 32 (p + 1)) (BitVec.ofNat 32 w) = BitVec.ofNat 32 (min (p + 1) w) := by
    unfold IntOp.minsi BitVec.slt
    rw [hi _ (by omega), hi _ (by omega)]
    by_cases h : (p + 1 : ℕ) < w
    · rw [if_pos (by rw [decide_eq_true]; exact_mod_cast h), min_eq_left h.le]
    · rw [if_neg (by rw [decide_eq_true_eq]; exact_mod_cast h), min_eq_right (by omega)]
  rw [e, em]
  show (((BitVec.ofNat 32 (min (p + 1) w)).toInt : ℝ) : EReal) = _
  rw [hi _ (by omega), Int.cast_natCast]
  rfl

theorem v1 : val_main_v1 (F := Ideal) (n2 H) = n2 fun r c => ∑ n ∈ Finset.range (r + 1), H n c := by
  unfold val_main_v1 Host.reduceWindowAdd
  rw [Ideal.hostReduceWindowAdd_def]
  exact sumDown H rfl _ (by pointwise [val_main_call0_v0, val_main_call0_cst]) _

theorem v2 : val_main_v2 (F := Ideal) (n2 H) = n2 fun r c => ∑ n ∈ Finset.range r, H n c := by
  unfold val_main_v2 val_main_v0 val_main_cst
  rw [v1, zeros, above (m := 1) (n := 4096) (A := 4097) _ _ rfl]
  refine n2_congr fun r hr c hc => ?_
  split
  · rw [show r = 0 by omega, Finset.sum_range_zero]
  · rw [show r - 1 + 1 = r by omega]

theorem v15 : val_main_v15 (F := Ideal) = n2 fun r _ => num 2 r := by
  funext j
  obtain ⟨p, q, rfl⟩ : ∃ p q, j = ix2 p q := ⟨j 0, j 1, eq_ix2 j⟩
  pointwise [val_main_v15, val_main_v14, val_main_v13, val_main_v11, val_main_v12, val_main_v10, val_main_c, val_main_c_3, val_main_v4]
  exact num_word p 2 p.isLt (by norm_num)

theorem v20 : val_main_v20 (F := Ideal) (n2 H) = n2 (YG H 0) := by
  unfold val_main_v20 val_main_v18 val_main_v16 val_main_v5 val_main_v8 val_main_v6 val_main_cst_1 val_main_v7 val_main_v17 val_main_v19
  rw [v2, slice, zeros, slice, above (m := 1) (n := 4095) (A := 4096) _ _ rfl, sub, v15, hcolumn, hdiv _ _ (fun r _ => num_ne 2 r (by norm_num)), slice, sub]
  refine n2_congr fun r hr c hc => ?_
  simp only [Nat.zero_add, Nat.add_comm 1 r]
  unfold YG
  rw [show 256 * 0 + c = c by omega]
  exact congrArg (fun x => x / num 2 r - H r c) (window 2 r (by norm_num) fun n => H n c)

theorem v31 : val_main_v31 (F := Ideal) = n2 fun r _ => num 4 r := by
  funext j
  obtain ⟨p, q, rfl⟩ : ∃ p q, j = ix2 p q := ⟨j 0, j 1, eq_ix2 j⟩
  pointwise [val_main_v31, val_main_v30, val_main_v29, val_main_v27, val_main_v28, val_main_v26, val_main_c_6, val_main_c_7, val_main_v4]
  exact num_word p 4 p.isLt (by norm_num)

theorem v36 : val_main_v36 (F := Ideal) (n2 H) = n2 (YG H 1) := by
  unfold val_main_v36 val_main_v34 val_main_v32 val_main_v21 val_main_v24 val_main_v22 val_main_cst_4 val_main_v23 val_main_v33 val_main_v35
  rw [v2, slice, zeros, slice, above (m := 3) (n := 4093) (A := 4096) _ _ rfl, sub, v31, hcolumn, hdiv _ _ (fun r _ => num_ne 4 r (by norm_num)), slice, sub]
  refine n2_congr fun r hr c hc => ?_
  simp only [Nat.zero_add, Nat.add_comm 1 r]
  exact congrArg (fun x => x / num 4 r - H r (256 + c)) (window 4 r (by norm_num) fun n => H n (256 + c))

theorem v47 : val_main_v47 (F := Ideal) = n2 fun r _ => num 8 r := by
  funext j
  obtain ⟨p, q, rfl⟩ : ∃ p q, j = ix2 p q := ⟨j 0, j 1, eq_ix2 j⟩
  pointwise [val_main_v47, val_main_v46, val_main_v45, val_main_v43, val_main_v44, val_main_v42, val_main_c_10, val_main_c_11, val_main_v4]
  exact num_word p 8 p.isLt (by norm_num)

theorem v52 : val_main_v52 (F := Ideal) (n2 H) = n2 (YG H 2) := by
  unfold val_main_v52 val_main_v50 val_main_v48 val_main_v37 val_main_v40 val_main_v38 val_main_cst_8 val_main_v39 val_main_v49 val_main_v51
  rw [v2, slice, zeros, slice, above (m := 7) (n := 4089) (A := 4096) _ _ rfl, sub, v47, hcolumn, hdiv _ _ (fun r _ => num_ne 8 r (by norm_num)), slice, sub]
  refine n2_congr fun r hr c hc => ?_
  simp only [Nat.zero_add, Nat.add_comm 1 r]
  exact congrArg (fun x => x / num 8 r - H r (512 + c)) (window 8 r (by norm_num) fun n => H n (512 + c))

theorem v63 : val_main_v63 (F := Ideal) = n2 fun r _ => num 16 r := by
  funext j
  obtain ⟨p, q, rfl⟩ : ∃ p q, j = ix2 p q := ⟨j 0, j 1, eq_ix2 j⟩
  pointwise [val_main_v63, val_main_v62, val_main_v61, val_main_v59, val_main_v60, val_main_v58, val_main_c_14, val_main_c_15, val_main_v4]
  exact num_word p 16 p.isLt (by norm_num)

theorem v68 : val_main_v68 (F := Ideal) (n2 H) = n2 (YG H 3) := by
  unfold val_main_v68 val_main_v66 val_main_v64 val_main_v53 val_main_v56 val_main_v54 val_main_cst_12 val_main_v55 val_main_v65 val_main_v67
  rw [v2, slice, zeros, slice, above (m := 15) (n := 4081) (A := 4096) _ _ rfl, sub, v63, hcolumn, hdiv _ _ (fun r _ => num_ne 16 r (by norm_num)), slice, sub]
  refine n2_congr fun r hr c hc => ?_
  simp only [Nat.zero_add, Nat.add_comm 1 r]
  exact congrArg (fun x => x / num 16 r - H r (768 + c)) (window 16 r (by norm_num) fun n => H n (768 + c))

theorem v73 : val_main_v73 (F := Ideal) (n2 H) = n3 fun s g c => YG H g s c := by
  funext j
  obtain ⟨p, a, q, rfl⟩ : ∃ p a q, j = ix3 p a q := ⟨j 0, j 1, j 2, eq_ix3 j⟩
  unfold val_main_v73 val_main_v69 val_main_v70 val_main_v71 val_main_v72
  rw [v20, v36, v52, v68]
  fin_cases a <;> pointwise <;> rfl

theorem v76 : val_main_v76 (F := Ideal) (n2 H) (n3 W) = n2 fun s q => PG H W (q / 256) s (q % 256) := by
  funext j
  obtain ⟨p, q, rfl⟩ : ∃ p q, j = ix2 p q := ⟨j 0, j 1, eq_ix2 j⟩
  pointwise [val_main_v76, val_main_v75, val_main_v74]
  rw [v73]
  show ∑ x : Fin 256, ((W (q.val / 256) x.val (q.val % 256) : ℝ) : EReal) * ((YG H (q.val / 256) p.val x.val : ℝ) : EReal) = _
  simp only [← EReal.coe_mul, sum_coe, n2_ix]
  exact congrArg (fun x : ℝ => (x : EReal)) (Finset.sum_congr rfl fun x _ => mul_comm _ _)

theorem v87 : val_main_v87 (F := Ideal) (n1 S) (n2 M) = n3 fun g d s => DG M S g s d := by
  funext j
  obtain ⟨p, a, q, rfl⟩ : ∃ p a q, j = ix3 p a q := ⟨j 0, j 1, j 2, eq_ix3 j⟩
  pointwise [val_main_v87, val_main_v86, val_main_v84, val_main_v83, val_main_v77]
  show ((M q.val (p.val * 256 + a.val) : ℝ) : EReal) * ((S (p.val * 256 + a.val) : ℝ) : EReal) = ((DG M S p.val q.val a.val : ℝ) : EReal)
  rw [← EReal.coe_mul, Nat.mul_comm p.val 256]
  rfl

theorem v89 : val_main_v89 (F := Ideal) (n3 W) (n1 S) (n2 M) = n3 fun s g c => GG M S W g s c := by
  funext j
  obtain ⟨p, a, q, rfl⟩ : ∃ p a q, j = ix3 p a q := ⟨j 0, j 1, j 2, eq_ix3 j⟩
  pointwise [val_main_v89, val_main_v88]
  rw [v87]
  show ∑ x : Fin 256, ((DG M S a.val p.val x.val : ℝ) : EReal) * ((W a.val q.val x.val : ℝ) : EReal) = _
  simp only [← EReal.coe_mul, sum_coe]
  rfl

/-- The second result. -/
theorem v91 : val_main_v91 (F := Ideal) (n2 H) (n1 S) (n2 M) = n3 (DW H M S) := by
  funext j
  obtain ⟨p, a, q, rfl⟩ : ∃ p a q, j = ix3 p a q := ⟨j 0, j 1, j 2, eq_ix3 j⟩
  pointwise [val_main_v91, val_main_v90]
  rw [v87, v73]
  show ∑ x : Fin 4096, ((DG M S p.val x.val q.val : ℝ) : EReal) * ((YG H p.val x.val a.val : ℝ) : EReal) = _
  simp only [← EReal.coe_mul, sum_coe]
  exact congrArg (fun x : ℝ => (x : EReal)) (Finset.sum_congr rfl fun x _ => mul_comm _ _)

/-- The third result. -/
theorem v150 : val_main_v150 (F := Ideal) (n2 H) (n3 W) (n2 M) = n2 fun _ q => DS H M W q := by
  funext j
  obtain ⟨u, q, rfl⟩ : ∃ p q, j = ix2 p q := ⟨j 0, j 1, eq_ix2 j⟩
  pointwise [val_main_v150, val_main_v85, val_main_v82, val_main_v81, val_main_v80]
  rw [v76]
  have e16 : val_main_cst_16 (F := Ideal) (Shape.Idx.first Gen.h_S_) = 0 := lit_zero
  have e17 : val_main_cst_17 (F := Ideal) (Shape.Idx.first Gen.h_S_) = 0 := lit_zero
  simp only [e16, e17, zero_add, Finset.univ_unique, Finset.sum_singleton, n2_ix, ← EReal.coe_mul, sum_coe]
  exact congrArg (fun x : ℝ => (x : EReal)) (Finset.sum_congr rfl fun x _ => mul_comm _ _)

/-- Group `g`'s cotangent over the number of tokens. -/
def RG (M : ℕ → ℕ → ℝ) (S : ℕ → ℝ) (W : ℕ → ℕ → ℕ → ℝ) (g s c : ℕ) : ℝ := GG M S W g s c / num (width g) s

theorem v99 : val_main_v99 (F := Ideal) (n3 W) (n1 S) (n2 M) = n2 (GG M S W 3) := by
  funext j
  obtain ⟨p, q, rfl⟩ : ∃ p q, j = ix2 p q := ⟨j 0, j 1, eq_ix2 j⟩
  pointwise [val_main_v99, val_main_v98]
  rw [v89]
  rfl

theorem v103 : val_main_v103 (F := Ideal) (n3 W) (n1 S) (n2 M) = n2 (RG M S W 3) := by
  unfold val_main_v103 val_main_v102
  rw [v99, v63, hcolumn, hdiv _ _ (fun r _ => num_ne 16 r (by norm_num))]
  rfl

theorem v101 : val_main_v101 (F := Ideal) (n3 W) (n1 S) (n2 M) = n2 (pd 0 4096 768 256 fun r c => - GG M S W 3 r c) := by
  unfold val_main_v101 val_main_v100 val_main_cst_18
  rw [v99, hneg, padded]

theorem v107 : val_main_v107 (F := Ideal) (n3 W) (n1 S) (n2 M) = n2 (pd 0 4081 768 256 fun r c => - RG M S W 3 (15 + r) (0 + c)) := by
  unfold val_main_v107 val_main_v106 val_main_v104 val_main_cst_19
  rw [v103, hneg, slice, padded]

theorem v108 : val_main_v108 (F := Ideal) (n3 W) (n1 S) (n2 M) = n2 (pd 1 4096 768 256 (RG M S W 3)) := by
  unfold val_main_v108 val_main_cst_20
  rw [v103, padded]

theorem v97 : val_main_v97 (F := Ideal) (n3 W) (n1 S) (n2 M) = n2 (GG M S W 2) := by
  funext j
  obtain ⟨p, q, rfl⟩ : ∃ p q, j = ix2 p q := ⟨j 0, j 1, eq_ix2 j⟩
  pointwise [val_main_v97, val_main_v96]
  rw [v89]
  rfl

theorem v114 : val_main_v114 (F := Ideal) (n3 W) (n1 S) (n2 M) = n2 (RG M S W 2) := by
  unfold val_main_v114 val_main_v113
  rw [v97, v47, hcolumn, hdiv _ _ (fun r _ => num_ne 8 r (by norm_num))]
  rfl

theorem v111 : val_main_v111 (F := Ideal) (n3 W) (n1 S) (n2 M) = n2 (pd 0 4096 512 256 fun r c => - GG M S W 2 r c) := by
  unfold val_main_v111 val_main_v110 val_main_cst_21
  rw [v97, hneg, padded]

theorem v118 : val_main_v118 (F := Ideal) (n3 W) (n1 S) (n2 M) = n2 (pd 0 4089 512 256 fun r c => - RG M S W 2 (7 + r) (0 + c)) := by
  unfold val_main_v118 val_main_v117 val_main_v115 val_main_cst_22
  rw [v114, hneg, slice, padded]

theorem v120 : val_main_v120 (F := Ideal) (n3 W) (n1 S) (n2 M) = n2 (pd 1 4096 512 256 (RG M S W 2)) := by
  unfold val_main_v120 val_main_cst_23
  rw [v114, padded]

theorem v95 : val_main_v95 (F := Ideal) (n3 W) (n1 S) (n2 M) = n2 (GG M S W 1) := by
  funext j
  obtain ⟨p, q, rfl⟩ : ∃ p q, j = ix2 p q := ⟨j 0, j 1, eq_ix2 j⟩
  pointwise [val_main_v95, val_main_v94]
  rw [v89]
  rfl

theorem v126 : val_main_v126 (F := Ideal) (n3 W) (n1 S) (n2 M) = n2 (RG M S W 1) := by
  unfold val_main_v126 val_main_v125
  rw [v95, v31, hcolumn, hdiv _ _ (fun r _ => num_ne 4 r (by norm_num))]
  rfl

theorem v123 : val_main_v123 (F := Ideal) (n3 W) (n1 S) (n2 M) = n2 (pd 0 4096 256 256 fun r c => - GG M S W 1 r c) := by
  unfold val_main_v123 val_main_v122 val_main_cst_24
  rw [v95, hneg, padded]

theorem v130 : val_main_v130 (F := Ideal) (n3 W) (n1 S) (n2 M) = n2 (pd 0 4093 256 256 fun r c => - RG M S W 1 (3 + r) (0 + c)) := by
  unfold val_main_v130 val_main_v129 val_main_v127 val_main_cst_25
  rw [v126, hneg, slice, padded]

theorem v132 : val_main_v132 (F := Ideal) (n3 W) (n1 S) (n2 M) = n2 (pd 1 4096 256 256 (RG M S W 1)) := by
  unfold val_main_v132 val_main_cst_26
  rw [v126, padded]

theorem v93 : val_main_v93 (F := Ideal) (n3 W) (n1 S) (n2 M) = n2 (GG M S W 0) := by
  funext j
  obtain ⟨p, q, rfl⟩ : ∃ p q, j = ix2 p q := ⟨j 0, j 1, eq_ix2 j⟩
  pointwise [val_main_v93, val_main_v92]
  rw [v89]
  rfl

theorem v138 : val_main_v138 (F := Ideal) (n3 W) (n1 S) (n2 M) = n2 (RG M S W 0) := by
  unfold val_main_v138 val_main_v137
  rw [v93, v15, hcolumn, hdiv _ _ (fun r _ => num_ne 2 r (by norm_num))]
  rfl

theorem v135 : val_main_v135 (F := Ideal) (n3 W) (n1 S) (n2 M) = n2 (pd 0 4096 0 256 fun r c => - GG M S W 0 r c) := by
  unfold val_main_v135 val_main_v134 val_main_cst_27
  rw [v93, hneg, padded]

theorem v142 : val_main_v142 (F := Ideal) (n3 W) (n1 S) (n2 M) = n2 (pd 0 4095 0 256 fun r c => - RG M S W 0 (1 + r) (0 + c)) := by
  unfold val_main_v142 val_main_v141 val_main_v139 val_main_cst_28
  rw [v138, hneg, slice, padded]

theorem v144 : val_main_v144 (F := Ideal) (n3 W) (n1 S) (n2 M) = n2 (pd 1 4096 0 256 (RG M S W 0)) := by
  unfold val_main_v144 val_main_cst_29
  rw [v138, padded]

/-- The hidden states' own share of the first result, negated, by group. -/
def own (M : ℕ → ℕ → ℝ) (S : ℕ → ℝ) (W : ℕ → ℕ → ℕ → ℝ) (g : ℕ) : ℕ → ℕ → ℝ := pd 0 4096 (256 * g) 256 fun r c => - GG M S W g r c

/-- What the running sums' cotangent holds of group `g`. -/
def leave (M : ℕ → ℕ → ℝ) (S : ℕ → ℝ) (W : ℕ → ℕ → ℕ → ℝ) (g : ℕ) : ℕ → ℕ → ℝ :=
  pd 0 (4096 - (width g - 1)) (256 * g) 256 fun r c => - RG M S W g (width g - 1 + r) (0 + c)

def enter (M : ℕ → ℕ → ℝ) (S : ℕ → ℝ) (W : ℕ → ℕ → ℕ → ℝ) (g : ℕ) : ℕ → ℕ → ℝ := pd 1 4096 (256 * g) 256 (RG M S W g)

theorem v136 : val_main_v136 (F := Ideal) (n3 W) (n1 S) (n2 M)
    = n2 fun r c => own M S W 3 r c + own M S W 2 r c + own M S W 1 r c + own M S W 0 r c := by
  unfold val_main_v136 val_main_v124 val_main_v112
  rw [v101, v111, v123, v135, add, add, add]
  rfl

theorem v147 : val_main_v147 (F := Ideal) (n3 W) (n1 S) (n2 M)
    = n2 fun r c => leave M S W 3 (1 + r) c + enter M S W 3 (1 + r) c + leave M S W 2 (1 + r) c + enter M S W 2 (1 + r) c
      + leave M S W 1 (1 + r) c + enter M S W 1 (1 + r) c + leave M S W 0 (1 + r) c + enter M S W 0 (1 + r) c := by
  unfold val_main_v147 val_main_v145 val_main_v143 val_main_v133 val_main_v131 val_main_v121 val_main_v119 val_main_v109
  rw [v107, v108, v118, v120, v130, v132, v142, v144, add, add, add, add, add, add, add, slice]
  refine n2_congr fun r hr c hc => ?_
  rw [Nat.zero_add c]
  rfl

theorem v148 : val_main_v148 (F := Ideal) (n3 W) (n1 S) (n2 M)
    = n2 fun r c => ∑ n ∈ Finset.Ico r 4096, (leave M S W 3 (1 + n) c + enter M S W 3 (1 + n) c + leave M S W 2 (1 + n) c + enter M S W 2 (1 + n) c
      + leave M S W 1 (1 + n) c + enter M S W 1 (1 + n) c + leave M S W 0 (1 + n) c + enter M S W 0 (1 + n) c) := by
  unfold val_main_v148 Host.reduceWindowAdd
  rw [Ideal.hostReduceWindowAdd_def, v147]
  exact sumUp _ _ (by pointwise [val_main_call1_v0, val_main_call1_cst]) _

variable {M S W}

theorem own_out (g r c : ℕ) (h : ¬ (256 * g ≤ c ∧ c - 256 * g < 256)) : own M S W g r c = 0 := pd_out _ _ _ _ _ _ _ h
theorem leave_out (g r c : ℕ) (h : ¬ (256 * g ≤ c ∧ c - 256 * g < 256)) : leave M S W g r c = 0 := pd_out _ _ _ _ _ _ _ h
theorem enter_out (g r c : ℕ) (h : ¬ (256 * g ≤ c ∧ c - 256 * g < 256)) : enter M S W g r c = 0 := pd_out _ _ _ _ _ _ _ h

theorem own_in (g r c : ℕ) (hr : r < 4096) (hc : c < 256) : own M S W g r (256 * g + c) = - GG M S W g r c := by
  unfold own pd
  rw [if_pos (by omega), show 256 * g + c - 256 * g = c by omega]
  rfl

theorem RG_zero (hM : ∀ s c, 4096 ≤ s → M s c = 0) (g s c : ℕ) (hs : 4096 ≤ s) : RG M S W g s c = 0 := by
  unfold RG GG DG
  rw [Finset.sum_eq_zero fun d _ => by rw [hM _ _ hs, zero_mul, zero_mul], zero_div]

theorem leave_in (hM : ∀ s c, 4096 ≤ s → M s c = 0) (g r c : ℕ) (hc : c < 256) : leave M S W g (1 + r) (256 * g + c) = - RG M S W g (r + width g) c := by
  have hw := width_le g
  have hp := width_pos g
  unfold leave pd
  by_cases h : 1 + r < 4096 - (width g - 1)
  · rw [if_pos (by omega), show 256 * g + c - 256 * g = c by omega]
    dsimp only
    rw [Nat.zero_add, show width g - 1 + (1 + r - 0) = r + width g by omega]
  · rw [if_neg (by omega), RG_zero hM _ _ _ (by omega), neg_zero]

theorem enter_in (g r c : ℕ) (hr : r < 4096) (hc : c < 256) : enter M S W g (1 + r) (256 * g + c) = RG M S W g r c := by
  unfold enter pd
  rw [if_pos (by omega), show 256 * g + c - 256 * g = c by omega, show 1 + r - 1 = r by omega]

/-- The first result of one group. -/
theorem group (hM : ∀ s c, 4096 ≤ s → M s c = 0) (g r c : ℕ) (hr : r < 4096) (hc : c < 256) :
    own M S W g r (256 * g + c) + ∑ n ∈ Finset.Ico r 4096, (leave M S W g (1 + n) (256 * g + c) + enter M S W g (1 + n) (256 * g + c))
      = HG M S W g r c := by
  rw [own_in _ _ _ hr hc, Finset.sum_congr rfl fun n hn => by
    rw [leave_in hM _ _ _ hc, enter_in _ _ _ (Finset.mem_Ico.mp hn).2 hc, neg_add_eq_sub],
    telescope 4096 (width g) r hr.le (fun n => RG M S W g n c) (fun n hn => RG_zero hM _ _ _ hn), neg_add_eq_sub]
  rfl

/-- The first result. -/
theorem v149 (hM : ∀ s c, 4096 ≤ s → M s c = 0) : val_main_v149 (F := Ideal) (n3 W) (n1 S) (n2 M) = n2 (DH M S W) := by
  unfold val_main_v149
  rw [v136, v148, add]
  refine n2_congr fun r hr q hq => ?_
  have hm : q % 256 < 256 := Nat.mod_lt _ (by norm_num)
  have e := Nat.div_add_mod q 256
  have key := group (M := M) (S := S) (W := W) hM (q / 256) r (q % 256) hr hm
  rw [e] at key
  refine Eq.trans ?_ key
  have hg : q / 256 < 4 := by omega
  obtain h | h | h | h : q / 256 = 0 ∨ q / 256 = 1 ∨ q / 256 = 2 ∨ q / 256 = 3 := by omega
  · have o (n : ℕ) (hn : n ≠ 0) : ¬ (256 * n ≤ q ∧ q - 256 * n < 256) := by omega
    simp only [h, own_out _ _ _ (o 1 (by norm_num)), own_out _ _ _ (o 2 (by norm_num)), own_out _ _ _ (o 3 (by norm_num)),
      leave_out _ _ _ (o 1 (by norm_num)), leave_out _ _ _ (o 2 (by norm_num)), leave_out _ _ _ (o 3 (by norm_num)),
      enter_out _ _ _ (o 1 (by norm_num)), enter_out _ _ _ (o 2 (by norm_num)), enter_out _ _ _ (o 3 (by norm_num)), zero_add, add_zero]
  · have o (n : ℕ) (hn : n ≠ 1) : ¬ (256 * n ≤ q ∧ q - 256 * n < 256) := by omega
    simp only [h, own_out _ _ _ (o 0 (by norm_num)), own_out _ _ _ (o 2 (by norm_num)), own_out _ _ _ (o 3 (by norm_num)),
      leave_out _ _ _ (o 0 (by norm_num)), leave_out _ _ _ (o 2 (by norm_num)), leave_out _ _ _ (o 3 (by norm_num)),
      enter_out _ _ _ (o 0 (by norm_num)), enter_out _ _ _ (o 2 (by norm_num)), enter_out _ _ _ (o 3 (by norm_num)), zero_add, add_zero]
  · have o (n : ℕ) (hn : n ≠ 2) : ¬ (256 * n ≤ q ∧ q - 256 * n < 256) := by omega
    simp only [h, own_out _ _ _ (o 0 (by norm_num)), own_out _ _ _ (o 1 (by norm_num)), own_out _ _ _ (o 3 (by norm_num)),
      leave_out _ _ _ (o 0 (by norm_num)), leave_out _ _ _ (o 1 (by norm_num)), leave_out _ _ _ (o 3 (by norm_num)),
      enter_out _ _ _ (o 0 (by norm_num)), enter_out _ _ _ (o 1 (by norm_num)), enter_out _ _ _ (o 3 (by norm_num)), zero_add, add_zero]
  · have o (n : ℕ) (hn : n ≠ 3) : ¬ (256 * n ≤ q ∧ q - 256 * n < 256) := by omega
    simp only [h, own_out _ _ _ (o 0 (by norm_num)), own_out _ _ _ (o 1 (by norm_num)), own_out _ _ _ (o 2 (by norm_num)),
      leave_out _ _ _ (o 0 (by norm_num)), leave_out _ _ _ (o 1 (by norm_num)), leave_out _ _ _ (o 2 (by norm_num)),
      enter_out _ _ _ (o 0 (by norm_num)), enter_out _ _ _ (o 1 (by norm_num)), enter_out _ _ _ (o 2 (by norm_num)), zero_add, add_zero]

end Cert.PoolRefIdeal.Block

end
-- ==== Proof.Pool.Claims.lean ====
/-
  The claims about the pooling mixer's gradient: frames, and equality with the reference at the ideal instance on finite inputs.
-/
module

public import proofs.«01_k».proof.Defs
public import proofs.«01_k».proof.Proof.Gen.Pool.Frame
public import proofs.«01_k».proof.Proof.Gen.Pre_pool_finite
public import proofs.«01_k».proof.Proof.Pool.Block
public import proofs.«01_k».proof.Proof.Pool.RefValue
public import Idealize.ShloMosaic.Lib.Quiescent

@[expose] public section

set_option maxRecDepth 16384

noncomputable section

namespace Cert.Proof.PoolClaims

open Idealize.ShloMosaic Idealize.ShloMosaic.TcCoe Idealize.SL.Sem Cert.Reals Cert.Calc

/-- The kernel and its idealization run without a fault, keep their arguments, and leave no semaphore raised. -/
theorem frame : Cert.quiescent_Pool := fun m ρ _ => Cert.Pool.Gen.frame m ρ
theorem frame_ideal : Cert.quiescent_PoolIdeal := fun m ρ _ => Cert.PoolIdeal.Gen.frame m ρ
theorem frame_ideal_pre : Cert.quiescent_PoolIdeal_pre_pool_finite := fun m ρ _ => Cert.PoolIdeal.Gen.frame m ρ

/-- So does the reference, at any state. -/
theorem frame_ref : Cert.quiescent_PoolRefIdeal := fun m ρ _ =>
  (θ_run Cert.PoolRefIdeal.defs _ _).mono (fun r h => ⟨fun c => (h c).2.2.2, sem_eq_zero_of_no_sems (by decide) r.2⟩)
    (Cert.PoolRefIdeal.Value.run (F := Ideal) m ρ)
theorem frame_ref_pre : Cert.quiescent_PoolRefIdeal_pre_pool_finite := fun m ρ _ => frame_ref m ρ trivial

theorem preserves : Cert.preserves_Pool_PoolIdeal := trivial

/-- The row of the packed arguments where an element of w lies gives its first index back. -/
theorem back (i : (⟨3, ![4, 256, 256]⟩ : Shape).Idx) (h0 : (i 0).val < 4) :
    ix3 (⟨(8192 + ((i 0).val * 64 + (i 1).val / 4) - 4096 - 4096) / 64, by
      have h1 : (i 1).val < 256 := (i 1).isLt
      omega⟩ : Fin 4) (i 1) (i 2) = i := by
  have h1 : (i 1).val < 256 := (i 1).isLt
  refine Eq.trans ?_ (eq_ix3 i).symm
  exact congrArg (fun t => ix3 t (i 1) (i 2)) (Fin.ext (by show _ / 64 = (i 0).val; omega))

/-- The precondition, read: every element of the four arguments is finite. -/
theorem finite (x : FVec Ideal Cert.PoolIdeal.S4096x1024 .f32) (w : FVec Ideal Cert.PoolIdeal.S4x256x256 .f32)
    (s : FVec Ideal Cert.PoolIdeal.S1024 .f32) (d : FVec Ideal Cert.PoolIdeal.S4096x1024 .f32)
    (h : Cert.Pre_pool_finite.fn (F := Ideal) x w s d = fun _ => 1#1) :
    (∀ i, x i ≠ ⊥ ∧ x i ≠ ⊤) ∧ (∀ i, w i ≠ ⊥ ∧ w i ≠ ⊤) ∧ (∀ i, s i ≠ ⊥ ∧ s i ≠ ⊤) ∧ ∀ i, d i ≠ ⊥ ∧ d i ≠ ⊤ := by
  have key (p : Fin 8449) (q : Fin 1024) := congrFun h (ix2 p q)
  refine ⟨fun i => ?_, fun i => ?_, fun i => ?_, fun i => ?_⟩
  · have hi : (i 0).val < 4096 := (i 0).isLt
    have k := key ⟨(i 0).val, by omega⟩ (i 1)
    unfold Cert.Pre_pool_finite.fn at k
    pointwise at k
    exact finite_of_abs_lt _ k
  · have h0 : (i 0).val < 4 := (i 0).isLt
    have h1 : (i 1).val < 256 := (i 1).isLt
    have h2 : (i 2).val < 256 := (i 2).isLt
    have k := key ⟨8192 + ((i 0).val * 64 + (i 1).val / 4), by omega⟩ ⟨(i 1).val % 4 * 256 + (i 2).val, by omega⟩
    unfold Cert.Pre_pool_finite.fn at k
    pointwise at k
    rw [dif_neg (by omega), dif_neg (by omega), dif_pos (by omega)] at k
    have f := finite_of_abs_lt _ k
    have e := back i h0
    exact e ▸ f
  · have k := key ⟨8448, by omega⟩ (i 0)
    unfold Cert.Pre_pool_finite.fn at k
    pointwise at k
    exact finite_of_abs_lt _ k
  · have hi : (i 0).val < 4096 := (i 0).isLt
    have k := key ⟨4096 + (i 0).val, by omega⟩ (i 1)
    unfold Cert.Pre_pool_finite.fn at k
    pointwise at k
    exact finite_of_abs_lt _ k

/-- On finite inputs the kernel's three results are the reference's. -/
theorem algebraic : Cert.algebraic_PoolIdeal_PoolRefIdeal_pre_pool_finite := by
  intro m ρ m' ρ' hpre hagree
  have hin (c : Dev Cert.PoolIdeal.nD) : ∃ H M S W, Inputs m H M S W c := by
    obtain ⟨hx, hw, hs, hd⟩ := finite _ _ _ _ (hpre c)
    exact ⟨_, _, _, _, ⟨eq_n2 _ hx, eq_n3 _ hw, eq_n1 _ hs, eq_n2 _ hd, fun s c hs => dif_neg fun h => by omega⟩⟩
  choose H M S W hi using hin
  refine ⟨fun c => n2 (DH (M c) (S c) (W c)), fun c => n3 (DW (H c) (M c) (S c)), fun c => n2 fun _ q => DS (H c) (M c) (W c) q, ?_, ?_⟩
  · refine (θ_run Cert.PoolIdeal.defs _ _).mono (fun r h c => ?_) (Cert.PoolIdeal.Value.run_blocks (F := Ideal) m ρ)
    obtain ⟨h6, h7, h8, rest⟩ := h c
    exact ⟨h6.trans (final6 m c (hi c)), h7.trans (final7 m c (hi c)), h8.trans (final8 m c (hi c)), rest⟩
  · refine (θ_run Cert.PoolRefIdeal.defs _ _).mono (fun r h c => ?_) (Cert.PoolRefIdeal.Value.run (F := Ideal) m' ρ')
    obtain ⟨h6, h7, h8, rest⟩ := h c
    have e0 := (hagree c).1.trans (hi c).h
    have e1 := (hagree c).2.1.trans (hi c).w
    have e2 := (hagree c).2.2.1.trans (hi c).s
    have e3 := (hagree c).2.2.2.trans (hi c).d
    refine ⟨h6.trans ((Cert.PoolRefIdeal.Read.val_main_v149_eq _).trans ?_),
      h7.trans ((Cert.PoolRefIdeal.Read.val_main_v91_eq _).trans ?_),
      h8.trans ((Cert.PoolRefIdeal.Read.val_main_v150_eq _).trans ?_), rest⟩
    · refine Eq.trans ?_ (Cert.PoolRefIdeal.Block.v149 (hi c).z)
      exact (congrFun (congrFun (congrArg _ e1) _) _).trans ((congrFun (congrArg _ e2) _).trans (congrArg _ e3))
    · refine Eq.trans ?_ (Cert.PoolRefIdeal.Block.v91 (H c) (M c) (S c))
      exact (congrFun (congrFun (congrArg _ e0) _) _).trans ((congrFun (congrArg _ e2) _).trans (congrArg _ e3))
    · refine Eq.trans ?_ (Cert.PoolRefIdeal.Block.v150 (H c) (M c) (W c))
      exact (congrFun (congrFun (congrArg _ e0) _) _).trans ((congrFun (congrArg _ e1) _).trans (congrArg _ e3))

end Cert.Proof.PoolClaims

end
-- ==== Proof.Norms.Tile.lean ====
/-
  The norm over rows of 1024 features and its gradient, on arrays written by natural coordinates: the operations a tile of
  512 rows applies, each as the real function it computes.
-/
module

public import proofs.«01_k».proof.Proof.Arrays

@[expose] public section

set_option maxRecDepth 16384

noncomputable section

namespace Cert.Norms

open Idealize.ShloMosaic Cert.Reals Cert.Calc
open scoped BigOperators

/-! ## The real functions -/

/-- The reciprocal root mean square of row `r`. -/
def NR (f : ℕ → ℕ → ℝ) (r : ℕ) : ℝ := rs fun k : Fin 1024 => f r k.val

/-- The normed row, before the gain. -/
def XH (f : ℕ → ℕ → ℝ) (r c : ℕ) : ℝ := f r c * NR f r

/-- The gradient of the norm at the rows `f`, for the cotangent `C` after the gain. -/
def NG (f C : ℕ → ℕ → ℝ) (r c : ℕ) : ℝ := NR f r * (C r c - XH f r c * ((∑ k : Fin 1024, C r k.val * XH f r k.val) / 1024))

/-- Rows plus the normed rows of another array, times a gain. -/
def SUMN (X M : ℕ → ℕ → ℝ) (G : ℕ → ℝ) (r c : ℕ) : ℝ := X r c + XH M r c * G c

/-- Normed rows times a gain. -/
def HN (X : ℕ → ℕ → ℝ) (G : ℕ → ℝ) (r c : ℕ) : ℝ := XH X r c * G c

/-- A cotangent plus the gradient of the norm. -/
def DN (DX X DH : ℕ → ℕ → ℝ) (G : ℕ → ℝ) (r c : ℕ) : ℝ := DX r c + NG X (fun r c => DH r c * G c) r c

/-- The gradient of the norm alone. -/
def DM (M D : ℕ → ℕ → ℝ) (G : ℕ → ℝ) (r c : ℕ) : ℝ := NG M (fun r c => D r c * G c) r c

/-- The gradient of the gain over all rows. -/
def DG (X DH : ℕ → ℕ → ℝ) (c : ℕ) : ℝ := ∑ r : Fin 4096, DH r.val c * XH X r.val c

/-- What tile `t` adds to it. -/
def DGT (X DH : ℕ → ℕ → ℝ) (t c : ℕ) : ℝ := ∑ p : Fin 512, DH (t * 512 + p.val) c * XH X (t * 512 + p.val) c

theorem sum_DGT {N : ℕ} (hN : N = 8) (X DH : ℕ → ℕ → ℝ) (c : ℕ) : (∑ t : Fin N, DGT X DH t.val c) = DG X DH c :=
  sum_blocks hN fun r => DH r.val c * XH X r.val c

/-! ## The operations of a tile -/

variable (f g : ℕ → ℕ → ℝ)

theorem gain (h : (⟨2, ![1, 1024]⟩ : Shape).ShapeCasts ⟨2, ![1, 1024]⟩) (v : (⟨2, ![1, 1024]⟩ : Shape).Idx → EReal) :
    shapeCast ⟨2, ![1, 1024]⟩ v h = v := by
  funext j
  pointwise

theorem whole (h : (⟨2, ![512, 1024]⟩ : Shape).ShapeCasts ⟨2, ![512, 1024]⟩) (v : (⟨2, ![512, 1024]⟩ : Shape).Idx → EReal) :
    shapeCast ⟨2, ![512, 1024]⟩ v h = v := by
  funext j
  pointwise

theorem column (h : (⟨2, ![512, 1]⟩ : Shape).Broadcasts ⟨2, ![512, 1024]⟩) :
    broadcastTo ⟨2, ![512, 1024]⟩ (n2 (a := 512) (b := 1) f) h = n2 fun r _ => f r 0 := by
  funext i
  obtain ⟨p, q, rfl⟩ : ∃ p q, i = ix2 p q := ⟨i 0, i 1, eq_ix2 i⟩
  pointwise
  rfl

theorem row (h : (⟨2, ![1, 1024]⟩ : Shape).Broadcasts ⟨2, ![512, 1024]⟩) :
    broadcastTo ⟨2, ![512, 1024]⟩ (n2 (a := 1) (b := 1024) f) h = n2 fun _ c => f 0 c := by
  funext i
  obtain ⟨p, q, rfl⟩ : ∃ p q, i = ix2 p q := ⟨i 0, i 1, eq_ix2 i⟩
  pointwise
  rfl

/-- The sum of each row. -/
theorem rowsum (h : (⟨2, ![512, 1024]⟩ : Shape).Reduces [1] ⟨1, ![512]⟩) (h' : (⟨1, ![512]⟩ : Shape).ShapeCasts ⟨2, ![512, 1]⟩) (h1) (h2 : (0x00000000#32 : BitVec 32) = 0x00000000#32) :
    shapeCast ⟨2, ![512, 1]⟩ (multiReduction (F := Ideal) (φ := .f32) .add [1] ⟨1, ![512]⟩ (n2 (a := 512) (b := 1024) f) 0x00000000#32 h h1 h2) h'
      = n2 fun r _ => ∑ k : Fin 1024, f r k.val := by
  funext j
  obtain ⟨p, q, rfl⟩ : ∃ p q, j = ix2 p q := ⟨j 0, j 1, eq_ix2 j⟩
  pointwise
  simp only [n2_ix, sum_coe]

/-- The sum of each column. -/
theorem colsum (h : (⟨2, ![512, 1024]⟩ : Shape).Reduces [0] ⟨1, ![1024]⟩) (h' : (⟨1, ![1024]⟩ : Shape).ShapeCasts ⟨2, ![1, 1024]⟩) (h1) (h2 : (0x00000000#32 : BitVec 32) = 0x00000000#32) :
    shapeCast ⟨2, ![1, 1024]⟩ (multiReduction (F := Ideal) (φ := .f32) .add [0] ⟨1, ![1024]⟩ (n2 (a := 512) (b := 1024) f) 0x00000000#32 h h1 h2) h'
      = n2 fun _ c => ∑ p : Fin 512, f p.val c := by
  funext j
  obtain ⟨p, q, rfl⟩ : ∃ p q, j = ix2 p q := ⟨j 0, j 1, eq_ix2 j⟩
  pointwise
  simp only [n2_ix, sum_coe]

theorem mean : divf (F := Ideal) (φ := .f32) (n2 (a := 512) (b := 1) f) (broadcast ⟨2, ![512, 1]⟩ (Scalar.ofBits .f32 0x44800000#32))
    = n2 fun r c => f r c / 1024 := by
  funext j
  show Ideal.div ((f _ _ : ℝ) : EReal) (Ideal.ofBits .f32 0x44800000#32) = _
  rw [lit_1024, div_coe _ _ (by norm_num)]
  rfl

/-- The reciprocal root mean square of each row. -/
theorem recip : rsqrt (F := Ideal) (φ := .f32) (addf (divf (n2 (a := 512) (b := 1) fun r _ => ∑ k : Fin 1024, f r k.val * f r k.val)
      (broadcast ⟨2, ![512, 1]⟩ (Scalar.ofBits .f32 0x44800000#32))) (broadcast ⟨2, ![512, 1]⟩ (Scalar.ofBits .f32 0x358637BD#32)))
    = n2 fun r _ => NR f r := by
  rw [mean]
  funext j
  show Ideal.rsqrt (((∑ k : Fin 1024, f _ k.val * f _ k.val) / 1024 : ℝ) + Ideal.ofBits .f32 0x358637BD#32) = _
  rw [lit_eps, ← EReal.coe_add]
  exact rsqrt_coe _ (ms_pos fun k : Fin 1024 => f (j 0).val k.val)

theorem narrow (h) : truncf (F := Ideal) (φ := .f32) .bf16 (n2 (a := 512) (b := 1024) f) h = n2 f := rfl

end Cert.Norms

end
-- ==== Proof.Norms.EntryRun.lean ====
/-
  A run of the two calls of the first norm: what memory holds after it.
-/
module

public import proofs.«01_k».proof.Proof.Gen.EntryIdeal.Frame

@[expose] public section

set_option maxRecDepth 16384

noncomputable section

namespace Cert.EntryIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EntryIdeal Cert.EntryIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every array of the program holds what the second call leaves in it, and every counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.EntryIdeal.Rows

end
-- ==== Proof.Norms.EntryBlock.lean ====
/-
  The two calls of the norm before the first block on real values: what each leaves in its results.
-/
module

public import proofs.«01_k».proof.Proof.Norms.Tile
public import proofs.«01_k».proof.Proof.Norms.EntryRun
public import Idealize.ShloMosaic.Lib.Pipeline.ValueKit
public import Idealize.ShloMosaic.Lib.Pipeline.ReadBack

@[expose] public section

set_option maxRecDepth 16384

noncomputable section

namespace Cert.EntryIdeal.Rows

open Cert.EntryIdeal Cert.EntryIdeal.Gen Cert.Reals Cert.Calc Cert.Norms Idealize.ShloMosaic Idealize.ShloMosaic.TcCoe Idealize.SL.Sem
open Idealize.ShloMosaic.Pipeline (Dat)
open scoped BigOperators

/-! ## A tile of either call -/

section Tile

variable (X DX DH : ℕ → ℕ → ℝ) (G : ℕ → ℝ)

theorem p0_1 : k0_pay1 (F := Ideal) (n2 X) (n2 fun _ c => G c) = n2 (HN X G) := by
  unfold k0_pay1
  dsimp only
  rw [gain, mul, rowsum, recip, column, mul, row, mul]
  rfl

theorem p1_2 : k1_pay2 (F := Ideal) (n2 X) = n2 fun r _ => NR X r := by
  unfold k1_pay2
  dsimp only
  rw [mul, rowsum, recip]

theorem p1_3 : k1_pay3 (F := Ideal) (n2 X) = n2 (XH X) := by
  unfold k1_pay3
  dsimp only
  rw [p1_2, column, mul]
  rfl

theorem p1_4 : k1_pay4 (F := Ideal) (n2 X) (n2 DH) = n2 fun _ c => ∑ p : Fin 512, DH p.val c * XH X p.val c := by
  unfold k1_pay4
  dsimp only
  rw [p1_3, mul, colsum]

theorem p1_5 : k1_pay5 (F := Ideal) (n2 DX) (n2 X) (n2 DH) (n2 fun _ c => G c) = n2 (DN DX X DH G) := by
  unfold k1_pay5
  dsimp only
  rw [p1_3, p1_2, gain, row, mul, mul, rowsum, mean, column, column, mul, sub, mul, add]
  rfl

/-- The accumulator: what it held plus the tile's sum. -/
theorem p1_1 (a : FVec Ideal S1x1024 .f32) :
    k1_pay1 (F := Ideal) (k1_pay4 (n2 X) (n2 DH)) (k1_pay7 a) = addf (F := Ideal) (φ := .f32) a (n2 fun _ c => ∑ p : Fin 512, DH p.val c * XH X p.val c) := by
  unfold k1_pay1 k1_pay7
  dsimp only
  rw [p1_4, gain]

end Tile

/-! ## The windows -/

variable (V : (c : Dev nD) → (b : Ref sig .tc) → Buf (Elt Ideal) ((c : Thread nD τ).loc b)) (f : ℕ → ℕ → ℝ) (G : ℕ → ℝ)

theorem idx0 : ∀ t : Fin cfg0.N, win0_0.index t = ![t.val, 0] ∧ win0_1.index t = ![0, 0] ∧ win0_2.index t = ![t.val, 0] ∧ t.val < 8 :=
  (by decide +kernel : ∀ t : Fin grid0.N, _)

theorem idx1 : ∀ t : Fin cfg1.N, win1_0.index t = ![t.val, 0] ∧ win1_1.index t = ![t.val, 0] ∧ win1_2.index t = ![t.val, 0] ∧ win1_3.index t = ![0, 0]
    ∧ win1_4.index t = ![t.val, 0] ∧ win1_5.index t = ![0, 0] ∧ t.val < 8 :=
  (by decide +kernel : ∀ t : Fin grid1.N, _)

theorem b0_0 (c : Dev nD) (t : Fin cfg0.N) (h : V c main_arg0 = n2 f) :
    iblk0 V c 0 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_1 (c : Dev nD) (t : Fin cfg0.N) (h : V c main_v0 = n2 fun _ q => G q) :
    iblk0 V c 1 t = n2 fun _ q => G q := by
  funext y
  blk_simp [iblk0]
  rw [h]
  refine congrArg (fun r : ℝ => (r : EReal)) (congrArg G ?_)
  blk_simp [idx0 t]

theorem b1_0 (c : Dev nD) (t : Fin cfg1.N) (h : V c main_arg2 = n2 f) :
    iblk1 V c 0 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_1 (c : Dev nD) (t : Fin cfg1.N) (h : V c main_arg0 = n2 f) :
    iblk1 V c 1 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_2 (c : Dev nD) (t : Fin cfg1.N) (h : V c main_arg3 = n2 f) :
    iblk1 V c 2 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_3 (c : Dev nD) (t : Fin cfg1.N) (h : V c main_v0 = n2 fun _ q => G q) :
    iblk1 V c 3 t = n2 fun _ q => G q := by
  funext y
  blk_simp [iblk1]
  rw [h]
  refine congrArg (fun r : ℝ => (r : EReal)) (congrArg G ?_)
  blk_simp [idx1 t]

/-! ## What the calls leave -/

/-- The arguments. -/
structure Inputs (m : (ℓ : Loc nD τ sig) → Buf (Elt Ideal) ℓ) (X DX DH : ℕ → ℕ → ℝ) (G : ℕ → ℝ) (c : Dev nD) : Prop where
  a0 : m ((c : Thread nD τ).loc main_arg0) = n2 X
  a1 : m ((c : Thread nD τ).loc main_arg1) = n1 G
  a2 : m ((c : Thread nD τ).loc main_arg2) = n2 DX
  a3 : m ((c : Thread nD τ).loc main_arg3) = n2 DH

variable (m : (ℓ : Loc nD τ sig) → Buf (Elt Ideal) ℓ) (ρ : Dev nD → PrngReg) {X DX DH : ℕ → ℕ → ℝ} {G : ℕ → ℝ}

theorem v1_0 (c : Dev nD) (h : Inputs m X DX DH G c) : V1 m ρ c main_v0 = n2 fun _ q => G q := by
  funext j
  obtain ⟨p, q, rfl⟩ : ∃ p q, j = ix2 p q := ⟨j 0, j 1, eq_ix2 j⟩
  show StableHlo.after hostOps0 (W0 m ρ c) main_v0 (ix2 p q) = _
  entry_read
  pointwise
  exact congrFun h.a1 (ix1 q)

/-- The normed rows. -/
theorem final2 (c : Dev nD) (h : Inputs m X DX DH G c) : (dat0 (V1 m ρ) c).arrAt 2 cfg0.N = n2 (HN X G) := by
  refine (dat0 (V1 m ρ) c).arrAt_eq_of_covers 2 _ (by decide +kernel) fun t _ y => ?_
  have ht := (idx0 t).2.2.2
  blk_simp
  rw [after0_2, b0_0 (V1 m ρ) X c t ((W1_args m ρ c main_arg0 (by decide)).trans h.a0), b0_1 (V1 m ρ) G c t (v1_0 m ρ c h)]
  unfold out0_2
  frame_out
  rw [p0_1]
  obtain ⟨p, q, rfl⟩ : ∃ p q, y = ix2 p q := ⟨y 0, y 1, eq_ix2 y⟩
  have e : ((cfg0.win 2).blk t).view.emb (ix2 p q) = ix2 (⟨t.val * 512 + p.val, by omega⟩ : Fin 4096) q := by
    blk_ext [idx0 t]
  rw [e]
  rfl

/-- What the second call reads. -/
theorem c1_0 (c : Dev nD) (t : Fin cfg1.N) (h : Inputs m X DX DH G c) : iblk1 (V2 m ρ) c 0 t = n2 fun r q => DX (t.val * 512 + r) q :=
  b1_0 _ (DX) c t ((W2_args m ρ c main_arg2 (by decide)).trans h.a2)
theorem c1_1 (c : Dev nD) (t : Fin cfg1.N) (h : Inputs m X DX DH G c) : iblk1 (V2 m ρ) c 1 t = n2 fun r q => X (t.val * 512 + r) q :=
  b1_1 _ (X) c t ((W2_args m ρ c main_arg0 (by decide)).trans h.a0)
theorem c1_2 (c : Dev nD) (t : Fin cfg1.N) (h : Inputs m X DX DH G c) : iblk1 (V2 m ρ) c 2 t = n2 fun r q => DH (t.val * 512 + r) q :=
  b1_2 _ (DH) c t ((W2_args m ρ c main_arg3 (by decide)).trans h.a3)
theorem c1_3 (c : Dev nD) (t : Fin cfg1.N) (h : Inputs m X DX DH G c) : iblk1 (V2 m ρ) c 3 t = n2 fun _ q => G q :=
  b1_3 _ (G) c t ((W2_of m ρ c main_v0 (by decide)).trans (v1_0 m ρ c h))

theorem outs4 (c : Dev nD) (t : Fin cfg1.N) (h : Inputs m X DX DH G c) :
    (outsAt1 (V2 m ρ) c t.val t.isLt).1 = n2 fun r q => DN DX X DH G (t.val * 512 + r) q := by
  by_cases hc : t.val % 8 = 0
  · rw [outsAt1_A (V2 m ρ) c t hc]
    frame_out
    rw [c1_0 m ρ c t h, c1_1 m ρ c t h, c1_2 m ρ c t h, c1_3 m ρ c t h, p1_5]
    rfl
  · rw [outsAt1_B (V2 m ρ) c t hc]
    frame_out
    rw [c1_0 m ρ c t h, c1_1 m ρ c t h, c1_2 m ρ c t h, c1_3 m ρ c t h, p1_5]
    rfl

/-- The gradient of the rows. -/
theorem final4 (c : Dev nD) (h : Inputs m X DX DH G c) : (dat1 (V2 m ρ) c).arrAt 4 cfg1.N = n2 (DN DX X DH G) := by
  refine (dat1 (V2 m ρ) c).arrAt_eq_of_covers 4 _ (by decide +kernel) fun t _ y => ?_
  have ht := (idx1 t).2.2.2.2.2.2
  blk_simp
  rw [after1_4, outs4 m ρ c t h]
  obtain ⟨p, q, rfl⟩ : ∃ p q, y = ix2 p q := ⟨y 0, y 1, eq_ix2 y⟩
  have e : ((cfg1.win 4).blk t).view.emb (ix2 p q) = ix2 (⟨t.val * 512 + p.val, by omega⟩ : Fin 4096) q := by
    blk_ext [idx1 t]
  rw [e]
  rfl

/-- The gradient of the gain, summed over the tiles. -/
theorem final5 (c : Dev nD) (h : Inputs m X DX DH G c) :
    (dat1 (V2 m ρ) c).arrAt 5 cfg1.N = n2 fun _ q => DG X DH q := by
  refine (dat1 (V2 m ρ) c).arrAt_eq_of_after_last 5 t1_7 (by decide +kernel) _ fun j => ?_
  blk_simp
  rw [after1_5]
  refine (Pipeline.eq_sum_fin_of_reset_step_apply_last (fun n h => (outsAt1 (V2 m ρ) c n h).2) 8 (fun _ => (0 : EReal))
    (fun t j => ((DGT X DH t.val (j 1).val : ℝ) : EReal))
    (fun t h0 j => ?_) (fun t h0 j => ?_) (by decide) t1_7 rfl j).trans ?_
  · rw [outsAt1_A (V2 m ρ) c t h0]
    frame_out
    rw [c1_1 m ρ c t h, c1_2 m ρ c t h, p1_1]
    exact congrArg (· + _) lit_zero
  · rw [outsAt1_B (V2 m ρ) c t h0]
    frame_out
    rw [c1_1 m ρ c t h, c1_2 m ρ c t h, p1_1]
    rfl
  · rw [zero_add, sum_coe]
    exact congrArg (fun x : ℝ => (x : EReal)) (sum_DGT N_1 X DH (j 1).val)

end Cert.EntryIdeal.Rows

end
-- ==== Proof.Norms.Host.lean ====
/-
  The norm over rows of 1024 features and its gradient as host operations on all 4096 rows, each as the real function it
  computes.
-/
module

public import proofs.«01_k».proof.Proof.Norms.Tile

@[expose] public section

set_option maxRecDepth 16384

noncomputable section

namespace Cert.Norms.Host

open Idealize.ShloMosaic Cert.Reals Cert.Calc Cert.Norms
open scoped BigOperators

/-- The shapes of the rows, of one number a row, of the list of those, of one row, of its list, and of one number. -/
abbrev R : Shape := ⟨2, ![4096, 1024]⟩
abbrev C1 : Shape := ⟨2, ![4096, 1]⟩
abbrev C0 : Shape := ⟨1, ![4096]⟩
abbrev G1 : Shape := ⟨2, ![1, 1024]⟩
abbrev G0 : Shape := ⟨1, ![1024]⟩
abbrev O : Shape := ⟨0, ![]⟩

/-- The mean square of row `r`, plus epsilon. -/
def MS (f : ℕ → ℕ → ℝ) (r : ℕ) : ℝ := ms fun k : Fin 1024 => f r k.val

variable (f g : ℕ → ℕ → ℝ)

/-- A column laid out over the features. -/
theorem column (h : C1.BroadcastsInDim R ![0, 1]) :
    broadcastInDim R ![0, 1] h (n2 (a := 4096) (b := 1) f) = n2 (a := 4096) (b := 1024) fun r _ => f r 0 := by
  funext i
  obtain ⟨p, q, rfl⟩ : ∃ p q, i = ix2 p q := ⟨i 0, i 1, eq_ix2 i⟩
  pointwise
  rfl

/-- A gain laid out over the rows. -/
theorem gain (G : ℕ → ℝ) (h : G1.BroadcastsInDim R ![0, 1]) (h' : G0.BroadcastsInDim G1 ![1]) :
    broadcastInDim R ![0, 1] h (broadcastInDim G1 ![1] h' (n1 G : G0.Idx → EReal)) = n2 (a := 4096) (b := 1024) fun _ c => G c := by
  funext i
  obtain ⟨p, q, rfl⟩ : ∃ p q, i = ix2 p q := ⟨i 0, i 1, eq_ix2 i⟩
  pointwise
  rfl

/-- Rows laid out as they are. -/
theorem same (h : R.ShapeCasts R) : shapeCast R (n2 (a := 4096) (b := 1024) f) h = n2 (a := 4096) (b := 1024) f := by
  funext i
  pointwise

/-- The mean square of each row, plus epsilon. -/
theorem meansq (h0 : C0.BroadcastsInDim C1 ![0]) (h1 : R.ReducesTo [1] C0) (h2 : 0 < O.numel) (h3 h4 : O.BroadcastsInDim C1 ![]) :
    addf (F := Ideal) (φ := .f32) (Host.divf (broadcastInDim C1 ![0] h0
      (Host.reduceAdd (n2 (a := 4096) (b := 1024) fun r c => f r c * f r c) (constant (F := Ideal) O .f32 0x00000000#32) h1 h2))
      (broadcastInDim C1 ![] h3 (constant (F := Ideal) O .f32 0x44800000#32)))
      (broadcastInDim C1 ![] h4 (constant (F := Ideal) O .f32 0x358637BD#32))
      = n2 (a := 4096) (b := 1) fun r _ => MS f r := by
  funext i
  obtain ⟨p, q, rfl⟩ : ∃ p q, i = ix2 p q := ⟨i 0, i 1, eq_ix2 i⟩
  pointwise
  simp only [n2_ix, EReal.coe_mul]
  exact ms_coe fun k : Fin 1024 => f p.val k.val

/-- Its reciprocal square root. -/
theorem recip : Host.rsqrt (F := Ideal) (φ := .f32) (n2 (a := 4096) (b := 1) fun r _ => MS f r) = n2 fun r _ => NR f r := by
  funext i
  exact rsqrt_coe _ (ms_pos fun k : Fin 1024 => f (i 0).val k.val)

/-- What differentiation through that square root multiplies by. -/
theorem slope (h : O.BroadcastsInDim C1 ![]) :
    mulf (F := Ideal) (φ := .f32) (broadcastInDim C1 ![] h (constant (F := Ideal) O .f32 0xBF000000#32))
      (Host.divf (n2 (a := 4096) (b := 1) fun r _ => NR f r) (n2 (a := 4096) (b := 1) fun r _ => MS f r))
      = n2 (a := 4096) (b := 1) fun r _ => -(1 / 2) * (NR f r / MS f r) := by
  funext i
  obtain ⟨p, q, rfl⟩ : ∃ p q, i = ix2 p q := ⟨i 0, i 1, eq_ix2 i⟩
  pointwise
  simp only [n2_ix]
  rw [lit_neg_half, show Ideal.div (NR f p.val : EReal) (MS f p.val : EReal) = ((NR f p.val / MS f p.val : ℝ) : EReal) from
    div_coe _ _ (ms_pos fun k : Fin 1024 => f p.val k.val).ne', ← EReal.coe_mul]

/-- The scalar of a row: its products with the cotangent, times the slope, over the number of features. -/
theorem scalar (C : ℕ → ℕ → ℝ) (s : ℕ → ℝ) (h1 : R.ReducesTo [1] C0) (h2 h2' : 0 < O.numel) (h3 : C0.ShapeCasts C1)
    (h4 : O.BroadcastsInDim C1 ![]) (h5 : C1.ReducesTo [1] C0) (h6 : C0.BroadcastsInDim R ![0]) :
    broadcastInDim R ![0] h6 (Host.reduceAdd (F := Ideal) (φ := .f32)
      (Host.divf (mulf (shapeCast C1
          (Host.reduceAdd (n2 (a := 4096) (b := 1024) C) (constant (F := Ideal) O .f32 0x00000000#32) h1 h2) h3)
        (n2 (a := 4096) (b := 1) fun r _ => s r))
        (broadcastInDim C1 ![] h4 (constant (F := Ideal) O .f32 0x44800000#32)))
      (constant (F := Ideal) O .f32 0x00000000#32) h5 h2')
      = n2 (a := 4096) (b := 1024) fun r _ => (∑ k : Fin 1024, C r k.val) * s r / 1024 := by
  funext i
  obtain ⟨p, q, rfl⟩ : ∃ p q, i = ix2 p q := ⟨i 0, i 1, eq_ix2 i⟩
  pointwise
  simp only [n2_ix, sum_coe, ← EReal.coe_mul]
  rw [lit_1024, div_coe _ _ (by norm_num), Finset.univ_unique, Finset.sum_singleton]

/-- The gradient of the norm as differentiation writes it. -/
theorem back_eq (C : ℕ → ℕ → ℝ) (r c : ℕ) (hc : c < 1024) :
    C r c * NR f r + f r c * ((∑ k : Fin 1024, f r k.val * C r k.val) * (-(1 / 2) * (NR f r / MS f r)) / 1024)
      + (∑ k : Fin 1024, f r k.val * C r k.val) * (-(1 / 2) * (NR f r / MS f r)) / 1024 * f r c = NG f C r c :=
  ngrad_eq (fun k : Fin 1024 => f r k.val) (fun k : Fin 1024 => C r k.val) ⟨c, hc⟩

/-- The sum over the rows, kept as one row. -/
theorem total (h1 : R.ReducesTo [0] G0) (h2 h2' : 0 < O.numel) (h3 h3' : G0.ShapeCasts G1) (h4 : G1.ReducesTo [0] G0) :
    shapeCast G1 (Host.reduceAdd (F := Ideal) (φ := .f32) (shapeCast G1
        (Host.reduceAdd (n2 (a := 4096) (b := 1024) f) (constant (F := Ideal) O .f32 0x00000000#32) h1 h2) h3)
      (constant (F := Ideal) O .f32 0x00000000#32) h4 h2') h3'
      = n2 (a := 1) (b := 1024) fun _ c => ∑ r : Fin 4096, f r.val c := by
  funext i
  obtain ⟨p, q, rfl⟩ : ∃ p q, i = ix2 p q := ⟨i 0, i 1, eq_ix2 i⟩
  pointwise
  simp only [n2_ix, sum_coe, Finset.univ_unique, Finset.sum_singleton]

end Cert.Norms.Host

end
-- ==== Proof.Norms.EntryRef.lean ====
/-
  The reference of the norm of the step's first rows, as a real function of its rows.
-/
module

public import proofs.«01_k».proof.Proof.Norms.Host
public import proofs.«01_k».proof.Proof.Gen.EntryRefIdeal.Read

@[expose] public section

set_option maxRecDepth 16384

noncomputable section

namespace Cert.EntryRefIdeal.Rows

open Idealize.ShloMosaic Cert.Reals Cert.Calc Cert.Norms Cert.EntryRefIdeal Cert.EntryRefIdeal.Read
open scoped BigOperators

variable (X DX DH : ℕ → ℕ → ℝ) (G : ℕ → ℝ)

theorem v6 : val_main_v6 (F := Ideal) (n2 X) = n2 fun r _ => Host.MS X r := by
  unfold val_main_v6 val_main_v4 val_main_v5 val_main_v3 val_main_v2 val_main_v1 val_main_v0 val_main_cst val_main_cst_0 val_main_cst_1
  rw [mul]
  exact Host.meansq X _ _ _ _ _

theorem v7 : val_main_v7 (F := Ideal) (n2 X) = n2 fun r _ => NR X r := by
  unfold val_main_v7
  rw [v6]
  exact Host.recip X

theorem v10 : val_main_v10 (F := Ideal) (n2 X) = n2 fun r _ => -(1 / 2) * (NR X r / Host.MS X r) := by
  unfold val_main_v10 val_main_v9 val_main_v8 val_main_cst_2
  rw [v6, v7]
  exact Host.slope X _

theorem v12 : val_main_v12 (F := Ideal) (n2 X) = n2 (XH X) := by
  unfold val_main_v12 val_main_v11
  rw [v7, Host.column, mul]
  rfl

/-- The normed rows. -/
theorem v15 : val_main_v15 (F := Ideal) (n2 X) (n1 G) = n2 (HN X G) := by
  unfold val_main_v15 val_main_v14 val_main_v13
  rw [v12, Host.gain, mul]
  rfl

/-- The gradient of the gain. -/
theorem v37 : val_main_v37 (F := Ideal) (n2 X) (n2 DH) = n2 fun _ c => DG X DH c := by
  unfold val_main_v37 val_main_v21 val_main_v18 val_main_v17 val_main_v16 val_main_cst_3 val_main_cst_4
  rw [v12, mul]
  refine (Host.total _ _ _ _ _ _ _).trans (n2_congr fun r _ c _ => ?_)
  exact Finset.sum_congr rfl fun k _ => mul_comm _ _

theorem v20 : val_main_v20 (F := Ideal) (n1 G) (n2 DH) = n2 fun r c => DH r c * G c := by
  unfold val_main_v20 val_main_v19 val_main_v13
  rw [Host.gain, mul]

theorem v32 : val_main_v32 (F := Ideal) (n2 X) (n1 G) (n2 DH)
    = n2 fun r _ => (∑ k : Fin 1024, X r k.val * (DH r k.val * G k.val)) * (-(1 / 2) * (NR X r / Host.MS X r)) / 1024 := by
  unfold val_main_v32 val_main_v31 val_main_v30 val_main_v29 val_main_v28 val_main_v24 val_main_v23 val_main_v22
    val_main_cst_5 val_main_cst_6 val_main_cst_7
  rw [v20, v10, mul]
  exact Host.scalar _ _ _ _ _ _ _ _ _

/-- The gradient of the rows. -/
theorem v36 : val_main_v36 (F := Ideal) (n2 X) (n1 G) (n2 DX) (n2 DH) = n2 (DN DX X DH G) := by
  unfold val_main_v36 val_main_v35 val_main_v34 val_main_v33 val_main_v27 val_main_v26 val_main_v25
  rw [v32, v20, v7, Host.column, mul, mul, mul, add, add, add]
  refine n2_congr fun r _ c hc => ?_
  rw [add_assoc, add_assoc, ← add_assoc (_ * NR _ r), Host.back_eq X (fun r c => DH r c * G c) r c hc]
  rfl

end Cert.EntryRefIdeal.Rows

end
-- ==== Proof.Norms.EntryClaims.lean ====
/-
  The claims about the norm before the first block: frames, and equality with the reference at the ideal instance on finite inputs.
-/
module

public import proofs.«01_k».proof.Defs
public import proofs.«01_k».proof.Proof.Gen.Entry.Frame
public import proofs.«01_k».proof.Proof.Gen.Pre_entry_finite
public import proofs.«01_k».proof.Proof.Norms.EntryBlock
public import proofs.«01_k».proof.Proof.Norms.EntryRef
public import proofs.«01_k».proof.Proof.Gen.EntryRefIdeal.Run
public import Idealize.ShloMosaic.Lib.Quiescent

@[expose] public section

set_option maxRecDepth 16384

noncomputable section

namespace Cert.Proof.EntryClaims

open Idealize.ShloMosaic Idealize.ShloMosaic.TcCoe Idealize.SL.Sem Cert.Reals Cert.Calc Cert.Norms Cert.EntryIdeal.Rows

/-- The kernel and its idealization run without a fault, keep their arguments, and leave no semaphore raised. -/
theorem frame : Cert.quiescent_Entry := fun m ρ _ => Cert.Entry.Gen.frame m ρ
theorem frame_ideal : Cert.quiescent_EntryIdeal := fun m ρ _ => Cert.EntryIdeal.Gen.frame m ρ
theorem frame_ideal_pre : Cert.quiescent_EntryIdeal_pre_entry_finite := fun m ρ _ => Cert.EntryIdeal.Gen.frame m ρ

/-- So does the reference, at any state. -/
theorem frame_ref : Cert.quiescent_EntryRefIdeal := fun m ρ _ =>
  (θ_run Cert.EntryRefIdeal.defs _ _).mono (fun r h => ⟨fun c => (h c).2.2.2, sem_eq_zero_of_no_sems (by decide) r.2⟩)
    (Cert.EntryRefIdeal.Value.run (F := Ideal) m ρ)
theorem frame_ref_pre : Cert.quiescent_EntryRefIdeal_pre_entry_finite := fun m ρ _ => frame_ref m ρ trivial

theorem preserves : Cert.preserves_Entry_EntryIdeal := trivial

/-- The precondition, read: every element of the arguments is finite. -/
theorem finite (x0 : FVec Ideal Cert.EntryIdeal.S4096x1024 .f32) (x1 : FVec Ideal Cert.EntryIdeal.S1024 .f32) (x2 : FVec Ideal Cert.EntryIdeal.S4096x1024 .f32) (x3 : FVec Ideal Cert.EntryIdeal.S4096x1024 .f32)
    (h : Cert.Pre_entry_finite.fn (F := Ideal) x0 x1 x2 x3 = fun _ => 1#1) :
    (∀ i, x0 i ≠ ⊥ ∧ x0 i ≠ ⊤) ∧ (∀ i, x1 i ≠ ⊥ ∧ x1 i ≠ ⊤) ∧ (∀ i, x2 i ≠ ⊥ ∧ x2 i ≠ ⊤) ∧ (∀ i, x3 i ≠ ⊥ ∧ x3 i ≠ ⊤) := by
  have key (p : Fin 4096) (q : Fin 1024) := congrFun h (ix2 p q)
  unfold Cert.Pre_entry_finite.fn at key
  pointwise at key
  refine ⟨fun i => ?_, fun i => ?_, fun i => ?_, fun i => ?_⟩
  · obtain ⟨p, q, rfl⟩ : ∃ p q, i = ix2 p q := ⟨i 0, i 1, eq_ix2 i⟩
    exact finite_of_abs_lt _ (and_eq_one (and_eq_one (and_eq_one (key p q)).1).1).1
  · obtain ⟨q, rfl⟩ : ∃ q, i = ix1 q := ⟨i 0, eq_ix1 i⟩
    exact finite_of_abs_lt _ (and_eq_one (key 0 q)).2
  · obtain ⟨p, q, rfl⟩ : ∃ p q, i = ix2 p q := ⟨i 0, i 1, eq_ix2 i⟩
    exact finite_of_abs_lt _ (and_eq_one (and_eq_one (and_eq_one (key p q)).1).1).2
  · obtain ⟨p, q, rfl⟩ : ∃ p q, i = ix2 p q := ⟨i 0, i 1, eq_ix2 i⟩
    exact finite_of_abs_lt _ (and_eq_one (and_eq_one (key p q)).1).2

/-- On finite inputs the kernel's results are the reference's. -/
theorem algebraic : Cert.algebraic_EntryIdeal_EntryRefIdeal_pre_entry_finite := by
  intro m ρ m' ρ' hpre hagree
  have hin (c : Dev Cert.EntryIdeal.nD) : ∃ X DX DH G, Inputs m X DX DH G c := by
    obtain ⟨h0, h1, h2, h3⟩ := finite _ _ _ _ (hpre c)
    exact ⟨_, _, _, _, ⟨eq_n2 _ h0, eq_n1 _ h1, eq_n2 _ h2, eq_n2 _ h3⟩⟩
  choose X DX DH G hi using hin
  refine ⟨fun c => n2 (HN (X c) (G c)), fun c => n2 (DN (DX c) (X c) (DH c) (G c)), fun c => n2 fun _ q => DG (X c) (DH c) q, ?_, ?_⟩
  · refine (θ_run Cert.EntryIdeal.defs _ _).mono (fun r h c => ?_) (Cert.EntryIdeal.Rows.run (F := Ideal) m ρ)
    have read (b : Ref Cert.EntryIdeal.sig .tc) (hb) := h.1 c _ (Cert.EntryIdeal.Gen.mem_uc b hb)
    exact ⟨(read Cert.EntryIdeal.main_v1 (by decide)).trans ((Cert.EntryIdeal.Gen.W3_of m ρ c _ (by decide)).trans ((Cert.EntryIdeal.Gen.W2_arr m ρ c 2).trans (final2 m ρ c (hi c)))),
      (read Cert.EntryIdeal.main_v2_0 (by decide)).trans ((Cert.EntryIdeal.Gen.W3_arr m ρ c 4).trans (final4 m ρ c (hi c))),
      (read Cert.EntryIdeal.main_v2_1 (by decide)).trans ((Cert.EntryIdeal.Gen.W3_arr m ρ c 5).trans (final5 m ρ c (hi c))),
      (read Cert.EntryIdeal.main_arg0 (by decide)).trans (Cert.EntryIdeal.Gen.W3_main_arg0 m ρ c),
      (read Cert.EntryIdeal.main_arg1 (by decide)).trans (Cert.EntryIdeal.Gen.W3_main_arg1 m ρ c),
      (read Cert.EntryIdeal.main_arg2 (by decide)).trans (Cert.EntryIdeal.Gen.W3_main_arg2 m ρ c),
      (read Cert.EntryIdeal.main_arg3 (by decide)).trans (Cert.EntryIdeal.Gen.W3_main_arg3 m ρ c)⟩
  · refine (θ_run Cert.EntryRefIdeal.defs _ _).mono (fun r h c => ?_) (Cert.EntryRefIdeal.Value.run (F := Ideal) m' ρ')
    obtain ⟨r0, r1, r2, rest⟩ := h c
    have e0 := (hagree c).1.trans (hi c).a0
    have e1 := (hagree c).2.1.trans (hi c).a1
    have e2 := (hagree c).2.2.1.trans (hi c).a2
    have e3 := (hagree c).2.2.2.trans (hi c).a3
    refine ⟨r0.trans ((Cert.EntryRefIdeal.Read.val_main_v15_eq _ _).trans ?_),
      r1.trans ((Cert.EntryRefIdeal.Read.val_main_v36_eq _ _ _ _).trans ?_),
      r2.trans ((Cert.EntryRefIdeal.Read.val_main_v37_eq _ _).trans ?_), rest⟩
    · rw [e0, e1]
      exact Cert.EntryRefIdeal.Rows.v15 _ _
    · rw [e0, e1, e2, e3]
      exact Cert.EntryRefIdeal.Rows.v36 _ _ _ _
    · rw [e0, e3]
      exact Cert.EntryRefIdeal.Rows.v37 _ _

end Cert.Proof.EntryClaims

end
-- ==== Proof.Norms.MidRun.lean ====
/-
  A run of the two calls of the two norms around a block: what memory holds after it.
-/
module

public import proofs.«01_k».proof.Proof.Gen.MidIdeal.Frame

@[expose] public section

set_option maxRecDepth 16384

noncomputable section

namespace Cert.MidIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MidIdeal Cert.MidIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every array of the program holds what the second call leaves in it, and every counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.MidIdeal.Rows

end
-- ==== Proof.Norms.MidBlock.lean ====
/-
  The two calls of the two norms around a block on real values: what each leaves in its results.
-/
module

public import proofs.«01_k».proof.Proof.Norms.Tile
public import proofs.«01_k».proof.Proof.Norms.MidRun
public import Idealize.ShloMosaic.Lib.Pipeline.ValueKit
public import Idealize.ShloMosaic.Lib.Pipeline.ReadBack

@[expose] public section

set_option maxRecDepth 16384

noncomputable section

namespace Cert.MidIdeal.Rows

open Cert.MidIdeal Cert.MidIdeal.Gen Cert.Reals Cert.Calc Cert.Norms Idealize.ShloMosaic Idealize.ShloMosaic.TcCoe Idealize.SL.Sem
open Idealize.ShloMosaic.Pipeline (Dat)
open scoped BigOperators

/-! ## A tile of either call -/

section Tile

variable (X M DX DH : ℕ → ℕ → ℝ) (GP GQ : ℕ → ℝ)

theorem p0_1 : k0_pay1 (F := Ideal) (n2 X) (n2 M) (n2 fun _ c => GP c) = n2 (SUMN X M GP) := by
  unfold k0_pay1
  dsimp only
  rw [gain, mul, rowsum, recip, column, mul, row, mul, add]
  rfl

theorem p0_2 : k0_pay2 (F := Ideal) (n2 X) (n2 M) (n2 fun _ c => GP c) (n2 fun _ c => GQ c) = n2 (HN (SUMN X M GP) GQ) := by
  unfold k0_pay2
  dsimp only
  rw [p0_1, gain, mul, rowsum, recip, column, mul, row, mul, narrow]
  rfl

theorem p1_3 : k1_pay3 (F := Ideal) (n2 X) = n2 fun r _ => NR X r := by
  unfold k1_pay3 k1_pay1
  dsimp only
  rw [whole, mul, rowsum, recip]

theorem p1_4 : k1_pay4 (F := Ideal) (n2 X) = n2 (XH X) := by
  unfold k1_pay4 k1_pay1
  dsimp only
  rw [p1_3, whole, column, mul]
  rfl

theorem p1_5 : k1_pay5 (F := Ideal) (n2 X) (n2 DH) = n2 fun _ c => ∑ p : Fin 512, DH p.val c * XH X p.val c := by
  unfold k1_pay5
  dsimp only
  rw [p1_4, mul, colsum]

theorem p1_6 : k1_pay6 (F := Ideal) (n2 DX) (n2 X) (n2 DH) (n2 fun _ c => GQ c) = n2 (DN DX X DH GQ) := by
  unfold k1_pay6
  dsimp only
  rw [p1_4, p1_3, gain, row, mul, mul, rowsum, mean, column, column, mul, sub, mul, add]
  rfl

theorem p1_9 : k1_pay9 (F := Ideal) (k1_pay7 (n2 M)) k1_pay8 = n2 fun r _ => NR M r := by
  unfold k1_pay9 k1_pay7 k1_pay8
  dsimp only
  rw [mul, rowsum, recip]

theorem p1_10 : k1_pay10 (F := Ideal) (n2 M) (k1_pay7 (n2 M)) k1_pay8 = n2 (XH M) := by
  unfold k1_pay10
  dsimp only
  rw [p1_9, column, mul]
  rfl

theorem p1_11 : k1_pay11 (F := Ideal) (n2 M) (k1_pay2 (n2 fun _ c => GP c)) (n2 DX) (k1_pay7 (n2 M)) k1_pay8 = n2 (DM M DX GP) := by
  unfold k1_pay11 k1_pay2
  dsimp only
  rw [p1_10, p1_9, gain, row, mul, mul, rowsum, mean, column, column, mul, sub, mul]
  rfl

/-- The accumulators: what they held plus the tile's sum. -/
theorem p1_13 (a : FVec Ideal S1x1024 .f32) :
    k1_pay13 (F := Ideal) (k1_pay5 (n2 X) (n2 DH)) a = addf (F := Ideal) (φ := .f32) a (n2 fun _ c => ∑ p : Fin 512, DH p.val c * XH X p.val c) := by
  unfold k1_pay13
  dsimp only
  rw [p1_5, gain]

theorem p1_15 (a : FVec Ideal S1x1024 .f32) : k1_pay15 (F := Ideal) (n2 M) (n2 DX) (k1_pay7 (n2 M)) k1_pay8 a
    = addf (F := Ideal) (φ := .f32) a (n2 fun _ c => ∑ p : Fin 512, DX p.val c * XH M p.val c) := by
  unfold k1_pay15
  dsimp only
  rw [p1_10, mul, colsum, gain]

end Tile

/-! ## The windows -/

variable (V : (c : Dev nD) → (b : Ref sig .tc) → Buf (Elt Ideal) ((c : Thread nD τ).loc b)) (f : ℕ → ℕ → ℝ) (G : ℕ → ℝ)

theorem idx0 : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 8 :=
  (by decide +kernel : ∀ t : Fin grid0.N, _)

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![t.val, 0]
    ∧ win1_7.index t = ![t.val, 0] ∧ win1_8.index t = ![0, 0] ∧ win1_9.index t = ![0, 0] ∧ t.val < 8 :=
  (by decide +kernel : ∀ t : Fin grid1.N, _)

theorem b0_0 (c : Dev nD) (t : Fin cfg0.N) (h : V c main_arg0 = n2 f) :
    iblk0 V c 0 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_1 (c : Dev nD) (t : Fin cfg0.N) (h : V c main_arg1 = n2 f) :
    iblk0 V c 1 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_2 (c : Dev nD) (t : Fin cfg0.N) (h : V c main_v0 = n2 fun _ q => G q) :
    iblk0 V c 2 t = n2 fun _ q => G q := by
  funext y
  blk_simp [iblk0]
  rw [h]
  refine congrArg (fun r : ℝ => (r : EReal)) (congrArg G ?_)
  blk_simp [idx0 t]

theorem b0_3 (c : Dev nD) (t : Fin cfg0.N) (h : V c main_v1 = n2 fun _ q => G q) :
    iblk0 V c 3 t = n2 fun _ q => G q := by
  funext y
  blk_simp [iblk0]
  rw [h]
  refine congrArg (fun r : ℝ => (r : EReal)) (congrArg G ?_)
  blk_simp [idx0 t]

theorem b1_0 (c : Dev nD) (t : Fin cfg1.N) (h : V c main_arg4 = n2 f) :
    iblk1 V c 0 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_1 (c : Dev nD) (t : Fin cfg1.N) (h : V c main_v2_0 = n2 f) :
    iblk1 V c 1 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_2 (c : Dev nD) (t : Fin cfg1.N) (h : V c main_arg5 = n2 f) :
    iblk1 V c 2 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_3 (c : Dev nD) (t : Fin cfg1.N) (h : V c main_arg1 = n2 f) :
    iblk1 V c 3 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_4 (c : Dev nD) (t : Fin cfg1.N) (h : V c main_v1 = n2 fun _ q => G q) :
    iblk1 V c 4 t = n2 fun _ q => G q := by
  funext y
  blk_simp [iblk1]
  rw [h]
  refine congrArg (fun r : ℝ => (r : EReal)) (congrArg G ?_)
  blk_simp [idx1 t]

theorem b1_5 (c : Dev nD) (t : Fin cfg1.N) (h : V c main_v0 = n2 fun _ q => G q) :
    iblk1 V c 5 t = n2 fun _ q => G q := by
  funext y
  blk_simp [iblk1]
  rw [h]
  refine congrArg (fun r : ℝ => (r : EReal)) (congrArg G ?_)
  blk_simp [idx1 t]

/-! ## What the calls leave -/

/-- The six arguments. -/
structure Inputs (m : (ℓ : Loc nD τ sig) → Buf (Elt Ideal) ℓ) (X M DX DH : ℕ → ℕ → ℝ) (GP GQ : ℕ → ℝ) (c : Dev nD) : Prop where
  a0 : m ((c : Thread nD τ).loc main_arg0) = n2 X
  a1 : m ((c : Thread nD τ).loc main_arg1) = n2 M
  a2 : m ((c : Thread nD τ).loc main_arg2) = n1 GP
  a3 : m ((c : Thread nD τ).loc main_arg3) = n1 GQ
  a4 : m ((c : Thread nD τ).loc main_arg4) = n2 DX
  a5 : m ((c : Thread nD τ).loc main_arg5) = n2 DH

variable (m : (ℓ : Loc nD τ sig) → Buf (Elt Ideal) ℓ) (ρ : Dev nD → PrngReg) {X M DX DH : ℕ → ℕ → ℝ} {GP GQ : ℕ → ℝ}

theorem v1_0 (c : Dev nD) (h : Inputs m X M DX DH GP GQ c) : V1 m ρ c main_v0 = n2 fun _ q => GP q := by
  funext j
  obtain ⟨p, q, rfl⟩ : ∃ p q, j = ix2 p q := ⟨j 0, j 1, eq_ix2 j⟩
  show StableHlo.after hostOps0 (W0 m ρ c) main_v0 (ix2 p q) = _
  entry_read
  pointwise
  exact congrFun h.a2 (ix1 q)

theorem v1_1 (c : Dev nD) (h : Inputs m X M DX DH GP GQ c) : V1 m ρ c main_v1 = n2 fun _ q => GQ q := by
  funext j
  obtain ⟨p, q, rfl⟩ : ∃ p q, j = ix2 p q := ⟨j 0, j 1, eq_ix2 j⟩
  show StableHlo.after hostOps0 (W0 m ρ c) main_v1 (ix2 p q) = _
  entry_read
  pointwise
  exact congrFun h.a3 (ix1 q)

/-- The rows between the two norms. -/
theorem final4 (c : Dev nD) (h : Inputs m X M DX DH GP GQ c) : (dat0 (V1 m ρ) c).arrAt 4 cfg0.N = n2 (SUMN X M GP) := by
  refine (dat0 (V1 m ρ) c).arrAt_eq_of_covers 4 _ (by decide +kernel) fun t _ y => ?_
  have ht := (idx0 t).2.2.2.2.2.2
  blk_simp
  rw [after0_4, b0_0 (V1 m ρ) X c t ((W1_args m ρ c main_arg0 (by decide)).trans h.a0),
    b0_1 (V1 m ρ) M c t ((W1_args m ρ c main_arg1 (by decide)).trans h.a1), b0_2 (V1 m ρ) GP c t (v1_0 m ρ c h)]
  unfold out0_4
  frame_out
  rw [p0_1]
  obtain ⟨p, q, rfl⟩ : ∃ p q, y = ix2 p q := ⟨y 0, y 1, eq_ix2 y⟩
  have e : ((cfg0.win 4).blk t).view.emb (ix2 p q) = ix2 (⟨t.val * 512 + p.val, by omega⟩ : Fin 4096) q := by
    blk_ext [idx0 t]
  rw [e]
  rfl

/-- The normed rows. -/
theorem final5 (c : Dev nD) (h : Inputs m X M DX DH GP GQ c) : (dat0 (V1 m ρ) c).arrAt 5 cfg0.N = n2 (HN (SUMN X M GP) GQ) := by
  refine (dat0 (V1 m ρ) c).arrAt_eq_of_covers 5 _ (by decide +kernel) fun t _ y => ?_
  have ht := (idx0 t).2.2.2.2.2.2
  blk_simp
  rw [after0_5, b0_0 (V1 m ρ) X c t ((W1_args m ρ c main_arg0 (by decide)).trans h.a0),
    b0_1 (V1 m ρ) M c t ((W1_args m ρ c main_arg1 (by decide)).trans h.a1), b0_2 (V1 m ρ) GP c t (v1_0 m ρ c h),
    b0_3 (V1 m ρ) GQ c t (v1_1 m ρ c h)]
  unfold out0_5
  frame_out
  rw [p0_2]
  obtain ⟨p, q, rfl⟩ : ∃ p q, y = ix2 p q := ⟨y 0, y 1, eq_ix2 y⟩
  have e : ((cfg0.win 5).blk t).view.emb (ix2 p q) = ix2 (⟨t.val * 512 + p.val, by omega⟩ : Fin 4096) q := by
    blk_ext [idx0 t]
  rw [e]
  rfl

/-- What the second call reads. -/
theorem c1_0 (c : Dev nD) (t : Fin cfg1.N) (h : Inputs m X M DX DH GP GQ c) : iblk1 (V2 m ρ) c 0 t = n2 fun r q => DX (t.val * 512 + r) q :=
  b1_0 _ DX c t ((W2_args m ρ c main_arg4 (by decide)).trans h.a4)
theorem c1_1 (c : Dev nD) (t : Fin cfg1.N) (h : Inputs m X M DX DH GP GQ c) : iblk1 (V2 m ρ) c 1 t = n2 fun r q => SUMN X M GP (t.val * 512 + r) q :=
  b1_1 _ (SUMN X M GP) c t ((W2_arr m ρ c 4).trans (final4 m ρ c h))
theorem c1_2 (c : Dev nD) (t : Fin cfg1.N) (h : Inputs m X M DX DH GP GQ c) : iblk1 (V2 m ρ) c 2 t = n2 fun r q => DH (t.val * 512 + r) q :=
  b1_2 _ DH c t ((W2_args m ρ c main_arg5 (by decide)).trans h.a5)
theorem c1_3 (c : Dev nD) (t : Fin cfg1.N) (h : Inputs m X M DX DH GP GQ c) : iblk1 (V2 m ρ) c 3 t = n2 fun r q => M (t.val * 512 + r) q :=
  b1_3 _ M c t ((W2_args m ρ c main_arg1 (by decide)).trans h.a1)
theorem c1_4 (c : Dev nD) (t : Fin cfg1.N) (h : Inputs m X M DX DH GP GQ c) : iblk1 (V2 m ρ) c 4 t = n2 fun _ q => GQ q :=
  b1_4 _ GQ c t ((W2_of m ρ c main_v1 (by decide)).trans (v1_1 m ρ c h))
theorem c1_5 (c : Dev nD) (t : Fin cfg1.N) (h : Inputs m X M DX DH GP GQ c) : iblk1 (V2 m ρ) c 5 t = n2 fun _ q => GP q :=
  b1_5 _ GP c t ((W2_of m ρ c main_v0 (by decide)).trans (v1_0 m ρ c h))

theorem outs6 (c : Dev nD) (t : Fin cfg1.N) (h : Inputs m X M DX DH GP GQ c) :
    (outsAt1 (V2 m ρ) c t.val t.isLt).1 = n2 fun r q => DN DX (SUMN X M GP) DH GQ (t.val * 512 + r) q := by
  by_cases hc : t.val % 8 = 0
  · rw [outsAt1_A (V2 m ρ) c t hc hc]
    frame_out
    rw [c1_0 m ρ c t h, c1_1 m ρ c t h, c1_2 m ρ c t h, c1_4 m ρ c t h, p1_6]
    rfl
  · rw [outsAt1_B (V2 m ρ) c t hc hc]
    frame_out
    rw [c1_0 m ρ c t h, c1_1 m ρ c t h, c1_2 m ρ c t h, c1_4 m ρ c t h, p1_6]
    rfl

theorem outs7 (c : Dev nD) (t : Fin cfg1.N) (h : Inputs m X M DX DH GP GQ c) :
    (outsAt1 (V2 m ρ) c t.val t.isLt).2.1 = n2 fun r q => DM M (DN DX (SUMN X M GP) DH GQ) GP (t.val * 512 + r) q := by
  by_cases hc : t.val % 8 = 0
  · rw [outsAt1_A (V2 m ρ) c t hc hc]
    frame_out
    rw [c1_0 m ρ c t h, c1_1 m ρ c t h, c1_2 m ρ c t h, c1_3 m ρ c t h, c1_4 m ρ c t h, c1_5 m ρ c t h, p1_6, p1_11]
    rfl
  · rw [outsAt1_B (V2 m ρ) c t hc hc]
    frame_out
    rw [c1_0 m ρ c t h, c1_1 m ρ c t h, c1_2 m ρ c t h, c1_3 m ρ c t h, c1_4 m ρ c t h, c1_5 m ρ c t h, p1_6, p1_11]
    rfl

/-- The gradient of the block's rows, and of the rows of the norm before. -/
theorem final6 (c : Dev nD) (h : Inputs m X M DX DH GP GQ c) : (dat1 (V2 m ρ) c).arrAt 6 cfg1.N = n2 (DN DX (SUMN X M GP) DH GQ) := by
  refine (dat1 (V2 m ρ) c).arrAt_eq_of_covers 6 _ (by decide +kernel) fun t _ y => ?_
  have ht := (idx1 t).2.2.2.2.2.2.2.2.2.2
  blk_simp
  rw [after1_6, outs6 m ρ c t h]
  obtain ⟨p, q, rfl⟩ : ∃ p q, y = ix2 p q := ⟨y 0, y 1, eq_ix2 y⟩
  have e : ((cfg1.win 6).blk t).view.emb (ix2 p q) = ix2 (⟨t.val * 512 + p.val, by omega⟩ : Fin 4096) q := by
    blk_ext [idx1 t]
  rw [e]
  rfl

theorem final7 (c : Dev nD) (h : Inputs m X M DX DH GP GQ c) :
    (dat1 (V2 m ρ) c).arrAt 7 cfg1.N = n2 (DM M (DN DX (SUMN X M GP) DH GQ) GP) := by
  refine (dat1 (V2 m ρ) c).arrAt_eq_of_covers 7 _ (by decide +kernel) fun t _ y => ?_
  have ht := (idx1 t).2.2.2.2.2.2.2.2.2.2
  blk_simp
  rw [after1_7, outs7 m ρ c t h]
  obtain ⟨p, q, rfl⟩ : ∃ p q, y = ix2 p q := ⟨y 0, y 1, eq_ix2 y⟩
  have e : ((cfg1.win 7).blk t).view.emb (ix2 p q) = ix2 (⟨t.val * 512 + p.val, by omega⟩ : Fin 4096) q := by
    blk_ext [idx1 t]
  rw [e]
  rfl

/-- The gradients of the two gains, summed over the tiles. -/
theorem final8 (c : Dev nD) (h : Inputs m X M DX DH GP GQ c) :
    (dat1 (V2 m ρ) c).arrAt 8 cfg1.N = n2 fun _ q => DG (SUMN X M GP) DH q := by
  refine (dat1 (V2 m ρ) c).arrAt_eq_of_after_last 8 t1_7 (by decide +kernel) _ fun j => ?_
  blk_simp
  rw [after1_8]
  refine (Pipeline.eq_sum_fin_of_reset_step_apply_last (fun n h => (outsAt1 (V2 m ρ) c n h).2.2.1) 8 (fun _ => (0 : EReal))
    (fun t j => ((DGT (SUMN X M GP) DH t.val (j 1).val : ℝ) : EReal))
    (fun t h0 j => ?_) (fun t h0 j => ?_) (by decide) t1_7 rfl j).trans ?_
  · rw [outsAt1_A (V2 m ρ) c t h0 h0]
    frame_out
    rw [c1_1 m ρ c t h, c1_2 m ρ c t h, p1_13]
    exact congrArg (· + _) lit_zero
  · rw [outsAt1_B (V2 m ρ) c t h0 h0]
    frame_out
    rw [c1_1 m ρ c t h, c1_2 m ρ c t h, p1_13]
    rfl
  · rw [zero_add, sum_coe]
    exact congrArg (fun x : ℝ => (x : EReal)) (sum_DGT N_1 (SUMN X M GP) DH (j 1).val)

theorem final9 (c : Dev nD) (h : Inputs m X M DX DH GP GQ c) :
    (dat1 (V2 m ρ) c).arrAt 9 cfg1.N = n2 fun _ q => DG M (DN DX (SUMN X M GP) DH GQ) q := by
  refine (dat1 (V2 m ρ) c).arrAt_eq_of_after_last 9 t1_7 (by decide +kernel) _ fun j => ?_
  blk_simp
  rw [after1_9]
  refine (Pipeline.eq_sum_fin_of_reset_step_apply_last (fun n h => (outsAt1 (V2 m ρ) c n h).2.2.2) 8 (fun _ => (0 : EReal))
    (fun t j => ((DGT M (DN DX (SUMN X M GP) DH GQ) t.val (j 1).val : ℝ) : EReal))
    (fun t h0 j => ?_) (fun t h0 j => ?_) (by decide) t1_7 rfl j).trans ?_
  · rw [outsAt1_A (V2 m ρ) c t h0 h0]
    frame_out
    rw [c1_0 m ρ c t h, c1_1 m ρ c t h, c1_2 m ρ c t h, c1_3 m ρ c t h, c1_4 m ρ c t h, p1_6, p1_15]
    exact congrArg (· + _) lit_zero
  · rw [outsAt1_B (V2 m ρ) c t h0 h0]
    frame_out
    rw [c1_0 m ρ c t h, c1_1 m ρ c t h, c1_2 m ρ c t h, c1_3 m ρ c t h, c1_4 m ρ c t h, p1_6, p1_15]
    rfl
  · rw [zero_add, sum_coe]
    exact congrArg (fun x : ℝ => (x : EReal)) (sum_DGT N_1 M (DN DX (SUMN X M GP) DH GQ) (j 1).val)

end Cert.MidIdeal.Rows

end
-- ==== Proof.Norms.MidRef.lean ====
/-
  The reference of the two norms around a block's input, as a real function of its rows.
-/
module

public import proofs.«01_k».proof.Proof.Norms.Host
public import proofs.«01_k».proof.Proof.Gen.MidRefIdeal.Read

@[expose] public section

set_option maxRecDepth 16384

noncomputable section

namespace Cert.MidRefIdeal.Rows

open Idealize.ShloMosaic Cert.Reals Cert.Calc Cert.Norms Cert.MidRefIdeal Cert.MidRefIdeal.Read
open scoped BigOperators

variable (X M DX DH : ℕ → ℕ → ℝ) (GP GQ : ℕ → ℝ)

theorem v6 : val_main_v6 (F := Ideal) (n2 M) = n2 fun r _ => Host.MS M r := by
  unfold val_main_v6 val_main_v4 val_main_v5 val_main_v3 val_main_v2 val_main_v1 val_main_v0 val_main_cst val_main_cst_0 val_main_cst_1
  rw [mul]
  exact Host.meansq M _ _ _ _ _

theorem v7 : val_main_v7 (F := Ideal) (n2 M) = n2 fun r _ => NR M r := by
  unfold val_main_v7
  rw [v6]
  exact Host.recip M

theorem v10 : val_main_v10 (F := Ideal) (n2 M) = n2 fun r _ => -(1 / 2) * (NR M r / Host.MS M r) := by
  unfold val_main_v10 val_main_v9 val_main_v8 val_main_cst_2
  rw [v6, v7]
  exact Host.slope M _

theorem v12 : val_main_v12 (F := Ideal) (n2 M) = n2 (XH M) := by
  unfold val_main_v12 val_main_v11
  rw [v7, Host.column, mul]
  rfl

/-- The rows between the two norms. -/
theorem v16 : val_main_v16 (F := Ideal) (n2 X) (n2 M) (n1 GP) = n2 (SUMN X M GP) := by
  unfold val_main_v16 val_main_v15 val_main_v14 val_main_v13
  rw [v12, Host.gain, mul, add]
  rfl

theorem v23 : val_main_v23 (F := Ideal) (n2 X) (n2 M) (n1 GP) = n2 fun r _ => Host.MS (SUMN X M GP) r := by
  unfold val_main_v23 val_main_v21 val_main_v22 val_main_v20 val_main_v19 val_main_v18 val_main_v17 val_main_cst_3 val_main_cst_4 val_main_cst_5
  rw [v16, mul]
  exact Host.meansq _ _ _ _ _ _

theorem v24 : val_main_v24 (F := Ideal) (n2 X) (n2 M) (n1 GP) = n2 fun r _ => NR (SUMN X M GP) r := by
  unfold val_main_v24
  rw [v23]
  exact Host.recip _

theorem v27 : val_main_v27 (F := Ideal) (n2 X) (n2 M) (n1 GP)
    = n2 fun r _ => -(1 / 2) * (NR (SUMN X M GP) r / Host.MS (SUMN X M GP) r) := by
  unfold val_main_v27 val_main_v26 val_main_v25 val_main_cst_6
  rw [v23, v24]
  exact Host.slope _ _

theorem v29 : val_main_v29 (F := Ideal) (n2 X) (n2 M) (n1 GP) = n2 (XH (SUMN X M GP)) := by
  unfold val_main_v29 val_main_v28
  rw [v24, v16, Host.column, mul]
  rfl

theorem v32 : val_main_v32 (F := Ideal) (n2 X) (n2 M) (n1 GP) (n1 GQ) = n2 (HN (SUMN X M GP) GQ) := by
  unfold val_main_v32 val_main_v31 val_main_v30
  rw [v29, Host.gain, mul]
  rfl

/-- The normed rows. -/
theorem v75 : val_main_v75 (F := Ideal) (n2 X) (n2 M) (n1 GP) (n1 GQ) = n2 (HN (SUMN X M GP) GQ) := by
  unfold val_main_v75
  rw [v32]
  rfl

/-- The gradient of the gain of the norm after. -/
theorem v76 : val_main_v76 (F := Ideal) (n2 X) (n2 M) (n1 GP) (n2 DH) = n2 fun _ c => DG (SUMN X M GP) DH c := by
  unfold val_main_v76 val_main_v38 val_main_v35 val_main_v34 val_main_v33 val_main_cst_7 val_main_cst_8
  rw [v29, mul]
  refine (Host.total _ _ _ _ _ _ _).trans (n2_congr fun r _ c _ => ?_)
  exact Finset.sum_congr rfl fun k _ => mul_comm _ _

theorem v37 : val_main_v37 (F := Ideal) (n1 GQ) (n2 DH) = n2 fun r c => DH r c * GQ c := by
  unfold val_main_v37 val_main_v36 val_main_v30
  rw [Host.gain, mul]

theorem v49 : val_main_v49 (F := Ideal) (n2 X) (n2 M) (n1 GP) (n1 GQ) (n2 DH)
    = n2 fun r _ => (∑ k : Fin 1024, SUMN X M GP r k.val * (DH r k.val * GQ k.val))
        * (-(1 / 2) * (NR (SUMN X M GP) r / Host.MS (SUMN X M GP) r)) / 1024 := by
  unfold val_main_v49 val_main_v48 val_main_v47 val_main_v46 val_main_v45 val_main_v41 val_main_v40 val_main_v39
    val_main_cst_9 val_main_cst_10 val_main_cst_11
  rw [v16, v37, v27, mul]
  exact Host.scalar _ _ _ _ _ _ _ _ _

/-- The gradient of the block's rows. -/
theorem v53 : val_main_v53 (F := Ideal) (n2 X) (n2 M) (n1 GP) (n1 GQ) (n2 DX) (n2 DH) = n2 (DN DX (SUMN X M GP) DH GQ) := by
  unfold val_main_v53 val_main_v52 val_main_v51 val_main_v50 val_main_v44 val_main_v43 val_main_v42
  rw [v49, v16, v37, v24, Host.column, mul, mul, mul, add, add, add]
  refine n2_congr fun r _ c hc => ?_
  rw [add_assoc, add_assoc, ← add_assoc (_ * NR _ r), Host.back_eq (SUMN X M GP) (fun r c => DH r c * GQ c) r c hc]
  rfl

theorem v54 : val_main_v54 (F := Ideal) (n2 X) (n2 M) (n1 GP) (n1 GQ) (n2 DX) (n2 DH) = n2 (DN DX (SUMN X M GP) DH GQ) := by
  unfold val_main_v54
  rw [v53]
  exact Host.same _ _

/-- The gradient of the gain of the norm before. -/
theorem v77 : val_main_v77 (F := Ideal) (n2 X) (n2 M) (n1 GP) (n1 GQ) (n2 DX) (n2 DH)
    = n2 fun _ c => DG M (DN DX (SUMN X M GP) DH GQ) c := by
  unfold val_main_v77 val_main_v60 val_main_v57 val_main_v56 val_main_v55 val_main_cst_12 val_main_cst_13
  rw [v54, v12, mul]
  refine (Host.total _ _ _ _ _ _ _).trans (n2_congr fun r _ c _ => ?_)
  exact Finset.sum_congr rfl fun k _ => mul_comm _ _

theorem v59 : val_main_v59 (F := Ideal) (n2 X) (n2 M) (n1 GP) (n1 GQ) (n2 DX) (n2 DH)
    = n2 fun r c => DN DX (SUMN X M GP) DH GQ r c * GP c := by
  unfold val_main_v59 val_main_v58 val_main_v13
  rw [v54, Host.gain, mul]

theorem v70 : val_main_v70 (F := Ideal) (n2 X) (n2 M) (n1 GP) (n1 GQ) (n2 DX) (n2 DH)
    = n2 fun r _ => (∑ k : Fin 1024, M r k.val * (DN DX (SUMN X M GP) DH GQ r k.val * GP k.val))
        * (-(1 / 2) * (NR M r / Host.MS M r)) / 1024 := by
  unfold val_main_v70 val_main_v69 val_main_v68 val_main_v67 val_main_v66 val_main_v63 val_main_v62 val_main_v61
    val_main_cst_14 val_main_cst_15 val_main_cst_16
  rw [v59, v10, mul]
  exact Host.scalar _ _ _ _ _ _ _ _ _

/-- The gradient of the rows of the norm before. -/
theorem v74 : val_main_v74 (F := Ideal) (n2 X) (n2 M) (n1 GP) (n1 GQ) (n2 DX) (n2 DH)
    = n2 (DM M (DN DX (SUMN X M GP) DH GQ) GP) := by
  unfold val_main_v74 val_main_v73 val_main_v72 val_main_v71 val_main_v65 val_main_v64
  rw [v70, v59, v7, Host.column, mul, mul, mul, add, add]
  refine n2_congr fun r _ c hc => ?_
  exact Host.back_eq M (fun r c => DN DX (SUMN X M GP) DH GQ r c * GP c) r c hc

end Cert.MidRefIdeal.Rows

end
-- ==== Proof.Norms.MidClaims.lean ====
/-
  The claims about the two norms around a block: frames, and equality with the reference at the ideal instance on finite inputs.
-/
module

public import proofs.«01_k».proof.Defs
public import proofs.«01_k».proof.Proof.Gen.Mid.Frame
public import proofs.«01_k».proof.Proof.Gen.Pre_sandwich_finite
public import proofs.«01_k».proof.Proof.Norms.MidBlock
public import proofs.«01_k».proof.Proof.Norms.MidRef
public import proofs.«01_k».proof.Proof.Gen.MidRefIdeal.Run
public import Idealize.ShloMosaic.Lib.Quiescent

@[expose] public section

set_option maxRecDepth 16384

noncomputable section

namespace Cert.Proof.MidClaims

open Idealize.ShloMosaic Idealize.ShloMosaic.TcCoe Idealize.SL.Sem Cert.Reals Cert.Calc Cert.Norms Cert.MidIdeal.Rows

/-- The kernel and its idealization run without a fault, keep their arguments, and leave no semaphore raised. -/
theorem frame : Cert.quiescent_Mid := fun m ρ _ => Cert.Mid.Gen.frame m ρ
theorem frame_ideal : Cert.quiescent_MidIdeal := fun m ρ _ => Cert.MidIdeal.Gen.frame m ρ
theorem frame_ideal_pre : Cert.quiescent_MidIdeal_pre_sandwich_finite := fun m ρ _ => Cert.MidIdeal.Gen.frame m ρ

/-- So does the reference, at any state. -/
theorem frame_ref : Cert.quiescent_MidRefIdeal := fun m ρ _ =>
  (θ_run Cert.MidRefIdeal.defs _ _).mono (fun r h => ⟨fun c => (h c).2.2.2.2.2.2, sem_eq_zero_of_no_sems (by decide) r.2⟩)
    (Cert.MidRefIdeal.Value.run (F := Ideal) m ρ)
theorem frame_ref_pre : Cert.quiescent_MidRefIdeal_pre_sandwich_finite := fun m ρ _ => frame_ref m ρ trivial

theorem preserves : Cert.preserves_Mid_MidIdeal := trivial

/-- The precondition, read: every element of the arguments is finite. -/
theorem finite (x0 : FVec Ideal Cert.MidIdeal.S4096x1024 .f32) (x1 : FVec Ideal Cert.MidIdeal.S4096x1024 .f32) (x2 : FVec Ideal Cert.MidIdeal.S1024 .f32) (x3 : FVec Ideal Cert.MidIdeal.S1024 .f32) (x4 : FVec Ideal Cert.MidIdeal.S4096x1024 .f32) (x5 : FVec Ideal Cert.MidIdeal.S4096x1024 .f32)
    (h : Cert.Pre_sandwich_finite.fn (F := Ideal) x0 x1 x2 x3 x4 x5 = fun _ => 1#1) :
    (∀ i, x0 i ≠ ⊥ ∧ x0 i ≠ ⊤) ∧ (∀ i, x1 i ≠ ⊥ ∧ x1 i ≠ ⊤) ∧ (∀ i, x2 i ≠ ⊥ ∧ x2 i ≠ ⊤) ∧ (∀ i, x3 i ≠ ⊥ ∧ x3 i ≠ ⊤) ∧ (∀ i, x4 i ≠ ⊥ ∧ x4 i ≠ ⊤) ∧ (∀ i, x5 i ≠ ⊥ ∧ x5 i ≠ ⊤) := by
  have key (p : Fin 4096) (q : Fin 1024) := congrFun h (ix2 p q)
  unfold Cert.Pre_sandwich_finite.fn Cert.Pre_sandwich_finite.fn_part1 at key
  pointwise at key
  refine ⟨fun i => ?_, fun i => ?_, fun i => ?_, fun i => ?_, fun i => ?_, fun i => ?_⟩
  · obtain ⟨p, q, rfl⟩ : ∃ p q, i = ix2 p q := ⟨i 0, i 1, eq_ix2 i⟩
    exact finite_of_abs_lt _ (and_eq_one (and_eq_one (and_eq_one (and_eq_one (and_eq_one (key p q)).1).1).1).1).1
  · obtain ⟨p, q, rfl⟩ : ∃ p q, i = ix2 p q := ⟨i 0, i 1, eq_ix2 i⟩
    exact finite_of_abs_lt _ (and_eq_one (and_eq_one (and_eq_one (and_eq_one (and_eq_one (key p q)).1).1).1).1).2
  · obtain ⟨q, rfl⟩ : ∃ q, i = ix1 q := ⟨i 0, eq_ix1 i⟩
    exact finite_of_abs_lt _ (and_eq_one (and_eq_one (key 0 q)).1).2
  · obtain ⟨q, rfl⟩ : ∃ q, i = ix1 q := ⟨i 0, eq_ix1 i⟩
    exact finite_of_abs_lt _ (and_eq_one (key 0 q)).2
  · obtain ⟨p, q, rfl⟩ : ∃ p q, i = ix2 p q := ⟨i 0, i 1, eq_ix2 i⟩
    exact finite_of_abs_lt _ (and_eq_one (and_eq_one (and_eq_one (and_eq_one (key p q)).1).1).1).2
  · obtain ⟨p, q, rfl⟩ : ∃ p q, i = ix2 p q := ⟨i 0, i 1, eq_ix2 i⟩
    exact finite_of_abs_lt _ (and_eq_one (and_eq_one (and_eq_one (key p q)).1).1).2

/-- On finite inputs the kernel's results are the reference's. -/
theorem algebraic : Cert.algebraic_MidIdeal_MidRefIdeal_pre_sandwich_finite := by
  intro m ρ m' ρ' hpre hagree
  have hin (c : Dev Cert.MidIdeal.nD) : ∃ X M DX DH GP GQ, Inputs m X M DX DH GP GQ c := by
    obtain ⟨h0, h1, h2, h3, h4, h5⟩ := finite _ _ _ _ _ _ (hpre c)
    exact ⟨_, _, _, _, _, _, ⟨eq_n2 _ h0, eq_n2 _ h1, eq_n1 _ h2, eq_n1 _ h3, eq_n2 _ h4, eq_n2 _ h5⟩⟩
  choose X M DX DH GP GQ hi using hin
  refine ⟨fun c => n2 (SUMN (X c) (M c) (GP c)), fun c => n2 (HN (SUMN (X c) (M c) (GP c)) (GQ c)), fun c => n2 (DN (DX c) (SUMN (X c) (M c) (GP c)) (DH c) (GQ c)), fun c => n2 (DM (M c) (DN (DX c) (SUMN (X c) (M c) (GP c)) (DH c) (GQ c)) (GP c)), fun c => n2 fun _ q => DG (SUMN (X c) (M c) (GP c)) (DH c) q, fun c => n2 fun _ q => DG (M c) (DN (DX c) (SUMN (X c) (M c) (GP c)) (DH c) (GQ c)) q, ?_, ?_⟩
  · refine (θ_run Cert.MidIdeal.defs _ _).mono (fun r h c => ?_) (Cert.MidIdeal.Rows.run (F := Ideal) m ρ)
    have read (b : Ref Cert.MidIdeal.sig .tc) (hb) := h.1 c _ (Cert.MidIdeal.Gen.mem_uc b hb)
    exact ⟨(read Cert.MidIdeal.main_v2_0 (by decide)).trans ((Cert.MidIdeal.Gen.W3_of m ρ c _ (by decide)).trans ((Cert.MidIdeal.Gen.W2_arr m ρ c 4).trans (final4 m ρ c (hi c)))),
      (read Cert.MidIdeal.main_v2_1 (by decide)).trans ((Cert.MidIdeal.Gen.W3_of m ρ c _ (by decide)).trans ((Cert.MidIdeal.Gen.W2_arr m ρ c 5).trans (final5 m ρ c (hi c)))),
      (read Cert.MidIdeal.main_v3_0 (by decide)).trans ((Cert.MidIdeal.Gen.W3_arr m ρ c 6).trans (final6 m ρ c (hi c))),
      (read Cert.MidIdeal.main_v3_1 (by decide)).trans ((Cert.MidIdeal.Gen.W3_arr m ρ c 7).trans (final7 m ρ c (hi c))),
      (read Cert.MidIdeal.main_v3_2 (by decide)).trans ((Cert.MidIdeal.Gen.W3_arr m ρ c 8).trans (final8 m ρ c (hi c))),
      (read Cert.MidIdeal.main_v3_3 (by decide)).trans ((Cert.MidIdeal.Gen.W3_arr m ρ c 9).trans (final9 m ρ c (hi c))),
      (read Cert.MidIdeal.main_arg0 (by decide)).trans (Cert.MidIdeal.Gen.W3_main_arg0 m ρ c),
      (read Cert.MidIdeal.main_arg1 (by decide)).trans (Cert.MidIdeal.Gen.W3_main_arg1 m ρ c),
      (read Cert.MidIdeal.main_arg2 (by decide)).trans (Cert.MidIdeal.Gen.W3_main_arg2 m ρ c),
      (read Cert.MidIdeal.main_arg3 (by decide)).trans (Cert.MidIdeal.Gen.W3_main_arg3 m ρ c),
      (read Cert.MidIdeal.main_arg4 (by decide)).trans (Cert.MidIdeal.Gen.W3_main_arg4 m ρ c),
      (read Cert.MidIdeal.main_arg5 (by decide)).trans (Cert.MidIdeal.Gen.W3_main_arg5 m ρ c)⟩
  · refine (θ_run Cert.MidRefIdeal.defs _ _).mono (fun r h c => ?_) (Cert.MidRefIdeal.Value.run (F := Ideal) m' ρ')
    obtain ⟨r0, r1, r2, r3, r4, r5, rest⟩ := h c
    have e0 := (hagree c).1.trans (hi c).a0
    have e1 := (hagree c).2.1.trans (hi c).a1
    have e2 := (hagree c).2.2.1.trans (hi c).a2
    have e3 := (hagree c).2.2.2.1.trans (hi c).a3
    have e4 := (hagree c).2.2.2.2.1.trans (hi c).a4
    have e5 := (hagree c).2.2.2.2.2.trans (hi c).a5
    refine ⟨r0.trans ((Cert.MidRefIdeal.Read.val_main_v16_eq _ _ _).trans ?_),
      r1.trans ((Cert.MidRefIdeal.Read.val_main_v75_eq _ _ _ _).trans ?_),
      r2.trans ((Cert.MidRefIdeal.Read.val_main_v53_eq _ _).trans ?_),
      r3.trans ((Cert.MidRefIdeal.Read.val_main_v74_eq _ _).trans ?_),
      r4.trans ((Cert.MidRefIdeal.Read.val_main_v76_eq _ _ _ _).trans ?_),
      r5.trans ((Cert.MidRefIdeal.Read.val_main_v77_eq _ _).trans ?_), rest⟩
    · rw [e0, e1, e2]
      exact Cert.MidRefIdeal.Rows.v16 _ _ _
    · rw [e0, e1, e2, e3]
      exact Cert.MidRefIdeal.Rows.v75 _ _ _ _
    · rw [e0, e1, e2, e3, e4, e5]
      exact Cert.MidRefIdeal.Rows.v53 _ _ _ _ _ _
    · rw [e0, e1, e2, e3, e4, e5]
      exact Cert.MidRefIdeal.Rows.v74 _ _ _ _ _ _
    · rw [e0, e1, e2, e5]
      exact Cert.MidRefIdeal.Rows.v76 _ _ _ _
    · rw [e0, e1, e2, e3, e4, e5]
      exact Cert.MidRefIdeal.Rows.v77 _ _ _ _ _ _

end Cert.Proof.MidClaims

end
-- ==== Proof.Norms.BelowRun.lean ====
/-
  A run of the two calls of the two norms around a block, the second gradient at bf16: what memory holds after it.
-/
module

public import proofs.«01_k».proof.Proof.Gen.BelowIdeal.Frame

@[expose] public section

set_option maxRecDepth 16384

noncomputable section

namespace Cert.BelowIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BelowIdeal Cert.BelowIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every array of the program holds what the second call leaves in it, and every counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.BelowIdeal.Rows

end
-- ==== Proof.Norms.BelowBlock.lean ====
/-
  The two calls of the two norms around a block, the second gradient at bf16 on real values: what each leaves in its results.
-/
module

public import proofs.«01_k».proof.Proof.Norms.Tile
public import proofs.«01_k».proof.Proof.Norms.BelowRun
public import proofs.«01_k».proof.Proof.Norms.MidBlock
public import Idealize.ShloMosaic.Lib.Pipeline.ValueKit
public import Idealize.ShloMosaic.Lib.Pipeline.ReadBack

@[expose] public section

set_option maxRecDepth 16384

noncomputable section

namespace Cert.BelowIdeal.Rows

open Cert.BelowIdeal Cert.BelowIdeal.Gen Cert.Reals Cert.Calc Cert.Norms Idealize.ShloMosaic Idealize.ShloMosaic.TcCoe Idealize.SL.Sem
open Idealize.ShloMosaic.Pipeline (Dat)
open scoped BigOperators

/-! ## A tile of either call -/

section Tile

variable (X M DX DH : ℕ → ℕ → ℝ) (GP GQ : ℕ → ℝ)

theorem p0_1 : k0_pay1 (F := Ideal) (n2 X) (n2 M) (n2 fun _ c => GP c) = n2 (SUMN X M GP) :=
  Cert.MidIdeal.Rows.p0_1 X M GP

theorem p0_2 : k0_pay2 (F := Ideal) (n2 X) (n2 M) (n2 fun _ c => GP c) (n2 fun _ c => GQ c) = n2 (HN (SUMN X M GP) GQ) :=
  Cert.MidIdeal.Rows.p0_2 X M GP GQ

theorem p1_6 : k1_pay6 (F := Ideal) (n2 DX) (n2 X) (n2 DH) (n2 fun _ c => GQ c) = n2 (DN DX X DH GQ) :=
  Cert.MidIdeal.Rows.p1_6 X DX DH GQ

theorem p1_11 : k1_pay11 (F := Ideal) (n2 M) (k1_pay2 (n2 fun _ c => GP c)) (n2 DX) (k1_pay7 (n2 M)) k1_pay8 = n2 (DM M DX GP) := by
  refine (congrArg (fun v : FVec Ideal S512x1024 .f32 => truncf (F := Ideal) .bf16 v bitsLt_bf16_f32)
    (Cert.MidIdeal.Rows.p1_11 M DX GP)).trans (narrow _ _)

/-- The accumulators: what they held plus the tile's sum. -/
theorem p1_13 (a : FVec Ideal S1x1024 .f32) :
    k1_pay13 (F := Ideal) (k1_pay5 (n2 X) (n2 DH)) a = addf (F := Ideal) (φ := .f32) a (n2 fun _ c => ∑ p : Fin 512, DH p.val c * XH X p.val c) :=
  Cert.MidIdeal.Rows.p1_13 X DH a

theorem p1_15 (a : FVec Ideal S1x1024 .f32) : k1_pay15 (F := Ideal) (n2 M) (n2 DX) (k1_pay7 (n2 M)) k1_pay8 a
    = addf (F := Ideal) (φ := .f32) a (n2 fun _ c => ∑ p : Fin 512, DX p.val c * XH M p.val c) :=
  Cert.MidIdeal.Rows.p1_15 M DX a

end Tile

/-! ## The windows -/

variable (V : (c : Dev nD) → (b : Ref sig .tc) → Buf (Elt Ideal) ((c : Thread nD τ).loc b)) (f : ℕ → ℕ → ℝ) (G : ℕ → ℝ)

theorem idx0 : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 8 :=
  (by decide +kernel : ∀ t : Fin grid0.N, _)

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![t.val, 0]
    ∧ win1_7.index t = ![t.val, 0] ∧ win1_8.index t = ![0, 0] ∧ win1_9.index t = ![0, 0] ∧ t.val < 8 :=
  (by decide +kernel : ∀ t : Fin grid1.N, _)

theorem b0_0 (c : Dev nD) (t : Fin cfg0.N) (h : V c main_arg0 = n2 f) :
    iblk0 V c 0 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_1 (c : Dev nD) (t : Fin cfg0.N) (h : V c main_arg1 = n2 f) :
    iblk0 V c 1 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_2 (c : Dev nD) (t : Fin cfg0.N) (h : V c main_v0 = n2 fun _ q => G q) :
    iblk0 V c 2 t = n2 fun _ q => G q := by
  funext y
  blk_simp [iblk0]
  rw [h]
  refine congrArg (fun r : ℝ => (r : EReal)) (congrArg G ?_)
  blk_simp [idx0 t]

theorem b0_3 (c : Dev nD) (t : Fin cfg0.N) (h : V c main_v1 = n2 fun _ q => G q) :
    iblk0 V c 3 t = n2 fun _ q => G q := by
  funext y
  blk_simp [iblk0]
  rw [h]
  refine congrArg (fun r : ℝ => (r : EReal)) (congrArg G ?_)
  blk_simp [idx0 t]

theorem b1_0 (c : Dev nD) (t : Fin cfg1.N) (h : V c main_arg4 = n2 f) :
    iblk1 V c 0 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_1 (c : Dev nD) (t : Fin cfg1.N) (h : V c main_v2_0 = n2 f) :
    iblk1 V c 1 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_2 (c : Dev nD) (t : Fin cfg1.N) (h : V c main_arg5 = n2 f) :
    iblk1 V c 2 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_3 (c : Dev nD) (t : Fin cfg1.N) (h : V c main_arg1 = n2 f) :
    iblk1 V c 3 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_4 (c : Dev nD) (t : Fin cfg1.N) (h : V c main_v1 = n2 fun _ q => G q) :
    iblk1 V c 4 t = n2 fun _ q => G q := by
  funext y
  blk_simp [iblk1]
  rw [h]
  refine congrArg (fun r : ℝ => (r : EReal)) (congrArg G ?_)
  blk_simp [idx1 t]

theorem b1_5 (c : Dev nD) (t : Fin cfg1.N) (h : V c main_v0 = n2 fun _ q => G q) :
    iblk1 V c 5 t = n2 fun _ q => G q := by
  funext y
  blk_simp [iblk1]
  rw [h]
  refine congrArg (fun r : ℝ => (r : EReal)) (congrArg G ?_)
  blk_simp [idx1 t]

/-! ## What the calls leave -/

/-- The six arguments. -/
structure Inputs (m : (ℓ : Loc nD τ sig) → Buf (Elt Ideal) ℓ) (X M DX DH : ℕ → ℕ → ℝ) (GP GQ : ℕ → ℝ) (c : Dev nD) : Prop where
  a0 : m ((c : Thread nD τ).loc main_arg0) = n2 X
  a1 : m ((c : Thread nD τ).loc main_arg1) = n2 M
  a2 : m ((c : Thread nD τ).loc main_arg2) = n1 GP
  a3 : m ((c : Thread nD τ).loc main_arg3) = n1 GQ
  a4 : m ((c : Thread nD τ).loc main_arg4) = n2 DX
  a5 : m ((c : Thread nD τ).loc main_arg5) = n2 DH

variable (m : (ℓ : Loc nD τ sig) → Buf (Elt Ideal) ℓ) (ρ : Dev nD → PrngReg) {X M DX DH : ℕ → ℕ → ℝ} {GP GQ : ℕ → ℝ}

theorem v1_0 (c : Dev nD) (h : Inputs m X M DX DH GP GQ c) : V1 m ρ c main_v0 = n2 fun _ q => GP q := by
  funext j
  obtain ⟨p, q, rfl⟩ : ∃ p q, j = ix2 p q := ⟨j 0, j 1, eq_ix2 j⟩
  show StableHlo.after hostOps0 (W0 m ρ c) main_v0 (ix2 p q) = _
  entry_read
  pointwise
  exact congrFun h.a2 (ix1 q)

theorem v1_1 (c : Dev nD) (h : Inputs m X M DX DH GP GQ c) : V1 m ρ c main_v1 = n2 fun _ q => GQ q := by
  funext j
  obtain ⟨p, q, rfl⟩ : ∃ p q, j = ix2 p q := ⟨j 0, j 1, eq_ix2 j⟩
  show StableHlo.after hostOps0 (W0 m ρ c) main_v1 (ix2 p q) = _
  entry_read
  pointwise
  exact congrFun h.a3 (ix1 q)

/-- The rows between the two norms. -/
theorem final4 (c : Dev nD) (h : Inputs m X M DX DH GP GQ c) : (dat0 (V1 m ρ) c).arrAt 4 cfg0.N = n2 (SUMN X M GP) := by
  refine (dat0 (V1 m ρ) c).arrAt_eq_of_covers 4 _ (by decide +kernel) fun t _ y => ?_
  have ht := (idx0 t).2.2.2.2.2.2
  blk_simp
  rw [after0_4, b0_0 (V1 m ρ) X c t ((W1_args m ρ c main_arg0 (by decide)).trans h.a0),
    b0_1 (V1 m ρ) M c t ((W1_args m ρ c main_arg1 (by decide)).trans h.a1), b0_2 (V1 m ρ) GP c t (v1_0 m ρ c h)]
  unfold out0_4
  frame_out
  rw [p0_1]
  obtain ⟨p, q, rfl⟩ : ∃ p q, y = ix2 p q := ⟨y 0, y 1, eq_ix2 y⟩
  have e : ((cfg0.win 4).blk t).view.emb (ix2 p q) = ix2 (⟨t.val * 512 + p.val, by omega⟩ : Fin 4096) q := by
    blk_ext [idx0 t]
  rw [e]
  rfl

/-- The normed rows. -/
theorem final5 (c : Dev nD) (h : Inputs m X M DX DH GP GQ c) : (dat0 (V1 m ρ) c).arrAt 5 cfg0.N = n2 (HN (SUMN X M GP) GQ) := by
  refine (dat0 (V1 m ρ) c).arrAt_eq_of_covers 5 _ (by decide +kernel) fun t _ y => ?_
  have ht := (idx0 t).2.2.2.2.2.2
  blk_simp
  rw [after0_5, b0_0 (V1 m ρ) X c t ((W1_args m ρ c main_arg0 (by decide)).trans h.a0),
    b0_1 (V1 m ρ) M c t ((W1_args m ρ c main_arg1 (by decide)).trans h.a1), b0_2 (V1 m ρ) GP c t (v1_0 m ρ c h),
    b0_3 (V1 m ρ) GQ c t (v1_1 m ρ c h)]
  unfold out0_5
  frame_out
  rw [p0_2]
  obtain ⟨p, q, rfl⟩ : ∃ p q, y = ix2 p q := ⟨y 0, y 1, eq_ix2 y⟩
  have e : ((cfg0.win 5).blk t).view.emb (ix2 p q) = ix2 (⟨t.val * 512 + p.val, by omega⟩ : Fin 4096) q := by
    blk_ext [idx0 t]
  rw [e]
  rfl

/-- What the second call reads. -/
theorem c1_0 (c : Dev nD) (t : Fin cfg1.N) (h : Inputs m X M DX DH GP GQ c) : iblk1 (V2 m ρ) c 0 t = n2 fun r q => DX (t.val * 512 + r) q :=
  b1_0 _ DX c t ((W2_args m ρ c main_arg4 (by decide)).trans h.a4)
theorem c1_1 (c : Dev nD) (t : Fin cfg1.N) (h : Inputs m X M DX DH GP GQ c) : iblk1 (V2 m ρ) c 1 t = n2 fun r q => SUMN X M GP (t.val * 512 + r) q :=
  b1_1 _ (SUMN X M GP) c t ((W2_arr m ρ c 4).trans (final4 m ρ c h))
theorem c1_2 (c : Dev nD) (t : Fin cfg1.N) (h : Inputs m X M DX DH GP GQ c) : iblk1 (V2 m ρ) c 2 t = n2 fun r q => DH (t.val * 512 + r) q :=
  b1_2 _ DH c t ((W2_args m ρ c main_arg5 (by decide)).trans h.a5)
theorem c1_3 (c : Dev nD) (t : Fin cfg1.N) (h : Inputs m X M DX DH GP GQ c) : iblk1 (V2 m ρ) c 3 t = n2 fun r q => M (t.val * 512 + r) q :=
  b1_3 _ M c t ((W2_args m ρ c main_arg1 (by decide)).trans h.a1)
theorem c1_4 (c : Dev nD) (t : Fin cfg1.N) (h : Inputs m X M DX DH GP GQ c) : iblk1 (V2 m ρ) c 4 t = n2 fun _ q => GQ q :=
  b1_4 _ GQ c t ((W2_of m ρ c main_v1 (by decide)).trans (v1_1 m ρ c h))
theorem c1_5 (c : Dev nD) (t : Fin cfg1.N) (h : Inputs m X M DX DH GP GQ c) : iblk1 (V2 m ρ) c 5 t = n2 fun _ q => GP q :=
  b1_5 _ GP c t ((W2_of m ρ c main_v0 (by decide)).trans (v1_0 m ρ c h))

theorem outs6 (c : Dev nD) (t : Fin cfg1.N) (h : Inputs m X M DX DH GP GQ c) :
    (outsAt1 (V2 m ρ) c t.val t.isLt).1 = n2 fun r q => DN DX (SUMN X M GP) DH GQ (t.val * 512 + r) q := by
  by_cases hc : t.val % 8 = 0
  · rw [outsAt1_A (V2 m ρ) c t hc hc]
    frame_out
    rw [c1_0 m ρ c t h, c1_1 m ρ c t h, c1_2 m ρ c t h, c1_4 m ρ c t h, p1_6]
    rfl
  · rw [outsAt1_B (V2 m ρ) c t hc hc]
    frame_out
    rw [c1_0 m ρ c t h, c1_1 m ρ c t h, c1_2 m ρ c t h, c1_4 m ρ c t h, p1_6]
    rfl

theorem outs7 (c : Dev nD) (t : Fin cfg1.N) (h : Inputs m X M DX DH GP GQ c) :
    (outsAt1 (V2 m ρ) c t.val t.isLt).2.1 = n2 fun r q => DM M (DN DX (SUMN X M GP) DH GQ) GP (t.val * 512 + r) q := by
  by_cases hc : t.val % 8 = 0
  · rw [outsAt1_A (V2 m ρ) c t hc hc]
    frame_out
    rw [c1_0 m ρ c t h, c1_1 m ρ c t h, c1_2 m ρ c t h, c1_3 m ρ c t h, c1_4 m ρ c t h, c1_5 m ρ c t h, p1_6, p1_11]
    rfl
  · rw [outsAt1_B (V2 m ρ) c t hc hc]
    frame_out
    rw [c1_0 m ρ c t h, c1_1 m ρ c t h, c1_2 m ρ c t h, c1_3 m ρ c t h, c1_4 m ρ c t h, c1_5 m ρ c t h, p1_6, p1_11]
    rfl

/-- The gradient of the block's rows, and of the rows of the norm before. -/
theorem final6 (c : Dev nD) (h : Inputs m X M DX DH GP GQ c) : (dat1 (V2 m ρ) c).arrAt 6 cfg1.N = n2 (DN DX (SUMN X M GP) DH GQ) := by
  refine (dat1 (V2 m ρ) c).arrAt_eq_of_covers 6 _ (by decide +kernel) fun t _ y => ?_
  have ht := (idx1 t).2.2.2.2.2.2.2.2.2.2
  blk_simp
  rw [after1_6, outs6 m ρ c t h]
  obtain ⟨p, q, rfl⟩ : ∃ p q, y = ix2 p q := ⟨y 0, y 1, eq_ix2 y⟩
  have e : ((cfg1.win 6).blk t).view.emb (ix2 p q) = ix2 (⟨t.val * 512 + p.val, by omega⟩ : Fin 4096) q := by
    blk_ext [idx1 t]
  rw [e]
  rfl

theorem final7 (c : Dev nD) (h : Inputs m X M DX DH GP GQ c) :
    (dat1 (V2 m ρ) c).arrAt 7 cfg1.N = n2 (DM M (DN DX (SUMN X M GP) DH GQ) GP) := by
  refine (dat1 (V2 m ρ) c).arrAt_eq_of_covers 7 _ (by decide +kernel) fun t _ y => ?_
  have ht := (idx1 t).2.2.2.2.2.2.2.2.2.2
  blk_simp
  rw [after1_7, outs7 m ρ c t h]
  obtain ⟨p, q, rfl⟩ : ∃ p q, y = ix2 p q := ⟨y 0, y 1, eq_ix2 y⟩
  have e : ((cfg1.win 7).blk t).view.emb (ix2 p q) = ix2 (⟨t.val * 512 + p.val, by omega⟩ : Fin 4096) q := by
    blk_ext [idx1 t]
  rw [e]
  rfl

/-- The gradients of the two gains, summed over the tiles. -/
theorem final8 (c : Dev nD) (h : Inputs m X M DX DH GP GQ c) :
    (dat1 (V2 m ρ) c).arrAt 8 cfg1.N = n2 fun _ q => DG (SUMN X M GP) DH q := by
  refine (dat1 (V2 m ρ) c).arrAt_eq_of_after_last 8 t1_7 (by decide +kernel) _ fun j => ?_
  blk_simp
  rw [after1_8]
  refine (Pipeline.eq_sum_fin_of_reset_step_apply_last (fun n h => (outsAt1 (V2 m ρ) c n h).2.2.1) 8 (fun _ => (0 : EReal))
    (fun t j => ((DGT (SUMN X M GP) DH t.val (j 1).val : ℝ) : EReal))
    (fun t h0 j => ?_) (fun t h0 j => ?_) (by decide) t1_7 rfl j).trans ?_
  · rw [outsAt1_A (V2 m ρ) c t h0 h0]
    frame_out
    rw [c1_1 m ρ c t h, c1_2 m ρ c t h, p1_13]
    exact congrArg (· + _) lit_zero
  · rw [outsAt1_B (V2 m ρ) c t h0 h0]
    frame_out
    rw [c1_1 m ρ c t h, c1_2 m ρ c t h, p1_13]
    rfl
  · rw [zero_add, sum_coe]
    exact congrArg (fun x : ℝ => (x : EReal)) (sum_DGT N_1 (SUMN X M GP) DH (j 1).val)

theorem final9 (c : Dev nD) (h : Inputs m X M DX DH GP GQ c) :
    (dat1 (V2 m ρ) c).arrAt 9 cfg1.N = n2 fun _ q => DG M (DN DX (SUMN X M GP) DH GQ) q := by
  refine (dat1 (V2 m ρ) c).arrAt_eq_of_after_last 9 t1_7 (by decide +kernel) _ fun j => ?_
  blk_simp
  rw [after1_9]
  refine (Pipeline.eq_sum_fin_of_reset_step_apply_last (fun n h => (outsAt1 (V2 m ρ) c n h).2.2.2) 8 (fun _ => (0 : EReal))
    (fun t j => ((DGT M (DN DX (SUMN X M GP) DH GQ) t.val (j 1).val : ℝ) : EReal))
    (fun t h0 j => ?_) (fun t h0 j => ?_) (by decide) t1_7 rfl j).trans ?_
  · rw [outsAt1_A (V2 m ρ) c t h0 h0]
    frame_out
    rw [c1_0 m ρ c t h, c1_1 m ρ c t h, c1_2 m ρ c t h, c1_3 m ρ c t h, c1_4 m ρ c t h, p1_6, p1_15]
    exact congrArg (· + _) lit_zero
  · rw [outsAt1_B (V2 m ρ) c t h0 h0]
    frame_out
    rw [c1_0 m ρ c t h, c1_1 m ρ c t h, c1_2 m ρ c t h, c1_3 m ρ c t h, c1_4 m ρ c t h, p1_6, p1_15]
    rfl
  · rw [zero_add, sum_coe]
    exact congrArg (fun x : ℝ => (x : EReal)) (sum_DGT N_1 M (DN DX (SUMN X M GP) DH GQ) (j 1).val)

end Cert.BelowIdeal.Rows

end
-- ==== Proof.Norms.BelowRef.lean ====
/-
  The reference of the two norms around a block's input, the second gradient at bf16, as a real function of its rows.
-/
module

public import proofs.«01_k».proof.Proof.Norms.Host
public import proofs.«01_k».proof.Proof.Gen.BelowRefIdeal.Read
public import proofs.«01_k».proof.Proof.Norms.MidRef

@[expose] public section

set_option maxRecDepth 16384

noncomputable section

namespace Cert.BelowRefIdeal.Rows

open Idealize.ShloMosaic Cert.Reals Cert.Calc Cert.Norms Cert.BelowRefIdeal Cert.BelowRefIdeal.Read
open scoped BigOperators

variable (X M DX DH : ℕ → ℕ → ℝ) (GP GQ : ℕ → ℝ)

/- The stages up to the gradient of the rows of the norm before are those of the reference without the cast. -/

/-- The rows between the two norms. -/
theorem v16 : val_main_v16 (F := Ideal) (n2 X) (n2 M) (n1 GP) = n2 (SUMN X M GP) :=
  Cert.MidRefIdeal.Rows.v16 X M GP

/-- The normed rows. -/
theorem v75 : val_main_v75 (F := Ideal) (n2 X) (n2 M) (n1 GP) (n1 GQ) = n2 (HN (SUMN X M GP) GQ) :=
  Cert.MidRefIdeal.Rows.v75 X M GP GQ

/-- The gradient of the gain of the norm after. -/
theorem v77 : val_main_v77 (F := Ideal) (n2 X) (n2 M) (n1 GP) (n2 DH) = n2 fun _ c => DG (SUMN X M GP) DH c :=
  Cert.MidRefIdeal.Rows.v76 X M DH GP

/-- The gradient of the block's rows. -/
theorem v54 : val_main_v54 (F := Ideal) (n2 X) (n2 M) (n1 GP) (n1 GQ) (n2 DX) (n2 DH) = n2 (DN DX (SUMN X M GP) DH GQ) :=
  Cert.MidRefIdeal.Rows.v54 X M DX DH GP GQ

/-- The gradient of the gain of the norm before. -/
theorem v78 : val_main_v78 (F := Ideal) (n2 X) (n2 M) (n1 GP) (n1 GQ) (n2 DX) (n2 DH)
    = n2 fun _ c => DG M (DN DX (SUMN X M GP) DH GQ) c :=
  Cert.MidRefIdeal.Rows.v77 X M DX DH GP GQ

/-- The gradient of the rows of the norm before, cast to bf16: on real values the cast changes nothing. -/
theorem v76 : val_main_v76 (F := Ideal) (n2 X) (n2 M) (n1 GP) (n1 GQ) (n2 DX) (n2 DH)
    = n2 (DM M (DN DX (SUMN X M GP) DH GQ) GP) := by
  unfold val_main_v76
  refine (congrArg (fun v : FVec Ideal S4096x1024 .f32 => truncf (F := Ideal) .bf16 v Gen.bitsLt_bf16_f32)
    (Cert.MidRefIdeal.Rows.v74 X M DX DH GP GQ)).trans rfl

end Cert.BelowRefIdeal.Rows

end
-- ==== Proof.Norms.BelowClaims.lean ====
/-
  The claims about the two norms around a block, the second gradient at bf16: frames, and equality with the reference at the ideal instance on finite inputs.
-/
module

public import proofs.«01_k».proof.Defs
public import proofs.«01_k».proof.Proof.Gen.Below.Frame
public import proofs.«01_k».proof.Proof.Gen.Pre_sandwich_finite
public import proofs.«01_k».proof.Proof.Norms.MidClaims
public import proofs.«01_k».proof.Proof.Norms.BelowBlock
public import proofs.«01_k».proof.Proof.Norms.BelowRef
public import proofs.«01_k».proof.Proof.Gen.BelowRefIdeal.Run
public import Idealize.ShloMosaic.Lib.Quiescent

@[expose] public section

set_option maxRecDepth 16384

noncomputable section

namespace Cert.Proof.BelowClaims

open Idealize.ShloMosaic Idealize.ShloMosaic.TcCoe Idealize.SL.Sem Cert.Reals Cert.Calc Cert.Norms Cert.BelowIdeal.Rows

/-- The kernel and its idealization run without a fault, keep their arguments, and leave no semaphore raised. -/
theorem frame : Cert.quiescent_Below := fun m ρ _ => Cert.Below.Gen.frame m ρ
theorem frame_ideal : Cert.quiescent_BelowIdeal := fun m ρ _ => Cert.BelowIdeal.Gen.frame m ρ
theorem frame_ideal_pre : Cert.quiescent_BelowIdeal_pre_sandwich_finite := fun m ρ _ => Cert.BelowIdeal.Gen.frame m ρ

/-- So does the reference, at any state. -/
theorem frame_ref : Cert.quiescent_BelowRefIdeal := fun m ρ _ =>
  (θ_run Cert.BelowRefIdeal.defs _ _).mono (fun r h => ⟨fun c => (h c).2.2.2.2.2.2, sem_eq_zero_of_no_sems (by decide) r.2⟩)
    (Cert.BelowRefIdeal.Value.run (F := Ideal) m ρ)
theorem frame_ref_pre : Cert.quiescent_BelowRefIdeal_pre_sandwich_finite := fun m ρ _ => frame_ref m ρ trivial

theorem preserves : Cert.preserves_Below_BelowIdeal := trivial

/-- On finite inputs the kernel's results are the reference's. -/
theorem algebraic : Cert.algebraic_BelowIdeal_BelowRefIdeal_pre_sandwich_finite := by
  intro m ρ m' ρ' hpre hagree
  have hin (c : Dev Cert.BelowIdeal.nD) : ∃ X M DX DH GP GQ, Inputs m X M DX DH GP GQ c := by
    obtain ⟨h0, h1, h2, h3, h4, h5⟩ := Cert.Proof.MidClaims.finite _ _ _ _ _ _ (hpre c)
    exact ⟨_, _, _, _, _, _, ⟨eq_n2 _ h0, eq_n2 _ h1, eq_n1 _ h2, eq_n1 _ h3, eq_n2 _ h4, eq_n2 _ h5⟩⟩
  choose X M DX DH GP GQ hi using hin
  refine ⟨fun c => n2 (SUMN (X c) (M c) (GP c)), fun c => n2 (HN (SUMN (X c) (M c) (GP c)) (GQ c)), fun c => n2 (DN (DX c) (SUMN (X c) (M c) (GP c)) (DH c) (GQ c)), fun c => n2 (DM (M c) (DN (DX c) (SUMN (X c) (M c) (GP c)) (DH c) (GQ c)) (GP c)), fun c => n2 fun _ q => DG (SUMN (X c) (M c) (GP c)) (DH c) q, fun c => n2 fun _ q => DG (M c) (DN (DX c) (SUMN (X c) (M c) (GP c)) (DH c) (GQ c)) q, ?_, ?_⟩
  · refine (θ_run Cert.BelowIdeal.defs _ _).mono (fun r h c => ?_) (Cert.BelowIdeal.Rows.run (F := Ideal) m ρ)
    have read (b : Ref Cert.BelowIdeal.sig .tc) (hb) := h.1 c _ (Cert.BelowIdeal.Gen.mem_uc b hb)
    exact ⟨(read Cert.BelowIdeal.main_v2_0 (by decide)).trans ((Cert.BelowIdeal.Gen.W3_of m ρ c _ (by decide)).trans ((Cert.BelowIdeal.Gen.W2_arr m ρ c 4).trans (final4 m ρ c (hi c)))),
      (read Cert.BelowIdeal.main_v2_1 (by decide)).trans ((Cert.BelowIdeal.Gen.W3_of m ρ c _ (by decide)).trans ((Cert.BelowIdeal.Gen.W2_arr m ρ c 5).trans (final5 m ρ c (hi c)))),
      (read Cert.BelowIdeal.main_v3_0 (by decide)).trans ((Cert.BelowIdeal.Gen.W3_arr m ρ c 6).trans (final6 m ρ c (hi c))),
      (read Cert.BelowIdeal.main_v3_1 (by decide)).trans ((Cert.BelowIdeal.Gen.W3_arr m ρ c 7).trans (final7 m ρ c (hi c))),
      (read Cert.BelowIdeal.main_v3_2 (by decide)).trans ((Cert.BelowIdeal.Gen.W3_arr m ρ c 8).trans (final8 m ρ c (hi c))),
      (read Cert.BelowIdeal.main_v3_3 (by decide)).trans ((Cert.BelowIdeal.Gen.W3_arr m ρ c 9).trans (final9 m ρ c (hi c))),
      (read Cert.BelowIdeal.main_arg0 (by decide)).trans (Cert.BelowIdeal.Gen.W3_main_arg0 m ρ c),
      (read Cert.BelowIdeal.main_arg1 (by decide)).trans (Cert.BelowIdeal.Gen.W3_main_arg1 m ρ c),
      (read Cert.BelowIdeal.main_arg2 (by decide)).trans (Cert.BelowIdeal.Gen.W3_main_arg2 m ρ c),
      (read Cert.BelowIdeal.main_arg3 (by decide)).trans (Cert.BelowIdeal.Gen.W3_main_arg3 m ρ c),
      (read Cert.BelowIdeal.main_arg4 (by decide)).trans (Cert.BelowIdeal.Gen.W3_main_arg4 m ρ c),
      (read Cert.BelowIdeal.main_arg5 (by decide)).trans (Cert.BelowIdeal.Gen.W3_main_arg5 m ρ c)⟩
  · refine (θ_run Cert.BelowRefIdeal.defs _ _).mono (fun r h c => ?_) (Cert.BelowRefIdeal.Value.run (F := Ideal) m' ρ')
    obtain ⟨r0, r1, r2, r3, r4, r5, rest⟩ := h c
    have e0 := (hagree c).1.trans (hi c).a0
    have e1 := (hagree c).2.1.trans (hi c).a1
    have e2 := (hagree c).2.2.1.trans (hi c).a2
    have e3 := (hagree c).2.2.2.1.trans (hi c).a3
    have e4 := (hagree c).2.2.2.2.1.trans (hi c).a4
    have e5 := (hagree c).2.2.2.2.2.trans (hi c).a5
    refine ⟨r0.trans ((Cert.BelowRefIdeal.Read.val_main_v16_eq _ _ _).trans ?_),
      r1.trans ((Cert.BelowRefIdeal.Read.val_main_v75_eq _ _ _ _).trans ?_),
      r2.trans ((Cert.BelowRefIdeal.Read.val_main_v53_eq _ _).trans ?_),
      r3.trans ((Cert.BelowRefIdeal.Read.val_main_v76_eq _ _).trans ?_),
      r4.trans ((Cert.BelowRefIdeal.Read.val_main_v77_eq _ _ _ _).trans ?_),
      r5.trans ((Cert.BelowRefIdeal.Read.val_main_v78_eq _ _).trans ?_), rest⟩
    · rw [e0, e1, e2]
      exact Cert.BelowRefIdeal.Rows.v16 _ _ _
    · rw [e0, e1, e2, e3]
      exact Cert.BelowRefIdeal.Rows.v75 _ _ _ _
    · rw [e0, e1, e2, e3, e4, e5]
      exact Cert.MidRefIdeal.Rows.v53 _ _ _ _ _ _
    · rw [e0, e1, e2, e3, e4, e5]
      exact Cert.BelowRefIdeal.Rows.v76 _ _ _ _ _ _
    · rw [e0, e1, e2, e5]
      exact Cert.BelowRefIdeal.Rows.v77 _ _ _ _
    · rw [e0, e1, e2, e3, e4, e5]
      exact Cert.BelowRefIdeal.Rows.v78 _ _ _ _ _ _

end Cert.Proof.BelowClaims

end
-- ==== Proof.Norms.ForkRun.lean ====
/-
  A run of the two calls of the two norms around the attention: what memory holds after it.
-/
module

public import proofs.«01_k».proof.Proof.Gen.ForkIdeal.Frame

@[expose] public section

set_option maxRecDepth 16384

noncomputable section

namespace Cert.ForkIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ForkIdeal Cert.ForkIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run every array of the program holds what the second call leaves in it, and every counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.ForkIdeal.Rows

end
-- ==== Proof.Norms.ForkBlock.lean ====
/-
  The two calls of the norms where the rows fork on real values: what each leaves in its results.
-/
module

public import proofs.«01_k».proof.Proof.Norms.Tile
public import proofs.«01_k».proof.Proof.Norms.ForkRun
public import Idealize.ShloMosaic.Lib.Pipeline.ValueKit
public import Idealize.ShloMosaic.Lib.Pipeline.ReadBack

@[expose] public section

set_option maxRecDepth 16384

noncomputable section

namespace Cert.ForkIdeal.Rows

open Cert.ForkIdeal Cert.ForkIdeal.Gen Cert.Reals Cert.Calc Cert.Norms Idealize.ShloMosaic Idealize.ShloMosaic.TcCoe Idealize.SL.Sem
open Idealize.ShloMosaic.Pipeline (Dat)
open scoped BigOperators

/-! ## A tile of either call -/

section Tile

variable (X M DX DH DK D : ℕ → ℕ → ℝ) (GP GQ GK : ℕ → ℝ)

theorem p0_4 : k0_pay4 (F := Ideal) (n2 X) (n2 M) (n2 fun _ c => GP c) = n2 (SUMN X M GP) := by
  unfold k0_pay4
  dsimp only
  rw [gain, mul, rowsum, recip, column, mul, row, mul, add]
  rfl

theorem p0_5 : k0_pay1 (F := Ideal) (k0_pay5 (n2 X) (n2 M) (n2 fun _ c => GP c) (n2 fun _ c => GQ c)) = n2 (HN (SUMN X M GP) GQ) := by
  unfold k0_pay1 k0_pay5
  dsimp only
  rw [p0_4, gain, mul, rowsum, recip, column, mul, row, mul, narrow]
  rfl

theorem p0_2 : k0_pay2 (F := Ideal) (k0_pay3 (n2 fun _ c => GK c)) (n2 (SUMN X M GP)) (k0_pay6 (n2 X) (n2 M) (n2 fun _ c => GP c))
    = n2 (HN (SUMN X M GP) GK) := by
  unfold k0_pay2 k0_pay3 k0_pay6
  dsimp only
  rw [p0_4, gain, mul, rowsum, recip, column, mul, row, mul, narrow]
  rfl

theorem p1_4 : k1_pay4 (F := Ideal) (n2 X) = n2 fun r _ => NR X r := by
  unfold k1_pay4 k1_pay1
  dsimp only
  rw [whole, mul, rowsum, recip]

theorem p1_5 : k1_pay5 (F := Ideal) (n2 X) = n2 (XH X) := by
  unfold k1_pay5 k1_pay1
  dsimp only
  rw [p1_4, whole, column, mul]
  rfl

theorem p1_6 : k1_pay6 (F := Ideal) (n2 X) (n2 DH) (n2 fun _ c => GQ c) = n2 (NG X fun r c => DH r c * GQ c) := by
  unfold k1_pay6
  dsimp only
  rw [p1_5, p1_4, gain, row, mul, mul, rowsum, mean, column, column, mul, sub, mul]
  rfl

theorem p1_7 : k1_pay7 (F := Ideal) (n2 X) (n2 DH) = n2 fun _ c => ∑ p : Fin 512, DH p.val c * XH X p.val c := by
  unfold k1_pay7
  dsimp only
  rw [p1_5, mul, colsum]

theorem p1_8 : k1_pay8 (F := Ideal) (k1_pay1 (n2 X)) = n2 fun r _ => NR X r := by
  unfold k1_pay8 k1_pay1
  dsimp only
  rw [whole, mul, rowsum, recip]

theorem p1_9 : k1_pay9 (F := Ideal) (k1_pay1 (n2 X)) = n2 (XH X) := by
  unfold k1_pay9
  dsimp only
  rw [p1_8]
  unfold k1_pay1
  rw [whole, column, mul]
  rfl

theorem p1_10 : k1_pay10 (F := Ideal) (k1_pay1 (n2 X)) (n2 DH) = n2 fun _ c => ∑ p : Fin 512, DH p.val c * XH X p.val c := by
  unfold k1_pay10
  dsimp only
  rw [p1_9, mul, colsum]

/-- Both norms' gradients are added to the cotangent of the sum; the reference adds them in the other order. -/
theorem p1_11 : k1_pay11 (F := Ideal) (n2 DX) (k1_pay1 (n2 X)) (n2 DK) (k1_pay2 (n2 fun _ c => GK c)) (k1_pay6 (n2 X) (n2 DH) (n2 fun _ c => GQ c))
    = n2 (DN (DN DX X DK GK) X DH GQ) := by
  unfold k1_pay11 k1_pay2
  dsimp only
  rw [p1_6, p1_9, p1_8, gain, row, add, mul, mul, rowsum, mean, column, column, mul, sub, mul, add]
  refine n2_congr fun r _ c _ => ?_
  exact add_right_comm (DX r c) _ _

theorem p1_12 : k1_pay12 (F := Ideal) (n2 M) = n2 fun r _ => NR M r := by
  unfold k1_pay12
  dsimp only
  rw [mul, rowsum, recip]

theorem p1_13 : k1_pay13 (F := Ideal) (n2 M) = n2 (XH M) := by
  unfold k1_pay13
  dsimp only
  rw [p1_12, column, mul]
  rfl

theorem p1_14 : k1_pay15 (F := Ideal) (k1_pay14 (n2 DX) (k1_pay1 (n2 X)) (n2 DK) (n2 M) (k1_pay2 (n2 fun _ c => GK c)) (k1_pay3 (n2 fun _ c => GP c))
      (k1_pay6 (n2 X) (n2 DH) (n2 fun _ c => GQ c)))
    = n2 (DM M (DN (DN DX X DK GK) X DH GQ) GP) := by
  unfold k1_pay15 k1_pay14 k1_pay3
  dsimp only
  rw [p1_11, p1_13, p1_12, gain, row, mul, mul, rowsum, mean, column, column, mul, sub, mul, narrow]
  rfl

/-- The accumulators: what they held plus the tile's sum. -/
theorem p1_17 (a : FVec Ideal S1x1024 .f32) :
    k1_pay17 (F := Ideal) (k1_pay7 (n2 X) (n2 DH)) a = addf (F := Ideal) (φ := .f32) a (n2 fun _ c => ∑ p : Fin 512, DH p.val c * XH X p.val c) := by
  unfold k1_pay17
  dsimp only
  rw [p1_7, gain]

theorem p1_19 (a : FVec Ideal S1x1024 .f32) :
    k1_pay19 (F := Ideal) (k1_pay10 (k1_pay1 (n2 X)) (n2 DH)) a = addf (F := Ideal) (φ := .f32) a (n2 fun _ c => ∑ p : Fin 512, DH p.val c * XH X p.val c) := by
  unfold k1_pay19
  dsimp only
  rw [p1_10, gain]

theorem p1_21 (a : FVec Ideal S1x1024 .f32) : k1_pay21 (F := Ideal) (n2 D) (k1_pay13 (n2 M)) a
    = addf (F := Ideal) (φ := .f32) a (n2 fun _ c => ∑ p : Fin 512, D p.val c * XH M p.val c) := by
  unfold k1_pay21
  dsimp only
  rw [p1_13, mul, colsum, gain]

end Tile

/-! ## The windows -/

variable (V : (c : Dev nD) → (b : Ref sig .tc) → Buf (Elt Ideal) ((c : Thread nD τ).loc b)) (f : ℕ → ℕ → ℝ) (G : ℕ → ℝ)

theorem idx0 : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ t.val < 8 :=
  (by decide +kernel : ∀ t : Fin grid0.N, _)

theorem idx1 : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![0, 0] ∧ win1_6.index t = ![0, 0] ∧ win1_7.index t = ![0, 0]
    ∧ win1_8.index t = ![t.val, 0] ∧ win1_9.index t = ![t.val, 0] ∧ win1_10.index t = ![0, 0] ∧ win1_11.index t = ![0, 0]
    ∧ win1_12.index t = ![0, 0] ∧ t.val < 8 :=
  (by decide +kernel : ∀ t : Fin grid1.N, _)

theorem b0_0 (c : Dev nD) (t : Fin cfg0.N) (h : V c main_arg0 = n2 f) :
    iblk0 V c 0 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_1 (c : Dev nD) (t : Fin cfg0.N) (h : V c main_arg1 = n2 f) :
    iblk0 V c 1 t = n2 fun r q => f (t.val * 512 + r) q := by
  funext y
  blk_simp [iblk0]
  rw [h]
  refine congrArg (fun r : ℝ => (r : EReal)) (congrArg₂ f ?_ ?_)
  · blk_simp [idx0 t]
  · blk_simp [idx0 t]

theorem b0_2 (c : Dev nD) (t : Fin cfg0.N) (h : V c main_v0 = n2 fun _ q => G q) :
    iblk0 V c 2 t = n2 fun _ q => G q := by
  funext y
  blk_simp [iblk0]
  rw [h]
  refine congrArg (fun r : ℝ => (r : EReal)) (congrArg G ?_)
  blk_simp [idx0 t]

theorem b0_3 (c : Dev nD) (t : Fin cfg0.N) (h : V c main_v1 = n2 fun _ q => G q) :
    iblk0 V c 3 t = n2 fun _ q => G q := by
  funext y
  blk_simp [iblk0]
  rw [h]
  refine congrArg (fun r : ℝ => (r : EReal)) (congrArg G ?_)
  blk_simp [idx0 t]

theorem b0_4 (c : Dev nD) (t : Fin cfg0.N) (h : V c main_v2 = n2 fun _ q => G q) :
    iblk0 V c 4 t = n2 fun _ q => G q := by
  funext y
  blk_simp [iblk0]
  rw [h]
  refine congrArg (fun r : ℝ => (r : EReal)) (congrArg G ?_)
  blk_simp [idx0 t]

theorem b1_0 (c : Dev nD) (t : Fin cfg1.N) (h : V c main_arg5 = n2 f) :
    iblk1 V c 0 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_1 (c : Dev nD) (t : Fin cfg1.N) (h : V c main_v3_0 = n2 f) :
    iblk1 V c 1 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_2 (c : Dev nD) (t : Fin cfg1.N) (h : V c main_arg6 = n2 f) :
    iblk1 V c 2 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_3 (c : Dev nD) (t : Fin cfg1.N) (h : V c main_arg7 = n2 f) :
    iblk1 V c 3 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_4 (c : Dev nD) (t : Fin cfg1.N) (h : V c main_arg1 = n2 f) :
    iblk1 V c 4 t = n2 fun r q => f (t.val * 512 + r) q := by
  funext y
  blk_simp [iblk1]
  rw [h]
  refine congrArg (fun r : ℝ => (r : EReal)) (congrArg₂ f ?_ ?_)
  · blk_simp [idx1 t]
  · blk_simp [idx1 t]

theorem b1_5 (c : Dev nD) (t : Fin cfg1.N) (h : V c main_v1 = n2 fun _ q => G q) :
    iblk1 V c 5 t = n2 fun _ q => G q := by
  funext y
  blk_simp [iblk1]
  rw [h]
  refine congrArg (fun r : ℝ => (r : EReal)) (congrArg G ?_)
  blk_simp [idx1 t]

theorem b1_6 (c : Dev nD) (t : Fin cfg1.N) (h : V c main_v2 = n2 fun _ q => G q) :
    iblk1 V c 6 t = n2 fun _ q => G q := by
  funext y
  blk_simp [iblk1]
  rw [h]
  refine congrArg (fun r : ℝ => (r : EReal)) (congrArg G ?_)
  blk_simp [idx1 t]

theorem b1_7 (c : Dev nD) (t : Fin cfg1.N) (h : V c main_v0 = n2 fun _ q => G q) :
    iblk1 V c 7 t = n2 fun _ q => G q := by
  funext y
  blk_simp [iblk1]
  rw [h]
  refine congrArg (fun r : ℝ => (r : EReal)) (congrArg G ?_)
  blk_simp [idx1 t]

/-! ## What the calls leave -/

/-- The arguments. -/
structure Inputs (m : (ℓ : Loc nD τ sig) → Buf (Elt Ideal) ℓ) (X M DX DH DK : ℕ → ℕ → ℝ) (GP GQ GK : ℕ → ℝ) (c : Dev nD) : Prop where
  a0 : m ((c : Thread nD τ).loc main_arg0) = n2 X
  a1 : m ((c : Thread nD τ).loc main_arg1) = n2 M
  a2 : m ((c : Thread nD τ).loc main_arg2) = n1 GP
  a3 : m ((c : Thread nD τ).loc main_arg3) = n1 GQ
  a4 : m ((c : Thread nD τ).loc main_arg4) = n1 GK
  a5 : m ((c : Thread nD τ).loc main_arg5) = n2 DX
  a6 : m ((c : Thread nD τ).loc main_arg6) = n2 DH
  a7 : m ((c : Thread nD τ).loc main_arg7) = n2 DK

variable (m : (ℓ : Loc nD τ sig) → Buf (Elt Ideal) ℓ) (ρ : Dev nD → PrngReg) {X M DX DH DK : ℕ → ℕ → ℝ} {GP GQ GK : ℕ → ℝ}

theorem v1_0 (c : Dev nD) (h : Inputs m X M DX DH DK GP GQ GK c) : V1 m ρ c main_v0 = n2 fun _ q => GP q := by
  funext j
  obtain ⟨p, q, rfl⟩ : ∃ p q, j = ix2 p q := ⟨j 0, j 1, eq_ix2 j⟩
  show StableHlo.after hostOps0 (W0 m ρ c) main_v0 (ix2 p q) = _
  entry_read
  pointwise
  exact congrFun h.a2 (ix1 q)

theorem v1_1 (c : Dev nD) (h : Inputs m X M DX DH DK GP GQ GK c) : V1 m ρ c main_v1 = n2 fun _ q => GQ q := by
  funext j
  obtain ⟨p, q, rfl⟩ : ∃ p q, j = ix2 p q := ⟨j 0, j 1, eq_ix2 j⟩
  show StableHlo.after hostOps0 (W0 m ρ c) main_v1 (ix2 p q) = _
  entry_read
  pointwise
  exact congrFun h.a3 (ix1 q)

theorem v1_2 (c : Dev nD) (h : Inputs m X M DX DH DK GP GQ GK c) : V1 m ρ c main_v2 = n2 fun _ q => GK q := by
  funext j
  obtain ⟨p, q, rfl⟩ : ∃ p q, j = ix2 p q := ⟨j 0, j 1, eq_ix2 j⟩
  show StableHlo.after hostOps0 (W0 m ρ c) main_v2 (ix2 p q) = _
  entry_read
  pointwise
  exact congrFun h.a4 (ix1 q)

/-- The rows between the norms. -/
theorem final5 (c : Dev nD) (h : Inputs m X M DX DH DK GP GQ GK c) : (dat0 (V1 m ρ) c).arrAt 5 cfg0.N = n2 (SUMN X M GP) := by
  refine (dat0 (V1 m ρ) c).arrAt_eq_of_covers 5 _ (by decide +kernel) fun t _ y => ?_
  have ht := (idx0 t).2.2.2.2.2.2.2.2
  blk_simp
  rw [after0_5, b0_0 (V1 m ρ) X c t ((W1_args m ρ c main_arg0 (by decide)).trans h.a0),
    b0_1 (V1 m ρ) M c t ((W1_args m ρ c main_arg1 (by decide)).trans h.a1),
    b0_2 (V1 m ρ) GP c t (v1_0 m ρ c h)]
  unfold out0_5 k0_pay7
  frame_out
  rw [p0_4]
  obtain ⟨p, q, rfl⟩ : ∃ p q, y = ix2 p q := ⟨y 0, y 1, eq_ix2 y⟩
  have e : ((cfg0.win 5).blk t).view.emb (ix2 p q) = ix2 (⟨t.val * 512 + p.val, by omega⟩ : Fin 4096) q := by
    blk_ext [idx0 t]
  rw [e]
  rfl

/-- The rows normed with either gain. -/
theorem final6 (c : Dev nD) (h : Inputs m X M DX DH DK GP GQ GK c) : (dat0 (V1 m ρ) c).arrAt 6 cfg0.N = n2 (HN (SUMN X M GP) GQ) := by
  refine (dat0 (V1 m ρ) c).arrAt_eq_of_covers 6 _ (by decide +kernel) fun t _ y => ?_
  have ht := (idx0 t).2.2.2.2.2.2.2.2
  blk_simp
  rw [after0_6, b0_0 (V1 m ρ) X c t ((W1_args m ρ c main_arg0 (by decide)).trans h.a0),
    b0_1 (V1 m ρ) M c t ((W1_args m ρ c main_arg1 (by decide)).trans h.a1),
    b0_2 (V1 m ρ) GP c t (v1_0 m ρ c h),
    b0_3 (V1 m ρ) GQ c t (v1_1 m ρ c h)]
  unfold out0_6
  frame_out
  rw [p0_5]
  obtain ⟨p, q, rfl⟩ : ∃ p q, y = ix2 p q := ⟨y 0, y 1, eq_ix2 y⟩
  have e : ((cfg0.win 6).blk t).view.emb (ix2 p q) = ix2 (⟨t.val * 512 + p.val, by omega⟩ : Fin 4096) q := by
    blk_ext [idx0 t]
  rw [e]
  rfl

theorem final7 (c : Dev nD) (h : Inputs m X M DX DH DK GP GQ GK c) : (dat0 (V1 m ρ) c).arrAt 7 cfg0.N = n2 (HN (SUMN X M GP) GK) := by
  refine (dat0 (V1 m ρ) c).arrAt_eq_of_covers 7 _ (by decide +kernel) fun t _ y => ?_
  have ht := (idx0 t).2.2.2.2.2.2.2.2
  blk_simp
  rw [after0_7, b0_0 (V1 m ρ) X c t ((W1_args m ρ c main_arg0 (by decide)).trans h.a0),
    b0_1 (V1 m ρ) M c t ((W1_args m ρ c main_arg1 (by decide)).trans h.a1),
    b0_2 (V1 m ρ) GP c t (v1_0 m ρ c h),
    b0_4 (V1 m ρ) GK c t (v1_2 m ρ c h)]
  unfold out0_7 k0_pay7
  frame_out
  rw [p0_4, p0_2]
  obtain ⟨p, q, rfl⟩ : ∃ p q, y = ix2 p q := ⟨y 0, y 1, eq_ix2 y⟩
  have e : ((cfg0.win 7).blk t).view.emb (ix2 p q) = ix2 (⟨t.val * 512 + p.val, by omega⟩ : Fin 4096) q := by
    blk_ext [idx0 t]
  rw [e]
  rfl

/-- What the second call reads. -/
theorem c1_0 (c : Dev nD) (t : Fin cfg1.N) (h : Inputs m X M DX DH DK GP GQ GK c) : iblk1 (V2 m ρ) c 0 t = n2 fun r q => DX (t.val * 512 + r) q :=
  b1_0 _ (DX) c t ((W2_args m ρ c main_arg5 (by decide)).trans h.a5)
theorem c1_1 (c : Dev nD) (t : Fin cfg1.N) (h : Inputs m X M DX DH DK GP GQ GK c) : iblk1 (V2 m ρ) c 1 t = n2 fun r q => (SUMN X M GP) (t.val * 512 + r) q :=
  b1_1 _ ((SUMN X M GP)) c t ((W2_arr m ρ c 5).trans (final5 m ρ c h))
theorem c1_2 (c : Dev nD) (t : Fin cfg1.N) (h : Inputs m X M DX DH DK GP GQ GK c) : iblk1 (V2 m ρ) c 2 t = n2 fun r q => DH (t.val * 512 + r) q :=
  b1_2 _ (DH) c t ((W2_args m ρ c main_arg6 (by decide)).trans h.a6)
theorem c1_3 (c : Dev nD) (t : Fin cfg1.N) (h : Inputs m X M DX DH DK GP GQ GK c) : iblk1 (V2 m ρ) c 3 t = n2 fun r q => DK (t.val * 512 + r) q :=
  b1_3 _ (DK) c t ((W2_args m ρ c main_arg7 (by decide)).trans h.a7)
theorem c1_4 (c : Dev nD) (t : Fin cfg1.N) (h : Inputs m X M DX DH DK GP GQ GK c) : iblk1 (V2 m ρ) c 4 t = n2 fun r q => M (t.val * 512 + r) q :=
  b1_4 _ (M) c t ((W2_args m ρ c main_arg1 (by decide)).trans h.a1)
theorem c1_5 (c : Dev nD) (t : Fin cfg1.N) (h : Inputs m X M DX DH DK GP GQ GK c) : iblk1 (V2 m ρ) c 5 t = n2 fun _ q => GQ q :=
  b1_5 _ (GQ) c t ((W2_of m ρ c main_v1 (by decide)).trans (v1_1 m ρ c h))
theorem c1_6 (c : Dev nD) (t : Fin cfg1.N) (h : Inputs m X M DX DH DK GP GQ GK c) : iblk1 (V2 m ρ) c 6 t = n2 fun _ q => GK q :=
  b1_6 _ (GK) c t ((W2_of m ρ c main_v2 (by decide)).trans (v1_2 m ρ c h))
theorem c1_7 (c : Dev nD) (t : Fin cfg1.N) (h : Inputs m X M DX DH DK GP GQ GK c) : iblk1 (V2 m ρ) c 7 t = n2 fun _ q => GP q :=
  b1_7 _ (GP) c t ((W2_of m ρ c main_v0 (by decide)).trans (v1_0 m ρ c h))

theorem outs8 (c : Dev nD) (t : Fin cfg1.N) (h : Inputs m X M DX DH DK GP GQ GK c) :
    (outsAt1 (V2 m ρ) c t.val t.isLt).1 = n2 fun r q => DN (DN DX (SUMN X M GP) DK GK) (SUMN X M GP) DH GQ (t.val * 512 + r) q := by
  by_cases hc : t.val % 8 = 0
  · rw [outsAt1_A (V2 m ρ) c t hc hc hc]
    frame_out
    rw [c1_0 m ρ c t h, c1_1 m ρ c t h, c1_2 m ρ c t h, c1_3 m ρ c t h, c1_5 m ρ c t h, c1_6 m ρ c t h, p1_11]
    rfl
  · rw [outsAt1_B (V2 m ρ) c t hc hc hc]
    frame_out
    rw [c1_0 m ρ c t h, c1_1 m ρ c t h, c1_2 m ρ c t h, c1_3 m ρ c t h, c1_5 m ρ c t h, c1_6 m ρ c t h, p1_11]
    rfl

theorem outs9 (c : Dev nD) (t : Fin cfg1.N) (h : Inputs m X M DX DH DK GP GQ GK c) :
    (outsAt1 (V2 m ρ) c t.val t.isLt).2.1 = n2 fun r q => DM M (DN (DN DX (SUMN X M GP) DK GK) (SUMN X M GP) DH GQ) GP (t.val * 512 + r) q := by
  by_cases hc : t.val % 8 = 0
  · rw [outsAt1_A (V2 m ρ) c t hc hc hc]
    frame_out
    rw [c1_0 m ρ c t h, c1_1 m ρ c t h, c1_2 m ρ c t h, c1_3 m ρ c t h, c1_4 m ρ c t h, c1_5 m ρ c t h, c1_6 m ρ c t h, c1_7 m ρ c t h, p1_14]
    rfl
  · rw [outsAt1_B (V2 m ρ) c t hc hc hc]
    frame_out
    rw [c1_0 m ρ c t h, c1_1 m ρ c t h, c1_2 m ρ c t h, c1_3 m ρ c t h, c1_4 m ρ c t h, c1_5 m ρ c t h, c1_6 m ρ c t h, c1_7 m ρ c t h, p1_14]
    rfl

/-- The gradient of the rows, and of the rows of the norm before. -/
theorem final8 (c : Dev nD) (h : Inputs m X M DX DH DK GP GQ GK c) : (dat1 (V2 m ρ) c).arrAt 8 cfg1.N = n2 (DN (DN DX (SUMN X M GP) DK GK) (SUMN X M GP) DH GQ) := by
  refine (dat1 (V2 m ρ) c).arrAt_eq_of_covers 8 _ (by decide +kernel) fun t _ y => ?_
  have ht := (idx1 t).2.2.2.2.2.2.2.2.2.2.2.2.2
  blk_simp
  rw [after1_8, outs8 m ρ c t h]
  obtain ⟨p, q, rfl⟩ : ∃ p q, y = ix2 p q := ⟨y 0, y 1, eq_ix2 y⟩
  have e : ((cfg1.win 8).blk t).view.emb (ix2 p q) = ix2 (⟨t.val * 512 + p.val, by omega⟩ : Fin 4096) q := by
    blk_ext [idx1 t]
  rw [e]
  rfl

theorem final9 (c : Dev nD) (h : Inputs m X M DX DH DK GP GQ GK c) : (dat1 (V2 m ρ) c).arrAt 9 cfg1.N = n2 (DM M (DN (DN DX (SUMN X M GP) DK GK) (SUMN X M GP) DH GQ) GP) := by
  refine (dat1 (V2 m ρ) c).arrAt_eq_of_covers 9 _ (by decide +kernel) fun t _ y => ?_
  have ht := (idx1 t).2.2.2.2.2.2.2.2.2.2.2.2.2
  blk_simp
  rw [after1_9, outs9 m ρ c t h]
  obtain ⟨p, q, rfl⟩ : ∃ p q, y = ix2 p q := ⟨y 0, y 1, eq_ix2 y⟩
  have e : ((cfg1.win 9).blk t).view.emb (ix2 p q) = ix2 (⟨t.val * 512 + p.val, by omega⟩ : Fin 4096) q := by
    blk_ext [idx1 t]
  rw [e]
  rfl

/-- The gradients of the three gains, summed over the tiles. -/
theorem final10 (c : Dev nD) (h : Inputs m X M DX DH DK GP GQ GK c) :
    (dat1 (V2 m ρ) c).arrAt 10 cfg1.N = n2 fun _ q => DG (SUMN X M GP) DH q := by
  refine (dat1 (V2 m ρ) c).arrAt_eq_of_after_last 10 t1_7 (by decide +kernel) _ fun j => ?_
  blk_simp
  rw [after1_10]
  refine (Pipeline.eq_sum_fin_of_reset_step_apply_last (fun n h => (outsAt1 (V2 m ρ) c n h).2.2.1) 8 (fun _ => (0 : EReal))
    (fun t j => ((DGT (SUMN X M GP) DH t.val (j 1).val : ℝ) : EReal))
    (fun t h0 j => ?_) (fun t h0 j => ?_) (by decide) t1_7 rfl j).trans ?_
  · rw [outsAt1_A (V2 m ρ) c t h0 h0 h0]
    frame_out
    rw [c1_1 m ρ c t h, c1_2 m ρ c t h, p1_17]
    exact congrArg (· + _) lit_zero
  · rw [outsAt1_B (V2 m ρ) c t h0 h0 h0]
    frame_out
    rw [c1_1 m ρ c t h, c1_2 m ρ c t h, p1_17]
    rfl
  · rw [zero_add, sum_coe]
    exact congrArg (fun x : ℝ => (x : EReal)) (sum_DGT N_1 (SUMN X M GP) DH (j 1).val)

theorem final11 (c : Dev nD) (h : Inputs m X M DX DH DK GP GQ GK c) :
    (dat1 (V2 m ρ) c).arrAt 11 cfg1.N = n2 fun _ q => DG (SUMN X M GP) DK q := by
  refine (dat1 (V2 m ρ) c).arrAt_eq_of_after_last 11 t1_7 (by decide +kernel) _ fun j => ?_
  blk_simp
  rw [after1_11]
  refine (Pipeline.eq_sum_fin_of_reset_step_apply_last (fun n h => (outsAt1 (V2 m ρ) c n h).2.2.2.1) 8 (fun _ => (0 : EReal))
    (fun t j => ((DGT (SUMN X M GP) DK t.val (j 1).val : ℝ) : EReal))
    (fun t h0 j => ?_) (fun t h0 j => ?_) (by decide) t1_7 rfl j).trans ?_
  · rw [outsAt1_A (V2 m ρ) c t h0 h0 h0]
    frame_out
    rw [c1_1 m ρ c t h, c1_3 m ρ c t h, p1_19]
    exact congrArg (· + _) lit_zero
  · rw [outsAt1_B (V2 m ρ) c t h0 h0 h0]
    frame_out
    rw [c1_1 m ρ c t h, c1_3 m ρ c t h, p1_19]
    rfl
  · rw [zero_add, sum_coe]
    exact congrArg (fun x : ℝ => (x : EReal)) (sum_DGT N_1 (SUMN X M GP) DK (j 1).val)

theorem final12 (c : Dev nD) (h : Inputs m X M DX DH DK GP GQ GK c) :
    (dat1 (V2 m ρ) c).arrAt 12 cfg1.N = n2 fun _ q => DG M (DN (DN DX (SUMN X M GP) DK GK) (SUMN X M GP) DH GQ) q := by
  refine (dat1 (V2 m ρ) c).arrAt_eq_of_after_last 12 t1_7 (by decide +kernel) _ fun j => ?_
  blk_simp
  rw [after1_12]
  refine (Pipeline.eq_sum_fin_of_reset_step_apply_last (fun n h => (outsAt1 (V2 m ρ) c n h).2.2.2.2) 8 (fun _ => (0 : EReal))
    (fun t j => ((DGT M (DN (DN DX (SUMN X M GP) DK GK) (SUMN X M GP) DH GQ) t.val (j 1).val : ℝ) : EReal))
    (fun t h0 j => ?_) (fun t h0 j => ?_) (by decide) t1_7 rfl j).trans ?_
  · rw [outsAt1_A (V2 m ρ) c t h0 h0 h0]
    frame_out
    rw [c1_0 m ρ c t h, c1_1 m ρ c t h, c1_2 m ρ c t h, c1_3 m ρ c t h, c1_4 m ρ c t h, c1_5 m ρ c t h, c1_6 m ρ c t h, p1_11, p1_21]
    exact congrArg (· + _) lit_zero
  · rw [outsAt1_B (V2 m ρ) c t h0 h0 h0]
    frame_out
    rw [c1_0 m ρ c t h, c1_1 m ρ c t h, c1_2 m ρ c t h, c1_3 m ρ c t h, c1_4 m ρ c t h, c1_5 m ρ c t h, c1_6 m ρ c t h, p1_11, p1_21]
    rfl
  · rw [zero_add, sum_coe]
    exact congrArg (fun x : ℝ => (x : EReal)) (sum_DGT N_1 M (DN (DN DX (SUMN X M GP) DK GK) (SUMN X M GP) DH GQ) (j 1).val)

end Cert.ForkIdeal.Rows

end
-- ==== Proof.Norms.ForkRef.lean ====
/-
  The reference of the two norms around the attention's input, with a gain for each of its two uses, as a real function of its rows.
-/
module

public import proofs.«01_k».proof.Proof.Norms.Host
public import proofs.«01_k».proof.Proof.Gen.ForkRefIdeal.Read

@[expose] public section

set_option maxRecDepth 16384

noncomputable section

namespace Cert.ForkRefIdeal.Rows

open Idealize.ShloMosaic Cert.Reals Cert.Calc Cert.Norms Cert.ForkRefIdeal Cert.ForkRefIdeal.Read
open scoped BigOperators

variable (X M DX DH DK : ℕ → ℕ → ℝ) (GP GQ GK : ℕ → ℝ)

theorem v6 : val_main_v6 (F := Ideal) (n2 M) = n2 fun r _ => Host.MS M r := by
  unfold val_main_v6 val_main_v4 val_main_v5 val_main_v3 val_main_v2 val_main_v1 val_main_v0 val_main_cst val_main_cst_0 val_main_cst_1
  rw [mul]
  exact Host.meansq M _ _ _ _ _

theorem v7 : val_main_v7 (F := Ideal) (n2 M) = n2 fun r _ => NR M r := by
  unfold val_main_v7
  rw [v6]
  exact Host.recip M

theorem v10 : val_main_v10 (F := Ideal) (n2 M) = n2 fun r _ => -(1 / 2) * (NR M r / Host.MS M r) := by
  unfold val_main_v10 val_main_v9 val_main_v8 val_main_cst_2
  rw [v6, v7]
  exact Host.slope M _

theorem v12 : val_main_v12 (F := Ideal) (n2 M) = n2 (XH M) := by
  unfold val_main_v12 val_main_v11
  rw [v7, Host.column, mul]
  rfl

/-- The rows between the two norms. -/
theorem v16 : val_main_v16 (F := Ideal) (n2 X) (n2 M) (n1 GP) = n2 (SUMN X M GP) := by
  unfold val_main_v16 val_main_v15 val_main_v14 val_main_v13
  rw [v12, Host.gain, mul, add]
  rfl

theorem v23 : val_main_v23 (F := Ideal) (n2 X) (n2 M) (n1 GP) = n2 fun r _ => Host.MS (SUMN X M GP) r := by
  unfold val_main_v23 val_main_v21 val_main_v22 val_main_v20 val_main_v19 val_main_v18 val_main_v17 val_main_cst_3 val_main_cst_4 val_main_cst_5
  rw [v16, mul]
  exact Host.meansq _ _ _ _ _ _

theorem v24 : val_main_v24 (F := Ideal) (n2 X) (n2 M) (n1 GP) = n2 fun r _ => NR (SUMN X M GP) r := by
  unfold val_main_v24
  rw [v23]
  exact Host.recip _

theorem v27 : val_main_v27 (F := Ideal) (n2 X) (n2 M) (n1 GP)
    = n2 fun r _ => -(1 / 2) * (NR (SUMN X M GP) r / Host.MS (SUMN X M GP) r) := by
  unfold val_main_v27 val_main_v26 val_main_v25 val_main_cst_6
  rw [v23, v24]
  exact Host.slope _ _

theorem v29 : val_main_v29 (F := Ideal) (n2 X) (n2 M) (n1 GP) = n2 (XH (SUMN X M GP)) := by
  unfold val_main_v29 val_main_v28
  rw [v24, v16, Host.column, mul]
  rfl

theorem v32 : val_main_v32 (F := Ideal) (n2 X) (n2 M) (n1 GP) (n1 GQ) = n2 (HN (SUMN X M GP) GQ) := by
  unfold val_main_v32 val_main_v31 val_main_v30
  rw [v29, Host.gain, mul]
  rfl

theorem v39 : val_main_v39 (F := Ideal) (n2 X) (n2 M) (n1 GP) = n2 fun r _ => Host.MS (SUMN X M GP) r := by
  unfold val_main_v39 val_main_v37 val_main_v38 val_main_v36 val_main_v35 val_main_v34 val_main_v33 val_main_cst_7 val_main_cst_8 val_main_cst_9
  rw [v16, mul]
  exact Host.meansq _ _ _ _ _ _

theorem v40 : val_main_v40 (F := Ideal) (n2 X) (n2 M) (n1 GP) = n2 fun r _ => NR (SUMN X M GP) r := by
  unfold val_main_v40
  rw [v39]
  exact Host.recip _

theorem v43 : val_main_v43 (F := Ideal) (n2 X) (n2 M) (n1 GP)
    = n2 fun r _ => -(1 / 2) * (NR (SUMN X M GP) r / Host.MS (SUMN X M GP) r) := by
  unfold val_main_v43 val_main_v42 val_main_v41 val_main_cst_10
  rw [v39, v40]
  exact Host.slope _ _

theorem v45 : val_main_v45 (F := Ideal) (n2 X) (n2 M) (n1 GP) = n2 (XH (SUMN X M GP)) := by
  unfold val_main_v45 val_main_v44
  rw [v40, v16, Host.column, mul]
  rfl

theorem v48 : val_main_v48 (F := Ideal) (n2 X) (n2 M) (n1 GP) (n1 GK) = n2 (HN (SUMN X M GP) GK) := by
  unfold val_main_v48 val_main_v47 val_main_v46
  rw [v45, Host.gain, mul]
  rfl

/-- The normed rows, with either gain. -/
theorem v112 : val_main_v112 (F := Ideal) (n2 X) (n2 M) (n1 GP) (n1 GQ) = n2 (HN (SUMN X M GP) GQ) := by
  unfold val_main_v112
  rw [v32]
  rfl

theorem v113 : val_main_v113 (F := Ideal) (n2 X) (n2 M) (n1 GP) (n1 GK) = n2 (HN (SUMN X M GP) GK) := by
  unfold val_main_v113
  rw [v48]
  rfl

/-- The gradient of the second gain. -/
theorem v116 : val_main_v116 (F := Ideal) (n2 X) (n2 M) (n1 GP) (n2 DK) = n2 fun _ c => DG (SUMN X M GP) DK c := by
  unfold val_main_v116 val_main_v54 val_main_v51 val_main_v50 val_main_v49 val_main_cst_11 val_main_cst_12
  rw [v45, mul]
  refine (Host.total _ _ _ _ _ _ _).trans (n2_congr fun r _ c _ => ?_)
  exact Finset.sum_congr rfl fun k _ => mul_comm _ _

theorem v53 : val_main_v53 (F := Ideal) (n1 GK) (n2 DK) = n2 fun r c => DK r c * GK c := by
  unfold val_main_v53 val_main_v52 val_main_v46
  rw [Host.gain, mul]

theorem v65 : val_main_v65 (F := Ideal) (n2 X) (n2 M) (n1 GP) (n1 GK) (n2 DK)
    = n2 fun r _ => (∑ k : Fin 1024, SUMN X M GP r k.val * (DK r k.val * GK k.val))
        * (-(1 / 2) * (NR (SUMN X M GP) r / Host.MS (SUMN X M GP) r)) / 1024 := by
  unfold val_main_v65 val_main_v64 val_main_v63 val_main_v62 val_main_v61 val_main_v57 val_main_v56 val_main_v55 val_main_cst_13 val_main_cst_14 val_main_cst_15
  rw [v16, v53, v43, mul]
  exact Host.scalar _ _ _ _ _ _ _ _ _

theorem v69 : val_main_v69 (F := Ideal) (n2 X) (n2 M) (n1 GP) (n1 GK) (n2 DX) (n2 DK) = n2 (DN DX (SUMN X M GP) DK GK) := by
  unfold val_main_v69 val_main_v68 val_main_v67 val_main_v66 val_main_v60 val_main_v59 val_main_v58
  rw [v65, v16, v53, v40, Host.column, mul, mul, mul, add, add, add]
  refine n2_congr fun r _ c hc => ?_
  rw [add_assoc, add_assoc, ← add_assoc (_ * NR _ r), Host.back_eq (SUMN X M GP) (fun r c => DK r c * GK c) r c hc]
  rfl

/-- The gradient of the first gain. -/
theorem v115 : val_main_v115 (F := Ideal) (n2 X) (n2 M) (n1 GP) (n2 DH) = n2 fun _ c => DG (SUMN X M GP) DH c := by
  unfold val_main_v115 val_main_v75 val_main_v72 val_main_v71 val_main_v70 val_main_cst_16 val_main_cst_17
  rw [v29, mul]
  refine (Host.total _ _ _ _ _ _ _).trans (n2_congr fun r _ c _ => ?_)
  exact Finset.sum_congr rfl fun k _ => mul_comm _ _

theorem v74 : val_main_v74 (F := Ideal) (n1 GQ) (n2 DH) = n2 fun r c => DH r c * GQ c := by
  unfold val_main_v74 val_main_v73 val_main_v30
  rw [Host.gain, mul]

theorem v86 : val_main_v86 (F := Ideal) (n2 X) (n2 M) (n1 GP) (n1 GQ) (n2 DH)
    = n2 fun r _ => (∑ k : Fin 1024, SUMN X M GP r k.val * (DH r k.val * GQ k.val))
        * (-(1 / 2) * (NR (SUMN X M GP) r / Host.MS (SUMN X M GP) r)) / 1024 := by
  unfold val_main_v86 val_main_v85 val_main_v84 val_main_v83 val_main_v82 val_main_v78 val_main_v77 val_main_v76 val_main_cst_18 val_main_cst_19 val_main_cst_20
  rw [v16, v74, v27, mul]
  exact Host.scalar _ _ _ _ _ _ _ _ _

/-- The gradient of the block's rows. -/
theorem v90 : val_main_v90 (F := Ideal) (n2 X) (n2 M) (n1 GP) (n1 GQ) (n1 GK) (n2 DX) (n2 DH) (n2 DK) = n2 (DN (DN DX (SUMN X M GP) DK GK) (SUMN X M GP) DH GQ) := by
  unfold val_main_v90 val_main_v89 val_main_v88 val_main_v87 val_main_v81 val_main_v80 val_main_v79
  rw [v86, v69, v16, v74, v24, Host.column, mul, mul, mul, add, add, add]
  refine n2_congr fun r _ c hc => ?_
  rw [add_assoc, add_assoc, ← add_assoc (_ * NR _ r), Host.back_eq (SUMN X M GP) (fun r c => DH r c * GQ c) r c hc]
  rfl

theorem v91 : val_main_v91 (F := Ideal) (n2 X) (n2 M) (n1 GP) (n1 GQ) (n1 GK) (n2 DX) (n2 DH) (n2 DK) = n2 (DN (DN DX (SUMN X M GP) DK GK) (SUMN X M GP) DH GQ) := by
  unfold val_main_v91
  rw [v90]
  exact Host.same _ _

/-- The gradient of the gain of the norm before. -/
theorem v117 : val_main_v117 (F := Ideal) (n2 X) (n2 M) (n1 GP) (n1 GQ) (n1 GK) (n2 DX) (n2 DH) (n2 DK)
    = n2 fun _ c => DG M (DN (DN DX (SUMN X M GP) DK GK) (SUMN X M GP) DH GQ) c := by
  unfold val_main_v117 val_main_v97 val_main_v94 val_main_v93 val_main_v92 val_main_cst_21 val_main_cst_22
  rw [v91, v12, mul]
  refine (Host.total _ _ _ _ _ _ _).trans (n2_congr fun r _ c _ => ?_)
  exact Finset.sum_congr rfl fun k _ => mul_comm _ _

theorem v96 : val_main_v96 (F := Ideal) (n2 X) (n2 M) (n1 GP) (n1 GQ) (n1 GK) (n2 DX) (n2 DH) (n2 DK)
    = n2 fun r c => DN (DN DX (SUMN X M GP) DK GK) (SUMN X M GP) DH GQ r c * GP c := by
  unfold val_main_v96 val_main_v95 val_main_v13
  rw [v91, Host.gain, mul]

theorem v107 : val_main_v107 (F := Ideal) (n2 X) (n2 M) (n1 GP) (n1 GQ) (n1 GK) (n2 DX) (n2 DH) (n2 DK)
    = n2 fun r _ => (∑ k : Fin 1024, M r k.val * (DN (DN DX (SUMN X M GP) DK GK) (SUMN X M GP) DH GQ r k.val * GP k.val))
        * (-(1 / 2) * (NR M r / Host.MS M r)) / 1024 := by
  unfold val_main_v107 val_main_v106 val_main_v105 val_main_v104 val_main_v103 val_main_v100 val_main_v99 val_main_v98
    val_main_cst_23 val_main_cst_24 val_main_cst_25
  rw [v96, v10, mul]
  exact Host.scalar _ _ _ _ _ _ _ _ _

/-- The gradient of the rows of the norm before. -/
theorem v111 : val_main_v111 (F := Ideal) (n2 X) (n2 M) (n1 GP) (n1 GQ) (n1 GK) (n2 DX) (n2 DH) (n2 DK)
    = n2 (DM M (DN (DN DX (SUMN X M GP) DK GK) (SUMN X M GP) DH GQ) GP) := by
  unfold val_main_v111 val_main_v110 val_main_v109 val_main_v108 val_main_v102 val_main_v101
  rw [v107, v96, v7, Host.column, mul, mul, mul, add, add]
  refine n2_congr fun r _ c hc => ?_
  exact Host.back_eq M (fun r c => DN (DN DX (SUMN X M GP) DK GK) (SUMN X M GP) DH GQ r c * GP c) r c hc

theorem v114 : val_main_v114 (F := Ideal) (n2 X) (n2 M) (n1 GP) (n1 GQ) (n1 GK) (n2 DX) (n2 DH) (n2 DK)
    = n2 (DM M (DN (DN DX (SUMN X M GP) DK GK) (SUMN X M GP) DH GQ) GP) := by
  unfold val_main_v114
  rw [v111]
  rfl

end Cert.ForkRefIdeal.Rows

end
-- ==== Proof.Norms.ForkClaims.lean ====
/-
  The claims about the norms where the rows fork: frames, and equality with the reference at the ideal instance on finite inputs.
-/
module

public import proofs.«01_k».proof.Defs
public import proofs.«01_k».proof.Proof.Gen.Fork.Frame
public import proofs.«01_k».proof.Proof.Gen.Pre_fork_finite
public import proofs.«01_k».proof.Proof.Norms.ForkBlock
public import proofs.«01_k».proof.Proof.Norms.ForkRef
public import proofs.«01_k».proof.Proof.Gen.ForkRefIdeal.Run
public import Idealize.ShloMosaic.Lib.Quiescent

@[expose] public section

set_option maxRecDepth 16384

noncomputable section

namespace Cert.Proof.ForkClaims

open Idealize.ShloMosaic Idealize.ShloMosaic.TcCoe Idealize.SL.Sem Cert.Reals Cert.Calc Cert.Norms Cert.ForkIdeal.Rows

/-- The kernel and its idealization run without a fault, keep their arguments, and leave no semaphore raised. -/
theorem frame : Cert.quiescent_Fork := fun m ρ _ => Cert.Fork.Gen.frame m ρ
theorem frame_ideal : Cert.quiescent_ForkIdeal := fun m ρ _ => Cert.ForkIdeal.Gen.frame m ρ
theorem frame_ideal_pre : Cert.quiescent_ForkIdeal_pre_fork_finite := fun m ρ _ => Cert.ForkIdeal.Gen.frame m ρ

/-- So does the reference, at any state. -/
theorem frame_ref : Cert.quiescent_ForkRefIdeal := fun m ρ _ =>
  (θ_run Cert.ForkRefIdeal.defs _ _).mono (fun r h => ⟨fun c => (h c).2.2.2.2.2.2.2.2, sem_eq_zero_of_no_sems (by decide) r.2⟩)
    (Cert.ForkRefIdeal.Value.run (F := Ideal) m ρ)
theorem frame_ref_pre : Cert.quiescent_ForkRefIdeal_pre_fork_finite := fun m ρ _ => frame_ref m ρ trivial

theorem preserves : Cert.preserves_Fork_ForkIdeal := trivial

/-- The precondition, read: every element of the arguments is finite. -/
theorem finite (x0 : FVec Ideal Cert.ForkIdeal.S4096x1024 .f32) (x1 : FVec Ideal Cert.ForkIdeal.S4096x1024 .f32) (x2 : FVec Ideal Cert.ForkIdeal.S1024 .f32) (x3 : FVec Ideal Cert.ForkIdeal.S1024 .f32) (x4 : FVec Ideal Cert.ForkIdeal.S1024 .f32) (x5 : FVec Ideal Cert.ForkIdeal.S4096x1024 .f32) (x6 : FVec Ideal Cert.ForkIdeal.S4096x1024 .f32) (x7 : FVec Ideal Cert.ForkIdeal.S4096x1024 .f32)
    (h : Cert.Pre_fork_finite.fn (F := Ideal) x0 x1 x2 x3 x4 x5 x6 x7 = fun _ => 1#1) :
    (∀ i, x0 i ≠ ⊥ ∧ x0 i ≠ ⊤) ∧ (∀ i, x1 i ≠ ⊥ ∧ x1 i ≠ ⊤) ∧ (∀ i, x2 i ≠ ⊥ ∧ x2 i ≠ ⊤) ∧ (∀ i, x3 i ≠ ⊥ ∧ x3 i ≠ ⊤) ∧ (∀ i, x4 i ≠ ⊥ ∧ x4 i ≠ ⊤) ∧ (∀ i, x5 i ≠ ⊥ ∧ x5 i ≠ ⊤) ∧ (∀ i, x6 i ≠ ⊥ ∧ x6 i ≠ ⊤) ∧ (∀ i, x7 i ≠ ⊥ ∧ x7 i ≠ ⊤) := by
  have key (p : Fin 4096) (q : Fin 1024) := congrFun h (ix2 p q)
  unfold Cert.Pre_fork_finite.fn Cert.Pre_fork_finite.fn_part1 at key
  pointwise at key
  refine ⟨fun i => ?_, fun i => ?_, fun i => ?_, fun i => ?_, fun i => ?_, fun i => ?_, fun i => ?_, fun i => ?_⟩
  · obtain ⟨p, q, rfl⟩ : ∃ p q, i = ix2 p q := ⟨i 0, i 1, eq_ix2 i⟩
    exact finite_of_abs_lt _ (and_eq_one (and_eq_one (and_eq_one (and_eq_one (and_eq_one (and_eq_one (and_eq_one (key p q)).1).1).1).1).1).1).1
  · obtain ⟨p, q, rfl⟩ : ∃ p q, i = ix2 p q := ⟨i 0, i 1, eq_ix2 i⟩
    exact finite_of_abs_lt _ (and_eq_one (and_eq_one (and_eq_one (and_eq_one (and_eq_one (and_eq_one (and_eq_one (key p q)).1).1).1).1).1).1).2
  · obtain ⟨q, rfl⟩ : ∃ q, i = ix1 q := ⟨i 0, eq_ix1 i⟩
    exact finite_of_abs_lt _ (and_eq_one (and_eq_one (and_eq_one (key 0 q)).1).1).2
  · obtain ⟨q, rfl⟩ : ∃ q, i = ix1 q := ⟨i 0, eq_ix1 i⟩
    exact finite_of_abs_lt _ (and_eq_one (and_eq_one (key 0 q)).1).2
  · obtain ⟨q, rfl⟩ : ∃ q, i = ix1 q := ⟨i 0, eq_ix1 i⟩
    exact finite_of_abs_lt _ (and_eq_one (key 0 q)).2
  · obtain ⟨p, q, rfl⟩ : ∃ p q, i = ix2 p q := ⟨i 0, i 1, eq_ix2 i⟩
    exact finite_of_abs_lt _ (and_eq_one (and_eq_one (and_eq_one (and_eq_one (and_eq_one (and_eq_one (key p q)).1).1).1).1).1).2
  · obtain ⟨p, q, rfl⟩ : ∃ p q, i = ix2 p q := ⟨i 0, i 1, eq_ix2 i⟩
    exact finite_of_abs_lt _ (and_eq_one (and_eq_one (and_eq_one (and_eq_one (and_eq_one (key p q)).1).1).1).1).2
  · obtain ⟨p, q, rfl⟩ : ∃ p q, i = ix2 p q := ⟨i 0, i 1, eq_ix2 i⟩
    exact finite_of_abs_lt _ (and_eq_one (and_eq_one (and_eq_one (and_eq_one (key p q)).1).1).1).2

/-- On finite inputs the kernel's results are the reference's. -/
theorem algebraic : Cert.algebraic_ForkIdeal_ForkRefIdeal_pre_fork_finite := by
  intro m ρ m' ρ' hpre hagree
  have hin (c : Dev Cert.ForkIdeal.nD) : ∃ X M DX DH DK GP GQ GK, Inputs m X M DX DH DK GP GQ GK c := by
    obtain ⟨h0, h1, h2, h3, h4, h5, h6, h7⟩ := finite _ _ _ _ _ _ _ _ (hpre c)
    exact ⟨_, _, _, _, _, _, _, _, ⟨eq_n2 _ h0, eq_n2 _ h1, eq_n1 _ h2, eq_n1 _ h3, eq_n1 _ h4, eq_n2 _ h5, eq_n2 _ h6, eq_n2 _ h7⟩⟩
  choose X M DX DH DK GP GQ GK hi using hin
  refine ⟨fun c => n2 (SUMN (X c) (M c) (GP c)), fun c => n2 (HN (SUMN (X c) (M c) (GP c)) (GQ c)), fun c => n2 (HN (SUMN (X c) (M c) (GP c)) (GK c)), fun c => n2 (DN (DN (DX c) (SUMN (X c) (M c) (GP c)) (DK c) (GK c)) (SUMN (X c) (M c) (GP c)) (DH c) (GQ c)), fun c => n2 (DM (M c) (DN (DN (DX c) (SUMN (X c) (M c) (GP c)) (DK c) (GK c)) (SUMN (X c) (M c) (GP c)) (DH c) (GQ c)) (GP c)), fun c => n2 fun _ q => DG (SUMN (X c) (M c) (GP c)) (DH c) q, fun c => n2 fun _ q => DG (SUMN (X c) (M c) (GP c)) (DK c) q, fun c => n2 fun _ q => DG (M c) (DN (DN (DX c) (SUMN (X c) (M c) (GP c)) (DK c) (GK c)) (SUMN (X c) (M c) (GP c)) (DH c) (GQ c)) q, ?_, ?_⟩
  · refine (θ_run Cert.ForkIdeal.defs _ _).mono (fun r h c => ?_) (Cert.ForkIdeal.Rows.run (F := Ideal) m ρ)
    have read (b : Ref Cert.ForkIdeal.sig .tc) (hb) := h.1 c _ (Cert.ForkIdeal.Gen.mem_uc b hb)
    exact ⟨(read Cert.ForkIdeal.main_v3_0 (by decide)).trans ((Cert.ForkIdeal.Gen.W3_of m ρ c _ (by decide)).trans ((Cert.ForkIdeal.Gen.W2_arr m ρ c 5).trans (final5 m ρ c (hi c)))),
      (read Cert.ForkIdeal.main_v3_1 (by decide)).trans ((Cert.ForkIdeal.Gen.W3_of m ρ c _ (by decide)).trans ((Cert.ForkIdeal.Gen.W2_arr m ρ c 6).trans (final6 m ρ c (hi c)))),
      (read Cert.ForkIdeal.main_v3_2 (by decide)).trans ((Cert.ForkIdeal.Gen.W3_of m ρ c _ (by decide)).trans ((Cert.ForkIdeal.Gen.W2_arr m ρ c 7).trans (final7 m ρ c (hi c)))),
      (read Cert.ForkIdeal.main_v4_0 (by decide)).trans ((Cert.ForkIdeal.Gen.W3_arr m ρ c 8).trans (final8 m ρ c (hi c))),
      (read Cert.ForkIdeal.main_v4_1 (by decide)).trans ((Cert.ForkIdeal.Gen.W3_arr m ρ c 9).trans (final9 m ρ c (hi c))),
      (read Cert.ForkIdeal.main_v4_2 (by decide)).trans ((Cert.ForkIdeal.Gen.W3_arr m ρ c 10).trans (final10 m ρ c (hi c))),
      (read Cert.ForkIdeal.main_v4_3 (by decide)).trans ((Cert.ForkIdeal.Gen.W3_arr m ρ c 11).trans (final11 m ρ c (hi c))),
      (read Cert.ForkIdeal.main_v4_4 (by decide)).trans ((Cert.ForkIdeal.Gen.W3_arr m ρ c 12).trans (final12 m ρ c (hi c))),
      (read Cert.ForkIdeal.main_arg0 (by decide)).trans (Cert.ForkIdeal.Gen.W3_main_arg0 m ρ c),
      (read Cert.ForkIdeal.main_arg1 (by decide)).trans (Cert.ForkIdeal.Gen.W3_main_arg1 m ρ c),
      (read Cert.ForkIdeal.main_arg2 (by decide)).trans (Cert.ForkIdeal.Gen.W3_main_arg2 m ρ c),
      (read Cert.ForkIdeal.main_arg3 (by decide)).trans (Cert.ForkIdeal.Gen.W3_main_arg3 m ρ c),
      (read Cert.ForkIdeal.main_arg4 (by decide)).trans (Cert.ForkIdeal.Gen.W3_main_arg4 m ρ c),
      (read Cert.ForkIdeal.main_arg5 (by decide)).trans (Cert.ForkIdeal.Gen.W3_main_arg5 m ρ c),
      (read Cert.ForkIdeal.main_arg6 (by decide)).trans (Cert.ForkIdeal.Gen.W3_main_arg6 m ρ c),
      (read Cert.ForkIdeal.main_arg7 (by decide)).trans (Cert.ForkIdeal.Gen.W3_main_arg7 m ρ c)⟩
  · refine (θ_run Cert.ForkRefIdeal.defs _ _).mono (fun r h c => ?_) (Cert.ForkRefIdeal.Value.run (F := Ideal) m' ρ')
    obtain ⟨r0, r1, r2, r3, r4, r5, r6, r7, rest⟩ := h c
    have e0 := (hagree c).1.trans (hi c).a0
    have e1 := (hagree c).2.1.trans (hi c).a1
    have e2 := (hagree c).2.2.1.trans (hi c).a2
    have e3 := (hagree c).2.2.2.1.trans (hi c).a3
    have e4 := (hagree c).2.2.2.2.1.trans (hi c).a4
    have e5 := (hagree c).2.2.2.2.2.1.trans (hi c).a5
    have e6 := (hagree c).2.2.2.2.2.2.1.trans (hi c).a6
    have e7 := (hagree c).2.2.2.2.2.2.2.trans (hi c).a7
    refine ⟨r0.trans ((Cert.ForkRefIdeal.Read.val_main_v16_eq _ _ _).trans ?_),
      r1.trans ((Cert.ForkRefIdeal.Read.val_main_v112_eq _ _ _ _).trans ?_),
      r2.trans ((Cert.ForkRefIdeal.Read.val_main_v113_eq _ _ _ _).trans ?_),
      r3.trans ((Cert.ForkRefIdeal.Read.val_main_v90_eq _ _).trans ?_),
      r4.trans ((Cert.ForkRefIdeal.Read.val_main_v114_eq _ _).trans ?_),
      r5.trans ((Cert.ForkRefIdeal.Read.val_main_v115_eq _ _ _ _).trans ?_),
      r6.trans ((Cert.ForkRefIdeal.Read.val_main_v116_eq _ _ _ _).trans ?_),
      r7.trans ((Cert.ForkRefIdeal.Read.val_main_v117_eq _ _).trans ?_), rest⟩
    · rw [e0, e1, e2]
      exact Cert.ForkRefIdeal.Rows.v16 _ _ _
    · rw [e0, e1, e2, e3]
      exact Cert.ForkRefIdeal.Rows.v112 _ _ _ _
    · rw [e0, e1, e2, e4]
      exact Cert.ForkRefIdeal.Rows.v113 _ _ _ _
    · rw [e0, e1, e2, e3, e4, e5, e6, e7]
      exact Cert.ForkRefIdeal.Rows.v90 _ _ _ _ _ _ _ _
    · rw [e0, e1, e2, e3, e4, e5, e6, e7]
      exact Cert.ForkRefIdeal.Rows.v114 _ _ _ _ _ _ _ _
    · rw [e0, e1, e2, e6]
      exact Cert.ForkRefIdeal.Rows.v115 _ _ _ _
    · rw [e0, e1, e2, e7]
      exact Cert.ForkRefIdeal.Rows.v116 _ _ _ _
    · rw [e0, e1, e2, e3, e4, e5, e6, e7]
      exact Cert.ForkRefIdeal.Rows.v117 _ _ _ _ _ _ _ _

end Cert.Proof.ForkClaims

end
-- ==== Proof.Mlp.Block.lean ====
/-
  The tile of the MLP's backward product, and the whole output of the call.
-/
module

public import proofs.«01_k».proof.Proof.Arrays
public import proofs.«01_k».proof.Proof.Gen.MlpIdeal.Value
public import Idealize.ShloMosaic.Lib.Pipeline.ValueKit
public import Idealize.ShloMosaic.Lib.Pointwise

@[expose] public section

set_option maxRecDepth 16384

noncomputable section

namespace Cert.MlpIdeal.Block

open Cert.MlpIdeal Cert.MlpIdeal.Gen Cert.Reals Cert.Calc Idealize.ShloMosaic Idealize.ShloMosaic.TcCoe Idealize.SL.Sem
open Idealize.ShloMosaic.Pipeline (Dat)
open scoped BigOperators

variable (U W D : ℕ → ℕ → EReal)

/-- The gradient of the hidden activations: the cotangent times the map's transpose, times the slope `2 max u 0` of the squared
relu. -/
def DU (r c : ℕ) : EReal := (∑ k : Fin 1024, D r k.val * W c k.val) * ((2 : ℝ) * max (U r c) 0)

theorem pay : k0_pay1 (F := Ideal) (e2 D) (e2 W) (e2 U) = e2 (DU U W D) := by
  funext j
  obtain ⟨p, q, rfl⟩ : ∃ p q, j = ix2 p q := ⟨j 0, j 1, eq_ix2 j⟩
  pointwise [k0_pay1]
  simp only [e2_ix, lit_two]
  rfl

variable (m : (ℓ : Loc nD τ sig) → Buf (Elt Ideal) ℓ)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] ∧ t.val < 8 :=
  (by decide +kernel : ∀ t : Fin grid0.N, _)

/-- The arguments, as functions of natural coordinates. -/
structure Inputs (c : Dev nD) : Prop where
  a0 : m ((c : Thread nD τ).loc main_arg0) = e2 U
  a1 : m ((c : Thread nD τ).loc main_arg1) = e2 W
  a2 : m ((c : Thread nD τ).loc main_arg2) = e2 D

variable {U W D}

theorem b0 (c : Dev nD) (t : Fin cfg0.N) (h : Inputs U W D m c) : iblk m c 0 t = e2 fun r q => D (t.val / 4 * 2048 + r) q := by
  funext y
  blk_simp [iblk]
  entry_read
  pointwise
  have h' : m (c, Proc.tc.devRef main_arg2) = e2 D := h.a2
  rw [h']
  refine congrArg₂ D ?_ ?_
  · blk_simp [idx t]
  · blk_simp [idx t]

theorem b1 (c : Dev nD) (t : Fin cfg0.N) (h : Inputs U W D m c) : iblk m c 1 t = e2 fun r q => W (t.val % 4 * 1024 + r) q := by
  funext y
  blk_simp [iblk]
  entry_read
  pointwise
  have h' : m (c, Proc.tc.devRef main_arg1) = e2 W := h.a1
  rw [h']
  refine congrArg₂ W ?_ ?_
  · blk_simp [idx t]
  · blk_simp [idx t]

theorem b2 (c : Dev nD) (t : Fin cfg0.N) (h : Inputs U W D m c) :
    iblk m c 2 t = e2 fun r q => U (t.val / 4 * 2048 + r) (t.val % 4 * 1024 + q) := by
  funext y
  blk_simp [iblk]
  entry_read
  pointwise
  have h' : m (c, Proc.tc.devRef main_arg0) = e2 U := h.a0
  rw [h']
  refine congrArg₂ U ?_ ?_
  · blk_simp [idx t]
  · blk_simp [idx t]

/-- The call's result. -/
theorem final3 (c : Dev nD) (h : Inputs U W D m c) : (dats m 0 c).arrAt 3 cfg0.N = e2 (DU U W D) := by
  refine (dats m 0 c).arrAt_eq_of_covers 3 _ (by decide +kernel) fun t _ y => ?_
  have ht := (idx t).2.2.2.2
  blk_simp
  rw [after0_3, b0 m c t h, b1 m c t h, b2 m c t h]
  unfold out0_3
  frame_out
  rw [pay]
  obtain ⟨p, q, rfl⟩ : ∃ p q, y = ix2 p q := ⟨y 0, y 1, eq_ix2 y⟩
  have e : ((cfg0.win 3).blk t).view.emb (ix2 p q)
      = ix2 (⟨t.val / 4 * 2048 + p.val, by omega⟩ : Fin 4096) (⟨t.val % 4 * 1024 + q.val, by omega⟩ : Fin 4096) := by
    blk_ext [idx t]
  rw [e]
  rfl

end Cert.MlpIdeal.Block

end
-- ==== Proof.Mlp.Claims.lean ====
/-
  The reference of the MLP's backward product, and the claims: frames, and equality with the reference at the
  ideal instance.
-/
module

public import proofs.«01_k».proof.Defs
public import proofs.«01_k».proof.Proof.Gen.Mlp.Frame
public import proofs.«01_k».proof.Proof.Mlp.Block
public import proofs.«01_k».proof.Proof.Gen.MlpRefIdeal.Run
public import proofs.«01_k».proof.Proof.Gen.MlpRefIdeal.Read
public import Idealize.ShloMosaic.Lib.Quiescent

@[expose] public section

set_option maxRecDepth 16384

noncomputable section

namespace Cert.Proof.MlpClaims

open Idealize.ShloMosaic Idealize.ShloMosaic.TcCoe Idealize.SL.Sem Cert.Reals Cert.Calc Cert.MlpIdeal.Block
open scoped BigOperators

/-- The reference's result: where an activation is not positive it is zero, and there so is the slope. -/
theorem ref (U W D : ℕ → ℕ → EReal) :
    Cert.MlpRefIdeal.Read.val_main_v14 (F := Ideal) (e2 U) (e2 W) (e2 D) = e2 (DU U W D) := by
  funext j
  obtain ⟨p, q, rfl⟩ : ∃ p q, j = ix2 p q := ⟨j 0, j 1, eq_ix2 j⟩
  unfold Cert.MlpRefIdeal.Read.val_main_v14 Cert.MlpRefIdeal.Read.val_main_v13 Cert.MlpRefIdeal.Read.val_main_v12
    Cert.MlpRefIdeal.Read.val_main_v11 Cert.MlpRefIdeal.Read.val_main_v10 Cert.MlpRefIdeal.Read.val_main_v6
    Cert.MlpRefIdeal.Read.val_main_v5 Cert.MlpRefIdeal.Read.val_main_v2 Cert.MlpRefIdeal.Read.val_main_v1
    Cert.MlpRefIdeal.Read.val_main_v0 Cert.MlpRefIdeal.Read.val_main_cst Cert.MlpRefIdeal.Read.val_main_cst_1
    Cert.MlpRefIdeal.Read.val_main_cst_2 Cert.MlpRefIdeal.Read.val_main_call0_v0 Cert.MlpRefIdeal.Read.val_main_call0_cst
  pointwise
  simp only [e2_ix, lit_two]
  by_cases hu : 0 < U p.val q.val
  · rw [if_pos hu]
    rfl
  · rw [if_neg hu, DU, max_eq_right (not_lt.mp hu), mul_zero, mul_zero]

/-- The kernel and its idealization run without a fault, keep their arguments, and leave no semaphore raised. -/
theorem frame : Cert.quiescent_Mlp := fun m ρ _ => Cert.Mlp.Gen.frame m ρ
theorem frame_ideal : Cert.quiescent_MlpIdeal := fun m ρ _ => Cert.MlpIdeal.Gen.frame m ρ

/-- So does the reference, at any state. -/
theorem frame_ref : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem preserves : Cert.preserves_Mlp_MlpIdeal := trivial

/-- The kernel's result is the reference's. -/
theorem algebraic : Cert.algebraic_MlpIdeal_MlpRefIdeal := by
  intro m ρ m' ρ' _ hagree
  have hin (c : Dev Cert.MlpIdeal.nD) : ∃ U W D, Inputs U W D m c := by
    obtain ⟨U, h0⟩ := exists_e2 (a := 4096) (b := 4096) (m (c, Proc.tc.devRef Cert.MlpIdeal.main_arg0))
    obtain ⟨W, h1⟩ := exists_e2 (a := 4096) (b := 1024) (m (c, Proc.tc.devRef Cert.MlpIdeal.main_arg1))
    obtain ⟨D, h2⟩ := exists_e2 (a := 4096) (b := 1024) (m (c, Proc.tc.devRef Cert.MlpIdeal.main_arg2))
    exact ⟨U, W, D, ⟨h0, h1, h2⟩⟩
  choose U W D hi using hin
  refine ⟨fun c => e2 (DU (U c) (W c) (D c)), ?_, ?_⟩
  · exact (θ_run Cert.MlpIdeal.defs _ _).mono (fun r h c => ⟨(h c).1.trans (final3 m c (hi c)), (h c).2⟩)
      (Cert.MlpIdeal.Value.run_blocks (F := Ideal) m ρ)
  · refine (θ_run Cert.MlpRefIdeal.defs _ _).mono (fun r h c => ?_) (Cert.MlpRefIdeal.Value.run (F := Ideal) m' ρ')
    refine ⟨(h c).1.trans ((Cert.MlpRefIdeal.Read.val_main_v14_eq _ _ _).trans ?_), (h c).2⟩
    rw [(hagree c).1.trans (hi c).a0, (hagree c).2.1.trans (hi c).a1, (hagree c).2.2.trans (hi c).a2]
    exact ref _ _ _

end Cert.Proof.MlpClaims

end
-- ==== Proof.Fwd.Tile.lean ====
module

public import proofs.«01_k».proof.Proof.Attn.EnvValue
public import proofs.«01_k».proof.Proof.Attn.Point
public import proofs.«01_k».proof.Proof.Gen.FwdIdeal.Frame

/-! One grid point of the attention's forward kernel in the functions of a tile that describe the backward kernel: the
loops over the key tiles, and the output block. -/

@[expose] public section

set_option maxRecDepth 8192
set_option maxHeartbeats 4000000

noncomputable section

namespace Cert.Proof.Fwd

open Cert.FwdIdeal Cert.FwdIdeal.Gen
open Cert.Proof.Attn (Env headOf stack keyStack addOne zeroTile moreHeld someW startHeld startW rows)
open Idealize.ShloMosaic Idealize.ShloMosaic.TcCoe Idealize.ShloMosaic.Tactic

variable {F : FTy → Type} [FloatOps F]

/-! ### Trip counts and the places of the tiles -/

theorem trips1 : ∀ i : grid0.Coords, (k0_t1_loop i).trips = (i 1).val % 4 := by decide +kernel
theorem trips2 : ∀ i : grid0.Coords, (k0_t2_loop i).trips = 0 := by decide +kernel
theorem trips3 : ∀ i : grid0.Coords, (k0_t3_loop i).trips = (i 1).val / 4 := by decide +kernel
theorem trips4 : ∀ i : grid0.Coords, (k0_t4_loop i).trips = 0 := by decide +kernel
theorem off1_eq : ∀ i : grid0.Coords, k0_off1 i = ![256 * (i 1).val, 0] := by decide +kernel
theorem off2_eq : ∀ (i : grid0.Coords) (k : Fin (k0_t1_loop i).trips), k0_off2 i k = ![256 * ((i 1).val - 1 - k.val), 0] := by decide +kernel
theorem off4_eq : ∀ (i : grid0.Coords) (k : Fin (k0_t3_loop i).trips) (w : Fin 4), k0_off4 i k (BitVec.ofNat 32 w.val) = ![256 * ((i 1).val - 1 - (i 1).val % 4 - 4 * k.val - w.val), 0] := by decide +kernel

/-- What the loops carry: the four heads' row sums and the output so far. -/
abbrev Carried (F : FTy → Type) : Type := FVec F S256x1 .f32 × FVec F S256x1 .f32 × FVec F S256x1 .f32 × FVec F S256x1 .f32 × FVec F S256x256 .f32

/-- The output with the products of four tiles added. -/
def addFour (acc : FVec F S256x256 .f32) (w : Fin 4 → Fin 4 → FVec F S256x256 .bf16) (v : Fin 4 → FVec F S1024x256 .bf16) : FVec F S256x256 .f32 :=
  addf acc (matmul dot_S256x4096_S4096x256_S256x256_1_0_0_1_n_n none
    (concatenate S256x4096 1 [⟨S256x256, w 0 0⟩, ⟨S256x256, w 0 1⟩, ⟨S256x256, w 0 2⟩, ⟨S256x256, w 0 3⟩, ⟨S256x256, w 1 0⟩, ⟨S256x256, w 1 1⟩, ⟨S256x256, w 1 2⟩, ⟨S256x256, w 1 3⟩, ⟨S256x256, w 2 0⟩, ⟨S256x256, w 2 1⟩, ⟨S256x256, w 2 2⟩, ⟨S256x256, w 2 3⟩, ⟨S256x256, w 3 0⟩, ⟨S256x256, w 3 1⟩, ⟨S256x256, w 3 2⟩, ⟨S256x256, w 3 3⟩]
      concatenates_S256x256_S256x256_S256x256_S256x256_S256x256_S256x256_S256x256_S256x256_S256x256_S256x256_S256x256_S256x256_S256x256_S256x256_S256x256_S256x256_S256x4096_d1)
    (concatenate S4096x256 0 [⟨S1024x256, v 0⟩, ⟨S1024x256, v 1⟩, ⟨S1024x256, v 2⟩, ⟨S1024x256, v 3⟩] concatenates_S1024x256_S1024x256_S1024x256_S1024x256_S4096x256_d0)
    (constant S256x256 .f32 0x00000000#32))

/-- A tile's weights in the products' format, from the columns carried to it. -/
def someA (u : FVec F S256x256 .bf16) (q : Fin 4 → FVec F S256x256 .bf16) (kt : FVec F S256x256 .bf16) (c : Fin 4 → FVec F S256x1 .f32) (h : Fin 4) : FVec F S256x256 .bf16 :=
  truncf .bf16 (someW u q kt c h) bitsLt_bf16_f32

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole)

section One
variable (arg1 : BitVec 32) (v6 v39 v69 v99 v129 : FVec F S256x256 .bf16) (v133 : FVec F S256x1 .f32) (v134 : FVec F S256x256 .f32) (v270 : FVec F S1024x256 .bf16) (v302 v318 v334 : FVec F S256x1 .f32) (v344 v350 v356 v362 : FVec F S256x256 .f32) (v363 : FVec F S256x1 .f32) (X3 : BufTy.Contents (Elt F) arg3.view.ty) (X4 : BufTy.Contents (Elt F) arg4.view.ty)

/-- What a trip over one tile yields. -/
theorem trip1_eq (k : Fin (k0_t1_loop i).trips) (acc : Carried F) {kt vt : FVec F S256x256 .bf16} {c0 c1 : Fin 4 → FVec F S256x1 .f32}
    (hk : arg3.view.readAt (Elt F) (Rect.unit (s := S4096x256) (k0_off2 i k) S256x256.size (k0_off2_inb i k)).toLoadRect X3 = kt)
    (hv : arg4.view.readAt (Elt F) (Rect.unit (s := S4096x256) (k0_off2 i k) S256x256.size (k0_off2_inb i k)).toLoadRect X4 = vt)
    (h0 : ![acc.1, acc.2.1, acc.2.2.1, acc.2.2.2.1] = c0) (h1 : moreHeld ![v39, v69, v99, v129] kt c0 = c1) :
    tripR_k0_t1 (F := F) Variants.none c none i arg2 harg2 arg3 harg3 arg4 harg4 arg5 harg5 arg1 v6 v39 v69 v99 v129 v133 v134 v270 v302 v318 v334 v344 v350 v356 v362 v363 X3 X4 k acc
      = (c1 0, c1 1, c1 2, c1 3, addOne acc.2.2.2.2 (someA v6 ![v39, v69, v99, v129] kt c0) (keyStack vt)) := by
  subst hk hv h0 h1
  delta tripR_k0_t1 trip_k0_t1
  rfl

end One

section Four
variable (v6 v39 v69 v99 v129 : FVec F S256x256 .bf16) (v402 : BitVec 32) (X3 : BufTy.Contents (Elt F) arg3.view.ty) (X4 : BufTy.Contents (Elt F) arg4.view.ty)

/-- What a trip over four tiles yields. -/
theorem trip3_eq (d : Dev nD) (k : Fin (k0_t3_loop i).trips) (acc : Carried F) {kt vt : Fin 4 → FVec F S256x256 .bf16} {c : Fin 5 → Fin 4 → FVec F S256x1 .f32}
    (hk0 : arg3.view.readAt (Elt F) (Rect.unit (s := S4096x256) (k0_off4 i k 0#32) S256x256.size (k0_off4_inb i k 0)).toLoadRect X3 = kt 0)
    (hv0 : arg4.view.readAt (Elt F) (Rect.unit (s := S4096x256) (k0_off4 i k 0#32) S256x256.size (k0_off4_inb i k 0)).toLoadRect X4 = vt 0)
    (hk1 : arg3.view.readAt (Elt F) (Rect.unit (s := S4096x256) (k0_off4 i k 1#32) S256x256.size (k0_off4_inb i k 1)).toLoadRect X3 = kt 1)
    (hv1 : arg4.view.readAt (Elt F) (Rect.unit (s := S4096x256) (k0_off4 i k 1#32) S256x256.size (k0_off4_inb i k 1)).toLoadRect X4 = vt 1)
    (hk2 : arg3.view.readAt (Elt F) (Rect.unit (s := S4096x256) (k0_off4 i k 2#32) S256x256.size (k0_off4_inb i k 2)).toLoadRect X3 = kt 2)
    (hv2 : arg4.view.readAt (Elt F) (Rect.unit (s := S4096x256) (k0_off4 i k 2#32) S256x256.size (k0_off4_inb i k 2)).toLoadRect X4 = vt 2)
    (hk3 : arg3.view.readAt (Elt F) (Rect.unit (s := S4096x256) (k0_off4 i k 3#32) S256x256.size (k0_off4_inb i k 3)).toLoadRect X3 = kt 3)
    (hv3 : arg4.view.readAt (Elt F) (Rect.unit (s := S4096x256) (k0_off4 i k 3#32) S256x256.size (k0_off4_inb i k 3)).toLoadRect X4 = vt 3)
    (h0 : ![acc.1, acc.2.1, acc.2.2.1, acc.2.2.2.1] = c 0) (h1 : moreHeld ![v39, v69, v99, v129] (kt 0) (c 0) = c 1) (h2 : moreHeld ![v39, v69, v99, v129] (kt 1) (c 1) = c 2)
    (h3 : moreHeld ![v39, v69, v99, v129] (kt 2) (c 2) = c 3) (h4 : moreHeld ![v39, v69, v99, v129] (kt 3) (c 3) = c 4) :
    tripR_k0_t3 (F := F) Variants.none d none i arg2 harg2 arg3 harg3 arg4 harg4 arg5 harg5 v6 v39 v69 v99 v129 v402 X3 X4 k acc
      = (c 4 0, c 4 1, c 4 2, c 4 3, addFour acc.2.2.2.2 ![someA v6 ![v39, v69, v99, v129] (kt 0) (c 0), someA v6 ![v39, v69, v99, v129] (kt 1) (c 1), someA v6 ![v39, v69, v99, v129] (kt 2) (c 2), someA v6 ![v39, v69, v99, v129] (kt 3) (c 3)]
          ![keyStack (vt 0), keyStack (vt 1), keyStack (vt 2), keyStack (vt 3)]) := by
  rw [← h4, ← h3, ← h2, ← h1, ← h0, ← hk0, ← hk1, ← hk2, ← hk3, ← hv0, ← hv1, ← hv2, ← hv3]
  delta tripR_k0_t3 trip_k0_t3
  rfl

end Four

end Cert.Proof.Fwd
-- ==== Proof.Fwd.State.lean ====
module

public import proofs.«01_k».proof.Proof.Fwd.Tile

/-! The running state of the forward kernel's loops over key tiles. -/

@[expose] public section

set_option maxRecDepth 8192
set_option maxHeartbeats 800000

noncomputable section

namespace Cert.Proof.Fwd

open Cert.FwdIdeal Cert.FwdIdeal.Gen
open Cert.Proof.Attn (Env headOf stack keyStack addOne zeroTile moreHeld someW startHeld startW rows envAt)
open Idealize.ShloMosaic Idealize.ShloMosaic.TcCoe Idealize.ShloMosaic.Tactic

variable {F : FTy → Type} [FloatOps F]

/-- A tile's weights in the products' format. -/
def tileA (e : Env F) (i j : Fin 16) (h : Fin 4) : FVec F S256x256 .bf16 := truncf .bf16 (e.w i h j) bitsLt_bf16_f32

/-- The output over the diagonal tile and the `n` tiles before it. -/
def single (e : Env F) (i : Fin 16) : ℕ → FVec F S256x256 .f32
  | 0 => addOne zeroTile (tileA e i i) (keyStack (e.vt i))
  | n + 1 => addOne (single e i n) (tileA e i (Fin.ofNat 16 (i.val - 1 - n))) (keyStack (e.vt (Fin.ofNat 16 (i.val - 1 - n))))

/-- The tile a trip over four takes at place `t`. -/
def fourth (i : Fin 16) (n : ℕ) (t : Fin 4) : Fin 16 := Fin.ofNat 16 (i.val - 1 - i.val % 4 - 4 * n - t.val)

/-- And over `n` times four more tiles. -/
def four (e : Env F) (i : Fin 16) : ℕ → FVec F S256x256 .f32
  | 0 => single e i (i.val % 4)
  | n + 1 => addFour (four e i n) (fun t => tileA e i (fourth i n t)) (fun t => keyStack (e.vt (fourth i n t)))

/-- The output block. -/
def out (e : Env F) (i : Fin 16) : FVec F S256x256 .bf16 := truncf .bf16 (four e i (i.val / 4)) bitsLt_bf16_f32

/-- What the loops carry after the `p` last of the tiles up to `i`. -/
def carried (e : Env F) (i : Fin 16) (p : ℕ) (acc : FVec F S256x256 .f32) : Carried F := (e.held i 0 p, e.held i 1 p, e.held i 2 p, e.held i 3 p, acc)

/-- The columns after a tile left of the diagonal, and its weights. -/
theorem more_eq {e : Env F} {i j : Fin 16} {p : ℕ} (hp : 0 < p) (hj : j.val + p = i.val) :
    moreHeld e.qh (e.kt j) (fun h => e.held i h p) = fun h => e.held i h (p + 1) :=
  funext fun h => (e.held_succ h hp hj).symm
theorem someA_eq {e : Env F} {i j : Fin 16} {p : ℕ} (hp : 0 < p) (hj : j.val + p = i.val) :
    someA e.above e.qh (e.kt j) (fun h => e.held i h p) = tileA e i j :=
  funext fun h => congrArg (fun x => truncf .bf16 x bitsLt_bf16_f32) (e.w_eq h hp hj).symm

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole)

section One
variable (arg1 : BitVec 32) (v6 v39 v69 v99 v129 : FVec F S256x256 .bf16) (v133 : FVec F S256x1 .f32) (v134 : FVec F S256x256 .f32) (v270 : FVec F S1024x256 .bf16) (v302 v318 v334 : FVec F S256x1 .f32) (v344 v350 v356 v362 : FVec F S256x256 .f32) (v363 : FVec F S256x1 .f32) (X3 : BufTy.Contents (Elt F) arg3.view.ty) (X4 : BufTy.Contents (Elt F) arg4.view.ty)

/-- The single tiles. -/
theorem st1_eq {e : Env F} (hu : v6 = e.above) (hq : ![v39, v69, v99, v129] = e.qh) (hk : rows (arg3.view.read (Elt F) X3) = e.kt) (hv : rows (arg4.view.read (Elt F) X4) = e.vt)
    {init : Carried F} (hi : init = carried e (i 1) 1 (single e (i 1) 0)) (n : ℕ) (hn : n ≤ (k0_t1_loop i).trips) :
    st_k0_t1 (F := F) Variants.none c none i arg2 harg2 arg3 harg3 arg4 harg4 arg5 harg5 arg1 v6 v39 v69 v99 v129 v133 v134 v270 v302 v318 v334 v344 v350 v356 v362 v363 X3 X4 init n = carried e (i 1) (1 + n) (single e (i 1) n) := by
  induction n with
  | zero => exact hi
  | succ n ih =>
    have hT := trips1 i
    have hi16 : (i 1).val < 16 := (i 1).isLt
    obtain ⟨j, hj⟩ : ∃ j : Fin 16, j.val = (i 1).val - 1 - n := ⟨⟨(i 1).val - 1 - n, by omega⟩, rfl⟩
    have hs : j.val + (1 + n) = (i 1 : Fin 16).val := by
      rw [hj]
      show (i 1).val - 1 - n + (1 + n) = (i 1).val
      omega
    have o : k0_off2 i ⟨n, hn⟩ = ![256 * j.val, 0] := (off2_eq i ⟨n, hn⟩).trans (by rw [hj])
    have ej : Fin.ofNat 16 ((i 1).val - 1 - n) = j := Fin.ext (by rw [hj]; show ((i 1).val - 1 - n) % 16 = _; omega)
    have kj : arg3.view.readAt (Elt F) (Rect.unit (s := S4096x256) (k0_off2 i ⟨n, hn⟩) S256x256.size (k0_off2_inb i ⟨n, hn⟩)).toLoadRect X3 = rows (arg3.view.read (Elt F) X3) j := View.readAt_unit _ _ _ o _
    have vj : arg4.view.readAt (Elt F) (Rect.unit (s := S4096x256) (k0_off2 i ⟨n, hn⟩) S256x256.size (k0_off2_inb i ⟨n, hn⟩)).toLoadRect X4 = rows (arg4.view.read (Elt F) X4) j := View.readAt_unit _ _ _ o _
    rw [hk] at kj
    rw [hv] at vj
    rw [st_k0_t1_succ Variants.none c none i arg2 harg2 arg3 harg3 arg4 harg4 arg5 harg5 arg1 v6 v39 v69 v99 v129 v133 v134 v270 v302 v318 v334 v344 v350 v356 v362 v363 X3 X4 init ⟨n, hn⟩, ih (by omega)]
    refine (trip1_eq c i arg2 harg2 arg3 harg3 arg4 harg4 arg5 harg5 arg1 v6 v39 v69 v99 v129 v133 v134 v270 v302 v318 v334 v344 v350 v356 v362 v363 X3 X4 ⟨n, hn⟩ _ (kt := e.kt j) (vt := e.vt j) (c0 := fun h => e.held (i 1) h (1 + n)) (c1 := fun h => e.held (i 1) h (1 + n + 1))
      kj vj ?_ ?_).trans ?_
    · funext h; fin_cases h <;> rfl
    · rw [hq]; exact more_eq (by omega) hs
    · rw [hq, hu, someA_eq (by omega) hs]
      show _ = carried e (i 1) (1 + (n + 1)) (addOne _ (tileA e (i 1) (Fin.ofNat 16 ((i 1).val - 1 - n))) (keyStack (e.vt (Fin.ofNat 16 ((i 1).val - 1 - n)))))
      rw [ej]
      rfl

end One

section Four
variable (v6 v39 v69 v99 v129 : FVec F S256x256 .bf16) (v402 : BitVec 32) (X3 : BufTy.Contents (Elt F) arg3.view.ty) (X4 : BufTy.Contents (Elt F) arg4.view.ty)

/-- The tiles four at a time. -/
theorem st3_eq {e : Env F} (hu : v6 = e.above) (hq : ![v39, v69, v99, v129] = e.qh) (hk : rows (arg3.view.read (Elt F) X3) = e.kt) (hv : rows (arg4.view.read (Elt F) X4) = e.vt)
    {init : Carried F} (hi : init = carried e (i 1) (1 + (i 1).val % 4) (four e (i 1) 0)) (n : ℕ) (hn : n ≤ (k0_t3_loop i).trips) :
    st_k0_t3 (F := F) Variants.none c none i arg2 harg2 arg3 harg3 arg4 harg4 arg5 harg5 v6 v39 v69 v99 v129 v402 X3 X4 init n = carried e (i 1) (1 + (i 1).val % 4 + 4 * n) (four e (i 1) n) := by
  induction n with
  | zero => exact hi
  | succ n ih =>
    have hT := trips3 i
    have hi16 : (i 1).val < 16 := (i 1).isLt
    have hj (t : Fin 4) : (fourth (i 1) n t).val = (i 1).val - 1 - (i 1).val % 4 - 4 * n - t.val := by
      show ((i 1).val - 1 - (i 1).val % 4 - 4 * n - t.val) % 16 = _
      omega
    have hs (t : Fin 4) : (fourth (i 1) n t).val + (1 + (i 1).val % 4 + 4 * n + t.val) = (i 1 : Fin 16).val := by
      have := t.isLt
      rw [hj]
      show (i 1).val - 1 - (i 1).val % 4 - 4 * n - t.val + (1 + (i 1).val % 4 + 4 * n + t.val) = (i 1).val
      omega
    have o (t : Fin 4) : k0_off4 i ⟨n, hn⟩ (BitVec.ofNat 32 t.val) = ![256 * (fourth (i 1) n t).val, 0] := (off4_eq i ⟨n, hn⟩ t).trans (by rw [hj])
    have m (t : Fin 4) := more_eq (e := e) (by omega) (hs t)
    have w (t : Fin 4) := someA_eq (e := e) (by omega) (hs t)
    have kj (t : Fin 4) : arg3.view.readAt (Elt F) (Rect.unit (s := S4096x256) (k0_off4 i ⟨n, hn⟩ (BitVec.ofNat 32 t.val)) S256x256.size (k0_off4_inb i ⟨n, hn⟩ t)).toLoadRect X3 = rows (arg3.view.read (Elt F) X3) (fourth (i 1) n t) := View.readAt_unit _ _ _ (o t) _
    have vj (t : Fin 4) : arg4.view.readAt (Elt F) (Rect.unit (s := S4096x256) (k0_off4 i ⟨n, hn⟩ (BitVec.ofNat 32 t.val)) S256x256.size (k0_off4_inb i ⟨n, hn⟩ t)).toLoadRect X4 = rows (arg4.view.read (Elt F) X4) (fourth (i 1) n t) := View.readAt_unit _ _ _ (o t) _
    rw [hk] at kj
    rw [hv] at vj
    rw [st_k0_t3_succ Variants.none c none i arg2 harg2 arg3 harg3 arg4 harg4 arg5 harg5 v6 v39 v69 v99 v129 v402 X3 X4 init ⟨n, hn⟩, ih (by omega)]
    refine (trip3_eq i arg2 harg2 arg3 harg3 arg4 harg4 arg5 harg5 v6 v39 v69 v99 v129 v402 X3 X4 c ⟨n, hn⟩ _ (kt := fun t => e.kt (fourth (i 1) n t)) (vt := fun t => e.vt (fourth (i 1) n t))
      (c := fun t h => e.held (i 1) h (1 + (i 1).val % 4 + 4 * n + t.val))
      (kj 0) (vj 0)
      (kj 1) (vj 1)
      (kj 2) (vj 2)
      (kj 3) (vj 3) ?_ ?_ ?_ ?_ ?_).trans ?_
    · funext h; fin_cases h <;> rfl
    · rw [hq]; exact m 0
    · rw [hq]; exact m 1
    · rw [hq]; exact m 2
    · rw [hq]; exact m 3
    · rw [hq, hu]
      have W : ![someA e.above e.qh (e.kt (fourth (i 1) n 0)) (fun h => e.held (i 1) h (1 + (i 1).val % 4 + 4 * n + (0 : Fin 4).val)),
          someA e.above e.qh (e.kt (fourth (i 1) n 1)) (fun h => e.held (i 1) h (1 + (i 1).val % 4 + 4 * n + (1 : Fin 4).val)),
          someA e.above e.qh (e.kt (fourth (i 1) n 2)) (fun h => e.held (i 1) h (1 + (i 1).val % 4 + 4 * n + (2 : Fin 4).val)),
          someA e.above e.qh (e.kt (fourth (i 1) n 3)) (fun h => e.held (i 1) h (1 + (i 1).val % 4 + 4 * n + (3 : Fin 4).val))]
          = fun t => tileA e (i 1) (fourth (i 1) n t) := by
        rw [w 0, w 1, w 2, w 3]
        funext t; fin_cases t <;> rfl
      have V : ![keyStack (e.vt (fourth (i 1) n 0)), keyStack (e.vt (fourth (i 1) n 1)), keyStack (e.vt (fourth (i 1) n 2)), keyStack (e.vt (fourth (i 1) n 3))]
          = fun t => keyStack (e.vt (fourth (i 1) n t)) := by
        funext t; fin_cases t <;> rfl
      exact congrArg₂ (fun (w : Fin 4 → Fin 4 → FVec F S256x256 .bf16) (v : Fin 4 → FVec F S1024x256 .bf16) => carried e (i 1) (1 + (i 1).val % 4 + 4 * n + 4) (addFour (four e (i 1) n) w v)) W V

end Four

/-- A finished pair of loops leaves the output block. -/
theorem leaves (arg1 : BitVec 32) (v6 v39 v69 v99 v129 : FVec F S256x256 .bf16) (v133 : FVec F S256x1 .f32) (v134 : FVec F S256x256 .f32) (v270 : FVec F S1024x256 .bf16) (v302 v318 v334 : FVec F S256x1 .f32) (v344 v350 v356 v362 : FVec F S256x256 .f32) (v363 : FVec F S256x1 .f32)
    (v388 v402 v424 : BitVec 32) (X3 : BufTy.Contents (Elt F) arg3.view.ty) (X4 : BufTy.Contents (Elt F) arg4.view.ty)
    {e : Env F} (hu : v6 = e.above) (hq : ![v39, v69, v99, v129] = e.qh) (hk : rows (arg3.view.read (Elt F) X3) = e.kt) (hv : rows (arg4.view.read (Elt F) X4) = e.vt)
    {init S1 S2 S3 S4 : Carried F} (hi : init = carried e (i 1) 1 (single e (i 1) 0))
    (h1 : S1 = st_k0_t1 (F := F) Variants.none c none i arg2 harg2 arg3 harg3 arg4 harg4 arg5 harg5 arg1 v6 v39 v69 v99 v129 v133 v134 v270 v302 v318 v334 v344 v350 v356 v362 v363 X3 X4 init (k0_t1_loop i).trips)
    (h2 : S2 = st_k0_t2 (F := F) Variants.none c none i arg2 harg2 arg3 harg3 arg4 harg4 arg5 harg5 arg1 v6 v39 v69 v99 v129 v133 v134 v270 v302 v318 v334 v344 v350 v356 v362 v363 v388 X3 X4 S1 (k0_t2_loop i).trips)
    (h3 : S3 = st_k0_t3 (F := F) Variants.none c none i arg2 harg2 arg3 harg3 arg4 harg4 arg5 harg5 v6 v39 v69 v99 v129 v402 X3 X4 S2 (k0_t3_loop i).trips)
    (h4 : S4 = st_k0_t4 (F := F) Variants.none c none i arg2 harg2 arg3 harg3 arg4 harg4 arg5 harg5 v6 v39 v69 v99 v129 v402 v424 X3 X4 S3 (k0_t4_loop i).trips) :
    k0_pay9 S4.2.2.2.2 = out e (i 1) := by
  rw [trips4 i] at h4
  rw [trips2 i] at h2
  have a1 := st1_eq c i arg2 harg2 arg3 harg3 arg4 harg4 arg5 harg5 arg1 v6 v39 v69 v99 v129 v133 v134 v270 v302 v318 v334 v344 v350 v356 v362 v363 X3 X4 hu hq hk hv hi _ le_rfl
  rw [trips1 i] at a1 h1
  have a2 : S2 = carried e (i 1) (1 + (i 1).val % 4) (four e (i 1) 0) := h2.trans (h1.trans a1)
  have a3 := st3_eq c i arg2 harg2 arg3 harg3 arg4 harg4 arg5 harg5 v6 v39 v69 v99 v129 v402 X3 X4 hu hq hk hv a2 _ le_rfl
  rw [trips3 i] at a3 h3
  have a4 : S4 = carried e (i 1) (1 + (i 1).val % 4 + 4 * ((i 1).val / 4)) (four e (i 1) ((i 1).val / 4)) := h4.trans (h3.trans a3)
  rw [a4]
  rfl

/-- The loops begin with the diagonal tile. -/
theorem start_eq {e : Env F} {I : Fin 16} {K V : FVec F S256x256 .bf16} (hK : K = e.kt I) (hV : V = e.vt I) :
    (startHeld e.qh K 0, startHeld e.qh K 1, startHeld e.qh K 2, startHeld e.qh K 3, addOne zeroTile (fun h => truncf .bf16 (startW e.above e.qh K h) bitsLt_bf16_f32) (keyStack V))
      = carried e I 1 (single e I 0) := by
  have c := Env.start_cols (e := e) hK
  have w : (fun h => truncf .bf16 (startW e.above e.qh K h) bitsLt_bf16_f32) = tileA e I I := funext fun h => congrArg (fun x => truncf .bf16 x bitsLt_bf16_f32) (Env.start_w hK h)
  rw [w, hV]
  exact congrArg (fun p : FVec F S256x1 .f32 × FVec F S256x1 .f32 × FVec F S256x1 .f32 × FVec F S256x1 .f32 => (p.1, p.2.1, p.2.2.1, p.2.2.2, addOne zeroTile (tileA e I I) (keyStack (e.vt I)))) c

end Cert.Proof.Fwd
-- ==== Proof.Fwd.Point.lean ====
module

public import proofs.«01_k».proof.Proof.Fwd.State

/-! What one grid point of the attention's forward kernel leaves, from the blocks it reads. -/

@[expose] public section

set_option maxRecDepth 8192
set_option maxHeartbeats 800000

noncomputable section

namespace Cert.Proof.Fwd

open Cert.FwdIdeal Cert.FwdIdeal.Gen
open Cert.Proof.Attn (Env headOf stack keyStack addOne zeroTile moreHeld someW startHeld startW rows envAt)
open Idealize.ShloMosaic Idealize.ShloMosaic.TcCoe Idealize.ShloMosaic.Tactic

variable {F : FTy → Type} [FloatOps F]

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole)

/-- A block read through its buffer, one head's lanes of it. -/
theorem qh_eq (a : Memref sig .tc .vmem S256x256 .bf16) (ha : a.IsWhole) (x : Vec F S256x256 .bf16) :
    ![headOf (shapeCast S256x256 (a.view.readAt (Elt F) (Rect.unit (s := S256x256) ![0, 0] S256x256.size inb_S256x256_S256x256_0_0).toLoadRect (ha.unread x)) shapeCasts_S256x256_S256x256) 0, headOf (shapeCast S256x256 (a.view.readAt (Elt F) (Rect.unit (s := S256x256) ![0, 0] S256x256.size inb_S256x256_S256x256_0_0).toLoadRect (ha.unread x)) shapeCasts_S256x256_S256x256) 1, headOf (shapeCast S256x256 (a.view.readAt (Elt F) (Rect.unit (s := S256x256) ![0, 0] S256x256.size inb_S256x256_S256x256_0_0).toLoadRect (ha.unread x)) shapeCasts_S256x256_S256x256) 2, headOf (shapeCast S256x256 (a.view.readAt (Elt F) (Rect.unit (s := S256x256) ![0, 0] S256x256.size inb_S256x256_S256x256_0_0).toLoadRect (ha.unread x)) shapeCasts_S256x256_S256x256) 3]
      = headOf (shapeCast S256x256 x shapeCasts_S256x256_S256x256) := by
  have hx : a.view.readAt (Elt F) (Rect.unit (s := S256x256) ![0, 0] S256x256.size inb_S256x256_S256x256_0_0).toLoadRect (ha.unread x) = x := (View.readAt_full _ _ _).trans (ha.read_unread _)
  rw [hx]; funext h; fin_cases h <;> rfl

/-- What a grid point leaves in the output's buffer. -/
theorem out_eq (x0 : Vec F S256x256 .bf16) (x1 x2 : Vec F S4096x256 .bf16) :
    out0_A_3 c i arg2 harg2 arg3 harg3 arg4 harg4 arg5 harg5 x0 x1 x2 = out (envAt x0 x1 x2 x0) (i 1) := by
  unfold out0_A_3
  delta kernelRun0_A
  dsimp only
  refine (View.read_writes_full _ _ _ _ _).trans ?_
  refine (leaves c i arg2 harg2 arg3 harg3 arg4 harg4 arg5 harg5 ?v0 ?v1 ?v2 ?v3 ?v4 ?v5 ?v6 ?v7 ?v8 ?v9 ?v10 ?v11 ?v12 ?v13 ?v14 ?v15 ?v16 ?v17 ?v18 ?v19 (harg3.unread x1) (harg4.unread x2) (S1 := ?S1) (S2 := ?S2) (S3 := ?S3) (S4 := ?S4) (init := ?init)
    (e := ⟨k0_pay404, ![?q0, ?q1, ?q2, ?q3], headOf (shapeCast S256x256 x0 shapeCasts_S256x256_S256x256), rows (arg3.view.read (Elt F) (harg3.unread x1)), rows (arg4.view.read (Elt F) (harg4.unread x2))⟩)
    ?hu ?hq rfl rfl ?hi ?h1 ?h2 ?h3 ?h4).trans (congrArg (fun e => out e (i 1)) ?he)
  case h4 => exact rfl
  case hq => exact rfl
  case hu => exact rfl
  case h3 => exact rfl
  case h2 =>
    delta kernelRun0_A.sl.r_29 kernelRun0_A.sl.r_30 kernelRun0_A.sl.r_31 kernelRun0_A.sl.r_32 kernelRun0_A.sl.r_33
    exact rfl
  case h1 => exact rfl
  case hi =>
    refine Eq.trans ?_ (start_eq (K := arg3.view.readAt (Elt F) (Rect.unit (s := S4096x256) (k0_off1 i) S256x256.size (k0_off1_inb i)).toLoadRect (harg3.unread x1))
      (V := arg4.view.readAt (Elt F) (Rect.unit (s := S4096x256) (k0_off1 i) S256x256.size (k0_off1_inb i)).toLoadRect (harg4.unread x2))
      (View.readAt_unit _ _ _ (off1_eq i) _) (View.readAt_unit _ _ _ (off1_eq i) _))
    rfl
  case he =>
    unfold envAt
    rw [harg3.read_unread, harg4.read_unread]
    congr 1
    exact qh_eq arg2 harg2 x0

end Cert.Proof.Fwd
-- ==== Proof.Fwd.Value.lean ====
module

public import proofs.«01_k».proof.Proof.Fwd.Point
public import proofs.«01_k».proof.Proof.Attn.Value
public import proofs.«01_k».proof.Proof.Gen.FwdIdeal.Value
public import Idealize.ShloMosaic.Lib.Pipeline.Value

/-! The attention's forward kernel on finite inputs: one grid point's output block, and the array after the run. -/

@[expose] public section

set_option maxRecDepth 32768

noncomputable section

namespace Cert.Proof.Fwd

open Cert.FwdIdeal Cert.FwdIdeal.Gen Cert.Reals
open Cert.Proof.Attn.Model
open Cert.Proof.Attn (Env Reads headOf stack keyStack addOne zeroTile rows envAt tl tl_congr tall rows_tall stack_apply sum4 addOne_tl zeroTile_tl headOf_tl sum_head tile_sum tiles_sum wgt_after)
open Idealize.ShloMosaic Idealize.ShloMosaic.TcCoe Idealize.ShloMosaic.Tactic
open Idealize.ShloMosaic.Pipeline (Dat)
open scoped BigOperators

/-! ## Four tiles at a time -/

/-- Sixteen tiles side by side, at a column. -/
theorem beside16_apply (d : Fin 16 → FVec Ideal S256x256 .bf16) (m : Fin 16) (a r : Fin 256) (x : Fin 4096) (hx : x.val = m.val * 256 + r.val) :
    concatenate S256x4096 1 [⟨S256x256, d 0⟩, ⟨S256x256, d 1⟩, ⟨S256x256, d 2⟩, ⟨S256x256, d 3⟩, ⟨S256x256, d 4⟩, ⟨S256x256, d 5⟩, ⟨S256x256, d 6⟩, ⟨S256x256, d 7⟩, ⟨S256x256, d 8⟩, ⟨S256x256, d 9⟩, ⟨S256x256, d 10⟩, ⟨S256x256, d 11⟩, ⟨S256x256, d 12⟩, ⟨S256x256, d 13⟩, ⟨S256x256, d 14⟩, ⟨S256x256, d 15⟩]
      concatenates_S256x256_S256x256_S256x256_S256x256_S256x256_S256x256_S256x256_S256x256_S256x256_S256x256_S256x256_S256x256_S256x256_S256x256_S256x256_S256x256_S256x4096_d1 (ix2 a x)
      = d m (ix2 a r) := by
  have hr := r.isLt
  exact concatenate_ofFn_apply (t := S256x4096) (s₁ := S256x256) 1 d concatenates_S256x256_S256x256_S256x256_S256x256_S256x256_S256x256_S256x256_S256x256_S256x256_S256x256_S256x256_S256x256_S256x256_S256x256_S256x256_S256x256_S256x4096_d1 rfl 256 rfl (ix2 a x) m
    (by show x.val / 256 = m.val; omega) (ix2 a r) (by show r.val = x.val % 256; omega)
    (fun b hb => by
      fin_cases b
      · rfl
      · exact absurd rfl hb)

/-- Four stacks one above the other, at a row. -/
theorem above4_apply (k : Fin 4 → FVec Ideal S1024x256 .bf16) (g : Fin 4) (r : Fin 1024) (l : Fin 256) (x : Fin 4096) (hx : x.val = g.val * 1024 + r.val) :
    concatenate S4096x256 0 [⟨S1024x256, k 0⟩, ⟨S1024x256, k 1⟩, ⟨S1024x256, k 2⟩, ⟨S1024x256, k 3⟩] concatenates_S1024x256_S1024x256_S1024x256_S1024x256_S4096x256_d0 (ix2 x l)
      = k g (ix2 r l) := by
  have hr := r.isLt
  pointwise
  fin_cases g <;> simp only [] at hx
  all_goals
    repeat first | rw [dif_pos (by omega)] | rw [dif_neg (by omega)]
    congr 2
    refine Fin.ext ?_
    dsimp only
    omega

/-- A product over 4096 columns that are four times four tiles. -/
theorem mm4096 (acc : ℕ → ℕ → ℝ) (d k : ℕ → ℕ → ℕ → ℕ → ℝ) (D : FVec Ideal S256x4096 .bf16) (K : FVec Ideal S4096x256 .bf16)
    (hD : ∀ (m : Fin 16) (a r : Fin 256) (x : Fin 4096), x.val = m.val * 256 + r.val → D (ix2 a x) = tl (d (m.val / 4) (m.val % 4)) (ix2 a r))
    (hK : ∀ (g : Fin 4) (r : Fin 1024) (l : Fin 256) (x : Fin 4096), x.val = g.val * 1024 + r.val →
      K (ix2 x l) = stack (F := Ideal) (fun h => tl (k g.val h.val)) (ix2 r l)) :
    addf (F := Ideal) (φ := .f32) (tl acc) (matmul dot_S256x4096_S4096x256_S256x256_1_0_0_1_n_n none D K (constant S256x256 .f32 0x00000000#32))
      = tl fun a l => acc a l + ∑ g ∈ Finset.range 4, ∑ h ∈ Finset.range 4, ∑ r ∈ Finset.range 256, d g h a r * k g h r l := by
  funext i
  obtain ⟨p, q, rfl⟩ : ∃ (p : Fin 256) (q : Fin 256), i = ix2 p q := ⟨i 0, i 1, eq_ix2 i⟩
  pointwise
  have e (y : Fin 4096) : D (ix2 p y) * K (ix2 y q)
      = ((d (y.val / 1024) (y.val % 1024 / 256) p.val (y.val % 256) * k (y.val / 1024) (y.val % 1024 / 256) (y.val % 256) q.val : ℝ) : EReal) := by
    have hy := y.isLt
    have h1 : y.val / 256 / 4 = y.val / 1024 := by omega
    have h2 : y.val / 256 % 4 = y.val % 1024 / 256 := by omega
    have h3 : y.val % 1024 % 256 = y.val % 256 := by omega
    rw [hD ⟨y.val / 256, by omega⟩ p ⟨y.val % 256, by omega⟩ y (by dsimp only; omega),
      hK ⟨y.val / 1024, by omega⟩ ⟨y.val % 1024, by omega⟩ q y (by dsimp only; omega),
      stack_apply _ ⟨y.val % 1024 / 256, by omega⟩ ⟨y.val % 1024 % 256, by omega⟩ q ⟨y.val % 1024, by omega⟩ (by dsimp only; omega)]
    refine (EReal.coe_mul _ _).symm.trans (congrArg Real.toEReal ?_)
    show d (y.val / 256 / 4) (y.val / 256 % 4) p.val (y.val % 256) * k (y.val / 1024) (y.val % 1024 / 256) (y.val % 1024 % 256) q.val = _
    rw [h1, h2, h3]
  rw [Finset.sum_congr rfl fun y _ => e y, sum_coe, ← Fin.sum_mul_add_fin 4 1024,
    Finset.sum_congr rfl fun g _ => sum4 _ (fun h r => d g.val h p.val r * k g.val h r q.val) (fun m r => by
      have := r.isLt
      have := m.isLt
      dsimp only
      rw [show (g.val * 1024 + (m.val * 256 + r.val)) / 1024 = g.val by omega, show (g.val * 1024 + (m.val * 256 + r.val)) % 1024 / 256 = m.val by omega,
        show (g.val * 1024 + (m.val * 256 + r.val)) % 256 = r.val by omega]),
    Fin.sum_univ_eq_sum_range (fun g => ∑ h ∈ Finset.range 4, ∑ r ∈ Finset.range 256, d g h p.val r * k g h r q.val) 4]
  exact (EReal.coe_add _ _).symm

/-- Four tiles' products added to the output. -/
theorem addFour_tl (acc : ℕ → ℕ → ℝ) (d k : ℕ → ℕ → ℕ → ℕ → ℝ) :
    addFour (F := Ideal) (tl acc) (fun g h => tl (d g.val h.val)) (fun g => stack fun h => tl (k g.val h.val))
      = tl fun a l => acc a l + ∑ g ∈ Finset.range 4, ∑ h ∈ Finset.range 4, ∑ r ∈ Finset.range 256, d g h a r * k g h r l :=
  mm4096 acc d k _ _ (beside16_apply fun m => tl (d (m.val / 4) (m.val % 4))) (above4_apply fun g => stack fun h => tl (k g.val h.val))

/-! ## The grid point -/

/-- The attention's output at a row and a lane. -/
def O (q k v : ℕ → ℕ → ℝ) (t l : ℕ) : ℝ := ∑ s ∈ Finset.range 4096, wgt t (score q k (l / 64) t) s * v s l

/-- One key tile's part of it. -/
def part (q k v : ℕ → ℕ → ℝ) (c i j r l : ℕ) : ℝ :=
  ∑ b ∈ Finset.range 256, wgt (256 * i + r) (score q k (4 * c + l / 64) (256 * i + r)) (256 * j + b) * v (256 * j + b) (256 * c + l)

variable {e : Env Ideal} {q k v o : ℕ → ℕ → ℝ} {c : ℕ} {i : Fin 16}

/-- A value tile's heads. -/
theorem valStack (R : Reads e q k v o c i) (j : Fin 16) (Y : ℕ → ℕ → ℕ → ℝ) (hY : Y = fun h b l => if l / 64 = h then v (256 * j.val + b) (256 * c + l) else 0) :
    keyStack (e.vt j) = stack (F := Ideal) fun h => tl (Y h.val) := by
  subst hY
  unfold Attn.keyStack
  rw [Attn.cast_same, R.vt]
  exact congrArg stack (funext fun h => headOf_tl _ h)

/-- The four heads' products of a tile are its part. -/
theorem part_sum (q k v : ℕ → ℕ → ℝ) (c i j : ℕ) {r l : ℕ} (hl : l < 256) :
    ∑ h ∈ Finset.range 4, ∑ b ∈ Finset.range 256, wgt (256 * i + r) (score q k (4 * c + h) (256 * i + r)) (256 * j + b) * (if l / 64 = h then v (256 * j + b) (256 * c + l) else 0)
      = part q k v c i j r l := by
  rw [Finset.sum_comm]
  unfold part
  refine Finset.sum_congr rfl fun b _ => ?_
  have e3 (h : ℕ) : wgt (256 * i + r) (score q k (4 * c + h) (256 * i + r)) (256 * j + b) * (if l / 64 = h then v (256 * j + b) (256 * c + l) else 0)
      = if l / 64 = h then wgt (256 * i + r) (score q k (4 * c + h) (256 * i + r)) (256 * j + b) * v (256 * j + b) (256 * c + l) else 0 := by
    split <;> simp
  exact (Finset.sum_congr rfl fun h _ => e3 h).trans
    (sum_head (fun h => wgt (256 * i + r) (score q k (4 * c + h) (256 * i + r)) (256 * j + b) * v (256 * j + b) (256 * c + l)) hl)

/-- A tile's weights in the products' format. -/
theorem tileA_tl (R : Reads e q k v o c i) {j : Fin 16} (hj : j.val ≤ i.val) (W : ℕ → ℕ → ℕ → ℝ)
    (hW : W = fun h r b => wgt (256 * i.val + r) (score q k (4 * c + h) (256 * i.val + r)) (256 * j.val + b)) :
    tileA e i j = fun h => tl (W h.val) := by
  subst hW
  exact funext fun h => R.w h hj

/-- One more tile. -/
theorem one_tl (R : Reads e q k v o c i) {j : Fin 16} (hj : j.val ≤ i.val) (f : ℕ → ℕ → ℝ) :
    addOne (tl f) (tileA e i j) (keyStack (e.vt j)) = tl fun r l => f r l + part q k v c i.val j.val r l := by
  obtain ⟨W, hW⟩ : ∃ W : ℕ → ℕ → ℕ → ℝ, W = fun h r b => wgt (256 * i.val + r) (score q k (4 * c + h) (256 * i.val + r)) (256 * j.val + b) := ⟨_, rfl⟩
  obtain ⟨Y, hY⟩ : ∃ Y : ℕ → ℕ → ℕ → ℝ, Y = fun h b l => if l / 64 = h then v (256 * j.val + b) (256 * c + l) else 0 := ⟨_, rfl⟩
  rw [tileA_tl R hj W hW, valStack R j Y hY]
  refine (addOne_tl _ W Y).trans (tl_congr fun r l _ hl => ?_)
  subst hW hY
  exact congrArg (f r l + ·) (part_sum q k v c i.val j.val hl)

/-- The diagonal tile and the single tiles before it. -/
theorem single_tl (R : Reads e q k v o c i) (n : ℕ) (hn : n ≤ i.val) :
    single e i n = tl fun r l => ∑ g ∈ Finset.range (n + 1), part q k v c i.val (i.val - g) r l := by
  induction n with
  | zero =>
    refine (congrArg (fun z => addOne z (tileA e i i) (keyStack (e.vt i))) zeroTile_tl).trans ((one_tl R le_rfl _).trans (tl_congr fun r l _ _ => ?_))
    rw [Finset.sum_range_one, zero_add, Nat.sub_zero]
  | succ n ih =>
    have hi := i.isLt
    have e0 : (Fin.ofNat 16 (i.val - 1 - n)).val = i.val - (n + 1) := by show (i.val - 1 - n) % 16 = _; omega
    unfold single
    rw [ih (by omega), one_tl R (by rw [e0]; omega), e0]
    exact tl_congr fun r l _ _ => (Finset.sum_range_succ (fun g => part q k v c i.val (i.val - g) r l) _).symm

/-- The tiles after them, four at a time. -/
theorem four_tl (R : Reads e q k v o c i) (n : ℕ) (hn : i.val % 4 + 4 * n ≤ i.val) :
    four e i n = tl fun r l => ∑ g ∈ Finset.range (i.val % 4 + 4 * n + 1), part q k v c i.val (i.val - g) r l := by
  induction n with
  | zero => exact single_tl R _ (by omega)
  | succ n ih =>
    have hi := i.isLt
    have e0 (t : Fin 4) : (fourth i n t).val = i.val - (i.val % 4 + 4 * n + 1 + t.val) := by
      show (i.val - 1 - i.val % 4 - 4 * n - t.val) % 16 = _; omega
    obtain ⟨W, hW⟩ : ∃ W : ℕ → ℕ → ℕ → ℕ → ℝ, W = fun g h r b => wgt (256 * i.val + r) (score q k (4 * c + h) (256 * i.val + r)) (256 * (i.val - (i.val % 4 + 4 * n + 1 + g)) + b) := ⟨_, rfl⟩
    obtain ⟨Y, hY⟩ : ∃ Y : ℕ → ℕ → ℕ → ℕ → ℝ, Y = fun g h b l => if l / 64 = h then v (256 * (i.val - (i.val % 4 + 4 * n + 1 + g)) + b) (256 * c + l) else 0 := ⟨_, rfl⟩
    have e1 : (fun t : Fin 4 => tileA e i (fourth i n t)) = fun t h => tl (W t.val h.val) :=
      funext fun t => tileA_tl R (by rw [e0]; omega) _ (by rw [hW, e0])
    have e2 : (fun t : Fin 4 => keyStack (e.vt (fourth i n t))) = fun t => stack (F := Ideal) fun h => tl (Y t.val h.val) :=
      funext fun t => valStack R _ _ (by rw [hY, e0])
    unfold four
    rw [ih (by omega), e1, e2]
    refine (addFour_tl _ W Y).trans (tl_congr fun r l _ hl => ?_)
    subst hW hY
    rw [show i.val % 4 + 4 * (n + 1) + 1 = (i.val % 4 + 4 * n + 1) + 4 by ring]
    refine Eq.trans ?_ (Finset.sum_range_add (fun g => part q k v c i.val (i.val - g) r l) (i.val % 4 + 4 * n + 1) 4).symm
    exact congrArg ((∑ g ∈ Finset.range (i.val % 4 + 4 * n + 1), part q k v c i.val (i.val - g) r l) + ·) (Finset.sum_congr rfl fun g _ => part_sum q k v c i.val _ hl)

/-- A grid point's output block. -/
theorem out_tl (R : Reads e q k v o c i) : out e i = tl fun r l => O q k v (256 * i.val + r) (256 * c + l) := by
  have hi := i.isLt
  refine (congrArg (fun x => truncf .bf16 x bitsLt_bf16_f32) (four_tl R (i.val / 4) (by omega))).trans ((Attn.truncf_tl _).trans (tl_congr fun r l hr hl => ?_))
  rw [show i.val % 4 + 4 * (i.val / 4) + 1 = i.val + 1 by omega]
  have rev := Finset.sum_range_reflect (fun j => part q k v c i.val j r l) (i.val + 1)
  have e1 : ∑ g ∈ Finset.range (i.val + 1), part q k v c i.val (i.val - g) r l = ∑ j ∈ Finset.range (i.val + 1), part q k v c i.val j r l :=
    (Finset.sum_congr rfl fun g _ => by rw [show i.val + 1 - 1 - g = i.val - g by omega]).trans rev
  rw [e1]
  unfold part O
  rw [tiles_sum fun x => wgt (256 * i.val + r) (score q k (4 * c + l / 64) (256 * i.val + r)) x * v x (256 * c + l), show (256 * c + l) / 64 = 4 * c + l / 64 by omega]
  have hz : ∑ s ∈ Finset.Ico (256 * (i.val + 1)) 4096, wgt (256 * i.val + r) (score q k (4 * c + l / 64) (256 * i.val + r)) s * v s (256 * c + l) = 0 := by
    refine Finset.sum_eq_zero fun x hx => ?_
    have := Finset.mem_Ico.mp hx
    rw [wgt_after _ (by omega), zero_mul]
  rw [← Finset.sum_range_add_sum_Ico _ (show 256 * (i.val + 1) ≤ 4096 by omega), hz, add_zero]

/-! ## The arrays -/

variable (m : (ℓ : Loc nD τ sig) → Buf (Elt Ideal) ℓ)

/-- Where each window's block lies, and the query tile, at every grid point. -/
theorem idx : ∀ t : Fin cfg0.N, win0_0.index t = ![t.val % 16, t.val / 16] ∧ win0_1.index t = ![0, t.val / 16]
    ∧ win0_2.index t = ![0, t.val / 16 + 4] ∧ win0_3.index t = ![t.val % 16, t.val / 16] ∧ t.val < 64 :=
  (by decide +kernel : ∀ t : Fin grid0.N, _)

/-- The query tile a grid point works on. -/
def tile (t : Fin cfg0.N) : Fin 16 := grid0.coords t 1
theorem tile_val : ∀ t : Fin cfg0.N, (tile t).val = t.val % 16 :=
  (by decide +kernel : ∀ t : Fin grid0.N, (grid0.coords t 1).val = t.val % 16)

variable {Q : S4096x1024.Idx → ℝ} {X : S4096x2048.Idx → ℝ}

/-- The query block a grid point reads: scaled by the host. -/
theorem iblk0 (c : Dev nD) (t : Fin cfg0.N) (h : m ((c : Thread nD τ).loc main_arg0) = cv Q) :
    iblk m c 0 t = tl fun r l => at2 Q (256 * (t.val % 16) + r) (256 * (t.val / 16) + l) * (1 / 8) := by
  funext y
  obtain ⟨p, q, rfl⟩ : ∃ (p : Fin 256) (q : Fin 256), y = ix2 p q := ⟨y 0, y 1, eq_ix2 y⟩
  blk_simp [iblk, idx t]
  entry_read
  pointwise
  have h' : m (c, Proc.tc.devRef main_arg0) = cv Q := h
  rw [h', lit_eighth]
  refine (EReal.coe_mul _ _).symm.trans (congrArg (fun z : ℝ => ((z * (1 / 8) : ℝ) : EReal)) (at2_of Q _ _ _ ?_ ?_))
  · show win0_0.index t 0 * 256 + 1 * p.val = _
    rw [(idx t).1]
    show t.val % 16 * 256 + 1 * p.val = 256 * (t.val % 16) + p.val
    omega
  · show win0_0.index t 1 * 256 + 1 * q.val = _
    rw [(idx t).1]
    show (t.val / 16) * 256 + 1 * q.val = 256 * (t.val / 16) + q.val
    omega

/-- The keys it reads. -/
theorem iblk1 (c : Dev nD) (t : Fin cfg0.N) (h : m ((c : Thread nD τ).loc main_arg1) = cv X) :
    iblk m c 1 t = tall fun s l => keys X s (256 * (t.val / 16) + l) := by
  funext y
  obtain ⟨p, q, rfl⟩ : ∃ (p : Fin 4096) (q : Fin 256), y = ix2 p q := ⟨y 0, y 1, eq_ix2 y⟩
  blk_simp [iblk, idx t]
  entry_read
  pointwise
  have h' : m (c, Proc.tc.devRef main_arg1) = cv X := h
  rw [h']
  refine congrArg Real.toEReal (at2_of X _ _ _ ?_ ?_)
  · show win0_1.index t 0 * 4096 + 1 * p.val = _
    rw [(idx t).2.1]
    show 0 * 4096 + 1 * p.val = p.val
    omega
  · show win0_1.index t 1 * 256 + 1 * q.val = _
    rw [(idx t).2.1]
    show (t.val / 16) * 256 + 1 * q.val = 256 * (t.val / 16) + q.val
    omega

/-- The values it reads. -/
theorem iblk2 (c : Dev nD) (t : Fin cfg0.N) (h : m ((c : Thread nD τ).loc main_arg1) = cv X) :
    iblk m c 2 t = tall fun s l => vals X s (256 * (t.val / 16) + l) := by
  funext y
  obtain ⟨p, q, rfl⟩ : ∃ (p : Fin 4096) (q : Fin 256), y = ix2 p q := ⟨y 0, y 1, eq_ix2 y⟩
  blk_simp [iblk, idx t]
  entry_read
  pointwise
  have h' : m (c, Proc.tc.devRef main_arg1) = cv X := h
  rw [h']
  refine congrArg Real.toEReal (at2_of X _ _ _ ?_ ?_)
  · show win0_2.index t 0 * 4096 + 1 * p.val = _
    rw [(idx t).2.2.1]
    show 0 * 4096 + 1 * p.val = p.val
    omega
  · show win0_2.index t 1 * 256 + 1 * q.val = _
    rw [(idx t).2.2.1]
    show (t.val / 16 + 4) * 256 + 1 * q.val = 1024 + (256 * (t.val / 16) + q.val)
    omega

/-- The two arguments hold finite values. -/
structure Inputs (Q : S4096x1024.Idx → ℝ) (X : S4096x2048.Idx → ℝ) (c : Dev nD) : Prop where
  q : m ((c : Thread nD τ).loc main_arg0) = cv Q
  x : m ((c : Thread nD τ).loc main_arg1) = cv X

/-- What a grid point reads, on finite inputs. -/
theorem reads (c : Dev nD) (t : Fin cfg0.N) (h : Inputs m Q X c) :
    Reads (envAt (iblk m c 0 t) (iblk m c 1 t) (iblk m c 2 t) (iblk m c 0 t)) (at2 Q) (keys X) (vals X) (fun r l => at2 Q r l * (1 / 8)) (t.val / 16) (tile t) := by
  have ht := tile_val t
  rw [iblk0 m c t h.q, iblk1 m c t h.x, iblk2 m c t h.x]
  unfold envAt
  refine ⟨rfl, fun n => ?_, fun n => ?_, fun j => ?_, fun j => ?_⟩
  · dsimp only
    rw [Attn.cast_same, ht]
    exact headOf_tl _ n
  · dsimp only
    rw [Attn.cast_same, ht]
    exact headOf_tl _ n
  · dsimp only
    rw [rows_tall]
  · dsimp only
    rw [rows_tall]

/-- The output after the run. -/
theorem final3 (c : Dev nD) (h : Inputs m Q X c) : (dats m 0 c).arrAt 3 (cfgs 0).N
    = fun i => ((O (at2 Q) (keys X) (vals X) (i 0).val (i 1).val : ℝ) : EReal) := by
  refine (dats m 0 c).arrAt_eq_of_covers 3 _ (by decide +kernel) fun t _ y => ?_
  have ho : outsAt0 m c t = tl fun r l => O (at2 Q) (keys X) (vals X) (256 * (t.val % 16) + r) (256 * (t.val / 16) + l) := by
    unfold outsAt0
    refine (out_eq _ _ _ _ _ _ _ _ _ _ _ _ _).trans ?_
    have R := out_tl (reads m c t h)
    rw [tile_val t] at R
    exact R
  blk_simp
  rw [after0_3, ho]
  obtain ⟨p, q, rfl⟩ : ∃ (p : Fin 256) (q : Fin 256), y = ix2 p q := ⟨y 0, y 1, eq_ix2 y⟩
  have e0 : win0_3.index t 0 * 256 + p.val = 256 * (t.val % 16) + p.val := by
    rw [(idx t).2.2.2.1]
    show t.val % 16 * 256 + p.val = _
    omega
  have e1 : win0_3.index t 1 * 256 + q.val = 256 * (t.val / 16) + q.val := by
    rw [(idx t).2.2.2.1]
    show (t.val / 16) * 256 + q.val = _
    omega
  refine congrArg Real.toEReal (Eq.symm ?_)
  exact congrArg₂ (O (at2 Q) (keys X) (vals X)) e0 e1

end Cert.Proof.Fwd

end
-- ==== Proof.Fwd.RefValue.lean ====
/-
  The attention's reference on finite inputs: its result is the model's output.
-/
module

public import proofs.«01_k».proof.Proof.Gen.FwdRefIdeal.Read
public import proofs.«01_k».proof.Proof.Attn.RefValue
public import proofs.«01_k».proof.Proof.Fwd.Value
public import Idealize.ShloMosaic.Lib.Pointwise
public import Idealize.ShloMosaic.Lib.WordCmp

@[expose] public section

set_option maxRecDepth 16384

noncomputable section

namespace Cert.FwdRefIdeal.Block

open Cert.FwdRefIdeal Cert.FwdRefIdeal.Gen Cert.FwdRefIdeal.Read Cert.Reals Idealize.ShloMosaic Idealize.ShloMosaic.TcCoe
open Cert.Proof.Attn.Model

variable (Q : S4096x1024.Idx → ℝ) (X : S4096x2048.Idx → ℝ)

/-- Up to the weights and the values the reference of the attention's gradient computes the same. -/
theorem v8_same (x : FVec Ideal S4096x2048 .f32) : val_main_v8 (F := Ideal) x = Cert.AttnRefIdeal.Read.val_main_v8 (F := Ideal) x := rfl
theorem v27_same (q : FVec Ideal S4096x1024 .f32) (x : FVec Ideal S4096x2048 .f32) :
    val_main_v27 (F := Ideal) q x = Cert.AttnRefIdeal.Read.val_main_v27_0 (F := Ideal) q x := rfl

/-- The output by head. -/
theorem v28 (i : S16x4096x64.Idx) :
    val_main_v28 (F := Ideal) (cv Q) (cv X) i = ((Cert.Proof.Fwd.O (at2 Q) (keys X) (vals X) (i 1).val (64 * (i 0).val + (i 2).val) : ℝ) : EReal) := by
  have h2 : (i 2).val < 64 := (i 2).isLt
  rw [val_main_v28_apply]
  have e (n : Fin 4096) : val_main_v27 (F := Ideal) (cv Q) (cv X) (lidx_main_v28 i n) * val_main_v8 (F := Ideal) (cv X) (ridx_main_v28 i n)
      = ((wgt (i 1).val (score (at2 Q) (keys X) (i 0).val (i 1).val) n.val * vals X n.val (64 * (i 0).val + (i 2).val) : ℝ) : EReal) := by
    have hl : lidx_main_v28 i n = ix3 (⟨(i 0).val, (i 0).isLt⟩ : Fin 16) (⟨(i 1).val, (i 1).isLt⟩ : Fin 4096) n := by
      funext a; fin_cases a <;> rfl
    rw [hl, v27_same, v8_same, Cert.AttnRefIdeal.Block.v27_0, Cert.AttnRefIdeal.Block.v8]
    exact (EReal.coe_mul _ _).symm
  rw [Finset.sum_congr rfl fun n _ => e n, sum_coe]
  unfold Cert.Proof.Fwd.O
  rw [show (64 * (i 0).val + (i 2).val) / 64 = (i 0).val by omega]
  exact congrArg _ (Fin.sum_univ_eq_sum_range (fun s => wgt (i 1).val (score (at2 Q) (keys X) (i 0).val (i 1).val) s * vals X s (64 * (i 0).val + (i 2).val)) 4096)

/-- The output. -/
theorem v31 (i : S4096x1024.Idx) :
    val_main_v31 (F := Ideal) (cv Q) (cv X) i = ((Cert.Proof.Fwd.O (at2 Q) (keys X) (vals X) (i 0).val (i 1).val : ℝ) : EReal) := by
  have h0 : (i 0).val < 4096 := (i 0).isLt
  have h1 : (i 1).val < 1024 := (i 1).isLt
  rw [val_main_v31_apply, val_main_v30_apply, val_main_v29_apply, v28]
  refine congrArg Real.toEReal (congrArg₂ (Cert.Proof.Fwd.O (at2 Q) (keys X) (vals X)) ?_ ?_)
  · simp [idx_main_v30, idx_main_v29]; omega
  · simp [idx_main_v30, idx_main_v29]; omega

end Cert.FwdRefIdeal.Block

end
-- ==== Proof.Fwd.Claims.lean ====
/-
  The claims about the attention itself: frames, and equality with the reference at the ideal instance on finite inputs.
-/
module

public import proofs.«01_k».proof.Defs
public import proofs.«01_k».proof.Proof.Gen.Fwd.Frame
public import proofs.«01_k».proof.Proof.Gen.Pre_fwd_finite
public import proofs.«01_k».proof.Proof.Gen.FwdRefIdeal.Run
public import proofs.«01_k».proof.Proof.Fwd.Value
public import proofs.«01_k».proof.Proof.Fwd.RefValue
public import Idealize.ShloMosaic.Lib.Quiescent

@[expose] public section

set_option maxRecDepth 16384

noncomputable section

namespace Cert.Proof.FwdClaims

open Idealize.ShloMosaic Idealize.ShloMosaic.TcCoe Idealize.SL.Sem Cert.Reals
open Cert.Proof.Fwd (Inputs)
open Cert.Proof.Attn.Model

/-- The kernel and its idealization run without a fault, keep their arguments, and leave no semaphore raised. -/
theorem frame : Cert.quiescent_Fwd := fun m ρ _ => Cert.Fwd.Gen.frame m ρ
theorem frame_ideal : Cert.quiescent_FwdIdeal := fun m ρ _ => Cert.FwdIdeal.Gen.frame m ρ
theorem frame_ideal_pre : Cert.quiescent_FwdIdeal_pre_fwd_finite := fun m ρ _ => Cert.FwdIdeal.Gen.frame m ρ

/-- So does the reference, at any state. -/
theorem frame_ref : Cert.quiescent_FwdRefIdeal := fun m ρ _ =>
  (θ_run Cert.FwdRefIdeal.defs _ _).mono (fun r h => ⟨fun c => (h c).2, sem_eq_zero_of_no_sems (by decide) r.2⟩)
    (Cert.FwdRefIdeal.Value.run (F := Ideal) m ρ)
theorem frame_ref_pre : Cert.quiescent_FwdRefIdeal_pre_fwd_finite := fun m ρ _ => frame_ref m ρ trivial

/-- The idealization rewrites nothing. -/
theorem preserves : Cert.preserves_Fwd_FwdIdeal := trivial

/-- The precondition, read: every element of the two arguments is finite. -/
theorem finite (q : FVec Ideal Cert.FwdIdeal.S4096x1024 .f32) (x : FVec Ideal Cert.FwdIdeal.S4096x2048 .f32)
    (h : Cert.Pre_fwd_finite.fn (F := Ideal) q x = fun _ => 1#1) :
    (∀ i, q i ≠ ⊥ ∧ q i ≠ ⊤) ∧ ∀ i, x i ≠ ⊥ ∧ x i ≠ ⊤ := by
  have split (p : Fin 4096) (l : Fin 1024) : (q (ix2 p l) ≠ ⊥ ∧ q (ix2 p l) ≠ ⊤)
      ∧ (x (ix2 p ⟨l.val, by omega⟩) ≠ ⊥ ∧ x (ix2 p ⟨l.val, by omega⟩) ≠ ⊤)
      ∧ (x (ix2 p ⟨1024 + l.val, by omega⟩) ≠ ⊥ ∧ x (ix2 p ⟨1024 + l.val, by omega⟩) ≠ ⊤) := by
    have k := congrFun h (ix2 p l)
    unfold Cert.Pre_fwd_finite.fn at k
    pointwise at k
    obtain ⟨k, kv⟩ := and_eq_one k
    obtain ⟨kq, kk⟩ := and_eq_one k
    exact ⟨finite_of_abs_lt _ kq, finite_of_abs_lt _ kk, finite_of_abs_lt _ kv⟩
  refine ⟨fun i => ?_, fun i => ?_⟩
  · rw [eq_ix2 i]; exact (split _ _).1
  · obtain ⟨p, l, rfl⟩ : ∃ (p : Fin 4096) (l : Fin 2048), i = ix2 p l := ⟨i 0, i 1, eq_ix2 i⟩
    by_cases hl : l.val < 1024
    · exact (split p ⟨l.val, hl⟩).2.1
    · have := (split p ⟨l.val - 1024, by omega⟩).2.2
      have e : (⟨1024 + (l.val - 1024), by omega⟩ : Fin 2048) = l := Fin.ext (by show 1024 + (l.val - 1024) = l.val; omega)
      rw [e] at this
      exact this

/-- On finite inputs the kernel's output is the reference's. -/
theorem algebraic : Cert.algebraic_FwdIdeal_FwdRefIdeal_pre_fwd_finite := by
  intro m ρ m' ρ' hpre hagree
  have hin (c : Dev Cert.FwdIdeal.nD) : ∃ Q X, Inputs m Q X c := by
    obtain ⟨hq, hx⟩ := finite _ _ (hpre c)
    exact ⟨_, _, ⟨eq_cv _ hq, eq_cv _ hx⟩⟩
  choose Q X hi using hin
  refine ⟨fun c i => ((Cert.Proof.Fwd.O (at2 (Q c)) (keys (X c)) (vals (X c)) (i 0).val (i 1).val : ℝ) : EReal), ?_, ?_⟩
  · refine (θ_run Cert.FwdIdeal.defs _ _).mono (fun r h c => ?_) (Cert.FwdIdeal.Value.run_blocks (F := Ideal) m ρ)
    exact ⟨(h c).1.trans (Cert.Proof.Fwd.final3 m c (hi c)), (h c).2⟩
  · refine (θ_run Cert.FwdRefIdeal.defs _ _).mono (fun r h c => ?_) (Cert.FwdRefIdeal.Value.run (F := Ideal) m' ρ')
    obtain ⟨h0, rest⟩ := h c
    have e0 := (hagree c).1.trans (hi c).q
    have e1 := (hagree c).2.trans (hi c).x
    refine ⟨h0.trans ((Cert.FwdRefIdeal.Read.val_main_v31_eq _ _).trans ?_), rest⟩
    refine Eq.trans ?_ (funext fun i => Cert.FwdRefIdeal.Block.v31 (Q c) (X c) i)
    exact congr (congrArg _ e0) e1

end Cert.Proof.FwdClaims

end
-- ==== Proof.Wdn.lean ====
/-
  The gradient of the MLP's second matrix: the call's tiles, its whole result, the reference, and the claims.
-/
module

public import proofs.«01_k».proof.Defs
public import proofs.«01_k».proof.Proof.Gen.Wdn.Frame
public import proofs.«01_k».proof.Proof.Gen.WdnIdeal.Value
public import proofs.«01_k».proof.Proof.Gen.WdnRefIdeal.Run
public import proofs.«01_k».proof.Proof.Gen.WdnRefIdeal.Read
public import proofs.«01_k».proof.Proof.Arrays
public import Idealize.ShloMosaic.Lib.Pipeline.ValueKit
public import Idealize.ShloMosaic.Lib.Pointwise
public import Idealize.ShloMosaic.Lib.Quiescent

@[expose] public section

set_option maxRecDepth 16384

noncomputable section

namespace Cert.Proof.WdnClaims

open Cert.WdnIdeal Cert.WdnIdeal.Gen Cert.Reals Cert.Calc Idealize.ShloMosaic Idealize.ShloMosaic.TcCoe Idealize.SL.Sem
open Idealize.ShloMosaic.Pipeline (Dat)
open scoped BigOperators

/-- A product of two matrices along 4096 terms. -/
def prod (A B : ℕ → ℕ → EReal) (r c : ℕ) : EReal := ∑ n : Fin 4096, A r n.val * B n.val c

/-- What grid point `t` of a call adds to its tile of `h` rows: every run of four points takes the 4096 terms in four parts. -/
def part (h : ℕ) (A B : ℕ → ℕ → EReal) (t r c : ℕ) : EReal :=
  ∑ p : Fin 1024, A (t / 4 * h + r) (t % 4 * 1024 + p.val) * B (t % 4 * 1024 + p.val) c

/-- The four parts of a run make the product. -/
theorem part_sum (h : ℕ) (A B : ℕ → ℕ → EReal) (i r c : ℕ) :
    0 + ∑ k ∈ Finset.range 4, part h A B (4 * i + k) r c = prod A B (i * h + r) c := by
  rw [zero_add]
  rw [← Fin.sum_univ_eq_sum_range (fun k => part h A B (4 * i + k) r c) 4]
  unfold prod
  rw [← Fin.sum_mul_add_fin 4 1024 (fun n : Fin 4096 => A (i * h + r) n.val * B n.val c)]
  refine Finset.sum_congr rfl fun k _ => Finset.sum_congr rfl fun p _ => ?_
  have hk := k.isLt
  rw [show (4 * i + k.val) % 4 = k.val by omega, show (4 * i + k.val) / 4 = i by omega]

/-- The square of the relu. -/
def rsq (v : EReal) : EReal := max v 0 * max v 0

variable (U D : ℕ → ℕ → EReal)

/-- The gradient: the squared relu's transpose times the cotangent. -/
def R : ℕ → ℕ → EReal := prod (fun r n => rsq (U n r)) D

/-- What grid point `t` adds to its tile. -/
def term : ℕ → ℕ → ℕ → EReal := part 1024 (fun r n => rsq (U n r)) D

theorem pay1 (f g : ℕ → ℕ → EReal) (p q : Fin 1024) : k0_pay1 (F := Ideal) (e2 f) (e2 g) (ix2 p q)
    = ∑ k : Fin 1024, rsq (f k.val p.val) * g k.val q.val := by
  pointwise [k0_pay1]
  simp only [e2_ix]
  try rfl

theorem pay2 (a : FVec Ideal S1024x1024 .f32) (f g : ℕ → ℕ → EReal) (p q : Fin 1024) :
    k0_pay2 (F := Ideal) a (e2 f) (e2 g) (ix2 p q) = a (ix2 p q) + k0_pay1 (F := Ideal) (e2 f) (e2 g) (ix2 p q) := by
  pointwise [k0_pay2, k0_pay1]

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4, 0] ∧ t.val < 16 :=
  (by decide +kernel : ∀ t : Fin grid0.N, _)

/-- The arguments, as functions of natural coordinates. -/
structure Inputs (c : Dev nD) : Prop where
  a0 : m ((c : Thread nD τ).loc main_arg0) = e2 U
  a1 : m ((c : Thread nD τ).loc main_arg1) = e2 D

variable {U D}

theorem b0 (c : Dev nD) (t : Fin cfg0.N) (h : Inputs U D m c) :
    iblk m c 0 t = e2 fun r q => U (t.val % 4 * 1024 + r) (t.val / 4 * 1024 + q) := by
  funext y
  blk_simp [iblk]
  entry_read
  pointwise
  have h' : m (c, Proc.tc.devRef main_arg0) = e2 U := h.a0
  rw [h']
  refine congrArg₂ U ?_ ?_
  · blk_simp [idx t]
  · blk_simp [idx t]

theorem b1 (c : Dev nD) (t : Fin cfg0.N) (h : Inputs U D m c) : iblk m c 1 t = e2 fun r q => D (t.val % 4 * 1024 + r) q := by
  funext y
  blk_simp [iblk]
  entry_read
  pointwise
  have h' : m (c, Proc.tc.devRef main_arg1) = e2 D := h.a1
  rw [h']
  refine congrArg₂ D ?_ ?_
  · blk_simp [idx t]
  · blk_simp [idx t]

/-- The accumulator after a grid point is the sum of its run's terms. -/
theorem acc (c : Dev nD) (t : Fin cfg0.N) (h : Inputs U D m c) (j : S1024x1024.Idx) : (outsAt0 m c t.val t.isLt).2 j
    = 0 + ∑ k ∈ Finset.range (t.val % 4 + 1), term U D (4 * (t.val / 4) + k) (j 0).val (j 1).val := by
  refine Pipeline.eq_sum_of_reset_step_apply (fun n hn => (outsAt0 m c n hn).2) 4 (fun _ => (0 : EReal))
    (fun t j => term U D t (j 0).val (j 1).val) (fun t h0 j => ?_) (fun t h0 j => ?_) t j
  · obtain ⟨p, q, rfl⟩ : ∃ p q, j = ix2 p q := ⟨j 0, j 1, eq_ix2 j⟩
    simp only [outsAt0_A m c t h0 (by omega) (by omega)]
    frame_out
    rw [b0 m c t h, b1 m c t h, pay1, zero_add]
    rfl
  · obtain ⟨p, q, rfl⟩ : ∃ p q, j = ix2 p q := ⟨j 0, j 1, eq_ix2 j⟩
    by_cases h3 : t.val % 4 = 3
    · simp only [outsAt0_C m c t h0 (by omega) h3]
      frame_out
      rw [b0 m c t h, b1 m c t h, pay2, pay1, (Memref.isWhole_whole cc0_scratch0).read_unread]
      rfl
    · simp only [outsAt0_B m c t h0 (by omega) h3]
      frame_out
      rw [b0 m c t h, b1 m c t h, pay2, pay1, (Memref.isWhole_whole cc0_scratch0).read_unread]
      rfl

/-- The last point of a run hands its accumulator on. -/
theorem last (c : Dev nD) (t : Fin cfg0.N) (h3 : t.val % 4 = 3) (j : S1024x1024.Idx) :
    (outsAt0 m c t.val t.isLt).1 j = (outsAt0 m c t.val t.isLt).2 j := by
  simp only [outsAt0_C m c t (by omega) (by omega) h3]
  frame_out
  rfl

/-- The call's whole result. -/
theorem final2 (c : Dev nD) (h : Inputs U D m c) : (dats m 0 c).arrAt 2 cfg0.N = e2 (R U D) := by
  refine (dats m 0 c).arrAt_eq_of_covers 2 _ (by decide +kernel) fun t hf y => ?_
  have h3 : t.val % 4 = 3 := (flush0_2 t).mp hf
  have ht := (idx t).2.2.2
  blk_simp
  rw [after0_2]
  obtain ⟨p, q, rfl⟩ : ∃ p q, y = ix2 p q := ⟨y 0, y 1, eq_ix2 y⟩
  have e : ((cfg0.win 2).blk t).view.emb (ix2 p q) = ix2 (⟨t.val / 4 * 1024 + p.val, by omega⟩ : Fin 4096) q := by
    blk_ext [idx t]
  rw [e]
  refine (last m c t h3 _).trans ((acc m c t h _).trans ?_)
  rw [h3]
  exact part_sum _ _ _ _ _ _

/-- The reference's result. -/
theorem ref : Cert.WdnRefIdeal.Read.val_main_v6 (F := Ideal) (e2 U) (e2 D) = e2 (R U D) := by
  funext j
  obtain ⟨p, q, rfl⟩ : ∃ p q, j = ix2 p q := ⟨j 0, j 1, eq_ix2 j⟩
  unfold Cert.WdnRefIdeal.Read.val_main_v6 Cert.WdnRefIdeal.Read.val_main_v5 Cert.WdnRefIdeal.Read.val_main_v4
    Cert.WdnRefIdeal.Read.val_main_v2 Cert.WdnRefIdeal.Read.val_main_v1 Cert.WdnRefIdeal.Read.val_main_call0_v0
    Cert.WdnRefIdeal.Read.val_main_call0_cst
  pointwise
  simp only [e2_ix]
  exact Finset.sum_congr rfl fun n _ => mul_comm _ _

/-- The kernel and its idealization run without a fault, keep their arguments, and leave no semaphore raised. -/
theorem frame : Cert.quiescent_Wdn := fun m ρ _ => Cert.Wdn.Gen.frame m ρ
theorem frame_ideal : Cert.quiescent_WdnIdeal := fun m ρ _ => Cert.WdnIdeal.Gen.frame m ρ

/-- So does the reference, at any state. -/
theorem frame_ref : Cert.quiescent_WdnRefIdeal := fun m ρ _ =>
  (θ_run Cert.WdnRefIdeal.defs _ _).mono (fun r h => ⟨fun c => (h c).2, sem_eq_zero_of_no_sems (by decide) r.2⟩)
    (Cert.WdnRefIdeal.Value.run (F := Ideal) m ρ)

theorem preserves : Cert.preserves_Wdn_WdnIdeal := trivial

/-- The kernel's result is the reference's. -/
theorem algebraic : Cert.algebraic_WdnIdeal_WdnRefIdeal := by
  intro m ρ m' ρ' _ hagree
  have hin (c : Dev nD) : ∃ U D, Inputs U D m c := by
    obtain ⟨U, h0⟩ := exists_e2 (a := 4096) (b := 4096) (m (c, Proc.tc.devRef main_arg0))
    obtain ⟨D, h1⟩ := exists_e2 (a := 4096) (b := 1024) (m (c, Proc.tc.devRef main_arg1))
    exact ⟨U, D, ⟨h0, h1⟩⟩
  choose U D hi using hin
  refine ⟨fun c => e2 (R (U c) (D c)), ?_, ?_⟩
  · exact (θ_run defs _ _).mono (fun r h c => ⟨(h c).1.trans (final2 m c (hi c)), (h c).2⟩)
      (Cert.WdnIdeal.Value.run_blocks (F := Ideal) m ρ)
  · refine (θ_run Cert.WdnRefIdeal.defs _ _).mono (fun r h c => ?_) (Cert.WdnRefIdeal.Value.run (F := Ideal) m' ρ')
    refine ⟨(h c).1.trans ((Cert.WdnRefIdeal.Read.val_main_v6_eq _ _).trans ?_), (h c).2⟩
    rw [(hagree c).1.trans (hi c).a0, (hagree c).2.trans (hi c).a1]
    exact ref

end Cert.Proof.WdnClaims

end
-- ==== Proof.Down.lean ====
/-
  The MLP's second product: the squared relu of the rows against the second matrix. The call's tiles, its whole
  result, the reference, and the claims.
-/
module

public import proofs.«01_k».proof.Proof.Wdn
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read

@[expose] public section

set_option maxRecDepth 16384

noncomputable section

namespace Cert.Proof.DownClaims

open Cert.DownIdeal Cert.DownIdeal.Gen Cert.Reals Cert.Calc Idealize.ShloMosaic Idealize.ShloMosaic.TcCoe Idealize.SL.Sem
open Cert.Proof.WdnClaims (rsq prod part part_sum)
open Idealize.ShloMosaic.Pipeline (Dat)
open scoped BigOperators

/-- A tile: the relu is squared as the rows are read. -/
theorem pay1 (f g : ℕ → ℕ → EReal) (p : Fin 2048) (q : Fin 1024) : k0_pay1 (F := Ideal) (e2 f) (e2 g) (ix2 p q)
    = ∑ k : Fin 1024, rsq (f p.val k.val) * g k.val q.val := by
  pointwise [k0_pay1]
  simp only [e2_ix]
  rfl

theorem pay2 (a : FVec Ideal S2048x1024 .f32) (f g : ℕ → ℕ → EReal) (p : Fin 2048) (q : Fin 1024) :
    k0_pay2 (F := Ideal) a (e2 f) (e2 g) (ix2 p q) = a (ix2 p q) + k0_pay1 (F := Ideal) (e2 f) (e2 g) (ix2 p q) := by
  pointwise [k0_pay2, k0_pay1]

theorem idx : ∀ t : Fin cfg0.N, win0_0.index t = ![t.val / 4, t.val % 4] ∧ win0_1.index t = ![t.val % 4, 0]
    ∧ win0_2.index t = ![t.val / 4, 0] ∧ t.val < 8 :=
  (by decide +kernel : ∀ t : Fin grid0.N, _)

variable (m : (ℓ : Loc nD τ sig) → Buf (Elt Ideal) ℓ) (U D : ℕ → ℕ → EReal)

/-- The rows and the matrix, as functions of natural coordinates. -/
structure Inputs (c : Dev nD) : Prop where
  a0 : m (c, Proc.tc.devRef main_arg0) = e2 U
  a1 : m (c, Proc.tc.devRef main_arg1) = e2 D

variable {U D}

/-- The blocks of a grid point: a tile of rows and columns, and the matrix's rows of those columns. -/
theorem blocks (c : Dev nD) (t : Fin cfg0.N) (h : Inputs m U D c) :
    iblk m c 0 t = (e2 fun r q => U (t.val / 4 * 2048 + r) (t.val % 4 * 1024 + q))
      ∧ iblk m c 1 t = e2 fun r q => D (t.val % 4 * 1024 + r) q := by
  refine ⟨funext fun y => ?_, funext fun y => ?_⟩
  · blk_simp [iblk]
    entry_read
    pointwise
    rw [h.a0]
    refine congrArg₂ U ?_ ?_ <;> blk_simp [idx t]
  · blk_simp [iblk]
    entry_read
    pointwise
    rw [h.a1]
    refine congrArg₂ D ?_ ?_ <;> blk_simp [idx t]

/-- The accumulator after a grid point is the sum of its run's parts. -/
theorem acc (c : Dev nD) (t : Fin cfg0.N) (h : Inputs m U D c) (j : S2048x1024.Idx) : (outsAt0 m c t.val t.isLt).2 j
    = 0 + ∑ k ∈ Finset.range (t.val % 4 + 1), part 2048 (fun r n => rsq (U r n)) D (4 * (t.val / 4) + k) (j 0).val (j 1).val := by
  refine Pipeline.eq_sum_of_reset_step_apply (fun n hn => (outsAt0 m c n hn).2) 4 (fun _ => (0 : EReal))
    (fun t j => part 2048 (fun r n => rsq (U r n)) D t (j 0).val (j 1).val) (fun t h0 j => ?_) (fun t h0 j => ?_) t j
  all_goals obtain ⟨p, q, rfl⟩ : ∃ p q, j = ix2 p q := ⟨j 0, j 1, eq_ix2 j⟩
  · simp only [outsAt0_A m c t h0 (by omega) (by omega)]
    frame_out
    rw [(blocks m c t h).1, (blocks m c t h).2, pay1, zero_add]
    rfl
  · by_cases h3 : t.val % 4 = 3
    · simp only [outsAt0_C m c t h0 (by omega) h3]
      frame_out
      rw [(blocks m c t h).1, (blocks m c t h).2, pay2, pay1, (Memref.isWhole_whole cc0_scratch0).read_unread]
      rfl
    · simp only [outsAt0_B m c t h0 (by omega) h3]
      frame_out
      rw [(blocks m c t h).1, (blocks m c t h).2, pay2, pay1, (Memref.isWhole_whole cc0_scratch0).read_unread]
      rfl

/-- The last point of a run hands its accumulator on. -/
theorem last (c : Dev nD) (t : Fin cfg0.N) (h3 : t.val % 4 = 3) (j : S2048x1024.Idx) :
    (outsAt0 m c t.val t.isLt).1 j = (outsAt0 m c t.val t.isLt).2 j := by
  simp only [outsAt0_C m c t (by omega) (by omega) h3]
  frame_out

/-- The call's whole result. -/
theorem final2 (c : Dev nD) (h : Inputs m U D c) : (dats m 0 c).arrAt 2 cfg0.N = e2 (prod (fun r n => rsq (U r n)) D) := by
  refine (dats m 0 c).arrAt_eq_of_covers 2 _ (by decide +kernel) fun t hf y => ?_
  have h3 : t.val % 4 = 3 := (flush0_2 t).mp hf
  have ht := (idx t).2.2.2
  blk_simp
  rw [after0_2]
  obtain ⟨p, q, rfl⟩ : ∃ p q, y = ix2 p q := ⟨y 0, y 1, eq_ix2 y⟩
  have e : ((cfg0.win 2).blk t).view.emb (ix2 p q) = ix2 (⟨t.val / 4 * 2048 + p.val, by omega⟩ : Fin 4096) q := by
    blk_ext [idx t]
  rw [e]
  refine (last m c t h3 _).trans ((acc m c t h _).trans ?_)
  rw [h3]
  exact part_sum _ _ _ _ _ _

/-- The reference's result. -/
theorem ref : Cert.DownRefIdeal.Read.val_main_v2 (F := Ideal) (e2 U) (e2 D) = e2 (prod (fun r n => rsq (U r n)) D) := by
  funext j
  obtain ⟨p, q, rfl⟩ : ∃ p q, j = ix2 p q := ⟨j 0, j 1, eq_ix2 j⟩
  unfold Cert.DownRefIdeal.Read.val_main_v2 Cert.DownRefIdeal.Read.val_main_v1 Cert.DownRefIdeal.Read.val_main_v0
    Cert.DownRefIdeal.Read.val_main_call0_v0 Cert.DownRefIdeal.Read.val_main_call0_cst
  pointwise
  simp only [e2_ix]
  rfl

/-- The kernel and its idealization run without a fault, keep their arguments, and leave no semaphore raised. -/
theorem frame : Cert.quiescent_Down := fun m ρ _ => Cert.Down.Gen.frame m ρ
theorem frame_ideal : Cert.quiescent_DownIdeal := fun m ρ _ => Cert.DownIdeal.Gen.frame m ρ

/-- So does the reference, at any state. -/
theorem frame_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem preserves : Cert.preserves_Down_DownIdeal := trivial

/-- The kernel's result is the reference's. -/
theorem algebraic : Cert.algebraic_DownIdeal_DownRefIdeal := by
  intro m ρ m' ρ' _ hagree
  have hin (c : Dev nD) : ∃ U D, Inputs m U D c := by
    obtain ⟨U, h0⟩ := exists_e2 (a := 4096) (b := 4096) (m (c, Proc.tc.devRef main_arg0))
    obtain ⟨D, h1⟩ := exists_e2 (a := 4096) (b := 1024) (m (c, Proc.tc.devRef main_arg1))
    exact ⟨U, D, ⟨h0, h1⟩⟩
  choose U D hi using hin
  refine ⟨fun c => e2 (prod (fun r n => rsq (U c r n)) (D c)), ?_, ?_⟩
  · exact (θ_run defs _ _).mono (fun r h c => ⟨(h c).1.trans (final2 m c (hi c)), (h c).2⟩)
      (Cert.DownIdeal.Value.run_blocks (F := Ideal) m ρ)
  · refine (θ_run Cert.DownRefIdeal.defs _ _).mono (fun r h c => ?_) (Cert.DownRefIdeal.Value.run (F := Ideal) m' ρ')
    refine ⟨(h c).1.trans ((Cert.DownRefIdeal.Read.val_main_v2_eq _ _).trans ?_), (h c).2⟩
    rw [(hagree c).1.trans (hi c).a0, (hagree c).2.trans (hi c).a1]
    exact ref

end Cert.Proof.DownClaims

end
-- ==== Proof.Mix.lean ====
/-
  The pooling mixer's forward call: its tiles on finite inputs, its whole result, the reference, and the claims.
-/
module

public import proofs.«01_k».proof.Defs
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Pre_mix_finite
public import proofs.«01_k».proof.Proof.Pool.Claims

@[expose] public section

set_option maxRecDepth 16384

noncomputable section

namespace Cert.Proof.MixClaims

open Cert.MixIdeal Cert.MixIdeal.Gen Cert.Reals Cert.Calc Idealize.ShloMosaic Idealize.ShloMosaic.TcCoe Idealize.SL.Sem
open Idealize.ShloMosaic.Pipeline (Dat)
open scoped BigOperators

variable (H : ℕ → ℕ → ℝ) (S : ℕ → ℝ) (W : ℕ → ℕ → ℕ → ℝ)

/-- The result: the pooled states through the groups' maps, scaled. -/
def R (s q : ℕ) : ℝ := PG H W (q / 256) s (q % 256) * S q

/-- A group's pooled tokens through its map, on one tile. -/
def pk (E : ℕ → ℕ → ℝ) (o v t : ℕ) (w : ℕ → ℕ → ℕ → ℝ) (r c : ℕ) : ℝ := ∑ k : Fin 256, yk E o v t r k.val * w 0 k.val c

theorem through {E : ℕ → ℕ → ℝ} {o v t : ℕ} (w : ℕ → ℕ → ℕ → ℝ) {x : FVec Ideal S512x256 .bf16} (hx : x = n2 (yk E o v t)) :
    matmul (F := Ideal) (φ₁ := .bf16) (φ₂ := .bf16) dot_S512x256_S256x256_S512x256_1_0_0_1_n_n none x
      (shapeCast S256x256 (n3 w) shapeCasts_S1x256x256_S256x256) (constant S512x256 .f32 0x00000000#32) = n2 (pk E o v t w) := by
  subst hx
  exact (congrArg (fun z => matmul (F := Ideal) (φ₁ := .bf16) (φ₂ := .bf16) dot_S512x256_S256x256_S512x256_1_0_0_1_n_n none (n2 _) z
    (constant S512x256 .f32 0x00000000#32)) (slab w)).trans (mm (yk E o v t) (w 0))

/-- Four groups side by side, times the scale. -/
theorem joined (f0 f1 f2 f3 : ℕ → ℕ → ℝ) : mulf (F := Ideal) (φ := .f32)
    (concatenate S512x1024 1 [⟨S512x256, n2 f0⟩, ⟨S512x256, n2 f1⟩, ⟨S512x256, n2 f2⟩, ⟨S512x256, n2 f3⟩] concatenates_S512x256_S512x256_S512x256_S512x256_S512x1024_d1)
    (broadcastTo S512x1024 (shapeCast S1x1024 (n2 (fun _ q => S q) : FVec Ideal S1x1024 .f32) shapeCasts_S1x1024_S1x1024) broadcasts_S1x1024_S512x1024)
    = n2 fun r c => (if c < 256 then f0 r c else if c - 256 < 256 then f1 r (c - 256) else if c - 256 - 256 < 256 then f2 r (c - 256 - 256)
      else f3 r (c - 256 - 256 - 256)) * S c := by
  have b := beside (n := 512) f0 f1 f2 f3 concatenates_S512x256_S512x256_S512x256_S512x256_S512x1024_d1
  funext j
  obtain ⟨p, q, rfl⟩ : ∃ p q, j = ix2 p q := ⟨j 0, j 1, eq_ix2 j⟩
  refine (congrArg (fun z : FVec Ideal S512x1024 .f32 => mulf z _ (ix2 p q)) b).trans ?_
  pointwise
  exact (EReal.coe_mul _ _).symm

/-- One tile of the result, from the tile of the tokens with its halo, the four maps and the scale. -/
theorem tile (t : ℕ) (ht : t < 8) (i : grid0.Coords) (hi : (i 0).val = t) (x : Vec Ideal S16x1024 .f32) (y : Vec Ideal S512x1024 .f32) (E : ℕ → ℕ → ℝ)
    (hE : k0_pay2 (F := Ideal) i x y = n2 E) (w0 w1 w2 w3 : ℕ → ℕ → ℕ → ℝ) :
    k0_pay1 (F := Ideal) (k0_pay4 i x y (n3 w0)) (k0_pay8 (k0_pay6 i x y) (k0_pay7 i x y) (n3 w1)) (k0_pay9 (k0_pay2 i x y) (k0_pay3 i) (n3 w2))
      (k0_pay10 (k0_pay2 i x y)) (k0_pay11 (k0_pay2 i x y)) (k0_pay12 (F := Ideal) (k0_pay3 i)) (n3 w3) (n2 fun _ q => S q)
    = n2 fun r c => (if c < 256 then pk E 0 2 t w0 r c else if c - 256 < 256 then pk E 256 4 t w1 r (c - 256) else
      if c - 256 - 256 < 256 then pk E 512 8 t w2 r (c - 256 - 256) else pk E 768 16 t w3 r (c - 256 - 256 - 256)) * S c := by
  have g0 : k0_pay4 (F := Ideal) i x y (n3 w0) = n2 (pk E 0 2 t w0) := through w0 (y0 ht hi hE)
  have g1 : k0_pay8 (F := Ideal) (k0_pay6 i x y) (k0_pay7 i x y) (n3 w1) = n2 (pk E 256 4 t w1) := through w1 (y1 ht hi hE)
  have g2 : k0_pay9 (F := Ideal) (k0_pay2 i x y) (k0_pay3 i) (n3 w2) = n2 (pk E 512 8 t w2) := through w2 (y2 ht hi hE)
  have g3 := through w3 (y3 ht hi hE)
  rw [g0, g1, g2, ← joined, ← g3]
  rfl

/-- The reference's result. -/
theorem ref : Cert.MixRefIdeal.Read.val_main_v74 (F := Ideal) (n2 H) (n3 W) (n1 S) = n2 (R H S W) := by
  have e : Cert.MixRefIdeal.Read.val_main_v71 (F := Ideal) (n2 H) (n3 W) = n2 fun s q => PG H W (q / 256) s (q % 256) :=
    Cert.PoolRefIdeal.Block.v76 H W
  funext j
  obtain ⟨p, q, rfl⟩ : ∃ p q, j = ix2 p q := ⟨j 0, j 1, eq_ix2 j⟩
  pointwise [Cert.MixRefIdeal.Read.val_main_v74, Cert.MixRefIdeal.Read.val_main_v73, Cert.MixRefIdeal.Read.val_main_v72]
  rw [e]
  exact (EReal.coe_mul _ _).symm

variable (m : (ℓ : Loc nD τ sig) → Buf (Elt Ideal) ℓ)

theorem idx : ∀ t : Fin cfg0.N, win0_0.index t = ![t.val, 0] ∧ win0_1.index t = ![32 * t.val - 1, 0] ∧ win0_2.index t = ![0, 0, 0]
    ∧ win0_3.index t = ![0, 0] ∧ win0_4.index t = ![t.val, 0] ∧ t.val < 8 ∧ (grid0.coords t 0).val = t.val :=
  (by decide +kernel : ∀ t : Fin grid0.N, _)

/-- The three arguments on finite values. -/
structure Inputs (c : Dev nD) : Prop where
  h : m ((c : Thread nD τ).loc main_arg0) = n2 H
  w : m ((c : Thread nD τ).loc main_arg1) = n3 W
  s : m ((c : Thread nD τ).loc main_arg2) = n1 S

variable {H S W}

theorem b0 (c : Dev nD) (t : Fin cfg0.N) (h : Inputs H S W m c) : iblk m c 0 t = n2 fun r q => H (t.val * 512 + r) q := by
  funext y
  blk_simp [iblk]
  rw [V_main_arg0, h.h]
  refine congrArg (fun r : ℝ => (r : EReal)) (congrArg₂ H ?_ ?_)
  · blk_simp [idx t]
  · blk_simp [idx t]

theorem b1 (c : Dev nD) (t : Fin cfg0.N) (h : Inputs H S W m c) : iblk m c 1 t = n2 fun r q => H ((32 * t.val - 1) * 16 + r) q := by
  funext y
  blk_simp [iblk]
  rw [V_main_arg0, h.h]
  refine congrArg (fun r : ℝ => (r : EReal)) (congrArg₂ H ?_ ?_)
  · blk_simp [idx t]
  · blk_simp [idx t]

theorem b2 (c : Dev nD) (t : Fin cfg0.N) (h : Inputs H S W m c) : iblk m c 2 t = n3 W := by
  funext y
  blk_simp [iblk, idx t]
  entry_read
  pointwise
  have h' : m (c, Proc.tc.devRef main_arg1) = n3 W := h.w
  rw [h']
  show ((W _ _ _ : ℝ) : EReal) = ((W _ _ _ : ℝ) : EReal)
  congr 2 <;> blk_simp [idx t]

theorem b3 (c : Dev nD) (t : Fin cfg0.N) (h : Inputs H S W m c) : iblk m c 3 t = n2 fun _ q => S q := by
  funext y
  blk_simp [iblk, idx t]
  entry_read
  pointwise
  have h' : m (c, Proc.tc.devRef main_arg2) = n1 S := h.s
  rw [h']
  show ((S _ : ℝ) : EReal) = ((S _ : ℝ) : EReal)
  congr 2
  show (((View.whole main_v1).slice (win0_3.rect t)).emb y 1).val = _
  blk_simp [idx t]

/-- What a grid point leaves in its tile. -/
theorem outs (c : Dev nD) (t : Fin cfg0.N) (h : Inputs H S W m c) :
    out0_4 (F := Ideal) (grid0.coords t) (iblk m c 0 t) (iblk m c 1 t) (iblk m c 2 t) (iblk m c 3 t) = n2 fun r q => R H S W (t.val * 512 + r) q := by
  obtain ⟨-, -, -, -, -, ht, hi⟩ := idx t
  have hE : k0_pay2 (F := Ideal) (grid0.coords t) (iblk m c 1 t) (iblk m c 0 t) = n2 (EV H t.val) := by
    rw [b0 m c t h, b1 m c t h]
    exact pay4 _ t.val hi ht _ _
  unfold_out out0_4
  frame_out
  rw [b2 m c t h, b3 m c t h, ld4, ld4, ld4, ld4]
  refine (tile S t.val ht _ hi _ _ _ hE _ _ _ _).trans (n2_congr fun r hr q hq => ?_)
  refine (congrArg (· * S q) (groups (fun g c => pk (EV H t.val) (256 * g) (width g) t.val (fun u => W (g + u)) r c) q hq)).trans ?_
  unfold pk R PG
  simp only [yk_at, Nat.add_zero]

/-- The call's whole result. -/
theorem final4 (c : Dev nD) (h : Inputs H S W m c) : (dats m 0 c).arrAt 4 cfg0.N = n2 (R H S W) := by
  refine (dats m 0 c).arrAt_eq_of_covers 4 _ (by decide +kernel) fun t _ y => ?_
  blk_simp
  rw [after0_4, outs m c t h]
  obtain ⟨p, q, rfl⟩ : ∃ p q, y = ix2 p q := ⟨y 0, y 1, eq_ix2 y⟩
  obtain ⟨-, -, -, -, -, ht, -⟩ := idx t
  have e : ((cfg0.win 4).blk t).view.emb (ix2 p q) = ix2 (⟨t.val * 512 + p.val, by omega⟩ : Fin 4096) q := by
    blk_ext [idx t]
  rw [e]
  rfl

/-- The kernel and its idealization run without a fault, keep their arguments, and leave no semaphore raised. -/
theorem frame : Cert.quiescent_Mix := fun m ρ _ => Cert.Mix.Gen.frame m ρ
theorem frame_ideal : Cert.quiescent_MixIdeal := fun m ρ _ => Cert.MixIdeal.Gen.frame m ρ
theorem frame_ideal_pre : Cert.quiescent_MixIdeal_pre_mix_finite := fun m ρ _ => Cert.MixIdeal.Gen.frame m ρ

/-- So does the reference, at any state. -/
theorem frame_ref : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)
theorem frame_ref_pre : Cert.quiescent_MixRefIdeal_pre_mix_finite := fun m ρ _ => frame_ref m ρ trivial

theorem preserves : Cert.preserves_Mix_MixIdeal := trivial

/-- On finite inputs the kernel's result is the reference's. -/
theorem algebraic : Cert.algebraic_MixIdeal_MixRefIdeal_pre_mix_finite := by
  intro m ρ m' ρ' hpre hagree
  have hin (c : Dev nD) : ∃ H S W, Inputs H S W m c := by
    obtain ⟨hx, hw, hs, -⟩ := PoolClaims.finite _ _ _ _ (hpre c)
    exact ⟨_, _, _, ⟨eq_n2 _ hx, eq_n3 _ hw, eq_n1 _ hs⟩⟩
  choose H S W hi using hin
  refine ⟨fun c => n2 (R (H c) (S c) (W c)), ?_, ?_⟩
  · exact (θ_run defs _ _).mono (fun r h c => ⟨(h c).1.trans (final4 m c (hi c)), (h c).2⟩)
      (Cert.MixIdeal.Value.run_blocks (F := Ideal) m ρ)
  · refine (θ_run Cert.MixRefIdeal.defs _ _).mono (fun r h c => ?_) (Cert.MixRefIdeal.Value.run (F := Ideal) m' ρ')
    refine ⟨(h c).1.trans ((Cert.MixRefIdeal.Read.val_main_v74_eq _ _).trans ?_), (h c).2⟩
    rw [(hagree c).1.trans (hi c).h, (hagree c).2.1.trans (hi c).w, (hagree c).2.2.trans (hi c).s]
    exact ref _ _ _

end Cert.Proof.MixClaims

end
-- ==== Proof.lean ====
/-
  The proof of `Cert.Claim`: each claim is proved in a module of its own and named here.
-/
module

public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.Loss
public import proofs.«01_k».proof.Proof.Gen.Attn
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Attn.Claims
public import proofs.«01_k».proof.Proof.Gen.Pool
public import proofs.«01_k».proof.Proof.Gen.Pool.Frame
public import proofs.«01_k».proof.Proof.Gen.PoolIdeal
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.Pre_pool_finite
public import proofs.«01_k».proof.Proof.Pool.Claims
public import proofs.«01_k».proof.Proof.Gen.Entry
public import proofs.«01_k».proof.Proof.Gen.Entry.Frame
public import proofs.«01_k».proof.Proof.Gen.EntryIdeal
public import proofs.«01_k».proof.Proof.Gen.EntryIdeal.Frame
public import proofs.«01_k».proof.Proof.Gen.EntryRefIdeal
public import proofs.«01_k».proof.Proof.Gen.EntryRefIdeal.Run
public import proofs.«01_k».proof.Proof.Gen.EntryRefIdeal.Read
public import proofs.«01_k».proof.Proof.Gen.Pre_entry_finite
public import proofs.«01_k».proof.Proof.Norms.EntryClaims
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.MidRefIdeal
public import proofs.«01_k».proof.Proof.Gen.MidRefIdeal.Run
public import proofs.«01_k».proof.Proof.Gen.MidRefIdeal.Read
public import proofs.«01_k».proof.Proof.Gen.Pre_sandwich_finite
public import proofs.«01_k».proof.Proof.Norms.MidClaims
public import proofs.«01_k».proof.Proof.Gen.Below
public import proofs.«01_k».proof.Proof.Gen.Below.Frame
public import proofs.«01_k».proof.Proof.Gen.BelowIdeal
public import proofs.«01_k».proof.Proof.Gen.BelowIdeal.Frame
public import proofs.«01_k».proof.Proof.Gen.BelowRefIdeal
public import proofs.«01_k».proof.Proof.Gen.BelowRefIdeal.Run
public import proofs.«01_k».proof.Proof.Gen.BelowRefIdeal.Read
public import proofs.«01_k».proof.Proof.Norms.BelowClaims
public import proofs.«01_k».proof.Proof.Gen.Fork
public import proofs.«01_k».proof.Proof.Gen.Fork.Frame
public import proofs.«01_k».proof.Proof.Gen.ForkIdeal
public import proofs.«01_k».proof.Proof.Gen.ForkIdeal.Frame
public import proofs.«01_k».proof.Proof.Gen.ForkRefIdeal
public import proofs.«01_k».proof.Proof.Gen.ForkRefIdeal.Run
public import proofs.«01_k».proof.Proof.Gen.ForkRefIdeal.Read
public import proofs.«01_k».proof.Proof.Gen.Pre_fork_finite
public import proofs.«01_k».proof.Proof.Norms.ForkClaims
public import proofs.«01_k».proof.Proof.Gen.Mlp
public import proofs.«01_k».proof.Proof.Gen.Mlp.Frame
public import proofs.«01_k».proof.Proof.Gen.MlpIdeal
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Mlp.Claims
public import proofs.«01_k».proof.Proof.Gen.Fwd
public import proofs.«01_k».proof.Proof.Gen.Fwd.Frame
public import proofs.«01_k».proof.Proof.Gen.FwdIdeal
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Pre_fwd_finite
public import proofs.«01_k».proof.Proof.Fwd.Claims
public import proofs.«01_k».proof.Proof.Gen.Wdn
public import proofs.«01_k».proof.Proof.Gen.Wdn.Frame
public import proofs.«01_k».proof.Proof.Gen.WdnIdeal
public import proofs.«01_k».proof.Proof.Gen.WdnIdeal.Value
public import proofs.«01_k».proof.Proof.Gen.WdnRefIdeal
public import proofs.«01_k».proof.Proof.Gen.WdnRefIdeal.Run
public import proofs.«01_k».proof.Proof.Gen.WdnRefIdeal.Read
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_mix_finite
public import proofs.«01_k».proof.Proof.Wdn
public import proofs.«01_k».proof.Proof.Down
public import proofs.«01_k».proof.Proof.Mix

@[expose] public section

noncomputable section

namespace Cert.Proof

theorem claim : Cert.Claim :=
  ⟨Cert.Loss.Gen.facts, Cert.LossIdeal.Gen.facts, Cert.LossRefIdeal.Gen.facts,
    Cert.Attn.Gen.facts, Cert.AttnIdeal.Gen.facts, Cert.AttnRefIdeal.Gen.facts,
    Cert.Pool.Gen.facts, Cert.PoolIdeal.Gen.facts, Cert.PoolRefIdeal.Gen.facts,
    Cert.Entry.Gen.facts, Cert.EntryIdeal.Gen.facts, Cert.EntryRefIdeal.Gen.facts,
    Cert.Mid.Gen.facts, Cert.MidIdeal.Gen.facts, Cert.MidRefIdeal.Gen.facts,
    Cert.Below.Gen.facts, Cert.BelowIdeal.Gen.facts, Cert.BelowRefIdeal.Gen.facts,
    Cert.Fork.Gen.facts, Cert.ForkIdeal.Gen.facts, Cert.ForkRefIdeal.Gen.facts,
    Cert.Mlp.Gen.facts, Cert.MlpIdeal.Gen.facts, Cert.MlpRefIdeal.Gen.facts,
    Cert.Fwd.Gen.facts, Cert.FwdIdeal.Gen.facts, Cert.FwdRefIdeal.Gen.facts,
    Cert.Wdn.Gen.facts, Cert.WdnIdeal.Gen.facts, Cert.WdnRefIdeal.Gen.facts,
    Cert.Down.Gen.facts, Cert.DownIdeal.Gen.facts, Cert.DownRefIdeal.Gen.facts,
    Cert.Mix.Gen.facts, Cert.MixIdeal.Gen.facts, Cert.MixRefIdeal.Gen.facts,
    Cert.Pre_loss_finite.Gen.facts, Cert.Pre_attn_finite.Gen.facts, Cert.Pre_pool_finite.Gen.facts,
    Cert.Pre_entry_finite.Gen.facts, Cert.Pre_sandwich_finite.Gen.facts, Cert.Pre_fork_finite.Gen.facts, Cert.Pre_fwd_finite.Gen.facts,
    Cert.Pre_mix_finite.Gen.facts,
    LossClaims.frame, LossClaims.frame_ideal, LossClaims.frame_ideal_pre, LossClaims.frame_ref, LossClaims.frame_ref_pre,
    AttnClaims.frame, AttnClaims.frame_ideal, AttnClaims.frame_ideal_pre, AttnClaims.frame_ref, AttnClaims.frame_ref_pre,
    PoolClaims.frame, PoolClaims.frame_ideal, PoolClaims.frame_ideal_pre, PoolClaims.frame_ref, PoolClaims.frame_ref_pre,
    EntryClaims.frame, EntryClaims.frame_ideal, EntryClaims.frame_ideal_pre, EntryClaims.frame_ref, EntryClaims.frame_ref_pre,
    MidClaims.frame, MidClaims.frame_ideal, MidClaims.frame_ideal_pre, MidClaims.frame_ref, MidClaims.frame_ref_pre,
    BelowClaims.frame, BelowClaims.frame_ideal, BelowClaims.frame_ideal_pre, BelowClaims.frame_ref, BelowClaims.frame_ref_pre,
    ForkClaims.frame, ForkClaims.frame_ideal, ForkClaims.frame_ideal_pre, ForkClaims.frame_ref, ForkClaims.frame_ref_pre,
    MlpClaims.frame, MlpClaims.frame_ideal, MlpClaims.frame_ref,
    FwdClaims.frame, FwdClaims.frame_ideal, FwdClaims.frame_ideal_pre, FwdClaims.frame_ref, FwdClaims.frame_ref_pre,
    WdnClaims.frame, WdnClaims.frame_ideal, WdnClaims.frame_ref,
    DownClaims.frame, DownClaims.frame_ideal, DownClaims.frame_ref,
    MixClaims.frame, MixClaims.frame_ideal, MixClaims.frame_ideal_pre, MixClaims.frame_ref, MixClaims.frame_ref_pre,
    LossClaims.preserves, LossClaims.algebraic, AttnClaims.preserves, AttnClaims.algebraic,
    PoolClaims.preserves, PoolClaims.algebraic,
    EntryClaims.preserves, EntryClaims.algebraic,
    MidClaims.preserves, MidClaims.algebraic,
    BelowClaims.preserves, BelowClaims.algebraic,
    ForkClaims.preserves, ForkClaims.algebraic,
    MlpClaims.preserves, MlpClaims.algebraic,
    FwdClaims.preserves, FwdClaims.algebraic,
    WdnClaims.preserves, WdnClaims.algebraic, DownClaims.preserves, DownClaims.algebraic, MixClaims.preserves, MixClaims.algebraic⟩

end Cert.Proof

end
